-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel44 (m : (ℓ : Loc Cert.Kernel44.nD Cert.Kernel44.τ Cert.Kernel44.sig) → Buf (Elt Bits) ℓ) : Prop :=
  True

def Pre_Kernel44Ideal (m : (ℓ : Loc Cert.Kernel44Ideal.nD Cert.Kernel44Ideal.τ Cert.Kernel44Ideal.sig) → Buf (Elt Ideal) ℓ) : Prop :=
  True

def Pre_Reference44Ideal (m : (ℓ : Loc Cert.Reference44Ideal.nD Cert.Reference44Ideal.τ Cert.Reference44Ideal.sig) → Buf (Elt Ideal) ℓ) : Prop :=
  True

def Pre_Kernel45 (m : (ℓ : Loc Cert.Kernel45.nD Cert.Kernel45.τ Cert.Kernel45.sig) → Buf (Elt Bits) ℓ) : Prop :=
  True

def Pre_Kernel45Ideal (m : (ℓ : Loc Cert.Kernel45Ideal.nD Cert.Kernel45Ideal.τ Cert.Kernel45Ideal.sig) → Buf (Elt Ideal) ℓ) : Prop :=
  True

def Pre_Reference45Ideal (m : (ℓ : Loc Cert.Reference45Ideal.nD Cert.Reference45Ideal.τ Cert.Reference45Ideal.sig) → Buf (Elt Ideal) ℓ) : Prop :=
  True

def Pre_Kernel46 (m : (ℓ : Loc Cert.Kernel46.nD Cert.Kernel46.τ Cert.Kernel46.sig) → Buf (Elt Bits) ℓ) : Prop :=
  True

def Pre_Kernel46Ideal (m : (ℓ : Loc Cert.Kernel46Ideal.nD Cert.Kernel46Ideal.τ Cert.Kernel46Ideal.sig) → Buf (Elt Ideal) ℓ) : Prop :=
  True

def Pre_Reference46Ideal (m : (ℓ : Loc Cert.Reference46Ideal.nD Cert.Reference46Ideal.τ Cert.Reference46Ideal.sig) → Buf (Elt Ideal) ℓ) : Prop :=
  True

def Pre_Kernel47 (m : (ℓ : Loc Cert.Kernel47.nD Cert.Kernel47.τ Cert.Kernel47.sig) → Buf (Elt Bits) ℓ) : Prop :=
  True

def Pre_Kernel47Ideal (m : (ℓ : Loc Cert.Kernel47Ideal.nD Cert.Kernel47Ideal.τ Cert.Kernel47Ideal.sig) → Buf (Elt Ideal) ℓ) : Prop :=
  True

def Pre_Reference47Ideal (m : (ℓ : Loc Cert.Reference47Ideal.nD Cert.Reference47Ideal.τ Cert.Reference47Ideal.sig) → Buf (Elt Ideal) ℓ) : Prop :=
  True

def Pre_Kernel49 (m : (ℓ : Loc Cert.Kernel49.nD Cert.Kernel49.τ Cert.Kernel49.sig) → Buf (Elt Bits) ℓ) : Prop :=
  True

def Pre_Kernel49Ideal (m : (ℓ : Loc Cert.Kernel49Ideal.nD Cert.Kernel49Ideal.τ Cert.Kernel49Ideal.sig) → Buf (Elt Ideal) ℓ) : Prop :=
  True

def Pre_Reference49Ideal (m : (ℓ : Loc Cert.Reference49Ideal.nD Cert.Reference49Ideal.τ Cert.Reference49Ideal.sig) → Buf (Elt Ideal) ℓ) : Prop :=
  True

def Pre_Kernel50 (m : (ℓ : Loc Cert.Kernel50.nD Cert.Kernel50.τ Cert.Kernel50.sig) → Buf (Elt Bits) ℓ) : Prop :=
  True

def Pre_Kernel50Ideal (m : (ℓ : Loc Cert.Kernel50Ideal.nD Cert.Kernel50Ideal.τ Cert.Kernel50Ideal.sig) → Buf (Elt Ideal) ℓ) : Prop :=
  True

def Pre_Reference50Ideal (m : (ℓ : Loc Cert.Reference50Ideal.nD Cert.Reference50Ideal.τ Cert.Reference50Ideal.sig) → Buf (Elt Ideal) ℓ) : Prop :=
  True

def Pre_Kernel51 (m : (ℓ : Loc Cert.Kernel51.nD Cert.Kernel51.τ Cert.Kernel51.sig) → Buf (Elt Bits) ℓ) : Prop :=
  True

def Pre_Kernel51Ideal (m : (ℓ : Loc Cert.Kernel51Ideal.nD Cert.Kernel51Ideal.τ Cert.Kernel51Ideal.sig) → Buf (Elt Ideal) ℓ) : Prop :=
  True

def Pre_Reference51Ideal (m : (ℓ : Loc Cert.Reference51Ideal.nD Cert.Reference51Ideal.τ Cert.Reference51Ideal.sig) → Buf (Elt Ideal) ℓ) : Prop :=
  True

def Pre_Kernel53 (m : (ℓ : Loc Cert.Kernel53.nD Cert.Kernel53.τ Cert.Kernel53.sig) → Buf (Elt Bits) ℓ) : Prop :=
  True

def Pre_Kernel53Ideal (m : (ℓ : Loc Cert.Kernel53Ideal.nD Cert.Kernel53Ideal.τ Cert.Kernel53Ideal.sig) → Buf (Elt Ideal) ℓ) : Prop :=
  True

def Pre_Reference53Ideal (m : (ℓ : Loc Cert.Reference53Ideal.nD Cert.Reference53Ideal.τ Cert.Reference53Ideal.sig) → Buf (Elt Ideal) ℓ) : Prop :=
  True

def Pre_Kernel54 (m : (ℓ : Loc Cert.Kernel54.nD Cert.Kernel54.τ Cert.Kernel54.sig) → Buf (Elt Bits) ℓ) : Prop :=
  True

def Pre_Kernel54Ideal (m : (ℓ : Loc Cert.Kernel54Ideal.nD Cert.Kernel54Ideal.τ Cert.Kernel54Ideal.sig) → Buf (Elt Ideal) ℓ) : Prop :=
  True

def Pre_Reference54Ideal (m : (ℓ : Loc Cert.Reference54Ideal.nD Cert.Reference54Ideal.τ Cert.Reference54Ideal.sig) → Buf (Elt Ideal) ℓ) : Prop :=
  True

def Pre_Kernel55 (m : (ℓ : Loc Cert.Kernel55.nD Cert.Kernel55.τ Cert.Kernel55.sig) → Buf (Elt Bits) ℓ) : Prop :=
  True

def Pre_Kernel55Ideal (m : (ℓ : Loc Cert.Kernel55Ideal.nD Cert.Kernel55Ideal.τ Cert.Kernel55Ideal.sig) → Buf (Elt Ideal) ℓ) : Prop :=
  True

def Pre_Reference55Ideal (m : (ℓ : Loc Cert.Reference55Ideal.nD Cert.Reference55Ideal.τ Cert.Reference55Ideal.sig) → Buf (Elt Ideal) ℓ) : Prop :=
  True

def Pre_Kernel48 (m : (ℓ : Loc Cert.Kernel48.nD Cert.Kernel48.τ Cert.Kernel48.sig) → Buf (Elt Bits) ℓ) : Prop :=
  True

def Pre_Kernel48Ideal (m : (ℓ : Loc Cert.Kernel48Ideal.nD Cert.Kernel48Ideal.τ Cert.Kernel48Ideal.sig) → Buf (Elt Ideal) ℓ) : Prop :=
  True

def Pre_Kernel48Ideal_finite_values [hPre_finite_values : Cert.Pre_finite_values.Facts] (m : (ℓ : Loc Cert.Kernel48Ideal.nD Cert.Kernel48Ideal.τ Cert.Kernel48Ideal.sig) → Buf (Elt Ideal) ℓ) : Prop :=
  ∀ c : Dev Cert.Kernel48Ideal.nD,
    (Cert.Pre_finite_values.fn (F := Ideal) (m ((c.tc : Thread Cert.Kernel48Ideal.nD Cert.Kernel48Ideal.τ).loc Cert.Kernel48Ideal.main_arg0)) (m ((c.tc : Thread Cert.Kernel48Ideal.nD Cert.Kernel48Ideal.τ).loc Cert.Kernel48Ideal.main_arg1)) (m ((c.tc : Thread Cert.Kernel48Ideal.nD Cert.Kernel48Ideal.τ).loc Cert.Kernel48Ideal.main_arg2))).1 = (fun _ => 1#1)
    ∧ (Cert.Pre_finite_values.fn (F := Ideal) (m ((c.tc : Thread Cert.Kernel48Ideal.nD Cert.Kernel48Ideal.τ).loc Cert.Kernel48Ideal.main_arg0)) (m ((c.tc : Thread Cert.Kernel48Ideal.nD Cert.Kernel48Ideal.τ).loc Cert.Kernel48Ideal.main_arg1)) (m ((c.tc : Thread Cert.Kernel48Ideal.nD Cert.Kernel48Ideal.τ).loc Cert.Kernel48Ideal.main_arg2))).2.1 = (fun _ => 1#1)
    ∧ (Cert.Pre_finite_values.fn (F := Ideal) (m ((c.tc : Thread Cert.Kernel48Ideal.nD Cert.Kernel48Ideal.τ).loc Cert.Kernel48Ideal.main_arg0)) (m ((c.tc : Thread Cert.Kernel48Ideal.nD Cert.Kernel48Ideal.τ).loc Cert.Kernel48Ideal.main_arg1)) (m ((c.tc : Thread Cert.Kernel48Ideal.nD Cert.Kernel48Ideal.τ).loc Cert.Kernel48Ideal.main_arg2))).2.2 = (fun _ => 1#1)

def Pre_Reference48Ideal (m : (ℓ : Loc Cert.Reference48Ideal.nD Cert.Reference48Ideal.τ Cert.Reference48Ideal.sig) → Buf (Elt Ideal) ℓ) : Prop :=
  True

def Pre_Reference48Ideal_finite_values [hPre_finite_values : Cert.Pre_finite_values.Facts] (m : (ℓ : Loc Cert.Reference48Ideal.nD Cert.Reference48Ideal.τ Cert.Reference48Ideal.sig) → Buf (Elt Ideal) ℓ) : Prop :=
  ∀ c : Dev Cert.Reference48Ideal.nD,
    (Cert.Pre_finite_values.fn (F := Ideal) (m ((c.tc : Thread Cert.Reference48Ideal.nD Cert.Reference48Ideal.τ).loc Cert.Reference48Ideal.main_arg0)) (m ((c.tc : Thread Cert.Reference48Ideal.nD Cert.Reference48Ideal.τ).loc Cert.Reference48Ideal.main_arg1)) (m ((c.tc : Thread Cert.Reference48Ideal.nD Cert.Reference48Ideal.τ).loc Cert.Reference48Ideal.main_arg2))).1 = (fun _ => 1#1)
    ∧ (Cert.Pre_finite_values.fn (F := Ideal) (m ((c.tc : Thread Cert.Reference48Ideal.nD Cert.Reference48Ideal.τ).loc Cert.Reference48Ideal.main_arg0)) (m ((c.tc : Thread Cert.Reference48Ideal.nD Cert.Reference48Ideal.τ).loc Cert.Reference48Ideal.main_arg1)) (m ((c.tc : Thread Cert.Reference48Ideal.nD Cert.Reference48Ideal.τ).loc Cert.Reference48Ideal.main_arg2))).2.1 = (fun _ => 1#1)
    ∧ (Cert.Pre_finite_values.fn (F := Ideal) (m ((c.tc : Thread Cert.Reference48Ideal.nD Cert.Reference48Ideal.τ).loc Cert.Reference48Ideal.main_arg0)) (m ((c.tc : Thread Cert.Reference48Ideal.nD Cert.Reference48Ideal.τ).loc Cert.Reference48Ideal.main_arg1)) (m ((c.tc : Thread Cert.Reference48Ideal.nD Cert.Reference48Ideal.τ).loc Cert.Reference48Ideal.main_arg2))).2.2 = (fun _ => 1#1)

def Pre_Kernel52 (m : (ℓ : Loc Cert.Kernel52.nD Cert.Kernel52.τ Cert.Kernel52.sig) → Buf (Elt Bits) ℓ) : Prop :=
  True

def Pre_Kernel52Ideal (m : (ℓ : Loc Cert.Kernel52Ideal.nD Cert.Kernel52Ideal.τ Cert.Kernel52Ideal.sig) → Buf (Elt Ideal) ℓ) : Prop :=
  True

def Pre_Reference52Ideal (m : (ℓ : Loc Cert.Reference52Ideal.nD Cert.Reference52Ideal.τ Cert.Reference52Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1)
      ∧ r.2.mem ((c.tc : Thread Cert.Kernel43.nD Cert.Kernel43.τ).loc Cert.Kernel43.main_arg2) = m ((c.tc : Thread Cert.Kernel43.nD Cert.Kernel43.τ).loc Cert.Kernel43.main_arg2)
      ∧ r.2.mem ((c.tc : Thread Cert.Kernel43.nD Cert.Kernel43.τ).loc Cert.Kernel43.main_arg3) = m ((c.tc : Thread Cert.Kernel43.nD Cert.Kernel43.τ).loc Cert.Kernel43.main_arg3))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
      ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
      ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1)
      ∧ r.2.mem ((c.tc : Thread Cert.Reference43Ideal.nD Cert.Reference43Ideal.τ).loc Cert.Reference43Ideal.main_arg2) = m ((c.tc : Thread Cert.Reference43Ideal.nD Cert.Reference43Ideal.τ).loc Cert.Reference43Ideal.main_arg2)
      ∧ r.2.mem ((c.tc : Thread Cert.Reference43Ideal.nD Cert.Reference43Ideal.τ).loc Cert.Reference43Ideal.main_arg3) = m ((c.tc : Thread Cert.Reference43Ideal.nD Cert.Reference43Ideal.τ).loc Cert.Reference43Ideal.main_arg3))
      ∧ r.2.sem = fun _ => 0)

def quiescent_Kernel44 [hKernel44 : Cert.Kernel44.Facts] : Prop :=
  ∀ (m : (ℓ : Loc Cert.Kernel44.nD Cert.Kernel44.τ Cert.Kernel44.sig) → Buf (Elt Bits) ℓ) (g : Dev Cert.Kernel44.nD → PrngReg), Pre_Kernel44 m →
    θ_run (Cert.Kernel44.defs (F := Bits)) (onTc (τ := Cert.Kernel44.τ) (Cert.Kernel44.main (F := Bits))) ⟨m, fun _ => 0, g⟩ (fun r => (∀ c : Dev Cert.Kernel44.nD,
      r.2.mem ((c.tc : Thread Cert.Kernel44.nD Cert.Kernel44.τ).loc Cert.Kernel44.main_arg0) = m ((c.tc : Thread Cert.Kernel44.nD Cert.Kernel44.τ).loc Cert.Kernel44.main_arg0)
      ∧ r.2.mem ((c.tc : Thread Cert.Kernel44.nD Cert.Kernel44.τ).loc Cert.Kernel44.main_arg1) = m ((c.tc : Thread Cert.Kernel44.nD Cert.Kernel44.τ).loc Cert.Kernel44.main_arg1))
      ∧ r.2.sem = fun _ => 0)

def quiescent_Kernel44Ideal [hKernel44Ideal : Cert.Kernel44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
      ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1))
      ∧ r.2.sem = fun _ => 0)

def quiescent_Reference44Ideal [hReference44Ideal : Cert.Reference44Ideal.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0)
      ∧ r.2.mem ((c.tc : Thread Cert.Reference44Ideal.nD Cert.Reference44Ideal.τ).loc Cert.Reference44Ideal.main_arg1) = m ((c.tc : Thread Cert.Reference44Ideal.nD Cert.Reference44Ideal.τ).loc Cert.Reference44Ideal.main_arg1))
      ∧ r.2.sem = fun _ => 0)

def quiescent_Kernel45 [hKernel45 : Cert.Kernel45.Facts] : Prop :=
  ∀ (m : (ℓ : Loc Cert.Kernel45.nD Cert.Kernel45.τ Cert.Kernel45.sig) → Buf (Elt Bits) ℓ) (g : Dev Cert.Kernel45.nD → PrngReg), Pre_Kernel45 m →
    θ_run (Cert.Kernel45.defs (F := Bits)) (onTc (τ := Cert.Kernel45.τ) (Cert.Kernel45.main (F := Bits))) ⟨m, fun _ => 0, g⟩ (fun r => (∀ c : Dev Cert.Kernel45.nD,
      r.2.mem ((c.tc : Thread Cert.Kernel45.nD Cert.Kernel45.τ).loc Cert.Kernel45.main_arg0) = m ((c.tc : Thread Cert.Kernel45.nD Cert.Kernel45.τ).loc Cert.Kernel45.main_arg0)
      ∧ r.2.mem ((c.tc : Thread Cert.Kernel45.nD Cert.Kernel45.τ).loc Cert.Kernel45.main_arg1) = m ((c.tc : Thread Cert.Kernel45.nD Cert.Kernel45.τ).loc Cert.Kernel45.main_arg1))
      ∧ r.2.sem = fun _ => 0)

def quiescent_Kernel45Ideal [hKernel45Ideal : Cert.Kernel45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg), Pre_Kernel45Ideal m →
    θ_run (Cert.Kernel45Ideal.defs (F := Ideal)) (onTc (τ := Cert.Kernel45Ideal.τ) (Cert.Kernel45Ideal.main (F := Ideal))) ⟨m, fun _ => 0, g⟩ (fun r => (∀ c : Dev Cert.Kernel45Ideal.nD,
      r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
      ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1))
      ∧ r.2.sem = fun _ => 0)

def quiescent_Reference45Ideal [hReference45Ideal : Cert.Reference45Ideal.Facts] : Prop :=
  ∀ (m : (ℓ : Loc Cert.Reference45Ideal.nD Cert.Reference45Ideal.τ Cert.Reference45Ideal.sig) → Buf (Elt Ideal) ℓ) (g : Dev Cert.Reference45Ideal.nD → PrngReg), Pre_Reference45Ideal m →
    θ_run (Cert.Reference45Ideal.defs (F := Ideal)) (onTc (τ := Cert.Reference45Ideal.τ) (Cert.Reference45Ideal.main (F := Ideal))) ⟨m, fun _ => 0, g⟩ (fun r => (∀ c : Dev Cert.Reference45Ideal.nD,
      r.2.mem ((c.tc : Thread Cert.Reference45Ideal.nD Cert.Reference45Ideal.τ).loc Cert.Reference45Ideal.main_arg0) = m ((c.tc : Thread Cert.Reference45Ideal.nD Cert.Reference45Ideal.τ).loc Cert.Reference45Ideal.main_arg0)
      ∧ r.2.mem ((c.tc : Thread Cert.Reference45Ideal.nD Cert.Reference45Ideal.τ).loc Cert.Reference45Ideal.main_arg1) = m ((c.tc : Thread Cert.Reference45Ideal.nD Cert.Reference45Ideal.τ).loc Cert.Reference45Ideal.main_arg1))
      ∧ r.2.sem = fun _ => 0)

def quiescent_Kernel46 [hKernel46 : Cert.Kernel46.Facts] : Prop :=
  ∀ (m : (ℓ : Loc Cert.Kernel46.nD Cert.Kernel46.τ Cert.Kernel46.sig) → Buf (Elt Bits) ℓ) (g : Dev Cert.Kernel46.nD → PrngReg), Pre_Kernel46 m →
    θ_run (Cert.Kernel46.defs (F := Bits)) (onTc (τ := Cert.Kernel46.τ) (Cert.Kernel46.main (F := Bits))) ⟨m, fun _ => 0, g⟩ (fun r => (∀ c : Dev Cert.Kernel46.nD,
      r.2.mem ((c.tc : Thread Cert.Kernel46.nD Cert.Kernel46.τ).loc Cert.Kernel46.main_arg0) = m ((c.tc : Thread Cert.Kernel46.nD Cert.Kernel46.τ).loc Cert.Kernel46.main_arg0)
      ∧ r.2.mem ((c.tc : Thread Cert.Kernel46.nD Cert.Kernel46.τ).loc Cert.Kernel46.main_arg1) = m ((c.tc : Thread Cert.Kernel46.nD Cert.Kernel46.τ).loc Cert.Kernel46.main_arg1)
      ∧ r.2.mem ((c.tc : Thread Cert.Kernel46.nD Cert.Kernel46.τ).loc Cert.Kernel46.main_arg2) = m ((c.tc : Thread Cert.Kernel46.nD Cert.Kernel46.τ).loc Cert.Kernel46.main_arg2))
      ∧ r.2.sem = fun _ => 0)

def quiescent_Kernel46Ideal [hKernel46Ideal : Cert.Kernel46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg), Pre_Kernel46Ideal m →
    θ_run (Cert.Kernel46Ideal.defs (F := Ideal)) (onTc (τ := Cert.Kernel46Ideal.τ) (Cert.Kernel46Ideal.main (F := Ideal))) ⟨m, fun _ => 0, g⟩ (fun r => (∀ c : Dev Cert.Kernel46Ideal.nD,
      r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
      ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1)
      ∧ r.2.mem ((c.tc : Thread Cert.Kernel46Ideal.nD Cert.Kernel46Ideal.τ).loc Cert.Kernel46Ideal.main_arg2) = m ((c.tc : Thread Cert.Kernel46Ideal.nD Cert.Kernel46Ideal.τ).loc Cert.Kernel46Ideal.main_arg2))
      ∧ r.2.sem = fun _ => 0)

def quiescent_Reference46Ideal [hReference46Ideal : Cert.Reference46Ideal.Facts] : Prop :=
  ∀ (m : (ℓ : Loc Cert.Reference46Ideal.nD Cert.Reference46Ideal.τ Cert.Reference46Ideal.sig) → Buf (Elt Ideal) ℓ) (g : Dev Cert.Reference46Ideal.nD → PrngReg), Pre_Reference46Ideal m →
    θ_run (Cert.Reference46Ideal.defs (F := Ideal)) (onTc (τ := Cert.Reference46Ideal.τ) (Cert.Reference46Ideal.main (F := Ideal))) ⟨m, fun _ => 0, g⟩ (fun r => (∀ c : Dev Cert.Reference46Ideal.nD,
      r.2.mem ((c.tc : Thread Cert.Reference46Ideal.nD Cert.Reference46Ideal.τ).loc Cert.Reference46Ideal.main_arg0) = m ((c.tc : Thread Cert.Reference46Ideal.nD Cert.Reference46Ideal.τ).loc Cert.Reference46Ideal.main_arg0)
      ∧ r.2.mem ((c.tc : Thread Cert.Reference46Ideal.nD Cert.Reference46Ideal.τ).loc Cert.Reference46Ideal.main_arg1) = m ((c.tc : Thread Cert.Reference46Ideal.nD Cert.Reference46Ideal.τ).loc Cert.Reference46Ideal.main_arg1)
      ∧ r.2.mem ((c.tc : Thread Cert.Reference46Ideal.nD Cert.Reference46Ideal.τ).loc Cert.Reference46Ideal.main_arg2) = m ((c.tc : Thread Cert.Reference46Ideal.nD Cert.Reference46Ideal.τ).loc Cert.Reference46Ideal.main_arg2))
      ∧ r.2.sem = fun _ => 0)

def quiescent_Kernel47 [hKernel47 : Cert.Kernel47.Facts] : Prop :=
  ∀ (m : (ℓ : Loc Cert.Kernel47.nD Cert.Kernel47.τ Cert.Kernel47.sig) → Buf (Elt Bits) ℓ) (g : Dev Cert.Kernel47.nD → PrngReg), Pre_Kernel47 m →
    θ_run (Cert.Kernel47.defs (F := Bits)) (onTc (τ := Cert.Kernel47.τ) (Cert.Kernel47.main (F := Bits))) ⟨m, fun _ => 0, g⟩ (fun r => (∀ c : Dev Cert.Kernel47.nD,
      r.2.mem ((c.tc : Thread Cert.Kernel47.nD Cert.Kernel47.τ).loc Cert.Kernel47.main_arg0) = m ((c.tc : Thread Cert.Kernel47.nD Cert.Kernel47.τ).loc Cert.Kernel47.main_arg0)
      ∧ r.2.mem ((c.tc : Thread Cert.Kernel47.nD Cert.Kernel47.τ).loc Cert.Kernel47.main_arg1) = m ((c.tc : Thread Cert.Kernel47.nD Cert.Kernel47.τ).loc Cert.Kernel47.main_arg1))
      ∧ r.2.sem = fun _ => 0)

def quiescent_Kernel47Ideal [hKernel47Ideal : Cert.Kernel47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg), Pre_Kernel47Ideal m →
    θ_run (Cert.Kernel47Ideal.defs (F := Ideal)) (onTc (τ := Cert.Kernel47Ideal.τ) (Cert.Kernel47Ideal.main (F := Ideal))) ⟨m, fun _ => 0, g⟩ (fun r => (∀ c : Dev Cert.Kernel47Ideal.nD,
      r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
      ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1))
      ∧ r.2.sem = fun _ => 0)

def quiescent_Reference47Ideal [hReference47Ideal : Cert.Reference47Ideal.Facts] : Prop :=
  ∀ (m : (ℓ : Loc Cert.Reference47Ideal.nD Cert.Reference47Ideal.τ Cert.Reference47Ideal.sig) → Buf (Elt Ideal) ℓ) (g : Dev Cert.Reference47Ideal.nD → PrngReg), Pre_Reference47Ideal m →
    θ_run (Cert.Reference47Ideal.defs (F := Ideal)) (onTc (τ := Cert.Reference47Ideal.τ) (Cert.Reference47Ideal.main (F := Ideal))) ⟨m, fun _ => 0, g⟩ (fun r => (∀ c : Dev Cert.Reference47Ideal.nD,
      r.2.mem ((c.tc : Thread Cert.Reference47Ideal.nD Cert.Reference47Ideal.τ).loc Cert.Reference47Ideal.main_arg0) = m ((c.tc : Thread Cert.Reference47Ideal.nD Cert.Reference47Ideal.τ).loc Cert.Reference47Ideal.main_arg0)
      ∧ r.2.mem ((c.tc : Thread Cert.Reference47Ideal.nD Cert.Reference47Ideal.τ).loc Cert.Reference47Ideal.main_arg1) = m ((c.tc : Thread Cert.Reference47Ideal.nD Cert.Reference47Ideal.τ).loc Cert.Reference47Ideal.main_arg1))
      ∧ r.2.sem = fun _ => 0)

def quiescent_Kernel49 [hKernel49 : Cert.Kernel49.Facts] : Prop :=
  ∀ (m : (ℓ : Loc Cert.Kernel49.nD Cert.Kernel49.τ Cert.Kernel49.sig) → Buf (Elt Bits) ℓ) (g : Dev Cert.Kernel49.nD → PrngReg), Pre_Kernel49 m →
    θ_run (Cert.Kernel49.defs (F := Bits)) (onTc (τ := Cert.Kernel49.τ) (Cert.Kernel49.main (F := Bits))) ⟨m, fun _ => 0, g⟩ (fun r => (∀ c : Dev Cert.Kernel49.nD,
      r.2.mem ((c.tc : Thread Cert.Kernel49.nD Cert.Kernel49.τ).loc Cert.Kernel49.main_arg0) = m ((c.tc : Thread Cert.Kernel49.nD Cert.Kernel49.τ).loc Cert.Kernel49.main_arg0)
      ∧ r.2.mem ((c.tc : Thread Cert.Kernel49.nD Cert.Kernel49.τ).loc Cert.Kernel49.main_arg1) = m ((c.tc : Thread Cert.Kernel49.nD Cert.Kernel49.τ).loc Cert.Kernel49.main_arg1))
      ∧ r.2.sem = fun _ => 0)

def quiescent_Kernel49Ideal [hKernel49Ideal : Cert.Kernel49Ideal.Facts] : Prop :=
  ∀ (m : (ℓ : Loc Cert.Kernel49Ideal.nD Cert.Kernel49Ideal.τ Cert.Kernel49Ideal.sig) → Buf (Elt Ideal) ℓ) (g : Dev Cert.Kernel49Ideal.nD → PrngReg), Pre_Kernel49Ideal m →
    θ_run (Cert.Kernel49Ideal.defs (F := Ideal)) (onTc (τ := Cert.Kernel49Ideal.τ) (Cert.Kernel49Ideal.main (F := Ideal))) ⟨m, fun _ => 0, g⟩ (fun r => (∀ c : Dev Cert.Kernel49Ideal.nD,
      r.2.mem ((c.tc : Thread Cert.Kernel49Ideal.nD Cert.Kernel49Ideal.τ).loc Cert.Kernel49Ideal.main_arg0) = m ((c.tc : Thread Cert.Kernel49Ideal.nD Cert.Kernel49Ideal.τ).loc Cert.Kernel49Ideal.main_arg0)
      ∧ r.2.mem ((c.tc : Thread Cert.Kernel49Ideal.nD Cert.Kernel49Ideal.τ).loc Cert.Kernel49Ideal.main_arg1) = m ((c.tc : Thread Cert.Kernel49Ideal.nD Cert.Kernel49Ideal.τ).loc Cert.Kernel49Ideal.main_arg1))
      ∧ r.2.sem = fun _ => 0)

def quiescent_Reference49Ideal [hReference49Ideal : Cert.Reference49Ideal.Facts] : Prop :=
  ∀ (m : (ℓ : Loc Cert.Reference49Ideal.nD Cert.Reference49Ideal.τ Cert.Reference49Ideal.sig) → Buf (Elt Ideal) ℓ) (g : Dev Cert.Reference49Ideal.nD → PrngReg), Pre_Reference49Ideal m →
    θ_run (Cert.Reference49Ideal.defs (F := Ideal)) (onTc (τ := Cert.Reference49Ideal.τ) (Cert.Reference49Ideal.main (F := Ideal))) ⟨m, fun _ => 0, g⟩ (fun r => (∀ c : Dev Cert.Reference49Ideal.nD,
      r.2.mem ((c.tc : Thread Cert.Reference49Ideal.nD Cert.Reference49Ideal.τ).loc Cert.Reference49Ideal.main_arg0) = m ((c.tc : Thread Cert.Reference49Ideal.nD Cert.Reference49Ideal.τ).loc Cert.Reference49Ideal.main_arg0)
      ∧ r.2.mem ((c.tc : Thread Cert.Reference49Ideal.nD Cert.Reference49Ideal.τ).loc Cert.Reference49Ideal.main_arg1) = m ((c.tc : Thread Cert.Reference49Ideal.nD Cert.Reference49Ideal.τ).loc Cert.Reference49Ideal.main_arg1))
      ∧ r.2.sem = fun _ => 0)

def quiescent_Kernel50 [hKernel50 : Cert.Kernel50.Facts] : Prop :=
  ∀ (m : (ℓ : Loc Cert.Kernel50.nD Cert.Kernel50.τ Cert.Kernel50.sig) → Buf (Elt Bits) ℓ) (g : Dev Cert.Kernel50.nD → PrngReg), Pre_Kernel50 m →
    θ_run (Cert.Kernel50.defs (F := Bits)) (onTc (τ := Cert.Kernel50.τ) (Cert.Kernel50.main (F := Bits))) ⟨m, fun _ => 0, g⟩ (fun r => (∀ c : Dev Cert.Kernel50.nD,
      r.2.mem ((c.tc : Thread Cert.Kernel50.nD Cert.Kernel50.τ).loc Cert.Kernel50.main_arg0) = m ((c.tc : Thread Cert.Kernel50.nD Cert.Kernel50.τ).loc Cert.Kernel50.main_arg0)
      ∧ r.2.mem ((c.tc : Thread Cert.Kernel50.nD Cert.Kernel50.τ).loc Cert.Kernel50.main_arg1) = m ((c.tc : Thread Cert.Kernel50.nD Cert.Kernel50.τ).loc Cert.Kernel50.main_arg1)
      ∧ r.2.mem ((c.tc : Thread Cert.Kernel50.nD Cert.Kernel50.τ).loc Cert.Kernel50.main_arg2) = m ((c.tc : Thread Cert.Kernel50.nD Cert.Kernel50.τ).loc Cert.Kernel50.main_arg2)
      ∧ r.2.mem ((c.tc : Thread Cert.Kernel50.nD Cert.Kernel50.τ).loc Cert.Kernel50.main_arg3) = m ((c.tc : Thread Cert.Kernel50.nD Cert.Kernel50.τ).loc Cert.Kernel50.main_arg3)
      ∧ r.2.mem ((c.tc : Thread Cert.Kernel50.nD Cert.Kernel50.τ).loc Cert.Kernel50.main_arg4) = m ((c.tc : Thread Cert.Kernel50.nD Cert.Kernel50.τ).loc Cert.Kernel50.main_arg4)
      ∧ r.2.mem ((c.tc : Thread Cert.Kernel50.nD Cert.Kernel50.τ).loc Cert.Kernel50.main_arg5) = m ((c.tc : Thread Cert.Kernel50.nD Cert.Kernel50.τ).loc Cert.Kernel50.main_arg5)
      ∧ r.2.mem ((c.tc : Thread Cert.Kernel50.nD Cert.Kernel50.τ).loc Cert.Kernel50.main_arg6) = m ((c.tc : Thread Cert.Kernel50.nD Cert.Kernel50.τ).loc Cert.Kernel50.main_arg6)
      ∧ r.2.mem ((c.tc : Thread Cert.Kernel50.nD Cert.Kernel50.τ).loc Cert.Kernel50.main_arg7) = m ((c.tc : Thread Cert.Kernel50.nD Cert.Kernel50.τ).loc Cert.Kernel50.main_arg7))
      ∧ r.2.sem = fun _ => 0)

def quiescent_Kernel50Ideal [hKernel50Ideal : Cert.Kernel50Ideal.Facts] : Prop :=
  ∀ (m : (ℓ : Loc Cert.Kernel50Ideal.nD Cert.Kernel50Ideal.τ Cert.Kernel50Ideal.sig) → Buf (Elt Ideal) ℓ) (g : Dev Cert.Kernel50Ideal.nD → PrngReg), Pre_Kernel50Ideal m →
    θ_run (Cert.Kernel50Ideal.defs (F := Ideal)) (onTc (τ := Cert.Kernel50Ideal.τ) (Cert.Kernel50Ideal.main (F := Ideal))) ⟨m, fun _ => 0, g⟩ (fun r => (∀ c : Dev Cert.Kernel50Ideal.nD,
      r.2.mem ((c.tc : Thread Cert.Kernel50Ideal.nD Cert.Kernel50Ideal.τ).loc Cert.Kernel50Ideal.main_arg0) = m ((c.tc : Thread Cert.Kernel50Ideal.nD Cert.Kernel50Ideal.τ).loc Cert.Kernel50Ideal.main_arg0)
      ∧ r.2.mem ((c.tc : Thread Cert.Kernel50Ideal.nD Cert.Kernel50Ideal.τ).loc Cert.Kernel50Ideal.main_arg1) = m ((c.tc : Thread Cert.Kernel50Ideal.nD Cert.Kernel50Ideal.τ).loc Cert.Kernel50Ideal.main_arg1)
      ∧ r.2.mem ((c.tc : Thread Cert.Kernel50Ideal.nD Cert.Kernel50Ideal.τ).loc Cert.Kernel50Ideal.main_arg2) = m ((c.tc : Thread Cert.Kernel50Ideal.nD Cert.Kernel50Ideal.τ).loc Cert.Kernel50Ideal.main_arg2)
      ∧ r.2.mem ((c.tc : Thread Cert.Kernel50Ideal.nD Cert.Kernel50Ideal.τ).loc Cert.Kernel50Ideal.main_arg3) = m ((c.tc : Thread Cert.Kernel50Ideal.nD Cert.Kernel50Ideal.τ).loc Cert.Kernel50Ideal.main_arg3)
      ∧ r.2.mem ((c.tc : Thread Cert.Kernel50Ideal.nD Cert.Kernel50Ideal.τ).loc Cert.Kernel50Ideal.main_arg4) = m ((c.tc : Thread Cert.Kernel50Ideal.nD Cert.Kernel50Ideal.τ).loc Cert.Kernel50Ideal.main_arg4)
      ∧ r.2.mem ((c.tc : Thread Cert.Kernel50Ideal.nD Cert.Kernel50Ideal.τ).loc Cert.Kernel50Ideal.main_arg5) = m ((c.tc : Thread Cert.Kernel50Ideal.nD Cert.Kernel50Ideal.τ).loc Cert.Kernel50Ideal.main_arg5)
      ∧ r.2.mem ((c.tc : Thread Cert.Kernel50Ideal.nD Cert.Kernel50Ideal.τ).loc Cert.Kernel50Ideal.main_arg6) = m ((c.tc : Thread Cert.Kernel50Ideal.nD Cert.Kernel50Ideal.τ).loc Cert.Kernel50Ideal.main_arg6)
      ∧ r.2.mem ((c.tc : Thread Cert.Kernel50Ideal.nD Cert.Kernel50Ideal.τ).loc Cert.Kernel50Ideal.main_arg7) = m ((c.tc : Thread Cert.Kernel50Ideal.nD Cert.Kernel50Ideal.τ).loc Cert.Kernel50Ideal.main_arg7))
      ∧ r.2.sem = fun _ => 0)

def quiescent_Reference50Ideal [hReference50Ideal : Cert.Reference50Ideal.Facts] : Prop :=
  ∀ (m : (ℓ : Loc Cert.Reference50Ideal.nD Cert.Reference50Ideal.τ Cert.Reference50Ideal.sig) → Buf (Elt Ideal) ℓ) (g : Dev Cert.Reference50Ideal.nD → PrngReg), Pre_Reference50Ideal m →
    θ_run (Cert.Reference50Ideal.defs (F := Ideal)) (onTc (τ := Cert.Reference50Ideal.τ) (Cert.Reference50Ideal.main (F := Ideal))) ⟨m, fun _ => 0, g⟩ (fun r => (∀ c : Dev Cert.Reference50Ideal.nD,
      r.2.mem ((c.tc : Thread Cert.Reference50Ideal.nD Cert.Reference50Ideal.τ).loc Cert.Reference50Ideal.main_arg0) = m ((c.tc : Thread Cert.Reference50Ideal.nD Cert.Reference50Ideal.τ).loc Cert.Reference50Ideal.main_arg0)
      ∧ r.2.mem ((c.tc : Thread Cert.Reference50Ideal.nD Cert.Reference50Ideal.τ).loc Cert.Reference50Ideal.main_arg1) = m ((c.tc : Thread Cert.Reference50Ideal.nD Cert.Reference50Ideal.τ).loc Cert.Reference50Ideal.main_arg1)
      ∧ r.2.mem ((c.tc : Thread Cert.Reference50Ideal.nD Cert.Reference50Ideal.τ).loc Cert.Reference50Ideal.main_arg2) = m ((c.tc : Thread Cert.Reference50Ideal.nD Cert.Reference50Ideal.τ).loc Cert.Reference50Ideal.main_arg2)
      ∧ r.2.mem ((c.tc : Thread Cert.Reference50Ideal.nD Cert.Reference50Ideal.τ).loc Cert.Reference50Ideal.main_arg3) = m ((c.tc : Thread Cert.Reference50Ideal.nD Cert.Reference50Ideal.τ).loc Cert.Reference50Ideal.main_arg3)
      ∧ r.2.mem ((c.tc : Thread Cert.Reference50Ideal.nD Cert.Reference50Ideal.τ).loc Cert.Reference50Ideal.main_arg4) = m ((c.tc : Thread Cert.Reference50Ideal.nD Cert.Reference50Ideal.τ).loc Cert.Reference50Ideal.main_arg4)
      ∧ r.2.mem ((c.tc : Thread Cert.Reference50Ideal.nD Cert.Reference50Ideal.τ).loc Cert.Reference50Ideal.main_arg5) = m ((c.tc : Thread Cert.Reference50Ideal.nD Cert.Reference50Ideal.τ).loc Cert.Reference50Ideal.main_arg5)
      ∧ r.2.mem ((c.tc : Thread Cert.Reference50Ideal.nD Cert.Reference50Ideal.τ).loc Cert.Reference50Ideal.main_arg6) = m ((c.tc : Thread Cert.Reference50Ideal.nD Cert.Reference50Ideal.τ).loc Cert.Reference50Ideal.main_arg6)
      ∧ r.2.mem ((c.tc : Thread Cert.Reference50Ideal.nD Cert.Reference50Ideal.τ).loc Cert.Reference50Ideal.main_arg7) = m ((c.tc : Thread Cert.Reference50Ideal.nD Cert.Reference50Ideal.τ).loc Cert.Reference50Ideal.main_arg7))
      ∧ r.2.sem = fun _ => 0)

def quiescent_Kernel51 [hKernel51 : Cert.Kernel51.Facts] : Prop :=
  ∀ (m : (ℓ : Loc Cert.Kernel51.nD Cert.Kernel51.τ Cert.Kernel51.sig) → Buf (Elt Bits) ℓ) (g : Dev Cert.Kernel51.nD → PrngReg), Pre_Kernel51 m →
    θ_run (Cert.Kernel51.defs (F := Bits)) (onTc (τ := Cert.Kernel51.τ) (Cert.Kernel51.main (F := Bits))) ⟨m, fun _ => 0, g⟩ (fun r => (∀ c : Dev Cert.Kernel51.nD,
      r.2.mem ((c.tc : Thread Cert.Kernel51.nD Cert.Kernel51.τ).loc Cert.Kernel51.main_arg0) = m ((c.tc : Thread Cert.Kernel51.nD Cert.Kernel51.τ).loc Cert.Kernel51.main_arg0)
      ∧ r.2.mem ((c.tc : Thread Cert.Kernel51.nD Cert.Kernel51.τ).loc Cert.Kernel51.main_arg1) = m ((c.tc : Thread Cert.Kernel51.nD Cert.Kernel51.τ).loc Cert.Kernel51.main_arg1)
      ∧ r.2.mem ((c.tc : Thread Cert.Kernel51.nD Cert.Kernel51.τ).loc Cert.Kernel51.main_arg2) = m ((c.tc : Thread Cert.Kernel51.nD Cert.Kernel51.τ).loc Cert.Kernel51.main_arg2))
      ∧ r.2.sem = fun _ => 0)

def quiescent_Kernel51Ideal [hKernel51Ideal : Cert.Kernel51Ideal.Facts] : Prop :=
  ∀ (m : (ℓ : Loc Cert.Kernel51Ideal.nD Cert.Kernel51Ideal.τ Cert.Kernel51Ideal.sig) → Buf (Elt Ideal) ℓ) (g : Dev Cert.Kernel51Ideal.nD → PrngReg), Pre_Kernel51Ideal m →
    θ_run (Cert.Kernel51Ideal.defs (F := Ideal)) (onTc (τ := Cert.Kernel51Ideal.τ) (Cert.Kernel51Ideal.main (F := Ideal))) ⟨m, fun _ => 0, g⟩ (fun r => (∀ c : Dev Cert.Kernel51Ideal.nD,
      r.2.mem ((c.tc : Thread Cert.Kernel51Ideal.nD Cert.Kernel51Ideal.τ).loc Cert.Kernel51Ideal.main_arg0) = m ((c.tc : Thread Cert.Kernel51Ideal.nD Cert.Kernel51Ideal.τ).loc Cert.Kernel51Ideal.main_arg0)
      ∧ r.2.mem ((c.tc : Thread Cert.Kernel51Ideal.nD Cert.Kernel51Ideal.τ).loc Cert.Kernel51Ideal.main_arg1) = m ((c.tc : Thread Cert.Kernel51Ideal.nD Cert.Kernel51Ideal.τ).loc Cert.Kernel51Ideal.main_arg1)
      ∧ r.2.mem ((c.tc : Thread Cert.Kernel51Ideal.nD Cert.Kernel51Ideal.τ).loc Cert.Kernel51Ideal.main_arg2) = m ((c.tc : Thread Cert.Kernel51Ideal.nD Cert.Kernel51Ideal.τ).loc Cert.Kernel51Ideal.main_arg2))
      ∧ r.2.sem = fun _ => 0)

def quiescent_Reference51Ideal [hReference51Ideal : Cert.Reference51Ideal.Facts] : Prop :=
  ∀ (m : (ℓ : Loc Cert.Reference51Ideal.nD Cert.Reference51Ideal.τ Cert.Reference51Ideal.sig) → Buf (Elt Ideal) ℓ) (g : Dev Cert.Reference51Ideal.nD → PrngReg), Pre_Reference51Ideal m →
    θ_run (Cert.Reference51Ideal.defs (F := Ideal)) (onTc (τ := Cert.Reference51Ideal.τ) (Cert.Reference51Ideal.main (F := Ideal))) ⟨m, fun _ => 0, g⟩ (fun r => (∀ c : Dev Cert.Reference51Ideal.nD,
      r.2.mem ((c.tc : Thread Cert.Reference51Ideal.nD Cert.Reference51Ideal.τ).loc Cert.Reference51Ideal.main_arg0) = m ((c.tc : Thread Cert.Reference51Ideal.nD Cert.Reference51Ideal.τ).loc Cert.Reference51Ideal.main_arg0)
      ∧ r.2.mem ((c.tc : Thread Cert.Reference51Ideal.nD Cert.Reference51Ideal.τ).loc Cert.Reference51Ideal.main_arg1) = m ((c.tc : Thread Cert.Reference51Ideal.nD Cert.Reference51Ideal.τ).loc Cert.Reference51Ideal.main_arg1)
      ∧ r.2.mem ((c.tc : Thread Cert.Reference51Ideal.nD Cert.Reference51Ideal.τ).loc Cert.Reference51Ideal.main_arg2) = m ((c.tc : Thread Cert.Reference51Ideal.nD Cert.Reference51Ideal.τ).loc Cert.Reference51Ideal.main_arg2))
      ∧ r.2.sem = fun _ => 0)

def quiescent_Kernel53 [hKernel53 : Cert.Kernel53.Facts] : Prop :=
  ∀ (m : (ℓ : Loc Cert.Kernel53.nD Cert.Kernel53.τ Cert.Kernel53.sig) → Buf (Elt Bits) ℓ) (g : Dev Cert.Kernel53.nD → PrngReg), Pre_Kernel53 m →
    θ_run (Cert.Kernel53.defs (F := Bits)) (onTc (τ := Cert.Kernel53.τ) (Cert.Kernel53.main (F := Bits))) ⟨m, fun _ => 0, g⟩ (fun r => (∀ c : Dev Cert.Kernel53.nD,
      r.2.mem ((c.tc : Thread Cert.Kernel53.nD Cert.Kernel53.τ).loc Cert.Kernel53.main_arg0) = m ((c.tc : Thread Cert.Kernel53.nD Cert.Kernel53.τ).loc Cert.Kernel53.main_arg0)
      ∧ r.2.mem ((c.tc : Thread Cert.Kernel53.nD Cert.Kernel53.τ).loc Cert.Kernel53.main_arg1) = m ((c.tc : Thread Cert.Kernel53.nD Cert.Kernel53.τ).loc Cert.Kernel53.main_arg1)
      ∧ r.2.mem ((c.tc : Thread Cert.Kernel53.nD Cert.Kernel53.τ).loc Cert.Kernel53.main_arg2) = m ((c.tc : Thread Cert.Kernel53.nD Cert.Kernel53.τ).loc Cert.Kernel53.main_arg2))
      ∧ r.2.sem = fun _ => 0)

def quiescent_Kernel53Ideal [hKernel53Ideal : Cert.Kernel53Ideal.Facts] : Prop :=
  ∀ (m : (ℓ : Loc Cert.Kernel53Ideal.nD Cert.Kernel53Ideal.τ Cert.Kernel53Ideal.sig) → Buf (Elt Ideal) ℓ) (g : Dev Cert.Kernel53Ideal.nD → PrngReg), Pre_Kernel53Ideal m →
    θ_run (Cert.Kernel53Ideal.defs (F := Ideal)) (onTc (τ := Cert.Kernel53Ideal.τ) (Cert.Kernel53Ideal.main (F := Ideal))) ⟨m, fun _ => 0, g⟩ (fun r => (∀ c : Dev Cert.Kernel53Ideal.nD,
      r.2.mem ((c.tc : Thread Cert.Kernel53Ideal.nD Cert.Kernel53Ideal.τ).loc Cert.Kernel53Ideal.main_arg0) = m ((c.tc : Thread Cert.Kernel53Ideal.nD Cert.Kernel53Ideal.τ).loc Cert.Kernel53Ideal.main_arg0)
      ∧ r.2.mem ((c.tc : Thread Cert.Kernel53Ideal.nD Cert.Kernel53Ideal.τ).loc Cert.Kernel53Ideal.main_arg1) = m ((c.tc : Thread Cert.Kernel53Ideal.nD Cert.Kernel53Ideal.τ).loc Cert.Kernel53Ideal.main_arg1)
      ∧ r.2.mem ((c.tc : Thread Cert.Kernel53Ideal.nD Cert.Kernel53Ideal.τ).loc Cert.Kernel53Ideal.main_arg2) = m ((c.tc : Thread Cert.Kernel53Ideal.nD Cert.Kernel53Ideal.τ).loc Cert.Kernel53Ideal.main_arg2))
      ∧ r.2.sem = fun _ => 0)

def quiescent_Reference53Ideal [hReference53Ideal : Cert.Reference53Ideal.Facts] : Prop :=
  ∀ (m : (ℓ : Loc Cert.Reference53Ideal.nD Cert.Reference53Ideal.τ Cert.Reference53Ideal.sig) → Buf (Elt Ideal) ℓ) (g : Dev Cert.Reference53Ideal.nD → PrngReg), Pre_Reference53Ideal m →
    θ_run (Cert.Reference53Ideal.defs (F := Ideal)) (onTc (τ := Cert.Reference53Ideal.τ) (Cert.Reference53Ideal.main (F := Ideal))) ⟨m, fun _ => 0, g⟩ (fun r => (∀ c : Dev Cert.Reference53Ideal.nD,
      r.2.mem ((c.tc : Thread Cert.Reference53Ideal.nD Cert.Reference53Ideal.τ).loc Cert.Reference53Ideal.main_arg0) = m ((c.tc : Thread Cert.Reference53Ideal.nD Cert.Reference53Ideal.τ).loc Cert.Reference53Ideal.main_arg0)
      ∧ r.2.mem ((c.tc : Thread Cert.Reference53Ideal.nD Cert.Reference53Ideal.τ).loc Cert.Reference53Ideal.main_arg1) = m ((c.tc : Thread Cert.Reference53Ideal.nD Cert.Reference53Ideal.τ).loc Cert.Reference53Ideal.main_arg1)
      ∧ r.2.mem ((c.tc : Thread Cert.Reference53Ideal.nD Cert.Reference53Ideal.τ).loc Cert.Reference53Ideal.main_arg2) = m ((c.tc : Thread Cert.Reference53Ideal.nD Cert.Reference53Ideal.τ).loc Cert.Reference53Ideal.main_arg2))
      ∧ r.2.sem = fun _ => 0)

def quiescent_Kernel54 [hKernel54 : Cert.Kernel54.Facts] : Prop :=
  ∀ (m : (ℓ : Loc Cert.Kernel54.nD Cert.Kernel54.τ Cert.Kernel54.sig) → Buf (Elt Bits) ℓ) (g : Dev Cert.Kernel54.nD → PrngReg), Pre_Kernel54 m →
    θ_run (Cert.Kernel54.defs (F := Bits)) (onTc (τ := Cert.Kernel54.τ) (Cert.Kernel54.main (F := Bits))) ⟨m, fun _ => 0, g⟩ (fun r => (∀ c : Dev Cert.Kernel54.nD,
      r.2.mem ((c.tc : Thread Cert.Kernel54.nD Cert.Kernel54.τ).loc Cert.Kernel54.main_arg0) = m ((c.tc : Thread Cert.Kernel54.nD Cert.Kernel54.τ).loc Cert.Kernel54.main_arg0)
      ∧ r.2.mem ((c.tc : Thread Cert.Kernel54.nD Cert.Kernel54.τ).loc Cert.Kernel54.main_arg1) = m ((c.tc : Thread Cert.Kernel54.nD Cert.Kernel54.τ).loc Cert.Kernel54.main_arg1)
      ∧ r.2.mem ((c.tc : Thread Cert.Kernel54.nD Cert.Kernel54.τ).loc Cert.Kernel54.main_arg2) = m ((c.tc : Thread Cert.Kernel54.nD Cert.Kernel54.τ).loc Cert.Kernel54.main_arg2)
      ∧ r.2.mem ((c.tc : Thread Cert.Kernel54.nD Cert.Kernel54.τ).loc Cert.Kernel54.main_arg3) = m ((c.tc : Thread Cert.Kernel54.nD Cert.Kernel54.τ).loc Cert.Kernel54.main_arg3))
      ∧ r.2.sem = fun _ => 0)

def quiescent_Kernel54Ideal [hKernel54Ideal : Cert.Kernel54Ideal.Facts] : Prop :=
  ∀ (m : (ℓ : Loc Cert.Kernel54Ideal.nD Cert.Kernel54Ideal.τ Cert.Kernel54Ideal.sig) → Buf (Elt Ideal) ℓ) (g : Dev Cert.Kernel54Ideal.nD → PrngReg), Pre_Kernel54Ideal m →
    θ_run (Cert.Kernel54Ideal.defs (F := Ideal)) (onTc (τ := Cert.Kernel54Ideal.τ) (Cert.Kernel54Ideal.main (F := Ideal))) ⟨m, fun _ => 0, g⟩ (fun r => (∀ c : Dev Cert.Kernel54Ideal.nD,
      r.2.mem ((c.tc : Thread Cert.Kernel54Ideal.nD Cert.Kernel54Ideal.τ).loc Cert.Kernel54Ideal.main_arg0) = m ((c.tc : Thread Cert.Kernel54Ideal.nD Cert.Kernel54Ideal.τ).loc Cert.Kernel54Ideal.main_arg0)
      ∧ r.2.mem ((c.tc : Thread Cert.Kernel54Ideal.nD Cert.Kernel54Ideal.τ).loc Cert.Kernel54Ideal.main_arg1) = m ((c.tc : Thread Cert.Kernel54Ideal.nD Cert.Kernel54Ideal.τ).loc Cert.Kernel54Ideal.main_arg1)
      ∧ r.2.mem ((c.tc : Thread Cert.Kernel54Ideal.nD Cert.Kernel54Ideal.τ).loc Cert.Kernel54Ideal.main_arg2) = m ((c.tc : Thread Cert.Kernel54Ideal.nD Cert.Kernel54Ideal.τ).loc Cert.Kernel54Ideal.main_arg2)
      ∧ r.2.mem ((c.tc : Thread Cert.Kernel54Ideal.nD Cert.Kernel54Ideal.τ).loc Cert.Kernel54Ideal.main_arg3) = m ((c.tc : Thread Cert.Kernel54Ideal.nD Cert.Kernel54Ideal.τ).loc Cert.Kernel54Ideal.main_arg3))
      ∧ r.2.sem = fun _ => 0)

def quiescent_Reference54Ideal [hReference54Ideal : Cert.Reference54Ideal.Facts] : Prop :=
  ∀ (m : (ℓ : Loc Cert.Reference54Ideal.nD Cert.Reference54Ideal.τ Cert.Reference54Ideal.sig) → Buf (Elt Ideal) ℓ) (g : Dev Cert.Reference54Ideal.nD → PrngReg), Pre_Reference54Ideal m →
    θ_run (Cert.Reference54Ideal.defs (F := Ideal)) (onTc (τ := Cert.Reference54Ideal.τ) (Cert.Reference54Ideal.main (F := Ideal))) ⟨m, fun _ => 0, g⟩ (fun r => (∀ c : Dev Cert.Reference54Ideal.nD,
      r.2.mem ((c.tc : Thread Cert.Reference54Ideal.nD Cert.Reference54Ideal.τ).loc Cert.Reference54Ideal.main_arg0) = m ((c.tc : Thread Cert.Reference54Ideal.nD Cert.Reference54Ideal.τ).loc Cert.Reference54Ideal.main_arg0)
      ∧ r.2.mem ((c.tc : Thread Cert.Reference54Ideal.nD Cert.Reference54Ideal.τ).loc Cert.Reference54Ideal.main_arg1) = m ((c.tc : Thread Cert.Reference54Ideal.nD Cert.Reference54Ideal.τ).loc Cert.Reference54Ideal.main_arg1)
      ∧ r.2.mem ((c.tc : Thread Cert.Reference54Ideal.nD Cert.Reference54Ideal.τ).loc Cert.Reference54Ideal.main_arg2) = m ((c.tc : Thread Cert.Reference54Ideal.nD Cert.Reference54Ideal.τ).loc Cert.Reference54Ideal.main_arg2)
      ∧ r.2.mem ((c.tc : Thread Cert.Reference54Ideal.nD Cert.Reference54Ideal.τ).loc Cert.Reference54Ideal.main_arg3) = m ((c.tc : Thread Cert.Reference54Ideal.nD Cert.Reference54Ideal.τ).loc Cert.Reference54Ideal.main_arg3))
      ∧ r.2.sem = fun _ => 0)

def quiescent_Kernel55 [hKernel55 : Cert.Kernel55.Facts] : Prop :=
  ∀ (m : (ℓ : Loc Cert.Kernel55.nD Cert.Kernel55.τ Cert.Kernel55.sig) → Buf (Elt Bits) ℓ) (g : Dev Cert.Kernel55.nD → PrngReg), Pre_Kernel55 m →
    θ_run (Cert.Kernel55.defs (F := Bits)) (onTc (τ := Cert.Kernel55.τ) (Cert.Kernel55.main (F := Bits))) ⟨m, fun _ => 0, g⟩ (fun r => (∀ c : Dev Cert.Kernel55.nD,
      r.2.mem ((c.tc : Thread Cert.Kernel55.nD Cert.Kernel55.τ).loc Cert.Kernel55.main_arg0) = m ((c.tc : Thread Cert.Kernel55.nD Cert.Kernel55.τ).loc Cert.Kernel55.main_arg0)
      ∧ r.2.mem ((c.tc : Thread Cert.Kernel55.nD Cert.Kernel55.τ).loc Cert.Kernel55.main_arg1) = m ((c.tc : Thread Cert.Kernel55.nD Cert.Kernel55.τ).loc Cert.Kernel55.main_arg1))
      ∧ r.2.sem = fun _ => 0)

def quiescent_Kernel55Ideal [hKernel55Ideal : Cert.Kernel55Ideal.Facts] : Prop :=
  ∀ (m : (ℓ : Loc Cert.Kernel55Ideal.nD Cert.Kernel55Ideal.τ Cert.Kernel55Ideal.sig) → Buf (Elt Ideal) ℓ) (g : Dev Cert.Kernel55Ideal.nD → PrngReg), Pre_Kernel55Ideal m →
    θ_run (Cert.Kernel55Ideal.defs (F := Ideal)) (onTc (τ := Cert.Kernel55Ideal.τ) (Cert.Kernel55Ideal.main (F := Ideal))) ⟨m, fun _ => 0, g⟩ (fun r => (∀ c : Dev Cert.Kernel55Ideal.nD,
      r.2.mem ((c.tc : Thread Cert.Kernel55Ideal.nD Cert.Kernel55Ideal.τ).loc Cert.Kernel55Ideal.main_arg0) = m ((c.tc : Thread Cert.Kernel55Ideal.nD Cert.Kernel55Ideal.τ).loc Cert.Kernel55Ideal.main_arg0)
      ∧ r.2.mem ((c.tc : Thread Cert.Kernel55Ideal.nD Cert.Kernel55Ideal.τ).loc Cert.Kernel55Ideal.main_arg1) = m ((c.tc : Thread Cert.Kernel55Ideal.nD Cert.Kernel55Ideal.τ).loc Cert.Kernel55Ideal.main_arg1))
      ∧ r.2.sem = fun _ => 0)

def quiescent_Reference55Ideal [hReference55Ideal : Cert.Reference55Ideal.Facts] : Prop :=
  ∀ (m : (ℓ : Loc Cert.Reference55Ideal.nD Cert.Reference55Ideal.τ Cert.Reference55Ideal.sig) → Buf (Elt Ideal) ℓ) (g : Dev Cert.Reference55Ideal.nD → PrngReg), Pre_Reference55Ideal m →
    θ_run (Cert.Reference55Ideal.defs (F := Ideal)) (onTc (τ := Cert.Reference55Ideal.τ) (Cert.Reference55Ideal.main (F := Ideal))) ⟨m, fun _ => 0, g⟩ (fun r => (∀ c : Dev Cert.Reference55Ideal.nD,
      r.2.mem ((c.tc : Thread Cert.Reference55Ideal.nD Cert.Reference55Ideal.τ).loc Cert.Reference55Ideal.main_arg0) = m ((c.tc : Thread Cert.Reference55Ideal.nD Cert.Reference55Ideal.τ).loc Cert.Reference55Ideal.main_arg0)
      ∧ r.2.mem ((c.tc : Thread Cert.Reference55Ideal.nD Cert.Reference55Ideal.τ).loc Cert.Reference55Ideal.main_arg1) = m ((c.tc : Thread Cert.Reference55Ideal.nD Cert.Reference55Ideal.τ).loc Cert.Reference55Ideal.main_arg1))
      ∧ r.2.sem = fun _ => 0)

def quiescent_Kernel48 [hKernel48 : Cert.Kernel48.Facts] : Prop :=
  ∀ (m : (ℓ : Loc Cert.Kernel48.nD Cert.Kernel48.τ Cert.Kernel48.sig) → Buf (Elt Bits) ℓ) (g : Dev Cert.Kernel48.nD → PrngReg), Pre_Kernel48 m →
    θ_run (Cert.Kernel48.defs (F := Bits)) (onTc (τ := Cert.Kernel48.τ) (Cert.Kernel48.main (F := Bits))) ⟨m, fun _ => 0, g⟩ (fun r => (∀ c : Dev Cert.Kernel48.nD,
      r.2.mem ((c.tc : Thread Cert.Kernel48.nD Cert.Kernel48.τ).loc Cert.Kernel48.main_arg0) = m ((c.tc : Thread Cert.Kernel48.nD Cert.Kernel48.τ).loc Cert.Kernel48.main_arg0)
      ∧ r.2.mem ((c.tc : Thread Cert.Kernel48.nD Cert.Kernel48.τ).loc Cert.Kernel48.main_arg1) = m ((c.tc : Thread Cert.Kernel48.nD Cert.Kernel48.τ).loc Cert.Kernel48.main_arg1)
      ∧ r.2.mem ((c.tc : Thread Cert.Kernel48.nD Cert.Kernel48.τ).loc Cert.Kernel48.main_arg2) = m ((c.tc : Thread Cert.Kernel48.nD Cert.Kernel48.τ).loc Cert.Kernel48.main_arg2))
      ∧ r.2.sem = fun _ => 0)

def quiescent_Kernel48Ideal [hKernel48Ideal : Cert.Kernel48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg), Pre_Kernel48Ideal m →
    θ_run (Cert.Kernel48Ideal.defs (F := Ideal)) (onTc (τ := Cert.Kernel48Ideal.τ) (Cert.Kernel48Ideal.main (F := Ideal))) ⟨m, fun _ => 0, g⟩ (fun r => (∀ c : Dev Cert.Kernel48Ideal.nD,
      r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0)
      ∧ r.2.mem ((c.tc : Thread Cert.Kernel48Ideal.nD Cert.Kernel48Ideal.τ).loc Cert.Kernel48Ideal.main_arg1) = m ((c.tc : Thread Cert.Kernel48Ideal.nD Cert.Kernel48Ideal.τ).loc Cert.Kernel48Ideal.main_arg1)
      ∧ r.2.mem ((c.tc : Thread Cert.Kernel48Ideal.nD Cert.Kernel48Ideal.τ).loc Cert.Kernel48Ideal.main_arg2) = m ((c.tc : Thread Cert.Kernel48Ideal.nD Cert.Kernel48Ideal.τ).loc Cert.Kernel48Ideal.main_arg2))
      ∧ r.2.sem = fun _ => 0)

def quiescent_Kernel48Ideal_pre_finite_values [hKernel48Ideal : Cert.Kernel48Ideal.Facts] [hPre_finite_values : Cert.Pre_finite_values.Facts] : Prop :=
  ∀ (m : (ℓ : Loc Cert.Kernel48Ideal.nD Cert.Kernel48Ideal.τ Cert.Kernel48Ideal.sig) → Buf (Elt Ideal) ℓ) (g : Dev Cert.Kernel48Ideal.nD → PrngReg), Pre_Kernel48Ideal_finite_values m →
    θ_run (Cert.Kernel48Ideal.defs (F := Ideal)) (onTc (τ := Cert.Kernel48Ideal.τ) (Cert.Kernel48Ideal.main (F := Ideal))) ⟨m, fun _ => 0, g⟩ (fun r => (∀ c : Dev Cert.Kernel48Ideal.nD,
      r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0)
      ∧ r.2.mem ((c.tc : Thread Cert.Kernel48Ideal.nD Cert.Kernel48Ideal.τ).loc Cert.Kernel48Ideal.main_arg1) = m ((c.tc : Thread Cert.Kernel48Ideal.nD Cert.Kernel48Ideal.τ).loc Cert.Kernel48Ideal.main_arg1)
      ∧ r.2.mem ((c.tc : Thread Cert.Kernel48Ideal.nD Cert.Kernel48Ideal.τ).loc Cert.Kernel48Ideal.main_arg2) = m ((c.tc : Thread Cert.Kernel48Ideal.nD Cert.Kernel48Ideal.τ).loc Cert.Kernel48Ideal.main_arg2))
      ∧ r.2.sem = fun _ => 0)

def quiescent_Reference48Ideal [hReference48Ideal : Cert.Reference48Ideal.Facts] : Prop :=
  ∀ (m : (ℓ : Loc Cert.Reference48Ideal.nD Cert.Reference48Ideal.τ Cert.Reference48Ideal.sig) → Buf (Elt Ideal) ℓ) (g : Dev Cert.Reference48Ideal.nD → PrngReg), Pre_Reference48Ideal m →
    θ_run (Cert.Reference48Ideal.defs (F := Ideal)) (onTc (τ := Cert.Reference48Ideal.τ) (Cert.Reference48Ideal.main (F := Ideal))) ⟨m, fun _ => 0, g⟩ (fun r => (∀ c : Dev Cert.Reference48Ideal.nD,
      r.2.mem ((c.tc : Thread Cert.Reference48Ideal.nD Cert.Reference48Ideal.τ).loc Cert.Reference48Ideal.main_arg0) = m ((c.tc : Thread Cert.Reference48Ideal.nD Cert.Reference48Ideal.τ).loc Cert.Reference48Ideal.main_arg0)
      ∧ r.2.mem ((c.tc : Thread Cert.Reference48Ideal.nD Cert.Reference48Ideal.τ).loc Cert.Reference48Ideal.main_arg1) = m ((c.tc : Thread Cert.Reference48Ideal.nD Cert.Reference48Ideal.τ).loc Cert.Reference48Ideal.main_arg1)
      ∧ r.2.mem ((c.tc : Thread Cert.Reference48Ideal.nD Cert.Reference48Ideal.τ).loc Cert.Reference48Ideal.main_arg2) = m ((c.tc : Thread Cert.Reference48Ideal.nD Cert.Reference48Ideal.τ).loc Cert.Reference48Ideal.main_arg2))
      ∧ r.2.sem = fun _ => 0)

def quiescent_Reference48Ideal_pre_finite_values [hReference48Ideal : Cert.Reference48Ideal.Facts] [hPre_finite_values : Cert.Pre_finite_values.Facts] : Prop :=
  ∀ (m : (ℓ : Loc Cert.Reference48Ideal.nD Cert.Reference48Ideal.τ Cert.Reference48Ideal.sig) → Buf (Elt Ideal) ℓ) (g : Dev Cert.Reference48Ideal.nD → PrngReg), Pre_Reference48Ideal_finite_values m →
    θ_run (Cert.Reference48Ideal.defs (F := Ideal)) (onTc (τ := Cert.Reference48Ideal.τ) (Cert.Reference48Ideal.main (F := Ideal))) ⟨m, fun _ => 0, g⟩ (fun r => (∀ c : Dev Cert.Reference48Ideal.nD,
      r.2.mem ((c.tc : Thread Cert.Reference48Ideal.nD Cert.Reference48Ideal.τ).loc Cert.Reference48Ideal.main_arg0) = m ((c.tc : Thread Cert.Reference48Ideal.nD Cert.Reference48Ideal.τ).loc Cert.Reference48Ideal.main_arg0)
      ∧ r.2.mem ((c.tc : Thread Cert.Reference48Ideal.nD Cert.Reference48Ideal.τ).loc Cert.Reference48Ideal.main_arg1) = m ((c.tc : Thread Cert.Reference48Ideal.nD Cert.Reference48Ideal.τ).loc Cert.Reference48Ideal.main_arg1)
      ∧ r.2.mem ((c.tc : Thread Cert.Reference48Ideal.nD Cert.Reference48Ideal.τ).loc Cert.Reference48Ideal.main_arg2) = m ((c.tc : Thread Cert.Reference48Ideal.nD Cert.Reference48Ideal.τ).loc Cert.Reference48Ideal.main_arg2))
      ∧ r.2.sem = fun _ => 0)

def quiescent_Kernel52 [hKernel52 : Cert.Kernel52.Facts] : Prop :=
  ∀ (m : (ℓ : Loc Cert.Kernel52.nD Cert.Kernel52.τ Cert.Kernel52.sig) → Buf (Elt Bits) ℓ) (g : Dev Cert.Kernel52.nD → PrngReg), Pre_Kernel52 m →
    θ_run (Cert.Kernel52.defs (F := Bits)) (onTc (τ := Cert.Kernel52.τ) (Cert.Kernel52.main (F := Bits))) ⟨m, fun _ => 0, g⟩ (fun r => (∀ c : Dev Cert.Kernel52.nD,
      r.2.mem ((c.tc : Thread Cert.Kernel52.nD Cert.Kernel52.τ).loc Cert.Kernel52.main_arg0) = m ((c.tc : Thread Cert.Kernel52.nD Cert.Kernel52.τ).loc Cert.Kernel52.main_arg0)
      ∧ r.2.mem ((c.tc : Thread Cert.Kernel52.nD Cert.Kernel52.τ).loc Cert.Kernel52.main_arg1) = m ((c.tc : Thread Cert.Kernel52.nD Cert.Kernel52.τ).loc Cert.Kernel52.main_arg1)
      ∧ r.2.mem ((c.tc : Thread Cert.Kernel52.nD Cert.Kernel52.τ).loc Cert.Kernel52.main_arg2) = m ((c.tc : Thread Cert.Kernel52.nD Cert.Kernel52.τ).loc Cert.Kernel52.main_arg2))
      ∧ r.2.sem = fun _ => 0)

def quiescent_Kernel52Ideal [hKernel52Ideal : Cert.Kernel52Ideal.Facts] : Prop :=
  ∀ (m : (ℓ : Loc Cert.Kernel52Ideal.nD Cert.Kernel52Ideal.τ Cert.Kernel52Ideal.sig) → Buf (Elt Ideal) ℓ) (g : Dev Cert.Kernel52Ideal.nD → PrngReg), Pre_Kernel52Ideal m →
    θ_run (Cert.Kernel52Ideal.defs (F := Ideal)) (onTc (τ := Cert.Kernel52Ideal.τ) (Cert.Kernel52Ideal.main (F := Ideal))) ⟨m, fun _ => 0, g⟩ (fun r => (∀ c : Dev Cert.Kernel52Ideal.nD,
      r.2.mem ((c.tc : Thread Cert.Kernel52Ideal.nD Cert.Kernel52Ideal.τ).loc Cert.Kernel52Ideal.main_arg0) = m ((c.tc : Thread Cert.Kernel52Ideal.nD Cert.Kernel52Ideal.τ).loc Cert.Kernel52Ideal.main_arg0)
      ∧ r.2.mem ((c.tc : Thread Cert.Kernel52Ideal.nD Cert.Kernel52Ideal.τ).loc Cert.Kernel52Ideal.main_arg1) = m ((c.tc : Thread Cert.Kernel52Ideal.nD Cert.Kernel52Ideal.τ).loc Cert.Kernel52Ideal.main_arg1)
      ∧ r.2.mem ((c.tc : Thread Cert.Kernel52Ideal.nD Cert.Kernel52Ideal.τ).loc Cert.Kernel52Ideal.main_arg2) = m ((c.tc : Thread Cert.Kernel52Ideal.nD Cert.Kernel52Ideal.τ).loc Cert.Kernel52Ideal.main_arg2))
      ∧ r.2.sem = fun _ => 0)

def quiescent_Reference52Ideal [hReference52Ideal : Cert.Reference52Ideal.Facts] : Prop :=
  ∀ (m : (ℓ : Loc Cert.Reference52Ideal.nD Cert.Reference52Ideal.τ Cert.Reference52Ideal.sig) → Buf (Elt Ideal) ℓ) (g : Dev Cert.Reference52Ideal.nD → PrngReg), Pre_Reference52Ideal m →
    θ_run (Cert.Reference52Ideal.defs (F := Ideal)) (onTc (τ := Cert.Reference52Ideal.τ) (Cert.Reference52Ideal.main (F := Ideal))) ⟨m, fun _ => 0, g⟩ (fun r => (∀ c : Dev Cert.Reference52Ideal.nD,
      r.2.mem ((c.tc : Thread Cert.Reference52Ideal.nD Cert.Reference52Ideal.τ).loc Cert.Reference52Ideal.main_arg0) = m ((c.tc : Thread Cert.Reference52Ideal.nD Cert.Reference52Ideal.τ).loc Cert.Reference52Ideal.main_arg0)
      ∧ r.2.mem ((c.tc : Thread Cert.Reference52Ideal.nD Cert.Reference52Ideal.τ).loc Cert.Reference52Ideal.main_arg1) = m ((c.tc : Thread Cert.Reference52Ideal.nD Cert.Reference52Ideal.τ).loc Cert.Reference52Ideal.main_arg1)
      ∧ r.2.mem ((c.tc : Thread Cert.Reference52Ideal.nD Cert.Reference52Ideal.τ).loc Cert.Reference52Ideal.main_arg2) = m ((c.tc : Thread Cert.Reference52Ideal.nD Cert.Reference52Ideal.τ).loc Cert.Reference52Ideal.main_arg2))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v6)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v6) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v6)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v6) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v3) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v8) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v3) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v1) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v2) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v1) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v2) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v2) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v2) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v2) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v2) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v2) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v3) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v1) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v2) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)) →
    ∃ (v0 : (c : Dev Cert.Kernel37Ideal.nD) → Buf (Elt Ideal) ((c.tc : Thread Cert.Kernel37Ideal.nD Cert.Kernel37Ideal.τ).loc Cert.Kernel37Ideal.main_v0)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v1) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)) →
    ∃ (v0 : (c : Dev Cert.Kernel38Ideal.nD) → Buf (Elt Ideal) ((c.tc : Thread Cert.Kernel38Ideal.nD Cert.Kernel38Ideal.τ).loc Cert.Kernel38Ideal.main_v0)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v2) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)) →
    ∃ (v0 : (c : Dev Cert.Kernel39Ideal.nD) → Buf (Elt Ideal) ((c.tc : Thread Cert.Kernel39Ideal.nD Cert.Kernel39Ideal.τ).loc Cert.Kernel39Ideal.main_v0)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0) = v0 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v2) = v0 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)) →
    ∃ (v0 : (c : Dev Cert.Kernel40Ideal.nD) → Buf (Elt Ideal) ((c.tc : Thread Cert.Kernel40Ideal.nD Cert.Kernel40Ideal.τ).loc Cert.Kernel40Ideal.main_v0)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0) = v0 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v2) = v0 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)) →
    ∃ (v0 : (c : Dev Cert.Kernel41Ideal.nD) → Buf (Elt Ideal) ((c.tc : Thread Cert.Kernel41Ideal.nD Cert.Kernel41Ideal.τ).loc Cert.Kernel41Ideal.main_v0)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0) = v0 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v2) = v0 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)) →
    ∃ (v0 : (c : Dev Cert.Kernel42Ideal.nD) → Buf (Elt Ideal) ((c.tc : Thread Cert.Kernel42Ideal.nD Cert.Kernel42Ideal.τ).loc Cert.Kernel42Ideal.main_v0)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0) = v0 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v24) = v0 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)
      ∧ m' ((c.tc : Thread Cert.Reference43Ideal.nD Cert.Reference43Ideal.τ).loc Cert.Reference43Ideal.main_arg2) = m ((c.tc : Thread Cert.Kernel43Ideal.nD Cert.Kernel43Ideal.τ).loc Cert.Kernel43Ideal.main_arg2)
      ∧ m' ((c.tc : Thread Cert.Reference43Ideal.nD Cert.Reference43Ideal.τ).loc Cert.Reference43Ideal.main_arg3) = m ((c.tc : Thread Cert.Kernel43Ideal.nD Cert.Kernel43Ideal.τ).loc Cert.Kernel43Ideal.main_arg3)) →
    ∃ (v0 : (c : Dev Cert.Kernel43Ideal.nD) → Buf (Elt Ideal) ((c.tc : Thread Cert.Kernel43Ideal.nD Cert.Kernel43Ideal.τ).loc Cert.Kernel43Ideal.main_v0_0)) (v1 : (c : Dev Cert.Kernel43Ideal.nD) → Buf (Elt Ideal) ((c.tc : Thread Cert.Kernel43Ideal.nD Cert.Kernel43Ideal.τ).loc Cert.Kernel43Ideal.main_v0_1)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v0_0) = v0 c
          ∧ r.2.mem ((c.tc : Thread Cert.Kernel43Ideal.nD Cert.Kernel43Ideal.τ).loc Cert.Kernel43Ideal.main_v0_1) = v1 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
          ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
          ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v34) = v0 c
          ∧ r.2.mem ((c.tc : Thread Cert.Reference43Ideal.nD Cert.Reference43Ideal.τ).loc Cert.Reference43Ideal.main_v17) = v1 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1)
          ∧ r.2.mem ((c.tc : Thread Cert.Reference43Ideal.nD Cert.Reference43Ideal.τ).loc Cert.Reference43Ideal.main_arg2) = m' ((c.tc : Thread Cert.Reference43Ideal.nD Cert.Reference43Ideal.τ).loc Cert.Reference43Ideal.main_arg2)
          ∧ r.2.mem ((c.tc : Thread Cert.Reference43Ideal.nD Cert.Reference43Ideal.τ).loc Cert.Reference43Ideal.main_arg3) = m' ((c.tc : Thread Cert.Reference43Ideal.nD Cert.Reference43Ideal.τ).loc Cert.Reference43Ideal.main_arg3))

def preserves_Kernel44_Kernel44Ideal : Prop :=
  True

def algebraic_Kernel44Ideal_Reference44Ideal [hKernel44Ideal : Cert.Kernel44Ideal.Facts] [hReference44Ideal : Cert.Reference44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg)
    (m' : (ℓ : Loc Cert.Reference44Ideal.nD Cert.Reference44Ideal.τ Cert.Reference44Ideal.sig) → Buf (Elt Ideal) ℓ) (g' : Dev Cert.Reference44Ideal.nD → PrngReg), Pre_Kernel44Ideal m →
    (∀ c : Dev Cert.Kernel44Ideal.nD,
      m' ((c.tc : Thread Cert.Reference44Ideal.nD Cert.Reference44Ideal.τ).loc Cert.Reference44Ideal.main_arg0) = m ((c.tc : Thread Cert.Kernel44Ideal.nD Cert.Kernel44Ideal.τ).loc Cert.Kernel44Ideal.main_arg0)
      ∧ m' ((c.tc : Thread Cert.Reference44Ideal.nD Cert.Reference44Ideal.τ).loc Cert.Reference44Ideal.main_arg1) = m ((c.tc : Thread Cert.Kernel44Ideal.nD Cert.Kernel44Ideal.τ).loc Cert.Kernel44Ideal.main_arg1)) →
    ∃ (v0 : (c : Dev Cert.Kernel44Ideal.nD) → Buf (Elt Ideal) ((c.tc : Thread Cert.Kernel44Ideal.nD Cert.Kernel44Ideal.τ).loc Cert.Kernel44Ideal.main_v0)),
      θ_run (Cert.Kernel44Ideal.defs (F := Ideal)) (onTc (τ := Cert.Kernel44Ideal.τ) (Cert.Kernel44Ideal.main (F := Ideal))) ⟨m, fun _ => 0, g⟩ (fun r => ∀ c : Dev Cert.Kernel44Ideal.nD,
          r.2.mem ((c.tc : Thread Cert.Kernel44Ideal.nD Cert.Kernel44Ideal.τ).loc Cert.Kernel44Ideal.main_v0) = v0 c
          ∧ r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
          ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1))
      ∧ θ_run (Cert.Reference44Ideal.defs (F := Ideal)) (onTc (τ := Cert.Reference44Ideal.τ) (Cert.Reference44Ideal.main (F := Ideal))) ⟨m', fun _ => 0, g'⟩ (fun r => ∀ c : Dev Cert.Reference44Ideal.nD,
          r.2.mem ((c.tc : Thread Cert.Reference44Ideal.nD Cert.Reference44Ideal.τ).loc Cert.Reference44Ideal.main_v12) = v0 c
          ∧ r.2.mem ((c.tc : Thread Cert.Reference44Ideal.nD Cert.Reference44Ideal.τ).loc Cert.Reference44Ideal.main_arg0) = m' ((c.tc : Thread Cert.Reference44Ideal.nD Cert.Reference44Ideal.τ).loc Cert.Reference44Ideal.main_arg0)
          ∧ r.2.mem ((c.tc : Thread Cert.Reference44Ideal.nD Cert.Reference44Ideal.τ).loc Cert.Reference44Ideal.main_arg1) = m' ((c.tc : Thread Cert.Reference44Ideal.nD Cert.Reference44Ideal.τ).loc Cert.Reference44Ideal.main_arg1))

def preserves_Kernel45_Kernel45Ideal : Prop :=
  True

def algebraic_Kernel45Ideal_Reference45Ideal [hKernel45Ideal : Cert.Kernel45Ideal.Facts] [hReference45Ideal : Cert.Reference45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg)
    (m' : (ℓ : Loc Cert.Reference45Ideal.nD Cert.Reference45Ideal.τ Cert.Reference45Ideal.sig) → Buf (Elt Ideal) ℓ) (g' : Dev Cert.Reference45Ideal.nD → PrngReg), Pre_Kernel45Ideal m →
    (∀ c : Dev Cert.Kernel45Ideal.nD,
      m' ((c.tc : Thread Cert.Reference45Ideal.nD Cert.Reference45Ideal.τ).loc Cert.Reference45Ideal.main_arg0) = m ((c.tc : Thread Cert.Kernel45Ideal.nD Cert.Kernel45Ideal.τ).loc Cert.Kernel45Ideal.main_arg0)
      ∧ m' ((c.tc : Thread Cert.Reference45Ideal.nD Cert.Reference45Ideal.τ).loc Cert.Reference45Ideal.main_arg1) = m ((c.tc : Thread Cert.Kernel45Ideal.nD Cert.Kernel45Ideal.τ).loc Cert.Kernel45Ideal.main_arg1)) →
    ∃ (v0 : (c : Dev Cert.Kernel45Ideal.nD) → Buf (Elt Ideal) ((c.tc : Thread Cert.Kernel45Ideal.nD Cert.Kernel45Ideal.τ).loc Cert.Kernel45Ideal.main_v0)),
      θ_run (Cert.Kernel45Ideal.defs (F := Ideal)) (onTc (τ := Cert.Kernel45Ideal.τ) (Cert.Kernel45Ideal.main (F := Ideal))) ⟨m, fun _ => 0, g⟩ (fun r => ∀ c : Dev Cert.Kernel45Ideal.nD,
          r.2.mem ((c.tc : Thread Cert.Kernel45Ideal.nD Cert.Kernel45Ideal.τ).loc Cert.Kernel45Ideal.main_v0) = v0 c
          ∧ r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
          ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1))
      ∧ θ_run (Cert.Reference45Ideal.defs (F := Ideal)) (onTc (τ := Cert.Reference45Ideal.τ) (Cert.Reference45Ideal.main (F := Ideal))) ⟨m', fun _ => 0, g'⟩ (fun r => ∀ c : Dev Cert.Reference45Ideal.nD,
          r.2.mem ((c.tc : Thread Cert.Reference45Ideal.nD Cert.Reference45Ideal.τ).loc Cert.Reference45Ideal.main_v11) = v0 c
          ∧ r.2.mem ((c.tc : Thread Cert.Reference45Ideal.nD Cert.Reference45Ideal.τ).loc Cert.Reference45Ideal.main_arg0) = m' ((c.tc : Thread Cert.Reference45Ideal.nD Cert.Reference45Ideal.τ).loc Cert.Reference45Ideal.main_arg0)
          ∧ r.2.mem ((c.tc : Thread Cert.Reference45Ideal.nD Cert.Reference45Ideal.τ).loc Cert.Reference45Ideal.main_arg1) = m' ((c.tc : Thread Cert.Reference45Ideal.nD Cert.Reference45Ideal.τ).loc Cert.Reference45Ideal.main_arg1))

def preserves_Kernel46_Kernel46Ideal : Prop :=
  True

def algebraic_Kernel46Ideal_Reference46Ideal [hKernel46Ideal : Cert.Kernel46Ideal.Facts] [hReference46Ideal : Cert.Reference46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg)
    (m' : (ℓ : Loc Cert.Reference46Ideal.nD Cert.Reference46Ideal.τ Cert.Reference46Ideal.sig) → Buf (Elt Ideal) ℓ) (g' : Dev Cert.Reference46Ideal.nD → PrngReg), Pre_Kernel46Ideal m →
    (∀ c : Dev Cert.Kernel46Ideal.nD,
      m' ((c.tc : Thread Cert.Reference46Ideal.nD Cert.Reference46Ideal.τ).loc Cert.Reference46Ideal.main_arg0) = m ((c.tc : Thread Cert.Kernel46Ideal.nD Cert.Kernel46Ideal.τ).loc Cert.Kernel46Ideal.main_arg0)
      ∧ m' ((c.tc : Thread Cert.Reference46Ideal.nD Cert.Reference46Ideal.τ).loc Cert.Reference46Ideal.main_arg1) = m ((c.tc : Thread Cert.Kernel46Ideal.nD Cert.Kernel46Ideal.τ).loc Cert.Kernel46Ideal.main_arg1)
      ∧ m' ((c.tc : Thread Cert.Reference46Ideal.nD Cert.Reference46Ideal.τ).loc Cert.Reference46Ideal.main_arg2) = m ((c.tc : Thread Cert.Kernel46Ideal.nD Cert.Kernel46Ideal.τ).loc Cert.Kernel46Ideal.main_arg2)) →
    ∃ (v0 : (c : Dev Cert.Kernel46Ideal.nD) → Buf (Elt Ideal) ((c.tc : Thread Cert.Kernel46Ideal.nD Cert.Kernel46Ideal.τ).loc Cert.Kernel46Ideal.main_v0_0)) (v1 : (c : Dev Cert.Kernel46Ideal.nD) → Buf (Elt Ideal) ((c.tc : Thread Cert.Kernel46Ideal.nD Cert.Kernel46Ideal.τ).loc Cert.Kernel46Ideal.main_v0_1)) (v2 : (c : Dev Cert.Kernel46Ideal.nD) → Buf (Elt Ideal) ((c.tc : Thread Cert.Kernel46Ideal.nD Cert.Kernel46Ideal.τ).loc Cert.Kernel46Ideal.main_v0_2)),
      θ_run (Cert.Kernel46Ideal.defs (F := Ideal)) (onTc (τ := Cert.Kernel46Ideal.τ) (Cert.Kernel46Ideal.main (F := Ideal))) ⟨m, fun _ => 0, g⟩ (fun r => ∀ c : Dev Cert.Kernel46Ideal.nD,
          r.2.mem ((c.tc : Thread Cert.Kernel46Ideal.nD Cert.Kernel46Ideal.τ).loc Cert.Kernel46Ideal.main_v0_0) = v0 c
          ∧ r.2.mem ((c.tc : Thread Cert.Kernel46Ideal.nD Cert.Kernel46Ideal.τ).loc Cert.Kernel46Ideal.main_v0_1) = v1 c
          ∧ r.2.mem ((c.tc : Thread Cert.Kernel46Ideal.nD Cert.Kernel46Ideal.τ).loc Cert.Kernel46Ideal.main_v0_2) = v2 c
          ∧ r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
          ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1)
          ∧ r.2.mem ((c.tc : Thread Cert.Kernel46Ideal.nD Cert.Kernel46Ideal.τ).loc Cert.Kernel46Ideal.main_arg2) = m ((c.tc : Thread Cert.Kernel46Ideal.nD Cert.Kernel46Ideal.τ).loc Cert.Kernel46Ideal.main_arg2))
      ∧ θ_run (Cert.Reference46Ideal.defs (F := Ideal)) (onTc (τ := Cert.Reference46Ideal.τ) (Cert.Reference46Ideal.main (F := Ideal))) ⟨m', fun _ => 0, g'⟩ (fun r => ∀ c : Dev Cert.Reference46Ideal.nD,
          r.2.mem ((c.tc : Thread Cert.Reference46Ideal.nD Cert.Reference46Ideal.τ).loc Cert.Reference46Ideal.main_v48) = v0 c
          ∧ r.2.mem ((c.tc : Thread Cert.Reference46Ideal.nD Cert.Reference46Ideal.τ).loc Cert.Reference46Ideal.main_v32) = v1 c
          ∧ r.2.mem ((c.tc : Thread Cert.Reference46Ideal.nD Cert.Reference46Ideal.τ).loc Cert.Reference46Ideal.main_v49) = v2 c
          ∧ r.2.mem ((c.tc : Thread Cert.Reference46Ideal.nD Cert.Reference46Ideal.τ).loc Cert.Reference46Ideal.main_arg0) = m' ((c.tc : Thread Cert.Reference46Ideal.nD Cert.Reference46Ideal.τ).loc Cert.Reference46Ideal.main_arg0)
          ∧ r.2.mem ((c.tc : Thread Cert.Reference46Ideal.nD Cert.Reference46Ideal.τ).loc Cert.Reference46Ideal.main_arg1) = m' ((c.tc : Thread Cert.Reference46Ideal.nD Cert.Reference46Ideal.τ).loc Cert.Reference46Ideal.main_arg1)
          ∧ r.2.mem ((c.tc : Thread Cert.Reference46Ideal.nD Cert.Reference46Ideal.τ).loc Cert.Reference46Ideal.main_arg2) = m' ((c.tc : Thread Cert.Reference46Ideal.nD Cert.Reference46Ideal.τ).loc Cert.Reference46Ideal.main_arg2))

def preserves_Kernel47_Kernel47Ideal : Prop :=
  True

def algebraic_Kernel47Ideal_Reference47Ideal [hKernel47Ideal : Cert.Kernel47Ideal.Facts] [hReference47Ideal : Cert.Reference47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg)
    (m' : (ℓ : Loc Cert.Reference47Ideal.nD Cert.Reference47Ideal.τ Cert.Reference47Ideal.sig) → Buf (Elt Ideal) ℓ) (g' : Dev Cert.Reference47Ideal.nD → PrngReg), Pre_Kernel47Ideal m →
    (∀ c : Dev Cert.Kernel47Ideal.nD,
      m' ((c.tc : Thread Cert.Reference47Ideal.nD Cert.Reference47Ideal.τ).loc Cert.Reference47Ideal.main_arg0) = m ((c.tc : Thread Cert.Kernel47Ideal.nD Cert.Kernel47Ideal.τ).loc Cert.Kernel47Ideal.main_arg0)
      ∧ m' ((c.tc : Thread Cert.Reference47Ideal.nD Cert.Reference47Ideal.τ).loc Cert.Reference47Ideal.main_arg1) = m ((c.tc : Thread Cert.Kernel47Ideal.nD Cert.Kernel47Ideal.τ).loc Cert.Kernel47Ideal.main_arg1)) →
    ∃ (v0 : (c : Dev Cert.Kernel47Ideal.nD) → Buf (Elt Ideal) ((c.tc : Thread Cert.Kernel47Ideal.nD Cert.Kernel47Ideal.τ).loc Cert.Kernel47Ideal.main_v0)),
      θ_run (Cert.Kernel47Ideal.defs (F := Ideal)) (onTc (τ := Cert.Kernel47Ideal.τ) (Cert.Kernel47Ideal.main (F := Ideal))) ⟨m, fun _ => 0, g⟩ (fun r => ∀ c : Dev Cert.Kernel47Ideal.nD,
          r.2.mem ((c.tc : Thread Cert.Kernel47Ideal.nD Cert.Kernel47Ideal.τ).loc Cert.Kernel47Ideal.main_v0) = v0 c
          ∧ r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
          ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1))
      ∧ θ_run (Cert.Reference47Ideal.defs (F := Ideal)) (onTc (τ := Cert.Reference47Ideal.τ) (Cert.Reference47Ideal.main (F := Ideal))) ⟨m', fun _ => 0, g'⟩ (fun r => ∀ c : Dev Cert.Reference47Ideal.nD,
          r.2.mem ((c.tc : Thread Cert.Reference47Ideal.nD Cert.Reference47Ideal.τ).loc Cert.Reference47Ideal.main_v28) = v0 c
          ∧ r.2.mem ((c.tc : Thread Cert.Reference47Ideal.nD Cert.Reference47Ideal.τ).loc Cert.Reference47Ideal.main_arg0) = m' ((c.tc : Thread Cert.Reference47Ideal.nD Cert.Reference47Ideal.τ).loc Cert.Reference47Ideal.main_arg0)
          ∧ r.2.mem ((c.tc : Thread Cert.Reference47Ideal.nD Cert.Reference47Ideal.τ).loc Cert.Reference47Ideal.main_arg1) = m' ((c.tc : Thread Cert.Reference47Ideal.nD Cert.Reference47Ideal.τ).loc Cert.Reference47Ideal.main_arg1))

def preserves_Kernel49_Kernel49Ideal : Prop :=
  True

def algebraic_Kernel49Ideal_Reference49Ideal [hKernel49Ideal : Cert.Kernel49Ideal.Facts] [hReference49Ideal : Cert.Reference49Ideal.Facts] : Prop :=
  ∀ (m : (ℓ : Loc Cert.Kernel49Ideal.nD Cert.Kernel49Ideal.τ Cert.Kernel49Ideal.sig) → Buf (Elt Ideal) ℓ) (g : Dev Cert.Kernel49Ideal.nD → PrngReg)
    (m' : (ℓ : Loc Cert.Reference49Ideal.nD Cert.Reference49Ideal.τ Cert.Reference49Ideal.sig) → Buf (Elt Ideal) ℓ) (g' : Dev Cert.Reference49Ideal.nD → PrngReg), Pre_Kernel49Ideal m →
    (∀ c : Dev Cert.Kernel49Ideal.nD,
      m' ((c.tc : Thread Cert.Reference49Ideal.nD Cert.Reference49Ideal.τ).loc Cert.Reference49Ideal.main_arg0) = m ((c.tc : Thread Cert.Kernel49Ideal.nD Cert.Kernel49Ideal.τ).loc Cert.Kernel49Ideal.main_arg0)
      ∧ m' ((c.tc : Thread Cert.Reference49Ideal.nD Cert.Reference49Ideal.τ).loc Cert.Reference49Ideal.main_arg1) = m ((c.tc : Thread Cert.Kernel49Ideal.nD Cert.Kernel49Ideal.τ).loc Cert.Kernel49Ideal.main_arg1)) →
    ∃ (v0 : (c : Dev Cert.Kernel49Ideal.nD) → Buf (Elt Ideal) ((c.tc : Thread Cert.Kernel49Ideal.nD Cert.Kernel49Ideal.τ).loc Cert.Kernel49Ideal.main_v0_0)) (v1 : (c : Dev Cert.Kernel49Ideal.nD) → Buf (Elt Ideal) ((c.tc : Thread Cert.Kernel49Ideal.nD Cert.Kernel49Ideal.τ).loc Cert.Kernel49Ideal.main_v0_1)) (v2 : (c : Dev Cert.Kernel49Ideal.nD) → Buf (Elt Ideal) ((c.tc : Thread Cert.Kernel49Ideal.nD Cert.Kernel49Ideal.τ).loc Cert.Kernel49Ideal.main_v0_2)) (v3 : (c : Dev Cert.Kernel49Ideal.nD) → Buf (Elt Ideal) ((c.tc : Thread Cert.Kernel49Ideal.nD Cert.Kernel49Ideal.τ).loc Cert.Kernel49Ideal.main_v0_3)) (v4 : (c : Dev Cert.Kernel49Ideal.nD) → Buf (Elt Ideal) ((c.tc : Thread Cert.Kernel49Ideal.nD Cert.Kernel49Ideal.τ).loc Cert.Kernel49Ideal.main_v0_4)) (v5 : (c : Dev Cert.Kernel49Ideal.nD) → Buf (Elt Ideal) ((c.tc : Thread Cert.Kernel49Ideal.nD Cert.Kernel49Ideal.τ).loc Cert.Kernel49Ideal.main_v0_5)),
      θ_run (Cert.Kernel49Ideal.defs (F := Ideal)) (onTc (τ := Cert.Kernel49Ideal.τ) (Cert.Kernel49Ideal.main (F := Ideal))) ⟨m, fun _ => 0, g⟩ (fun r => ∀ c : Dev Cert.Kernel49Ideal.nD,
          r.2.mem ((c.tc : Thread Cert.Kernel49Ideal.nD Cert.Kernel49Ideal.τ).loc Cert.Kernel49Ideal.main_v0_0) = v0 c
          ∧ r.2.mem ((c.tc : Thread Cert.Kernel49Ideal.nD Cert.Kernel49Ideal.τ).loc Cert.Kernel49Ideal.main_v0_1) = v1 c
          ∧ r.2.mem ((c.tc : Thread Cert.Kernel49Ideal.nD Cert.Kernel49Ideal.τ).loc Cert.Kernel49Ideal.main_v0_2) = v2 c
          ∧ r.2.mem ((c.tc : Thread Cert.Kernel49Ideal.nD Cert.Kernel49Ideal.τ).loc Cert.Kernel49Ideal.main_v0_3) = v3 c
          ∧ r.2.mem ((c.tc : Thread Cert.Kernel49Ideal.nD Cert.Kernel49Ideal.τ).loc Cert.Kernel49Ideal.main_v0_4) = v4 c
          ∧ r.2.mem ((c.tc : Thread Cert.Kernel49Ideal.nD Cert.Kernel49Ideal.τ).loc Cert.Kernel49Ideal.main_v0_5) = v5 c
          ∧ r.2.mem ((c.tc : Thread Cert.Kernel49Ideal.nD Cert.Kernel49Ideal.τ).loc Cert.Kernel49Ideal.main_arg0) = m ((c.tc : Thread Cert.Kernel49Ideal.nD Cert.Kernel49Ideal.τ).loc Cert.Kernel49Ideal.main_arg0)
          ∧ r.2.mem ((c.tc : Thread Cert.Kernel49Ideal.nD Cert.Kernel49Ideal.τ).loc Cert.Kernel49Ideal.main_arg1) = m ((c.tc : Thread Cert.Kernel49Ideal.nD Cert.Kernel49Ideal.τ).loc Cert.Kernel49Ideal.main_arg1))
      ∧ θ_run (Cert.Reference49Ideal.defs (F := Ideal)) (onTc (τ := Cert.Reference49Ideal.τ) (Cert.Reference49Ideal.main (F := Ideal))) ⟨m', fun _ => 0, g'⟩ (fun r => ∀ c : Dev Cert.Reference49Ideal.nD,
          r.2.mem ((c.tc : Thread Cert.Reference49Ideal.nD Cert.Reference49Ideal.τ).loc Cert.Reference49Ideal.main_v40) = v0 c
          ∧ r.2.mem ((c.tc : Thread Cert.Reference49Ideal.nD Cert.Reference49Ideal.τ).loc Cert.Reference49Ideal.main_v41) = v1 c
          ∧ r.2.mem ((c.tc : Thread Cert.Reference49Ideal.nD Cert.Reference49Ideal.τ).loc Cert.Reference49Ideal.main_v42) = v2 c
          ∧ r.2.mem ((c.tc : Thread Cert.Reference49Ideal.nD Cert.Reference49Ideal.τ).loc Cert.Reference49Ideal.main_v43) = v3 c
          ∧ r.2.mem ((c.tc : Thread Cert.Reference49Ideal.nD Cert.Reference49Ideal.τ).loc Cert.Reference49Ideal.main_v44) = v4 c
          ∧ r.2.mem ((c.tc : Thread Cert.Reference49Ideal.nD Cert.Reference49Ideal.τ).loc Cert.Reference49Ideal.main_v45) = v5 c
          ∧ r.2.mem ((c.tc : Thread Cert.Reference49Ideal.nD Cert.Reference49Ideal.τ).loc Cert.Reference49Ideal.main_arg0) = m' ((c.tc : Thread Cert.Reference49Ideal.nD Cert.Reference49Ideal.τ).loc Cert.Reference49Ideal.main_arg0)
          ∧ r.2.mem ((c.tc : Thread Cert.Reference49Ideal.nD Cert.Reference49Ideal.τ).loc Cert.Reference49Ideal.main_arg1) = m' ((c.tc : Thread Cert.Reference49Ideal.nD Cert.Reference49Ideal.τ).loc Cert.Reference49Ideal.main_arg1))

def preserves_Kernel50_Kernel50Ideal : Prop :=
  True

def algebraic_Kernel50Ideal_Reference50Ideal [hKernel50Ideal : Cert.Kernel50Ideal.Facts] [hReference50Ideal : Cert.Reference50Ideal.Facts] : Prop :=
  ∀ (m : (ℓ : Loc Cert.Kernel50Ideal.nD Cert.Kernel50Ideal.τ Cert.Kernel50Ideal.sig) → Buf (Elt Ideal) ℓ) (g : Dev Cert.Kernel50Ideal.nD → PrngReg)
    (m' : (ℓ : Loc Cert.Reference50Ideal.nD Cert.Reference50Ideal.τ Cert.Reference50Ideal.sig) → Buf (Elt Ideal) ℓ) (g' : Dev Cert.Reference50Ideal.nD → PrngReg), Pre_Kernel50Ideal m →
    (∀ c : Dev Cert.Kernel50Ideal.nD,
      m' ((c.tc : Thread Cert.Reference50Ideal.nD Cert.Reference50Ideal.τ).loc Cert.Reference50Ideal.main_arg0) = m ((c.tc : Thread Cert.Kernel50Ideal.nD Cert.Kernel50Ideal.τ).loc Cert.Kernel50Ideal.main_arg0)
      ∧ m' ((c.tc : Thread Cert.Reference50Ideal.nD Cert.Reference50Ideal.τ).loc Cert.Reference50Ideal.main_arg1) = m ((c.tc : Thread Cert.Kernel50Ideal.nD Cert.Kernel50Ideal.τ).loc Cert.Kernel50Ideal.main_arg1)
      ∧ m' ((c.tc : Thread Cert.Reference50Ideal.nD Cert.Reference50Ideal.τ).loc Cert.Reference50Ideal.main_arg2) = m ((c.tc : Thread Cert.Kernel50Ideal.nD Cert.Kernel50Ideal.τ).loc Cert.Kernel50Ideal.main_arg2)
      ∧ m' ((c.tc : Thread Cert.Reference50Ideal.nD Cert.Reference50Ideal.τ).loc Cert.Reference50Ideal.main_arg3) = m ((c.tc : Thread Cert.Kernel50Ideal.nD Cert.Kernel50Ideal.τ).loc Cert.Kernel50Ideal.main_arg3)
      ∧ m' ((c.tc : Thread Cert.Reference50Ideal.nD Cert.Reference50Ideal.τ).loc Cert.Reference50Ideal.main_arg4) = m ((c.tc : Thread Cert.Kernel50Ideal.nD Cert.Kernel50Ideal.τ).loc Cert.Kernel50Ideal.main_arg4)
      ∧ m' ((c.tc : Thread Cert.Reference50Ideal.nD Cert.Reference50Ideal.τ).loc Cert.Reference50Ideal.main_arg5) = m ((c.tc : Thread Cert.Kernel50Ideal.nD Cert.Kernel50Ideal.τ).loc Cert.Kernel50Ideal.main_arg5)
      ∧ m' ((c.tc : Thread Cert.Reference50Ideal.nD Cert.Reference50Ideal.τ).loc Cert.Reference50Ideal.main_arg6) = m ((c.tc : Thread Cert.Kernel50Ideal.nD Cert.Kernel50Ideal.τ).loc Cert.Kernel50Ideal.main_arg6)
      ∧ m' ((c.tc : Thread Cert.Reference50Ideal.nD Cert.Reference50Ideal.τ).loc Cert.Reference50Ideal.main_arg7) = m ((c.tc : Thread Cert.Kernel50Ideal.nD Cert.Kernel50Ideal.τ).loc Cert.Kernel50Ideal.main_arg7)) →
    ∃ (v0 : (c : Dev Cert.Kernel50Ideal.nD) → Buf (Elt Ideal) ((c.tc : Thread Cert.Kernel50Ideal.nD Cert.Kernel50Ideal.τ).loc Cert.Kernel50Ideal.main_v0_0)) (v1 : (c : Dev Cert.Kernel50Ideal.nD) → Buf (Elt Ideal) ((c.tc : Thread Cert.Kernel50Ideal.nD Cert.Kernel50Ideal.τ).loc Cert.Kernel50Ideal.main_v0_1)),
      θ_run (Cert.Kernel50Ideal.defs (F := Ideal)) (onTc (τ := Cert.Kernel50Ideal.τ) (Cert.Kernel50Ideal.main (F := Ideal))) ⟨m, fun _ => 0, g⟩ (fun r => ∀ c : Dev Cert.Kernel50Ideal.nD,
          r.2.mem ((c.tc : Thread Cert.Kernel50Ideal.nD Cert.Kernel50Ideal.τ).loc Cert.Kernel50Ideal.main_v0_0) = v0 c
          ∧ r.2.mem ((c.tc : Thread Cert.Kernel50Ideal.nD Cert.Kernel50Ideal.τ).loc Cert.Kernel50Ideal.main_v0_1) = v1 c
          ∧ r.2.mem ((c.tc : Thread Cert.Kernel50Ideal.nD Cert.Kernel50Ideal.τ).loc Cert.Kernel50Ideal.main_arg0) = m ((c.tc : Thread Cert.Kernel50Ideal.nD Cert.Kernel50Ideal.τ).loc Cert.Kernel50Ideal.main_arg0)
          ∧ r.2.mem ((c.tc : Thread Cert.Kernel50Ideal.nD Cert.Kernel50Ideal.τ).loc Cert.Kernel50Ideal.main_arg1) = m ((c.tc : Thread Cert.Kernel50Ideal.nD Cert.Kernel50Ideal.τ).loc Cert.Kernel50Ideal.main_arg1)
          ∧ r.2.mem ((c.tc : Thread Cert.Kernel50Ideal.nD Cert.Kernel50Ideal.τ).loc Cert.Kernel50Ideal.main_arg2) = m ((c.tc : Thread Cert.Kernel50Ideal.nD Cert.Kernel50Ideal.τ).loc Cert.Kernel50Ideal.main_arg2)
          ∧ r.2.mem ((c.tc : Thread Cert.Kernel50Ideal.nD Cert.Kernel50Ideal.τ).loc Cert.Kernel50Ideal.main_arg3) = m ((c.tc : Thread Cert.Kernel50Ideal.nD Cert.Kernel50Ideal.τ).loc Cert.Kernel50Ideal.main_arg3)
          ∧ r.2.mem ((c.tc : Thread Cert.Kernel50Ideal.nD Cert.Kernel50Ideal.τ).loc Cert.Kernel50Ideal.main_arg4) = m ((c.tc : Thread Cert.Kernel50Ideal.nD Cert.Kernel50Ideal.τ).loc Cert.Kernel50Ideal.main_arg4)
          ∧ r.2.mem ((c.tc : Thread Cert.Kernel50Ideal.nD Cert.Kernel50Ideal.τ).loc Cert.Kernel50Ideal.main_arg5) = m ((c.tc : Thread Cert.Kernel50Ideal.nD Cert.Kernel50Ideal.τ).loc Cert.Kernel50Ideal.main_arg5)
          ∧ r.2.mem ((c.tc : Thread Cert.Kernel50Ideal.nD Cert.Kernel50Ideal.τ).loc Cert.Kernel50Ideal.main_arg6) = m ((c.tc : Thread Cert.Kernel50Ideal.nD Cert.Kernel50Ideal.τ).loc Cert.Kernel50Ideal.main_arg6)
          ∧ r.2.mem ((c.tc : Thread Cert.Kernel50Ideal.nD Cert.Kernel50Ideal.τ).loc Cert.Kernel50Ideal.main_arg7) = m ((c.tc : Thread Cert.Kernel50Ideal.nD Cert.Kernel50Ideal.τ).loc Cert.Kernel50Ideal.main_arg7))
      ∧ θ_run (Cert.Reference50Ideal.defs (F := Ideal)) (onTc (τ := Cert.Reference50Ideal.τ) (Cert.Reference50Ideal.main (F := Ideal))) ⟨m', fun _ => 0, g'⟩ (fun r => ∀ c : Dev Cert.Reference50Ideal.nD,
          r.2.mem ((c.tc : Thread Cert.Reference50Ideal.nD Cert.Reference50Ideal.τ).loc Cert.Reference50Ideal.main_v115) = v0 c
          ∧ r.2.mem ((c.tc : Thread Cert.Reference50Ideal.nD Cert.Reference50Ideal.τ).loc Cert.Reference50Ideal.main_v117) = v1 c
          ∧ r.2.mem ((c.tc : Thread Cert.Reference50Ideal.nD Cert.Reference50Ideal.τ).loc Cert.Reference50Ideal.main_arg0) = m' ((c.tc : Thread Cert.Reference50Ideal.nD Cert.Reference50Ideal.τ).loc Cert.Reference50Ideal.main_arg0)
          ∧ r.2.mem ((c.tc : Thread Cert.Reference50Ideal.nD Cert.Reference50Ideal.τ).loc Cert.Reference50Ideal.main_arg1) = m' ((c.tc : Thread Cert.Reference50Ideal.nD Cert.Reference50Ideal.τ).loc Cert.Reference50Ideal.main_arg1)
          ∧ r.2.mem ((c.tc : Thread Cert.Reference50Ideal.nD Cert.Reference50Ideal.τ).loc Cert.Reference50Ideal.main_arg2) = m' ((c.tc : Thread Cert.Reference50Ideal.nD Cert.Reference50Ideal.τ).loc Cert.Reference50Ideal.main_arg2)
          ∧ r.2.mem ((c.tc : Thread Cert.Reference50Ideal.nD Cert.Reference50Ideal.τ).loc Cert.Reference50Ideal.main_arg3) = m' ((c.tc : Thread Cert.Reference50Ideal.nD Cert.Reference50Ideal.τ).loc Cert.Reference50Ideal.main_arg3)
          ∧ r.2.mem ((c.tc : Thread Cert.Reference50Ideal.nD Cert.Reference50Ideal.τ).loc Cert.Reference50Ideal.main_arg4) = m' ((c.tc : Thread Cert.Reference50Ideal.nD Cert.Reference50Ideal.τ).loc Cert.Reference50Ideal.main_arg4)
          ∧ r.2.mem ((c.tc : Thread Cert.Reference50Ideal.nD Cert.Reference50Ideal.τ).loc Cert.Reference50Ideal.main_arg5) = m' ((c.tc : Thread Cert.Reference50Ideal.nD Cert.Reference50Ideal.τ).loc Cert.Reference50Ideal.main_arg5)
          ∧ r.2.mem ((c.tc : Thread Cert.Reference50Ideal.nD Cert.Reference50Ideal.τ).loc Cert.Reference50Ideal.main_arg6) = m' ((c.tc : Thread Cert.Reference50Ideal.nD Cert.Reference50Ideal.τ).loc Cert.Reference50Ideal.main_arg6)
          ∧ r.2.mem ((c.tc : Thread Cert.Reference50Ideal.nD Cert.Reference50Ideal.τ).loc Cert.Reference50Ideal.main_arg7) = m' ((c.tc : Thread Cert.Reference50Ideal.nD Cert.Reference50Ideal.τ).loc Cert.Reference50Ideal.main_arg7))

def preserves_Kernel51_Kernel51Ideal : Prop :=
  True

def algebraic_Kernel51Ideal_Reference51Ideal [hKernel51Ideal : Cert.Kernel51Ideal.Facts] [hReference51Ideal : Cert.Reference51Ideal.Facts] : Prop :=
  ∀ (m : (ℓ : Loc Cert.Kernel51Ideal.nD Cert.Kernel51Ideal.τ Cert.Kernel51Ideal.sig) → Buf (Elt Ideal) ℓ) (g : Dev Cert.Kernel51Ideal.nD → PrngReg)
    (m' : (ℓ : Loc Cert.Reference51Ideal.nD Cert.Reference51Ideal.τ Cert.Reference51Ideal.sig) → Buf (Elt Ideal) ℓ) (g' : Dev Cert.Reference51Ideal.nD → PrngReg), Pre_Kernel51Ideal m →
    (∀ c : Dev Cert.Kernel51Ideal.nD,
      m' ((c.tc : Thread Cert.Reference51Ideal.nD Cert.Reference51Ideal.τ).loc Cert.Reference51Ideal.main_arg0) = m ((c.tc : Thread Cert.Kernel51Ideal.nD Cert.Kernel51Ideal.τ).loc Cert.Kernel51Ideal.main_arg0)
      ∧ m' ((c.tc : Thread Cert.Reference51Ideal.nD Cert.Reference51Ideal.τ).loc Cert.Reference51Ideal.main_arg1) = m ((c.tc : Thread Cert.Kernel51Ideal.nD Cert.Kernel51Ideal.τ).loc Cert.Kernel51Ideal.main_arg1)
      ∧ m' ((c.tc : Thread Cert.Reference51Ideal.nD Cert.Reference51Ideal.τ).loc Cert.Reference51Ideal.main_arg2) = m ((c.tc : Thread Cert.Kernel51Ideal.nD Cert.Kernel51Ideal.τ).loc Cert.Kernel51Ideal.main_arg2)) →
    ∃ (v0 : (c : Dev Cert.Kernel51Ideal.nD) → Buf (Elt Ideal) ((c.tc : Thread Cert.Kernel51Ideal.nD Cert.Kernel51Ideal.τ).loc Cert.Kernel51Ideal.main_v0)),
      θ_run (Cert.Kernel51Ideal.defs (F := Ideal)) (onTc (τ := Cert.Kernel51Ideal.τ) (Cert.Kernel51Ideal.main (F := Ideal))) ⟨m, fun _ => 0, g⟩ (fun r => ∀ c : Dev Cert.Kernel51Ideal.nD,
          r.2.mem ((c.tc : Thread Cert.Kernel51Ideal.nD Cert.Kernel51Ideal.τ).loc Cert.Kernel51Ideal.main_v0) = v0 c
          ∧ r.2.mem ((c.tc : Thread Cert.Kernel51Ideal.nD Cert.Kernel51Ideal.τ).loc Cert.Kernel51Ideal.main_arg0) = m ((c.tc : Thread Cert.Kernel51Ideal.nD Cert.Kernel51Ideal.τ).loc Cert.Kernel51Ideal.main_arg0)
          ∧ r.2.mem ((c.tc : Thread Cert.Kernel51Ideal.nD Cert.Kernel51Ideal.τ).loc Cert.Kernel51Ideal.main_arg1) = m ((c.tc : Thread Cert.Kernel51Ideal.nD Cert.Kernel51Ideal.τ).loc Cert.Kernel51Ideal.main_arg1)
          ∧ r.2.mem ((c.tc : Thread Cert.Kernel51Ideal.nD Cert.Kernel51Ideal.τ).loc Cert.Kernel51Ideal.main_arg2) = m ((c.tc : Thread Cert.Kernel51Ideal.nD Cert.Kernel51Ideal.τ).loc Cert.Kernel51Ideal.main_arg2))
      ∧ θ_run (Cert.Reference51Ideal.defs (F := Ideal)) (onTc (τ := Cert.Reference51Ideal.τ) (Cert.Reference51Ideal.main (F := Ideal))) ⟨m', fun _ => 0, g'⟩ (fun r => ∀ c : Dev Cert.Reference51Ideal.nD,
          r.2.mem ((c.tc : Thread Cert.Reference51Ideal.nD Cert.Reference51Ideal.τ).loc Cert.Reference51Ideal.main_v230) = v0 c
          ∧ r.2.mem ((c.tc : Thread Cert.Reference51Ideal.nD Cert.Reference51Ideal.τ).loc Cert.Reference51Ideal.main_arg0) = m' ((c.tc : Thread Cert.Reference51Ideal.nD Cert.Reference51Ideal.τ).loc Cert.Reference51Ideal.main_arg0)
          ∧ r.2.mem ((c.tc : Thread Cert.Reference51Ideal.nD Cert.Reference51Ideal.τ).loc Cert.Reference51Ideal.main_arg1) = m' ((c.tc : Thread Cert.Reference51Ideal.nD Cert.Reference51Ideal.τ).loc Cert.Reference51Ideal.main_arg1)
          ∧ r.2.mem ((c.tc : Thread Cert.Reference51Ideal.nD Cert.Reference51Ideal.τ).loc Cert.Reference51Ideal.main_arg2) = m' ((c.tc : Thread Cert.Reference51Ideal.nD Cert.Reference51Ideal.τ).loc Cert.Reference51Ideal.main_arg2))

def preserves_Kernel53_Kernel53Ideal : Prop :=
  True

def algebraic_Kernel53Ideal_Reference53Ideal [hKernel53Ideal : Cert.Kernel53Ideal.Facts] [hReference53Ideal : Cert.Reference53Ideal.Facts] : Prop :=
  ∀ (m : (ℓ : Loc Cert.Kernel53Ideal.nD Cert.Kernel53Ideal.τ Cert.Kernel53Ideal.sig) → Buf (Elt Ideal) ℓ) (g : Dev Cert.Kernel53Ideal.nD → PrngReg)
    (m' : (ℓ : Loc Cert.Reference53Ideal.nD Cert.Reference53Ideal.τ Cert.Reference53Ideal.sig) → Buf (Elt Ideal) ℓ) (g' : Dev Cert.Reference53Ideal.nD → PrngReg), Pre_Kernel53Ideal m →
    (∀ c : Dev Cert.Kernel53Ideal.nD,
      m' ((c.tc : Thread Cert.Reference53Ideal.nD Cert.Reference53Ideal.τ).loc Cert.Reference53Ideal.main_arg0) = m ((c.tc : Thread Cert.Kernel53Ideal.nD Cert.Kernel53Ideal.τ).loc Cert.Kernel53Ideal.main_arg0)
      ∧ m' ((c.tc : Thread Cert.Reference53Ideal.nD Cert.Reference53Ideal.τ).loc Cert.Reference53Ideal.main_arg1) = m ((c.tc : Thread Cert.Kernel53Ideal.nD Cert.Kernel53Ideal.τ).loc Cert.Kernel53Ideal.main_arg1)
      ∧ m' ((c.tc : Thread Cert.Reference53Ideal.nD Cert.Reference53Ideal.τ).loc Cert.Reference53Ideal.main_arg2) = m ((c.tc : Thread Cert.Kernel53Ideal.nD Cert.Kernel53Ideal.τ).loc Cert.Kernel53Ideal.main_arg2)) →
    ∃ (v0 : (c : Dev Cert.Kernel53Ideal.nD) → Buf (Elt Ideal) ((c.tc : Thread Cert.Kernel53Ideal.nD Cert.Kernel53Ideal.τ).loc Cert.Kernel53Ideal.main_v0)),
      θ_run (Cert.Kernel53Ideal.defs (F := Ideal)) (onTc (τ := Cert.Kernel53Ideal.τ) (Cert.Kernel53Ideal.main (F := Ideal))) ⟨m, fun _ => 0, g⟩ (fun r => ∀ c : Dev Cert.Kernel53Ideal.nD,
          r.2.mem ((c.tc : Thread Cert.Kernel53Ideal.nD Cert.Kernel53Ideal.τ).loc Cert.Kernel53Ideal.main_v0) = v0 c
          ∧ r.2.mem ((c.tc : Thread Cert.Kernel53Ideal.nD Cert.Kernel53Ideal.τ).loc Cert.Kernel53Ideal.main_arg0) = m ((c.tc : Thread Cert.Kernel53Ideal.nD Cert.Kernel53Ideal.τ).loc Cert.Kernel53Ideal.main_arg0)
          ∧ r.2.mem ((c.tc : Thread Cert.Kernel53Ideal.nD Cert.Kernel53Ideal.τ).loc Cert.Kernel53Ideal.main_arg1) = m ((c.tc : Thread Cert.Kernel53Ideal.nD Cert.Kernel53Ideal.τ).loc Cert.Kernel53Ideal.main_arg1)
          ∧ r.2.mem ((c.tc : Thread Cert.Kernel53Ideal.nD Cert.Kernel53Ideal.τ).loc Cert.Kernel53Ideal.main_arg2) = m ((c.tc : Thread Cert.Kernel53Ideal.nD Cert.Kernel53Ideal.τ).loc Cert.Kernel53Ideal.main_arg2))
      ∧ θ_run (Cert.Reference53Ideal.defs (F := Ideal)) (onTc (τ := Cert.Reference53Ideal.τ) (Cert.Reference53Ideal.main (F := Ideal))) ⟨m', fun _ => 0, g'⟩ (fun r => ∀ c : Dev Cert.Reference53Ideal.nD,
          r.2.mem ((c.tc : Thread Cert.Reference53Ideal.nD Cert.Reference53Ideal.τ).loc Cert.Reference53Ideal.main_v23) = v0 c
          ∧ r.2.mem ((c.tc : Thread Cert.Reference53Ideal.nD Cert.Reference53Ideal.τ).loc Cert.Reference53Ideal.main_arg0) = m' ((c.tc : Thread Cert.Reference53Ideal.nD Cert.Reference53Ideal.τ).loc Cert.Reference53Ideal.main_arg0)
          ∧ r.2.mem ((c.tc : Thread Cert.Reference53Ideal.nD Cert.Reference53Ideal.τ).loc Cert.Reference53Ideal.main_arg1) = m' ((c.tc : Thread Cert.Reference53Ideal.nD Cert.Reference53Ideal.τ).loc Cert.Reference53Ideal.main_arg1)
          ∧ r.2.mem ((c.tc : Thread Cert.Reference53Ideal.nD Cert.Reference53Ideal.τ).loc Cert.Reference53Ideal.main_arg2) = m' ((c.tc : Thread Cert.Reference53Ideal.nD Cert.Reference53Ideal.τ).loc Cert.Reference53Ideal.main_arg2))

def preserves_Kernel54_Kernel54Ideal : Prop :=
  True

def algebraic_Kernel54Ideal_Reference54Ideal [hKernel54Ideal : Cert.Kernel54Ideal.Facts] [hReference54Ideal : Cert.Reference54Ideal.Facts] : Prop :=
  ∀ (m : (ℓ : Loc Cert.Kernel54Ideal.nD Cert.Kernel54Ideal.τ Cert.Kernel54Ideal.sig) → Buf (Elt Ideal) ℓ) (g : Dev Cert.Kernel54Ideal.nD → PrngReg)
    (m' : (ℓ : Loc Cert.Reference54Ideal.nD Cert.Reference54Ideal.τ Cert.Reference54Ideal.sig) → Buf (Elt Ideal) ℓ) (g' : Dev Cert.Reference54Ideal.nD → PrngReg), Pre_Kernel54Ideal m →
    (∀ c : Dev Cert.Kernel54Ideal.nD,
      m' ((c.tc : Thread Cert.Reference54Ideal.nD Cert.Reference54Ideal.τ).loc Cert.Reference54Ideal.main_arg0) = m ((c.tc : Thread Cert.Kernel54Ideal.nD Cert.Kernel54Ideal.τ).loc Cert.Kernel54Ideal.main_arg0)
      ∧ m' ((c.tc : Thread Cert.Reference54Ideal.nD Cert.Reference54Ideal.τ).loc Cert.Reference54Ideal.main_arg1) = m ((c.tc : Thread Cert.Kernel54Ideal.nD Cert.Kernel54Ideal.τ).loc Cert.Kernel54Ideal.main_arg1)
      ∧ m' ((c.tc : Thread Cert.Reference54Ideal.nD Cert.Reference54Ideal.τ).loc Cert.Reference54Ideal.main_arg2) = m ((c.tc : Thread Cert.Kernel54Ideal.nD Cert.Kernel54Ideal.τ).loc Cert.Kernel54Ideal.main_arg2)
      ∧ m' ((c.tc : Thread Cert.Reference54Ideal.nD Cert.Reference54Ideal.τ).loc Cert.Reference54Ideal.main_arg3) = m ((c.tc : Thread Cert.Kernel54Ideal.nD Cert.Kernel54Ideal.τ).loc Cert.Kernel54Ideal.main_arg3)) →
    ∃ (v0 : (c : Dev Cert.Kernel54Ideal.nD) → Buf (Elt Ideal) ((c.tc : Thread Cert.Kernel54Ideal.nD Cert.Kernel54Ideal.τ).loc Cert.Kernel54Ideal.main_v0_0)) (v1 : (c : Dev Cert.Kernel54Ideal.nD) → Buf (Elt Ideal) ((c.tc : Thread Cert.Kernel54Ideal.nD Cert.Kernel54Ideal.τ).loc Cert.Kernel54Ideal.main_v0_1)) (v2 : (c : Dev Cert.Kernel54Ideal.nD) → Buf (Elt Ideal) ((c.tc : Thread Cert.Kernel54Ideal.nD Cert.Kernel54Ideal.τ).loc Cert.Kernel54Ideal.main_v0_2)),
      θ_run (Cert.Kernel54Ideal.defs (F := Ideal)) (onTc (τ := Cert.Kernel54Ideal.τ) (Cert.Kernel54Ideal.main (F := Ideal))) ⟨m, fun _ => 0, g⟩ (fun r => ∀ c : Dev Cert.Kernel54Ideal.nD,
          r.2.mem ((c.tc : Thread Cert.Kernel54Ideal.nD Cert.Kernel54Ideal.τ).loc Cert.Kernel54Ideal.main_v0_0) = v0 c
          ∧ r.2.mem ((c.tc : Thread Cert.Kernel54Ideal.nD Cert.Kernel54Ideal.τ).loc Cert.Kernel54Ideal.main_v0_1) = v1 c
          ∧ r.2.mem ((c.tc : Thread Cert.Kernel54Ideal.nD Cert.Kernel54Ideal.τ).loc Cert.Kernel54Ideal.main_v0_2) = v2 c
          ∧ r.2.mem ((c.tc : Thread Cert.Kernel54Ideal.nD Cert.Kernel54Ideal.τ).loc Cert.Kernel54Ideal.main_arg0) = m ((c.tc : Thread Cert.Kernel54Ideal.nD Cert.Kernel54Ideal.τ).loc Cert.Kernel54Ideal.main_arg0)
          ∧ r.2.mem ((c.tc : Thread Cert.Kernel54Ideal.nD Cert.Kernel54Ideal.τ).loc Cert.Kernel54Ideal.main_arg1) = m ((c.tc : Thread Cert.Kernel54Ideal.nD Cert.Kernel54Ideal.τ).loc Cert.Kernel54Ideal.main_arg1)
          ∧ r.2.mem ((c.tc : Thread Cert.Kernel54Ideal.nD Cert.Kernel54Ideal.τ).loc Cert.Kernel54Ideal.main_arg2) = m ((c.tc : Thread Cert.Kernel54Ideal.nD Cert.Kernel54Ideal.τ).loc Cert.Kernel54Ideal.main_arg2)
          ∧ r.2.mem ((c.tc : Thread Cert.Kernel54Ideal.nD Cert.Kernel54Ideal.τ).loc Cert.Kernel54Ideal.main_arg3) = m ((c.tc : Thread Cert.Kernel54Ideal.nD Cert.Kernel54Ideal.τ).loc Cert.Kernel54Ideal.main_arg3))
      ∧ θ_run (Cert.Reference54Ideal.defs (F := Ideal)) (onTc (τ := Cert.Reference54Ideal.τ) (Cert.Reference54Ideal.main (F := Ideal))) ⟨m', fun _ => 0, g'⟩ (fun r => ∀ c : Dev Cert.Reference54Ideal.nD,
          r.2.mem ((c.tc : Thread Cert.Reference54Ideal.nD Cert.Reference54Ideal.τ).loc Cert.Reference54Ideal.main_v59) = v0 c
          ∧ r.2.mem ((c.tc : Thread Cert.Reference54Ideal.nD Cert.Reference54Ideal.τ).loc Cert.Reference54Ideal.main_v33) = v1 c
          ∧ r.2.mem ((c.tc : Thread Cert.Reference54Ideal.nD Cert.Reference54Ideal.τ).loc Cert.Reference54Ideal.main_v30) = v2 c
          ∧ r.2.mem ((c.tc : Thread Cert.Reference54Ideal.nD Cert.Reference54Ideal.τ).loc Cert.Reference54Ideal.main_arg0) = m' ((c.tc : Thread Cert.Reference54Ideal.nD Cert.Reference54Ideal.τ).loc Cert.Reference54Ideal.main_arg0)
          ∧ r.2.mem ((c.tc : Thread Cert.Reference54Ideal.nD Cert.Reference54Ideal.τ).loc Cert.Reference54Ideal.main_arg1) = m' ((c.tc : Thread Cert.Reference54Ideal.nD Cert.Reference54Ideal.τ).loc Cert.Reference54Ideal.main_arg1)
          ∧ r.2.mem ((c.tc : Thread Cert.Reference54Ideal.nD Cert.Reference54Ideal.τ).loc Cert.Reference54Ideal.main_arg2) = m' ((c.tc : Thread Cert.Reference54Ideal.nD Cert.Reference54Ideal.τ).loc Cert.Reference54Ideal.main_arg2)
          ∧ r.2.mem ((c.tc : Thread Cert.Reference54Ideal.nD Cert.Reference54Ideal.τ).loc Cert.Reference54Ideal.main_arg3) = m' ((c.tc : Thread Cert.Reference54Ideal.nD Cert.Reference54Ideal.τ).loc Cert.Reference54Ideal.main_arg3))

def preserves_Kernel55_Kernel55Ideal : Prop :=
  True

def algebraic_Kernel55Ideal_Reference55Ideal [hKernel55Ideal : Cert.Kernel55Ideal.Facts] [hReference55Ideal : Cert.Reference55Ideal.Facts] : Prop :=
  ∀ (m : (ℓ : Loc Cert.Kernel55Ideal.nD Cert.Kernel55Ideal.τ Cert.Kernel55Ideal.sig) → Buf (Elt Ideal) ℓ) (g : Dev Cert.Kernel55Ideal.nD → PrngReg)
    (m' : (ℓ : Loc Cert.Reference55Ideal.nD Cert.Reference55Ideal.τ Cert.Reference55Ideal.sig) → Buf (Elt Ideal) ℓ) (g' : Dev Cert.Reference55Ideal.nD → PrngReg), Pre_Kernel55Ideal m →
    (∀ c : Dev Cert.Kernel55Ideal.nD,
      m' ((c.tc : Thread Cert.Reference55Ideal.nD Cert.Reference55Ideal.τ).loc Cert.Reference55Ideal.main_arg0) = m ((c.tc : Thread Cert.Kernel55Ideal.nD Cert.Kernel55Ideal.τ).loc Cert.Kernel55Ideal.main_arg0)
      ∧ m' ((c.tc : Thread Cert.Reference55Ideal.nD Cert.Reference55Ideal.τ).loc Cert.Reference55Ideal.main_arg1) = m ((c.tc : Thread Cert.Kernel55Ideal.nD Cert.Kernel55Ideal.τ).loc Cert.Kernel55Ideal.main_arg1)) →
    ∃ (v0 : (c : Dev Cert.Kernel55Ideal.nD) → Buf (Elt Ideal) ((c.tc : Thread Cert.Kernel55Ideal.nD Cert.Kernel55Ideal.τ).loc Cert.Kernel55Ideal.main_v0)),
      θ_run (Cert.Kernel55Ideal.defs (F := Ideal)) (onTc (τ := Cert.Kernel55Ideal.τ) (Cert.Kernel55Ideal.main (F := Ideal))) ⟨m, fun _ => 0, g⟩ (fun r => ∀ c : Dev Cert.Kernel55Ideal.nD,
          r.2.mem ((c.tc : Thread Cert.Kernel55Ideal.nD Cert.Kernel55Ideal.τ).loc Cert.Kernel55Ideal.main_v0) = v0 c
          ∧ r.2.mem ((c.tc : Thread Cert.Kernel55Ideal.nD Cert.Kernel55Ideal.τ).loc Cert.Kernel55Ideal.main_arg0) = m ((c.tc : Thread Cert.Kernel55Ideal.nD Cert.Kernel55Ideal.τ).loc Cert.Kernel55Ideal.main_arg0)
          ∧ r.2.mem ((c.tc : Thread Cert.Kernel55Ideal.nD Cert.Kernel55Ideal.τ).loc Cert.Kernel55Ideal.main_arg1) = m ((c.tc : Thread Cert.Kernel55Ideal.nD Cert.Kernel55Ideal.τ).loc Cert.Kernel55Ideal.main_arg1))
      ∧ θ_run (Cert.Reference55Ideal.defs (F := Ideal)) (onTc (τ := Cert.Reference55Ideal.τ) (Cert.Reference55Ideal.main (F := Ideal))) ⟨m', fun _ => 0, g'⟩ (fun r => ∀ c : Dev Cert.Reference55Ideal.nD,
          r.2.mem ((c.tc : Thread Cert.Reference55Ideal.nD Cert.Reference55Ideal.τ).loc Cert.Reference55Ideal.main_v4) = v0 c
          ∧ r.2.mem ((c.tc : Thread Cert.Reference55Ideal.nD Cert.Reference55Ideal.τ).loc Cert.Reference55Ideal.main_arg0) = m' ((c.tc : Thread Cert.Reference55Ideal.nD Cert.Reference55Ideal.τ).loc Cert.Reference55Ideal.main_arg0)
          ∧ r.2.mem ((c.tc : Thread Cert.Reference55Ideal.nD Cert.Reference55Ideal.τ).loc Cert.Reference55Ideal.main_arg1) = m' ((c.tc : Thread Cert.Reference55Ideal.nD Cert.Reference55Ideal.τ).loc Cert.Reference55Ideal.main_arg1))

def preserves_Kernel48_Kernel48Ideal : Prop :=
  True

def algebraic_Kernel48Ideal_Reference48Ideal_pre_finite_values [hKernel48Ideal : Cert.Kernel48Ideal.Facts] [hReference48Ideal : Cert.Reference48Ideal.Facts] [hPre_finite_values : Cert.Pre_finite_values.Facts] : Prop :=
  ∀ (m : (ℓ : Loc Cert.Kernel48Ideal.nD Cert.Kernel48Ideal.τ Cert.Kernel48Ideal.sig) → Buf (Elt Ideal) ℓ) (g : Dev Cert.Kernel48Ideal.nD → PrngReg)
    (m' : (ℓ : Loc Cert.Reference48Ideal.nD Cert.Reference48Ideal.τ Cert.Reference48Ideal.sig) → Buf (Elt Ideal) ℓ) (g' : Dev Cert.Reference48Ideal.nD → PrngReg), Pre_Kernel48Ideal_finite_values m →
    (∀ c : Dev Cert.Kernel48Ideal.nD,
      m' ((c.tc : Thread Cert.Reference48Ideal.nD Cert.Reference48Ideal.τ).loc Cert.Reference48Ideal.main_arg0) = m ((c.tc : Thread Cert.Kernel48Ideal.nD Cert.Kernel48Ideal.τ).loc Cert.Kernel48Ideal.main_arg0)
      ∧ m' ((c.tc : Thread Cert.Reference48Ideal.nD Cert.Reference48Ideal.τ).loc Cert.Reference48Ideal.main_arg1) = m ((c.tc : Thread Cert.Kernel48Ideal.nD Cert.Kernel48Ideal.τ).loc Cert.Kernel48Ideal.main_arg1)
      ∧ m' ((c.tc : Thread Cert.Reference48Ideal.nD Cert.Reference48Ideal.τ).loc Cert.Reference48Ideal.main_arg2) = m ((c.tc : Thread Cert.Kernel48Ideal.nD Cert.Kernel48Ideal.τ).loc Cert.Kernel48Ideal.main_arg2)) →
    ∃ (v0 : (c : Dev Cert.Kernel48Ideal.nD) → Buf (Elt Ideal) ((c.tc : Thread Cert.Kernel48Ideal.nD Cert.Kernel48Ideal.τ).loc Cert.Kernel48Ideal.main_v0_0)) (v1 : (c : Dev Cert.Kernel48Ideal.nD) → Buf (Elt Ideal) ((c.tc : Thread Cert.Kernel48Ideal.nD Cert.Kernel48Ideal.τ).loc Cert.Kernel48Ideal.main_v0_1)) (v2 : (c : Dev Cert.Kernel48Ideal.nD) → Buf (Elt Ideal) ((c.tc : Thread Cert.Kernel48Ideal.nD Cert.Kernel48Ideal.τ).loc Cert.Kernel48Ideal.main_v0_2)) (v3 : (c : Dev Cert.Kernel48Ideal.nD) → Buf (Elt Ideal) ((c.tc : Thread Cert.Kernel48Ideal.nD Cert.Kernel48Ideal.τ).loc Cert.Kernel48Ideal.main_v0_3)),
      θ_run (Cert.Kernel48Ideal.defs (F := Ideal)) (onTc (τ := Cert.Kernel48Ideal.τ) (Cert.Kernel48Ideal.main (F := Ideal))) ⟨m, fun _ => 0, g⟩ (fun r => ∀ c : Dev Cert.Kernel48Ideal.nD,
          r.2.mem ((c.tc : Thread Cert.Kernel48Ideal.nD Cert.Kernel48Ideal.τ).loc Cert.Kernel48Ideal.main_v0_0) = v0 c
          ∧ r.2.mem ((c.tc : Thread Cert.Kernel48Ideal.nD Cert.Kernel48Ideal.τ).loc Cert.Kernel48Ideal.main_v0_1) = v1 c
          ∧ r.2.mem ((c.tc : Thread Cert.Kernel48Ideal.nD Cert.Kernel48Ideal.τ).loc Cert.Kernel48Ideal.main_v0_2) = v2 c
          ∧ r.2.mem ((c.tc : Thread Cert.Kernel48Ideal.nD Cert.Kernel48Ideal.τ).loc Cert.Kernel48Ideal.main_v0_3) = v3 c
          ∧ r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0)
          ∧ r.2.mem ((c.tc : Thread Cert.Kernel48Ideal.nD Cert.Kernel48Ideal.τ).loc Cert.Kernel48Ideal.main_arg1) = m ((c.tc : Thread Cert.Kernel48Ideal.nD Cert.Kernel48Ideal.τ).loc Cert.Kernel48Ideal.main_arg1)
          ∧ r.2.mem ((c.tc : Thread Cert.Kernel48Ideal.nD Cert.Kernel48Ideal.τ).loc Cert.Kernel48Ideal.main_arg2) = m ((c.tc : Thread Cert.Kernel48Ideal.nD Cert.Kernel48Ideal.τ).loc Cert.Kernel48Ideal.main_arg2))
      ∧ θ_run (Cert.Reference48Ideal.defs (F := Ideal)) (onTc (τ := Cert.Reference48Ideal.τ) (Cert.Reference48Ideal.main (F := Ideal))) ⟨m', fun _ => 0, g'⟩ (fun r => ∀ c : Dev Cert.Reference48Ideal.nD,
          r.2.mem ((c.tc : Thread Cert.Reference48Ideal.nD Cert.Reference48Ideal.τ).loc Cert.Reference48Ideal.main_v68) = v0 c
          ∧ r.2.mem ((c.tc : Thread Cert.Reference48Ideal.nD Cert.Reference48Ideal.τ).loc Cert.Reference48Ideal.main_v69) = v1 c
          ∧ r.2.mem ((c.tc : Thread Cert.Reference48Ideal.nD Cert.Reference48Ideal.τ).loc Cert.Reference48Ideal.main_v70) = v2 c
          ∧ r.2.mem ((c.tc : Thread Cert.Reference48Ideal.nD Cert.Reference48Ideal.τ).loc Cert.Reference48Ideal.main_v71) = v3 c
          ∧ r.2.mem ((c.tc : Thread Cert.Reference48Ideal.nD Cert.Reference48Ideal.τ).loc Cert.Reference48Ideal.main_arg0) = m' ((c.tc : Thread Cert.Reference48Ideal.nD Cert.Reference48Ideal.τ).loc Cert.Reference48Ideal.main_arg0)
          ∧ r.2.mem ((c.tc : Thread Cert.Reference48Ideal.nD Cert.Reference48Ideal.τ).loc Cert.Reference48Ideal.main_arg1) = m' ((c.tc : Thread Cert.Reference48Ideal.nD Cert.Reference48Ideal.τ).loc Cert.Reference48Ideal.main_arg1)
          ∧ r.2.mem ((c.tc : Thread Cert.Reference48Ideal.nD Cert.Reference48Ideal.τ).loc Cert.Reference48Ideal.main_arg2) = m' ((c.tc : Thread Cert.Reference48Ideal.nD Cert.Reference48Ideal.τ).loc Cert.Reference48Ideal.main_arg2))

def preserves_Kernel52_Kernel52Ideal : Prop :=
  True

def algebraic_Kernel52Ideal_Reference52Ideal [hKernel52Ideal : Cert.Kernel52Ideal.Facts] [hReference52Ideal : Cert.Reference52Ideal.Facts] : Prop :=
  ∀ (m : (ℓ : Loc Cert.Kernel52Ideal.nD Cert.Kernel52Ideal.τ Cert.Kernel52Ideal.sig) → Buf (Elt Ideal) ℓ) (g : Dev Cert.Kernel52Ideal.nD → PrngReg)
    (m' : (ℓ : Loc Cert.Reference52Ideal.nD Cert.Reference52Ideal.τ Cert.Reference52Ideal.sig) → Buf (Elt Ideal) ℓ) (g' : Dev Cert.Reference52Ideal.nD → PrngReg), Pre_Kernel52Ideal m →
    (∀ c : Dev Cert.Kernel52Ideal.nD,
      m' ((c.tc : Thread Cert.Reference52Ideal.nD Cert.Reference52Ideal.τ).loc Cert.Reference52Ideal.main_arg0) = m ((c.tc : Thread Cert.Kernel52Ideal.nD Cert.Kernel52Ideal.τ).loc Cert.Kernel52Ideal.main_arg0)
      ∧ m' ((c.tc : Thread Cert.Reference52Ideal.nD Cert.Reference52Ideal.τ).loc Cert.Reference52Ideal.main_arg1) = m ((c.tc : Thread Cert.Kernel52Ideal.nD Cert.Kernel52Ideal.τ).loc Cert.Kernel52Ideal.main_arg1)
      ∧ m' ((c.tc : Thread Cert.Reference52Ideal.nD Cert.Reference52Ideal.τ).loc Cert.Reference52Ideal.main_arg2) = m ((c.tc : Thread Cert.Kernel52Ideal.nD Cert.Kernel52Ideal.τ).loc Cert.Kernel52Ideal.main_arg2)) →
    ∃ (v0 : (c : Dev Cert.Kernel52Ideal.nD) → Buf (Elt Ideal) ((c.tc : Thread Cert.Kernel52Ideal.nD Cert.Kernel52Ideal.τ).loc Cert.Kernel52Ideal.main_v0_0)) (v1 : (c : Dev Cert.Kernel52Ideal.nD) → Buf (Elt Ideal) ((c.tc : Thread Cert.Kernel52Ideal.nD Cert.Kernel52Ideal.τ).loc Cert.Kernel52Ideal.main_v0_1)) (v2 : (c : Dev Cert.Kernel52Ideal.nD) → Buf (Elt Ideal) ((c.tc : Thread Cert.Kernel52Ideal.nD Cert.Kernel52Ideal.τ).loc Cert.Kernel52Ideal.main_v0_2)) (v3 : (c : Dev Cert.Kernel52Ideal.nD) → Buf (Elt Ideal) ((c.tc : Thread Cert.Kernel52Ideal.nD Cert.Kernel52Ideal.τ).loc Cert.Kernel52Ideal.main_v0_3)),
      θ_run (Cert.Kernel52Ideal.defs (F := Ideal)) (onTc (τ := Cert.Kernel52Ideal.τ) (Cert.Kernel52Ideal.main (F := Ideal))) ⟨m, fun _ => 0, g⟩ (fun r => ∀ c : Dev Cert.Kernel52Ideal.nD,
          r.2.mem ((c.tc : Thread Cert.Kernel52Ideal.nD Cert.Kernel52Ideal.τ).loc Cert.Kernel52Ideal.main_v0_0) = v0 c
          ∧ r.2.mem ((c.tc : Thread Cert.Kernel52Ideal.nD Cert.Kernel52Ideal.τ).loc Cert.Kernel52Ideal.main_v0_1) = v1 c
          ∧ r.2.mem ((c.tc : Thread Cert.Kernel52Ideal.nD Cert.Kernel52Ideal.τ).loc Cert.Kernel52Ideal.main_v0_2) = v2 c
          ∧ r.2.mem ((c.tc : Thread Cert.Kernel52Ideal.nD Cert.Kernel52Ideal.τ).loc Cert.Kernel52Ideal.main_v0_3) = v3 c
          ∧ r.2.mem ((c.tc : Thread Cert.Kernel52Ideal.nD Cert.Kernel52Ideal.τ).loc Cert.Kernel52Ideal.main_arg0) = m ((c.tc : Thread Cert.Kernel52Ideal.nD Cert.Kernel52Ideal.τ).loc Cert.Kernel52Ideal.main_arg0)
          ∧ r.2.mem ((c.tc : Thread Cert.Kernel52Ideal.nD Cert.Kernel52Ideal.τ).loc Cert.Kernel52Ideal.main_arg1) = m ((c.tc : Thread Cert.Kernel52Ideal.nD Cert.Kernel52Ideal.τ).loc Cert.Kernel52Ideal.main_arg1)
          ∧ r.2.mem ((c.tc : Thread Cert.Kernel52Ideal.nD Cert.Kernel52Ideal.τ).loc Cert.Kernel52Ideal.main_arg2) = m ((c.tc : Thread Cert.Kernel52Ideal.nD Cert.Kernel52Ideal.τ).loc Cert.Kernel52Ideal.main_arg2))
      ∧ θ_run (Cert.Reference52Ideal.defs (F := Ideal)) (onTc (τ := Cert.Reference52Ideal.τ) (Cert.Reference52Ideal.main (F := Ideal))) ⟨m', fun _ => 0, g'⟩ (fun r => ∀ c : Dev Cert.Reference52Ideal.nD,
          r.2.mem ((c.tc : Thread Cert.Reference52Ideal.nD Cert.Reference52Ideal.τ).loc Cert.Reference52Ideal.main_v586) = v0 c
          ∧ r.2.mem ((c.tc : Thread Cert.Reference52Ideal.nD Cert.Reference52Ideal.τ).loc Cert.Reference52Ideal.main_v587) = v1 c
          ∧ r.2.mem ((c.tc : Thread Cert.Reference52Ideal.nD Cert.Reference52Ideal.τ).loc Cert.Reference52Ideal.main_v589) = v2 c
          ∧ r.2.mem ((c.tc : Thread Cert.Reference52Ideal.nD Cert.Reference52Ideal.τ).loc Cert.Reference52Ideal.main_v238) = v3 c
          ∧ r.2.mem ((c.tc : Thread Cert.Reference52Ideal.nD Cert.Reference52Ideal.τ).loc Cert.Reference52Ideal.main_arg0) = m' ((c.tc : Thread Cert.Reference52Ideal.nD Cert.Reference52Ideal.τ).loc Cert.Reference52Ideal.main_arg0)
          ∧ r.2.mem ((c.tc : Thread Cert.Reference52Ideal.nD Cert.Reference52Ideal.τ).loc Cert.Reference52Ideal.main_arg1) = m' ((c.tc : Thread Cert.Reference52Ideal.nD Cert.Reference52Ideal.τ).loc Cert.Reference52Ideal.main_arg1)
          ∧ r.2.mem ((c.tc : Thread Cert.Reference52Ideal.nD Cert.Reference52Ideal.τ).loc Cert.Reference52Ideal.main_arg2) = m' ((c.tc : Thread Cert.Reference52Ideal.nD Cert.Reference52Ideal.τ).loc Cert.Reference52Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel44 : Cert.Kernel44.Facts) (hKernel44Ideal : Cert.Kernel44Ideal.Facts) (hReference44Ideal : Cert.Reference44Ideal.Facts) (hKernel45 : Cert.Kernel45.Facts) (hKernel45Ideal : Cert.Kernel45Ideal.Facts) (hReference45Ideal : Cert.Reference45Ideal.Facts) (hKernel46 : Cert.Kernel46.Facts) (hKernel46Ideal : Cert.Kernel46Ideal.Facts) (hReference46Ideal : Cert.Reference46Ideal.Facts) (hKernel47 : Cert.Kernel47.Facts) (hKernel47Ideal : Cert.Kernel47Ideal.Facts) (hReference47Ideal : Cert.Reference47Ideal.Facts) (hKernel49 : Cert.Kernel49.Facts) (hKernel49Ideal : Cert.Kernel49Ideal.Facts) (hReference49Ideal : Cert.Reference49Ideal.Facts) (hKernel50 : Cert.Kernel50.Facts) (hKernel50Ideal : Cert.Kernel50Ideal.Facts) (hReference50Ideal : Cert.Reference50Ideal.Facts) (hKernel51 : Cert.Kernel51.Facts) (hKernel51Ideal : Cert.Kernel51Ideal.Facts) (hReference51Ideal : Cert.Reference51Ideal.Facts) (hKernel53 : Cert.Kernel53.Facts) (hKernel53Ideal : Cert.Kernel53Ideal.Facts) (hReference53Ideal : Cert.Reference53Ideal.Facts) (hKernel54 : Cert.Kernel54.Facts) (hKernel54Ideal : Cert.Kernel54Ideal.Facts) (hReference54Ideal : Cert.Reference54Ideal.Facts) (hKernel55 : Cert.Kernel55.Facts) (hKernel55Ideal : Cert.Kernel55Ideal.Facts) (hReference55Ideal : Cert.Reference55Ideal.Facts) (hKernel48 : Cert.Kernel48.Facts) (hKernel48Ideal : Cert.Kernel48Ideal.Facts) (hReference48Ideal : Cert.Reference48Ideal.Facts) (hKernel52 : Cert.Kernel52.Facts) (hKernel52Ideal : Cert.Kernel52Ideal.Facts) (hReference52Ideal : Cert.Reference52Ideal.Facts) (hPre_finite_scores : Cert.Pre_finite_scores.Facts) (hPre_finite_values : Cert.Pre_finite_values.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel44 (hKernel44 := hKernel44)
    ∧ quiescent_Kernel44Ideal (hKernel44Ideal := hKernel44Ideal)
    ∧ quiescent_Reference44Ideal (hReference44Ideal := hReference44Ideal)
    ∧ quiescent_Kernel45 (hKernel45 := hKernel45)
    ∧ quiescent_Kernel45Ideal (hKernel45Ideal := hKernel45Ideal)
    ∧ quiescent_Reference45Ideal (hReference45Ideal := hReference45Ideal)
    ∧ quiescent_Kernel46 (hKernel46 := hKernel46)
    ∧ quiescent_Kernel46Ideal (hKernel46Ideal := hKernel46Ideal)
    ∧ quiescent_Reference46Ideal (hReference46Ideal := hReference46Ideal)
    ∧ quiescent_Kernel47 (hKernel47 := hKernel47)
    ∧ quiescent_Kernel47Ideal (hKernel47Ideal := hKernel47Ideal)
    ∧ quiescent_Reference47Ideal (hReference47Ideal := hReference47Ideal)
    ∧ quiescent_Kernel49 (hKernel49 := hKernel49)
    ∧ quiescent_Kernel49Ideal (hKernel49Ideal := hKernel49Ideal)
    ∧ quiescent_Reference49Ideal (hReference49Ideal := hReference49Ideal)
    ∧ quiescent_Kernel50 (hKernel50 := hKernel50)
    ∧ quiescent_Kernel50Ideal (hKernel50Ideal := hKernel50Ideal)
    ∧ quiescent_Reference50Ideal (hReference50Ideal := hReference50Ideal)
    ∧ quiescent_Kernel51 (hKernel51 := hKernel51)
    ∧ quiescent_Kernel51Ideal (hKernel51Ideal := hKernel51Ideal)
    ∧ quiescent_Reference51Ideal (hReference51Ideal := hReference51Ideal)
    ∧ quiescent_Kernel53 (hKernel53 := hKernel53)
    ∧ quiescent_Kernel53Ideal (hKernel53Ideal := hKernel53Ideal)
    ∧ quiescent_Reference53Ideal (hReference53Ideal := hReference53Ideal)
    ∧ quiescent_Kernel54 (hKernel54 := hKernel54)
    ∧ quiescent_Kernel54Ideal (hKernel54Ideal := hKernel54Ideal)
    ∧ quiescent_Reference54Ideal (hReference54Ideal := hReference54Ideal)
    ∧ quiescent_Kernel55 (hKernel55 := hKernel55)
    ∧ quiescent_Kernel55Ideal (hKernel55Ideal := hKernel55Ideal)
    ∧ quiescent_Reference55Ideal (hReference55Ideal := hReference55Ideal)
    ∧ quiescent_Kernel48 (hKernel48 := hKernel48)
    ∧ quiescent_Kernel48Ideal (hKernel48Ideal := hKernel48Ideal)
    ∧ quiescent_Kernel48Ideal_pre_finite_values (hKernel48Ideal := hKernel48Ideal) (hPre_finite_values := hPre_finite_values)
    ∧ quiescent_Reference48Ideal (hReference48Ideal := hReference48Ideal)
    ∧ quiescent_Reference48Ideal_pre_finite_values (hReference48Ideal := hReference48Ideal) (hPre_finite_values := hPre_finite_values)
    ∧ quiescent_Kernel52 (hKernel52 := hKernel52)
    ∧ quiescent_Kernel52Ideal (hKernel52Ideal := hKernel52Ideal)
    ∧ quiescent_Reference52Ideal (hReference52Ideal := hReference52Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel44_Kernel44Ideal
    ∧ algebraic_Kernel44Ideal_Reference44Ideal (hKernel44Ideal := hKernel44Ideal) (hReference44Ideal := hReference44Ideal)
    ∧ preserves_Kernel45_Kernel45Ideal
    ∧ algebraic_Kernel45Ideal_Reference45Ideal (hKernel45Ideal := hKernel45Ideal) (hReference45Ideal := hReference45Ideal)
    ∧ preserves_Kernel46_Kernel46Ideal
    ∧ algebraic_Kernel46Ideal_Reference46Ideal (hKernel46Ideal := hKernel46Ideal) (hReference46Ideal := hReference46Ideal)
    ∧ preserves_Kernel47_Kernel47Ideal
    ∧ algebraic_Kernel47Ideal_Reference47Ideal (hKernel47Ideal := hKernel47Ideal) (hReference47Ideal := hReference47Ideal)
    ∧ preserves_Kernel49_Kernel49Ideal
    ∧ algebraic_Kernel49Ideal_Reference49Ideal (hKernel49Ideal := hKernel49Ideal) (hReference49Ideal := hReference49Ideal)
    ∧ preserves_Kernel50_Kernel50Ideal
    ∧ algebraic_Kernel50Ideal_Reference50Ideal (hKernel50Ideal := hKernel50Ideal) (hReference50Ideal := hReference50Ideal)
    ∧ preserves_Kernel51_Kernel51Ideal
    ∧ algebraic_Kernel51Ideal_Reference51Ideal (hKernel51Ideal := hKernel51Ideal) (hReference51Ideal := hReference51Ideal)
    ∧ preserves_Kernel53_Kernel53Ideal
    ∧ algebraic_Kernel53Ideal_Reference53Ideal (hKernel53Ideal := hKernel53Ideal) (hReference53Ideal := hReference53Ideal)
    ∧ preserves_Kernel54_Kernel54Ideal
    ∧ algebraic_Kernel54Ideal_Reference54Ideal (hKernel54Ideal := hKernel54Ideal) (hReference54Ideal := hReference54Ideal)
    ∧ preserves_Kernel55_Kernel55Ideal
    ∧ algebraic_Kernel55Ideal_Reference55Ideal (hKernel55Ideal := hKernel55Ideal) (hReference55Ideal := hReference55Ideal)
    ∧ preserves_Kernel48_Kernel48Ideal
    ∧ algebraic_Kernel48Ideal_Reference48Ideal_pre_finite_values (hKernel48Ideal := hKernel48Ideal) (hReference48Ideal := hReference48Ideal) (hPre_finite_values := hPre_finite_values)
    ∧ preserves_Kernel52_Kernel52Ideal
    ∧ algebraic_Kernel52Ideal_Reference52Ideal (hKernel52Ideal := hKernel52Ideal) (hReference52Ideal := hReference52Ideal)
-- ==== Pre_finite_scores.lean ====
abbrev S2048x1024 : Shape := ⟨2, ![2048, 1024]⟩
abbrev S256x2048 : Shape := ⟨2, ![256, 2048]⟩
abbrev S_ : Shape := ⟨0, ![]⟩
abbrev S256x1024 : Shape := ⟨2, ![256, 1024]⟩

class Facts : Prop where
  bitsLt_bf16_f32 : FTy.bits .bf16 < FTy.bits .f32
  bcast_S_S2048x1024 : S_.BroadcastsInDim S2048x1024 (![] : Fin 0 → Fin S2048x1024.rank)
  slices_S256x2048_S256x1024_0_0 : S256x2048.Slices ![0, 0] S256x1024
  bcast_S_S256x1024 : S_.BroadcastsInDim S256x1024 (![] : Fin 0 → Fin S256x1024.rank)

variable [Facts]

def fn {F : FTy → Type} [FloatOps F] (main_arg0 : FVec F S2048x1024 .bf16) (main_arg1 : FVec F S256x2048 .bf16) (main_arg2 : FVec F S2048x1024 .f32) : IVec S2048x1024 1 × IVec S256x1024 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S256x1024 .bf16 := (extractStridedSlice S256x1024 ![0, 0] · slices_S256x2048_S256x1024_0_0) main_arg1
  let main_v5 : FVec F S256x1024 .f32 := (extf .f32 · bitsLt_bf16_f32) main_v4
  let main_v6 : FVec F S256x1024 .f32 := Host.absf main_v5
  let main_cst_0 : FVec F S_ .f32 := constant S_ .f32 0x7F800000#32
  let main_v7 : FVec F S256x1024 .f32 := broadcastInDim S256x1024 ![] bcast_S_S256x1024 main_cst_0
  let main_v8 : IVec S256x1024 1 := cmpf .olt main_v6 main_v7
  (main_v3, main_v8)
-- ==== Pre_finite_values.lean ====
abbrev S2048x6144 : Shape := ⟨2, ![2048, 6144]⟩
abbrev S3x6144 : Shape := ⟨2, ![3, 6144]⟩
abbrev S2048x3072 : Shape := ⟨2, ![2048, 3072]⟩
abbrev S_ : Shape := ⟨0, ![]⟩
abbrev S3x3072 : Shape := ⟨2, ![3, 3072]⟩

class Facts : Prop where
  slices_S2048x6144_S2048x3072_0_3072 : S2048x6144.Slices ![0, 3072] S2048x3072
  bcast_S_S2048x3072 : S_.BroadcastsInDim S2048x3072 (![] : Fin 0 → Fin S2048x3072.rank)
  slices_S3x6144_S3x3072_0_3072 : S3x6144.Slices ![0, 3072] S3x3072
  bcast_S_S3x3072 : S_.BroadcastsInDim S3x3072 (![] : Fin 0 → Fin S3x3072.rank)

variable [Facts]

def fn {F : FTy → Type} [FloatOps F] (main_arg0 : FVec F S2048x6144 .f32) (main_arg1 : FVec F S3x6144 .f32) (main_arg2 : FVec F S2048x3072 .f32) : IVec S2048x3072 1 × IVec S3x3072 1 × IVec S2048x3072 1 :=
  let main_v0 : FVec F S2048x3072 .f32 := (extractStridedSlice S2048x3072 ![0, 3072] · slices_S2048x6144_S2048x3072_0_3072) main_arg0
  let main_v1 : FVec F S2048x3072 .f32 := Host.absf main_v0
  let main_cst : FVec F S_ .f32 := constant S_ .f32 0x7F800000#32
  let main_v2 : FVec F S2048x3072 .f32 := broadcastInDim S2048x3072 ![] bcast_S_S2048x3072 main_cst
  let main_v3 : IVec S2048x3072 1 := cmpf .olt main_v1 main_v2
  let main_v4 : FVec F S3x3072 .f32 := (extractStridedSlice S3x3072 ![0, 3072] · slices_S3x6144_S3x3072_0_3072) main_arg1
  let main_v5 : FVec F S3x3072 .f32 := Host.absf main_v4
  let main_cst_0 : FVec F S_ .f32 := constant S_ .f32 0x7F800000#32
  let main_v6 : FVec F S3x3072 .f32 := broadcastInDim S3x3072 ![] bcast_S_S3x3072 main_cst_0
  let main_v7 : IVec S3x3072 1 := cmpf .olt main_v5 main_v6
  let main_v8 : FVec F S2048x3072 .f32 := Host.absf main_arg2
  let main_cst_1 : FVec F S_ .f32 := constant S_ .f32 0x7F800000#32
  let main_v9 : FVec F S2048x3072 .f32 := broadcastInDim S2048x3072 ![] bcast_S_S2048x3072 main_cst_1
  let main_v10 : IVec S2048x3072 1 := cmpf .olt main_v8 main_v9
  (main_v3, main_v7, main_v10)
-- ==== Kernel.lean ====
abbrev S2048x1024 : Shape := ⟨2, ![2048, 1024]⟩
abbrev S256x2048 : Shape := ⟨2, ![256, 2048]⟩
abbrev S256x1024 : Shape := ⟨2, ![256, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 6
  | .vmem => 14
  | .smem => 0
  | _ => 0

abbrev bufTy : (tb : Table) → Fin (tcTables nBuf tb) → BufTy
  | .hbm, ⟨0, _⟩ => ⟨S2048x1024, .bf16⟩
  | .hbm, ⟨1, _⟩ => ⟨S256x2048, .bf16⟩
  | .hbm, ⟨2, _⟩ => ⟨S2048x1024, .f32⟩
  | .hbm, ⟨3, _⟩ => ⟨S2048x1024, .f32⟩
  | .hbm, ⟨4, _⟩ => ⟨S256x1024, .f32⟩
  | .hbm, ⟨5, _⟩ => ⟨S256x1024, .f32⟩
  | .local _ .vmem, ⟨0, _⟩ => ⟨S512x256, .bf16⟩
  | .local _ .vmem, ⟨1, _⟩ => ⟨S512x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S2048x1024 : Shape := ⟨2, ![2048, 1024]⟩
abbrev S256x2048 : Shape := ⟨2, ![256, 2048]⟩
abbrev S256x1024 : Shape := ⟨2, ![256, 1024]⟩
abbrev S1x2048x4x256 : Shape := ⟨4, ![1, 2048, 4, 256]⟩
abbrev S1x256x4x256 : Shape := ⟨4, ![1, 256, 4, 256]⟩
abbrev S1x4x2048x256 : Shape := ⟨4, ![1, 4, 2048, 256]⟩
abbrev S_ : Shape := ⟨0, ![]⟩
abbrev S1x4x2048 : Shape := ⟨3, ![1, 4, 2048]⟩
abbrev S1x4x2048x1 : Shape := ⟨4, ![1, 4, 2048, 1]⟩
abbrev S1x4x256x2048 : Shape := ⟨4, ![1, 4, 256, 2048]⟩
abbrev S1x4x256x256 : Shape := ⟨4, ![1, 4, 256, 256]⟩
abbrev S4x2048 : Shape := ⟨2, ![4, 2048]⟩

abbrev nBuf : Space → Nat
  | .hbm => 85
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S256x2048, .bf16⟩
  | .hbm, ⟨2, _⟩ => ⟨S2048x1024, .f32⟩
  | .hbm, ⟨3, _⟩ => ⟨S2048x1024, .f32⟩
  | .hbm, ⟨4, _⟩ => ⟨S256x2048, .f32⟩
  | .hbm, ⟨5, _⟩ => ⟨S256x1024, .f32⟩
  | .hbm, ⟨6, _⟩ => ⟨S256x1024, .f32⟩
  | .hbm, ⟨7, _⟩ => ⟨S1x2048x4x256, .f32⟩
  | .hbm, ⟨8, _⟩ => ⟨S1x256x4x256, .f32⟩
  | .hbm, ⟨9, _⟩ => ⟨S1x256x4x256, .f32⟩
  | .hbm, ⟨10, _⟩ => ⟨S1x4x2048x256, .f32⟩
  | .hbm, ⟨11, _⟩ => ⟨S_, .f32⟩
  | .hbm, ⟨12, _⟩ => ⟨S1x4x2048x256, .f32⟩
  | .hbm, ⟨13, _⟩ => ⟨S1x4x2048x256, .f32⟩
  | .hbm, ⟨14, _⟩ => ⟨S_, .f32⟩
  | .hbm, ⟨15, _⟩ => ⟨S1x4x2048, .f32⟩
  | .hbm, ⟨16, _⟩ => ⟨S1x4x2048x1, .f32⟩
  | .hbm, ⟨17, _⟩ => ⟨S1x4x2048x256, .f32⟩
  | .hbm, ⟨18, _⟩ => ⟨S1x4x2048x256, .i1⟩
  | .hbm, ⟨19, _⟩ => ⟨S1x4x2048x256, .f32⟩
  | .hbm, ⟨20, _⟩ => ⟨S_, .f32⟩
  | .hbm, ⟨21, _⟩ => ⟨S1x4x2048, .f32⟩
  | .hbm, ⟨22, _⟩ => ⟨S_, .f32⟩
  | .hbm, ⟨23, _⟩ => ⟨S1x4x2048, .f32⟩
  | .hbm, ⟨24, _⟩ => ⟨S1x4x2048, .f32⟩
  | .hbm, ⟨25, _⟩ => ⟨S_, .f32⟩
  | .hbm, ⟨26, _⟩ => ⟨S1x4x2048, .f32⟩
  | .hbm, ⟨27, _⟩ => ⟨S1x4x2048, .i1⟩
  | .hbm, ⟨28, _⟩ => ⟨S_, .f32⟩
  | .hbm, ⟨29, _⟩ => ⟨S1x4x2048, .f32⟩
  | .hbm, ⟨30, _⟩ => ⟨S1x4x2048, .i1⟩
  | .hbm, ⟨31, _⟩ => ⟨S_, .f32⟩
  | .hbm, ⟨32, _⟩ => ⟨S1x4x2048, .f32⟩
  | .hbm, ⟨33, _⟩ => ⟨S_, .f32⟩
  | .hbm, ⟨34, _⟩ => ⟨S1x4x2048, .f32⟩
  | .hbm, ⟨35, _⟩ => ⟨S_, .f32⟩
  | .hbm, ⟨36, _⟩ => ⟨S1x4x2048, .f32⟩
  | .hbm, ⟨37, _⟩ => ⟨S1x4x2048, .f32⟩
  | .hbm, ⟨38, _⟩ => ⟨S1x4x2048, .f32⟩
  | .hbm, ⟨39, _⟩ => ⟨S1x4x2048x1, .f32⟩
  | .hbm, ⟨40, _⟩ => ⟨S1x4x2048x256, .f32⟩
  | .hbm, ⟨41, _⟩ => ⟨S1x4x2048x256, .f32⟩
  | .hbm, ⟨42, _⟩ => ⟨S1x4x2048x256, .f32⟩
  | .hbm, ⟨43, _⟩ => ⟨S_, .f32⟩
  | .hbm, ⟨44, _⟩ => ⟨S1x4x2048, .f32⟩
  | .hbm, ⟨45, _⟩ => ⟨S1x4x2048x1, .f32⟩
  | .hbm, ⟨46, _⟩ => ⟨S1x4x2048x256, .f32⟩
  | .hbm, ⟨47, _⟩ => ⟨S1x4x2048x256, .f32⟩
  | .hbm, ⟨48, _⟩ => ⟨S1x4x2048x1, .f32⟩
  | .hbm, ⟨49, _⟩ => ⟨S_, .f32⟩
  | .hbm, ⟨50, _⟩ => ⟨S1x4x2048x1, .f32⟩
  | .hbm, ⟨51, _⟩ => ⟨S1x4x2048x1, .f32⟩
  | .hbm, ⟨52, _⟩ => ⟨S1x4x256x2048, .f32⟩
  | .hbm, ⟨53, _⟩ => ⟨S1x2048x4x256, .f32⟩
  | .hbm, ⟨54, _⟩ => ⟨S2048x1024, .f32⟩
  | .hbm, ⟨55, _⟩ => ⟨S1x2048x4x256, .f32⟩
  | .hbm, ⟨56, _⟩ => ⟨S1x4x256x2048, .f32⟩
  | .hbm, ⟨57, _⟩ => ⟨S1x4x2048x256, .f32⟩
  | .hbm, ⟨58, _⟩ => ⟨S1x4x256x256, .f32⟩
  | .hbm, ⟨59, _⟩ => ⟨S1x256x4x256, .f32⟩
  | .hbm, ⟨60, _⟩ => ⟨S1x4x2048x256, .f32⟩
  | .hbm, ⟨61, _⟩ => ⟨S1x4x2048x256, .f32⟩
  | .hbm, ⟨62, _⟩ => ⟨S1x4x2048x256, .f32⟩
  | .hbm, ⟨63, _⟩ => ⟨S_, .f32⟩
  | .hbm, ⟨64, _⟩ => ⟨S1x4x2048, .f32⟩
  | .hbm, ⟨65, _⟩ => ⟨S1x4x2048x1, .f32⟩
  | .hbm, ⟨66, _⟩ => ⟨S1x4x2048x1, .f32⟩
  | .hbm, ⟨67, _⟩ => ⟨S1x4x2048x256, .f32⟩
  | .hbm, ⟨68, _⟩ => ⟨S1x4x2048x256, .f32⟩
  | .hbm, ⟨69, _⟩ => ⟨S_, .f32⟩
  | .hbm, ⟨70, _⟩ => ⟨S4x2048, .f32⟩
  | .hbm, ⟨71, _⟩ => ⟨S1x4x2048, .f32⟩
  | .hbm, ⟨72, _⟩ => ⟨S1x4x2048x256, .f32⟩
  | .hbm, ⟨73, _⟩ => ⟨S1x4x2048x256, .f32⟩
  | .hbm, ⟨74, _⟩ => ⟨S1x4x2048x256, .f32⟩
  | .hbm, ⟨75, _⟩ => ⟨S_, .f32⟩
  | .hbm, ⟨76, _⟩ => ⟨S1x4x2048x256, .f32⟩
  | .hbm, ⟨77, _⟩ => ⟨S1x4x2048x256, .f32⟩
  | .hbm, ⟨78, _⟩ => ⟨S1x4x256x256, .f32⟩
  | .hbm, ⟨79, _⟩ => ⟨S1x256x4x256, .f32⟩
  | .hbm, ⟨80, _⟩ => ⟨S1x4x2048x256, .f32⟩
  | .hbm, ⟨81, _⟩ => ⟨S1x2048x4x256, .f32⟩
  | .hbm, ⟨82, _⟩ => ⟨S256x1024, .f32⟩
  | .hbm, ⟨83, _⟩ => ⟨S256x1024, .f32⟩
  | .hbm, ⟨84, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩

abbrev nD : Nat := 1
abbrev τ : Topo := Topo.v7x

variable {F : FTy → Type} [FloatOps F]
-- ==== Kernel2.lean ====
abbrev S2816x1024 : Shape := ⟨2, ![2816, 1024]⟩
abbrev S2048x1024 : Shape := ⟨2, ![2048, 1024]⟩
abbrev S4x704x1024 : Shape := ⟨3, ![4, 704, 1024]⟩
abbrev S_ : Shape := ⟨0, ![]⟩
abbrev S4x768x1024 : Shape := ⟨3, ![4, 768, 1024]⟩
abbrev S3072x1024 : Shape := ⟨2, ![3072, 1024]⟩
abbrev S2048x3072 : Shape := ⟨2, ![2048, 3072]⟩
abbrev S1024x1024 : Shape := ⟨2, ![1024, 1024]⟩
abbrev S2048x4x768 : Shape := ⟨3, ![2048, 4, 768]⟩
abbrev S2048x4x704 : Shape := ⟨3, ![2048, 4, 704]⟩
abbrev S2048x2816 : Shape := ⟨2, ![2048, 2816]⟩

abbrev nBuf : Space → Nat
  | .hbm => 11
  | .vmem => 7
  | .smem => 0
  | _ => 0

abbrev bufTy : (tb : Table) → Fin (tcTables nBuf tb) → BufTy
  | .hbm, ⟨0, _⟩ => ⟨S2816x1024, .bf16⟩
  | .hbm, ⟨1, _⟩ => ⟨S2048x1024, .f32⟩
  | .hbm, ⟨2, _⟩ => ⟨S4x704x1024, .bf16⟩
  | .hbm, ⟨3, _⟩ => ⟨S_, .i32⟩
  | .hbm, ⟨4, _⟩ => ⟨S_, .bf16⟩
  | .hbm, ⟨5, _⟩ => ⟨S4x768x1024, .bf16⟩
  | .hbm, ⟨6, _⟩ => ⟨S3072x1024, .bf16⟩
  | .hbm, ⟨7, _⟩ => ⟨S2048x3072, .f32⟩
  | .hbm, ⟨8, _⟩ => ⟨S2048x4x768, .f32⟩
  | .hbm, ⟨9, _⟩ => ⟨S2048x4x704, .f32⟩
  | .hbm, ⟨10, _⟩ => ⟨S2048x2816, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2816x1024 : Shape := ⟨2, ![2816, 1024]⟩
abbrev S2048x1024 : Shape := ⟨2, ![2048, 1024]⟩
abbrev S1024x2816 : Shape := ⟨2, ![1024, 2816]⟩
abbrev S2048x2816 : Shape := ⟨2, ![2048, 2816]⟩

abbrev nBuf : Space → Nat
  | .hbm => 5
  | .vmem => 0
  | .smem => 0
  | _ => 0

abbrev bufTy : (tb : Table) → Fin (tcTables nBuf tb) → BufTy
  | .hbm, ⟨0, _⟩ => ⟨S2816x1024, .bf16⟩
  | .hbm, ⟨1, _⟩ => ⟨S2048x1024, .f32⟩
  | .hbm, ⟨2, _⟩ => ⟨S2816x1024, .f32⟩
  | .hbm, ⟨3, _⟩ => ⟨S1024x2816, .f32⟩
  | .hbm, ⟨4, _⟩ => ⟨S2048x2816, .f32⟩
  | _, _ => ⟨S2816x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel3.lean ====
abbrev S2048x2816 : Shape := ⟨2, ![2048, 2816]⟩
abbrev S2048x1024 : Shape := ⟨2, ![2048, 1024]⟩
abbrev S2048x4x704 : Shape := ⟨3, ![2048, 4, 704]⟩
abbrev S_ : Shape := ⟨0, ![]⟩
abbrev S2048x4x768 : Shape := ⟨3, ![2048, 4, 768]⟩
abbrev S2048x3072 : Shape := ⟨2, ![2048, 3072]⟩
abbrev S3072x1024 : Shape := ⟨2, ![3072, 1024]⟩
abbrev S1024x1024 : Shape := ⟨2, ![1024, 1024]⟩
abbrev S4x768x1024 : Shape := ⟨3, ![4, 768, 1024]⟩
abbrev S4x704x1024 : Shape := ⟨3, ![4, 704, 1024]⟩
abbrev S2816x1024 : Shape := ⟨2, ![2816, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S2048x4x704, .bf16⟩
  | .hbm, ⟨3, _⟩ => ⟨S_, .i32⟩
  | .hbm, ⟨4, _⟩ => ⟨S_, .bf16⟩
  | .hbm, ⟨5, _⟩ => ⟨S2048x4x768, .bf16⟩
  | .hbm, ⟨6, _⟩ => ⟨S2048x3072, .bf16⟩
  | .hbm, ⟨7, _⟩ => ⟨S3072x1024, .f32⟩
  | .hbm, ⟨8, _⟩ => ⟨S4x768x1024, .f32⟩
  | .hbm, ⟨9, _⟩ => ⟨S4x704x1024, .f32⟩
  | .hbm, ⟨10, _⟩ => ⟨S2816x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x2816 : Shape := ⟨2, ![2048, 2816]⟩
abbrev S2048x1024 : Shape := ⟨2, ![2048, 1024]⟩
abbrev S2816x2048 : Shape := ⟨2, ![2816, 2048]⟩
abbrev S2816x1024 : Shape := ⟨2, ![2816, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S2048x2816, .f32⟩
  | .hbm, ⟨3, _⟩ => ⟨S2816x2048, .f32⟩
  | .hbm, ⟨4, _⟩ => ⟨S2816x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S4x1024x5632 : Shape := ⟨3, ![4, 1024, 5632]⟩
abbrev S2048x5632 : Shape := ⟨2, ![2048, 5632]⟩
abbrev S4096x8x704 : Shape := ⟨3, ![4096, 8, 704]⟩
abbrev S8x4096x704 : Shape := ⟨3, ![8, 4096, 704]⟩
abbrev S_ : Shape := ⟨0, ![]⟩
abbrev S8x4096x768 : Shape := ⟨3, ![8, 4096, 768]⟩
abbrev S2048x8x704 : Shape := ⟨3, ![2048, 8, 704]⟩
abbrev S2048x8x768 : Shape := ⟨3, ![2048, 8, 768]⟩
abbrev S2048x6144 : Shape := ⟨2, ![2048, 6144]⟩
abbrev S2048x1024 : Shape := ⟨2, ![2048, 1024]⟩
abbrev S1024x768 : Shape := ⟨2, ![1024, 768]⟩
abbrev S1x1024x768 : Shape := ⟨3, ![1, 1024, 768]⟩
abbrev S1024x1024 : Shape := ⟨2, ![1024, 1024]⟩

abbrev nBuf : Space → Nat
  | .hbm => 13
  | .vmem => 7
  | .smem => 0
  | _ => 0

abbrev bufTy : (tb : Table) → Fin (tcTables nBuf tb) → BufTy
  | .hbm, ⟨0, _⟩ => ⟨S4x1024x5632, .bf16⟩
  | .hbm, ⟨1, _⟩ => ⟨S2048x5632, .f32⟩
  | .hbm, ⟨2, _⟩ => ⟨S4096x8x704, .bf16⟩
  | .hbm, ⟨3, _⟩ => ⟨S8x4096x704, .bf16⟩
  | .hbm, ⟨4, _⟩ => ⟨S_, .i32⟩
  | .hbm, ⟨5, _⟩ => ⟨S_, .bf16⟩
  | .hbm, ⟨6, _⟩ => ⟨S8x4096x768, .bf16⟩
  | .hbm, ⟨7, _⟩ => ⟨S2048x8x704, .f32⟩
  | .hbm, ⟨8, _⟩ => ⟨S_, .i32⟩
  | .hbm, ⟨9, _⟩ => ⟨S_, .f32⟩
  | .hbm, ⟨10, _⟩ => ⟨S2048x8x768, .f32⟩
  | .hbm, ⟨11, _⟩ => ⟨S2048x6144, .f32⟩
  | .hbm, ⟨12, _⟩ => ⟨S2048x1024, .f32⟩
  | .local _ .vmem, ⟨0, _⟩ => ⟨S1024x768, .f32⟩
  | .local _ .vmem, ⟨1, _⟩ => ⟨S1024x768, .f32⟩
  | .local _ .vmem, ⟨2, _⟩ => ⟨S1x1024x768, .bf16⟩
  | .local _ .vmem, ⟨3, _⟩ => ⟨S1x1024x768, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x1024x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_call1_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  let c0_i32_0 : BitVec 32 := 0#32
  ![arg2.toNat, v0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4x1024x5632 : Shape := ⟨3, ![4, 1024, 5632]⟩
abbrev S2048x5632 : Shape := ⟨2, ![2048, 5632]⟩
abbrev S1x1024x5632 : Shape := ⟨3, ![1, 1024, 5632]⟩
abbrev S1024x5632 : Shape := ⟨2, ![1024, 5632]⟩
abbrev S5632x1024 : Shape := ⟨2, ![5632, 1024]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4x1024x5632, .bf16⟩
  | .hbm, ⟨1, _⟩ => ⟨S2048x5632, .f32⟩
  | .hbm, ⟨2, _⟩ => ⟨S4x1024x5632, .f32⟩
  | .hbm, ⟨3, _⟩ => ⟨S1x1024x5632, .f32⟩
  | .hbm, ⟨4, _⟩ => ⟨S1024x5632, .f32⟩
  | .hbm, ⟨5, _⟩ => ⟨S5632x1024, .f32⟩
  | .hbm, ⟨6, _⟩ => ⟨S2048x1024, .f32⟩
  | _, _ => ⟨S4x1024x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S2048x1024 : Shape := ⟨2, ![2048, 1024]⟩
abbrev S2048x5632 : Shape := ⟨2, ![2048, 5632]⟩
abbrev S2048x8x704 : Shape := ⟨3, ![2048, 8, 704]⟩
abbrev S_ : Shape := ⟨0, ![]⟩
abbrev S2048x8x768 : Shape := ⟨3, ![2048, 8, 768]⟩
abbrev S2048x6144 : Shape := ⟨2, ![2048, 6144]⟩
abbrev S8x1024x768 : Shape := ⟨3, ![8, 1024, 768]⟩
abbrev S1024x1024 : Shape := ⟨2, ![1024, 1024]⟩
abbrev S1024x768 : Shape := ⟨2, ![1024, 768]⟩
abbrev S1x1024x768 : Shape := ⟨3, ![1, 1024, 768]⟩
abbrev S8x1024x704 : Shape := ⟨3, ![8, 1024, 704]⟩
abbrev S1024x8x704 : Shape := ⟨3, ![1024, 8, 704]⟩
abbrev S1024x5632 : Shape := ⟨2, ![1024, 5632]⟩

abbrev nBuf : Space → Nat
  | .hbm => 11
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x5632, .f32⟩
  | .hbm, ⟨2, _⟩ => ⟨S2048x8x704, .f32⟩
  | .hbm, ⟨3, _⟩ => ⟨S_, .i32⟩
  | .hbm, ⟨4, _⟩ => ⟨S_, .f32⟩
  | .hbm, ⟨5, _⟩ => ⟨S2048x8x768, .f32⟩
  | .hbm, ⟨6, _⟩ => ⟨S2048x6144, .f32⟩
  | .hbm, ⟨7, _⟩ => ⟨S8x1024x768, .f32⟩
  | .hbm, ⟨8, _⟩ => ⟨S8x1024x704, .f32⟩
  | .hbm, ⟨9, _⟩ => ⟨S1024x8x704, .f32⟩
  | .hbm, ⟨10, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .f32⟩
  | .local _ .vmem, ⟨3, _⟩ => ⟨S1024x768, .f32⟩
  | .local _ .vmem, ⟨4, _⟩ => ⟨S1x1024x768, .f32⟩
  | .local _ .vmem, ⟨5, _⟩ => ⟨S1x1024x768, .f32⟩
  | .local _ .vmem, ⟨6, _⟩ => ⟨S1024x768, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x1024 : Shape := ⟨2, ![2048, 1024]⟩
abbrev S2048x5632 : Shape := ⟨2, ![2048, 5632]⟩
abbrev S1024x2048 : Shape := ⟨2, ![1024, 2048]⟩
abbrev S1024x5632 : Shape := ⟨2, ![1024, 5632]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x5632, .f32⟩
  | .hbm, ⟨2, _⟩ => ⟨S2048x1024, .f32⟩
  | .hbm, ⟨3, _⟩ => ⟨S1024x2048, .f32⟩
  | .hbm, ⟨4, _⟩ => ⟨S1024x5632, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S2048x1024, .f32⟩
  | .hbm, ⟨3, _⟩ => ⟨S1024x2048, .f32⟩
  | .hbm, ⟨4, _⟩ => ⟨S1024x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S1024x2048, .bf16⟩
  | .hbm, ⟨2, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x2048 : Shape := ⟨2, ![2048, 2048]⟩
abbrev S1024x2048 : Shape := ⟨2, ![1024, 2048]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1024x2048, .bf16⟩
  | .hbm, ⟨2, _⟩ => ⟨S1024x2048, .f32⟩
  | .hbm, ⟨3, _⟩ => ⟨S2048x1024, .f32⟩
  | .hbm, ⟨4, _⟩ => ⟨S2048x1024, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S2048x1024 : Shape := ⟨2, ![2048, 1024]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .f32⟩
  | .hbm, ⟨2, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .f32⟩
  | .hbm, ⟨2, _⟩ => ⟨S2048x1024, .f32⟩
  | .hbm, ⟨3, _⟩ => ⟨S1024x2048, .f32⟩
  | .hbm, ⟨4, _⟩ => ⟨S1024x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S256x2048 : Shape := ⟨2, ![256, 2048]⟩
abbrev S1024x2048 : Shape := ⟨2, ![1024, 2048]⟩
abbrev S256x1024 : Shape := ⟨2, ![256, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S256x2048, .f32⟩
  | .hbm, ⟨1, _⟩ => ⟨S1024x2048, .bf16⟩
  | .hbm, ⟨2, _⟩ => ⟨S256x1024, .f32⟩
  | .hbm, ⟨3, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== Reference11Ideal.lean ====
abbrev S256x2048 : Shape := ⟨2, ![256, 2048]⟩
abbrev S1024x2048 : Shape := ⟨2, ![1024, 2048]⟩
abbrev S256x1024 : Shape := ⟨2, ![256, 1024]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1024x2048, .bf16⟩
  | .hbm, ⟨2, _⟩ => ⟨S256x1024, .f32⟩
  | .hbm, ⟨3, _⟩ => ⟨S1024x2048, .f32⟩
  | .hbm, ⟨4, _⟩ => ⟨S2048x1024, .f32⟩
  | .hbm, ⟨5, _⟩ => ⟨S256x1024, .f32⟩
  | .hbm, ⟨6, _⟩ => ⟨S256x1024, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S256x1024 : Shape := ⟨2, ![256, 1024]⟩
abbrev S256x2048 : Shape := ⟨2, ![256, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S256x1024, .bf16⟩
  | .hbm, ⟨1, _⟩ => ⟨S256x2048, .f32⟩
  | .hbm, ⟨2, _⟩ => ⟨S1024x2048, .f32⟩
  | .local _ .vmem, ⟨0, _⟩ => ⟨S256x1024, .bf16⟩
  | .local _ .vmem, ⟨1, _⟩ => ⟨S256x1024, .f32⟩
  | .local _ .vmem, ⟨2, _⟩ => ⟨S256x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S256x1024 : Shape := ⟨2, ![256, 1024]⟩
abbrev S256x2048 : Shape := ⟨2, ![256, 2048]⟩
abbrev S1024x256 : Shape := ⟨2, ![1024, 256]⟩
abbrev S1024x2048 : Shape := ⟨2, ![1024, 2048]⟩

abbrev nBuf : Space → Nat
  | .hbm => 5
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x2048, .f32⟩
  | .hbm, ⟨2, _⟩ => ⟨S256x1024, .f32⟩
  | .hbm, ⟨3, _⟩ => ⟨S1024x256, .f32⟩
  | .hbm, ⟨4, _⟩ => ⟨S1024x2048, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S2048x1024 : Shape := ⟨2, ![2048, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2048x1024 : Shape := ⟨2, ![2048, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | .hbm, ⟨5, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel16.lean ====
abbrev S2048x1024 : Shape := ⟨2, ![2048, 1024]⟩
abbrev S1024x2048 : Shape := ⟨2, ![1024, 2048]⟩
abbrev S1x2048 : Shape := ⟨2, ![1, 2048]⟩
abbrev S2048x2048 : Shape := ⟨2, ![2048, 2048]⟩
abbrev S1024x1024 : Shape := ⟨2, ![1024, 1024]⟩
abbrev S1x1024 : Shape := ⟨2, ![1, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S1x2048, .f32⟩
  | .hbm, ⟨3, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference16Ideal.lean ====
abbrev S2048x1024 : Shape := ⟨2, ![2048, 1024]⟩
abbrev S1024x2048 : Shape := ⟨2, ![1024, 2048]⟩
abbrev S1x2048 : Shape := ⟨2, ![1, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S1x2048, .f32⟩
  | .hbm, ⟨3, _⟩ => ⟨S2048x1024, .f32⟩
  | .hbm, ⟨4, _⟩ => ⟨S1024x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel17.lean ====
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 5
  | .vmem => 9
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S1x1024, .f32⟩
  | .hbm, ⟨3, _⟩ => ⟨S2048x1024, .f32⟩
  | .hbm, ⟨4, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference17Ideal.lean ====
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S1024x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel18.lean ====
abbrev S256x1024 : Shape := ⟨2, ![256, 1024]⟩
abbrev S1024x2048 : Shape := ⟨2, ![1024, 2048]⟩
abbrev S256x2048 : Shape := ⟨2, ![256, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S256x1024, .bf16⟩
  | .hbm, ⟨1, _⟩ => ⟨S1024x2048, .bf16⟩
  | .hbm, ⟨2, _⟩ => ⟨S256x2048, .bf16⟩
  | .local _ .vmem, ⟨0, _⟩ => ⟨S256x1024, .bf16⟩
  | .local _ .vmem, ⟨1, _⟩ => ⟨S1024x1024, .bf16⟩
  | .local _ .vmem, ⟨2, _⟩ => ⟨S1024x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S256x1024 : Shape := ⟨2, ![256, 1024]⟩
abbrev S1024x2048 : Shape := ⟨2, ![1024, 2048]⟩
abbrev S256x2048 : Shape := ⟨2, ![256, 2048]⟩

abbrev nBuf : Space → Nat
  | .hbm => 6
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x2048, .bf16⟩
  | .hbm, ⟨2, _⟩ => ⟨S256x1024, .f32⟩
  | .hbm, ⟨3, _⟩ => ⟨S1024x2048, .f32⟩
  | .hbm, ⟨4, _⟩ => ⟨S256x2048, .f32⟩
  | .hbm, ⟨5, _⟩ => ⟨S256x2048, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel19.lean ====
abbrev S4x1024x5632 : Shape := ⟨3, ![4, 1024, 5632]⟩
abbrev S2048x1024 : Shape := ⟨2, ![2048, 1024]⟩
abbrev S4096x8x704 : Shape := ⟨3, ![4096, 8, 704]⟩
abbrev S8x4096x704 : Shape := ⟨3, ![8, 4096, 704]⟩
abbrev S_ : Shape := ⟨0, ![]⟩
abbrev S8x4096x768 : Shape := ⟨3, ![8, 4096, 768]⟩
abbrev S2048x6144 : Shape := ⟨2, ![2048, 6144]⟩
abbrev S1024x1024 : Shape := ⟨2, ![1024, 1024]⟩
abbrev S1x1024x768 : Shape := ⟨3, ![1, 1024, 768]⟩
abbrev S1024x768 : Shape := ⟨2, ![1024, 768]⟩
abbrev S2048x8x768 : Shape := ⟨3, ![2048, 8, 768]⟩
abbrev S2048x8x704 : Shape := ⟨3, ![2048, 8, 704]⟩
abbrev S2048x5632 : Shape := ⟨2, ![2048, 5632]⟩

abbrev nBuf : Space → Nat
  | .hbm => 11
  | .vmem => 7
  | .smem => 0
  | _ => 0

abbrev bufTy : (tb : Table) → Fin (tcTables nBuf tb) → BufTy
  | .hbm, ⟨0, _⟩ => ⟨S4x1024x5632, .bf16⟩
  | .hbm, ⟨1, _⟩ => ⟨S2048x1024, .bf16⟩
  | .hbm, ⟨2, _⟩ => ⟨S4096x8x704, .bf16⟩
  | .hbm, ⟨3, _⟩ => ⟨S8x4096x704, .bf16⟩
  | .hbm, ⟨4, _⟩ => ⟨S_, .i32⟩
  | .hbm, ⟨5, _⟩ => ⟨S_, .bf16⟩
  | .hbm, ⟨6, _⟩ => ⟨S8x4096x768, .bf16⟩
  | .hbm, ⟨7, _⟩ => ⟨S2048x6144, .f32⟩
  | .hbm, ⟨8, _⟩ => ⟨S2048x8x768, .f32⟩
  | .hbm, ⟨9, _⟩ => ⟨S2048x8x704, .f32⟩
  | .hbm, ⟨10, _⟩ => ⟨S2048x5632, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S4x1024x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg2
  let c0_i32 : BitVec 32 := 0#32
  let c0_i32_0 : BitVec 32 := 0#32
  ![arg1.toNat, v0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4x1024x5632 : Shape := ⟨3, ![4, 1024, 5632]⟩
abbrev S2048x1024 : Shape := ⟨2, ![2048, 1024]⟩
abbrev S1x1024x5632 : Shape := ⟨3, ![1, 1024, 5632]⟩
abbrev S1024x5632 : Shape := ⟨2, ![1024, 5632]⟩
abbrev S2048x5632 : Shape := ⟨2, ![2048, 5632]⟩

abbrev nBuf : Space → Nat
  | .hbm => 7
  | .vmem => 0
  | .smem => 0
  | _ => 0

abbrev bufTy : (tb : Table) → Fin (tcTables nBuf tb) → BufTy
  | .hbm, ⟨0, _⟩ => ⟨S4x1024x5632, .bf16⟩
  | .hbm, ⟨1, _⟩ => ⟨S2048x1024, .bf16⟩
  | .hbm, ⟨2, _⟩ => ⟨S2048x1024, .f32⟩
  | .hbm, ⟨3, _⟩ => ⟨S4x1024x5632, .f32⟩
  | .hbm, ⟨4, _⟩ => ⟨S1x1024x5632, .f32⟩
  | .hbm, ⟨5, _⟩ => ⟨S1024x5632, .f32⟩
  | .hbm, ⟨6, _⟩ => ⟨S2048x5632, .f32⟩
  | _, _ => ⟨S4x1024x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel20.lean ====
abbrev S2048x2816 : Shape := ⟨2, ![2048, 2816]⟩
abbrev S2816x1024 : Shape := ⟨2, ![2816, 1024]⟩
abbrev S2048x1024 : Shape := ⟨2, ![2048, 1024]⟩
abbrev S2048x4x704 : Shape := ⟨3, ![2048, 4, 704]⟩
abbrev S_ : Shape := ⟨0, ![]⟩
abbrev S2048x4x768 : Shape := ⟨3, ![2048, 4, 768]⟩
abbrev S2048x3072 : Shape := ⟨2, ![2048, 3072]⟩
abbrev S4x704x1024 : Shape := ⟨3, ![4, 704, 1024]⟩
abbrev S4x768x1024 : Shape := ⟨3, ![4, 768, 1024]⟩
abbrev S3072x1024 : Shape := ⟨2, ![3072, 1024]⟩
abbrev S1024x1024 : Shape := ⟨2, ![1024, 1024]⟩

abbrev nBuf : Space → Nat
  | .hbm => 14
  | .vmem => 9
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x4x704, .bf16⟩
  | .hbm, ⟨4, _⟩ => ⟨S_, .i32⟩
  | .hbm, ⟨5, _⟩ => ⟨S_, .bf16⟩
  | .hbm, ⟨6, _⟩ => ⟨S2048x4x768, .bf16⟩
  | .hbm, ⟨7, _⟩ => ⟨S2048x3072, .bf16⟩
  | .hbm, ⟨8, _⟩ => ⟨S4x704x1024, .bf16⟩
  | .hbm, ⟨9, _⟩ => ⟨S_, .i32⟩
  | .hbm, ⟨10, _⟩ => ⟨S_, .bf16⟩
  | .hbm, ⟨11, _⟩ => ⟨S4x768x1024, .bf16⟩
  | .hbm, ⟨12, _⟩ => ⟨S3072x1024, .bf16⟩
  | .hbm, ⟨13, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference20Ideal.lean ====
abbrev S2048x2816 : Shape := ⟨2, ![2048, 2816]⟩
abbrev S2816x1024 : Shape := ⟨2, ![2816, 1024]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x2816, .f32⟩
  | .hbm, ⟨4, _⟩ => ⟨S2816x1024, .f32⟩
  | .hbm, ⟨5, _⟩ => ⟨S2048x1024, .f32⟩
  | .hbm, ⟨6, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel21.lean ====
abbrev S2048x1024 : Shape := ⟨2, ![2048, 1024]⟩
abbrev S1024x64 : Shape := ⟨2, ![1024, 64]⟩
abbrev S2048x64 : Shape := ⟨2, ![2048, 64]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x64, .bf16⟩
  | .hbm, ⟨2, _⟩ => ⟨S2048x64, .f32⟩
  | .local _ .vmem, ⟨0, _⟩ => ⟨S1024x1024, .bf16⟩
  | .local _ .vmem, ⟨1, _⟩ => ⟨S1024x1024, .bf16⟩
  | .local _ .vmem, ⟨2, _⟩ => ⟨S1024x64, .bf16⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S2048x1024 : Shape := ⟨2, ![2048, 1024]⟩
abbrev S1024x64 : Shape := ⟨2, ![1024, 64]⟩
abbrev S2048x64 : Shape := ⟨2, ![2048, 64]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x64, .bf16⟩
  | .hbm, ⟨2, _⟩ => ⟨S2048x1024, .f32⟩
  | .hbm, ⟨3, _⟩ => ⟨S1024x64, .f32⟩
  | .hbm, ⟨4, _⟩ => ⟨S2048x64, .f32⟩
  | .hbm, ⟨5, _⟩ => ⟨S2048x64, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel22.lean ====
abbrev S2048x1024 : Shape := ⟨2, ![2048, 1024]⟩
abbrev S1024x64 : Shape := ⟨2, ![1024, 64]⟩
abbrev S2048x64 : Shape := ⟨2, ![2048, 64]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x64, .bf16⟩
  | .hbm, ⟨2, _⟩ => ⟨S2048x64, .bf16⟩
  | .local _ .vmem, ⟨0, _⟩ => ⟨S1024x1024, .bf16⟩
  | .local _ .vmem, ⟨1, _⟩ => ⟨S1024x1024, .bf16⟩
  | .local _ .vmem, ⟨2, _⟩ => ⟨S1024x64, .bf16⟩
  | .local _ .vmem, ⟨3, _⟩ => ⟨S1024x64, .bf16⟩
  | .local _ .vmem, ⟨4, _⟩ => ⟨S1024x64, .bf16⟩
  | .local _ .vmem, ⟨5, _⟩ => ⟨S1024x64, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S2048x1024 : Shape := ⟨2, ![2048, 1024]⟩
abbrev S1024x64 : Shape := ⟨2, ![1024, 64]⟩
abbrev S2048x64 : Shape := ⟨2, ![2048, 64]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x64, .bf16⟩
  | .hbm, ⟨2, _⟩ => ⟨S2048x1024, .f32⟩
  | .hbm, ⟨3, _⟩ => ⟨S1024x64, .f32⟩
  | .hbm, ⟨4, _⟩ => ⟨S2048x64, .f32⟩
  | .hbm, ⟨5, _⟩ => ⟨S2048x64, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel23.lean ====
abbrev S2048x1024 : Shape := ⟨2, ![2048, 1024]⟩
abbrev S1024x160 : Shape := ⟨2, ![1024, 160]⟩
abbrev S2048x160 : Shape := ⟨2, ![2048, 160]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x160, .bf16⟩
  | .hbm, ⟨2, _⟩ => ⟨S2048x160, .f32⟩
  | .local _ .vmem, ⟨0, _⟩ => ⟨S1024x1024, .bf16⟩
  | .local _ .vmem, ⟨1, _⟩ => ⟨S1024x1024, .bf16⟩
  | .local _ .vmem, ⟨2, _⟩ => ⟨S1024x160, .bf16⟩
  | .local _ .vmem, ⟨3, _⟩ => ⟨S1024x160, .f32⟩
  | .local _ .vmem, ⟨4, _⟩ => ⟨S1024x160, .f32⟩
  | .local _ .vmem, ⟨5, _⟩ => ⟨S1024x160, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x160 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x160 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S2048x1024 : Shape := ⟨2, ![2048, 1024]⟩
abbrev S1024x160 : Shape := ⟨2, ![1024, 160]⟩
abbrev S2048x160 : Shape := ⟨2, ![2048, 160]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x160, .bf16⟩
  | .hbm, ⟨2, _⟩ => ⟨S2048x1024, .f32⟩
  | .hbm, ⟨3, _⟩ => ⟨S1024x160, .f32⟩
  | .hbm, ⟨4, _⟩ => ⟨S2048x160, .f32⟩
  | .hbm, ⟨5, _⟩ => ⟨S2048x160, .f32⟩
  | .hbm, ⟨6, _⟩ => ⟨S2048x160, .f32⟩
  | .hbm, ⟨7, _⟩ => ⟨S_, .f32⟩
  | .hbm, ⟨8, _⟩ => ⟨S2048x160, .f32⟩
  | .hbm, ⟨9, _⟩ => ⟨S2048x160, .f32⟩
  | .hbm, ⟨10, _⟩ => ⟨S_, .f32⟩
  | .hbm, ⟨11, _⟩ => ⟨S2048x160, .f32⟩
  | .hbm, ⟨12, _⟩ => ⟨S2048x160, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel24.lean ====
abbrev S2048x1024 : Shape := ⟨2, ![2048, 1024]⟩
abbrev S1024x32 : Shape := ⟨2, ![1024, 32]⟩
abbrev S2048x32 : Shape := ⟨2, ![2048, 32]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x32, .bf16⟩
  | .hbm, ⟨2, _⟩ => ⟨S2048x32, .bf16⟩
  | .local _ .vmem, ⟨0, _⟩ => ⟨S1024x1024, .bf16⟩
  | .local _ .vmem, ⟨1, _⟩ => ⟨S1024x1024, .bf16⟩
  | .local _ .vmem, ⟨2, _⟩ => ⟨S1024x32, .bf16⟩
  | .local _ .vmem, ⟨3, _⟩ => ⟨S1024x32, .bf16⟩
  | .local _ .vmem, ⟨4, _⟩ => ⟨S1024x32, .bf16⟩
  | .local _ .vmem, ⟨5, _⟩ => ⟨S1024x32, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S2048x1024 : Shape := ⟨2, ![2048, 1024]⟩
abbrev S1024x32 : Shape := ⟨2, ![1024, 32]⟩
abbrev S2048x32 : Shape := ⟨2, ![2048, 32]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x32, .bf16⟩
  | .hbm, ⟨2, _⟩ => ⟨S2048x1024, .f32⟩
  | .hbm, ⟨3, _⟩ => ⟨S1024x32, .f32⟩
  | .hbm, ⟨4, _⟩ => ⟨S2048x32, .f32⟩
  | .hbm, ⟨5, _⟩ => ⟨S2048x32, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel25.lean ====
abbrev S2048x64 : Shape := ⟨2, ![2048, 64]⟩
abbrev S64x1024 : Shape := ⟨2, ![64, 1024]⟩
abbrev S2048x1024 : Shape := ⟨2, ![2048, 1024]⟩
abbrev S1024x64 : Shape := ⟨2, ![1024, 64]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x64, .f32⟩
  | .hbm, ⟨1, _⟩ => ⟨S64x1024, .bf16⟩
  | .hbm, ⟨2, _⟩ => ⟨S2048x1024, .f32⟩
  | .local _ .vmem, ⟨0, _⟩ => ⟨S1024x64, .f32⟩
  | .local _ .vmem, ⟨1, _⟩ => ⟨S1024x64, .f32⟩
  | .local _ .vmem, ⟨2, _⟩ => ⟨S64x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S64x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S2048x64 : Shape := ⟨2, ![2048, 64]⟩
abbrev S64x1024 : Shape := ⟨2, ![64, 1024]⟩
abbrev S2048x1024 : Shape := ⟨2, ![2048, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S64x1024, .bf16⟩
  | .hbm, ⟨2, _⟩ => ⟨S64x1024, .f32⟩
  | .hbm, ⟨3, _⟩ => ⟨S2048x1024, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel26.lean ====
abbrev S2048x64 : Shape := ⟨2, ![2048, 64]⟩
abbrev S64x1024 : Shape := ⟨2, ![64, 1024]⟩
abbrev S2048x1024 : Shape := ⟨2, ![2048, 1024]⟩
abbrev S1024x64 : Shape := ⟨2, ![1024, 64]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x64, .bf16⟩
  | .hbm, ⟨1, _⟩ => ⟨S64x1024, .bf16⟩
  | .hbm, ⟨2, _⟩ => ⟨S2048x1024, .f32⟩
  | .local _ .vmem, ⟨0, _⟩ => ⟨S1024x64, .bf16⟩
  | .local _ .vmem, ⟨1, _⟩ => ⟨S1024x64, .bf16⟩
  | .local _ .vmem, ⟨2, _⟩ => ⟨S64x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2048x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S64x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S2048x64 : Shape := ⟨2, ![2048, 64]⟩
abbrev S64x1024 : Shape := ⟨2, ![64, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x64, .bf16⟩
  | .hbm, ⟨1, _⟩ => ⟨S64x1024, .bf16⟩
  | .hbm, ⟨2, _⟩ => ⟨S2048x64, .f32⟩
  | .hbm, ⟨3, _⟩ => ⟨S64x1024, .f32⟩
  | .hbm, ⟨4, _⟩ => ⟨S2048x1024, .f32⟩
  | _, _ => ⟨S2048x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel27.lean ====
abbrev S2048x160 : Shape := ⟨2, ![2048, 160]⟩
abbrev S160x1024 : Shape := ⟨2, ![160, 1024]⟩
abbrev S2048x1024 : Shape := ⟨2, ![2048, 1024]⟩
abbrev S1024x160 : Shape := ⟨2, ![1024, 160]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x160, .f32⟩
  | .hbm, ⟨1, _⟩ => ⟨S160x1024, .bf16⟩
  | .hbm, ⟨2, _⟩ => ⟨S2048x1024, .f32⟩
  | .local _ .vmem, ⟨0, _⟩ => ⟨S1024x160, .f32⟩
  | .local _ .vmem, ⟨1, _⟩ => ⟨S1024x160, .f32⟩
  | .local _ .vmem, ⟨2, _⟩ => ⟨S160x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2048x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S160x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S2048x160 : Shape := ⟨2, ![2048, 160]⟩
abbrev S160x1024 : Shape := ⟨2, ![160, 1024]⟩
abbrev S2048x1024 : Shape := ⟨2, ![2048, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x160, .f32⟩
  | .hbm, ⟨1, _⟩ => ⟨S160x1024, .bf16⟩
  | .hbm, ⟨2, _⟩ => ⟨S160x1024, .f32⟩
  | .hbm, ⟨3, _⟩ => ⟨S2048x1024, .f32⟩
  | _, _ => ⟨S2048x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel28.lean ====
abbrev S2048x32 : Shape := ⟨2, ![2048, 32]⟩
abbrev S32x1024 : Shape := ⟨2, ![32, 1024]⟩
abbrev S2048x1024 : Shape := ⟨2, ![2048, 1024]⟩
abbrev S1024x32 : Shape := ⟨2, ![1024, 32]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x32, .bf16⟩
  | .hbm, ⟨1, _⟩ => ⟨S32x1024, .bf16⟩
  | .hbm, ⟨2, _⟩ => ⟨S2048x1024, .f32⟩
  | .local _ .vmem, ⟨0, _⟩ => ⟨S1024x32, .bf16⟩
  | .local _ .vmem, ⟨1, _⟩ => ⟨S1024x32, .bf16⟩
  | .local _ .vmem, ⟨2, _⟩ => ⟨S32x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2048x32, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S32x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference28Ideal.lean ====
abbrev S2048x32 : Shape := ⟨2, ![2048, 32]⟩
abbrev S32x1024 : Shape := ⟨2, ![32, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x32, .bf16⟩
  | .hbm, ⟨1, _⟩ => ⟨S32x1024, .bf16⟩
  | .hbm, ⟨2, _⟩ => ⟨S2048x32, .f32⟩
  | .hbm, ⟨3, _⟩ => ⟨S32x1024, .f32⟩
  | .hbm, ⟨4, _⟩ => ⟨S2048x1024, .f32⟩
  | _, _ => ⟨S2048x32, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel29.lean ====
abbrev S2048x1024 : Shape := ⟨2, ![2048, 1024]⟩
abbrev S64x1024 : Shape := ⟨2, ![64, 1024]⟩
abbrev S2048x64 : Shape := ⟨2, ![2048, 64]⟩
abbrev S1024x1024 : Shape := ⟨2, ![1024, 1024]⟩
abbrev S1024x64 : Shape := ⟨2, ![1024, 64]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S64x1024, .bf16⟩
  | .hbm, ⟨2, _⟩ => ⟨S2048x64, .f32⟩
  | .local _ .vmem, ⟨0, _⟩ => ⟨S1024x1024, .f32⟩
  | .local _ .vmem, ⟨1, _⟩ => ⟨S1024x1024, .f32⟩
  | .local _ .vmem, ⟨2, _⟩ => ⟨S64x1024, .bf16⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S64x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference29Ideal.lean ====
abbrev S2048x1024 : Shape := ⟨2, ![2048, 1024]⟩
abbrev S64x1024 : Shape := ⟨2, ![64, 1024]⟩
abbrev S1024x64 : Shape := ⟨2, ![1024, 64]⟩
abbrev S2048x64 : Shape := ⟨2, ![2048, 64]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S64x1024, .bf16⟩
  | .hbm, ⟨2, _⟩ => ⟨S64x1024, .f32⟩
  | .hbm, ⟨3, _⟩ => ⟨S1024x64, .f32⟩
  | .hbm, ⟨4, _⟩ => ⟨S2048x64, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel30.lean ====
abbrev S2048x1024 : Shape := ⟨2, ![2048, 1024]⟩
abbrev S160x1024 : Shape := ⟨2, ![160, 1024]⟩
abbrev S2048x160 : Shape := ⟨2, ![2048, 160]⟩
abbrev S1024x1024 : Shape := ⟨2, ![1024, 1024]⟩
abbrev S1024x160 : Shape := ⟨2, ![1024, 160]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S160x1024, .bf16⟩
  | .hbm, ⟨2, _⟩ => ⟨S2048x160, .f32⟩
  | .local _ .vmem, ⟨0, _⟩ => ⟨S1024x1024, .f32⟩
  | .local _ .vmem, ⟨1, _⟩ => ⟨S1024x1024, .f32⟩
  | .local _ .vmem, ⟨2, _⟩ => ⟨S160x1024, .bf16⟩
  | .local _ .vmem, ⟨3, _⟩ => ⟨S1024x160, .f32⟩
  | .local _ .vmem, ⟨4, _⟩ => ⟨S1024x160, .f32⟩
  | .local _ .vmem, ⟨5, _⟩ => ⟨S1024x160, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S160x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x160 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference30Ideal.lean ====
abbrev S2048x1024 : Shape := ⟨2, ![2048, 1024]⟩
abbrev S160x1024 : Shape := ⟨2, ![160, 1024]⟩
abbrev S1024x160 : Shape := ⟨2, ![1024, 160]⟩
abbrev S2048x160 : Shape := ⟨2, ![2048, 160]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S160x1024, .bf16⟩
  | .hbm, ⟨2, _⟩ => ⟨S160x1024, .f32⟩
  | .hbm, ⟨3, _⟩ => ⟨S1024x160, .f32⟩
  | .hbm, ⟨4, _⟩ => ⟨S2048x160, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel31.lean ====
abbrev S2048x1024 : Shape := ⟨2, ![2048, 1024]⟩
abbrev S32x1024 : Shape := ⟨2, ![32, 1024]⟩
abbrev S2048x32 : Shape := ⟨2, ![2048, 32]⟩
abbrev S1024x1024 : Shape := ⟨2, ![1024, 1024]⟩
abbrev S1024x32 : Shape := ⟨2, ![1024, 32]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S32x1024, .bf16⟩
  | .hbm, ⟨2, _⟩ => ⟨S2048x32, .f32⟩
  | .local _ .vmem, ⟨0, _⟩ => ⟨S1024x1024, .f32⟩
  | .local _ .vmem, ⟨1, _⟩ => ⟨S1024x1024, .f32⟩
  | .local _ .vmem, ⟨2, _⟩ => ⟨S32x1024, .bf16⟩
  | .local _ .vmem, ⟨3, _⟩ => ⟨S1024x32, .f32⟩
  | .local _ .vmem, ⟨4, _⟩ => ⟨S1024x32, .f32⟩
  | .local _ .vmem, ⟨5, _⟩ => ⟨S1024x32, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S32x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference31Ideal.lean ====
abbrev S2048x1024 : Shape := ⟨2, ![2048, 1024]⟩
abbrev S32x1024 : Shape := ⟨2, ![32, 1024]⟩
abbrev S1024x32 : Shape := ⟨2, ![1024, 32]⟩
abbrev S2048x32 : Shape := ⟨2, ![2048, 32]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S32x1024, .bf16⟩
  | .hbm, ⟨2, _⟩ => ⟨S32x1024, .f32⟩
  | .hbm, ⟨3, _⟩ => ⟨S1024x32, .f32⟩
  | .hbm, ⟨4, _⟩ => ⟨S2048x32, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel32.lean ====
abbrev S2048x64 : Shape := ⟨2, ![2048, 64]⟩
abbrev S1024x64 : Shape := ⟨2, ![1024, 64]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x64, .f32⟩
  | .hbm, ⟨1, _⟩ => ⟨S1024x64, .bf16⟩
  | .hbm, ⟨2, _⟩ => ⟨S2048x1024, .f32⟩
  | .local _ .vmem, ⟨0, _⟩ => ⟨S1024x64, .f32⟩
  | .local _ .vmem, ⟨1, _⟩ => ⟨S1024x64, .f32⟩
  | .local _ .vmem, ⟨2, _⟩ => ⟨S1024x64, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference32Ideal.lean ====
abbrev S2048x64 : Shape := ⟨2, ![2048, 64]⟩
abbrev S1024x64 : Shape := ⟨2, ![1024, 64]⟩
abbrev S64x1024 : Shape := ⟨2, ![64, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S1024x64, .bf16⟩
  | .hbm, ⟨2, _⟩ => ⟨S1024x64, .f32⟩
  | .hbm, ⟨3, _⟩ => ⟨S64x1024, .f32⟩
  | .hbm, ⟨4, _⟩ => ⟨S2048x1024, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel33.lean ====
abbrev S2048x160 : Shape := ⟨2, ![2048, 160]⟩
abbrev S1024x160 : Shape := ⟨2, ![1024, 160]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x160, .f32⟩
  | .hbm, ⟨1, _⟩ => ⟨S1024x160, .bf16⟩
  | .hbm, ⟨2, _⟩ => ⟨S2048x1024, .f32⟩
  | .local _ .vmem, ⟨0, _⟩ => ⟨S1024x160, .f32⟩
  | .local _ .vmem, ⟨1, _⟩ => ⟨S1024x160, .f32⟩
  | .local _ .vmem, ⟨2, _⟩ => ⟨S1024x160, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2048x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x160 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference33Ideal.lean ====
abbrev S2048x160 : Shape := ⟨2, ![2048, 160]⟩
abbrev S1024x160 : Shape := ⟨2, ![1024, 160]⟩
abbrev S160x1024 : Shape := ⟨2, ![160, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x160, .f32⟩
  | .hbm, ⟨1, _⟩ => ⟨S1024x160, .bf16⟩
  | .hbm, ⟨2, _⟩ => ⟨S1024x160, .f32⟩
  | .hbm, ⟨3, _⟩ => ⟨S160x1024, .f32⟩
  | .hbm, ⟨4, _⟩ => ⟨S2048x1024, .f32⟩
  | _, _ => ⟨S2048x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel34.lean ====
abbrev S2048x32 : Shape := ⟨2, ![2048, 32]⟩
abbrev S1024x32 : Shape := ⟨2, ![1024, 32]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x32, .f32⟩
  | .hbm, ⟨1, _⟩ => ⟨S1024x32, .bf16⟩
  | .hbm, ⟨2, _⟩ => ⟨S2048x1024, .f32⟩
  | .hbm, ⟨3, _⟩ => ⟨S2048x1024, .f32⟩
  | .local _ .vmem, ⟨0, _⟩ => ⟨S1024x32, .f32⟩
  | .local _ .vmem, ⟨1, _⟩ => ⟨S1024x32, .f32⟩
  | .local _ .vmem, ⟨2, _⟩ => ⟨S1024x32, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference34Ideal.lean ====
abbrev S2048x32 : Shape := ⟨2, ![2048, 32]⟩
abbrev S1024x32 : Shape := ⟨2, ![1024, 32]⟩
abbrev S2048x1024 : Shape := ⟨2, ![2048, 1024]⟩
abbrev S32x1024 : Shape := ⟨2, ![32, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x32, .f32⟩
  | .hbm, ⟨1, _⟩ => ⟨S1024x32, .bf16⟩
  | .hbm, ⟨2, _⟩ => ⟨S2048x1024, .f32⟩
  | .hbm, ⟨3, _⟩ => ⟨S1024x32, .f32⟩
  | .hbm, ⟨4, _⟩ => ⟨S32x1024, .f32⟩
  | .hbm, ⟨5, _⟩ => ⟨S2048x1024, .f32⟩
  | .hbm, ⟨6, _⟩ => ⟨S2048x1024, .f32⟩
  | _, _ => ⟨S2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel35.lean ====
abbrev S2048x64 : Shape := ⟨2, ![2048, 64]⟩
abbrev S2048x1024 : Shape := ⟨2, ![2048, 1024]⟩
abbrev S64x1024 : Shape := ⟨2, ![64, 1024]⟩
abbrev S1024x64 : Shape := ⟨2, ![1024, 64]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x64, .f32⟩
  | .hbm, ⟨1, _⟩ => ⟨S2048x1024, .f32⟩
  | .hbm, ⟨2, _⟩ => ⟨S64x1024, .f32⟩
  | .local _ .vmem, ⟨0, _⟩ => ⟨S1024x64, .f32⟩
  | .local _ .vmem, ⟨1, _⟩ => ⟨S1024x64, .f32⟩
  | .local _ .vmem, ⟨2, _⟩ => ⟨S1024x1024, .f32⟩
  | .local _ .vmem, ⟨3, _⟩ => ⟨S1024x1024, .f32⟩
  | .local _ .vmem, ⟨4, _⟩ => ⟨S64x1024, .f32⟩
  | .local _ .vmem, ⟨5, _⟩ => ⟨S64x1024, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference35Ideal.lean ====
abbrev S2048x64 : Shape := ⟨2, ![2048, 64]⟩
abbrev S2048x1024 : Shape := ⟨2, ![2048, 1024]⟩
abbrev S64x2048 : Shape := ⟨2, ![64, 2048]⟩
abbrev S64x1024 : Shape := ⟨2, ![64, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S2048x1024, .f32⟩
  | .hbm, ⟨2, _⟩ => ⟨S64x2048, .f32⟩
  | .hbm, ⟨3, _⟩ => ⟨S64x1024, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel36.lean ====
abbrev S2048x64 : Shape := ⟨2, ![2048, 64]⟩
abbrev S2048x1024 : Shape := ⟨2, ![2048, 1024]⟩
abbrev S64x1024 : Shape := ⟨2, ![64, 1024]⟩
abbrev S1024x64 : Shape := ⟨2, ![1024, 64]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x64, .bf16⟩
  | .hbm, ⟨1, _⟩ => ⟨S2048x1024, .f32⟩
  | .hbm, ⟨2, _⟩ => ⟨S64x1024, .f32⟩
  | .local _ .vmem, ⟨0, _⟩ => ⟨S1024x64, .bf16⟩
  | .local _ .vmem, ⟨1, _⟩ => ⟨S1024x64, .bf16⟩
  | .local _ .vmem, ⟨2, _⟩ => ⟨S1024x1024, .f32⟩
  | .local _ .vmem, ⟨3, _⟩ => ⟨S1024x1024, .f32⟩
  | .local _ .vmem, ⟨4, _⟩ => ⟨S64x1024, .f32⟩
  | .local _ .vmem, ⟨5, _⟩ => ⟨S64x1024, .f32⟩
  | _, _ => ⟨S2048x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference36Ideal.lean ====
abbrev S2048x64 : Shape := ⟨2, ![2048, 64]⟩
abbrev S2048x1024 : Shape := ⟨2, ![2048, 1024]⟩
abbrev S64x2048 : Shape := ⟨2, ![64, 2048]⟩
abbrev S64x1024 : Shape := ⟨2, ![64, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x64, .bf16⟩
  | .hbm, ⟨1, _⟩ => ⟨S2048x1024, .f32⟩
  | .hbm, ⟨2, _⟩ => ⟨S2048x64, .f32⟩
  | .hbm, ⟨3, _⟩ => ⟨S64x2048, .f32⟩
  | .hbm, ⟨4, _⟩ => ⟨S64x1024, .f32⟩
  | _, _ => ⟨S2048x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel37.lean ====
abbrev S2048x160 : Shape := ⟨2, ![2048, 160]⟩
abbrev S2048x1024 : Shape := ⟨2, ![2048, 1024]⟩
abbrev S160x1024 : Shape := ⟨2, ![160, 1024]⟩
abbrev S1024x160 : Shape := ⟨2, ![1024, 160]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x160, .f32⟩
  | .hbm, ⟨1, _⟩ => ⟨S2048x1024, .f32⟩
  | .hbm, ⟨2, _⟩ => ⟨S160x1024, .f32⟩
  | .local _ .vmem, ⟨0, _⟩ => ⟨S1024x160, .f32⟩
  | .local _ .vmem, ⟨1, _⟩ => ⟨S1024x160, .f32⟩
  | .local _ .vmem, ⟨2, _⟩ => ⟨S1024x1024, .f32⟩
  | .local _ .vmem, ⟨3, _⟩ => ⟨S1024x1024, .f32⟩
  | .local _ .vmem, ⟨4, _⟩ => ⟨S160x1024, .f32⟩
  | .local _ .vmem, ⟨5, _⟩ => ⟨S160x1024, .f32⟩
  | _, _ => ⟨S2048x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S160x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference37Ideal.lean ====
abbrev S2048x160 : Shape := ⟨2, ![2048, 160]⟩
abbrev S2048x1024 : Shape := ⟨2, ![2048, 1024]⟩
abbrev S160x2048 : Shape := ⟨2, ![160, 2048]⟩
abbrev S160x1024 : Shape := ⟨2, ![160, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x160, .f32⟩
  | .hbm, ⟨1, _⟩ => ⟨S2048x1024, .f32⟩
  | .hbm, ⟨2, _⟩ => ⟨S160x2048, .f32⟩
  | .hbm, ⟨3, _⟩ => ⟨S160x1024, .f32⟩
  | _, _ => ⟨S2048x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel38.lean ====
abbrev S2048x32 : Shape := ⟨2, ![2048, 32]⟩
abbrev S2048x1024 : Shape := ⟨2, ![2048, 1024]⟩
abbrev S32x1024 : Shape := ⟨2, ![32, 1024]⟩
abbrev S1024x32 : Shape := ⟨2, ![1024, 32]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x32, .bf16⟩
  | .hbm, ⟨1, _⟩ => ⟨S2048x1024, .f32⟩
  | .hbm, ⟨2, _⟩ => ⟨S32x1024, .f32⟩
  | .local _ .vmem, ⟨0, _⟩ => ⟨S1024x32, .bf16⟩
  | .local _ .vmem, ⟨1, _⟩ => ⟨S1024x32, .bf16⟩
  | .local _ .vmem, ⟨2, _⟩ => ⟨S1024x1024, .f32⟩
  | .local _ .vmem, ⟨3, _⟩ => ⟨S1024x1024, .f32⟩
  | .local _ .vmem, ⟨4, _⟩ => ⟨S32x1024, .f32⟩
  | .local _ .vmem, ⟨5, _⟩ => ⟨S32x1024, .f32⟩
  | _, _ => ⟨S2048x32, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference38Ideal.lean ====
abbrev S2048x32 : Shape := ⟨2, ![2048, 32]⟩
abbrev S2048x1024 : Shape := ⟨2, ![2048, 1024]⟩
abbrev S32x2048 : Shape := ⟨2, ![32, 2048]⟩
abbrev S32x1024 : Shape := ⟨2, ![32, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x32, .bf16⟩
  | .hbm, ⟨1, _⟩ => ⟨S2048x1024, .f32⟩
  | .hbm, ⟨2, _⟩ => ⟨S2048x32, .f32⟩
  | .hbm, ⟨3, _⟩ => ⟨S32x2048, .f32⟩
  | .hbm, ⟨4, _⟩ => ⟨S32x1024, .f32⟩
  | _, _ => ⟨S2048x32, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel39.lean ====
abbrev S2048x1024 : Shape := ⟨2, ![2048, 1024]⟩
abbrev S2048x64 : Shape := ⟨2, ![2048, 64]⟩
abbrev S1024x64 : Shape := ⟨2, ![1024, 64]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x64, .f32⟩
  | .hbm, ⟨2, _⟩ => ⟨S1024x64, .f32⟩
  | .local _ .vmem, ⟨0, _⟩ => ⟨S1024x1024, .bf16⟩
  | .local _ .vmem, ⟨1, _⟩ => ⟨S1024x1024, .bf16⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference39Ideal.lean ====
abbrev S2048x1024 : Shape := ⟨2, ![2048, 1024]⟩
abbrev S2048x64 : Shape := ⟨2, ![2048, 64]⟩
abbrev S1024x2048 : Shape := ⟨2, ![1024, 2048]⟩
abbrev S1024x64 : Shape := ⟨2, ![1024, 64]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x64, .f32⟩
  | .hbm, ⟨2, _⟩ => ⟨S2048x1024, .f32⟩
  | .hbm, ⟨3, _⟩ => ⟨S1024x2048, .f32⟩
  | .hbm, ⟨4, _⟩ => ⟨S1024x64, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel40.lean ====
abbrev S2048x1024 : Shape := ⟨2, ![2048, 1024]⟩
abbrev S2048x160 : Shape := ⟨2, ![2048, 160]⟩
abbrev S1024x160 : Shape := ⟨2, ![1024, 160]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x160, .f32⟩
  | .hbm, ⟨2, _⟩ => ⟨S1024x160, .f32⟩
  | .local _ .vmem, ⟨0, _⟩ => ⟨S1024x1024, .bf16⟩
  | .local _ .vmem, ⟨1, _⟩ => ⟨S1024x1024, .bf16⟩
  | .local _ .vmem, ⟨2, _⟩ => ⟨S1024x160, .f32⟩
  | .local _ .vmem, ⟨3, _⟩ => ⟨S1024x160, .f32⟩
  | .local _ .vmem, ⟨4, _⟩ => ⟨S1024x160, .f32⟩
  | .local _ .vmem, ⟨5, _⟩ => ⟨S1024x160, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x160 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference40Ideal.lean ====
abbrev S2048x1024 : Shape := ⟨2, ![2048, 1024]⟩
abbrev S2048x160 : Shape := ⟨2, ![2048, 160]⟩
abbrev S1024x2048 : Shape := ⟨2, ![1024, 2048]⟩
abbrev S1024x160 : Shape := ⟨2, ![1024, 160]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x160, .f32⟩
  | .hbm, ⟨2, _⟩ => ⟨S2048x1024, .f32⟩
  | .hbm, ⟨3, _⟩ => ⟨S1024x2048, .f32⟩
  | .hbm, ⟨4, _⟩ => ⟨S1024x160, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel41.lean ====
abbrev S2048x1024 : Shape := ⟨2, ![2048, 1024]⟩
abbrev S2048x32 : Shape := ⟨2, ![2048, 32]⟩
abbrev S1024x32 : Shape := ⟨2, ![1024, 32]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x32, .f32⟩
  | .hbm, ⟨2, _⟩ => ⟨S1024x32, .f32⟩
  | .local _ .vmem, ⟨0, _⟩ => ⟨S1024x1024, .bf16⟩
  | .local _ .vmem, ⟨1, _⟩ => ⟨S1024x1024, .bf16⟩
  | .local _ .vmem, ⟨2, _⟩ => ⟨S1024x32, .f32⟩
  | .local _ .vmem, ⟨3, _⟩ => ⟨S1024x32, .f32⟩
  | .local _ .vmem, ⟨4, _⟩ => ⟨S1024x32, .f32⟩
  | .local _ .vmem, ⟨5, _⟩ => ⟨S1024x32, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference41Ideal.lean ====
abbrev S2048x1024 : Shape := ⟨2, ![2048, 1024]⟩
abbrev S2048x32 : Shape := ⟨2, ![2048, 32]⟩
abbrev S1024x2048 : Shape := ⟨2, ![1024, 2048]⟩
abbrev S1024x32 : Shape := ⟨2, ![1024, 32]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x32, .f32⟩
  | .hbm, ⟨2, _⟩ => ⟨S2048x1024, .f32⟩
  | .hbm, ⟨3, _⟩ => ⟨S1024x2048, .f32⟩
  | .hbm, ⟨4, _⟩ => ⟨S1024x32, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel42.lean ====
abbrev S2048x1024 : Shape := ⟨2, ![2048, 1024]⟩
abbrev S256x2048 : Shape := ⟨2, ![256, 2048]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 3
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S256x2048, .bf16⟩
  | .hbm, ⟨2, _⟩ => ⟨S2048x1024, .bf16⟩
  | .local _ .vmem, ⟨0, _⟩ => ⟨S512x256, .bf16⟩
  | .local _ .vmem, ⟨1, _⟩ => ⟨S512x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S512x256, .bf16⟩
  | .local _ .vmem, ⟨7, _⟩ => ⟨S512x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference42Ideal.lean ====
abbrev S2048x1024 : Shape := ⟨2, ![2048, 1024]⟩
abbrev S256x2048 : Shape := ⟨2, ![256, 2048]⟩
abbrev S256x1024 : Shape := ⟨2, ![256, 1024]⟩
abbrev S1x2048x4x256 : Shape := ⟨4, ![1, 2048, 4, 256]⟩
abbrev S1x256x4x256 : Shape := ⟨4, ![1, 256, 4, 256]⟩
abbrev S1x4x2048x256 : Shape := ⟨4, ![1, 4, 2048, 256]⟩
abbrev S_ : Shape := ⟨0, ![]⟩
abbrev S1x4x2048 : Shape := ⟨3, ![1, 4, 2048]⟩
abbrev S1x4x2048x1 : Shape := ⟨4, ![1, 4, 2048, 1]⟩
abbrev S1x4x256x2048 : Shape := ⟨4, ![1, 4, 256, 2048]⟩

abbrev nBuf : Space → Nat
  | .hbm => 31
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S256x2048, .bf16⟩
  | .hbm, ⟨2, _⟩ => ⟨S2048x1024, .f32⟩
  | .hbm, ⟨3, _⟩ => ⟨S256x2048, .f32⟩
  | .hbm, ⟨4, _⟩ => ⟨S256x1024, .f32⟩
  | .hbm, ⟨5, _⟩ => ⟨S256x1024, .f32⟩
  | .hbm, ⟨6, _⟩ => ⟨S1x2048x4x256, .f32⟩
  | .hbm, ⟨7, _⟩ => ⟨S1x256x4x256, .f32⟩
  | .hbm, ⟨8, _⟩ => ⟨S1x256x4x256, .f32⟩
  | .hbm, ⟨9, _⟩ => ⟨S1x4x2048x256, .f32⟩
  | .hbm, ⟨10, _⟩ => ⟨S_, .f32⟩
  | .hbm, ⟨11, _⟩ => ⟨S1x4x2048x256, .f32⟩
  | .hbm, ⟨12, _⟩ => ⟨S1x4x2048x256, .f32⟩
  | .hbm, ⟨13, _⟩ => ⟨S_, .f32⟩
  | .hbm, ⟨14, _⟩ => ⟨S1x4x2048, .f32⟩
  | .hbm, ⟨15, _⟩ => ⟨S_, .f32⟩
  | .hbm, ⟨16, _⟩ => ⟨S1x4x2048, .f32⟩
  | .hbm, ⟨17, _⟩ => ⟨S1x4x2048, .f32⟩
  | .hbm, ⟨18, _⟩ => ⟨S1x4x2048x1, .f32⟩
  | .hbm, ⟨19, _⟩ => ⟨S1x4x2048x256, .f32⟩
  | .hbm, ⟨20, _⟩ => ⟨S1x4x2048x256, .f32⟩
  | .hbm, ⟨21, _⟩ => ⟨S1x4x2048x256, .f32⟩
  | .hbm, ⟨22, _⟩ => ⟨S_, .f32⟩
  | .hbm, ⟨23, _⟩ => ⟨S1x4x2048, .f32⟩
  | .hbm, ⟨24, _⟩ => ⟨S1x4x2048x1, .f32⟩
  | .hbm, ⟨25, _⟩ => ⟨S1x4x2048x256, .f32⟩
  | .hbm, ⟨26, _⟩ => ⟨S1x4x2048x256, .f32⟩
  | .hbm, ⟨27, _⟩ => ⟨S1x4x256x2048, .f32⟩
  | .hbm, ⟨28, _⟩ => ⟨S1x2048x4x256, .f32⟩
  | .hbm, ⟨29, _⟩ => ⟨S2048x1024, .f32⟩
  | .hbm, ⟨30, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Kernel43.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference43Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel44.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference44Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel45.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference45Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 17
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel46.lean ====
abbrev S2048x1024 : Shape := ⟨2, ![2048, 1024]⟩
abbrev S1x1024 : Shape := ⟨2, ![1, 1024]⟩
abbrev S8x128 : Shape := ⟨2, ![8, 128]⟩
abbrev S256x1024 : Shape := ⟨2, ![256, 1024]⟩
abbrev S256 : Shape := ⟨1, ![256]⟩
abbrev S256x1 : Shape := ⟨2, ![256, 1]⟩
abbrev S1x256 : Shape := ⟨2, ![1, 256]⟩
abbrev S1 : Shape := ⟨1, ![1]⟩
abbrev S1x1 : Shape := ⟨2, ![1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S1x1024, .f32⟩
  | .hbm, ⟨5, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference46Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S8x128 : Shape := ⟨2, ![8, 128]⟩

abbrev nBuf : Space → Nat
  | .hbm => 69
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x1024, .f32⟩
  | .hbm, ⟨56, _⟩ => ⟨S2048x1024, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S8x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel47.lean ====
abbrev S2048x6144 : Shape := ⟨2, ![2048, 6144]⟩
abbrev S3x6144 : Shape := ⟨2, ![3, 6144]⟩
abbrev S2048x3072 : Shape := ⟨2, ![2048, 3072]⟩
abbrev S2048x128 : Shape := ⟨2, ![2048, 128]⟩
abbrev S3x128 : Shape := ⟨2, ![3, 128]⟩
abbrev S1x128 : Shape := ⟨2, ![1, 128]⟩

abbrev nBuf : Space → Nat
  | .hbm => 3
  | .vmem => 10
  | .smem => 0
  | _ => 0

abbrev bufTy : (tb : Table) → Fin (tcTables nBuf tb) → BufTy
  | .hbm, ⟨0, _⟩ => ⟨S2048x6144, .f32⟩
  | .hbm, ⟨1, _⟩ => ⟨S3x6144, .f32⟩
  | .hbm, ⟨2, _⟩ => ⟨S2048x3072, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | .local _ .vmem, ⟨7, _⟩ => ⟨S3x128, .f32⟩
  | .local _ .vmem, ⟨8, _⟩ => ⟨S2048x128, .bf16⟩
  | .local _ .vmem, ⟨9, _⟩ => ⟨S2048x128, .bf16⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c24_i32 : BitVec 32 := 24#32
  let v0 : BitVec 32 := Scalar.addi arg0 c24_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c24_i32 : BitVec 32 := 24#32
  let v0 : BitVec 32 := Scalar.addi arg0 c24_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference47Ideal.lean ====
abbrev S2048x6144 : Shape := ⟨2, ![2048, 6144]⟩
abbrev S3x6144 : Shape := ⟨2, ![3, 6144]⟩
abbrev S_ : Shape := ⟨0, ![]⟩
abbrev S2x6144 : Shape := ⟨2, ![2, 6144]⟩
abbrev S2050x6144 : Shape := ⟨2, ![2050, 6144]⟩
abbrev S1x6144 : Shape := ⟨2, ![1, 6144]⟩
abbrev S6144 : Shape := ⟨1, ![6144]⟩
abbrev S2048x3072 : Shape := ⟨2, ![2048, 3072]⟩

abbrev nBuf : Space → Nat
  | .hbm => 41
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S3x6144, .f32⟩
  | .hbm, ⟨2, _⟩ => ⟨S_, .f32⟩
  | .hbm, ⟨3, _⟩ => ⟨S2x6144, .f32⟩
  | .hbm, ⟨4, _⟩ => ⟨S2050x6144, .f32⟩
  | .hbm, ⟨5, _⟩ => ⟨S2048x6144, .f32⟩
  | .hbm, ⟨6, _⟩ => ⟨S1x6144, .f32⟩
  | .hbm, ⟨7, _⟩ => ⟨S6144, .f32⟩
  | .hbm, ⟨8, _⟩ => ⟨S1x6144, .f32⟩
  | .hbm, ⟨9, _⟩ => ⟨S2048x6144, .f32⟩
  | .hbm, ⟨10, _⟩ => ⟨S2048x6144, .f32⟩
  | .hbm, ⟨11, _⟩ => ⟨S_, .f32⟩
  | .hbm, ⟨12, _⟩ => ⟨S2048x6144, .f32⟩
  | .hbm, ⟨13, _⟩ => ⟨S2048x6144, .f32⟩
  | .hbm, ⟨14, _⟩ => ⟨S2048x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S2048x6144, .f32⟩
  | .hbm, ⟨19, _⟩ => ⟨S2048x6144, .f32⟩
  | .hbm, ⟨20, _⟩ => ⟨S2048x6144, .f32⟩
  | .hbm, ⟨21, _⟩ => ⟨S2048x6144, .f32⟩
  | .hbm, ⟨22, _⟩ => ⟨S1x6144, .f32⟩
  | .hbm, ⟨23, _⟩ => ⟨S6144, .f32⟩
  | .hbm, ⟨24, _⟩ => ⟨S1x6144, .f32⟩
  | .hbm, ⟨25, _⟩ => ⟨S2048x6144, .f32⟩
  | .hbm, ⟨26, _⟩ => ⟨S2048x6144, .f32⟩
  | .hbm, ⟨27, _⟩ => ⟨S2048x6144, .f32⟩
  | .hbm, ⟨28, _⟩ => ⟨S2048x3072, .f32⟩
  | .hbm, ⟨29, _⟩ => ⟨S2048x3072, .f32⟩
  | .hbm, ⟨30, _⟩ => ⟨S2048x3072, .f32⟩
  | .hbm, ⟨31, _⟩ => ⟨S2048x3072, .f32⟩
  | .hbm, ⟨32, _⟩ => ⟨S_, .f32⟩
  | .hbm, ⟨33, _⟩ => ⟨S2048x3072, .f32⟩
  | .hbm, ⟨34, _⟩ => ⟨S2048x3072, .f32⟩
  | .hbm, ⟨35, _⟩ => ⟨S_, .f32⟩
  | .hbm, ⟨36, _⟩ => ⟨S2048x3072, .f32⟩
  | .hbm, ⟨37, _⟩ => ⟨S2048x3072, .f32⟩
  | .hbm, ⟨38, _⟩ => ⟨S2048x3072, .f32⟩
  | .hbm, ⟨39, _⟩ => ⟨S2048x3072, .f32⟩
  | .hbm, ⟨40, _⟩ => ⟨S2048x3072, .bf16⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel49.lean ====
abbrev S2048x1024 : Shape := ⟨2, ![2048, 1024]⟩
abbrev S6x1024 : Shape := ⟨2, ![6, 1024]⟩
abbrev S2048x128 : Shape := ⟨2, ![2048, 128]⟩
abbrev S6x128 : Shape := ⟨2, ![6, 128]⟩
abbrev S1x128 : Shape := ⟨2, ![1, 128]⟩

abbrev nBuf : Space → Nat
  | .hbm => 8
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S6x1024, .f32⟩
  | .hbm, ⟨2, _⟩ => ⟨S2048x1024, .bf16⟩
  | .hbm, ⟨3, _⟩ => ⟨S2048x1024, .bf16⟩
  | .hbm, ⟨4, _⟩ => ⟨S2048x1024, .bf16⟩
  | .hbm, ⟨5, _⟩ => ⟨S2048x1024, .bf16⟩
  | .hbm, ⟨6, _⟩ => ⟨S2048x1024, .bf16⟩
  | .hbm, ⟨7, _⟩ => ⟨S2048x1024, .bf16⟩
  | .local _ .vmem, ⟨0, _⟩ => ⟨S2048x128, .f32⟩
  | .local _ .vmem, ⟨1, _⟩ => ⟨S2048x128, .f32⟩
  | .local _ .vmem, ⟨2, _⟩ => ⟨S6x128, .f32⟩
  | .local _ .vmem, ⟨3, _⟩ => ⟨S6x128, .f32⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v0_5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference49Ideal.lean ====
abbrev S2048x1024 : Shape := ⟨2, ![2048, 1024]⟩
abbrev S6x1024 : Shape := ⟨2, ![6, 1024]⟩
abbrev S_ : Shape := ⟨0, ![]⟩
abbrev S1x1024 : Shape := ⟨2, ![1, 1024]⟩
abbrev S2049x1024 : Shape := ⟨2, ![2049, 1024]⟩
abbrev S1024 : Shape := ⟨1, ![1024]⟩

abbrev nBuf : Space → Nat
  | .hbm => 49
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S6x1024, .f32⟩
  | .hbm, ⟨2, _⟩ => ⟨S_, .f32⟩
  | .hbm, ⟨3, _⟩ => ⟨S1x1024, .f32⟩
  | .hbm, ⟨4, _⟩ => ⟨S2049x1024, .f32⟩
  | .hbm, ⟨5, _⟩ => ⟨S2048x1024, .f32⟩
  | .hbm, ⟨6, _⟩ => ⟨S2048x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S1x1024, .f32⟩
  | .hbm, ⟨38, _⟩ => ⟨S1024, .f32⟩
  | .hbm, ⟨39, _⟩ => ⟨S1x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .bf16⟩
  | .hbm, ⟨44, _⟩ => ⟨S2048x1024, .bf16⟩
  | .hbm, ⟨45, _⟩ => ⟨S2048x1024, .bf16⟩
  | .hbm, ⟨46, _⟩ => ⟨S2048x1024, .bf16⟩
  | .hbm, ⟨47, _⟩ => ⟨S2048x1024, .bf16⟩
  | .hbm, ⟨48, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩

abbrev nD : Nat := 1
abbrev τ : Topo := Topo.v7x

variable {F : FTy → Type} [FloatOps F]
-- ==== Kernel50.lean ====
abbrev S2048x1024 : Shape := ⟨2, ![2048, 1024]⟩
abbrev S6x1024 : Shape := ⟨2, ![6, 1024]⟩
abbrev S8x1024 : Shape := ⟨2, ![8, 1024]⟩
abbrev S2048x128 : Shape := ⟨2, ![2048, 128]⟩
abbrev S6x128 : Shape := ⟨2, ![6, 128]⟩
abbrev S8x128 : Shape := ⟨2, ![8, 128]⟩
abbrev S1x128 : Shape := ⟨2, ![1, 128]⟩
abbrev S128 : Shape := ⟨1, ![128]⟩

abbrev nBuf : Space → Nat
  | .hbm => 10
  | .vmem => 20
  | .smem => 0
  | _ => 0

abbrev bufTy : (tb : Table) → Fin (tcTables nBuf tb) → BufTy
  | .hbm, ⟨0, _⟩ => ⟨S2048x1024, .f32⟩
  | .hbm, ⟨1, _⟩ => ⟨S6x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S8x1024, .f32⟩
  | .local _ .vmem, ⟨0, _⟩ => ⟨S2048x128, .f32⟩
  | .local _ .vmem, ⟨1, _⟩ => ⟨S2048x128, .f32⟩
  | .local _ .vmem, ⟨2, _⟩ => ⟨S6x128, .f32⟩
  | .local _ .vmem, ⟨3, _⟩ => ⟨S6x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S8x128, .f32⟩
  | .local _ .vmem, ⟨19, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference50Ideal.lean ====
abbrev S2048x1024 : Shape := ⟨2, ![2048, 1024]⟩
abbrev S6x1024 : Shape := ⟨2, ![6, 1024]⟩
abbrev S_ : Shape := ⟨0, ![]⟩
abbrev S1x1024 : Shape := ⟨2, ![1, 1024]⟩
abbrev S2049x1024 : Shape := ⟨2, ![2049, 1024]⟩
abbrev S1024 : Shape := ⟨1, ![1024]⟩
abbrev S2x1024 : Shape := ⟨2, ![2, 1024]⟩
abbrev S8x1024 : Shape := ⟨2, ![8, 1024]⟩

abbrev nBuf : Space → Nat
  | .hbm => 148
  | .vmem => 0
  | .smem => 0
  | _ => 0

abbrev hbmTy0_0 (i : Nat) : BufTy := match i % 128 with
  | 0 => ⟨S2048x1024, .f32⟩
  | 1 => ⟨S6x1024, .f32⟩
  | 2 => ⟨S2048x1024, .f32⟩
  | 3 => ⟨S2048x1024, .f32⟩
  | 4 => ⟨S2048x1024, .f32⟩
  | 5 => ⟨S2048x1024, .f32⟩
  | 6 => ⟨S2048x1024, .f32⟩
  | 7 => ⟨S2048x1024, .f32⟩
  | 8 => ⟨S_, .f32⟩
  | 9 => ⟨S1x1024, .f32⟩
  | 10 => ⟨S2049x1024, .f32⟩
  | 11 => ⟨S_, .f32⟩
  | 12 => ⟨S1x1024, .f32⟩
  | 13 => ⟨S2048x1024, .f32⟩
  | 14 => ⟨S2048x1024, .f32⟩
  | 15 => ⟨S1x1024, .f32⟩
  | 16 => ⟨S1024, .f32⟩
  | 17 => ⟨S1x1024, .f32⟩
  | 18 => ⟨S2048x1024, .f32⟩
  | 19 => ⟨S2048x1024, .f32⟩
  | 20 => ⟨S2048x1024, .f32⟩
  | 21 => ⟨S1x1024, .f32⟩
  | 22 => ⟨S1024, .f32⟩
  | 23 => ⟨S1x1024, .f32⟩
  | 24 => ⟨S2048x1024, .f32⟩
  | 25 => ⟨S2048x1024, .f32⟩
  | 26 => ⟨S2048x1024, .f32⟩
  | 27 => ⟨S1x1024, .f32⟩
  | 28 => ⟨S1024, .f32⟩
  | 29 => ⟨S1x1024, .f32⟩
  | 30 => ⟨S2048x1024, .f32⟩
  | 31 => ⟨S2048x1024, .f32⟩
  | 32 => ⟨S2048x1024, .f32⟩
  | 33 => ⟨S1x1024, .f32⟩
  | 34 => ⟨S1024, .f32⟩
  | 35 => ⟨S1x1024, .f32⟩
  | 36 => ⟨S2048x1024, .f32⟩
  | 37 => ⟨S2048x1024, .f32⟩
  | 38 => ⟨S2048x1024, .f32⟩
  | 39 => ⟨S1x1024, .f32⟩
  | 40 => ⟨S1024, .f32⟩
  | 41 => ⟨S1x1024, .f32⟩
  | 42 => ⟨S2048x1024, .f32⟩
  | 43 => ⟨S2048x1024, .f32⟩
  | 44 => ⟨S2048x1024, .f32⟩
  | 45 => ⟨S1x1024, .f32⟩
  | 46 => ⟨S1024, .f32⟩
  | 47 => ⟨S1x1024, .f32⟩
  | 48 => ⟨S2048x1024, .f32⟩
  | 49 => ⟨S2048x1024, .f32⟩
  | 50 => ⟨S2048x1024, .f32⟩
  | 51 => ⟨S2048x1024, .f32⟩
  | 52 => ⟨S2048x1024, .f32⟩
  | 53 => ⟨S_, .f32⟩
  | 54 => ⟨S1024, .f32⟩
  | 55 => ⟨S1x1024, .f32⟩
  | 56 => ⟨S2048x1024, .f32⟩
  | 57 => ⟨S2048x1024, .f32⟩
  | 58 => ⟨S_, .f32⟩
  | 59 => ⟨S1024, .f32⟩
  | 60 => ⟨S1x1024, .f32⟩
  | 61 => ⟨S_, .f32⟩
  | 62 => ⟨S6x1024, .f32⟩
  | 63 => ⟨S2048x1024, .f32⟩
  | 64 => ⟨S2048x1024, .f32⟩
  | 65 => ⟨S2048x1024, .f32⟩
  | 66 => ⟨S_, .f32⟩
  | 67 => ⟨S1024, .f32⟩
  | 68 => ⟨S1x1024, .f32⟩
  | 69 => ⟨S2048x1024, .f32⟩
  | 70 => ⟨S2048x1024, .f32⟩
  | 71 => ⟨S2048x1024, .f32⟩
  | 72 => ⟨S_, .f32⟩
  | 73 => ⟨S1024, .f32⟩
  | 74 => ⟨S1x1024, .f32⟩
  | 75 => ⟨S_, .f32⟩
  | 76 => ⟨S6x1024, .f32⟩
  | 77 => ⟨S6x1024, .f32⟩
  | 78 => ⟨S2048x1024, .f32⟩
  | 79 => ⟨S2048x1024, .f32⟩
  | 80 => ⟨S2048x1024, .f32⟩
  | 81 => ⟨S_, .f32⟩
  | 82 => ⟨S1024, .f32⟩
  | 83 => ⟨S1x1024, .f32⟩
  | 84 => ⟨S2048x1024, .f32⟩
  | 85 => ⟨S2048x1024, .f32⟩
  | 86 => ⟨S2048x1024, .f32⟩
  | 87 => ⟨S_, .f32⟩
  | 88 => ⟨S1024, .f32⟩
  | 89 => ⟨S1x1024, .f32⟩
  | 90 => ⟨S_, .f32⟩
  | 91 => ⟨S6x1024, .f32⟩
  | 92 => ⟨S6x1024, .f32⟩
  | 93 => ⟨S2048x1024, .f32⟩
  | 94 => ⟨S2048x1024, .f32⟩
  | 95 => ⟨S2048x1024, .f32⟩
  | 96 => ⟨S_, .f32⟩
  | 97 => ⟨S1024, .f32⟩
  | 98 => ⟨S1x1024, .f32⟩
  | 99 => ⟨S2048x1024, .f32⟩
  | 100 => ⟨S2048x1024, .f32⟩
  | 101 => ⟨S2048x1024, .f32⟩
  | 102 => ⟨S_, .f32⟩
  | 103 => ⟨S1024, .f32⟩
  | 104 => ⟨S1x1024, .f32⟩
  | 105 => ⟨S_, .f32⟩
  | 106 => ⟨S6x1024, .f32⟩
  | 107 => ⟨S6x1024, .f32⟩
  | 108 => ⟨S2048x1024, .f32⟩
  | 109 => ⟨S2048x1024, .f32⟩
  | 110 => ⟨S2048x1024, .f32⟩
  | 111 => ⟨S_, .f32⟩
  | 112 => ⟨S1024, .f32⟩
  | 113 => ⟨S1x1024, .f32⟩
  | 114 => ⟨S2048x1024, .f32⟩
  | 115 => ⟨S2048x1024, .f32⟩
  | 116 => ⟨S2048x1024, .f32⟩
  | 117 => ⟨S_, .f32⟩
  | 118 => ⟨S1024, .f32⟩
  | 119 => ⟨S1x1024, .f32⟩
  | 120 => ⟨S_, .f32⟩
  | 121 => ⟨S6x1024, .f32⟩
  | 122 => ⟨S6x1024, .f32⟩
  | 123 => ⟨S2048x1024, .f32⟩
  | 124 => ⟨S2048x1024, .f32⟩
  | 125 => ⟨S2048x1024, .f32⟩
  | 126 => ⟨S_, .f32⟩
  | 127 => ⟨S1024, .f32⟩
  | _ => ⟨S2048x1024, .f32⟩

abbrev hbmTy0_1 (i : Nat) : BufTy := match i % 128 with
  | 0 => ⟨S1x1024, .f32⟩
  | 1 => ⟨S2048x1024, .f32⟩
  | 2 => ⟨S2048x1024, .f32⟩
  | 3 => ⟨S2048x1024, .f32⟩
  | 4 => ⟨S_, .f32⟩
  | 5 => ⟨S1024, .f32⟩
  | 6 => ⟨S1x1024, .f32⟩
  | 7 => ⟨S_, .f32⟩
  | 8 => ⟨S6x1024, .f32⟩
  | 9 => ⟨S6x1024, .f32⟩
  | 10 => ⟨S2048x1024, .f32⟩
  | 11 => ⟨S2048x1024, .f32⟩
  | 12 => ⟨S_, .f32⟩
  | 13 => ⟨S2049x1024, .f32⟩
  | 14 => ⟨S1x1024, .f32⟩
  | 15 => ⟨S2048x1024, .f32⟩
  | 16 => ⟨S2048x1024, .f32⟩
  | 17 => ⟨S_, .f32⟩
  | 18 => ⟨S2x1024, .f32⟩
  | 19 => ⟨S8x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_1 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_2 : Ref sig .tc := ⟨.hbm, 58, rfl⟩
abbrev main_v47 : Ref sig .tc := ⟨.hbm, 59, rfl⟩
abbrev main_v48 : Ref sig .tc := ⟨.hbm, 60, rfl⟩
abbrev main_cst_3 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_4 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_5 : Ref sig .tc := ⟨.hbm, 72, rfl⟩
abbrev main_v58 : Ref sig .tc := ⟨.hbm, 73, rfl⟩
abbrev main_v59 : Ref sig .tc := ⟨.hbm, 74, rfl⟩
abbrev main_cst_6 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_7 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_8 : Ref sig .tc := ⟨.hbm, 87, rfl⟩
abbrev main_v70 : Ref sig .tc := ⟨.hbm, 88, rfl⟩
abbrev main_v71 : Ref sig .tc := ⟨.hbm, 89, rfl⟩
abbrev main_cst_9 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_10 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_11 : Ref sig .tc := ⟨.hbm, 102, rfl⟩
abbrev main_v82 : Ref sig .tc := ⟨.hbm, 103, rfl⟩
abbrev main_v83 : Ref sig .tc := ⟨.hbm, 104, rfl⟩
abbrev main_cst_12 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_cst_13 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_cst_14 : Ref sig .tc := ⟨.hbm, 117, rfl⟩
abbrev main_v94 : Ref sig .tc := ⟨.hbm, 118, rfl⟩
abbrev main_v95 : Ref sig .tc := ⟨.hbm, 119, rfl⟩
abbrev main_cst_15 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_cst_16 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_cst_17 : Ref sig .tc := ⟨.hbm, 132, rfl⟩
abbrev main_v106 : Ref sig .tc := ⟨.hbm, 133, rfl⟩
abbrev main_v107 : Ref sig .tc := ⟨.hbm, 134, rfl⟩
abbrev main_cst_18 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_cst_19 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_cst_20 : Ref sig .tc := ⟨.hbm, 145, rfl⟩
abbrev main_v116 : Ref sig .tc := ⟨.hbm, 146, rfl⟩
abbrev main_v117 : Ref sig .tc := ⟨.hbm, 147, rfl⟩

abbrev nD : Nat := 1
abbrev τ : Topo := Topo.v7x

variable {F : FTy → Type} [FloatOps F]
-- ==== Kernel51.lean ====
abbrev S2048x2048 : Shape := ⟨2, ![2048, 2048]⟩
abbrev S31x1024 : Shape := ⟨2, ![31, 1024]⟩
abbrev S1x1024 : Shape := ⟨2, ![1, 1024]⟩
abbrev S2048x1024 : Shape := ⟨2, ![2048, 1024]⟩
abbrev S2048x128 : Shape := ⟨2, ![2048, 128]⟩
abbrev S31x128 : Shape := ⟨2, ![31, 128]⟩
abbrev S1x128 : Shape := ⟨2, ![1, 128]⟩

abbrev nBuf : Space → Nat
  | .hbm => 4
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S31x1024, .f32⟩
  | .hbm, ⟨2, _⟩ => ⟨S1x1024, .f32⟩
  | .hbm, ⟨3, _⟩ => ⟨S2048x1024, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S31x128, .f32⟩
  | .local _ .vmem, ⟨5, _⟩ => ⟨S31x128, .f32⟩
  | .local _ .vmem, ⟨6, _⟩ => ⟨S1x128, .f32⟩
  | .local _ .vmem, ⟨7, _⟩ => ⟨S1x128, .f32⟩
  | .local _ .vmem, ⟨8, _⟩ => ⟨S2048x128, .f32⟩
  | .local _ .vmem, ⟨9, _⟩ => ⟨S2048x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S31x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference51Ideal.lean ====
abbrev S2048x2048 : Shape := ⟨2, ![2048, 2048]⟩
abbrev S31x1024 : Shape := ⟨2, ![31, 1024]⟩
abbrev S1x1024 : Shape := ⟨2, ![1, 1024]⟩
abbrev S2048x1024 : Shape := ⟨2, ![2048, 1024]⟩
abbrev S_ : Shape := ⟨0, ![]⟩
abbrev S30x1024 : Shape := ⟨2, ![30, 1024]⟩
abbrev S2078x1024 : Shape := ⟨2, ![2078, 1024]⟩
abbrev S1024 : Shape := ⟨1, ![1024]⟩

abbrev nBuf : Space → Nat
  | .hbm => 238
  | .vmem => 0
  | .smem => 0
  | _ => 0

abbrev hbmTy0_0 (i : Nat) : BufTy := match i % 128 with
  | 0 => ⟨S2048x2048, .f32⟩
  | 1 => ⟨S31x1024, .f32⟩
  | 2 => ⟨S1x1024, .f32⟩
  | 3 => ⟨S2048x1024, .f32⟩
  | 4 => ⟨S2048x1024, .f32⟩
  | 5 => ⟨S2048x1024, .f32⟩
  | 6 => ⟨S2048x1024, .f32⟩
  | 7 => ⟨S_, .f32⟩
  | 8 => ⟨S2048x1024, .f32⟩
  | 9 => ⟨S2048x1024, .f32⟩
  | 10 => ⟨S_, .f32⟩
  | 11 => ⟨S2048x1024, .f32⟩
  | 12 => ⟨S2048x1024, .f32⟩
  | 13 => ⟨S2048x1024, .f32⟩
  | 14 => ⟨S_, .f32⟩
  | 15 => ⟨S30x1024, .f32⟩
  | 16 => ⟨S2078x1024, .f32⟩
  | 17 => ⟨S2048x1024, .f32⟩
  | 18 => ⟨S1x1024, .f32⟩
  | 19 => ⟨S1024, .f32⟩
  | 20 => ⟨S1x1024, .f32⟩
  | 21 => ⟨S2048x1024, .f32⟩
  | 22 => ⟨S2048x1024, .f32⟩
  | 23 => ⟨S_, .f32⟩
  | 24 => ⟨S2048x1024, .f32⟩
  | 25 => ⟨S2048x1024, .f32⟩
  | 26 => ⟨S2048x1024, .f32⟩
  | 27 => ⟨S1x1024, .f32⟩
  | 28 => ⟨S1024, .f32⟩
  | 29 => ⟨S1x1024, .f32⟩
  | 30 => ⟨S2048x1024, .f32⟩
  | 31 => ⟨S2048x1024, .f32⟩
  | 32 => ⟨S2048x1024, .f32⟩
  | 33 => ⟨S2048x1024, .f32⟩
  | 34 => ⟨S1x1024, .f32⟩
  | 35 => ⟨S1024, .f32⟩
  | 36 => ⟨S1x1024, .f32⟩
  | 37 => ⟨S2048x1024, .f32⟩
  | 38 => ⟨S2048x1024, .f32⟩
  | 39 => ⟨S2048x1024, .f32⟩
  | 40 => ⟨S2048x1024, .f32⟩
  | 41 => ⟨S1x1024, .f32⟩
  | 42 => ⟨S1024, .f32⟩
  | 43 => ⟨S1x1024, .f32⟩
  | 44 => ⟨S2048x1024, .f32⟩
  | 45 => ⟨S2048x1024, .f32⟩
  | 46 => ⟨S2048x1024, .f32⟩
  | 47 => ⟨S2048x1024, .f32⟩
  | 48 => ⟨S1x1024, .f32⟩
  | 49 => ⟨S1024, .f32⟩
  | 50 => ⟨S1x1024, .f32⟩
  | 51 => ⟨S2048x1024, .f32⟩
  | 52 => ⟨S2048x1024, .f32⟩
  | 53 => ⟨S2048x1024, .f32⟩
  | 54 => ⟨S2048x1024, .f32⟩
  | 55 => ⟨S1x1024, .f32⟩
  | 56 => ⟨S1024, .f32⟩
  | 57 => ⟨S1x1024, .f32⟩
  | 58 => ⟨S2048x1024, .f32⟩
  | 59 => ⟨S2048x1024, .f32⟩
  | 60 => ⟨S2048x1024, .f32⟩
  | 61 => ⟨S2048x1024, .f32⟩
  | 62 => ⟨S1x1024, .f32⟩
  | 63 => ⟨S1024, .f32⟩
  | 64 => ⟨S1x1024, .f32⟩
  | 65 => ⟨S2048x1024, .f32⟩
  | 66 => ⟨S2048x1024, .f32⟩
  | 67 => ⟨S2048x1024, .f32⟩
  | 68 => ⟨S2048x1024, .f32⟩
  | 69 => ⟨S1x1024, .f32⟩
  | 70 => ⟨S1024, .f32⟩
  | 71 => ⟨S1x1024, .f32⟩
  | 72 => ⟨S2048x1024, .f32⟩
  | 73 => ⟨S2048x1024, .f32⟩
  | 74 => ⟨S2048x1024, .f32⟩
  | 75 => ⟨S2048x1024, .f32⟩
  | 76 => ⟨S1x1024, .f32⟩
  | 77 => ⟨S1024, .f32⟩
  | 78 => ⟨S1x1024, .f32⟩
  | 79 => ⟨S2048x1024, .f32⟩
  | 80 => ⟨S2048x1024, .f32⟩
  | 81 => ⟨S2048x1024, .f32⟩
  | 82 => ⟨S2048x1024, .f32⟩
  | 83 => ⟨S1x1024, .f32⟩
  | 84 => ⟨S1024, .f32⟩
  | 85 => ⟨S1x1024, .f32⟩
  | 86 => ⟨S2048x1024, .f32⟩
  | 87 => ⟨S2048x1024, .f32⟩
  | 88 => ⟨S2048x1024, .f32⟩
  | 89 => ⟨S2048x1024, .f32⟩
  | 90 => ⟨S1x1024, .f32⟩
  | 91 => ⟨S1024, .f32⟩
  | 92 => ⟨S1x1024, .f32⟩
  | 93 => ⟨S2048x1024, .f32⟩
  | 94 => ⟨S2048x1024, .f32⟩
  | 95 => ⟨S2048x1024, .f32⟩
  | 96 => ⟨S2048x1024, .f32⟩
  | 97 => ⟨S1x1024, .f32⟩
  | 98 => ⟨S1024, .f32⟩
  | 99 => ⟨S1x1024, .f32⟩
  | 100 => ⟨S2048x1024, .f32⟩
  | 101 => ⟨S2048x1024, .f32⟩
  | 102 => ⟨S2048x1024, .f32⟩
  | 103 => ⟨S2048x1024, .f32⟩
  | 104 => ⟨S1x1024, .f32⟩
  | 105 => ⟨S1024, .f32⟩
  | 106 => ⟨S1x1024, .f32⟩
  | 107 => ⟨S2048x1024, .f32⟩
  | 108 => ⟨S2048x1024, .f32⟩
  | 109 => ⟨S2048x1024, .f32⟩
  | 110 => ⟨S2048x1024, .f32⟩
  | 111 => ⟨S1x1024, .f32⟩
  | 112 => ⟨S1024, .f32⟩
  | 113 => ⟨S1x1024, .f32⟩
  | 114 => ⟨S2048x1024, .f32⟩
  | 115 => ⟨S2048x1024, .f32⟩
  | 116 => ⟨S2048x1024, .f32⟩
  | 117 => ⟨S2048x1024, .f32⟩
  | 118 => ⟨S1x1024, .f32⟩
  | 119 => ⟨S1024, .f32⟩
  | 120 => ⟨S1x1024, .f32⟩
  | 121 => ⟨S2048x1024, .f32⟩
  | 122 => ⟨S2048x1024, .f32⟩
  | 123 => ⟨S2048x1024, .f32⟩
  | 124 => ⟨S2048x1024, .f32⟩
  | 125 => ⟨S1x1024, .f32⟩
  | 126 => ⟨S1024, .f32⟩
  | 127 => ⟨S1x1024, .f32⟩
  | _ => ⟨S2048x2048, .f32⟩

abbrev hbmTy0_1 (i : Nat) : BufTy := match i % 128 with
  | 0 => ⟨S2048x1024, .f32⟩
  | 1 => ⟨S2048x1024, .f32⟩
  | 2 => ⟨S2048x1024, .f32⟩
  | 3 => ⟨S2048x1024, .f32⟩
  | 4 => ⟨S1x1024, .f32⟩
  | 5 => ⟨S1024, .f32⟩
  | 6 => ⟨S1x1024, .f32⟩
  | 7 => ⟨S2048x1024, .f32⟩
  | 8 => ⟨S2048x1024, .f32⟩
  | 9 => ⟨S2048x1024, .f32⟩
  | 10 => ⟨S2048x1024, .f32⟩
  | 11 => ⟨S1x1024, .f32⟩
  | 12 => ⟨S1024, .f32⟩
  | 13 => ⟨S1x1024, .f32⟩
  | 14 => ⟨S2048x1024, .f32⟩
  | 15 => ⟨S2048x1024, .f32⟩
  | 16 => ⟨S2048x1024, .f32⟩
  | 17 => ⟨S2048x1024, .f32⟩
  | 18 => ⟨S1x1024, .f32⟩
  | 19 => ⟨S1024, .f32⟩
  | 20 => ⟨S1x1024, .f32⟩
  | 21 => ⟨S2048x1024, .f32⟩
  | 22 => ⟨S2048x1024, .f32⟩
  | 23 => ⟨S2048x1024, .f32⟩
  | 24 => ⟨S2048x1024, .f32⟩
  | 25 => ⟨S1x1024, .f32⟩
  | 26 => ⟨S1024, .f32⟩
  | 27 => ⟨S1x1024, .f32⟩
  | 28 => ⟨S2048x1024, .f32⟩
  | 29 => ⟨S2048x1024, .f32⟩
  | 30 => ⟨S2048x1024, .f32⟩
  | 31 => ⟨S2048x1024, .f32⟩
  | 32 => ⟨S1x1024, .f32⟩
  | 33 => ⟨S1024, .f32⟩
  | 34 => ⟨S1x1024, .f32⟩
  | 35 => ⟨S2048x1024, .f32⟩
  | 36 => ⟨S2048x1024, .f32⟩
  | 37 => ⟨S2048x1024, .f32⟩
  | 38 => ⟨S2048x1024, .f32⟩
  | 39 => ⟨S1x1024, .f32⟩
  | 40 => ⟨S1024, .f32⟩
  | 41 => ⟨S1x1024, .f32⟩
  | 42 => ⟨S2048x1024, .f32⟩
  | 43 => ⟨S2048x1024, .f32⟩
  | 44 => ⟨S2048x1024, .f32⟩
  | 45 => ⟨S2048x1024, .f32⟩
  | 46 => ⟨S1x1024, .f32⟩
  | 47 => ⟨S1024, .f32⟩
  | 48 => ⟨S1x1024, .f32⟩
  | 49 => ⟨S2048x1024, .f32⟩
  | 50 => ⟨S2048x1024, .f32⟩
  | 51 => ⟨S2048x1024, .f32⟩
  | 52 => ⟨S2048x1024, .f32⟩
  | 53 => ⟨S1x1024, .f32⟩
  | 54 => ⟨S1024, .f32⟩
  | 55 => ⟨S1x1024, .f32⟩
  | 56 => ⟨S2048x1024, .f32⟩
  | 57 => ⟨S2048x1024, .f32⟩
  | 58 => ⟨S2048x1024, .f32⟩
  | 59 => ⟨S2048x1024, .f32⟩
  | 60 => ⟨S1x1024, .f32⟩
  | 61 => ⟨S1024, .f32⟩
  | 62 => ⟨S1x1024, .f32⟩
  | 63 => ⟨S2048x1024, .f32⟩
  | 64 => ⟨S2048x1024, .f32⟩
  | 65 => ⟨S2048x1024, .f32⟩
  | 66 => ⟨S2048x1024, .f32⟩
  | 67 => ⟨S1x1024, .f32⟩
  | 68 => ⟨S1024, .f32⟩
  | 69 => ⟨S1x1024, .f32⟩
  | 70 => ⟨S2048x1024, .f32⟩
  | 71 => ⟨S2048x1024, .f32⟩
  | 72 => ⟨S2048x1024, .f32⟩
  | 73 => ⟨S2048x1024, .f32⟩
  | 74 => ⟨S1x1024, .f32⟩
  | 75 => ⟨S1024, .f32⟩
  | 76 => ⟨S1x1024, .f32⟩
  | 77 => ⟨S2048x1024, .f32⟩
  | 78 => ⟨S2048x1024, .f32⟩
  | 79 => ⟨S2048x1024, .f32⟩
  | 80 => ⟨S2048x1024, .f32⟩
  | 81 => ⟨S1x1024, .f32⟩
  | 82 => ⟨S1024, .f32⟩
  | 83 => ⟨S1x1024, .f32⟩
  | 84 => ⟨S2048x1024, .f32⟩
  | 85 => ⟨S2048x1024, .f32⟩
  | 86 => ⟨S2048x1024, .f32⟩
  | 87 => ⟨S2048x1024, .f32⟩
  | 88 => ⟨S1x1024, .f32⟩
  | 89 => ⟨S1024, .f32⟩
  | 90 => ⟨S1x1024, .f32⟩
  | 91 => ⟨S2048x1024, .f32⟩
  | 92 => ⟨S2048x1024, .f32⟩
  | 93 => ⟨S2048x1024, .f32⟩
  | 94 => ⟨S2048x1024, .f32⟩
  | 95 => ⟨S1x1024, .f32⟩
  | 96 => ⟨S1024, .f32⟩
  | 97 => ⟨S1x1024, .f32⟩
  | 98 => ⟨S2048x1024, .f32⟩
  | 99 => ⟨S2048x1024, .f32⟩
  | 100 => ⟨S2048x1024, .f32⟩
  | 101 => ⟨S2048x1024, .f32⟩
  | 102 => ⟨S1x1024, .f32⟩
  | 103 => ⟨S1024, .f32⟩
  | 104 => ⟨S1x1024, .f32⟩
  | 105 => ⟨S2048x1024, .f32⟩
  | 106 => ⟨S2048x1024, .f32⟩
  | 107 => ⟨S2048x1024, .f32⟩
  | 108 => ⟨S2048x1024, .f32⟩
  | 109 => ⟨S2048x1024, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_v223 : Ref sig .tc := ⟨.hbm, 230, rfl⟩
abbrev main_v224 : Ref sig .tc := ⟨.hbm, 231, rfl⟩
abbrev main_v225 : Ref sig .tc := ⟨.hbm, 232, rfl⟩
abbrev main_v226 : Ref sig .tc := ⟨.hbm, 233, rfl⟩
abbrev main_v227 : Ref sig .tc := ⟨.hbm, 234, rfl⟩
abbrev main_v228 : Ref sig .tc := ⟨.hbm, 235, rfl⟩
abbrev main_v229 : Ref sig .tc := ⟨.hbm, 236, rfl⟩
abbrev main_v230 : Ref sig .tc := ⟨.hbm, 237, rfl⟩

abbrev nD : Nat := 1
abbrev τ : Topo := Topo.v7x

variable {F : FTy → Type} [FloatOps F]
-- ==== Kernel53.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .bf16⟩
  | .local _ .vmem, ⟨5, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference53Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== Kernel54.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S1x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference54Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 95
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S2048x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S_, .f32⟩
  | .hbm, ⟨66, _⟩ => ⟨S2048, .f32⟩
  | .hbm, ⟨67, _⟩ => ⟨S2048x1, .f32⟩
  | .hbm, ⟨68, _⟩ => ⟨S2048x1024, .f32⟩
  | .hbm, ⟨69, _⟩ => ⟨S2048x1024, .f32⟩
  | .hbm, ⟨70, _⟩ => ⟨S2048x1, .f32⟩
  | .hbm, ⟨71, _⟩ => ⟨S2048x1024, .f32⟩
  | .hbm, ⟨72, _⟩ => ⟨S_, .f32⟩
  | .hbm, ⟨73, _⟩ => ⟨S2048, .f32⟩
  | .hbm, ⟨74, _⟩ => ⟨S2048x1, .f32⟩
  | .hbm, ⟨75, _⟩ => ⟨S_, .f32⟩
  | .hbm, ⟨76, _⟩ => ⟨S2048x1, .f32⟩
  | .hbm, ⟨77, _⟩ => ⟨S2048x1, .f32⟩
  | .hbm, ⟨78, _⟩ => ⟨S_, .f32⟩
  | .hbm, ⟨79, _⟩ => ⟨S2048, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S_, .f32⟩
  | .hbm, ⟨84, _⟩ => ⟨S2048, .f32⟩
  | .hbm, ⟨85, _⟩ => ⟨S2048x1, .f32⟩
  | .hbm, ⟨86, _⟩ => ⟨S2048x1024, .f32⟩
  | .hbm, ⟨87, _⟩ => ⟨S2048x1, .f32⟩
  | .hbm, ⟨88, _⟩ => ⟨S_, .f32⟩
  | .hbm, ⟨89, _⟩ => ⟨S2048x1, .f32⟩
  | .hbm, ⟨90, _⟩ => ⟨S2048x1, .f32⟩
  | .hbm, ⟨91, _⟩ => ⟨S_, .f32⟩
  | .hbm, ⟨92, _⟩ => ⟨S2048, .f32⟩
  | .hbm, ⟨93, _⟩ => ⟨S2048x1024, .f32⟩
  | .hbm, ⟨94, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v27_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v27_1 : Ref sig .tc := ⟨.hbm, 49, rfl⟩
abbrev main_v27_0 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_7 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_8 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_cst_10 : Ref sig .tc := ⟨.hbm, 75, rfl⟩
abbrev main_v45 : Ref sig .tc := ⟨.hbm, 76, rfl⟩
abbrev main_v46 : Ref sig .tc := ⟨.hbm, 77, rfl⟩
abbrev main_cst_11 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_12 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_13 : Ref sig .tc := ⟨.hbm, 88, rfl⟩
abbrev main_v55 : Ref sig .tc := ⟨.hbm, 89, rfl⟩
abbrev main_v56 : Ref sig .tc := ⟨.hbm, 90, rfl⟩
abbrev main_cst_14 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩

abbrev nD : Nat := 1
abbrev τ : Topo := Topo.v7x

variable {F : FTy → Type} [FloatOps F]
-- ==== Kernel55.lean ====
abbrev S2048x1024 : Shape := ⟨2, ![2048, 1024]⟩
abbrev S1x1024 : Shape := ⟨2, ![1, 1024]⟩
abbrev S256x1024 : Shape := ⟨2, ![256, 1024]⟩
abbrev S1024 : Shape := ⟨1, ![1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference55Ideal.lean ====
abbrev S2048x1024 : Shape := ⟨2, ![2048, 1024]⟩
abbrev S1x1024 : Shape := ⟨2, ![1, 1024]⟩
abbrev S_ : Shape := ⟨0, ![]⟩
abbrev S1024 : Shape := ⟨1, ![1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S1024, .f32⟩
  | .hbm, ⟨8, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel48.lean ====
abbrev S2048x6144 : Shape := ⟨2, ![2048, 6144]⟩
abbrev S3x6144 : Shape := ⟨2, ![3, 6144]⟩
abbrev S2048x3072 : Shape := ⟨2, ![2048, 3072]⟩
abbrev S8x3072 : Shape := ⟨2, ![8, 3072]⟩
abbrev S2048x128 : Shape := ⟨2, ![2048, 128]⟩
abbrev S3x128 : Shape := ⟨2, ![3, 128]⟩
abbrev S8x128 : Shape := ⟨2, ![8, 128]⟩
abbrev S1x128 : Shape := ⟨2, ![1, 128]⟩
abbrev S128 : Shape := ⟨1, ![128]⟩

abbrev nBuf : Space → Nat
  | .hbm => 7
  | .vmem => 18
  | .smem => 0
  | _ => 0

abbrev bufTy : (tb : Table) → Fin (tcTables nBuf tb) → BufTy
  | .hbm, ⟨0, _⟩ => ⟨S2048x6144, .f32⟩
  | .hbm, ⟨1, _⟩ => ⟨S3x6144, .f32⟩
  | .hbm, ⟨2, _⟩ => ⟨S2048x3072, .f32⟩
  | .hbm, ⟨3, _⟩ => ⟨S2048x3072, .f32⟩
  | .hbm, ⟨4, _⟩ => ⟨S2048x3072, .f32⟩
  | .hbm, ⟨5, _⟩ => ⟨S8x3072, .f32⟩
  | .hbm, ⟨6, _⟩ => ⟨S8x3072, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | .local _ .vmem, ⟨7, _⟩ => ⟨S3x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S8x128, .f32⟩
  | .local _ .vmem, ⟨15, _⟩ => ⟨S8x128, .f32⟩
  | .local _ .vmem, ⟨16, _⟩ => ⟨S8x128, .f32⟩
  | .local _ .vmem, ⟨17, _⟩ => ⟨S8x128, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c24_i32 : BitVec 32 := 24#32
  let v0 : BitVec 32 := Scalar.addi arg0 c24_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c24_i32 : BitVec 32 := 24#32
  let v0 : BitVec 32 := Scalar.addi arg0 c24_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference48Ideal.lean ====
abbrev S2048x6144 : Shape := ⟨2, ![2048, 6144]⟩
abbrev S3x6144 : Shape := ⟨2, ![3, 6144]⟩
abbrev S2048x3072 : Shape := ⟨2, ![2048, 3072]⟩
abbrev S_ : Shape := ⟨0, ![]⟩
abbrev S2x6144 : Shape := ⟨2, ![2, 6144]⟩
abbrev S2050x6144 : Shape := ⟨2, ![2050, 6144]⟩
abbrev S1x6144 : Shape := ⟨2, ![1, 6144]⟩
abbrev S6144 : Shape := ⟨1, ![6144]⟩
abbrev S5x6144 : Shape := ⟨2, ![5, 6144]⟩
abbrev S8x6144 : Shape := ⟨2, ![8, 6144]⟩
abbrev S8x3072 : Shape := ⟨2, ![8, 3072]⟩

abbrev nBuf : Space → Nat
  | .hbm => 106
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S3x6144, .f32⟩
  | .hbm, ⟨2, _⟩ => ⟨S2048x3072, .f32⟩
  | .hbm, ⟨3, _⟩ => ⟨S_, .f32⟩
  | .hbm, ⟨4, _⟩ => ⟨S2x6144, .f32⟩
  | .hbm, ⟨5, _⟩ => ⟨S2050x6144, .f32⟩
  | .hbm, ⟨6, _⟩ => ⟨S_, .f32⟩
  | .hbm, ⟨7, _⟩ => ⟨S2x6144, .f32⟩
  | .hbm, ⟨8, _⟩ => ⟨S2048x6144, .f32⟩
  | .hbm, ⟨9, _⟩ => ⟨S1x6144, .f32⟩
  | .hbm, ⟨10, _⟩ => ⟨S6144, .f32⟩
  | .hbm, ⟨11, _⟩ => ⟨S1x6144, .f32⟩
  | .hbm, ⟨12, _⟩ => ⟨S2048x6144, .f32⟩
  | .hbm, ⟨13, _⟩ => ⟨S2048x6144, .f32⟩
  | .hbm, ⟨14, _⟩ => ⟨S_, .f32⟩
  | .hbm, ⟨15, _⟩ => ⟨S2048x6144, .f32⟩
  | .hbm, ⟨16, _⟩ => ⟨S2048x6144, .f32⟩
  | .hbm, ⟨17, _⟩ => ⟨S2048x6144, .f32⟩
  | .hbm, ⟨18, _⟩ => ⟨S1x6144, .f32⟩
  | .hbm, ⟨19, _⟩ => ⟨S6144, .f32⟩
  | .hbm, ⟨20, _⟩ => ⟨S1x6144, .f32⟩
  | .hbm, ⟨21, _⟩ => ⟨S2048x6144, .f32⟩
  | .hbm, ⟨22, _⟩ => ⟨S2048x6144, .f32⟩
  | .hbm, ⟨23, _⟩ => ⟨S2048x6144, .f32⟩
  | .hbm, ⟨24, _⟩ => ⟨S2048x6144, .f32⟩
  | .hbm, ⟨25, _⟩ => ⟨S1x6144, .f32⟩
  | .hbm, ⟨26, _⟩ => ⟨S6144, .f32⟩
  | .hbm, ⟨27, _⟩ => ⟨S1x6144, .f32⟩
  | .hbm, ⟨28, _⟩ => ⟨S2048x6144, .f32⟩
  | .hbm, ⟨29, _⟩ => ⟨S2048x6144, .f32⟩
  | .hbm, ⟨30, _⟩ => ⟨S2048x6144, .f32⟩
  | .hbm, ⟨31, _⟩ => ⟨S2048x3072, .f32⟩
  | .hbm, ⟨32, _⟩ => ⟨S2048x3072, .f32⟩
  | .hbm, ⟨33, _⟩ => ⟨S2048x3072, .f32⟩
  | .hbm, ⟨34, _⟩ => ⟨S2048x3072, .f32⟩
  | .hbm, ⟨35, _⟩ => ⟨S_, .f32⟩
  | .hbm, ⟨36, _⟩ => ⟨S2048x3072, .f32⟩
  | .hbm, ⟨37, _⟩ => ⟨S2048x3072, .f32⟩
  | .hbm, ⟨38, _⟩ => ⟨S_, .f32⟩
  | .hbm, ⟨39, _⟩ => ⟨S2048x3072, .f32⟩
  | .hbm, ⟨40, _⟩ => ⟨S2048x3072, .f32⟩
  | .hbm, ⟨41, _⟩ => ⟨S_, .f32⟩
  | .hbm, ⟨42, _⟩ => ⟨S2048x3072, .f32⟩
  | .hbm, ⟨43, _⟩ => ⟨S2048x3072, .f32⟩
  | .hbm, ⟨44, _⟩ => ⟨S2048x3072, .f32⟩
  | .hbm, ⟨45, _⟩ => ⟨S2048x3072, .f32⟩
  | .hbm, ⟨46, _⟩ => ⟨S2048x3072, .f32⟩
  | .hbm, ⟨47, _⟩ => ⟨S2048x3072, .f32⟩
  | .hbm, ⟨48, _⟩ => ⟨S2048x3072, .f32⟩
  | .hbm, ⟨49, _⟩ => ⟨S2048x3072, .f32⟩
  | .hbm, ⟨50, _⟩ => ⟨S2048x3072, .f32⟩
  | .hbm, ⟨51, _⟩ => ⟨S2048x3072, .f32⟩
  | .hbm, ⟨52, _⟩ => ⟨S2048x3072, .f32⟩
  | .hbm, ⟨53, _⟩ => ⟨S2048x6144, .f32⟩
  | .hbm, ⟨54, _⟩ => ⟨S2048x6144, .f32⟩
  | .hbm, ⟨55, _⟩ => ⟨S_, .f32⟩
  | .hbm, ⟨56, _⟩ => ⟨S6144, .f32⟩
  | .hbm, ⟨57, _⟩ => ⟨S1x6144, .f32⟩
  | .hbm, ⟨58, _⟩ => ⟨S2048x6144, .f32⟩
  | .hbm, ⟨59, _⟩ => ⟨S2048x6144, .f32⟩
  | .hbm, ⟨60, _⟩ => ⟨S_, .f32⟩
  | .hbm, ⟨61, _⟩ => ⟨S6144, .f32⟩
  | .hbm, ⟨62, _⟩ => ⟨S1x6144, .f32⟩
  | .hbm, ⟨63, _⟩ => ⟨S_, .f32⟩
  | .hbm, ⟨64, _⟩ => ⟨S3x6144, .f32⟩
  | .hbm, ⟨65, _⟩ => ⟨S_, .f32⟩
  | .hbm, ⟨66, _⟩ => ⟨S2050x6144, .f32⟩
  | .hbm, ⟨67, _⟩ => ⟨S2048x6144, .f32⟩
  | .hbm, ⟨68, _⟩ => ⟨S_, .f32⟩
  | .hbm, ⟨69, _⟩ => ⟨S6144, .f32⟩
  | .hbm, ⟨70, _⟩ => ⟨S1x6144, .f32⟩
  | .hbm, ⟨71, _⟩ => ⟨S2048x6144, .f32⟩
  | .hbm, ⟨72, _⟩ => ⟨S2048x6144, .f32⟩
  | .hbm, ⟨73, _⟩ => ⟨S_, .f32⟩
  | .hbm, ⟨74, _⟩ => ⟨S6144, .f32⟩
  | .hbm, ⟨75, _⟩ => ⟨S1x6144, .f32⟩
  | .hbm, ⟨76, _⟩ => ⟨S_, .f32⟩
  | .hbm, ⟨77, _⟩ => ⟨S3x6144, .f32⟩
  | .hbm, ⟨78, _⟩ => ⟨S3x6144, .f32⟩
  | .hbm, ⟨79, _⟩ => ⟨S_, .f32⟩
  | .hbm, ⟨80, _⟩ => ⟨S2050x6144, .f32⟩
  | .hbm, ⟨81, _⟩ => ⟨S2050x6144, .f32⟩
  | .hbm, ⟨82, _⟩ => ⟨S2048x6144, .f32⟩
  | .hbm, ⟨83, _⟩ => ⟨S_, .f32⟩
  | .hbm, ⟨84, _⟩ => ⟨S6144, .f32⟩
  | .hbm, ⟨85, _⟩ => ⟨S1x6144, .f32⟩
  | .hbm, ⟨86, _⟩ => ⟨S2048x6144, .f32⟩
  | .hbm, ⟨87, _⟩ => ⟨S2048x6144, .f32⟩
  | .hbm, ⟨88, _⟩ => ⟨S_, .f32⟩
  | .hbm, ⟨89, _⟩ => ⟨S6144, .f32⟩
  | .hbm, ⟨90, _⟩ => ⟨S1x6144, .f32⟩
  | .hbm, ⟨91, _⟩ => ⟨S_, .f32⟩
  | .hbm, ⟨92, _⟩ => ⟨S3x6144, .f32⟩
  | .hbm, ⟨93, _⟩ => ⟨S3x6144, .f32⟩
  | .hbm, ⟨94, _⟩ => ⟨S_, .f32⟩
  | .hbm, ⟨95, _⟩ => ⟨S2050x6144, .f32⟩
  | .hbm, ⟨96, _⟩ => ⟨S2050x6144, .f32⟩
  | .hbm, ⟨97, _⟩ => ⟨S2x6144, .f32⟩
  | .hbm, ⟨98, _⟩ => ⟨S2048x6144, .f32⟩
  | .hbm, ⟨99, _⟩ => ⟨S_, .f32⟩
  | .hbm, ⟨100, _⟩ => ⟨S5x6144, .f32⟩
  | .hbm, ⟨101, _⟩ => ⟨S8x6144, .f32⟩
  | .hbm, ⟨102, _⟩ => ⟨S2048x3072, .f32⟩
  | .hbm, ⟨103, _⟩ => ⟨S2048x3072, .f32⟩
  | .hbm, ⟨104, _⟩ => ⟨S8x3072, .f32⟩
  | .hbm, ⟨105, _⟩ => ⟨S8x3072, .f32⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v27_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v27_1 : Ref sig .tc := ⟨.hbm, 44, rfl⟩
abbrev main_v27_0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_2 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_3 : Ref sig .tc := ⟨.hbm, 60, rfl⟩
abbrev main_v38 : Ref sig .tc := ⟨.hbm, 61, rfl⟩
abbrev main_v39 : Ref sig .tc := ⟨.hbm, 62, rfl⟩
abbrev main_cst_4 : Ref sig .tc := ⟨.hbm, 63, rfl⟩
abbrev main_v40 : Ref sig .tc := ⟨.hbm, 64, rfl⟩
abbrev main_cst_5 : Ref sig .tc := ⟨.hbm, 65, rfl⟩
abbrev main_v41 : Ref sig .tc := ⟨.hbm, 66, rfl⟩
abbrev main_v42 : Ref sig .tc := ⟨.hbm, 67, rfl⟩
abbrev main_cst_6 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_7 : Ref sig .tc := ⟨.hbm, 73, rfl⟩
abbrev main_v47 : Ref sig .tc := ⟨.hbm, 74, rfl⟩
abbrev main_v48 : Ref sig .tc := ⟨.hbm, 75, rfl⟩
abbrev main_cst_8 : Ref sig .tc := ⟨.hbm, 76, rfl⟩
abbrev main_v49 : Ref sig .tc := ⟨.hbm, 77, rfl⟩
abbrev main_v50 : Ref sig .tc := ⟨.hbm, 78, rfl⟩
abbrev main_cst_9 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_10 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_11 : Ref sig .tc := ⟨.hbm, 88, rfl⟩
abbrev main_v58 : Ref sig .tc := ⟨.hbm, 89, rfl⟩
abbrev main_v59 : Ref sig .tc := ⟨.hbm, 90, rfl⟩
abbrev main_cst_12 : Ref sig .tc := ⟨.hbm, 91, rfl⟩
abbrev main_v60 : Ref sig .tc := ⟨.hbm, 92, rfl⟩
abbrev main_v61 : Ref sig .tc := ⟨.hbm, 93, rfl⟩
abbrev main_cst_13 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_14 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩

abbrev nD : Nat := 1
abbrev τ : Topo := Topo.v7x

variable {F : FTy → Type} [FloatOps F]
-- ==== Kernel52.lean ====
abbrev S2048x2048 : Shape := ⟨2, ![2048, 2048]⟩
abbrev S31x1024 : Shape := ⟨2, ![31, 1024]⟩
abbrev S2048x1024 : Shape := ⟨2, ![2048, 1024]⟩
abbrev S32x1024 : Shape := ⟨2, ![32, 1024]⟩
abbrev S1x1024 : Shape := ⟨2, ![1, 1024]⟩
abbrev S2048x128 : Shape := ⟨2, ![2048, 128]⟩
abbrev S31x128 : Shape := ⟨2, ![31, 128]⟩
abbrev S32x128 : Shape := ⟨2, ![32, 128]⟩
abbrev S1x128 : Shape := ⟨2, ![1, 128]⟩
abbrev S128 : Shape := ⟨1, ![128]⟩

abbrev nBuf : Space → Nat
  | .hbm => 7
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S31x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S32x1024, .f32⟩
  | .hbm, ⟨6, _⟩ => ⟨S1x1024, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S31x128, .f32⟩
  | .local _ .vmem, ⟨5, _⟩ => ⟨S31x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S32x128, .f32⟩
  | .local _ .vmem, ⟨13, _⟩ => ⟨S32x128, .f32⟩
  | .local _ .vmem, ⟨14, _⟩ => ⟨S1x128, .f32⟩
  | .local _ .vmem, ⟨15, _⟩ => ⟨S1x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S31x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference52Ideal.lean ====
abbrev S2048x2048 : Shape := ⟨2, ![2048, 2048]⟩
abbrev S31x1024 : Shape := ⟨2, ![31, 1024]⟩
abbrev S2048x1024 : Shape := ⟨2, ![2048, 1024]⟩
abbrev S_ : Shape := ⟨0, ![]⟩
abbrev S1x1024 : Shape := ⟨2, ![1, 1024]⟩
abbrev S30x1024 : Shape := ⟨2, ![30, 1024]⟩
abbrev S2078x1024 : Shape := ⟨2, ![2078, 1024]⟩
abbrev S1024 : Shape := ⟨1, ![1024]⟩
abbrev S32x1024 : Shape := ⟨2, ![32, 1024]⟩

abbrev nBuf : Space → Nat
  | .hbm => 728
  | .vmem => 0
  | .smem => 0
  | _ => 0

abbrev hbmTy0_0 (i : Nat) : BufTy := match i % 128 with
  | 0 => ⟨S2048x2048, .f32⟩
  | 1 => ⟨S31x1024, .f32⟩
  | 2 => ⟨S2048x1024, .f32⟩
  | 3 => ⟨S_, .f32⟩
  | 4 => ⟨S1x1024, .f32⟩
  | 5 => ⟨S2048x1024, .f32⟩
  | 6 => ⟨S2048x1024, .f32⟩
  | 7 => ⟨S2048x1024, .f32⟩
  | 8 => ⟨S2048x1024, .f32⟩
  | 9 => ⟨S_, .f32⟩
  | 10 => ⟨S2048x1024, .f32⟩
  | 11 => ⟨S2048x1024, .f32⟩
  | 12 => ⟨S_, .f32⟩
  | 13 => ⟨S2048x1024, .f32⟩
  | 14 => ⟨S2048x1024, .f32⟩
  | 15 => ⟨S_, .f32⟩
  | 16 => ⟨S2048x1024, .f32⟩
  | 17 => ⟨S2048x1024, .f32⟩
  | 18 => ⟨S2048x1024, .f32⟩
  | 19 => ⟨S2048x1024, .f32⟩
  | 20 => ⟨S_, .f32⟩
  | 21 => ⟨S30x1024, .f32⟩
  | 22 => ⟨S2078x1024, .f32⟩
  | 23 => ⟨S_, .f32⟩
  | 24 => ⟨S30x1024, .f32⟩
  | 25 => ⟨S2048x1024, .f32⟩
  | 26 => ⟨S1x1024, .f32⟩
  | 27 => ⟨S1024, .f32⟩
  | 28 => ⟨S1x1024, .f32⟩
  | 29 => ⟨S2048x1024, .f32⟩
  | 30 => ⟨S2048x1024, .f32⟩
  | 31 => ⟨S_, .f32⟩
  | 32 => ⟨S2048x1024, .f32⟩
  | 33 => ⟨S2048x1024, .f32⟩
  | 34 => ⟨S2048x1024, .f32⟩
  | 35 => ⟨S1x1024, .f32⟩
  | 36 => ⟨S1024, .f32⟩
  | 37 => ⟨S1x1024, .f32⟩
  | 38 => ⟨S2048x1024, .f32⟩
  | 39 => ⟨S2048x1024, .f32⟩
  | 40 => ⟨S2048x1024, .f32⟩
  | 41 => ⟨S2048x1024, .f32⟩
  | 42 => ⟨S1x1024, .f32⟩
  | 43 => ⟨S1024, .f32⟩
  | 44 => ⟨S1x1024, .f32⟩
  | 45 => ⟨S2048x1024, .f32⟩
  | 46 => ⟨S2048x1024, .f32⟩
  | 47 => ⟨S2048x1024, .f32⟩
  | 48 => ⟨S2048x1024, .f32⟩
  | 49 => ⟨S1x1024, .f32⟩
  | 50 => ⟨S1024, .f32⟩
  | 51 => ⟨S1x1024, .f32⟩
  | 52 => ⟨S2048x1024, .f32⟩
  | 53 => ⟨S2048x1024, .f32⟩
  | 54 => ⟨S2048x1024, .f32⟩
  | 55 => ⟨S2048x1024, .f32⟩
  | 56 => ⟨S1x1024, .f32⟩
  | 57 => ⟨S1024, .f32⟩
  | 58 => ⟨S1x1024, .f32⟩
  | 59 => ⟨S2048x1024, .f32⟩
  | 60 => ⟨S2048x1024, .f32⟩
  | 61 => ⟨S2048x1024, .f32⟩
  | 62 => ⟨S2048x1024, .f32⟩
  | 63 => ⟨S1x1024, .f32⟩
  | 64 => ⟨S1024, .f32⟩
  | 65 => ⟨S1x1024, .f32⟩
  | 66 => ⟨S2048x1024, .f32⟩
  | 67 => ⟨S2048x1024, .f32⟩
  | 68 => ⟨S2048x1024, .f32⟩
  | 69 => ⟨S2048x1024, .f32⟩
  | 70 => ⟨S1x1024, .f32⟩
  | 71 => ⟨S1024, .f32⟩
  | 72 => ⟨S1x1024, .f32⟩
  | 73 => ⟨S2048x1024, .f32⟩
  | 74 => ⟨S2048x1024, .f32⟩
  | 75 => ⟨S2048x1024, .f32⟩
  | 76 => ⟨S2048x1024, .f32⟩
  | 77 => ⟨S1x1024, .f32⟩
  | 78 => ⟨S1024, .f32⟩
  | 79 => ⟨S1x1024, .f32⟩
  | 80 => ⟨S2048x1024, .f32⟩
  | 81 => ⟨S2048x1024, .f32⟩
  | 82 => ⟨S2048x1024, .f32⟩
  | 83 => ⟨S2048x1024, .f32⟩
  | 84 => ⟨S1x1024, .f32⟩
  | 85 => ⟨S1024, .f32⟩
  | 86 => ⟨S1x1024, .f32⟩
  | 87 => ⟨S2048x1024, .f32⟩
  | 88 => ⟨S2048x1024, .f32⟩
  | 89 => ⟨S2048x1024, .f32⟩
  | 90 => ⟨S2048x1024, .f32⟩
  | 91 => ⟨S1x1024, .f32⟩
  | 92 => ⟨S1024, .f32⟩
  | 93 => ⟨S1x1024, .f32⟩
  | 94 => ⟨S2048x1024, .f32⟩
  | 95 => ⟨S2048x1024, .f32⟩
  | 96 => ⟨S2048x1024, .f32⟩
  | 97 => ⟨S2048x1024, .f32⟩
  | 98 => ⟨S1x1024, .f32⟩
  | 99 => ⟨S1024, .f32⟩
  | 100 => ⟨S1x1024, .f32⟩
  | 101 => ⟨S2048x1024, .f32⟩
  | 102 => ⟨S2048x1024, .f32⟩
  | 103 => ⟨S2048x1024, .f32⟩
  | 104 => ⟨S2048x1024, .f32⟩
  | 105 => ⟨S1x1024, .f32⟩
  | 106 => ⟨S1024, .f32⟩
  | 107 => ⟨S1x1024, .f32⟩
  | 108 => ⟨S2048x1024, .f32⟩
  | 109 => ⟨S2048x1024, .f32⟩
  | 110 => ⟨S2048x1024, .f32⟩
  | 111 => ⟨S2048x1024, .f32⟩
  | 112 => ⟨S1x1024, .f32⟩
  | 113 => ⟨S1024, .f32⟩
  | 114 => ⟨S1x1024, .f32⟩
  | 115 => ⟨S2048x1024, .f32⟩
  | 116 => ⟨S2048x1024, .f32⟩
  | 117 => ⟨S2048x1024, .f32⟩
  | 118 => ⟨S2048x1024, .f32⟩
  | 119 => ⟨S1x1024, .f32⟩
  | 120 => ⟨S1024, .f32⟩
  | 121 => ⟨S1x1024, .f32⟩
  | 122 => ⟨S2048x1024, .f32⟩
  | 123 => ⟨S2048x1024, .f32⟩
  | 124 => ⟨S2048x1024, .f32⟩
  | 125 => ⟨S2048x1024, .f32⟩
  | 126 => ⟨S1x1024, .f32⟩
  | 127 => ⟨S1024, .f32⟩
  | _ => ⟨S2048x2048, .f32⟩

abbrev hbmTy0_1 (i : Nat) : BufTy := match i % 128 with
  | 0 => ⟨S1x1024, .f32⟩
  | 1 => ⟨S2048x1024, .f32⟩
  | 2 => ⟨S2048x1024, .f32⟩
  | 3 => ⟨S2048x1024, .f32⟩
  | 4 => ⟨S2048x1024, .f32⟩
  | 5 => ⟨S1x1024, .f32⟩
  | 6 => ⟨S1024, .f32⟩
  | 7 => ⟨S1x1024, .f32⟩
  | 8 => ⟨S2048x1024, .f32⟩
  | 9 => ⟨S2048x1024, .f32⟩
  | 10 => ⟨S2048x1024, .f32⟩
  | 11 => ⟨S2048x1024, .f32⟩
  | 12 => ⟨S1x1024, .f32⟩
  | 13 => ⟨S1024, .f32⟩
  | 14 => ⟨S1x1024, .f32⟩
  | 15 => ⟨S2048x1024, .f32⟩
  | 16 => ⟨S2048x1024, .f32⟩
  | 17 => ⟨S2048x1024, .f32⟩
  | 18 => ⟨S2048x1024, .f32⟩
  | 19 => ⟨S1x1024, .f32⟩
  | 20 => ⟨S1024, .f32⟩
  | 21 => ⟨S1x1024, .f32⟩
  | 22 => ⟨S2048x1024, .f32⟩
  | 23 => ⟨S2048x1024, .f32⟩
  | 24 => ⟨S2048x1024, .f32⟩
  | 25 => ⟨S2048x1024, .f32⟩
  | 26 => ⟨S1x1024, .f32⟩
  | 27 => ⟨S1024, .f32⟩
  | 28 => ⟨S1x1024, .f32⟩
  | 29 => ⟨S2048x1024, .f32⟩
  | 30 => ⟨S2048x1024, .f32⟩
  | 31 => ⟨S2048x1024, .f32⟩
  | 32 => ⟨S2048x1024, .f32⟩
  | 33 => ⟨S1x1024, .f32⟩
  | 34 => ⟨S1024, .f32⟩
  | 35 => ⟨S1x1024, .f32⟩
  | 36 => ⟨S2048x1024, .f32⟩
  | 37 => ⟨S2048x1024, .f32⟩
  | 38 => ⟨S2048x1024, .f32⟩
  | 39 => ⟨S2048x1024, .f32⟩
  | 40 => ⟨S1x1024, .f32⟩
  | 41 => ⟨S1024, .f32⟩
  | 42 => ⟨S1x1024, .f32⟩
  | 43 => ⟨S2048x1024, .f32⟩
  | 44 => ⟨S2048x1024, .f32⟩
  | 45 => ⟨S2048x1024, .f32⟩
  | 46 => ⟨S2048x1024, .f32⟩
  | 47 => ⟨S1x1024, .f32⟩
  | 48 => ⟨S1024, .f32⟩
  | 49 => ⟨S1x1024, .f32⟩
  | 50 => ⟨S2048x1024, .f32⟩
  | 51 => ⟨S2048x1024, .f32⟩
  | 52 => ⟨S2048x1024, .f32⟩
  | 53 => ⟨S2048x1024, .f32⟩
  | 54 => ⟨S1x1024, .f32⟩
  | 55 => ⟨S1024, .f32⟩
  | 56 => ⟨S1x1024, .f32⟩
  | 57 => ⟨S2048x1024, .f32⟩
  | 58 => ⟨S2048x1024, .f32⟩
  | 59 => ⟨S2048x1024, .f32⟩
  | 60 => ⟨S2048x1024, .f32⟩
  | 61 => ⟨S1x1024, .f32⟩
  | 62 => ⟨S1024, .f32⟩
  | 63 => ⟨S1x1024, .f32⟩
  | 64 => ⟨S2048x1024, .f32⟩
  | 65 => ⟨S2048x1024, .f32⟩
  | 66 => ⟨S2048x1024, .f32⟩
  | 67 => ⟨S2048x1024, .f32⟩
  | 68 => ⟨S1x1024, .f32⟩
  | 69 => ⟨S1024, .f32⟩
  | 70 => ⟨S1x1024, .f32⟩
  | 71 => ⟨S2048x1024, .f32⟩
  | 72 => ⟨S2048x1024, .f32⟩
  | 73 => ⟨S2048x1024, .f32⟩
  | 74 => ⟨S2048x1024, .f32⟩
  | 75 => ⟨S1x1024, .f32⟩
  | 76 => ⟨S1024, .f32⟩
  | 77 => ⟨S1x1024, .f32⟩
  | 78 => ⟨S2048x1024, .f32⟩
  | 79 => ⟨S2048x1024, .f32⟩
  | 80 => ⟨S2048x1024, .f32⟩
  | 81 => ⟨S2048x1024, .f32⟩
  | 82 => ⟨S1x1024, .f32⟩
  | 83 => ⟨S1024, .f32⟩
  | 84 => ⟨S1x1024, .f32⟩
  | 85 => ⟨S2048x1024, .f32⟩
  | 86 => ⟨S2048x1024, .f32⟩
  | 87 => ⟨S2048x1024, .f32⟩
  | 88 => ⟨S2048x1024, .f32⟩
  | 89 => ⟨S1x1024, .f32⟩
  | 90 => ⟨S1024, .f32⟩
  | 91 => ⟨S1x1024, .f32⟩
  | 92 => ⟨S2048x1024, .f32⟩
  | 93 => ⟨S2048x1024, .f32⟩
  | 94 => ⟨S2048x1024, .f32⟩
  | 95 => ⟨S2048x1024, .f32⟩
  | 96 => ⟨S1x1024, .f32⟩
  | 97 => ⟨S1024, .f32⟩
  | 98 => ⟨S1x1024, .f32⟩
  | 99 => ⟨S2048x1024, .f32⟩
  | 100 => ⟨S2048x1024, .f32⟩
  | 101 => ⟨S2048x1024, .f32⟩
  | 102 => ⟨S2048x1024, .f32⟩
  | 103 => ⟨S1x1024, .f32⟩
  | 104 => ⟨S1024, .f32⟩
  | 105 => ⟨S1x1024, .f32⟩
  | 106 => ⟨S2048x1024, .f32⟩
  | 107 => ⟨S2048x1024, .f32⟩
  | 108 => ⟨S2048x1024, .f32⟩
  | 109 => ⟨S2048x1024, .f32⟩
  | 110 => ⟨S1x1024, .f32⟩
  | 111 => ⟨S1024, .f32⟩
  | 112 => ⟨S1x1024, .f32⟩
  | 113 => ⟨S2048x1024, .f32⟩
  | 114 => ⟨S2048x1024, .f32⟩
  | 115 => ⟨S2048x1024, .f32⟩
  | 116 => ⟨S2048x1024, .f32⟩
  | 117 => ⟨S2048x1024, .f32⟩
  | 118 => ⟨S2048x1024, .f32⟩
  | 119 => ⟨S_, .f32⟩
  | 120 => ⟨S1024, .f32⟩
  | 121 => ⟨S1x1024, .f32⟩
  | 122 => ⟨S2048x1024, .f32⟩
  | 123 => ⟨S_, .f32⟩
  | 124 => ⟨S1024, .f32⟩
  | 125 => ⟨S1x1024, .f32⟩
  | 126 => ⟨S2048x1024, .f32⟩
  | 127 => ⟨S2048x1024, .f32⟩
  | _ => ⟨S2048x2048, .f32⟩

abbrev hbmTy0_2 (i : Nat) : BufTy := match i % 128 with
  | 0 => ⟨S_, .f32⟩
  | 1 => ⟨S1024, .f32⟩
  | 2 => ⟨S1x1024, .f32⟩
  | 3 => ⟨S_, .f32⟩
  | 4 => ⟨S31x1024, .f32⟩
  | 5 => ⟨S_, .f32⟩
  | 6 => ⟨S2078x1024, .f32⟩
  | 7 => ⟨S2048x1024, .f32⟩
  | 8 => ⟨S_, .f32⟩
  | 9 => ⟨S1024, .f32⟩
  | 10 => ⟨S1x1024, .f32⟩
  | 11 => ⟨S2048x1024, .f32⟩
  | 12 => ⟨S2048x1024, .f32⟩
  | 13 => ⟨S_, .f32⟩
  | 14 => ⟨S1024, .f32⟩
  | 15 => ⟨S1x1024, .f32⟩
  | 16 => ⟨S_, .f32⟩
  | 17 => ⟨S31x1024, .f32⟩
  | 18 => ⟨S31x1024, .f32⟩
  | 19 => ⟨S_, .f32⟩
  | 20 => ⟨S2078x1024, .f32⟩
  | 21 => ⟨S2078x1024, .f32⟩
  | 22 => ⟨S2048x1024, .f32⟩
  | 23 => ⟨S_, .f32⟩
  | 24 => ⟨S1024, .f32⟩
  | 25 => ⟨S1x1024, .f32⟩
  | 26 => ⟨S2048x1024, .f32⟩
  | 27 => ⟨S2048x1024, .f32⟩
  | 28 => ⟨S_, .f32⟩
  | 29 => ⟨S1024, .f32⟩
  | 30 => ⟨S1x1024, .f32⟩
  | 31 => ⟨S_, .f32⟩
  | 32 => ⟨S31x1024, .f32⟩
  | 33 => ⟨S31x1024, .f32⟩
  | 34 => ⟨S_, .f32⟩
  | 35 => ⟨S2078x1024, .f32⟩
  | 36 => ⟨S2078x1024, .f32⟩
  | 37 => ⟨S2048x1024, .f32⟩
  | 38 => ⟨S_, .f32⟩
  | 39 => ⟨S1024, .f32⟩
  | 40 => ⟨S1x1024, .f32⟩
  | 41 => ⟨S2048x1024, .f32⟩
  | 42 => ⟨S2048x1024, .f32⟩
  | 43 => ⟨S_, .f32⟩
  | 44 => ⟨S1024, .f32⟩
  | 45 => ⟨S1x1024, .f32⟩
  | 46 => ⟨S_, .f32⟩
  | 47 => ⟨S31x1024, .f32⟩
  | 48 => ⟨S31x1024, .f32⟩
  | 49 => ⟨S_, .f32⟩
  | 50 => ⟨S2078x1024, .f32⟩
  | 51 => ⟨S2078x1024, .f32⟩
  | 52 => ⟨S2048x1024, .f32⟩
  | 53 => ⟨S_, .f32⟩
  | 54 => ⟨S1024, .f32⟩
  | 55 => ⟨S1x1024, .f32⟩
  | 56 => ⟨S2048x1024, .f32⟩
  | 57 => ⟨S2048x1024, .f32⟩
  | 58 => ⟨S_, .f32⟩
  | 59 => ⟨S1024, .f32⟩
  | 60 => ⟨S1x1024, .f32⟩
  | 61 => ⟨S_, .f32⟩
  | 62 => ⟨S31x1024, .f32⟩
  | 63 => ⟨S31x1024, .f32⟩
  | 64 => ⟨S_, .f32⟩
  | 65 => ⟨S2078x1024, .f32⟩
  | 66 => ⟨S2078x1024, .f32⟩
  | 67 => ⟨S2048x1024, .f32⟩
  | 68 => ⟨S_, .f32⟩
  | 69 => ⟨S1024, .f32⟩
  | 70 => ⟨S1x1024, .f32⟩
  | 71 => ⟨S2048x1024, .f32⟩
  | 72 => ⟨S2048x1024, .f32⟩
  | 73 => ⟨S_, .f32⟩
  | 74 => ⟨S1024, .f32⟩
  | 75 => ⟨S1x1024, .f32⟩
  | 76 => ⟨S_, .f32⟩
  | 77 => ⟨S31x1024, .f32⟩
  | 78 => ⟨S31x1024, .f32⟩
  | 79 => ⟨S_, .f32⟩
  | 80 => ⟨S2078x1024, .f32⟩
  | 81 => ⟨S2078x1024, .f32⟩
  | 82 => ⟨S2048x1024, .f32⟩
  | 83 => ⟨S_, .f32⟩
  | 84 => ⟨S1024, .f32⟩
  | 85 => ⟨S1x1024, .f32⟩
  | 86 => ⟨S2048x1024, .f32⟩
  | 87 => ⟨S2048x1024, .f32⟩
  | 88 => ⟨S_, .f32⟩
  | 89 => ⟨S1024, .f32⟩
  | 90 => ⟨S1x1024, .f32⟩
  | 91 => ⟨S_, .f32⟩
  | 92 => ⟨S31x1024, .f32⟩
  | 93 => ⟨S31x1024, .f32⟩
  | 94 => ⟨S_, .f32⟩
  | 95 => ⟨S2078x1024, .f32⟩
  | 96 => ⟨S2078x1024, .f32⟩
  | 97 => ⟨S2048x1024, .f32⟩
  | 98 => ⟨S_, .f32⟩
  | 99 => ⟨S1024, .f32⟩
  | 100 => ⟨S1x1024, .f32⟩
  | 101 => ⟨S2048x1024, .f32⟩
  | 102 => ⟨S2048x1024, .f32⟩
  | 103 => ⟨S_, .f32⟩
  | 104 => ⟨S1024, .f32⟩
  | 105 => ⟨S1x1024, .f32⟩
  | 106 => ⟨S_, .f32⟩
  | 107 => ⟨S31x1024, .f32⟩
  | 108 => ⟨S31x1024, .f32⟩
  | 109 => ⟨S_, .f32⟩
  | 110 => ⟨S2078x1024, .f32⟩
  | 111 => ⟨S2078x1024, .f32⟩
  | 112 => ⟨S2048x1024, .f32⟩
  | 113 => ⟨S_, .f32⟩
  | 114 => ⟨S1024, .f32⟩
  | 115 => ⟨S1x1024, .f32⟩
  | 116 => ⟨S2048x1024, .f32⟩
  | 117 => ⟨S2048x1024, .f32⟩
  | 118 => ⟨S_, .f32⟩
  | 119 => ⟨S1024, .f32⟩
  | 120 => ⟨S1x1024, .f32⟩
  | 121 => ⟨S_, .f32⟩
  | 122 => ⟨S31x1024, .f32⟩
  | 123 => ⟨S31x1024, .f32⟩
  | 124 => ⟨S_, .f32⟩
  | 125 => ⟨S2078x1024, .f32⟩
  | 126 => ⟨S2078x1024, .f32⟩
  | 127 => ⟨S2048x1024, .f32⟩
  | _ => ⟨S2048x2048, .f32⟩

abbrev hbmTy0_3 (i : Nat) : BufTy := match i % 128 with
  | 0 => ⟨S_, .f32⟩
  | 1 => ⟨S1024, .f32⟩
  | 2 => ⟨S1x1024, .f32⟩
  | 3 => ⟨S2048x1024, .f32⟩
  | 4 => ⟨S2048x1024, .f32⟩
  | 5 => ⟨S_, .f32⟩
  | 6 => ⟨S1024, .f32⟩
  | 7 => ⟨S1x1024, .f32⟩
  | 8 => ⟨S_, .f32⟩
  | 9 => ⟨S31x1024, .f32⟩
  | 10 => ⟨S31x1024, .f32⟩
  | 11 => ⟨S_, .f32⟩
  | 12 => ⟨S2078x1024, .f32⟩
  | 13 => ⟨S2078x1024, .f32⟩
  | 14 => ⟨S2048x1024, .f32⟩
  | 15 => ⟨S_, .f32⟩
  | 16 => ⟨S1024, .f32⟩
  | 17 => ⟨S1x1024, .f32⟩
  | 18 => ⟨S2048x1024, .f32⟩
  | 19 => ⟨S2048x1024, .f32⟩
  | 20 => ⟨S_, .f32⟩
  | 21 => ⟨S1024, .f32⟩
  | 22 => ⟨S1x1024, .f32⟩
  | 23 => ⟨S_, .f32⟩
  | 24 => ⟨S31x1024, .f32⟩
  | 25 => ⟨S31x1024, .f32⟩
  | 26 => ⟨S_, .f32⟩
  | 27 => ⟨S2078x1024, .f32⟩
  | 28 => ⟨S2078x1024, .f32⟩
  | 29 => ⟨S2048x1024, .f32⟩
  | 30 => ⟨S_, .f32⟩
  | 31 => ⟨S1024, .f32⟩
  | 32 => ⟨S1x1024, .f32⟩
  | 33 => ⟨S2048x1024, .f32⟩
  | 34 => ⟨S2048x1024, .f32⟩
  | 35 => ⟨S_, .f32⟩
  | 36 => ⟨S1024, .f32⟩
  | 37 => ⟨S1x1024, .f32⟩
  | 38 => ⟨S_, .f32⟩
  | 39 => ⟨S31x1024, .f32⟩
  | 40 => ⟨S31x1024, .f32⟩
  | 41 => ⟨S_, .f32⟩
  | 42 => ⟨S2078x1024, .f32⟩
  | 43 => ⟨S2078x1024, .f32⟩
  | 44 => ⟨S2048x1024, .f32⟩
  | 45 => ⟨S_, .f32⟩
  | 46 => ⟨S1024, .f32⟩
  | 47 => ⟨S1x1024, .f32⟩
  | 48 => ⟨S2048x1024, .f32⟩
  | 49 => ⟨S2048x1024, .f32⟩
  | 50 => ⟨S_, .f32⟩
  | 51 => ⟨S1024, .f32⟩
  | 52 => ⟨S1x1024, .f32⟩
  | 53 => ⟨S_, .f32⟩
  | 54 => ⟨S31x1024, .f32⟩
  | 55 => ⟨S31x1024, .f32⟩
  | 56 => ⟨S_, .f32⟩
  | 57 => ⟨S2078x1024, .f32⟩
  | 58 => ⟨S2078x1024, .f32⟩
  | 59 => ⟨S2048x1024, .f32⟩
  | 60 => ⟨S_, .f32⟩
  | 61 => ⟨S1024, .f32⟩
  | 62 => ⟨S1x1024, .f32⟩
  | 63 => ⟨S2048x1024, .f32⟩
  | 64 => ⟨S2048x1024, .f32⟩
  | 65 => ⟨S_, .f32⟩
  | 66 => ⟨S1024, .f32⟩
  | 67 => ⟨S1x1024, .f32⟩
  | 68 => ⟨S_, .f32⟩
  | 69 => ⟨S31x1024, .f32⟩
  | 70 => ⟨S31x1024, .f32⟩
  | 71 => ⟨S_, .f32⟩
  | 72 => ⟨S2078x1024, .f32⟩
  | 73 => ⟨S2078x1024, .f32⟩
  | 74 => ⟨S2048x1024, .f32⟩
  | 75 => ⟨S_, .f32⟩
  | 76 => ⟨S1024, .f32⟩
  | 77 => ⟨S1x1024, .f32⟩
  | 78 => ⟨S2048x1024, .f32⟩
  | 79 => ⟨S2048x1024, .f32⟩
  | 80 => ⟨S_, .f32⟩
  | 81 => ⟨S1024, .f32⟩
  | 82 => ⟨S1x1024, .f32⟩
  | 83 => ⟨S_, .f32⟩
  | 84 => ⟨S31x1024, .f32⟩
  | 85 => ⟨S31x1024, .f32⟩
  | 86 => ⟨S_, .f32⟩
  | 87 => ⟨S2078x1024, .f32⟩
  | 88 => ⟨S2078x1024, .f32⟩
  | 89 => ⟨S2048x1024, .f32⟩
  | 90 => ⟨S_, .f32⟩
  | 91 => ⟨S1024, .f32⟩
  | 92 => ⟨S1x1024, .f32⟩
  | 93 => ⟨S2048x1024, .f32⟩
  | 94 => ⟨S2048x1024, .f32⟩
  | 95 => ⟨S_, .f32⟩
  | 96 => ⟨S1024, .f32⟩
  | 97 => ⟨S1x1024, .f32⟩
  | 98 => ⟨S_, .f32⟩
  | 99 => ⟨S31x1024, .f32⟩
  | 100 => ⟨S31x1024, .f32⟩
  | 101 => ⟨S_, .f32⟩
  | 102 => ⟨S2078x1024, .f32⟩
  | 103 => ⟨S2078x1024, .f32⟩
  | 104 => ⟨S2048x1024, .f32⟩
  | 105 => ⟨S_, .f32⟩
  | 106 => ⟨S1024, .f32⟩
  | 107 => ⟨S1x1024, .f32⟩
  | 108 => ⟨S2048x1024, .f32⟩
  | 109 => ⟨S2048x1024, .f32⟩
  | 110 => ⟨S_, .f32⟩
  | 111 => ⟨S1024, .f32⟩
  | 112 => ⟨S1x1024, .f32⟩
  | 113 => ⟨S_, .f32⟩
  | 114 => ⟨S31x1024, .f32⟩
  | 115 => ⟨S31x1024, .f32⟩
  | 116 => ⟨S_, .f32⟩
  | 117 => ⟨S2078x1024, .f32⟩
  | 118 => ⟨S2078x1024, .f32⟩
  | 119 => ⟨S2048x1024, .f32⟩
  | 120 => ⟨S_, .f32⟩
  | 121 => ⟨S1024, .f32⟩
  | 122 => ⟨S1x1024, .f32⟩
  | 123 => ⟨S2048x1024, .f32⟩
  | 124 => ⟨S2048x1024, .f32⟩
  | 125 => ⟨S_, .f32⟩
  | 126 => ⟨S1024, .f32⟩
  | 127 => ⟨S1x1024, .f32⟩
  | _ => ⟨S2048x2048, .f32⟩

abbrev hbmTy0_4 (i : Nat) : BufTy := match i % 128 with
  | 0 => ⟨S_, .f32⟩
  | 1 => ⟨S31x1024, .f32⟩
  | 2 => ⟨S31x1024, .f32⟩
  | 3 => ⟨S_, .f32⟩
  | 4 => ⟨S2078x1024, .f32⟩
  | 5 => ⟨S2078x1024, .f32⟩
  | 6 => ⟨S2048x1024, .f32⟩
  | 7 => ⟨S_, .f32⟩
  | 8 => ⟨S1024, .f32⟩
  | 9 => ⟨S1x1024, .f32⟩
  | 10 => ⟨S2048x1024, .f32⟩
  | 11 => ⟨S2048x1024, .f32⟩
  | 12 => ⟨S_, .f32⟩
  | 13 => ⟨S1024, .f32⟩
  | 14 => ⟨S1x1024, .f32⟩
  | 15 => ⟨S_, .f32⟩
  | 16 => ⟨S31x1024, .f32⟩
  | 17 => ⟨S31x1024, .f32⟩
  | 18 => ⟨S_, .f32⟩
  | 19 => ⟨S2078x1024, .f32⟩
  | 20 => ⟨S2078x1024, .f32⟩
  | 21 => ⟨S2048x1024, .f32⟩
  | 22 => ⟨S_, .f32⟩
  | 23 => ⟨S1024, .f32⟩
  | 24 => ⟨S1x1024, .f32⟩
  | 25 => ⟨S2048x1024, .f32⟩
  | 26 => ⟨S2048x1024, .f32⟩
  | 27 => ⟨S_, .f32⟩
  | 28 => ⟨S1024, .f32⟩
  | 29 => ⟨S1x1024, .f32⟩
  | 30 => ⟨S_, .f32⟩
  | 31 => ⟨S31x1024, .f32⟩
  | 32 => ⟨S31x1024, .f32⟩
  | 33 => ⟨S_, .f32⟩
  | 34 => ⟨S2078x1024, .f32⟩
  | 35 => ⟨S2078x1024, .f32⟩
  | 36 => ⟨S2048x1024, .f32⟩
  | 37 => ⟨S_, .f32⟩
  | 38 => ⟨S1024, .f32⟩
  | 39 => ⟨S1x1024, .f32⟩
  | 40 => ⟨S2048x1024, .f32⟩
  | 41 => ⟨S2048x1024, .f32⟩
  | 42 => ⟨S_, .f32⟩
  | 43 => ⟨S1024, .f32⟩
  | 44 => ⟨S1x1024, .f32⟩
  | 45 => ⟨S_, .f32⟩
  | 46 => ⟨S31x1024, .f32⟩
  | 47 => ⟨S31x1024, .f32⟩
  | 48 => ⟨S_, .f32⟩
  | 49 => ⟨S2078x1024, .f32⟩
  | 50 => ⟨S2078x1024, .f32⟩
  | 51 => ⟨S2048x1024, .f32⟩
  | 52 => ⟨S_, .f32⟩
  | 53 => ⟨S1024, .f32⟩
  | 54 => ⟨S1x1024, .f32⟩
  | 55 => ⟨S2048x1024, .f32⟩
  | 56 => ⟨S2048x1024, .f32⟩
  | 57 => ⟨S_, .f32⟩
  | 58 => ⟨S1024, .f32⟩
  | 59 => ⟨S1x1024, .f32⟩
  | 60 => ⟨S_, .f32⟩
  | 61 => ⟨S31x1024, .f32⟩
  | 62 => ⟨S31x1024, .f32⟩
  | 63 => ⟨S_, .f32⟩
  | 64 => ⟨S2078x1024, .f32⟩
  | 65 => ⟨S2078x1024, .f32⟩
  | 66 => ⟨S2048x1024, .f32⟩
  | 67 => ⟨S_, .f32⟩
  | 68 => ⟨S1024, .f32⟩
  | 69 => ⟨S1x1024, .f32⟩
  | 70 => ⟨S2048x1024, .f32⟩
  | 71 => ⟨S2048x1024, .f32⟩
  | 72 => ⟨S_, .f32⟩
  | 73 => ⟨S1024, .f32⟩
  | 74 => ⟨S1x1024, .f32⟩
  | 75 => ⟨S_, .f32⟩
  | 76 => ⟨S31x1024, .f32⟩
  | 77 => ⟨S31x1024, .f32⟩
  | 78 => ⟨S_, .f32⟩
  | 79 => ⟨S2078x1024, .f32⟩
  | 80 => ⟨S2078x1024, .f32⟩
  | 81 => ⟨S2048x1024, .f32⟩
  | 82 => ⟨S_, .f32⟩
  | 83 => ⟨S1024, .f32⟩
  | 84 => ⟨S1x1024, .f32⟩
  | 85 => ⟨S2048x1024, .f32⟩
  | 86 => ⟨S2048x1024, .f32⟩
  | 87 => ⟨S_, .f32⟩
  | 88 => ⟨S1024, .f32⟩
  | 89 => ⟨S1x1024, .f32⟩
  | 90 => ⟨S_, .f32⟩
  | 91 => ⟨S31x1024, .f32⟩
  | 92 => ⟨S31x1024, .f32⟩
  | 93 => ⟨S_, .f32⟩
  | 94 => ⟨S2078x1024, .f32⟩
  | 95 => ⟨S2078x1024, .f32⟩
  | 96 => ⟨S2048x1024, .f32⟩
  | 97 => ⟨S_, .f32⟩
  | 98 => ⟨S1024, .f32⟩
  | 99 => ⟨S1x1024, .f32⟩
  | 100 => ⟨S2048x1024, .f32⟩
  | 101 => ⟨S2048x1024, .f32⟩
  | 102 => ⟨S_, .f32⟩
  | 103 => ⟨S1024, .f32⟩
  | 104 => ⟨S1x1024, .f32⟩
  | 105 => ⟨S_, .f32⟩
  | 106 => ⟨S31x1024, .f32⟩
  | 107 => ⟨S31x1024, .f32⟩
  | 108 => ⟨S_, .f32⟩
  | 109 => ⟨S2078x1024, .f32⟩
  | 110 => ⟨S2078x1024, .f32⟩
  | 111 => ⟨S2048x1024, .f32⟩
  | 112 => ⟨S_, .f32⟩
  | 113 => ⟨S1024, .f32⟩
  | 114 => ⟨S1x1024, .f32⟩
  | 115 => ⟨S2048x1024, .f32⟩
  | 116 => ⟨S2048x1024, .f32⟩
  | 117 => ⟨S_, .f32⟩
  | 118 => ⟨S1024, .f32⟩
  | 119 => ⟨S1x1024, .f32⟩
  | 120 => ⟨S_, .f32⟩
  | 121 => ⟨S31x1024, .f32⟩
  | 122 => ⟨S31x1024, .f32⟩
  | 123 => ⟨S_, .f32⟩
  | 124 => ⟨S2078x1024, .f32⟩
  | 125 => ⟨S2078x1024, .f32⟩
  | 126 => ⟨S2048x1024, .f32⟩
  | 127 => ⟨S_, .f32⟩
  | _ => ⟨S2048x2048, .f32⟩

abbrev hbmTy0_5 (i : Nat) : BufTy := match i % 128 with
  | 0 => ⟨S1024, .f32⟩
  | 1 => ⟨S1x1024, .f32⟩
  | 2 => ⟨S2048x1024, .f32⟩
  | 3 => ⟨S2048x1024, .f32⟩
  | 4 => ⟨S_, .f32⟩
  | 5 => ⟨S1024, .f32⟩
  | 6 => ⟨S1x1024, .f32⟩
  | 7 => ⟨S_, .f32⟩
  | 8 => ⟨S31x1024, .f32⟩
  | 9 => ⟨S31x1024, .f32⟩
  | 10 => ⟨S_, .f32⟩
  | 11 => ⟨S2078x1024, .f32⟩
  | 12 => ⟨S2078x1024, .f32⟩
  | 13 => ⟨S2048x1024, .f32⟩
  | 14 => ⟨S_, .f32⟩
  | 15 => ⟨S1024, .f32⟩
  | 16 => ⟨S1x1024, .f32⟩
  | 17 => ⟨S2048x1024, .f32⟩
  | 18 => ⟨S2048x1024, .f32⟩
  | 19 => ⟨S_, .f32⟩
  | 20 => ⟨S1024, .f32⟩
  | 21 => ⟨S1x1024, .f32⟩
  | 22 => ⟨S_, .f32⟩
  | 23 => ⟨S31x1024, .f32⟩
  | 24 => ⟨S31x1024, .f32⟩
  | 25 => ⟨S_, .f32⟩
  | 26 => ⟨S2078x1024, .f32⟩
  | 27 => ⟨S2078x1024, .f32⟩
  | 28 => ⟨S2048x1024, .f32⟩
  | 29 => ⟨S_, .f32⟩
  | 30 => ⟨S1024, .f32⟩
  | 31 => ⟨S1x1024, .f32⟩
  | 32 => ⟨S2048x1024, .f32⟩
  | 33 => ⟨S2048x1024, .f32⟩
  | 34 => ⟨S_, .f32⟩
  | 35 => ⟨S1024, .f32⟩
  | 36 => ⟨S1x1024, .f32⟩
  | 37 => ⟨S_, .f32⟩
  | 38 => ⟨S31x1024, .f32⟩
  | 39 => ⟨S31x1024, .f32⟩
  | 40 => ⟨S_, .f32⟩
  | 41 => ⟨S2078x1024, .f32⟩
  | 42 => ⟨S2078x1024, .f32⟩
  | 43 => ⟨S2048x1024, .f32⟩
  | 44 => ⟨S_, .f32⟩
  | 45 => ⟨S1024, .f32⟩
  | 46 => ⟨S1x1024, .f32⟩
  | 47 => ⟨S2048x1024, .f32⟩
  | 48 => ⟨S2048x1024, .f32⟩
  | 49 => ⟨S_, .f32⟩
  | 50 => ⟨S1024, .f32⟩
  | 51 => ⟨S1x1024, .f32⟩
  | 52 => ⟨S_, .f32⟩
  | 53 => ⟨S31x1024, .f32⟩
  | 54 => ⟨S31x1024, .f32⟩
  | 55 => ⟨S_, .f32⟩
  | 56 => ⟨S2078x1024, .f32⟩
  | 57 => ⟨S2078x1024, .f32⟩
  | 58 => ⟨S2048x1024, .f32⟩
  | 59 => ⟨S_, .f32⟩
  | 60 => ⟨S1024, .f32⟩
  | 61 => ⟨S1x1024, .f32⟩
  | 62 => ⟨S2048x1024, .f32⟩
  | 63 => ⟨S2048x1024, .f32⟩
  | 64 => ⟨S_, .f32⟩
  | 65 => ⟨S1024, .f32⟩
  | 66 => ⟨S1x1024, .f32⟩
  | 67 => ⟨S_, .f32⟩
  | 68 => ⟨S31x1024, .f32⟩
  | 69 => ⟨S31x1024, .f32⟩
  | 70 => ⟨S_, .f32⟩
  | 71 => ⟨S2078x1024, .f32⟩
  | 72 => ⟨S2078x1024, .f32⟩
  | 73 => ⟨S30x1024, .f32⟩
  | 74 => ⟨S2048x1024, .f32⟩
  | 75 => ⟨S2048x1024, .f32⟩
  | 76 => ⟨S2048x1024, .f32⟩
  | 77 => ⟨S2048x1024, .f32⟩
  | 78 => ⟨S_, .f32⟩
  | 79 => ⟨S2048x2048, .f32⟩
  | 80 => ⟨S_, .f32⟩
  | 81 => ⟨S2048x2048, .f32⟩
  | 82 => ⟨S2048x2048, .f32⟩
  | 83 => ⟨S2048x1024, .f32⟩
  | 84 => ⟨S2048x1024, .f32⟩
  | 85 => ⟨S_, .f32⟩
  | 86 => ⟨S1x1024, .f32⟩
  | 87 => ⟨S32x1024, .f32⟩
  | _ => ⟨S2048x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_v236 : Ref sig .tc := ⟨.hbm, 246, rfl⟩
abbrev main_cst_6 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_cst_7 : Ref sig .tc := ⟨.hbm, 251, rfl⟩
abbrev main_v240 : Ref sig .tc := ⟨.hbm, 252, rfl⟩
abbrev main_v241 : Ref sig .tc := ⟨.hbm, 253, rfl⟩
abbrev main_v242 : Ref sig .tc := ⟨.hbm, 254, rfl⟩
abbrev main_v243 : Ref sig .tc := ⟨.hbm, 255, rfl⟩
abbrev main_cst_8 : Ref sig .tc := ⟨.hbm, 256, rfl⟩
abbrev main_v244 : Ref sig .tc := ⟨.hbm, 257, rfl⟩
abbrev main_v245 : Ref sig .tc := ⟨.hbm, 258, rfl⟩
abbrev main_cst_9 : Ref sig .tc := ⟨.hbm, 259, rfl⟩
abbrev main_v246 : Ref sig .tc := ⟨.hbm, 260, rfl⟩
abbrev main_cst_10 : Ref sig .tc := ⟨.hbm, 261, rfl⟩
abbrev main_v247 : Ref sig .tc := ⟨.hbm, 262, rfl⟩
abbrev main_v248 : Ref sig .tc := ⟨.hbm, 263, rfl⟩
abbrev main_cst_11 : Ref sig .tc := ⟨.hbm, 264, rfl⟩
abbrev main_v249 : Ref sig .tc := ⟨.hbm, 265, rfl⟩
abbrev main_v250 : Ref sig .tc := ⟨.hbm, 266, rfl⟩
abbrev main_v251 : Ref sig .tc := ⟨.hbm, 267, rfl⟩
abbrev main_v252 : Ref sig .tc := ⟨.hbm, 268, rfl⟩
abbrev main_cst_12 : Ref sig .tc := ⟨.hbm, 269, rfl⟩
abbrev main_v253 : Ref sig .tc := ⟨.hbm, 270, rfl⟩
abbrev main_v254 : Ref sig .tc := ⟨.hbm, 271, rfl⟩
abbrev main_cst_13 : Ref sig .tc := ⟨.hbm, 272, rfl⟩
abbrev main_v255 : Ref sig .tc := ⟨.hbm, 273, rfl⟩
abbrev main_v256 : Ref sig .tc := ⟨.hbm, 274, rfl⟩
abbrev main_cst_14 : Ref sig .tc := ⟨.hbm, 275, rfl⟩
abbrev main_v257 : Ref sig .tc := ⟨.hbm, 276, rfl⟩
abbrev main_v258 : Ref sig .tc := ⟨.hbm, 277, rfl⟩
abbrev main_v259 : Ref sig .tc := ⟨.hbm, 278, rfl⟩
abbrev main_cst_15 : Ref sig .tc := ⟨.hbm, 279, rfl⟩
abbrev main_v260 : Ref sig .tc := ⟨.hbm, 280, rfl⟩
abbrev main_v261 : Ref sig .tc := ⟨.hbm, 281, rfl⟩
abbrev main_v262 : Ref sig .tc := ⟨.hbm, 282, rfl⟩
abbrev main_v263 : Ref sig .tc := ⟨.hbm, 283, rfl⟩
abbrev main_cst_16 : Ref sig .tc := ⟨.hbm, 284, rfl⟩
abbrev main_v264 : Ref sig .tc := ⟨.hbm, 285, rfl⟩
abbrev main_v265 : Ref sig .tc := ⟨.hbm, 286, rfl⟩
abbrev main_cst_17 : Ref sig .tc := ⟨.hbm, 287, rfl⟩
abbrev main_v266 : Ref sig .tc := ⟨.hbm, 288, rfl⟩
abbrev main_v267 : Ref sig .tc := ⟨.hbm, 289, rfl⟩
abbrev main_cst_18 : Ref sig .tc := ⟨.hbm, 290, rfl⟩
abbrev main_v268 : Ref sig .tc := ⟨.hbm, 291, rfl⟩
abbrev main_v269 : Ref sig .tc := ⟨.hbm, 292, rfl⟩
abbrev main_v270 : Ref sig .tc := ⟨.hbm, 293, rfl⟩
abbrev main_cst_19 : Ref sig .tc := ⟨.hbm, 294, rfl⟩
abbrev main_v271 : Ref sig .tc := ⟨.hbm, 295, rfl⟩
abbrev main_v272 : Ref sig .tc := ⟨.hbm, 296, rfl⟩
abbrev main_v273 : Ref sig .tc := ⟨.hbm, 297, rfl⟩
abbrev main_v274 : Ref sig .tc := ⟨.hbm, 298, rfl⟩
abbrev main_cst_20 : Ref sig .tc := ⟨.hbm, 299, rfl⟩
abbrev main_v275 : Ref sig .tc := ⟨.hbm, 300, rfl⟩
abbrev main_v276 : Ref sig .tc := ⟨.hbm, 301, rfl⟩
abbrev main_cst_21 : Ref sig .tc := ⟨.hbm, 302, rfl⟩
abbrev main_v277 : Ref sig .tc := ⟨.hbm, 303, rfl⟩
abbrev main_v278 : Ref sig .tc := ⟨.hbm, 304, rfl⟩
abbrev main_cst_22 : Ref sig .tc := ⟨.hbm, 305, rfl⟩
abbrev main_v279 : Ref sig .tc := ⟨.hbm, 306, rfl⟩
abbrev main_v280 : Ref sig .tc := ⟨.hbm, 307, rfl⟩
abbrev main_v281 : Ref sig .tc := ⟨.hbm, 308, rfl⟩
abbrev main_cst_23 : Ref sig .tc := ⟨.hbm, 309, rfl⟩
abbrev main_v282 : Ref sig .tc := ⟨.hbm, 310, rfl⟩
abbrev main_v283 : Ref sig .tc := ⟨.hbm, 311, rfl⟩
abbrev main_v284 : Ref sig .tc := ⟨.hbm, 312, rfl⟩
abbrev main_v285 : Ref sig .tc := ⟨.hbm, 313, rfl⟩
abbrev main_cst_24 : Ref sig .tc := ⟨.hbm, 314, rfl⟩
abbrev main_v286 : Ref sig .tc := ⟨.hbm, 315, rfl⟩
abbrev main_v287 : Ref sig .tc := ⟨.hbm, 316, rfl⟩
abbrev main_cst_25 : Ref sig .tc := ⟨.hbm, 317, rfl⟩
abbrev main_v288 : Ref sig .tc := ⟨.hbm, 318, rfl⟩
abbrev main_v289 : Ref sig .tc := ⟨.hbm, 319, rfl⟩
abbrev main_cst_26 : Ref sig .tc := ⟨.hbm, 320, rfl⟩
abbrev main_v290 : Ref sig .tc := ⟨.hbm, 321, rfl⟩
abbrev main_v291 : Ref sig .tc := ⟨.hbm, 322, rfl⟩
abbrev main_v292 : Ref sig .tc := ⟨.hbm, 323, rfl⟩
abbrev main_cst_27 : Ref sig .tc := ⟨.hbm, 324, rfl⟩
abbrev main_v293 : Ref sig .tc := ⟨.hbm, 325, rfl⟩
abbrev main_v294 : Ref sig .tc := ⟨.hbm, 326, rfl⟩
abbrev main_v295 : Ref sig .tc := ⟨.hbm, 327, rfl⟩
abbrev main_v296 : Ref sig .tc := ⟨.hbm, 328, rfl⟩
abbrev main_cst_28 : Ref sig .tc := ⟨.hbm, 329, rfl⟩
abbrev main_v297 : Ref sig .tc := ⟨.hbm, 330, rfl⟩
abbrev main_v298 : Ref sig .tc := ⟨.hbm, 331, rfl⟩
abbrev main_cst_29 : Ref sig .tc := ⟨.hbm, 332, rfl⟩
abbrev main_v299 : Ref sig .tc := ⟨.hbm, 333, rfl⟩
abbrev main_v300 : Ref sig .tc := ⟨.hbm, 334, rfl⟩
abbrev main_cst_30 : Ref sig .tc := ⟨.hbm, 335, rfl⟩
abbrev main_v301 : Ref sig .tc := ⟨.hbm, 336, rfl⟩
abbrev main_v302 : Ref sig .tc := ⟨.hbm, 337, rfl⟩
abbrev main_v303 : Ref sig .tc := ⟨.hbm, 338, rfl⟩
abbrev main_cst_31 : Ref sig .tc := ⟨.hbm, 339, rfl⟩
abbrev main_v304 : Ref sig .tc := ⟨.hbm, 340, rfl⟩
abbrev main_v305 : Ref sig .tc := ⟨.hbm, 341, rfl⟩
abbrev main_v306 : Ref sig .tc := ⟨.hbm, 342, rfl⟩
abbrev main_v307 : Ref sig .tc := ⟨.hbm, 343, rfl⟩
abbrev main_cst_32 : Ref sig .tc := ⟨.hbm, 344, rfl⟩
abbrev main_v308 : Ref sig .tc := ⟨.hbm, 345, rfl⟩
abbrev main_v309 : Ref sig .tc := ⟨.hbm, 346, rfl⟩
abbrev main_cst_33 : Ref sig .tc := ⟨.hbm, 347, rfl⟩
abbrev main_v310 : Ref sig .tc := ⟨.hbm, 348, rfl⟩
abbrev main_v311 : Ref sig .tc := ⟨.hbm, 349, rfl⟩
abbrev main_cst_34 : Ref sig .tc := ⟨.hbm, 350, rfl⟩
abbrev main_v312 : Ref sig .tc := ⟨.hbm, 351, rfl⟩
abbrev main_v313 : Ref sig .tc := ⟨.hbm, 352, rfl⟩
abbrev main_v314 : Ref sig .tc := ⟨.hbm, 353, rfl⟩
abbrev main_cst_35 : Ref sig .tc := ⟨.hbm, 354, rfl⟩
abbrev main_v315 : Ref sig .tc := ⟨.hbm, 355, rfl⟩
abbrev main_v316 : Ref sig .tc := ⟨.hbm, 356, rfl⟩
abbrev main_v317 : Ref sig .tc := ⟨.hbm, 357, rfl⟩
abbrev main_v318 : Ref sig .tc := ⟨.hbm, 358, rfl⟩
abbrev main_cst_36 : Ref sig .tc := ⟨.hbm, 359, rfl⟩
abbrev main_v319 : Ref sig .tc := ⟨.hbm, 360, rfl⟩
abbrev main_v320 : Ref sig .tc := ⟨.hbm, 361, rfl⟩
abbrev main_cst_37 : Ref sig .tc := ⟨.hbm, 362, rfl⟩
abbrev main_v321 : Ref sig .tc := ⟨.hbm, 363, rfl⟩
abbrev main_v322 : Ref sig .tc := ⟨.hbm, 364, rfl⟩
abbrev main_cst_38 : Ref sig .tc := ⟨.hbm, 365, rfl⟩
abbrev main_v323 : Ref sig .tc := ⟨.hbm, 366, rfl⟩
abbrev main_v324 : Ref sig .tc := ⟨.hbm, 367, rfl⟩
abbrev main_v325 : Ref sig .tc := ⟨.hbm, 368, rfl⟩
abbrev main_cst_39 : Ref sig .tc := ⟨.hbm, 369, rfl⟩
abbrev main_v326 : Ref sig .tc := ⟨.hbm, 370, rfl⟩
abbrev main_v327 : Ref sig .tc := ⟨.hbm, 371, rfl⟩
abbrev main_v328 : Ref sig .tc := ⟨.hbm, 372, rfl⟩
abbrev main_v329 : Ref sig .tc := ⟨.hbm, 373, rfl⟩
abbrev main_cst_40 : Ref sig .tc := ⟨.hbm, 374, rfl⟩
abbrev main_v330 : Ref sig .tc := ⟨.hbm, 375, rfl⟩
abbrev main_v331 : Ref sig .tc := ⟨.hbm, 376, rfl⟩
abbrev main_cst_41 : Ref sig .tc := ⟨.hbm, 377, rfl⟩
abbrev main_v332 : Ref sig .tc := ⟨.hbm, 378, rfl⟩
abbrev main_v333 : Ref sig .tc := ⟨.hbm, 379, rfl⟩
abbrev main_cst_42 : Ref sig .tc := ⟨.hbm, 380, rfl⟩
abbrev main_v334 : Ref sig .tc := ⟨.hbm, 381, rfl⟩
abbrev main_v335 : Ref sig .tc := ⟨.hbm, 382, rfl⟩
abbrev main_v336 : Ref sig .tc := ⟨.hbm, 383, rfl⟩
abbrev main_cst_43 : Ref sig .tc := ⟨.hbm, 384, rfl⟩
abbrev main_v337 : Ref sig .tc := ⟨.hbm, 385, rfl⟩
abbrev main_v338 : Ref sig .tc := ⟨.hbm, 386, rfl⟩
abbrev main_v339 : Ref sig .tc := ⟨.hbm, 387, rfl⟩
abbrev main_v340 : Ref sig .tc := ⟨.hbm, 388, rfl⟩
abbrev main_cst_44 : Ref sig .tc := ⟨.hbm, 389, rfl⟩
abbrev main_v341 : Ref sig .tc := ⟨.hbm, 390, rfl⟩
abbrev main_v342 : Ref sig .tc := ⟨.hbm, 391, rfl⟩
abbrev main_cst_45 : Ref sig .tc := ⟨.hbm, 392, rfl⟩
abbrev main_v343 : Ref sig .tc := ⟨.hbm, 393, rfl⟩
abbrev main_v344 : Ref sig .tc := ⟨.hbm, 394, rfl⟩
abbrev main_cst_46 : Ref sig .tc := ⟨.hbm, 395, rfl⟩
abbrev main_v345 : Ref sig .tc := ⟨.hbm, 396, rfl⟩
abbrev main_v346 : Ref sig .tc := ⟨.hbm, 397, rfl⟩
abbrev main_v347 : Ref sig .tc := ⟨.hbm, 398, rfl⟩
abbrev main_cst_47 : Ref sig .tc := ⟨.hbm, 399, rfl⟩
abbrev main_v348 : Ref sig .tc := ⟨.hbm, 400, rfl⟩
abbrev main_v349 : Ref sig .tc := ⟨.hbm, 401, rfl⟩
abbrev main_v350 : Ref sig .tc := ⟨.hbm, 402, rfl⟩
abbrev main_v351 : Ref sig .tc := ⟨.hbm, 403, rfl⟩
abbrev main_cst_48 : Ref sig .tc := ⟨.hbm, 404, rfl⟩
abbrev main_v352 : Ref sig .tc := ⟨.hbm, 405, rfl⟩
abbrev main_v353 : Ref sig .tc := ⟨.hbm, 406, rfl⟩
abbrev main_cst_49 : Ref sig .tc := ⟨.hbm, 407, rfl⟩
abbrev main_v354 : Ref sig .tc := ⟨.hbm, 408, rfl⟩
abbrev main_v355 : Ref sig .tc := ⟨.hbm, 409, rfl⟩
abbrev main_cst_50 : Ref sig .tc := ⟨.hbm, 410, rfl⟩
abbrev main_v356 : Ref sig .tc := ⟨.hbm, 411, rfl⟩
abbrev main_v357 : Ref sig .tc := ⟨.hbm, 412, rfl⟩
abbrev main_v358 : Ref sig .tc := ⟨.hbm, 413, rfl⟩
abbrev main_cst_51 : Ref sig .tc := ⟨.hbm, 414, rfl⟩
abbrev main_v359 : Ref sig .tc := ⟨.hbm, 415, rfl⟩
abbrev main_v360 : Ref sig .tc := ⟨.hbm, 416, rfl⟩
abbrev main_v361 : Ref sig .tc := ⟨.hbm, 417, rfl⟩
abbrev main_v362 : Ref sig .tc := ⟨.hbm, 418, rfl⟩
abbrev main_cst_52 : Ref sig .tc := ⟨.hbm, 419, rfl⟩
abbrev main_v363 : Ref sig .tc := ⟨.hbm, 420, rfl⟩
abbrev main_v364 : Ref sig .tc := ⟨.hbm, 421, rfl⟩
abbrev main_cst_53 : Ref sig .tc := ⟨.hbm, 422, rfl⟩
abbrev main_v365 : Ref sig .tc := ⟨.hbm, 423, rfl⟩
abbrev main_v366 : Ref sig .tc := ⟨.hbm, 424, rfl⟩
abbrev main_cst_54 : Ref sig .tc := ⟨.hbm, 425, rfl⟩
abbrev main_v367 : Ref sig .tc := ⟨.hbm, 426, rfl⟩
abbrev main_v368 : Ref sig .tc := ⟨.hbm, 427, rfl⟩
abbrev main_v369 : Ref sig .tc := ⟨.hbm, 428, rfl⟩
abbrev main_cst_55 : Ref sig .tc := ⟨.hbm, 429, rfl⟩
abbrev main_v370 : Ref sig .tc := ⟨.hbm, 430, rfl⟩
abbrev main_v371 : Ref sig .tc := ⟨.hbm, 431, rfl⟩
abbrev main_v372 : Ref sig .tc := ⟨.hbm, 432, rfl⟩
abbrev main_v373 : Ref sig .tc := ⟨.hbm, 433, rfl⟩
abbrev main_cst_56 : Ref sig .tc := ⟨.hbm, 434, rfl⟩
abbrev main_v374 : Ref sig .tc := ⟨.hbm, 435, rfl⟩
abbrev main_v375 : Ref sig .tc := ⟨.hbm, 436, rfl⟩
abbrev main_cst_57 : Ref sig .tc := ⟨.hbm, 437, rfl⟩
abbrev main_v376 : Ref sig .tc := ⟨.hbm, 438, rfl⟩
abbrev main_v377 : Ref sig .tc := ⟨.hbm, 439, rfl⟩
abbrev main_cst_58 : Ref sig .tc := ⟨.hbm, 440, rfl⟩
abbrev main_v378 : Ref sig .tc := ⟨.hbm, 441, rfl⟩
abbrev main_v379 : Ref sig .tc := ⟨.hbm, 442, rfl⟩
abbrev main_v380 : Ref sig .tc := ⟨.hbm, 443, rfl⟩
abbrev main_cst_59 : Ref sig .tc := ⟨.hbm, 444, rfl⟩
abbrev main_v381 : Ref sig .tc := ⟨.hbm, 445, rfl⟩
abbrev main_v382 : Ref sig .tc := ⟨.hbm, 446, rfl⟩
abbrev main_v383 : Ref sig .tc := ⟨.hbm, 447, rfl⟩
abbrev main_v384 : Ref sig .tc := ⟨.hbm, 448, rfl⟩
abbrev main_cst_60 : Ref sig .tc := ⟨.hbm, 449, rfl⟩
abbrev main_v385 : Ref sig .tc := ⟨.hbm, 450, rfl⟩
abbrev main_v386 : Ref sig .tc := ⟨.hbm, 451, rfl⟩
abbrev main_cst_61 : Ref sig .tc := ⟨.hbm, 452, rfl⟩
abbrev main_v387 : Ref sig .tc := ⟨.hbm, 453, rfl⟩
abbrev main_v388 : Ref sig .tc := ⟨.hbm, 454, rfl⟩
abbrev main_cst_62 : Ref sig .tc := ⟨.hbm, 455, rfl⟩
abbrev main_v389 : Ref sig .tc := ⟨.hbm, 456, rfl⟩
abbrev main_v390 : Ref sig .tc := ⟨.hbm, 457, rfl⟩
abbrev main_v391 : Ref sig .tc := ⟨.hbm, 458, rfl⟩
abbrev main_cst_63 : Ref sig .tc := ⟨.hbm, 459, rfl⟩
abbrev main_v392 : Ref sig .tc := ⟨.hbm, 460, rfl⟩
abbrev main_v393 : Ref sig .tc := ⟨.hbm, 461, rfl⟩
abbrev main_v394 : Ref sig .tc := ⟨.hbm, 462, rfl⟩
abbrev main_v395 : Ref sig .tc := ⟨.hbm, 463, rfl⟩
abbrev main_cst_64 : Ref sig .tc := ⟨.hbm, 464, rfl⟩
abbrev main_v396 : Ref sig .tc := ⟨.hbm, 465, rfl⟩
abbrev main_v397 : Ref sig .tc := ⟨.hbm, 466, rfl⟩
abbrev main_cst_65 : Ref sig .tc := ⟨.hbm, 467, rfl⟩
abbrev main_v398 : Ref sig .tc := ⟨.hbm, 468, rfl⟩
abbrev main_v399 : Ref sig .tc := ⟨.hbm, 469, rfl⟩
abbrev main_cst_66 : Ref sig .tc := ⟨.hbm, 470, rfl⟩
abbrev main_v400 : Ref sig .tc := ⟨.hbm, 471, rfl⟩
abbrev main_v401 : Ref sig .tc := ⟨.hbm, 472, rfl⟩
abbrev main_v402 : Ref sig .tc := ⟨.hbm, 473, rfl⟩
abbrev main_cst_67 : Ref sig .tc := ⟨.hbm, 474, rfl⟩
abbrev main_v403 : Ref sig .tc := ⟨.hbm, 475, rfl⟩
abbrev main_v404 : Ref sig .tc := ⟨.hbm, 476, rfl⟩
abbrev main_v405 : Ref sig .tc := ⟨.hbm, 477, rfl⟩
abbrev main_v406 : Ref sig .tc := ⟨.hbm, 478, rfl⟩
abbrev main_cst_68 : Ref sig .tc := ⟨.hbm, 479, rfl⟩
abbrev main_v407 : Ref sig .tc := ⟨.hbm, 480, rfl⟩
abbrev main_v408 : Ref sig .tc := ⟨.hbm, 481, rfl⟩
abbrev main_cst_69 : Ref sig .tc := ⟨.hbm, 482, rfl⟩
abbrev main_v409 : Ref sig .tc := ⟨.hbm, 483, rfl⟩
abbrev main_v410 : Ref sig .tc := ⟨.hbm, 484, rfl⟩
abbrev main_cst_70 : Ref sig .tc := ⟨.hbm, 485, rfl⟩
abbrev main_v411 : Ref sig .tc := ⟨.hbm, 486, rfl⟩
abbrev main_v412 : Ref sig .tc := ⟨.hbm, 487, rfl⟩
abbrev main_v413 : Ref sig .tc := ⟨.hbm, 488, rfl⟩
abbrev main_cst_71 : Ref sig .tc := ⟨.hbm, 489, rfl⟩
abbrev main_v414 : Ref sig .tc := ⟨.hbm, 490, rfl⟩
abbrev main_v415 : Ref sig .tc := ⟨.hbm, 491, rfl⟩
abbrev main_v416 : Ref sig .tc := ⟨.hbm, 492, rfl⟩
abbrev main_v417 : Ref sig .tc := ⟨.hbm, 493, rfl⟩
abbrev main_cst_72 : Ref sig .tc := ⟨.hbm, 494, rfl⟩
abbrev main_v418 : Ref sig .tc := ⟨.hbm, 495, rfl⟩
abbrev main_v419 : Ref sig .tc := ⟨.hbm, 496, rfl⟩
abbrev main_cst_73 : Ref sig .tc := ⟨.hbm, 497, rfl⟩
abbrev main_v420 : Ref sig .tc := ⟨.hbm, 498, rfl⟩
abbrev main_v421 : Ref sig .tc := ⟨.hbm, 499, rfl⟩
abbrev main_cst_74 : Ref sig .tc := ⟨.hbm, 500, rfl⟩
abbrev main_v422 : Ref sig .tc := ⟨.hbm, 501, rfl⟩
abbrev main_v423 : Ref sig .tc := ⟨.hbm, 502, rfl⟩
abbrev main_v424 : Ref sig .tc := ⟨.hbm, 503, rfl⟩
abbrev main_cst_75 : Ref sig .tc := ⟨.hbm, 504, rfl⟩
abbrev main_v425 : Ref sig .tc := ⟨.hbm, 505, rfl⟩
abbrev main_v426 : Ref sig .tc := ⟨.hbm, 506, rfl⟩
abbrev main_v427 : Ref sig .tc := ⟨.hbm, 507, rfl⟩
abbrev main_v428 : Ref sig .tc := ⟨.hbm, 508, rfl⟩
abbrev main_cst_76 : Ref sig .tc := ⟨.hbm, 509, rfl⟩
abbrev main_v429 : Ref sig .tc := ⟨.hbm, 510, rfl⟩
abbrev main_v430 : Ref sig .tc := ⟨.hbm, 511, rfl⟩
abbrev main_cst_77 : Ref sig .tc := ⟨.hbm, 512, rfl⟩
abbrev main_v431 : Ref sig .tc := ⟨.hbm, 513, rfl⟩
abbrev main_v432 : Ref sig .tc := ⟨.hbm, 514, rfl⟩
abbrev main_cst_78 : Ref sig .tc := ⟨.hbm, 515, rfl⟩
abbrev main_v433 : Ref sig .tc := ⟨.hbm, 516, rfl⟩
abbrev main_v434 : Ref sig .tc := ⟨.hbm, 517, rfl⟩
abbrev main_v435 : Ref sig .tc := ⟨.hbm, 518, rfl⟩
abbrev main_cst_79 : Ref sig .tc := ⟨.hbm, 519, rfl⟩
abbrev main_v436 : Ref sig .tc := ⟨.hbm, 520, rfl⟩
abbrev main_v437 : Ref sig .tc := ⟨.hbm, 521, rfl⟩
abbrev main_v438 : Ref sig .tc := ⟨.hbm, 522, rfl⟩
abbrev main_v439 : Ref sig .tc := ⟨.hbm, 523, rfl⟩
abbrev main_cst_80 : Ref sig .tc := ⟨.hbm, 524, rfl⟩
abbrev main_v440 : Ref sig .tc := ⟨.hbm, 525, rfl⟩
abbrev main_v441 : Ref sig .tc := ⟨.hbm, 526, rfl⟩
abbrev main_cst_81 : Ref sig .tc := ⟨.hbm, 527, rfl⟩
abbrev main_v442 : Ref sig .tc := ⟨.hbm, 528, rfl⟩
abbrev main_v443 : Ref sig .tc := ⟨.hbm, 529, rfl⟩
abbrev main_cst_82 : Ref sig .tc := ⟨.hbm, 530, rfl⟩
abbrev main_v444 : Ref sig .tc := ⟨.hbm, 531, rfl⟩
abbrev main_v445 : Ref sig .tc := ⟨.hbm, 532, rfl⟩
abbrev main_v446 : Ref sig .tc := ⟨.hbm, 533, rfl⟩
abbrev main_cst_83 : Ref sig .tc := ⟨.hbm, 534, rfl⟩
abbrev main_v447 : Ref sig .tc := ⟨.hbm, 535, rfl⟩
abbrev main_v448 : Ref sig .tc := ⟨.hbm, 536, rfl⟩
abbrev main_v449 : Ref sig .tc := ⟨.hbm, 537, rfl⟩
abbrev main_v450 : Ref sig .tc := ⟨.hbm, 538, rfl⟩
abbrev main_cst_84 : Ref sig .tc := ⟨.hbm, 539, rfl⟩
abbrev main_v451 : Ref sig .tc := ⟨.hbm, 540, rfl⟩
abbrev main_v452 : Ref sig .tc := ⟨.hbm, 541, rfl⟩
abbrev main_cst_85 : Ref sig .tc := ⟨.hbm, 542, rfl⟩
abbrev main_v453 : Ref sig .tc := ⟨.hbm, 543, rfl⟩
abbrev main_v454 : Ref sig .tc := ⟨.hbm, 544, rfl⟩
abbrev main_cst_86 : Ref sig .tc := ⟨.hbm, 545, rfl⟩
abbrev main_v455 : Ref sig .tc := ⟨.hbm, 546, rfl⟩
abbrev main_v456 : Ref sig .tc := ⟨.hbm, 547, rfl⟩
abbrev main_v457 : Ref sig .tc := ⟨.hbm, 548, rfl⟩
abbrev main_cst_87 : Ref sig .tc := ⟨.hbm, 549, rfl⟩
abbrev main_v458 : Ref sig .tc := ⟨.hbm, 550, rfl⟩
abbrev main_v459 : Ref sig .tc := ⟨.hbm, 551, rfl⟩
abbrev main_v460 : Ref sig .tc := ⟨.hbm, 552, rfl⟩
abbrev main_v461 : Ref sig .tc := ⟨.hbm, 553, rfl⟩
abbrev main_cst_88 : Ref sig .tc := ⟨.hbm, 554, rfl⟩
abbrev main_v462 : Ref sig .tc := ⟨.hbm, 555, rfl⟩
abbrev main_v463 : Ref sig .tc := ⟨.hbm, 556, rfl⟩
abbrev main_cst_89 : Ref sig .tc := ⟨.hbm, 557, rfl⟩
abbrev main_v464 : Ref sig .tc := ⟨.hbm, 558, rfl⟩
abbrev main_v465 : Ref sig .tc := ⟨.hbm, 559, rfl⟩
abbrev main_cst_90 : Ref sig .tc := ⟨.hbm, 560, rfl⟩
abbrev main_v466 : Ref sig .tc := ⟨.hbm, 561, rfl⟩
abbrev main_v467 : Ref sig .tc := ⟨.hbm, 562, rfl⟩
abbrev main_v468 : Ref sig .tc := ⟨.hbm, 563, rfl⟩
abbrev main_cst_91 : Ref sig .tc := ⟨.hbm, 564, rfl⟩
abbrev main_v469 : Ref sig .tc := ⟨.hbm, 565, rfl⟩
abbrev main_v470 : Ref sig .tc := ⟨.hbm, 566, rfl⟩
abbrev main_v471 : Ref sig .tc := ⟨.hbm, 567, rfl⟩
abbrev main_v472 : Ref sig .tc := ⟨.hbm, 568, rfl⟩
abbrev main_cst_92 : Ref sig .tc := ⟨.hbm, 569, rfl⟩
abbrev main_v473 : Ref sig .tc := ⟨.hbm, 570, rfl⟩
abbrev main_v474 : Ref sig .tc := ⟨.hbm, 571, rfl⟩
abbrev main_cst_93 : Ref sig .tc := ⟨.hbm, 572, rfl⟩
abbrev main_v475 : Ref sig .tc := ⟨.hbm, 573, rfl⟩
abbrev main_v476 : Ref sig .tc := ⟨.hbm, 574, rfl⟩
abbrev main_cst_94 : Ref sig .tc := ⟨.hbm, 575, rfl⟩
abbrev main_v477 : Ref sig .tc := ⟨.hbm, 576, rfl⟩
abbrev main_v478 : Ref sig .tc := ⟨.hbm, 577, rfl⟩
abbrev main_v479 : Ref sig .tc := ⟨.hbm, 578, rfl⟩
abbrev main_cst_95 : Ref sig .tc := ⟨.hbm, 579, rfl⟩
abbrev main_v480 : Ref sig .tc := ⟨.hbm, 580, rfl⟩
abbrev main_v481 : Ref sig .tc := ⟨.hbm, 581, rfl⟩
abbrev main_v482 : Ref sig .tc := ⟨.hbm, 582, rfl⟩
abbrev main_v483 : Ref sig .tc := ⟨.hbm, 583, rfl⟩
abbrev main_cst_96 : Ref sig .tc := ⟨.hbm, 584, rfl⟩
abbrev main_v484 : Ref sig .tc := ⟨.hbm, 585, rfl⟩
abbrev main_v485 : Ref sig .tc := ⟨.hbm, 586, rfl⟩
abbrev main_cst_97 : Ref sig .tc := ⟨.hbm, 587, rfl⟩
abbrev main_v486 : Ref sig .tc := ⟨.hbm, 588, rfl⟩
abbrev main_v487 : Ref sig .tc := ⟨.hbm, 589, rfl⟩
abbrev main_cst_98 : Ref sig .tc := ⟨.hbm, 590, rfl⟩
abbrev main_v488 : Ref sig .tc := ⟨.hbm, 591, rfl⟩
abbrev main_v489 : Ref sig .tc := ⟨.hbm, 592, rfl⟩
abbrev main_v490 : Ref sig .tc := ⟨.hbm, 593, rfl⟩
abbrev main_cst_99 : Ref sig .tc := ⟨.hbm, 594, rfl⟩
abbrev main_v491 : Ref sig .tc := ⟨.hbm, 595, rfl⟩
abbrev main_v492 : Ref sig .tc := ⟨.hbm, 596, rfl⟩
abbrev main_v493 : Ref sig .tc := ⟨.hbm, 597, rfl⟩
abbrev main_v494 : Ref sig .tc := ⟨.hbm, 598, rfl⟩
abbrev main_cst_100 : Ref sig .tc := ⟨.hbm, 599, rfl⟩
abbrev main_v495 : Ref sig .tc := ⟨.hbm, 600, rfl⟩
abbrev main_v496 : Ref sig .tc := ⟨.hbm, 601, rfl⟩
abbrev main_cst_101 : Ref sig .tc := ⟨.hbm, 602, rfl⟩
abbrev main_v497 : Ref sig .tc := ⟨.hbm, 603, rfl⟩
abbrev main_v498 : Ref sig .tc := ⟨.hbm, 604, rfl⟩
abbrev main_cst_102 : Ref sig .tc := ⟨.hbm, 605, rfl⟩
abbrev main_v499 : Ref sig .tc := ⟨.hbm, 606, rfl⟩
abbrev main_v500 : Ref sig .tc := ⟨.hbm, 607, rfl⟩
abbrev main_v501 : Ref sig .tc := ⟨.hbm, 608, rfl⟩
abbrev main_cst_103 : Ref sig .tc := ⟨.hbm, 609, rfl⟩
abbrev main_v502 : Ref sig .tc := ⟨.hbm, 610, rfl⟩
abbrev main_v503 : Ref sig .tc := ⟨.hbm, 611, rfl⟩
abbrev main_v504 : Ref sig .tc := ⟨.hbm, 612, rfl⟩
abbrev main_v505 : Ref sig .tc := ⟨.hbm, 613, rfl⟩
abbrev main_cst_104 : Ref sig .tc := ⟨.hbm, 614, rfl⟩
abbrev main_v506 : Ref sig .tc := ⟨.hbm, 615, rfl⟩
abbrev main_v507 : Ref sig .tc := ⟨.hbm, 616, rfl⟩
abbrev main_cst_105 : Ref sig .tc := ⟨.hbm, 617, rfl⟩
abbrev main_v508 : Ref sig .tc := ⟨.hbm, 618, rfl⟩
abbrev main_v509 : Ref sig .tc := ⟨.hbm, 619, rfl⟩
abbrev main_cst_106 : Ref sig .tc := ⟨.hbm, 620, rfl⟩
abbrev main_v510 : Ref sig .tc := ⟨.hbm, 621, rfl⟩
abbrev main_v511 : Ref sig .tc := ⟨.hbm, 622, rfl⟩
abbrev main_v512 : Ref sig .tc := ⟨.hbm, 623, rfl⟩
abbrev main_cst_107 : Ref sig .tc := ⟨.hbm, 624, rfl⟩
abbrev main_v513 : Ref sig .tc := ⟨.hbm, 625, rfl⟩
abbrev main_v514 : Ref sig .tc := ⟨.hbm, 626, rfl⟩
abbrev main_v515 : Ref sig .tc := ⟨.hbm, 627, rfl⟩
abbrev main_v516 : Ref sig .tc := ⟨.hbm, 628, rfl⟩
abbrev main_cst_108 : Ref sig .tc := ⟨.hbm, 629, rfl⟩
abbrev main_v517 : Ref sig .tc := ⟨.hbm, 630, rfl⟩
abbrev main_v518 : Ref sig .tc := ⟨.hbm, 631, rfl⟩
abbrev main_cst_109 : Ref sig .tc := ⟨.hbm, 632, rfl⟩
abbrev main_v519 : Ref sig .tc := ⟨.hbm, 633, rfl⟩
abbrev main_v520 : Ref sig .tc := ⟨.hbm, 634, rfl⟩
abbrev main_cst_110 : Ref sig .tc := ⟨.hbm, 635, rfl⟩
abbrev main_v521 : Ref sig .tc := ⟨.hbm, 636, rfl⟩
abbrev main_v522 : Ref sig .tc := ⟨.hbm, 637, rfl⟩
abbrev main_v523 : Ref sig .tc := ⟨.hbm, 638, rfl⟩
abbrev main_cst_111 : Ref sig .tc := ⟨.hbm, 639, rfl⟩
abbrev main_v524 : Ref sig .tc := ⟨.hbm, 640, rfl⟩
abbrev main_v525 : Ref sig .tc := ⟨.hbm, 641, rfl⟩
abbrev main_v526 : Ref sig .tc := ⟨.hbm, 642, rfl⟩
abbrev main_v527 : Ref sig .tc := ⟨.hbm, 643, rfl⟩
abbrev main_cst_112 : Ref sig .tc := ⟨.hbm, 644, rfl⟩
abbrev main_v528 : Ref sig .tc := ⟨.hbm, 645, rfl⟩
abbrev main_v529 : Ref sig .tc := ⟨.hbm, 646, rfl⟩
abbrev main_cst_113 : Ref sig .tc := ⟨.hbm, 647, rfl⟩
abbrev main_v530 : Ref sig .tc := ⟨.hbm, 648, rfl⟩
abbrev main_v531 : Ref sig .tc := ⟨.hbm, 649, rfl⟩
abbrev main_cst_114 : Ref sig .tc := ⟨.hbm, 650, rfl⟩
abbrev main_v532 : Ref sig .tc := ⟨.hbm, 651, rfl⟩
abbrev main_v533 : Ref sig .tc := ⟨.hbm, 652, rfl⟩
abbrev main_v534 : Ref sig .tc := ⟨.hbm, 653, rfl⟩
abbrev main_cst_115 : Ref sig .tc := ⟨.hbm, 654, rfl⟩
abbrev main_v535 : Ref sig .tc := ⟨.hbm, 655, rfl⟩
abbrev main_v536 : Ref sig .tc := ⟨.hbm, 656, rfl⟩
abbrev main_v537 : Ref sig .tc := ⟨.hbm, 657, rfl⟩
abbrev main_v538 : Ref sig .tc := ⟨.hbm, 658, rfl⟩
abbrev main_cst_116 : Ref sig .tc := ⟨.hbm, 659, rfl⟩
abbrev main_v539 : Ref sig .tc := ⟨.hbm, 660, rfl⟩
abbrev main_v540 : Ref sig .tc := ⟨.hbm, 661, rfl⟩
abbrev main_cst_117 : Ref sig .tc := ⟨.hbm, 662, rfl⟩
abbrev main_v541 : Ref sig .tc := ⟨.hbm, 663, rfl⟩
abbrev main_v542 : Ref sig .tc := ⟨.hbm, 664, rfl⟩
abbrev main_cst_118 : Ref sig .tc := ⟨.hbm, 665, rfl⟩
abbrev main_v543 : Ref sig .tc := ⟨.hbm, 666, rfl⟩
abbrev main_v544 : Ref sig .tc := ⟨.hbm, 667, rfl⟩
abbrev main_v545 : Ref sig .tc := ⟨.hbm, 668, rfl⟩
abbrev main_cst_119 : Ref sig .tc := ⟨.hbm, 669, rfl⟩
abbrev main_v546 : Ref sig .tc := ⟨.hbm, 670, rfl⟩
abbrev main_v547 : Ref sig .tc := ⟨.hbm, 671, rfl⟩
abbrev main_v548 : Ref sig .tc := ⟨.hbm, 672, rfl⟩
abbrev main_v549 : Ref sig .tc := ⟨.hbm, 673, rfl⟩
abbrev main_cst_120 : Ref sig .tc := ⟨.hbm, 674, rfl⟩
abbrev main_v550 : Ref sig .tc := ⟨.hbm, 675, rfl⟩
abbrev main_v551 : Ref sig .tc := ⟨.hbm, 676, rfl⟩
abbrev main_cst_121 : Ref sig .tc := ⟨.hbm, 677, rfl⟩
abbrev main_v552 : Ref sig .tc := ⟨.hbm, 678, rfl⟩
abbrev main_v553 : Ref sig .tc := ⟨.hbm, 679, rfl⟩
abbrev main_cst_122 : Ref sig .tc := ⟨.hbm, 680, rfl⟩
abbrev main_v554 : Ref sig .tc := ⟨.hbm, 681, rfl⟩
abbrev main_v555 : Ref sig .tc := ⟨.hbm, 682, rfl⟩
abbrev main_v556 : Ref sig .tc := ⟨.hbm, 683, rfl⟩
abbrev main_cst_123 : Ref sig .tc := ⟨.hbm, 684, rfl⟩
abbrev main_v557 : Ref sig .tc := ⟨.hbm, 685, rfl⟩
abbrev main_v558 : Ref sig .tc := ⟨.hbm, 686, rfl⟩
abbrev main_v559 : Ref sig .tc := ⟨.hbm, 687, rfl⟩
abbrev main_v560 : Ref sig .tc := ⟨.hbm, 688, rfl⟩
abbrev main_cst_124 : Ref sig .tc := ⟨.hbm, 689, rfl⟩
abbrev main_v561 : Ref sig .tc := ⟨.hbm, 690, rfl⟩
abbrev main_v562 : Ref sig .tc := ⟨.hbm, 691, rfl⟩
abbrev main_cst_125 : Ref sig .tc := ⟨.hbm, 692, rfl⟩
abbrev main_v563 : Ref sig .tc := ⟨.hbm, 693, rfl⟩
abbrev main_v564 : Ref sig .tc := ⟨.hbm, 694, rfl⟩
abbrev main_cst_126 : Ref sig .tc := ⟨.hbm, 695, rfl⟩
abbrev main_v565 : Ref sig .tc := ⟨.hbm, 696, rfl⟩
abbrev main_v566 : Ref sig .tc := ⟨.hbm, 697, rfl⟩
abbrev main_v567 : Ref sig .tc := ⟨.hbm, 698, rfl⟩
abbrev main_cst_127 : Ref sig .tc := ⟨.hbm, 699, rfl⟩
abbrev main_v568 : Ref sig .tc := ⟨.hbm, 700, rfl⟩
abbrev main_v569 : Ref sig .tc := ⟨.hbm, 701, rfl⟩
abbrev main_v570 : Ref sig .tc := ⟨.hbm, 702, rfl⟩
abbrev main_v571 : Ref sig .tc := ⟨.hbm, 703, rfl⟩
abbrev main_cst_128 : Ref sig .tc := ⟨.hbm, 704, rfl⟩
abbrev main_v572 : Ref sig .tc := ⟨.hbm, 705, rfl⟩
abbrev main_v573 : Ref sig .tc := ⟨.hbm, 706, rfl⟩
abbrev main_cst_129 : Ref sig .tc := ⟨.hbm, 707, rfl⟩
abbrev main_v574 : Ref sig .tc := ⟨.hbm, 708, rfl⟩
abbrev main_v575 : Ref sig .tc := ⟨.hbm, 709, rfl⟩
abbrev main_cst_130 : Ref sig .tc := ⟨.hbm, 710, rfl⟩
abbrev main_v576 : Ref sig .tc := ⟨.hbm, 711, rfl⟩
abbrev main_v577 : Ref sig .tc := ⟨.hbm, 712, rfl⟩
abbrev main_v578 : Ref sig .tc := ⟨.hbm, 713, rfl⟩
abbrev main_v579 : Ref sig .tc := ⟨.hbm, 714, rfl⟩
abbrev main_v580 : Ref sig .tc := ⟨.hbm, 715, rfl⟩
abbrev main_v581 : Ref sig .tc := ⟨.hbm, 716, rfl⟩
abbrev main_v582 : Ref sig .tc := ⟨.hbm, 717, rfl⟩
abbrev main_cst_131 : Ref sig .tc := ⟨.hbm, 718, rfl⟩
abbrev main_v583 : Ref sig .tc := ⟨.hbm, 719, rfl⟩
abbrev main_cst_132 : Ref sig .tc := ⟨.hbm, 720, rfl⟩
abbrev main_v584 : Ref sig .tc := ⟨.hbm, 721, rfl⟩
abbrev main_v585 : Ref sig .tc := ⟨.hbm, 722, rfl⟩
abbrev main_v586 : Ref sig .tc := ⟨.hbm, 723, rfl⟩
abbrev main_v587 : Ref sig .tc := ⟨.hbm, 724, rfl⟩
abbrev main_cst_133 : Ref sig .tc := ⟨.hbm, 725, rfl⟩
abbrev main_v588 : Ref sig .tc := ⟨.hbm, 726, rfl⟩
abbrev main_v589 : Ref sig .tc := ⟨.hbm, 727, rfl⟩

abbrev nD : Nat := 1
abbrev τ : Topo := Topo.v7x

variable {F : FTy → Type} [FloatOps F]
-- ==== Proof.AttnMath.lean ====
/-
  The memory attention's backward pass for one query row, as functions on extended reals: the scores, their softmax, and
  the gradient with respect to the scores, in the two spellings the two programs use. `dscore_eq` says that the two
  spellings agree where the scores are real numbers.
-/
module

public import Idealize.ShloMosaic.PureOps.Ideal
public import Idealize.ShloMosaic.PureOps.Ideal.Laws
public import Idealize.ShloMosaic.Lib.Pointwise

@[expose] public section

noncomputable section

namespace Cert.Proof.Attn

open Idealize.ShloMosaic

variable {n : ℕ}

/-- The scaled scores of the query row `q` against the key rows `K`. -/
def score {d : ℕ} (c : EReal) (q : Fin d → EReal) (K : Fin n → Fin d → EReal) (k : Fin n) : EReal := (∑ j, q j * K k j) * c

/-- The largest score. -/
def top (s : Fin n → EReal) : EReal := Finset.univ.fold max ⊥ s

/-- The exponential of a score, shifted by the largest. -/
def ex (s : Fin n → EReal) (k : Fin n) : EReal := Ideal.exp (s k - top s)

/-- The softmax of the scores. -/
def prob (s : Fin n → EReal) (k : Fin n) : EReal := Ideal.div (ex s k) (∑ j, ex s j)

/-- The gradient of the unscaled scores as the kernel spells it, `g` the gradient of the probabilities. -/
def dscore (c : EReal) (s g : Fin n → EReal) (k : Fin n) : EReal := prob s k * (g k - ∑ j, g j * prob s j) * c

/-- The same gradient as differentiating the quotient spells it. -/
def dscore' (c : EReal) (s g : Fin n → EReal) (k : Fin n) : EReal :=
  (Ideal.div (g k) (∑ j, ex s j) + -∑ j, g j * Ideal.div 1 ((∑ j, ex s j) * ∑ j, ex s j) * ex s j) * ex s k * c

/-- A factor that is a real number at least zero comes out of a sum of extended reals. -/
theorem sum_mul_coe {ι : Type} (t : Finset ι) (f : ι → EReal) {a : ℝ} (ha : 0 ≤ a) :
    ∑ i ∈ t, f i * (a : EReal) = (∑ i ∈ t, f i) * (a : EReal) := by
  classical
  induction t using Finset.induction_on with
  | empty => simp
  | insert i t hi ih =>
    rw [Finset.sum_insert hi, Finset.sum_insert hi, ih,
      EReal.right_distrib_of_nonneg_of_ne_top (EReal.coe_nonneg.mpr ha) (EReal.coe_ne_top a)]

/-- A sum of real numbers, as an extended real. -/
theorem coe_sum {ι : Type} (t : Finset ι) (f : ι → ℝ) : ∑ i ∈ t, ((f i : ℝ) : EReal) = ((∑ i ∈ t, f i : ℝ) : EReal) := by
  classical
  induction t using Finset.induction_on with
  | empty => simp
  | insert i t hi ih => rw [Finset.sum_insert hi, Finset.sum_insert hi, ih, EReal.coe_add]

/-- Division by a real number that is not zero is multiplication by its inverse. -/
theorem div_coe_ne {x : EReal} {z : ℝ} (hz : z ≠ 0) : Ideal.div x (z : EReal) = x * ((z⁻¹ : ℝ) : EReal) := by
  unfold Ideal.div
  rw [if_neg (by exact_mod_cast hz), EReal.coe_inv]

/-- The largest of finitely many real numbers is a real number. -/
theorem top_real [NeZero n] (s : Fin n → EReal) (h : ∀ k, ∃ r : ℝ, s k = r) : ∃ r : ℝ, top s = r := by
  have hb : top s ≠ ⊥ := by
    obtain ⟨r, hr⟩ := h 0
    have h0 : s 0 ≤ top s := (Finset.le_fold_max (s 0)).mpr (Or.inr ⟨0, Finset.mem_univ _, le_refl _⟩)
    intro hh
    rw [hh, hr] at h0
    exact absurd (le_bot_iff.mp h0) (EReal.coe_ne_bot r)
  have ht : top s ≠ ⊤ := by
    have : top s < ⊤ := (Finset.fold_max_lt ⊤).mpr ⟨bot_lt_top, fun k _ => by
      obtain ⟨r, hr⟩ := h k; rw [hr]; exact EReal.coe_lt_top r⟩
    exact ne_of_lt this
  exact ⟨(top s).toReal, (EReal.coe_toReal ht hb).symm⟩

/-- Where the scores are real numbers the two spellings of the gradient agree, whatever `g` and the scale. -/
theorem dscore_eq [NeZero n] (c : EReal) (s g : Fin n → EReal) (h : ∀ k, ∃ r : ℝ, s k = r) (k : Fin n) :
    dscore' c s g k = dscore c s g k := by
  obtain ⟨T, hT⟩ := top_real s h
  choose S hS using h
  have he : ∀ k, ex s k = ((Real.exp (S k - T) : ℝ) : EReal) := fun k => by
    unfold ex; rw [hT, hS, ← EReal.coe_sub]; rfl
  have hZ : ∑ j, ex s j = ((∑ j, Real.exp (S j - T) : ℝ) : EReal) := by
    rw [← coe_sum]; exact Finset.sum_congr rfl fun j _ => he j
  have hz : 0 < ∑ j, Real.exp (S j - T) := Finset.sum_pos (fun j _ => Real.exp_pos _) ⟨0, Finset.mem_univ _⟩
  unfold dscore dscore' prob
  rw [hZ]
  generalize ∑ j, Real.exp (S j - T) = z at hz
  simp only [he, div_coe_ne hz.ne', ← EReal.coe_mul, div_coe_ne (mul_pos hz hz).ne']
  congr 1
  have hsum : ∑ j, g j * (1 * (((z * z)⁻¹ : ℝ) : EReal)) * ((Real.exp (S j - T) : ℝ) : EReal)
      = (∑ j, g j * ((Real.exp (S j - T) * z⁻¹ : ℝ) : EReal)) * ((z⁻¹ : ℝ) : EReal) := by
    rw [← sum_mul_coe _ _ (inv_nonneg.mpr hz.le)]
    refine Finset.sum_congr rfl fun j _ => ?_
    rw [one_mul, mul_assoc, mul_assoc, ← EReal.coe_mul, ← EReal.coe_mul, mul_inv]
    congr 2; ring
  rw [hsum]
  generalize ∑ j, g j * ((Real.exp (S j - T) * z⁻¹ : ℝ) : EReal) = W
  have hE : 0 ≤ Real.exp (S k - T) := (Real.exp_pos _).le
  have hEz : 0 ≤ Real.exp (S k - T) * z⁻¹ := mul_nonneg hE (inv_nonneg.mpr hz.le)
  rw [EReal.right_distrib_of_nonneg_of_ne_top (EReal.coe_nonneg.mpr hE) (EReal.coe_ne_top _), sub_eq_add_neg (g k) W,
    EReal.left_distrib_of_nonneg_of_ne_top (EReal.coe_nonneg.mpr hEz) (EReal.coe_ne_top _), EReal.neg_mul, mul_assoc,
    mul_assoc, ← EReal.coe_mul, mul_comm (z⁻¹) _, mul_neg, mul_comm (g k), mul_comm W]

/-- A score of real vectors by a real scale is a real number. -/
theorem score_real {d : ℕ} (c : ℝ) (q : Fin d → EReal) (K : Fin n → Fin d → EReal) (hq : ∀ j, ∃ r : ℝ, q j = r)
    (hK : ∀ k j, ∃ r : ℝ, K k j = r) (k : Fin n) : ∃ r : ℝ, score (c : EReal) q K k = r := by
  choose Q hQ using hq
  choose L hL using hK
  refine ⟨(∑ j, Q j * L k j) * c, ?_⟩
  unfold score
  rw [EReal.coe_mul, ← coe_sum]
  congr 1
  exact Finset.sum_congr rfl fun j _ => by rw [hQ, hL, EReal.coe_mul]

theorem ofBits_ninf : Ideal.ofBits .f32 0xFF800000#32 = ⊥ := by simp [Ideal.ofBits, Ideal.ieee]

/-- The scale of the scores, one over the root of the head's width. -/
abbrev scale : EReal := Ideal.ofBits .f32 0x3D800000#32

/-- The scale is a real number. -/
theorem scale_real : ∃ r : ℝ, scale = r := by
  refine ⟨(8388608 : ℝ) * (2 ^ 27 : ℝ)⁻¹, ?_⟩
  simp [scale, Ideal.ofBits, Ideal.ieee]

/-! ## The rows of the arrays -/

/-- The column of head `h` and lane `d` in a row of four heads. -/
def col (h : Fin 4) (d : Fin 256) : Fin 1024 := ⟨h.val * 256 + d.val, by omega⟩

/-- The head and the lane of a column. -/
def chd (j : Fin 1024) : Fin 4 := ⟨j.val / 256, by omega⟩
def cln (j : Fin 1024) : Fin 256 := ⟨j.val % 256, by omega⟩

theorem col_chd (j : Fin 1024) : col (chd j) (cln j) = j := Fin.ext (by show j.val / 256 * 256 + j.val % 256 = j.val; omega)
theorem chd_col (h : Fin 4) (d : Fin 256) : chd (col h d) = h := Fin.ext (by show (h.val * 256 + d.val) / 256 = h.val; omega)
theorem cln_col (h : Fin 4) (d : Fin 256) : cln (col h d) = d := Fin.ext (by show (h.val * 256 + d.val) % 256 = d.val; omega)

/-- The same column among the keys of a memory row. -/
def kcol (h : Fin 4) (d : Fin 256) : Fin 2048 := ⟨h.val * 256 + d.val, by omega⟩

/-- The same column among the values of a memory row. -/
def vcol (h : Fin 4) (d : Fin 256) : Fin 2048 := ⟨1024 + (h.val * 256 + d.val), by omega⟩

/-- The head-`h` lanes of row `t`. -/
def row {T : ℕ} (x : (⟨2, ![T, 1024]⟩ : Shape).Idx → EReal) (h : Fin 4) (t : Fin T) (d : Fin 256) : EReal := x (ix2 t (col h d))

/-- The head-`h` keys. -/
def keys (x : (⟨2, ![256, 2048]⟩ : Shape).Idx → EReal) (h : Fin 4) (k : Fin 256) (d : Fin 256) : EReal := x (ix2 k (kcol h d))

/-- The head-`h` values. -/
def vals (x : (⟨2, ![256, 2048]⟩ : Shape).Idx → EReal) (h : Fin 4) (k : Fin 256) (d : Fin 256) : EReal := x (ix2 k (vcol h d))

/-- The gradient of the probabilities of row `t`, head `h`. -/
def dprob (x1 : (⟨2, ![256, 2048]⟩ : Shape).Idx → EReal) (x2 : (⟨2, ![2048, 1024]⟩ : Shape).Idx → EReal) (h : Fin 4)
    (t : Fin 2048) (m : Fin 256) : EReal := ∑ d, row x2 h t d * vals x1 h m d

/-- The scores of row `t`, head `h`. -/
def scores (x0 : (⟨2, ![2048, 1024]⟩ : Shape).Idx → EReal) (x1 : (⟨2, ![256, 2048]⟩ : Shape).Idx → EReal) (h : Fin 4)
    (t : Fin 2048) : Fin 256 → EReal := score scale (row x0 h t) (keys x1 h)

end Cert.Proof.Attn

end
-- ==== Proof.AttnPoint.lean ====
/-
  The memory attention's backward kernel, one grid point at a time: what the body leaves in its three output buffers as a
  function of the four blocks it reads, and that function read at an index.
-/
module

public import proofs.«01_k».proof.Proof.AttnMath
public import proofs.«01_k».proof.Proof.Gen.KernelIdeal.Value
public import Idealize.ShloMosaic.Lib.Pointwise

@[expose] public section

noncomputable section

namespace Cert.Proof.Attn

open Idealize.ShloMosaic Cert.KernelIdeal Cert.KernelIdeal.Gen

theorem off2 : (![0, 0] : Fin 2 → Nat) = fun _ => 0 := funext fun a => by fin_cases a <;> rfl

section Cases

variable (c : Dev nD) (i : grid0.Coords)
  (arg2 : Memref sig .tc .vmem S512x256 .bf16) (harg2 : arg2.IsWhole) (arg3 : Memref sig .tc .vmem S256x256 .bf16)
  (harg3 : arg3.IsWhole) (arg4 : Memref sig .tc .vmem S256x256 .bf16) (harg4 : arg4.IsWhole)
  (arg5 : Memref sig .tc .vmem S512x256 .f32) (harg5 : arg5.IsWhole) (arg6 : Memref sig .tc .vmem S512x256 .f32)
  (harg6 : arg6.IsWhole) (arg7 : Memref sig .tc .vmem S256x256 .f32) (harg7 : arg7.IsWhole)
  (arg8 : Memref sig .tc .vmem S256x256 .f32) (harg8 : arg8.IsWhole)
  (x0 : Vec Ideal S512x256 .bf16) (x1 : Vec Ideal S256x256 .bf16) (x2 : Vec Ideal S256x256 .bf16) (x3 : Vec Ideal S512x256 .f32)
  (y5 y6 : Vec Ideal S256x256 .f32)

theorem out_A_4 (hc0 : cond0_0 i) :
    out0_A_4 c i arg2 harg2 arg3 harg3 arg4 harg4 arg5 harg5 arg6 harg6 arg7 harg7 arg8 harg8 hc0 x0 x1 x2 x3
      = k0_pay6 x0 x1 x2 x3 := by
  unfold out0_A_4
  rw [View.read_writes_eq_canon _ _ _ (cover0_A_4 c i arg2 harg2 arg3 harg3 arg4 harg4 arg5 harg5 arg6 harg6 arg7 harg7 arg8 harg8 hc0 x0 x1 x2 x3)]
  unfold kernelRun0_A
  dsimp only
  try sl_unfold_words
  rw [View.canon_unit_zero off2]
  simp only [View.readAt_eq_ld, harg2.read_unread, harg3.read_unread, harg4.read_unread, harg5.read_unread, harg7.read_unread,
    harg8.read_unread, View.ld_unit_zero (S := S512x256) off2, View.ld_unit_zero (S := S256x256) off2, shapeCast_self]

theorem out_A_5 (hc0 : cond0_0 i) :
    out0_A_5 c i arg2 harg2 arg3 harg3 arg4 harg4 arg5 harg5 arg6 harg6 arg7 harg7 arg8 harg8 hc0 x0 x1 x2 x3
      = k0_pay1 x0 (k0_pay5 x0 x1 x2 x3) (k0_pay9 (k0_pay7 (F := Ideal))) := by
  unfold out0_A_5
  rw [View.read_writes_eq_canon _ _ _ (cover0_A_5 c i arg2 harg2 arg3 harg3 arg4 harg4 arg5 harg5 arg6 harg6 arg7 harg7 arg8 harg8 hc0 x0 x1 x2 x3)]
  unfold kernelRun0_A
  dsimp only
  try sl_unfold_words
  rw [View.canon_cons_unit_zero (S := S256x256) off2, View.readCov_unit_zero (S := S256x256) _ off2]
  simp only [View.readAt_eq_ld, harg2.read_unread, harg3.read_unread, harg4.read_unread, harg5.read_unread, harg7.read_unread,
    harg8.read_unread, View.ld_unit_zero (S := S512x256) off2, View.ld_unit_zero (S := S256x256) off2, shapeCast_self]

theorem out_A_6 (hc0 : cond0_0 i) :
    out0_A_6 c i arg2 harg2 arg3 harg3 arg4 harg4 arg5 harg5 arg6 harg6 arg7 harg7 arg8 harg8 hc0 x0 x1 x2 x3
      = k0_pay2 (k0_pay3 x0 x1) (k0_pay4 x3) (k0_pay8 (F := Ideal)) := by
  unfold out0_A_6
  rw [View.read_writes_eq_canon _ _ _ (cover0_A_6 c i arg2 harg2 arg3 harg3 arg4 harg4 arg5 harg5 arg6 harg6 arg7 harg7 arg8 harg8 hc0 x0 x1 x2 x3)]
  unfold kernelRun0_A
  dsimp only
  try sl_unfold_words
  rw [View.canon_cons_unit_zero (S := S256x256) off2, View.readCov_unit_zero (S := S256x256) _ off2]
  simp only [View.readAt_eq_ld, harg2.read_unread, harg3.read_unread, harg4.read_unread, harg5.read_unread, harg7.read_unread,
    harg8.read_unread, View.ld_unit_zero (S := S512x256) off2, View.ld_unit_zero (S := S256x256) off2, shapeCast_self]

theorem out_B_4 (hc0 : ¬cond0_0 i) :
    out0_B_4 c i arg2 harg2 arg3 harg3 arg4 harg4 arg5 harg5 arg6 harg6 arg7 harg7 arg8 harg8 hc0 x0 x1 x2 x3 y5 y6
      = k0_pay6 x0 x1 x2 x3 := by
  unfold out0_B_4
  rw [View.read_writes_eq_canon _ _ _ (cover0_B_4 c i arg2 harg2 arg3 harg3 arg4 harg4 arg5 harg5 arg6 harg6 arg7 harg7 arg8 harg8 hc0 x0 x1 x2 x3 y5 y6)]
  unfold kernelRun0_B
  dsimp only
  try sl_unfold_words
  rw [View.canon_unit_zero off2]
  simp only [View.readAt_eq_ld, harg2.read_unread, harg3.read_unread, harg4.read_unread, harg5.read_unread, harg7.read_unread,
    harg8.read_unread, View.ld_unit_zero (S := S512x256) off2, View.ld_unit_zero (S := S256x256) off2, shapeCast_self]

theorem out_B_5 (hc0 : ¬cond0_0 i) :
    out0_B_5 c i arg2 harg2 arg3 harg3 arg4 harg4 arg5 harg5 arg6 harg6 arg7 harg7 arg8 harg8 hc0 x0 x1 x2 x3 y5 y6
      = k0_pay1 x0 (k0_pay5 x0 x1 x2 x3) (k0_pay9 y5) := by
  unfold out0_B_5
  rw [View.read_writes_eq_canon _ _ _ (cover0_B_5 c i arg2 harg2 arg3 harg3 arg4 harg4 arg5 harg5 arg6 harg6 arg7 harg7 arg8 harg8 hc0 x0 x1 x2 x3 y5 y6)]
  unfold kernelRun0_B
  dsimp only
  try sl_unfold_words
  rw [View.canon_unit_zero off2]
  simp only [View.readAt_eq_ld, harg2.read_unread, harg3.read_unread, harg4.read_unread, harg5.read_unread, harg7.read_unread,
    harg8.read_unread, View.ld_unit_zero (S := S512x256) off2, View.ld_unit_zero (S := S256x256) off2, shapeCast_self]

theorem out_B_6 (hc0 : ¬cond0_0 i) :
    out0_B_6 c i arg2 harg2 arg3 harg3 arg4 harg4 arg5 harg5 arg6 harg6 arg7 harg7 arg8 harg8 hc0 x0 x1 x2 x3 y5 y6
      = k0_pay2 (k0_pay3 x0 x1) (k0_pay4 x3) y6 := by
  unfold out0_B_6
  rw [View.read_writes_eq_canon _ _ _ (cover0_B_6 c i arg2 harg2 arg3 harg3 arg4 harg4 arg5 harg5 arg6 harg6 arg7 harg7 arg8 harg8 hc0 x0 x1 x2 x3 y5 y6)]
  unfold kernelRun0_B
  dsimp only
  try sl_unfold_words
  rw [View.canon_unit_zero off2]
  simp only [View.readAt_eq_ld, harg2.read_unread, harg3.read_unread, harg4.read_unread, harg5.read_unread, harg7.read_unread,
    harg8.read_unread, View.ld_unit_zero (S := S512x256) off2, View.ld_unit_zero (S := S256x256) off2, shapeCast_self]

end Cases

/-! ## The body's values at an index -/

variable (x0 : Vec Ideal S512x256 .bf16) (x1 : Vec Ideal S256x256 .bf16) (x2 : Vec Ideal S256x256 .bf16) (x3 : Vec Ideal S512x256 .f32)

/-- The scores of the block's row `r`. -/
def sc (x0 : (⟨2, ![512, 256]⟩ : Shape).Idx → EReal) (x1 : (⟨2, ![256, 256]⟩ : Shape).Idx → EReal) (r : Fin 512) : Fin 256 → EReal :=
  score scale (fun d => x0 (ix2 r d)) fun k d => x1 (ix2 k d)

/-- The gradient of the probabilities of the block's row `r`. -/
def dpRow (x3 : (⟨2, ![512, 256]⟩ : Shape).Idx → EReal) (x2 : (⟨2, ![256, 256]⟩ : Shape).Idx → EReal) (r : Fin 512) (k : Fin 256) : EReal :=
  ∑ d, x3 (ix2 r d) * x2 (ix2 k d)

theorem pay3_at (r : Fin 512) (k : Fin 256) : k0_pay3 (F := Ideal) x0 x1 (ix2 r k) = prob (sc x0 x1 r) k := by
  pointwise [k0_pay3, prob, ex, top, sc, score]
  rw [ofBits_ninf]

theorem pay5_at (r : Fin 512) (k : Fin 256) :
    k0_pay5 (F := Ideal) x0 x1 x2 x3 (ix2 r k) = dscore scale (sc x0 x1 r) (dpRow x3 x2 r) k := by
  pointwise [k0_pay5, k0_pay4, pay3_at, dscore, dpRow]

theorem pay6_at (r : Fin 512) (d : Fin 256) :
    k0_pay6 (F := Ideal) x0 x1 x2 x3 (ix2 r d)
      = ∑ k, dscore scale (sc x0 x1 r) (dpRow x3 x2 r) k * x1 (ix2 k d) := by
  pointwise [k0_pay6, pay5_at]

theorem pay1_at (y : Vec Ideal S256x256 .f32) (k d : Fin 256) :
    k0_pay1 (F := Ideal) x0 (k0_pay5 x0 x1 x2 x3) (k0_pay9 y) (ix2 k d)
      = y (ix2 k d) + ∑ r, dscore scale (sc x0 x1 r) (dpRow x3 x2 r) k * x0 (ix2 r d) := by
  pointwise [k0_pay1, k0_pay9, pay5_at]

theorem pay2_at (y : Vec Ideal S256x256 .f32) (k d : Fin 256) :
    k0_pay2 (F := Ideal) (k0_pay3 x0 x1) (k0_pay4 x3) y (ix2 k d)
      = y (ix2 k d) + ∑ r, prob (sc x0 x1 r) k * x3 (ix2 r d) := by
  pointwise [k0_pay2, k0_pay4, pay3_at]

theorem pay7_at (k d : Fin 256) : k0_pay7 (F := Ideal) (ix2 k d) = 0 := by
  pointwise [k0_pay7]

theorem pay8_at (k d : Fin 256) : k0_pay8 (F := Ideal) (ix2 k d) = 0 := by
  pointwise [k0_pay8]

end Cert.Proof.Attn

end
-- ==== Proof.AttnArrays.lean ====
/-
  The three arrays the memory attention's backward kernel leaves, over its whole grid: the gradient of the queries block by
  block, those of the keys and values summed over the four tiles of a head's tokens.
-/
module

public import proofs.«01_k».proof.Proof.AttnPoint
public import Idealize.ShloMosaic.Lib.Pipeline.ValueKit

@[expose] public section

noncomputable section

namespace Cert.Proof.Attn

open Idealize.ShloMosaic Idealize.SL.Sem Cert.KernelIdeal Cert.KernelIdeal.Gen Cert.KernelIdeal.Value
open Idealize.ShloMosaic.TcCoe
open Idealize.ShloMosaic.Pipeline (Dat Cfg Window)

variable (m : (ℓ : Loc nD τ sig) → Buf (Elt Ideal) ℓ) (c : Dev nD)

/-- The queries, the memory rows and the cotangent as launched. -/
abbrev A0 : (⟨2, ![2048, 1024]⟩ : Shape).Idx → EReal := m ((c : Thread nD τ).loc main_arg0)
abbrev A1 : (⟨2, ![256, 2048]⟩ : Shape).Idx → EReal := m ((c : Thread nD τ).loc main_arg1)
abbrev A2 : (⟨2, ![2048, 1024]⟩ : Shape).Idx → EReal := m ((c : Thread nD τ).loc main_arg2)

/-- The head of a grid point. -/
def hd (t : Fin cfg0.N) : Fin 4 := ⟨t.val / 4, by have : t.val < 16 := t.isLt; omega⟩

/-- The token of row `r` of a grid point's tile. -/
def tok (t : Fin cfg0.N) (r : Fin 512) : Fin 2048 := ⟨t.val % 4 * 512 + r.val, by omega⟩

theorem e0 : ∀ t : Fin cfg0.N, win0_0.index t 0 = t.val % 4 ∧ win0_0.index t 1 = t.val / 4 := by decide +kernel
theorem e1 : ∀ t : Fin cfg0.N, win0_1.index t 0 = 0 ∧ win0_1.index t 1 = t.val / 4 := by decide +kernel
theorem e2 : ∀ t : Fin cfg0.N, win0_2.index t 0 = 0 ∧ win0_2.index t 1 = 4 + t.val / 4 := by decide +kernel
theorem e3 : ∀ t : Fin cfg0.N, win0_3.index t 0 = t.val % 4 ∧ win0_3.index t 1 = t.val / 4 := by decide +kernel
theorem e4 : ∀ t : Fin cfg0.N, win0_4.index t 0 = t.val % 4 ∧ win0_4.index t 1 = t.val / 4 := by decide +kernel
theorem e5 : ∀ t : Fin cfg0.N, win0_5.index t 0 = 0 ∧ win0_5.index t 1 = t.val / 4 := by decide +kernel
theorem e6 : ∀ t : Fin cfg0.N, win0_6.index t 0 = 0 ∧ win0_6.index t 1 = t.val / 4 := by decide +kernel

theorem blk0_at (t : Fin cfg0.N) (r : Fin 512) (d : Fin 256) : iblk m c 0 t (ix2 r d) = row (A0 m c) (hd t) (tok t r) d := by
  show V m c main_arg0 (((cfg0.win 0).blk t).view.emb (ix2 r d)) = _
  rw [V_main_arg0]
  refine congrArg (m ((c : Thread nD τ).loc main_arg0)) (funext fun a => Fin.ext ?_)
  fin_cases a
  · show win0_0.index t 0 * 512 + 1 * r.val = t.val % 4 * 512 + r.val
    rw [(e0 t).1, one_mul]
  · show win0_0.index t 1 * 256 + 1 * d.val = t.val / 4 * 256 + d.val
    rw [(e0 t).2, one_mul]

theorem blk1_at (t : Fin cfg0.N) (k d : Fin 256) : iblk m c 1 t (ix2 k d) = keys (A1 m c) (hd t) k d := by
  show V m c main_arg1 (((cfg0.win 1).blk t).view.emb (ix2 k d)) = _
  rw [V_main_arg1]
  refine congrArg (m ((c : Thread nD τ).loc main_arg1)) (funext fun a => Fin.ext ?_)
  fin_cases a
  · show win0_1.index t 0 * 256 + 1 * k.val = k.val
    rw [(e1 t).1]; omega
  · show win0_1.index t 1 * 256 + 1 * d.val = t.val / 4 * 256 + d.val
    rw [(e1 t).2, one_mul]

theorem blk2_at (t : Fin cfg0.N) (k d : Fin 256) : iblk m c 2 t (ix2 k d) = vals (A1 m c) (hd t) k d := by
  show V m c main_arg1 (((cfg0.win 2).blk t).view.emb (ix2 k d)) = _
  rw [V_main_arg1]
  refine congrArg (m ((c : Thread nD τ).loc main_arg1)) (funext fun a => Fin.ext ?_)
  fin_cases a
  · show win0_2.index t 0 * 256 + 1 * k.val = k.val
    rw [(e2 t).1]; omega
  · show win0_2.index t 1 * 256 + 1 * d.val = 1024 + (t.val / 4 * 256 + d.val)
    rw [(e2 t).2]; omega

theorem blk3_at (t : Fin cfg0.N) (r : Fin 512) (d : Fin 256) : iblk m c 3 t (ix2 r d) = row (A2 m c) (hd t) (tok t r) d := by
  show V m c main_arg2 (((cfg0.win 3).blk t).view.emb (ix2 r d)) = _
  rw [V_main_arg2]
  refine congrArg (m ((c : Thread nD τ).loc main_arg2)) (funext fun a => Fin.ext ?_)
  fin_cases a
  · show win0_3.index t 0 * 512 + 1 * r.val = t.val % 4 * 512 + r.val
    rw [(e3 t).1, one_mul]
  · show win0_3.index t 1 * 256 + 1 * d.val = t.val / 4 * 256 + d.val
    rw [(e3 t).2, one_mul]

/-- The gradient of the unscaled scores of token `t`. -/
abbrev ds (h : Fin 4) (t : Fin 2048) : Fin 256 → EReal :=
  dscore scale (scores (A0 m c) (A1 m c) h t) (dprob (A1 m c) (A2 m c) h t)

/-- A token's contribution to the keys' and to the values' gradient, by the token's number. -/
def dkTerm (h : Fin 4) (k d : Fin 256) (n : ℕ) : EReal :=
  if hn : n < 2048 then ds m c h ⟨n, hn⟩ k * row (A0 m c) h ⟨n, hn⟩ d else 0

def dvTerm (h : Fin 4) (k d : Fin 256) (n : ℕ) : EReal :=
  if hn : n < 2048 then prob (scores (A0 m c) (A1 m c) h ⟨n, hn⟩) k * row (A2 m c) h ⟨n, hn⟩ d else 0

theorem sc_blk (t : Fin cfg0.N) (r : Fin 512) :
    sc (iblk m c 0 t) (iblk m c 1 t) r = scores (A0 m c) (A1 m c) (hd t) (tok t r) := by
  unfold sc scores
  exact congrArg₂ (score scale) (funext fun d => blk0_at m c t r d) (funext fun k => funext fun d => blk1_at m c t k d)

theorem dp_blk (t : Fin cfg0.N) (r : Fin 512) :
    dpRow (iblk m c 3 t) (iblk m c 2 t) r = dprob (A1 m c) (A2 m c) (hd t) (tok t r) :=
  funext fun k => Finset.sum_congr rfl fun d _ => congrArg₂ (· * ·) (blk3_at m c t r d) (blk2_at m c t k d)

/-- What one grid point adds to the keys' gradient. -/
theorem add5 (t : Fin cfg0.N) (y : Vec Ideal S256x256 .f32) (k d : Fin 256) :
    k0_pay1 (F := Ideal) (iblk m c 0 t) (k0_pay5 (iblk m c 0 t) (iblk m c 1 t) (iblk m c 2 t) (iblk m c 3 t)) (k0_pay9 y) (ix2 k d)
      = y (ix2 k d) + ∑ r ∈ Finset.range 512, dkTerm m c (hd t) k d (t.val % 4 * 512 + r) := by
  rw [pay1_at, Finset.sum_range]
  refine congrArg (y (ix2 k d) + ·) (Finset.sum_congr rfl fun r _ => ?_)
  have hr : t.val % 4 * 512 + r.val < 2048 := by omega
  rw [sc_blk, dp_blk, blk0_at, dkTerm, dif_pos hr]
  rfl

/-- What one grid point adds to the values' gradient. -/
theorem add6 (t : Fin cfg0.N) (y : Vec Ideal S256x256 .f32) (k d : Fin 256) :
    k0_pay2 (F := Ideal) (k0_pay3 (iblk m c 0 t) (iblk m c 1 t)) (k0_pay4 (iblk m c 3 t)) y (ix2 k d)
      = y (ix2 k d) + ∑ r ∈ Finset.range 512, dvTerm m c (hd t) k d (t.val % 4 * 512 + r) := by
  rw [pay2_at, Finset.sum_range]
  refine congrArg (y (ix2 k d) + ·) (Finset.sum_congr rfl fun r _ => ?_)
  have hr : t.val % 4 * 512 + r.val < 2048 := by omega
  rw [sc_blk, blk3_at, dvTerm, dif_pos hr]
  rfl

/-- A tile more of a sum over tokens. -/
theorem sum_tile (f : ℕ → EReal) (n : ℕ) :
    ∑ i ∈ Finset.range ((n + 1) * 512), f i
      = ∑ i ∈ Finset.range (n * 512), f i + ∑ r ∈ Finset.range 512, f (n * 512 + r) := by
  rw [show (n + 1) * 512 = n * 512 + 512 by ring, Finset.sum_range_add]

/-- The two accumulators after a grid point: the tokens of the head up to the end of its tile. -/
theorem acc_at (n : ℕ) : ∀ t : Fin cfg0.N, t.val = n → ∀ k d : Fin 256,
    (outsAt0 m c t.val t.isLt).2.1 (ix2 k d) = ∑ i ∈ Finset.range ((t.val % 4 + 1) * 512), dkTerm m c (hd t) k d i
    ∧ (outsAt0 m c t.val t.isLt).2.2 (ix2 k d) = ∑ i ∈ Finset.range ((t.val % 4 + 1) * 512), dvTerm m c (hd t) k d i := by
  induction n with
  | zero =>
    intro t ht k d
    have h0 : t.val % 4 = 0 := by omega
    rw [outsAt0_A m c t h0]
    dsimp only
    rw [out_A_5, out_A_6, add5, add6, pay7_at, pay8_at, sum_tile, sum_tile, h0]
    simp
  | succ n ih =>
    intro t ht k d
    by_cases h0 : t.val % 4 = 0
    · rw [outsAt0_A m c t h0]
      dsimp only
      rw [out_A_5, out_A_6, add5, add6, pay7_at, pay8_at, sum_tile, sum_tile, h0]
      simp
    · have hp : t.val - 1 < cfg0.N := Nat.lt_of_le_of_lt (Nat.sub_le _ _) t.isLt
      have hI := ih ⟨t.val - 1, hp⟩ (by show t.val - 1 = n; omega) k d
      have hh : hd ⟨t.val - 1, hp⟩ = hd t := Fin.ext (by show (t.val - 1) / 4 = t.val / 4; omega)
      have hm : (t.val - 1) % 4 + 1 = t.val % 4 := by omega
      dsimp only at hI
      rw [hh, hm] at hI
      rw [outsAt0_B m c t h0]
      dsimp only
      rw [out_B_5, out_B_6, add5, add6, sum_tile, sum_tile, hI.1, hI.2]
      exact ⟨rfl, rfl⟩

theorem dq_at (t : Fin cfg0.N) (r : Fin 512) (d : Fin 256) :
    (outsAt0 m c t.val t.isLt).1 (ix2 r d) = ∑ k, ds m c (hd t) (tok t r) k * keys (A1 m c) (hd t) k d := by
  have e : (outsAt0 m c t.val t.isLt).1 = k0_pay6 (F := Ideal) (iblk m c 0 t) (iblk m c 1 t) (iblk m c 2 t) (iblk m c 3 t) := by
    by_cases h0 : t.val % 4 = 0
    · rw [outsAt0_A m c t h0]
      dsimp only
      rw [out_A_4]
    · rw [outsAt0_B m c t h0]
      dsimp only
      rw [out_B_4]
  rw [e, pay6_at]
  refine Finset.sum_congr rfl fun k _ => ?_
  rw [sc_blk, dp_blk, blk1_at]

/-! ## The arrays after the run -/

/-- The gradient of the queries. -/
def dq : (⟨2, ![2048, 1024]⟩ : Shape).Idx → EReal := fun i =>
  ∑ k, ds m c (chd (i 1)) (i 0) k * keys (A1 m c) (chd (i 1)) k (cln (i 1))

/-- The gradient of the keys. -/
def dk : (⟨2, ![256, 1024]⟩ : Shape).Idx → EReal := fun i =>
  ∑ t, ds m c (chd (i 1)) t (i 0) * row (A0 m c) (chd (i 1)) t (cln (i 1))

/-- The gradient of the values. -/
def dv : (⟨2, ![256, 1024]⟩ : Shape).Idx → EReal := fun i =>
  ∑ t, prob (scores (A0 m c) (A1 m c) (chd (i 1)) t) (i 0) * row (A2 m c) (chd (i 1)) t (cln (i 1))

theorem final_dq : (dats m 0 c).arrAt 4 cfg0.N = dq m c := by
  refine (dats m 0 c).arrAt_eq_of_covers 4 _ (by decide +kernel) fun t hf y => ?_
  blk_simp
  rw [after0_4]
  revert y
  intro (y : S512x256.Idx)
  idx_vars y
  rw [dq_at]
  show _ = ∑ k, ds m c (chd (((cfg0.win 4).blk t).view.emb (ix2 y0 y1) 1)) (((cfg0.win 4).blk t).view.emb (ix2 y0 y1) 0) k
    * keys (A1 m c) (chd (((cfg0.win 4).blk t).view.emb (ix2 y0 y1) 1)) k (cln (((cfg0.win 4).blk t).view.emb (ix2 y0 y1) 1))
  have h0 : ((cfg0.win 4).blk t).view.emb (ix2 y0 y1) 0 = tok t y0 := Fin.ext (by
    show win0_4.index t 0 * 512 + 1 * y0.val = t.val % 4 * 512 + y0.val
    rw [(e4 t).1, one_mul])
  have h1 : ((cfg0.win 4).blk t).view.emb (ix2 y0 y1) 1 = col (hd t) y1 := Fin.ext (by
    show win0_4.index t 1 * 256 + 1 * y1.val = t.val / 4 * 256 + y1.val
    rw [(e4 t).2, one_mul])
  rw [h0, h1, chd_col, cln_col]

/-- All the tokens of a head. -/
theorem sum_tokens (f : ℕ → EReal) (g : Fin 2048 → EReal) (h : ∀ t : Fin 2048, f t.val = g t) (n : ℕ) (hn : n % 4 = 3) :
    ∑ i ∈ Finset.range ((n % 4 + 1) * 512), f i = ∑ t, g t := by
  rw [hn, show (3 + 1) * 512 = 2048 from rfl, Finset.sum_range]
  exact Finset.sum_congr rfl fun t _ => h t

theorem final_dk : (dats m 0 c).arrAt 5 cfg0.N = dk m c := by
  refine (dats m 0 c).arrAt_eq_of_covers 5 _ (by decide +kernel) fun t hf y => ?_
  have h3 : t.val % 4 = 3 := (flush0_5 t).mp hf
  blk_simp
  rw [after0_5]
  revert y
  intro (y : S256x256.Idx)
  idx_vars y
  rw [(acc_at m c t.val t rfl y0 y1).1]
  have h0 : ((cfg0.win 5).blk t).view.emb (ix2 y0 y1) 0 = y0 := Fin.ext (by
    show win0_5.index t 0 * 256 + 1 * y0.val = y0.val
    rw [(e5 t).1]; omega)
  have h1 : ((cfg0.win 5).blk t).view.emb (ix2 y0 y1) 1 = col (hd t) y1 := Fin.ext (by
    show win0_5.index t 1 * 256 + 1 * y1.val = t.val / 4 * 256 + y1.val
    rw [(e5 t).2, one_mul])
  refine (sum_tokens _ (fun s => ds m c (hd t) s y0 * row (A0 m c) (hd t) s y1) (fun s => ?_) _ h3).trans ?_
  · rw [dkTerm, dif_pos s.isLt]
  · show _ = ∑ s, ds m c (chd (((cfg0.win 5).blk t).view.emb (ix2 y0 y1) 1)) s (((cfg0.win 5).blk t).view.emb (ix2 y0 y1) 0)
      * row (A0 m c) (chd (((cfg0.win 5).blk t).view.emb (ix2 y0 y1) 1)) s (cln (((cfg0.win 5).blk t).view.emb (ix2 y0 y1) 1))
    rw [h0, h1, chd_col, cln_col]

theorem final_dv : (dats m 0 c).arrAt 6 cfg0.N = dv m c := by
  refine (dats m 0 c).arrAt_eq_of_covers 6 _ (by decide +kernel) fun t hf y => ?_
  have h3 : t.val % 4 = 3 := (flush0_6 t).mp hf
  blk_simp
  rw [after0_6]
  revert y
  intro (y : S256x256.Idx)
  idx_vars y
  rw [(acc_at m c t.val t rfl y0 y1).2]
  have h0 : ((cfg0.win 6).blk t).view.emb (ix2 y0 y1) 0 = y0 := Fin.ext (by
    show win0_6.index t 0 * 256 + 1 * y0.val = y0.val
    rw [(e6 t).1]; omega)
  have h1 : ((cfg0.win 6).blk t).view.emb (ix2 y0 y1) 1 = col (hd t) y1 := Fin.ext (by
    show win0_6.index t 1 * 256 + 1 * y1.val = t.val / 4 * 256 + y1.val
    rw [(e6 t).2, one_mul])
  refine (sum_tokens _ (fun s => prob (scores (A0 m c) (A1 m c) (hd t) s) y0 * row (A2 m c) (hd t) s y1) (fun s => ?_) _ h3).trans ?_
  · rw [dvTerm, dif_pos s.isLt]
  · show _ = ∑ s, prob (scores (A0 m c) (A1 m c) (chd (((cfg0.win 6).blk t).view.emb (ix2 y0 y1) 1)) s)
        (((cfg0.win 6).blk t).view.emb (ix2 y0 y1) 0)
      * row (A2 m c) (chd (((cfg0.win 6).blk t).view.emb (ix2 y0 y1) 1)) s (cln (((cfg0.win 6).blk t).view.emb (ix2 y0 y1) 1))
    rw [h0, h1, chd_col, cln_col]

end Cert.Proof.Attn

end
-- ==== Proof.AttnRef.lean ====
/-
  The reference of the memory attention's backward pass, read at an index: its three results in terms of the row functions
  of `AttnMath`.
-/
module

public import proofs.«01_k».proof.Proof.AttnMath
public import proofs.«01_k».proof.Proof.Gen.ReferenceIdeal.Read
public import Idealize.ShloMosaic.Lib.Pointwise

@[expose] public section

noncomputable section

namespace Cert.Proof.Attn

open Idealize.ShloMosaic

open Cert.ReferenceIdeal Cert.ReferenceIdeal.Read

variable (x0 : (⟨S2048x1024, .bf16⟩ : BufTy).Contents (Elt Ideal)) (x1 : (⟨S256x2048, .bf16⟩ : BufTy).Contents (Elt Ideal))
  (x2 : (⟨S2048x1024, .f32⟩ : BufTy).Contents (Elt Ideal))

theorem v4_at (a : Fin 1) (t : Fin 2048) (h : Fin 4) (d : Fin 256) :
    val_main_v4 (F := Ideal) x0 (ix4 a t h d) = row x0 h t d := by
  pointwise [val_main_v4, val_main_v0, row, col]

theorem v5_at (a : Fin 1) (t : Fin 256) (h : Fin 4) (d : Fin 256) :
    val_main_v5 (F := Ideal) x1 (ix4 a t h d) = keys x1 h t d := by
  pointwise [val_main_v5, val_main_v2, val_main_v1, keys, kcol]

theorem v6_at (a : Fin 1) (t : Fin 256) (h : Fin 4) (d : Fin 256) :
    val_main_v6 (F := Ideal) x1 (ix4 a t h d) = vals x1 h t d := by
  pointwise [val_main_v6, val_main_v3, val_main_v1, vals, vcol]

theorem v9_at (a : Fin 1) (t : Fin 2048) (h : Fin 4) (m : Fin 256) :
    val_main_v9 (F := Ideal) x0 x1 (ix4 a h t m) = score (Ideal.ofBits .f32 0x3D800000#32) (row x0 h t) (keys x1 h) m := by
  pointwise [val_main_v9, val_main_v7, val_main_v8, val_main_cst, v4_at, v5_at, score]

theorem v10_at (a : Fin 1) (t : Fin 2048) (h : Fin 4) :
    val_main_v10 (F := Ideal) x0 x1 (ix3 a h t) = top (score scale (row x0 h t) (keys x1 h)) := by
  have e : val_main_v10 (F := Ideal) x0 x1 (ix3 a h t)
      = Finset.univ.fold max (Ideal.ofBits .f32 0xFF800000#32) (score scale (row x0 h t) (keys x1 h)) := by
    pointwise [val_main_v10, val_main_cst_0, v9_at]
  rw [e, ofBits_ninf]; rfl

theorem v17_at (a : Fin 1) (t : Fin 2048) (h : Fin 4) :
    val_main_v17 (F := Ideal) x0 x1 (ix3 a h t) = top (score scale (row x0 h t) (keys x1 h)) := by
  rw [val_main_v17_apply, v10_at, val_main_v16_apply, val_main_cst_2_apply]
  generalize top (score scale (row x0 h t) (keys x1 h)) = y
  rw [Ideal.maximumf_def, Ideal.ofBits_def, ofBits_ninf, max_eq_right bot_le]

theorem v30_at (a : Fin 1) (t : Fin 2048) (h : Fin 4) (m : Fin 256) :
    val_main_v30 (F := Ideal) x0 x1 (ix4 a h t m) = ex (score scale (row x0 h t) (keys x1 h)) m := by
  pointwise [val_main_v30, val_main_v29, val_main_v28, val_main_v27, v9_at, v17_at, ex]

theorem v31_at (a : Fin 1) (t : Fin 2048) (h : Fin 4) :
    val_main_v31 (F := Ideal) x0 x1 (ix3 a h t) = ∑ m, ex (score scale (row x0 h t) (keys x1 h)) m := by
  pointwise [val_main_v31, val_main_cst_8, v30_at]

theorem v34_at (a : Fin 1) (t : Fin 2048) (h : Fin 4) (m : Fin 256) :
    val_main_v34 (F := Ideal) x0 x1 (ix4 a h t m) = prob (score scale (row x0 h t) (keys x1 h)) m := by
  pointwise [val_main_v34, val_main_v33, val_main_v32, v30_at, v31_at, prob]

theorem v43_at (a : Fin 1) (t : Fin 2048) (h : Fin 4) (m : Fin 256) :
    val_main_v43 (F := Ideal) x1 x2 (ix4 a h t m) = ∑ d, row x2 h t d * vals x1 h m d := by
  pointwise [val_main_v43, val_main_v42, val_main_v41, v6_at, row, col]

theorem v49_at (a : Fin 1) (t : Fin 2048) (h : Fin 4) :
    val_main_v49 (F := Ideal) x0 x1 x2 (ix3 a h t)
      = ∑ m, dprob x1 x2 h t m * Ideal.div 1 ((∑ k, ex (score scale (row x0 h t) (keys x1 h)) k)
          * ∑ k, ex (score scale (row x0 h t) (keys x1 h)) k) * ex (score scale (row x0 h t) (keys x1 h)) m := by
  pointwise [val_main_v49, val_main_cst_10, val_main_v48, val_main_v47, val_main_v46, val_main_v37, val_main_v36,
    val_main_cst_9, val_main_v35, val_main_v32, v31_at, v30_at, v43_at, dprob]

theorem v51_at (a : Fin 1) (t : Fin 2048) (h : Fin 4) (b : Fin 1) :
    val_main_v51 (F := Ideal) x0 x1 x2 (ix4 a h t b) = -val_main_v49 (F := Ideal) x0 x1 x2 (ix3 a h t) := by
  pointwise [val_main_v51, val_main_v50]
  rw [Subsingleton.elim a 0]

/-- The sum over the two unit axes has one term. -/
theorem v54_at (t : Fin 2048) (h : Fin 4) :
    val_main_v54 (F := Ideal) x0 x1 x2 (ix2 h t) = -val_main_v49 (F := Ideal) x0 x1 x2 (ix3 0 h t) := by
  have e : val_main_v54 (F := Ideal) x0 x1 x2 (ix2 h t)
      = Ideal.hostReduceAdd Gen.reducesTo_S1x4x2048x1_S4x2048_d0_3 (val_main_v51 (F := Ideal) x0 x1 x2) 0 (ix2 h t) := by
    unfold val_main_v54
    generalize val_main_v51 (F := Ideal) x0 x1 x2 = y
    pointwise [val_main_cst_11]
  rw [e, ← v51_at x0 x1 x2 0 t h 0]
  generalize val_main_v51 (F := Ideal) x0 x1 x2 = y
  unfold Ideal.hostReduceAdd
  rw [zero_add]
  refine Finset.sum_eq_single_of_mem _ ?_ fun i hi hne => absurd ?_ hne
  · refine Finset.mem_filter.mpr ⟨Finset.mem_univ _, funext fun b => Fin.ext ?_⟩
    rw [Shape.ReducesTo.drop_apply_val]
    fin_cases b <;> rfl
  · have hd := (Finset.mem_filter.mp hi).2
    have h1 := congrArg Fin.val (congrFun hd 0)
    have h2 := congrArg Fin.val (congrFun hd 1)
    rw [Shape.ReducesTo.drop_apply_val] at h1 h2
    funext b
    apply Fin.ext
    fin_cases b
    · have : (i 0).val < 1 := (i 0).isLt
      show (i 0).val = 0
      omega
    · exact h1
    · exact h2
    · have : (i 3).val < 1 := (i 3).isLt
      show (i 3).val = 0
      omega

/-- The reference's gradient of the unscaled scores. -/
theorem v60_at (a : Fin 1) (t : Fin 2048) (h : Fin 4) (m : Fin 256) :
    val_main_v60 (F := Ideal) x0 x1 x2 (ix4 a h t m)
      = dscore' scale (score scale (row x0 h t) (keys x1 h)) (dprob x1 x2 h t) m := by
  pointwise [val_main_v60, val_main_v59, val_main_cst_12, val_main_v58, val_main_v57, val_main_v56, val_main_v55,
    val_main_v53, val_main_v52, val_main_v32, v54_at, v49_at, v43_at, v31_at, v30_at, dscore', dprob]

theorem v67_at (t : Fin 2048) (h : Fin 4) (d : Fin 256) :
    val_main_v67 (F := Ideal) x0 x1 x2 (ix2 t (col h d))
      = ∑ m, dscore' scale (score scale (row x0 h t) (keys x1 h)) (dprob x1 x2 h t) m * keys x1 h m d := by
  pointwise [val_main_v67, val_main_v64, val_main_v63, v60_at, v5_at, col]

theorem v66_at (m : Fin 256) (h : Fin 4) (d : Fin 256) :
    val_main_v66 (F := Ideal) x0 x1 x2 (ix2 m (col h d))
      = ∑ t, dscore' scale (score scale (row x0 h t) (keys x1 h)) (dprob x1 x2 h t) m * row x0 h t d := by
  pointwise [val_main_v66, val_main_v62, val_main_v61, v60_at, v4_at, col]

theorem v65_at (m : Fin 256) (h : Fin 4) (d : Fin 256) :
    val_main_v65 (F := Ideal) x0 x1 x2 (ix2 m (col h d))
      = ∑ t, prob (score scale (row x0 h t) (keys x1 h)) m * row x2 h t d := by
  pointwise [val_main_v65, val_main_v45, val_main_v44, val_main_v42, val_main_v41, v34_at, row, col]
  exact Finset.sum_congr rfl fun _ _ => mul_comm _ _

end Cert.Proof.Attn

end
-- ==== Proof.AttnClaim.lean ====
/-
  The memory attention's backward pass: with finite query and key rows the kernel's three arrays are the reference's.
-/
module

public import proofs.«01_k».proof.Defs
public import proofs.«01_k».proof.Proof.AttnArrays
public import proofs.«01_k».proof.Proof.AttnRef
public import proofs.«01_k».proof.Proof.Gen.ReferenceIdeal.Run

@[expose] public section

noncomputable section

namespace Cert.Proof.Attn

open Idealize.ShloMosaic Idealize.SL.Sem

instance preFacts : Cert.Pre_finite_scores.Facts where
  bitsLt_bf16_f32 := by decide
  bcast_S_S2048x1024 := by decide
  slices_S256x2048_S256x1024_0_0 := by decide
  bcast_S_S256x1024 := by decide

theorem ofBits_pinf : Ideal.ofBits .f32 0x7F800000#32 = ⊤ := by simp [Ideal.ofBits, Ideal.ieee]

/-- An extended real whose absolute value is below infinity is a real number. -/
theorem real_of_abs_lt {x : EReal} (h : max x (-x) < ⊤) : ∃ r : ℝ, x = r := by
  have h1 : x ≠ ⊤ := fun e => by rw [e] at h; simp at h
  have h2 : x ≠ ⊥ := fun e => by rw [e] at h; simp at h
  exact ⟨x.toReal, (EReal.coe_toReal h1 h2).symm⟩

theorem lt_of_cmpf {x y : EReal} (h : FloatOps.cmpf (F := Ideal) (φ := .f32) .olt x y = 1#1) : x < y := by
  by_contra hn
  simp [Ideal.cmpf_def, Ideal.cmp, hn] at h

/-- What the precondition says: the query rows and the keys hold real numbers. -/
theorem pre_real (a0 : FVec Ideal ⟨2, ![2048, 1024]⟩ .bf16) (a1 : FVec Ideal ⟨2, ![256, 2048]⟩ .bf16) (a2 : FVec Ideal ⟨2, ![2048, 1024]⟩ .f32)
    (h : (Cert.Pre_finite_scores.fn (F := Ideal) a0 a1 a2).1 = (fun _ => 1#1) ∧ (Cert.Pre_finite_scores.fn (F := Ideal) a0 a1 a2).2 = (fun _ => 1#1)) :
    (∀ t j, ∃ r : ℝ, a0 (ix2 t j) = r) ∧ ∀ k (j : Fin 1024), ∃ r : ℝ, a1 (ix2 k ⟨j.val, by omega⟩) = r := by
  simp only [Cert.Pre_finite_scores.fn] at h
  constructor
  · intro t j
    have hi := lt_of_cmpf (congrFun h.1 (ix2 t j))
    pointwise [] at hi
    rw [ofBits_pinf] at hi
    exact real_of_abs_lt hi
  · intro t j
    have hi := lt_of_cmpf (congrFun h.2 (ix2 t j))
    pointwise [] at hi
    rw [ofBits_pinf] at hi
    exact real_of_abs_lt hi

theorem scores_real (a0 : FVec Ideal ⟨2, ![2048, 1024]⟩ .bf16) (a1 : FVec Ideal ⟨2, ![256, 2048]⟩ .bf16)
    (h0 : ∀ t j, ∃ r : ℝ, a0 (ix2 t j) = r) (h1 : ∀ k (j : Fin 1024), ∃ r : ℝ, a1 (ix2 k ⟨j.val, by omega⟩) = r) (h : Fin 4) (t : Fin 2048) (k : Fin 256) :
    ∃ r : ℝ, score scale (row a0 h t) (keys a1 h) k = r := by
  obtain ⟨s, hs⟩ := scale_real
  rw [hs]
  exact score_real s _ _ (fun d => h0 t (col h d)) (fun k d => h1 k (col h d)) k

theorem agree : Cert.algebraic_KernelIdeal_ReferenceIdeal_pre_finite_scores (hKernelIdeal := Cert.KernelIdeal.Gen.facts)
    (hReferenceIdeal := Cert.ReferenceIdeal.Gen.facts) (hPre_finite_scores := preFacts) := by
  intro m g m' g' hp ha
  have hs (c) (h : Fin 4) (t : Fin 2048) (k : Fin 256) := scores_real (A0 m c) (A1 m c) (pre_real _ _ _ (hp c)).1 (pre_real _ _ _ (hp c)).2 h t k
  refine ⟨dq m, dk m, dv m, (θ_run _ _ _).mono (fun r h c => ⟨(h c).1.trans (final_dq m c), (h c).2.1.trans (final_dk m c), (h c).2.2.1.trans (final_dv m c),
    (h c).2.2.2⟩) (Cert.KernelIdeal.Value.run_blocks m g), (θ_run _ _ _).mono (fun r h c => ?_) (Cert.ReferenceIdeal.Value.run m' g')⟩
  obtain ⟨e0, e1, e2⟩ := ha c
  refine ⟨(h c).1.trans ?_, (h c).2.1.trans ?_, (h c).2.2.1.trans ?_, (h c).2.2.2⟩
  · rw [Cert.ReferenceIdeal.Read.val_main_v67_eq, e0, e1, e2]
    funext i
    idx_vars i
    rw [← col_chd i1, v67_at]
    simp only [dq, ds, ix2_0, ix2_1, chd_col, cln_col]
    exact Finset.sum_congr rfl fun k _ => congrArg (· * _) (dscore_eq _ _ _ (hs c _ _) k)
  · rw [Cert.ReferenceIdeal.Read.val_main_v66_eq, e0, e1, e2]
    funext i
    idx_vars i
    rw [← col_chd i1, v66_at]
    simp only [dk, ds, ix2_0, ix2_1, chd_col, cln_col]
    exact Finset.sum_congr rfl fun k _ => congrArg (· * _) (dscore_eq _ _ _ (hs c _ _) _)
  · rw [e0, e1, e2]
    refine (Cert.ReferenceIdeal.Read.val_main_v65_eq _ _ _).trans ?_
    funext i
    idx_vars i
    rw [← col_chd i1, v65_at]
    simp only [dv, ix2_0, ix2_1, chd_col, cln_col]
    rfl

end Cert.Proof.Attn

end
-- ==== Proof.Tiles.lean ====
/-
  Sums cut into tiles, and the zero offsets of whole stores.
-/
module

public import Idealize.ShloMosaic.Lib.Pointwise

@[expose] public section

noncomputable section

namespace Cert.Proof

open Idealize.ShloMosaic

theorem off2 : (![0, 0] : Fin 2 → Nat) = fun _ => 0 := funext fun a => by fin_cases a <;> rfl
theorem off3 : (![0, 0, 0] : Fin 3 → Nat) = fun _ => 0 := funext fun a => by fin_cases a <;> rfl

/-- A tile more of a sum. -/
theorem sum_tile (b : ℕ) (f : ℕ → EReal) (n : ℕ) :
    ∑ i ∈ Finset.range ((n + 1) * b), f i = ∑ i ∈ Finset.range (n * b), f i + ∑ r ∈ Finset.range b, f (n * b + r) := by
  rw [show (n + 1) * b = n * b + b by ring, Finset.sum_range_add]

/-- The summand `n`, and nothing past the last. -/
def term {K : ℕ} (f : Fin K → EReal) (n : ℕ) : EReal := if h : n < K then f ⟨n, h⟩ else 0

theorem sum_term {K : ℕ} (f : Fin K → EReal) : ∑ k ∈ Finset.range K, term f k = ∑ k, f k := by
  rw [Finset.sum_range]
  exact Finset.sum_congr rfl fun k _ => dif_pos k.isLt

/-- A run of summands. -/
theorem sum_part {K b o : ℕ} {f : Fin K → EReal} {g : Fin b → EReal} (h : ∀ k : Fin b, ∃ hk : o + k.val < K, g k = f ⟨o + k.val, hk⟩) :
    ∑ k, g k = ∑ k ∈ Finset.range b, term f (o + k) := by
  rw [Finset.sum_range]
  refine Finset.sum_congr rfl fun k _ => ?_
  obtain ⟨hk, e⟩ := h k
  rw [e, term, dif_pos hk]

/-- An accumulator over points in groups of `q`, begun at zero with each group and fed `b` summands at each point, holds the
    summands so far. -/
theorem sum_tiles {N K : ℕ} (q b : ℕ) (a : Fin N → EReal) (f : Fin N → Fin K → EReal)
    (hA : ∀ t : Fin N, t.val % q = 0 → a t = 0 + ∑ k ∈ Finset.range b, term (f t) (t.val % q * b + k))
    (hB : ∀ t : Fin N, ¬t.val % q = 0 →
      a t = a ⟨t.val - 1, Nat.lt_of_le_of_lt (Nat.sub_le _ _) t.isLt⟩ + ∑ k ∈ Finset.range b, term (f t) (t.val % q * b + k))
    (hf : ∀ t : Fin N, ¬t.val % q = 0 → f ⟨t.val - 1, Nat.lt_of_le_of_lt (Nat.sub_le _ _) t.isLt⟩ = f t) (t : Fin N) :
    a t = ∑ k ∈ Finset.range ((t.val % q + 1) * b), term (f t) k := by
  obtain ⟨n, hn⟩ := t
  induction n with
  | zero => rw [hA _ (Nat.zero_mod q), sum_tile, Nat.zero_mod, Nat.zero_mul, Finset.range_zero, Finset.sum_empty]
  | succ n ih =>
    by_cases h : (n + 1) % q = 0
    · rw [hA _ h, sum_tile]
      dsimp only
      rw [h, Nat.zero_mul, Finset.range_zero, Finset.sum_empty]
    · have hm : (n % q + 1) = (n + 1) % q := by
        rcases Nat.eq_zero_or_pos q with rfl | hq
        · simp
        · rw [Nat.add_mod] at h ⊢
          rcases Nat.lt_or_ge q 2 with h2 | h2
          · obtain rfl : q = 1 := by omega
            exact absurd (Nat.mod_one _) h
          · rw [Nat.mod_eq_of_lt (show 1 < q by omega)] at h ⊢
            have := Nat.mod_lt n hq
            rcases Nat.lt_or_ge (n % q + 1) q with h3 | h3
            · rw [Nat.mod_eq_of_lt h3]
            · exact absurd (by rw [show n % q + 1 = q by omega, Nat.mod_self]) h
      have e := hf ⟨n + 1, hn⟩ h
      rw [hB _ h, sum_tile]
      refine congrArg (· + _) ((ih (Nat.lt_of_succ_lt hn)).trans ?_)
      show ∑ k ∈ Finset.range ((n % q + 1) * b), term (f ⟨n + 1 - 1, _⟩) k = _
      rw [hm, e]

/-- An array of rows and columns, and one given by its entries. -/
abbrev Mat (a b : ℕ) : Type := (⟨2, ![a, b]⟩ : Shape).Idx → EReal
def entries {a b : ℕ} (f : Fin a → Fin b → EReal) : Mat a b := fun i => f (i 0) (i 1)

/-- The summands of an entry of a product, with neither factor, the right one or the left one transposed; and the products. -/
def rowNN {a k b : ℕ} (x : Mat a k) (y : Mat k b) (i : Fin a) (j : Fin b) (e : Fin k) : EReal := x (ix2 i e) * y (ix2 e j)
def rowNT {a k b : ℕ} (x : Mat a k) (y : Mat b k) (i : Fin a) (j : Fin b) (e : Fin k) : EReal := x (ix2 i e) * y (ix2 j e)
def rowTN {a k b : ℕ} (x : Mat k a) (y : Mat k b) (i : Fin a) (j : Fin b) (e : Fin k) : EReal := x (ix2 e i) * y (ix2 e j)
def mulNN {a k b : ℕ} (x : Mat a k) (y : Mat k b) (i : Fin a) (j : Fin b) : EReal := ∑ e, rowNN x y i j e
def mulNT {a k b : ℕ} (x : Mat a k) (y : Mat b k) (i : Fin a) (j : Fin b) : EReal := ∑ e, rowNT x y i j e
def mulTN {a k b : ℕ} (x : Mat k a) (y : Mat k b) (i : Fin a) (j : Fin b) : EReal := ∑ e, rowTN x y i j e

theorem ix2_ext {n p : ℕ} {i : (⟨2, ![n, p]⟩ : Shape).Idx} {a : Fin n} {b : Fin p} (h0 : (i 0).val = a.val) (h1 : (i 1).val = b.val) : i = ix2 a b :=
  funext fun z => Fin.ext (by fin_cases z; exacts [h0, h1])

/-- A sum over `n` runs of 704 entries, each padded to 768, whose padding adds nothing. -/
theorem sum_unpad (n P Q : ℕ) (hP : P = n * 768) (hQ : Q = n * 704) (f : Fin P → EReal) (h : ∀ k : Fin P, ¬k.val % 768 < 704 → f k = 0) :
    ∑ k, f k = ∑ k : Fin Q, f ⟨k.val / 704 * 768 + k.val % 704, by omega⟩ := by
  symm
  refine Finset.sum_of_injOn (fun k : Fin Q => (⟨k.val / 704 * 768 + k.val % 704, by omega⟩ : Fin P)) ?_ (fun _ _ => Finset.mem_coe.2 (Finset.mem_univ _)) ?_ (fun _ _ => rfl)
  · intro a _ b _ e
    have e' : a.val / 704 * 768 + a.val % 704 = b.val / 704 * 768 + b.val % 704 := congrArg Fin.val e
    exact Fin.ext (by omega)
  · intro k _ hk
    by_cases hp : k.val % 768 < 704
    · refine absurd ⟨⟨k.val / 768 * 704 + k.val % 768, by omega⟩, Finset.mem_coe.2 (Finset.mem_univ _), Fin.ext ?_⟩ hk
      show (k.val / 768 * 704 + k.val % 768) / 704 * 768 + (k.val / 768 * 704 + k.val % 768) % 704 = k.val
      omega
    · exact h k hp

end Cert.Proof

end
-- ==== Proof.OutRows.lean ====
/-
  The gated MLP's output projection, its gradient in the activations: the product the call leaves.
-/
module

public import proofs.«01_k».proof.Proof.Gen.Kernel2Ideal.Read
public import proofs.«01_k».proof.Proof.Tiles
public import Idealize.ShloMosaic.Lib.Pipeline.ValueKit

@[expose] public section

noncomputable section

namespace Cert.Proof.OutRows

open Idealize.ShloMosaic Idealize.SL.Sem Cert.Kernel2Ideal Cert.Kernel2Ideal.Gen
open Idealize.ShloMosaic.TcCoe
open Idealize.ShloMosaic.Pipeline (Dat Cfg Window)

section Cases

variable (c : Dev nD) (i : grid0.Coords)
  (arg3 : Memref sig .tc .vmem S1024x1024 .f32) (harg3 : arg3.IsWhole) (arg4 : Memref sig .tc .vmem S1024x1024 .bf16) (harg4 : arg4.IsWhole)
  (arg5 : Memref sig .tc .vmem S1024x1024 .f32) (harg5 : arg5.IsWhole) (arg6 : Memref sig .tc .vmem S1024x1024 .f32) (harg6 : arg6.IsWhole)
  (x0 : Vec Ideal S1024x1024 .f32) (x1 : Vec Ideal S1024x1024 .bf16) (y : Vec Ideal S1024x1024 .f32)

theorem out_A (hc0 : cond0_0 i) (hc1 : cond0_1 i) :
    out0_A_2 c i arg3 harg3 arg4 harg4 arg5 harg5 arg6 harg6 hc0 hc1 x0 x1 = k0_pay2 (k0_pay1 (F := Ideal)) x0 x1 := by
  unfold out0_A_2
  rw [View.read_writes_eq_canon _ _ _ (cover0_A_2 c i arg3 harg3 arg4 harg4 arg5 harg5 arg6 harg6 hc0 hc1 x0 x1)]
  unfold kernelRun0_A
  dsimp only
  try sl_unfold_words
  rw [View.canon_unit_zero off2, View.readCov_cons_unit_lit' (S := S1024x1024) _ _ _ _ _ (by decide) (by decide), View.readCov_unit_zero (S := S1024x1024) _ off2]
  simp only [View.readAt_eq_ld, harg3.read_unread, harg4.read_unread, harg6.read_unread,
    View.ld_unit_zero (S := S1024x1024) off2, shapeCast_self]

end Cases

/-! ## The body's values at an index -/

theorem pay1_at (r : Fin 1024) (d : Fin 1024) : k0_pay1 (F := Ideal) (ix2 r d) = 0 := by
  pointwise [k0_pay1]

theorem pay2_at (y : Vec Ideal S1024x1024 .f32) (x0 : Vec Ideal S1024x1024 .f32) (x1 : Vec Ideal S1024x1024 .bf16) (r : Fin 1024) (d : Fin 1024) :
    k0_pay2 (F := Ideal) y x0 x1 (ix2 r d) = y (ix2 r d) + ∑ k : Fin 1024, ((x0 (ix2 r k) : EReal) * x1 (ix2 d k) : EReal) := by
  pointwise [k0_pay2]

/-! ## The blocks -/

variable (m : (ℓ : Loc nD τ sig) → Buf (Elt Ideal) ℓ) (c : Dev nD)

/-- The two operands as the call finds them. -/
abbrev L : (⟨2, ![2048, 1024]⟩ : Shape).Idx → EReal := V m c main_arg1
abbrev R : (⟨2, ![3072, 1024]⟩ : Shape).Idx → EReal := V m c main_v2

theorem e0 : ∀ t : Fin cfg0.N, win0_0.index t 0 = t.val / 3 ∧ win0_0.index t 1 = 0 := by decide +kernel
theorem e1 : ∀ t : Fin cfg0.N, win0_1.index t 0 = t.val / 1 % 3 ∧ win0_1.index t 1 = 0 := by decide +kernel
theorem e2 : ∀ t : Fin cfg0.N, win0_2.index t 0 = t.val / 3 ∧ win0_2.index t 1 = t.val / 1 % 3 := by decide +kernel

/-- The row and the column of the product that an entry of a point's block is. -/
def gr (t : Fin cfg0.N) (r : Fin 1024) : Fin 2048 := ⟨t.val / 3 * 1024 + r.val, by have : t.val < 6 := t.isLt; omega⟩
def gc (t : Fin cfg0.N) (d : Fin 1024) : Fin 3072 := ⟨t.val / 1 % 3 * 1024 + d.val, by have : t.val < 6 := t.isLt; omega⟩

/-- A product's summand, by its number. -/
def lft (a : Fin 2048) (k : Fin 1024) : EReal := L m c (ix2 a k)
def rgt (k : Fin 1024) (b : Fin 3072) : EReal := R m c (ix2 b k)

/-- The position `k` of a point's block along the summed axis. -/
def gk (t : Fin cfg0.N) (k : Fin 1024) : Fin 1024 := ⟨0 * 1024 + k.val, by have : t.val < 6 := t.isLt; omega⟩

theorem blk0_at (t : Fin cfg0.N) (r : Fin 1024) (k : Fin 1024) : iblk m c 0 t (ix2 r k) = lft m c (gr t r) (gk t k) := by
  show V m c main_arg1 (((cfg0.win 0).blk t).view.emb (ix2 r k)) = V m c main_arg1 _
  refine congrArg (V m c main_arg1) (funext fun a => Fin.ext ?_)
  fin_cases a
  · show win0_0.index t 0 * 1024 + 1 * r.val = t.val / 3 * 1024 + r.val
    rw [(e0 t).1]; omega
  · show win0_0.index t 1 * 1024 + 1 * k.val = 0 * 1024 + k.val
    rw [(e0 t).2]; omega

theorem blk1_at (t : Fin cfg0.N) (k : Fin 1024) (d : Fin 1024) : iblk m c 1 t (ix2 d k) = rgt m c (gk t k) (gc t d) := by
  show V m c main_v2 (((cfg0.win 1).blk t).view.emb (ix2 d k)) = V m c main_v2 _
  refine congrArg (V m c main_v2) (funext fun a => Fin.ext ?_)
  fin_cases a
  · show win0_1.index t 0 * 1024 + 1 * d.val = t.val / 1 % 3 * 1024 + d.val
    rw [(e1 t).1]; omega
  · show win0_1.index t 1 * 1024 + 1 * k.val = 0 * 1024 + k.val
    rw [(e1 t).2]; omega

/-- The summand of an entry of the product, by its position along the summed axis. -/
def term (a : Fin 2048) (b : Fin 3072) (n : ℕ) : EReal :=
  if hn : n < 1024 then lft m c a ⟨n, hn⟩ * rgt m c ⟨n, hn⟩ b else 0

/-- What one grid point adds. -/
theorem add_at (t : Fin cfg0.N) (y : Vec Ideal S1024x1024 .f32) (r : Fin 1024) (d : Fin 1024) :
    k0_pay2 (F := Ideal) y (iblk m c 0 t) (iblk m c 1 t) (ix2 r d)
      = y (ix2 r d) + ∑ k ∈ Finset.range 1024, term m c (gr t r) (gc t d) (0 * 1024 + k) := by
  rw [pay2_at, Finset.sum_range]
  refine congrArg (y (ix2 r d) + ·) (Finset.sum_congr rfl fun k _ => ?_)
  rw [term, dif_pos (show 0 * 1024 + k.val < 1024 from (gk t k).isLt)]
  exact congrArg₂ (· * ·) (blk0_at m c t r k) (blk1_at m c t k d)

/-- The product. -/
def prod (a : Fin 2048) (b : Fin 3072) : EReal := ∑ k, lft m c a k * rgt m c k b

theorem last_at (t : Fin cfg0.N) (r : Fin 1024) (d : Fin 1024) :
    outsAt0 m c t (ix2 r d) = prod m c (gr t r) (gc t d) := by
  unfold outsAt0
  rw [out_A, add_at, pay1_at, zero_add, Finset.sum_range]
  refine Finset.sum_congr rfl fun k _ => ?_
  rw [show 0 * 1024 + k.val = k.val by omega, term, dif_pos k.isLt]

theorem final : (dats m 0 c).arrAt 2 cfg0.N = fun i : (⟨2, ![2048, 3072]⟩ : Shape).Idx => prod m c (i 0) (i 1) := by
  refine (dats m 0 c).arrAt_eq_of_covers 2 _ (by decide +kernel) fun t hf y => ?_
  blk_simp
  rw [after0_2]
  revert y
  intro (y : S1024x1024.Idx)
  idx_vars y
  rw [last_at m c t y0 y1]
  refine congrArg₂ (prod m c) (Fin.ext ?_) (Fin.ext ?_)
  · show t.val / 3 * 1024 + y0.val = win0_2.index t 0 * 1024 + 1 * y0.val
    rw [(e2 t).1]; omega
  · show t.val / 1 % 3 * 1024 + y1.val = win0_2.index t 1 * 1024 + 1 * y1.val
    rw [(e2 t).2]; omega

end Cert.Proof.OutRows

end
-- ==== Proof.OutRowsClaim.lean ====
/-
  The gated MLP's output projection, its gradient in the activations: the call's result is the reference's product.
-/
module

public import proofs.«01_k».proof.Defs
public import proofs.«01_k».proof.Proof.OutRows
public import proofs.«01_k».proof.Proof.Gen.Reference2Ideal.Read

@[expose] public section

noncomputable section

namespace Cert.Proof.OutRows

open Idealize.ShloMosaic Idealize.SL.Sem Cert.Kernel2Ideal Cert.Kernel2Ideal.Gen Idealize.ShloMosaic.StableHlo
open Idealize.ShloMosaic.TcCoe

variable (m : (ℓ : Loc nD τ sig) → Buf (Elt Ideal) ℓ) (c : Dev nD)

/-- The gradient. -/
def spec (w : (⟨2, ![2816, 1024]⟩ : Shape).Idx → EReal) (g : (⟨2, ![2048, 1024]⟩ : Shape).Idx → EReal) : S2048x2816.Idx → EReal :=
  fun i => ∑ k : Fin 1024, g (ix2 (i 0) k) * w (ix2 (i 1) k)

/-! ## The padded operand -/

theorem V_w (b : Fin 3072) (k : Fin 1024) (h : b.val % 768 < 704) : V m c main_v2 (ix2 b k) = m (c.tc.loc main_arg0) (ix2 ⟨b.val / 768 * 704 + b.val % 768, by omega⟩ k) := by
  show after (List.flatten [hostOps0, hostOps0_1, hostOps0_2]) (fun rf => m ⟨c, rf⟩) (Proc.devRef .tc main_v2) (ix2 b k) = _
  simp only [hostOps0, hostOps0_1, hostOps0_2, List.flatten_cons, List.flatten_nil, List.append_nil, List.cons_append, List.nil_append]
  after_results
  simp only [TRef.toBuf, TRef.ofBuf, cast_eq]
  pointwise
  rw [dif_pos (by omega)]

/-! ## The two results -/

theorem kernel_value : shapeCast S2048x2816 (extractStridedSlice S2048x4x704 ![0, 0, 0] (shapeCast S2048x4x768 (Value.reg_main_v3 m c) shapeCasts_S2048x3072_S2048x4x768) slices_S2048x4x768_S2048x4x704_0_0_0) shapeCasts_S2048x4x704_S2048x2816 = spec (m (c.tc.loc main_arg0)) (m (c.tc.loc main_arg1)) := by
  funext i
  idx_vars i
  have tail : ∀ r0 : S2048x3072.Idx → EReal, shapeCast S2048x2816 (extractStridedSlice S2048x4x704 ![0, 0, 0] (shapeCast S2048x4x768 (r0) shapeCasts_S2048x3072_S2048x4x768) slices_S2048x4x768_S2048x4x704_0_0_0) shapeCasts_S2048x4x704_S2048x2816 (ix2 i0 i1) = r0 (ix2 i0 ⟨i1.val / 704 * 768 + i1.val % 704, by omega⟩) := by
    intro r0
    pointwise
  rw [tail, Value.reg_main_v3, final]
  show prod m c _ _ = spec _ _ _
  unfold prod spec
  refine Finset.sum_congr rfl fun k _ => ?_
  refine congrArg₂ (· * ·) ?_ ?_
  · show V m c main_arg1 (ix2 i0 k) = _
    rw [V_main_arg1]
    rfl
  · refine (V_w m c _ k (by show (i1.val / 704 * 768 + i1.val % 704) % 768 < 704; omega)).trans ?_
    exact congrArg (m (c.tc.loc main_arg0)) (congrArg₂ ix2 (Fin.ext (by show (i1.val / 704 * 768 + i1.val % 704) / 768 * 704 + (i1.val / 704 * 768 + i1.val % 704) % 768 = i1.val; omega)) rfl)

theorem reference_value (x0 x1) (i) : Cert.Reference2Ideal.Read.val_main_v2 (F := Ideal) x0 x1 i = spec x0 x1 i := by
  rw [Cert.Reference2Ideal.Read.val_main_v2_apply]
  refine Finset.sum_congr rfl fun k _ => ?_
  refine congrArg₂ (· * ·) ?_ ?_
  · exact congrArg x1 (funext fun a => by fin_cases a <;> rfl)
  · rw [Cert.Reference2Ideal.Read.val_main_v1_apply, Cert.Reference2Ideal.Read.val_main_v0_apply]
    exact congrArg x0 (funext fun a => by fin_cases a <;> rfl)

theorem agree : algebraic_Kernel2Ideal_Reference2Ideal (hKernel2Ideal := Cert.Kernel2Ideal.Gen.facts) (hReference2Ideal := Cert.Reference2Ideal.Gen.facts) := by
  intro m g m' g' _ hagree
  refine ⟨fun c => spec (m (c.tc.loc main_arg0)) (m (c.tc.loc main_arg1)), ?_, ?_⟩
  · exact (θ_run _ _ _).mono (fun r h c => ⟨(h c).1.trans (kernel_value m c), (h c).2⟩) (Value.run (F := Ideal) m g)
  · refine (θ_run _ _ _).mono (fun r h c => ⟨(h c).1.trans ?_, (h c).2.1, (h c).2.2⟩) (Cert.Reference2Ideal.Value.run (F := Ideal) m' g')
    rw [(hagree c).1, (hagree c).2]
    exact funext fun i => reference_value _ _ i

end Cert.Proof.OutRows

end
-- ==== Proof.OutWeights.lean ====
/-
  The gated MLP's output projection, its gradient in the weights: the product the call leaves.
-/
module

public import proofs.«01_k».proof.Proof.Gen.Kernel3Ideal.Read
public import proofs.«01_k».proof.Proof.Tiles
public import Idealize.ShloMosaic.Lib.Pipeline.ValueKit

@[expose] public section

noncomputable section

namespace Cert.Proof.OutWeights

open Idealize.ShloMosaic Idealize.SL.Sem Cert.Kernel3Ideal Cert.Kernel3Ideal.Gen
open Idealize.ShloMosaic.TcCoe
open Idealize.ShloMosaic.Pipeline (Dat Cfg Window)

section Cases

variable (c : Dev nD) (i : grid0.Coords)
  (arg3 : Memref sig .tc .vmem S1024x1024 .bf16) (harg3 : arg3.IsWhole) (arg4 : Memref sig .tc .vmem S1024x1024 .f32) (harg4 : arg4.IsWhole)
  (arg5 : Memref sig .tc .vmem S1024x1024 .f32) (harg5 : arg5.IsWhole) (arg6 : Memref sig .tc .vmem S1024x1024 .f32) (harg6 : arg6.IsWhole)
  (x0 : Vec Ideal S1024x1024 .bf16) (x1 : Vec Ideal S1024x1024 .f32) (y : Vec Ideal S1024x1024 .f32)

theorem scratch_A (hc0 : cond0_0 i) (hc1 : ¬cond0_1 i) :
    sout0_A_0 c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  try sl_unfold_words
  rw [View.canon_cons_unit_zero (S := S1024x1024) off2, View.readCov_unit_zero (S := S1024x1024) _ off2]
  simp only [View.readAt_eq_ld, harg3.read_unread, harg4.read_unread, harg6.read_unread,
    View.ld_unit_zero (S := S1024x1024) off2, shapeCast_self]

theorem scratch_B (hc0 : ¬cond0_0 i) (hc1 : cond0_1 i) :
    sout0_B_0 c i arg3 harg3 arg4 harg4 arg5 harg5 arg6 harg6 hc0 hc1 x0 x1 y = k0_pay2 y x0 x1 := by
  unfold sout0_B_0
  rw [View.read_writes_eq_canon _ _ _ (scover0_B_0 c i arg3 harg3 arg4 harg4 arg5 harg5 arg6 harg6 hc0 hc1 x0 x1 y)]
  unfold kernelRun0_B
  dsimp only
  try sl_unfold_words
  rw [View.canon_unit_zero off2]
  simp only [View.readAt_eq_ld, harg3.read_unread, harg4.read_unread, harg6.read_unread,
    View.ld_unit_zero (S := S1024x1024) off2, shapeCast_self]

theorem out_B (hc0 : ¬cond0_0 i) (hc1 : cond0_1 i) :
    out0_B_2 c i arg3 harg3 arg4 harg4 arg5 harg5 arg6 harg6 hc0 hc1 x0 x1 y = k0_pay2 y x0 x1 := by
  unfold out0_B_2
  rw [View.read_writes_eq_canon _ _ _ (cover0_B_2 c i arg3 harg3 arg4 harg4 arg5 harg5 arg6 harg6 hc0 hc1 x0 x1 y)]
  unfold kernelRun0_B
  dsimp only
  try sl_unfold_words
  rw [View.canon_unit_zero off2, View.readCov_unit_zero (S := S1024x1024) _ off2]
  simp only [View.readAt_eq_ld, harg3.read_unread, harg4.read_unread, harg6.read_unread,
    View.ld_unit_zero (S := S1024x1024) off2, shapeCast_self]

end Cases

/-! ## The body's values at an index -/

theorem pay1_at (r : Fin 1024) (d : Fin 1024) : k0_pay1 (F := Ideal) (ix2 r d) = 0 := by
  pointwise [k0_pay1]

theorem pay2_at (y : Vec Ideal S1024x1024 .f32) (x0 : Vec Ideal S1024x1024 .bf16) (x1 : Vec Ideal S1024x1024 .f32) (r : Fin 1024) (d : Fin 1024) :
    k0_pay2 (F := Ideal) y x0 x1 (ix2 r d) = y (ix2 r d) + ∑ k : Fin 1024, ((x0 (ix2 k r) : EReal) * x1 (ix2 k d) : EReal) := by
  pointwise [k0_pay2]

/-! ## The blocks -/

variable (m : (ℓ : Loc nD τ sig) → Buf (Elt Ideal) ℓ) (c : Dev nD)

/-- The two operands as the call finds them. -/
abbrev L : (⟨2, ![2048, 3072]⟩ : Shape).Idx → EReal := V m c main_v2
abbrev R : (⟨2, ![2048, 1024]⟩ : Shape).Idx → EReal := V m c main_arg1

theorem e0 : ∀ t : Fin cfg0.N, win0_0.index t 0 = t.val % 2 ∧ win0_0.index t 1 = t.val / 2 := by decide +kernel
theorem e1 : ∀ t : Fin cfg0.N, win0_1.index t 0 = t.val % 2 ∧ win0_1.index t 1 = 0 := by decide +kernel
theorem e2 : ∀ t : Fin cfg0.N, win0_2.index t 0 = t.val / 2 ∧ win0_2.index t 1 = 0 := by decide +kernel

/-- The row and the column of the product that an entry of a point's block is. -/
def gr (t : Fin cfg0.N) (r : Fin 1024) : Fin 3072 := ⟨t.val / 2 * 1024 + r.val, by have : t.val < 6 := t.isLt; omega⟩
def gc (t : Fin cfg0.N) (d : Fin 1024) : Fin 1024 := ⟨0 * 1024 + d.val, by have : t.val < 6 := t.isLt; omega⟩

/-- A product's summand, by its number. -/
def lft (a : Fin 3072) (k : Fin 2048) : EReal := L m c (ix2 k a)
def rgt (k : Fin 2048) (b : Fin 1024) : EReal := R m c (ix2 k b)

/-- The position `k` of a point's block along the summed axis. -/
def gk (t : Fin cfg0.N) (k : Fin 1024) : Fin 2048 := ⟨t.val % 2 * 1024 + k.val, by have : t.val < 6 := t.isLt; omega⟩

theorem blk0_at (t : Fin cfg0.N) (k : Fin 1024) (r : Fin 1024) : iblk m c 0 t (ix2 k r) = lft m c (gr t r) (gk t k) := by
  show V m c main_v2 (((cfg0.win 0).blk t).view.emb (ix2 k r)) = V m c main_v2 _
  refine congrArg (V m c main_v2) (funext fun a => Fin.ext ?_)
  fin_cases a
  · show win0_0.index t 0 * 1024 + 1 * k.val = t.val % 2 * 1024 + k.val
    rw [(e0 t).1]; omega
  · show win0_0.index t 1 * 1024 + 1 * r.val = t.val / 2 * 1024 + r.val
    rw [(e0 t).2]; omega

theorem blk1_at (t : Fin cfg0.N) (k : Fin 1024) (d : Fin 1024) : iblk m c 1 t (ix2 k d) = rgt m c (gk t k) (gc t d) := by
  show V m c main_arg1 (((cfg0.win 1).blk t).view.emb (ix2 k d)) = V m c main_arg1 _
  refine congrArg (V m c main_arg1) (funext fun a => Fin.ext ?_)
  fin_cases a
  · show win0_1.index t 0 * 1024 + 1 * k.val = t.val % 2 * 1024 + k.val
    rw [(e1 t).1]; omega
  · show win0_1.index t 1 * 1024 + 1 * d.val = 0 * 1024 + d.val
    rw [(e1 t).2]; omega

/-- The summand of an entry of the product, by its position along the summed axis. -/
def term (a : Fin 3072) (b : Fin 1024) (n : ℕ) : EReal :=
  if hn : n < 2048 then lft m c a ⟨n, hn⟩ * rgt m c ⟨n, hn⟩ b else 0

/-- What one grid point adds. -/
theorem add_at (t : Fin cfg0.N) (y : Vec Ideal S1024x1024 .f32) (r : Fin 1024) (d : Fin 1024) :
    k0_pay2 (F := Ideal) y (iblk m c 0 t) (iblk m c 1 t) (ix2 r d)
      = y (ix2 r d) + ∑ k ∈ Finset.range 1024, term m c (gr t r) (gc t d) (t.val % 2 * 1024 + k) := by
  rw [pay2_at, Finset.sum_range]
  refine congrArg (y (ix2 r d) + ·) (Finset.sum_congr rfl fun k _ => ?_)
  rw [term, dif_pos (show t.val % 2 * 1024 + k.val < 2048 from (gk t k).isLt)]
  exact congrArg₂ (· * ·) (blk0_at m c t k r) (blk1_at m c t k d)

/-- The accumulator after a grid point: the summands up to the end of its block. -/
theorem acc_at (n : ℕ) : ∀ t : Fin cfg0.N, t.val = n → ∀ (r : Fin 1024) (d : Fin 1024),
    (outsAt0 m c t.val t.isLt).2 (ix2 r d) = ∑ i ∈ Finset.range ((t.val % 2 + 1) * 1024), term m c (gr t r) (gc t d) i := by
  induction n with
  | zero =>
    intro t ht r d
    have h0 : t.val % 2 = 0 := by omega
    rw [outsAt0_A m c t h0 (by omega)]
    dsimp only
    rw [scratch_A, add_at, pay1_at, sum_tile, h0]
    simp
  | succ n ih =>
    intro t ht r d
    by_cases h0 : t.val % 2 = 0
    · rw [outsAt0_A m c t h0 (by omega)]
      dsimp only
      rw [scratch_A, add_at, pay1_at, sum_tile, h0]
      simp
    · have hp : t.val - 1 < cfg0.N := Nat.lt_of_le_of_lt (Nat.sub_le _ _) t.isLt
      have hI := ih ⟨t.val - 1, hp⟩ (by show t.val - 1 = n; omega) r d
      have hr : gr ⟨t.val - 1, hp⟩ r = gr t r := Fin.ext (by show (t.val - 1) / 2 * 1024 + r.val = t.val / 2 * 1024 + r.val; omega)
      have hd : gc ⟨t.val - 1, hp⟩ d = gc t d := Fin.ext (by show 0 * 1024 + d.val = 0 * 1024 + d.val; omega)
      have hm : (t.val - 1) % 2 + 1 = t.val % 2 := by omega
      dsimp only at hI
      rw [hr, hd, hm] at hI
      rw [outsAt0_B m c t h0 (by omega)]
      dsimp only
      rw [scratch_B, add_at, sum_tile, hI]

/-- The product. -/
def prod (a : Fin 3072) (b : Fin 1024) : EReal := ∑ k, lft m c a k * rgt m c k b

theorem last_at (t : Fin cfg0.N) (h : t.val % 2 = 1) (r : Fin 1024) (d : Fin 1024) :
    (outsAt0 m c t.val t.isLt).1 (ix2 r d) = prod m c (gr t r) (gc t d) := by
  have h0 : ¬t.val % 2 = 0 := by omega
  have e := acc_at m c t.val t rfl r d
  rw [outsAt0_B m c t h0 h] at e ⊢
  dsimp only at e ⊢
  rw [scratch_B] at e
  rw [out_B, e, h, show (1 + 1) * 1024 = 2048 from rfl, Finset.sum_range]
  refine Finset.sum_congr rfl fun k _ => ?_
  rw [term, dif_pos k.isLt]

theorem final : (dats m 0 c).arrAt 2 cfg0.N = fun i : (⟨2, ![3072, 1024]⟩ : Shape).Idx => prod m c (i 0) (i 1) := by
  refine (dats m 0 c).arrAt_eq_of_covers 2 _ (by decide +kernel) fun t hf y => ?_
  have hl : t.val % 2 = 1 := (flush0_2 t).mp hf
  blk_simp
  rw [after0_2]
  revert y
  intro (y : S1024x1024.Idx)
  idx_vars y
  rw [last_at m c t hl y0 y1]
  refine congrArg₂ (prod m c) (Fin.ext ?_) (Fin.ext ?_)
  · show t.val / 2 * 1024 + y0.val = win0_2.index t 0 * 1024 + 1 * y0.val
    rw [(e2 t).1]; omega
  · show 0 * 1024 + y1.val = win0_2.index t 1 * 1024 + 1 * y1.val
    rw [(e2 t).2]; omega

end Cert.Proof.OutWeights

end
-- ==== Proof.OutWeightsClaim.lean ====
/-
  The gated MLP's output projection, its gradient in the weights: the call's result is the reference's product.
-/
module

public import proofs.«01_k».proof.Defs
public import proofs.«01_k».proof.Proof.OutWeights
public import proofs.«01_k».proof.Proof.Gen.Reference3Ideal.Read

@[expose] public section

noncomputable section

namespace Cert.Proof.OutWeights

open Idealize.ShloMosaic Idealize.SL.Sem Cert.Kernel3Ideal Cert.Kernel3Ideal.Gen Idealize.ShloMosaic.StableHlo
open Idealize.ShloMosaic.TcCoe

variable (m : (ℓ : Loc nD τ sig) → Buf (Elt Ideal) ℓ) (c : Dev nD)

/-- The gradient. -/
def spec (a : (⟨2, ![2048, 2816]⟩ : Shape).Idx → EReal) (g : (⟨2, ![2048, 1024]⟩ : Shape).Idx → EReal) : S2816x1024.Idx → EReal :=
  fun i => ∑ k : Fin 2048, a (ix2 k (i 0)) * g (ix2 k (i 1))

/-! ## The padded operand -/

theorem V_act (a : Fin 2048) (b : Fin 3072) (h : b.val % 768 < 704) : V m c main_v2 (ix2 a b) = m (c.tc.loc main_arg0) (ix2 a ⟨b.val / 768 * 704 + b.val % 768, by omega⟩) := by
  show after (List.flatten [hostOps0, hostOps0_1, hostOps0_2]) (fun rf => m ⟨c, rf⟩) (Proc.devRef .tc main_v2) (ix2 a b) = _
  simp only [hostOps0, hostOps0_1, hostOps0_2, List.flatten_cons, List.flatten_nil, List.append_nil, List.cons_append, List.nil_append]
  after_results
  simp only [TRef.toBuf, TRef.ofBuf, cast_eq]
  pointwise
  rw [dif_pos (by omega)]

/-! ## The two results -/

theorem kernel_value : shapeCast S2816x1024 (extractStridedSlice S4x704x1024 ![0, 0, 0] (shapeCast S4x768x1024 (Value.reg_main_v3 m c) shapeCasts_S3072x1024_S4x768x1024) slices_S4x768x1024_S4x704x1024_0_0_0) shapeCasts_S4x704x1024_S2816x1024 = spec (m (c.tc.loc main_arg0)) (m (c.tc.loc main_arg1)) := by
  funext i
  idx_vars i
  have tail : ∀ r0 : S3072x1024.Idx → EReal, shapeCast S2816x1024 (extractStridedSlice S4x704x1024 ![0, 0, 0] (shapeCast S4x768x1024 (r0) shapeCasts_S3072x1024_S4x768x1024) slices_S4x768x1024_S4x704x1024_0_0_0) shapeCasts_S4x704x1024_S2816x1024 (ix2 i0 i1) = r0 (ix2 ⟨i0.val / 704 * 768 + i0.val % 704, by omega⟩ i1) := by
    intro r0
    pointwise
  rw [tail, Value.reg_main_v3, final]
  show prod m c _ _ = spec _ _ _
  unfold prod spec
  refine Finset.sum_congr rfl fun k _ => ?_
  refine congrArg₂ (· * ·) ?_ ?_
  · refine (V_act m c k _ (by show (i0.val / 704 * 768 + i0.val % 704) % 768 < 704; omega)).trans ?_
    exact congrArg (m (c.tc.loc main_arg0)) (congrArg₂ ix2 rfl (Fin.ext (by show (i0.val / 704 * 768 + i0.val % 704) / 768 * 704 + (i0.val / 704 * 768 + i0.val % 704) % 768 = i0.val; omega)))
  · show V m c main_arg1 (ix2 k i1) = _
    rw [V_main_arg1]
    rfl

theorem reference_value (x0 x1) (i) : Cert.Reference3Ideal.Read.val_main_v2 (F := Ideal) x0 x1 i = spec x0 x1 i := by
  rw [Cert.Reference3Ideal.Read.val_main_v2_apply]
  refine Finset.sum_congr rfl fun k _ => ?_
  refine congrArg₂ (· * ·) ?_ ?_
  · rw [Cert.Reference3Ideal.Read.val_main_v1_apply, Cert.Reference3Ideal.Read.val_main_v0_apply]
    exact congrArg x0 (funext fun a => by fin_cases a <;> rfl)
  · exact congrArg x1 (funext fun a => by fin_cases a <;> rfl)

theorem agree : algebraic_Kernel3Ideal_Reference3Ideal (hKernel3Ideal := Cert.Kernel3Ideal.Gen.facts) (hReference3Ideal := Cert.Reference3Ideal.Gen.facts) := by
  intro m g m' g' _ hagree
  refine ⟨fun c => spec (m (c.tc.loc main_arg0)) (m (c.tc.loc main_arg1)), ?_, ?_⟩
  · exact (θ_run _ _ _).mono (fun r h c => ⟨(h c).1.trans (kernel_value m c), (h c).2⟩) (Value.run (F := Ideal) m g)
  · refine (θ_run _ _ _).mono (fun r h c => ⟨(h c).1.trans ?_, (h c).2.1, (h c).2.2⟩) (Cert.Reference3Ideal.Value.run (F := Ideal) m' g')
    rw [(hagree c).1, (hagree c).2]
    exact funext fun i => reference_value _ _ i

end Cert.Proof.OutWeights

end
-- ==== Proof.InRows.lean ====
/-
  The gated MLP's input projection, its gradient in the activations: the product the call leaves.
-/
module

public import proofs.«01_k».proof.Proof.Gen.Kernel5Ideal.Value
public import proofs.«01_k».proof.Proof.Tiles
public import Idealize.ShloMosaic.Lib.Pipeline.ValueKit

@[expose] public section

noncomputable section

namespace Cert.Proof.InRows

open Idealize.ShloMosaic Idealize.SL.Sem Cert.Kernel5Ideal Cert.Kernel5Ideal.Gen
open Idealize.ShloMosaic.TcCoe
open Idealize.ShloMosaic.Pipeline (Dat Cfg Window)

section Cases

variable (c : Dev nD) (i : grid0.Coords)
  (arg3 : Memref sig .tc .vmem S1024x768 .f32) (harg3 : arg3.IsWhole) (arg4 : Memref sig .tc .vmem S1x1024x768 .bf16) (harg4 : arg4.IsWhole)
  (arg5 : Memref sig .tc .vmem S1024x1024 .f32) (harg5 : arg5.IsWhole) (arg6 : Memref sig .tc .vmem S1024x1024 .f32) (harg6 : arg6.IsWhole)
  (x0 : Vec Ideal S1024x768 .f32) (x1 : Vec Ideal S1x1024x768 .bf16) (y : Vec Ideal S1024x1024 .f32)

theorem scratch_A (hc0 : cond0_0 i) (hc1 : ¬cond0_1 i) :
    sout0_A_0 c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  try sl_unfold_words
  rw [View.canon_cons_unit_zero (S := S1024x1024) off2, View.readCov_unit_zero (S := S1024x1024) _ off2]
  simp only [View.readAt_eq_ld, harg3.read_unread, harg4.read_unread, harg6.read_unread,
    View.ld_unit_zero (S := S1024x768) off2, View.ld_unit_zero (S := S1x1024x768) off3, View.ld_unit_zero (S := S1024x1024) off2, shapeCast_self]

theorem scratch_B (hc0 : ¬cond0_0 i) (hc1 : ¬cond0_1 i) :
    sout0_B_0 c i arg3 harg3 arg4 harg4 arg5 harg5 arg6 harg6 hc0 hc1 x0 x1 y = k0_pay2 y x0 x1 := by
  unfold sout0_B_0
  rw [View.read_writes_eq_canon _ _ _ (scover0_B_0 c i arg3 harg3 arg4 harg4 arg5 harg5 arg6 harg6 hc0 hc1 x0 x1 y)]
  unfold kernelRun0_B
  dsimp only
  try sl_unfold_words
  rw [View.canon_unit_zero off2]
  simp only [View.readAt_eq_ld, harg3.read_unread, harg4.read_unread, harg6.read_unread,
    View.ld_unit_zero (S := S1024x768) off2, View.ld_unit_zero (S := S1x1024x768) off3, View.ld_unit_zero (S := S1024x1024) off2, shapeCast_self]

theorem scratch_C (hc0 : ¬cond0_0 i) (hc1 : cond0_1 i) :
    sout0_C_0 c i arg3 harg3 arg4 harg4 arg5 harg5 arg6 harg6 hc0 hc1 x0 x1 y = k0_pay2 y x0 x1 := by
  unfold sout0_C_0
  rw [View.read_writes_eq_canon _ _ _ (scover0_C_0 c i arg3 harg3 arg4 harg4 arg5 harg5 arg6 harg6 hc0 hc1 x0 x1 y)]
  unfold kernelRun0_C
  dsimp only
  try sl_unfold_words
  rw [View.canon_unit_zero off2]
  simp only [View.readAt_eq_ld, harg3.read_unread, harg4.read_unread, harg6.read_unread,
    View.ld_unit_zero (S := S1024x768) off2, View.ld_unit_zero (S := S1x1024x768) off3, View.ld_unit_zero (S := S1024x1024) off2, shapeCast_self]

theorem out_C (hc0 : ¬cond0_0 i) (hc1 : cond0_1 i) :
    out0_C_2 c i arg3 harg3 arg4 harg4 arg5 harg5 arg6 harg6 hc0 hc1 x0 x1 y = k0_pay2 y x0 x1 := by
  unfold out0_C_2
  rw [View.read_writes_eq_canon _ _ _ (cover0_C_2 c i arg3 harg3 arg4 harg4 arg5 harg5 arg6 harg6 hc0 hc1 x0 x1 y)]
  unfold kernelRun0_C
  dsimp only
  try sl_unfold_words
  rw [View.canon_unit_zero off2, View.readCov_unit_zero (S := S1024x1024) _ off2]
  simp only [View.readAt_eq_ld, harg3.read_unread, harg4.read_unread, harg6.read_unread,
    View.ld_unit_zero (S := S1024x768) off2, View.ld_unit_zero (S := S1x1024x768) off3, View.ld_unit_zero (S := S1024x1024) off2, shapeCast_self]

end Cases

/-! ## The body's values at an index -/

theorem pay1_at (r : Fin 1024) (d : Fin 1024) : k0_pay1 (F := Ideal) (ix2 r d) = 0 := by
  pointwise [k0_pay1]

theorem pay2_at (y : Vec Ideal S1024x1024 .f32) (x0 : Vec Ideal S1024x768 .f32) (x1 : Vec Ideal S1x1024x768 .bf16) (r : Fin 1024) (d : Fin 1024) :
    k0_pay2 (F := Ideal) y x0 x1 (ix2 r d) = y (ix2 r d) + ∑ k : Fin 768, ((x0 (ix2 r k) : EReal) * x1 (ix3 0 d k) : EReal) := by
  pointwise [k0_pay2]

/-! ## The blocks -/

variable (m : (ℓ : Loc nD τ sig) → Buf (Elt Ideal) ℓ) (c : Dev nD)

/-- The two operands as the call finds them. -/
abbrev L : (⟨2, ![2048, 6144]⟩ : Shape).Idx → EReal := V m c main_v5
abbrev R : (⟨3, ![8, 4096, 768]⟩ : Shape).Idx → EReal := V m c main_v2

theorem e0 : ∀ t : Fin cfg0.N, win0_0.index t 0 = t.val / 8 ∧ win0_0.index t 1 = t.val % 8 := by decide +kernel
theorem e1 : ∀ t : Fin cfg0.N, win0_1.index t 0 = t.val % 8 ∧ win0_1.index t 1 = 3 ∧ win0_1.index t 2 = 0 := by decide +kernel
theorem e2 : ∀ t : Fin cfg0.N, win0_2.index t 0 = t.val / 8 ∧ win0_2.index t 1 = 0 := by decide +kernel

/-- The row and the column of the product that an entry of a point's block is. -/
def gr (t : Fin cfg0.N) (r : Fin 1024) : Fin 2048 := ⟨t.val / 8 * 1024 + r.val, by have : t.val < 16 := t.isLt; omega⟩
def gc (t : Fin cfg0.N) (d : Fin 1024) : Fin 1024 := ⟨0 * 1024 + d.val, by have : t.val < 16 := t.isLt; omega⟩

/-- A product's summand, by its number. -/
def lft (a : Fin 2048) (k : Fin 6144) : EReal := L m c (ix2 a k)
def rgt (k : Fin 6144) (b : Fin 1024) : EReal := R m c (ix3 ⟨k.val / 768, by omega⟩ ⟨3072 + b.val, by omega⟩ ⟨k.val % 768, by omega⟩)

/-- The position `k` of a point's block along the summed axis. -/
def gk (t : Fin cfg0.N) (k : Fin 768) : Fin 6144 := ⟨t.val % 8 * 768 + k.val, by have : t.val < 16 := t.isLt; omega⟩

theorem blk0_at (t : Fin cfg0.N) (r : Fin 1024) (k : Fin 768) : iblk m c 0 t (ix2 r k) = lft m c (gr t r) (gk t k) := by
  show V m c main_v5 (((cfg0.win 0).blk t).view.emb (ix2 r k)) = V m c main_v5 _
  refine congrArg (V m c main_v5) (funext fun a => Fin.ext ?_)
  fin_cases a
  · show win0_0.index t 0 * 1024 + 1 * r.val = t.val / 8 * 1024 + r.val
    rw [(e0 t).1]; omega
  · show win0_0.index t 1 * 768 + 1 * k.val = t.val % 8 * 768 + k.val
    rw [(e0 t).2]; omega

theorem blk1_at (t : Fin cfg0.N) (k : Fin 768) (d : Fin 1024) : iblk m c 1 t (ix3 0 d k) = rgt m c (gk t k) (gc t d) := by
  show V m c main_v2 (((cfg0.win 1).blk t).view.emb (ix3 0 d k)) = V m c main_v2 _
  refine congrArg (V m c main_v2) (funext fun a => Fin.ext ?_)
  fin_cases a
  · show win0_1.index t 0 * 1 + 1 * 0 = (t.val % 8 * 768 + k.val) / 768
    rw [(e1 t).1]; omega
  · show win0_1.index t 1 * 1024 + 1 * d.val = 3072 + (0 * 1024 + d.val)
    rw [(e1 t).2.1]; omega
  · show win0_1.index t 2 * 768 + 1 * k.val = (t.val % 8 * 768 + k.val) % 768
    rw [(e1 t).2.2]; omega

/-- The summand of an entry of the product, by its position along the summed axis. -/
def term (a : Fin 2048) (b : Fin 1024) (n : ℕ) : EReal :=
  if hn : n < 6144 then lft m c a ⟨n, hn⟩ * rgt m c ⟨n, hn⟩ b else 0

/-- What one grid point adds. -/
theorem add_at (t : Fin cfg0.N) (y : Vec Ideal S1024x1024 .f32) (r : Fin 1024) (d : Fin 1024) :
    k0_pay2 (F := Ideal) y (iblk m c 0 t) (iblk m c 1 t) (ix2 r d)
      = y (ix2 r d) + ∑ k ∈ Finset.range 768, term m c (gr t r) (gc t d) (t.val % 8 * 768 + k) := by
  rw [pay2_at, Finset.sum_range]
  refine congrArg (y (ix2 r d) + ·) (Finset.sum_congr rfl fun k _ => ?_)
  rw [term, dif_pos (show t.val % 8 * 768 + k.val < 6144 from (gk t k).isLt)]
  exact congrArg₂ (· * ·) (blk0_at m c t r k) (blk1_at m c t k d)

/-- The accumulator after a grid point: the summands up to the end of its block. -/
theorem acc_at (n : ℕ) : ∀ t : Fin cfg0.N, t.val = n → ∀ (r : Fin 1024) (d : Fin 1024),
    (outsAt0 m c t.val t.isLt).2 (ix2 r d) = ∑ i ∈ Finset.range ((t.val % 8 + 1) * 768), term m c (gr t r) (gc t d) i := by
  induction n with
  | zero =>
    intro t ht r d
    have h0 : t.val % 8 = 0 := by omega
    rw [outsAt0_A m c t h0 (by omega)]
    dsimp only
    rw [scratch_A, add_at, pay1_at, sum_tile, h0]
    simp
  | succ n ih =>
    intro t ht r d
    by_cases h0 : t.val % 8 = 0
    · rw [outsAt0_A m c t h0 (by omega)]
      dsimp only
      rw [scratch_A, add_at, pay1_at, sum_tile, h0]
      simp
    · have hp : t.val - 1 < cfg0.N := Nat.lt_of_le_of_lt (Nat.sub_le _ _) t.isLt
      have hI := ih ⟨t.val - 1, hp⟩ (by show t.val - 1 = n; omega) r d
      have hr : gr ⟨t.val - 1, hp⟩ r = gr t r := Fin.ext (by show (t.val - 1) / 8 * 1024 + r.val = t.val / 8 * 1024 + r.val; omega)
      have hd : gc ⟨t.val - 1, hp⟩ d = gc t d := Fin.ext (by show 0 * 1024 + d.val = 0 * 1024 + d.val; omega)
      have hm : (t.val - 1) % 8 + 1 = t.val % 8 := by omega
      dsimp only at hI
      rw [hr, hd, hm] at hI
      by_cases h1 : t.val % 8 = 7
      · rw [outsAt0_C m c t h0 h1]
        dsimp only
        rw [scratch_C, add_at, sum_tile, hI]
      · rw [outsAt0_B m c t h0 h1]
        dsimp only
        rw [scratch_B, add_at, sum_tile, hI]

/-- The product. -/
def prod (a : Fin 2048) (b : Fin 1024) : EReal := ∑ k, lft m c a k * rgt m c k b

theorem last_at (t : Fin cfg0.N) (h : t.val % 8 = 7) (r : Fin 1024) (d : Fin 1024) :
    (outsAt0 m c t.val t.isLt).1 (ix2 r d) = prod m c (gr t r) (gc t d) := by
  have h0 : ¬t.val % 8 = 0 := by omega
  have e := acc_at m c t.val t rfl r d
  rw [outsAt0_C m c t h0 h] at e ⊢
  dsimp only at e ⊢
  rw [scratch_C] at e
  rw [out_C, e, h, show (7 + 1) * 768 = 6144 from rfl, Finset.sum_range]
  refine Finset.sum_congr rfl fun k _ => ?_
  rw [term, dif_pos k.isLt]

theorem final : (dats m 0 c).arrAt 2 cfg0.N = fun i : (⟨2, ![2048, 1024]⟩ : Shape).Idx => prod m c (i 0) (i 1) := by
  refine (dats m 0 c).arrAt_eq_of_covers 2 _ (by decide +kernel) fun t hf y => ?_
  have hl : t.val % 8 = 7 := (flush0_2 t).mp hf
  blk_simp
  rw [after0_2]
  revert y
  intro (y : S1024x1024.Idx)
  idx_vars y
  rw [last_at m c t hl y0 y1]
  refine congrArg₂ (prod m c) (Fin.ext ?_) (Fin.ext ?_)
  · show t.val / 8 * 1024 + y0.val = win0_2.index t 0 * 1024 + 1 * y0.val
    rw [(e2 t).1]; omega
  · show 0 * 1024 + y1.val = win0_2.index t 1 * 1024 + 1 * y1.val
    rw [(e2 t).2]; omega

end Cert.Proof.InRows

end
-- ==== Proof.InRowsClaim.lean ====
/-
  The gated MLP's input projection, its gradient in the activations: the call's result is the reference's product.
-/
module

public import proofs.«01_k».proof.Defs
public import proofs.«01_k».proof.Proof.InRows
public import proofs.«01_k».proof.Proof.Gen.Reference5Ideal.Read

@[expose] public section

noncomputable section

namespace Cert.Proof.InRows

open Idealize.ShloMosaic Idealize.SL.Sem Cert.Kernel5Ideal Cert.Kernel5Ideal.Gen Idealize.ShloMosaic.StableHlo
open Idealize.ShloMosaic.TcCoe

variable (m : (ℓ : Loc nD τ sig) → Buf (Elt Ideal) ℓ) (c : Dev nD)

/-- The gradient. -/
def spec (w : (⟨3, ![4, 1024, 5632]⟩ : Shape).Idx → EReal) (g : (⟨2, ![2048, 5632]⟩ : Shape).Idx → EReal) : S2048x1024.Idx → EReal :=
  fun i => ∑ k : Fin 5632, g (ix2 (i 0) k) * w (ix3 3 (i 1) k)

/-! ## The padded operands -/

theorem zero32 : (FloatOps.sitofp FTy.f32 0#32 : Ideal .f32) = (0 : EReal) := by
  show (((0#32 : BitVec 32).toInt : ℝ) : EReal) = 0
  simp

theorem V_du (a : Fin 2048) (b : Fin 6144) (h : b.val % 768 < 704) :
    V m c main_v5 (ix2 a b) = m (c.tc.loc main_arg1) (ix2 a ⟨b.val / 768 * 704 + b.val % 768, by omega⟩) := by
  show after (List.flatten [hostOps0, hostOps0_1, hostOps0_2, hostOps0_3, hostOps0_4]) (fun rf => m ⟨c, rf⟩) (Proc.devRef .tc main_v5) (ix2 a b) = _
  simp only [hostOps0, hostOps0_1, hostOps0_2, hostOps0_3, hostOps0_4, List.flatten_cons, List.flatten_nil, List.append_nil, List.cons_append, List.nil_append]
  after_results
  simp only [TRef.toBuf, TRef.ofBuf, cast_eq]
  pointwise
  rw [dif_pos (by omega)]

theorem V_du_pad (a : Fin 2048) (b : Fin 6144) (h : ¬b.val % 768 < 704) : V m c main_v5 (ix2 a b) = (0 : EReal) := by
  show after (List.flatten [hostOps0, hostOps0_1, hostOps0_2, hostOps0_3, hostOps0_4]) (fun rf => m ⟨c, rf⟩) (Proc.devRef .tc main_v5) (ix2 a b) = _
  simp only [hostOps0, hostOps0_1, hostOps0_2, hostOps0_3, hostOps0_4, List.flatten_cons, List.flatten_nil, List.append_nil, List.cons_append, List.nil_append]
  after_results
  simp only [TRef.toBuf, TRef.ofBuf, cast_eq]
  pointwise
  rw [dif_neg (by omega)]
  exact zero32

theorem V_w (a : Fin 8) (b : Fin 1024) (k : Fin 768) (h : k.val < 704) :
    V m c main_v2 (ix3 a ⟨3072 + b.val, by omega⟩ k) = m (c.tc.loc main_arg0) (ix3 3 b ⟨a.val * 704 + k.val, by omega⟩) := by
  show after (List.flatten [hostOps0, hostOps0_1, hostOps0_2, hostOps0_3, hostOps0_4]) (fun rf => m ⟨c, rf⟩) (Proc.devRef .tc main_v2) (ix3 a ⟨3072 + b.val, by omega⟩ k) = _
  simp only [hostOps0, hostOps0_1, hostOps0_2, hostOps0_3, hostOps0_4, List.flatten_cons, List.flatten_nil, List.append_nil, List.cons_append, List.nil_append]
  after_results
  simp only [TRef.toBuf, TRef.ofBuf, cast_eq]
  pointwise
  rw [dif_pos (by omega)]
  refine congrArg (m (c.tc.loc main_arg0)) (congrArg₂ (fun p q => ix3 p q _) (Fin.ext ?_) (Fin.ext ?_))
  · show (3072 + b.val) / 1024 = 3
    omega
  · show (3072 + b.val) % 1024 = b.val
    omega

/-! ## The two results -/

theorem kernel_value : (dats m 0 c).arrAt 2 cfg0.N = spec (m (c.tc.loc main_arg0)) (m (c.tc.loc main_arg1)) := by
  rw [final]
  funext i
  idx_vars i
  show prod m c i0 i1 = spec _ _ _
  unfold prod spec
  rw [sum_unpad 8 6144 5632 rfl rfl]
  · refine Finset.sum_congr rfl fun k _ => congrArg₂ (· * ·) ?_ ?_
    · refine (V_du m c i0 _ (by show (k.val / 704 * 768 + k.val % 704) % 768 < 704; omega)).trans ?_
      exact congrArg (m (c.tc.loc main_arg1)) (congrArg₂ ix2 rfl (Fin.ext (by show (k.val / 704 * 768 + k.val % 704) / 768 * 704 + (k.val / 704 * 768 + k.val % 704) % 768 = k.val; omega)))
    · refine (V_w m c _ i1 _ (by show (k.val / 704 * 768 + k.val % 704) % 768 < 704; omega)).trans ?_
      exact congrArg (m (c.tc.loc main_arg0)) (congrArg (ix3 3 i1) (Fin.ext (by show (k.val / 704 * 768 + k.val % 704) / 768 * 704 + (k.val / 704 * 768 + k.val % 704) % 768 = k.val; omega)))
  · intro k hk
    have e : lft m c i0 k = 0 := V_du_pad m c i0 k hk
    rw [e, zero_mul]

theorem reference_value (x0 x1) (i) : Cert.Reference5Ideal.Read.val_main_v4 (F := Ideal) x0 x1 i = spec x0 x1 i := by
  rw [Cert.Reference5Ideal.Read.val_main_v4_apply]
  refine Finset.sum_congr rfl fun k _ => ?_
  refine congrArg₂ (· * ·) ?_ ?_
  · exact congrArg x1 (funext fun a => by fin_cases a <;> rfl)
  · rw [Cert.Reference5Ideal.Read.val_main_v3_apply, Cert.Reference5Ideal.Read.val_main_v2_apply, Cert.Reference5Ideal.Read.val_main_v1_apply, Cert.Reference5Ideal.Read.val_main_v0_apply]
    idx_vars i
    refine congrArg x0 (funext fun a => Fin.ext ?_)
    fin_cases a
    · rfl
    · show (i1.val * 5632 + k.val) / 5632 % 1024 = i1.val
      omega
    · show (i1.val * 5632 + k.val) % 5632 = k.val
      omega

theorem agree : algebraic_Kernel5Ideal_Reference5Ideal (hKernel5Ideal := Cert.Kernel5Ideal.Gen.facts) (hReference5Ideal := Cert.Reference5Ideal.Gen.facts) := by
  intro m g m' g' _ hagree
  refine ⟨fun c => spec (m (c.tc.loc main_arg0)) (m (c.tc.loc main_arg1)), ?_, ?_⟩
  · exact (θ_run _ _ _).mono (fun r h c => ⟨(h c).1.trans (kernel_value m c), (h c).2⟩) (Value.run_blocks (F := Ideal) m g)
  · refine (θ_run _ _ _).mono (fun r h c => ⟨(h c).1.trans ?_, (h c).2.1, (h c).2.2⟩) (Cert.Reference5Ideal.Value.run (F := Ideal) m' g')
    rw [(hagree c).1, (hagree c).2]
    exact funext fun i => reference_value _ _ i

end Cert.Proof.InRows

end
-- ==== Proof.InWeights.lean ====
/-
  The gated MLP's input projection, its gradient in the weights: the product the call leaves.
-/
module

public import proofs.«01_k».proof.Proof.Gen.Kernel6Ideal.Read
public import proofs.«01_k».proof.Proof.Tiles
public import Idealize.ShloMosaic.Lib.Pipeline.ValueKit

@[expose] public section

noncomputable section

namespace Cert.Proof.InWeights

open Idealize.ShloMosaic Idealize.SL.Sem Cert.Kernel6Ideal Cert.Kernel6Ideal.Gen
open Idealize.ShloMosaic.TcCoe
open Idealize.ShloMosaic.Pipeline (Dat Cfg Window)

section Cases

variable (c : Dev nD) (i : grid0.Coords)
  (arg3 : Memref sig .tc .vmem S1024x1024 .bf16) (harg3 : arg3.IsWhole) (arg4 : Memref sig .tc .vmem S1024x768 .f32) (harg4 : arg4.IsWhole)
  (arg5 : Memref sig .tc .vmem S1x1024x768 .f32) (harg5 : arg5.IsWhole) (arg6 : Memref sig .tc .vmem S1024x768 .f32) (harg6 : arg6.IsWhole)
  (x0 : Vec Ideal S1024x1024 .bf16) (x1 : Vec Ideal S1024x768 .f32) (y : Vec Ideal S1024x768 .f32)

theorem scratch_A (hc0 : cond0_0 i) (hc1 : ¬cond0_1 i) :
    sout0_A_0 c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  try sl_unfold_words
  rw [View.canon_cons_unit_zero (S := S1024x768) off2, View.readCov_unit_zero (S := S1024x768) _ off2]
  simp only [View.readAt_eq_ld, harg3.read_unread, harg4.read_unread, harg6.read_unread,
    View.ld_unit_zero (S := S1024x1024) off2, View.ld_unit_zero (S := S1024x768) off2, shapeCast_self]

theorem scratch_B (hc0 : ¬cond0_0 i) (hc1 : cond0_1 i) :
    sout0_B_0 c i arg3 harg3 arg4 harg4 arg5 harg5 arg6 harg6 hc0 hc1 x0 x1 y = k0_pay2 y x0 x1 := by
  unfold sout0_B_0
  rw [View.read_writes_eq_canon _ _ _ (scover0_B_0 c i arg3 harg3 arg4 harg4 arg5 harg5 arg6 harg6 hc0 hc1 x0 x1 y)]
  unfold kernelRun0_B
  dsimp only
  try sl_unfold_words
  rw [View.canon_unit_zero off2]
  simp only [View.readAt_eq_ld, harg3.read_unread, harg4.read_unread, harg6.read_unread,
    View.ld_unit_zero (S := S1024x1024) off2, View.ld_unit_zero (S := S1024x768) off2, shapeCast_self]

theorem out_B (hc0 : ¬cond0_0 i) (hc1 : cond0_1 i) :
    out0_B_2 c i arg3 harg3 arg4 harg4 arg5 harg5 arg6 harg6 hc0 hc1 x0 x1 y = k0_pay3 (k0_pay2 y x0 x1) := by
  unfold out0_B_2
  rw [View.read_writes_eq_canon _ _ _ (cover0_B_2 c i arg3 harg3 arg4 harg4 arg5 harg5 arg6 harg6 hc0 hc1 x0 x1 y)]
  unfold kernelRun0_B
  dsimp only
  try sl_unfold_words
  rw [View.canon_unit_zero off3, View.readCov_unit_zero (S := S1024x768) _ off2]
  simp only [View.readAt_eq_ld, harg3.read_unread, harg4.read_unread, harg6.read_unread,
    View.ld_unit_zero (S := S1024x1024) off2, View.ld_unit_zero (S := S1024x768) off2, shapeCast_self]

end Cases

/-! ## The body's values at an index -/

theorem pay1_at (r : Fin 1024) (d : Fin 768) : k0_pay1 (F := Ideal) (ix2 r d) = 0 := by
  pointwise [k0_pay1]

theorem pay2_at (y : Vec Ideal S1024x768 .f32) (x0 : Vec Ideal S1024x1024 .bf16) (x1 : Vec Ideal S1024x768 .f32) (r : Fin 1024) (d : Fin 768) :
    k0_pay2 (F := Ideal) y x0 x1 (ix2 r d) = y (ix2 r d) + ∑ k : Fin 1024, ((x0 (ix2 k r) : EReal) * x1 (ix2 k d) : EReal) := by
  pointwise [k0_pay2]

theorem pay3_at (y : Vec Ideal S1024x768 .f32) (r : Fin 1024) (d : Fin 768) : k0_pay3 (F := Ideal) y (ix3 0 r d) = y (ix2 r d) := by
  pointwise [k0_pay3]

/-! ## The blocks -/

variable (m : (ℓ : Loc nD τ sig) → Buf (Elt Ideal) ℓ) (c : Dev nD)

/-- The two operands as the call finds them. -/
abbrev L : (⟨2, ![2048, 1024]⟩ : Shape).Idx → EReal := V m c main_arg0
abbrev R : (⟨2, ![2048, 6144]⟩ : Shape).Idx → EReal := V m c main_v2

theorem e0 : ∀ t : Fin cfg0.N, win0_0.index t 0 = t.val % 2 ∧ win0_0.index t 1 = t.val / 16 := by decide +kernel
theorem e1 : ∀ t : Fin cfg0.N, win0_1.index t 0 = t.val % 2 ∧ win0_1.index t 1 = t.val / 2 % 8 := by decide +kernel
theorem e2 : ∀ t : Fin cfg0.N, win0_2.index t 0 = t.val / 2 % 8 ∧ win0_2.index t 1 = t.val / 16 ∧ win0_2.index t 2 = 0 := by decide +kernel

/-- The row and the column of the product that an entry of a point's block is. -/
def gr (t : Fin cfg0.N) (r : Fin 1024) : Fin 1024 := ⟨t.val / 16 * 1024 + r.val, by have : t.val < 16 := t.isLt; omega⟩
def gc (t : Fin cfg0.N) (d : Fin 768) : Fin 6144 := ⟨t.val / 2 % 8 * 768 + d.val, by have : t.val < 16 := t.isLt; omega⟩

/-- A product's summand, by its number. -/
def lft (a : Fin 1024) (k : Fin 2048) : EReal := L m c (ix2 k a)
def rgt (k : Fin 2048) (b : Fin 6144) : EReal := R m c (ix2 k b)

/-- The position `k` of a point's block along the summed axis. -/
def gk (t : Fin cfg0.N) (k : Fin 1024) : Fin 2048 := ⟨t.val % 2 * 1024 + k.val, by have : t.val < 16 := t.isLt; omega⟩

theorem blk0_at (t : Fin cfg0.N) (k : Fin 1024) (r : Fin 1024) : iblk m c 0 t (ix2 k r) = lft m c (gr t r) (gk t k) := by
  show V m c main_arg0 (((cfg0.win 0).blk t).view.emb (ix2 k r)) = V m c main_arg0 _
  refine congrArg (V m c main_arg0) (funext fun a => Fin.ext ?_)
  fin_cases a
  · show win0_0.index t 0 * 1024 + 1 * k.val = t.val % 2 * 1024 + k.val
    rw [(e0 t).1]; omega
  · show win0_0.index t 1 * 1024 + 1 * r.val = t.val / 16 * 1024 + r.val
    rw [(e0 t).2]; omega

theorem blk1_at (t : Fin cfg0.N) (k : Fin 1024) (d : Fin 768) : iblk m c 1 t (ix2 k d) = rgt m c (gk t k) (gc t d) := by
  show V m c main_v2 (((cfg0.win 1).blk t).view.emb (ix2 k d)) = V m c main_v2 _
  refine congrArg (V m c main_v2) (funext fun a => Fin.ext ?_)
  fin_cases a
  · show win0_1.index t 0 * 1024 + 1 * k.val = t.val % 2 * 1024 + k.val
    rw [(e1 t).1]; omega
  · show win0_1.index t 1 * 768 + 1 * d.val = t.val / 2 % 8 * 768 + d.val
    rw [(e1 t).2]; omega

/-- The summand of an entry of the product, by its position along the summed axis. -/
def term (a : Fin 1024) (b : Fin 6144) (n : ℕ) : EReal :=
  if hn : n < 2048 then lft m c a ⟨n, hn⟩ * rgt m c ⟨n, hn⟩ b else 0

/-- What one grid point adds. -/
theorem add_at (t : Fin cfg0.N) (y : Vec Ideal S1024x768 .f32) (r : Fin 1024) (d : Fin 768) :
    k0_pay2 (F := Ideal) y (iblk m c 0 t) (iblk m c 1 t) (ix2 r d)
      = y (ix2 r d) + ∑ k ∈ Finset.range 1024, term m c (gr t r) (gc t d) (t.val % 2 * 1024 + k) := by
  rw [pay2_at, Finset.sum_range]
  refine congrArg (y (ix2 r d) + ·) (Finset.sum_congr rfl fun k _ => ?_)
  rw [term, dif_pos (show t.val % 2 * 1024 + k.val < 2048 from (gk t k).isLt)]
  exact congrArg₂ (· * ·) (blk0_at m c t k r) (blk1_at m c t k d)

/-- The accumulator after a grid point: the summands up to the end of its block. -/
theorem acc_at (n : ℕ) : ∀ t : Fin cfg0.N, t.val = n → ∀ (r : Fin 1024) (d : Fin 768),
    (outsAt0 m c t.val t.isLt).2 (ix2 r d) = ∑ i ∈ Finset.range ((t.val % 2 + 1) * 1024), term m c (gr t r) (gc t d) i := by
  induction n with
  | zero =>
    intro t ht r d
    have h0 : t.val % 2 = 0 := by omega
    rw [outsAt0_A m c t h0 (by omega)]
    dsimp only
    rw [scratch_A, add_at, pay1_at, sum_tile, h0]
    simp
  | succ n ih =>
    intro t ht r d
    by_cases h0 : t.val % 2 = 0
    · rw [outsAt0_A m c t h0 (by omega)]
      dsimp only
      rw [scratch_A, add_at, pay1_at, sum_tile, h0]
      simp
    · have hp : t.val - 1 < cfg0.N := Nat.lt_of_le_of_lt (Nat.sub_le _ _) t.isLt
      have hI := ih ⟨t.val - 1, hp⟩ (by show t.val - 1 = n; omega) r d
      have hr : gr ⟨t.val - 1, hp⟩ r = gr t r := Fin.ext (by show (t.val - 1) / 16 * 1024 + r.val = t.val / 16 * 1024 + r.val; omega)
      have hd : gc ⟨t.val - 1, hp⟩ d = gc t d := Fin.ext (by show (t.val - 1) / 2 % 8 * 768 + d.val = t.val / 2 % 8 * 768 + d.val; omega)
      have hm : (t.val - 1) % 2 + 1 = t.val % 2 := by omega
      dsimp only at hI
      rw [hr, hd, hm] at hI
      rw [outsAt0_B m c t h0 (by omega)]
      dsimp only
      rw [scratch_B, add_at, sum_tile, hI]

/-- The product. -/
def prod (a : Fin 1024) (b : Fin 6144) : EReal := ∑ k, lft m c a k * rgt m c k b

theorem last_at (t : Fin cfg0.N) (h : t.val % 2 = 1) (r : Fin 1024) (d : Fin 768) :
    (outsAt0 m c t.val t.isLt).1 (ix3 0 r d) = prod m c (gr t r) (gc t d) := by
  have h0 : ¬t.val % 2 = 0 := by omega
  have e := acc_at m c t.val t rfl r d
  rw [outsAt0_B m c t h0 h] at e ⊢
  dsimp only at e ⊢
  rw [scratch_B] at e
  rw [out_B, pay3_at, e, h, show (1 + 1) * 1024 = 2048 from rfl, Finset.sum_range]
  refine Finset.sum_congr rfl fun k _ => ?_
  rw [term, dif_pos k.isLt]

/-- The column of the product a place of the blocked result is. -/
def col (j : Fin 8) (d : Fin 768) : Fin 6144 := ⟨j.val * 768 + d.val, by omega⟩

theorem final : (dats m 0 c).arrAt 2 cfg0.N = fun i : (⟨3, ![8, 1024, 768]⟩ : Shape).Idx => prod m c (i 1) (col (i 0) (i 2)) := by
  refine (dats m 0 c).arrAt_eq_of_covers 2 _ (by decide +kernel) fun t hf y => ?_
  have hl : t.val % 2 = 1 := (flush0_2 t).mp hf
  blk_simp
  rw [after0_2]
  revert y
  intro (y : S1x1024x768.Idx)
  idx_vars y
  obtain rfl : y0 = 0 := Subsingleton.elim _ _
  rw [last_at m c t hl y1 y2]
  refine congrArg₂ (prod m c) (Fin.ext ?_) (Fin.ext ?_)
  · show t.val / 16 * 1024 + y1.val = win0_2.index t 1 * 1024 + 1 * y1.val
    rw [(e2 t).2.1]; omega
  · have h0 := (e2 t).1
    have h2 := (e2 t).2.2
    have hv : (((cfg0.win 2).blk t).view.emb (ix3 0 y1 y2) 0).val = win0_2.index t 0 * 1 + 1 * 0 := rfl
    have hw : (((cfg0.win 2).blk t).view.emb (ix3 0 y1 y2) 2).val = win0_2.index t 2 * 768 + 1 * y2.val := rfl
    show t.val / 2 % 8 * 768 + y2.val = (((cfg0.win 2).blk t).view.emb (ix3 0 y1 y2) 0).val * 768 + (((cfg0.win 2).blk t).view.emb (ix3 0 y1 y2) 2).val
    rw [hv, hw, h0, h2]; omega

end Cert.Proof.InWeights

end
-- ==== Proof.InWeightsClaim.lean ====
/-
  The gated MLP's input projection, its gradient in the weights: the call's result is the reference's product.
-/
module

public import proofs.«01_k».proof.Defs
public import proofs.«01_k».proof.Proof.InWeights
public import proofs.«01_k».proof.Proof.Gen.Reference6Ideal.Read

@[expose] public section

noncomputable section

namespace Cert.Proof.InWeights

open Idealize.ShloMosaic Idealize.SL.Sem Cert.Kernel6Ideal Cert.Kernel6Ideal.Gen Idealize.ShloMosaic.StableHlo
open Idealize.ShloMosaic.TcCoe

variable (m : (ℓ : Loc nD τ sig) → Buf (Elt Ideal) ℓ) (c : Dev nD)

/-- The gradient. -/
def spec (h : (⟨2, ![2048, 1024]⟩ : Shape).Idx → EReal) (g : (⟨2, ![2048, 5632]⟩ : Shape).Idx → EReal) : S1024x5632.Idx → EReal :=
  fun i => ∑ k : Fin 2048, h (ix2 k (i 0)) * g (ix2 k (i 1))

/-! ## The padded operand -/

theorem V_du (a : Fin 2048) (b : Fin 6144) (h : b.val % 768 < 704) : V m c main_v2 (ix2 a b) = m (c.tc.loc main_arg1) (ix2 a ⟨b.val / 768 * 704 + b.val % 768, by omega⟩) := by
  show after (List.flatten [hostOps0, hostOps0_1, hostOps0_2]) (fun rf => m ⟨c, rf⟩) (Proc.devRef .tc main_v2) (ix2 a b) = _
  simp only [hostOps0, hostOps0_1, hostOps0_2, List.flatten_cons, List.flatten_nil, List.append_nil, List.cons_append, List.nil_append]
  after_results
  simp only [TRef.toBuf, TRef.ofBuf, cast_eq]
  pointwise
  rw [dif_pos (by omega)]

/-! ## The two results -/

theorem kernel_value : shapeCast S1024x5632 (transpose S1024x8x704 [1, 0, 2] (extractStridedSlice S8x1024x704 ![0, 0, 0] (Value.reg_main_v3 m c) slices_S8x1024x768_S8x1024x704_0_0_0) transposes_S8x1024x704_S1024x8x704_1_0_2) shapeCasts_S1024x8x704_S1024x5632 = spec (m (c.tc.loc main_arg0)) (m (c.tc.loc main_arg1)) := by
  funext i
  idx_vars i
  have tail : ∀ r0 : S8x1024x768.Idx → EReal, shapeCast S1024x5632 (transpose S1024x8x704 [1, 0, 2] (extractStridedSlice S8x1024x704 ![0, 0, 0] (r0) slices_S8x1024x768_S8x1024x704_0_0_0) transposes_S8x1024x704_S1024x8x704_1_0_2) shapeCasts_S1024x8x704_S1024x5632 (ix2 i0 i1) = r0 (ix3 ⟨i1.val / 704, by omega⟩ i0 ⟨i1.val % 704, by omega⟩) := by
    intro r0
    pointwise
  rw [tail, Value.reg_main_v3, final]
  show prod m c _ _ = spec _ _ _
  unfold prod spec
  refine Finset.sum_congr rfl fun k _ => ?_
  refine congrArg₂ (· * ·) ?_ ?_
  · show V m c main_arg0 (ix2 k i0) = _
    rw [V_main_arg0]
    rfl
  · refine (V_du m c k _ (by show (i1.val / 704 * 768 + i1.val % 704) % 768 < 704; omega)).trans ?_
    exact congrArg (m (c.tc.loc main_arg1)) (congrArg₂ ix2 rfl (Fin.ext (by show (i1.val / 704 * 768 + i1.val % 704) / 768 * 704 + (i1.val / 704 * 768 + i1.val % 704) % 768 = i1.val; omega)))

theorem reference_value (x0 x1) (i) : Cert.Reference6Ideal.Read.val_main_v2 (F := Ideal) x0 x1 i = spec x0 x1 i := by
  rw [Cert.Reference6Ideal.Read.val_main_v2_apply]
  refine Finset.sum_congr rfl fun k _ => ?_
  refine congrArg₂ (· * ·) ?_ ?_
  · rw [Cert.Reference6Ideal.Read.val_main_v1_apply, Cert.Reference6Ideal.Read.val_main_v0_apply]
    exact congrArg x0 (funext fun a => by fin_cases a <;> rfl)
  · exact congrArg x1 (funext fun a => by fin_cases a <;> rfl)

theorem agree : algebraic_Kernel6Ideal_Reference6Ideal (hKernel6Ideal := Cert.Kernel6Ideal.Gen.facts) (hReference6Ideal := Cert.Reference6Ideal.Gen.facts) := by
  intro m g m' g' _ hagree
  refine ⟨fun c => spec (m (c.tc.loc main_arg0)) (m (c.tc.loc main_arg1)), ?_, ?_⟩
  · exact (θ_run _ _ _).mono (fun r h c => ⟨(h c).1.trans (kernel_value m c), (h c).2⟩) (Value.run (F := Ideal) m g)
  · refine (θ_run _ _ _).mono (fun r h c => ⟨(h c).1.trans ?_, (h c).2.1, (h c).2.2⟩) (Cert.Reference6Ideal.Value.run (F := Ideal) m' g')
    rw [(hagree c).1, (hagree c).2]
    exact funext fun i => reference_value _ _ i

end Cert.Proof.InWeights

end
-- ==== Proof.SquareRows.lean ====
/-
  A square projection's gradient in its input rows.
-/
module

public import proofs.«01_k».proof.Defs
public import proofs.«01_k».proof.Proof.Gen.Kernel7Ideal.Value
public import proofs.«01_k».proof.Proof.Gen.Reference7Ideal.Run
public import proofs.«01_k».proof.Proof.Tiles
public import Idealize.ShloMosaic.Lib.Pipeline.ValueKit

@[expose] public section

noncomputable section

namespace Cert.Proof.SquareRows

open Idealize.ShloMosaic Idealize.SL.Sem Cert.Kernel7Ideal Cert.Kernel7Ideal.Gen
open Idealize.ShloMosaic.TcCoe
open Idealize.ShloMosaic.Pipeline (Dat Cfg Window)

section Cases

variable (c : Dev nD) (i : grid0.Coords)
  (arg3 : Memref sig .tc .vmem S1024x1024 .f32) (harg3 : arg3.IsWhole)
  (arg4 : Memref sig .tc .vmem S1024x1024 .bf16) (harg4 : arg4.IsWhole)
  (arg5 : Memref sig .tc .vmem S1024x1024 .f32) (harg5 : arg5.IsWhole)
  (arg6 : Memref sig .tc .vmem S1024x1024 .f32) (harg6 : arg6.IsWhole)
  (x0 : Vec Ideal S1024x1024 .f32) (x1 : Vec Ideal S1024x1024 .bf16) (y : Vec Ideal S1024x1024 .f32)

theorem out_A (hc0 : cond0_0 i) (hc1 : cond0_1 i) :
    out0_A_2 c i arg3 harg3 arg4 harg4 arg5 harg5 arg6 harg6 hc0 hc1 x0 x1 = k0_pay2 (k0_pay1 (F := Ideal)) x0 x1 := by
  unfold out0_A_2
  rw [View.read_writes_eq_canon _ _ _ (cover0_A_2 c i arg3 harg3 arg4 harg4 arg5 harg5 arg6 harg6 hc0 hc1 x0 x1)]
  unfold kernelRun0_A
  dsimp only
  try sl_unfold_words
  rw [View.canon_unit_zero off2, View.readCov_cons_unit_lit' (S := S1024x1024) _ _ _ _ _ (by decide) (by decide), View.readCov_unit_zero (S := S1024x1024) _ off2]
  simp only [View.readAt_eq_ld, harg3.read_unread, harg4.read_unread, harg6.read_unread,
    View.ld_unit_zero (S := S1024x1024) off2, shapeCast_self]

end Cases

/-! ## The body's values at an index -/

theorem pay1_at (r : Fin 1024) (d : Fin 1024) : k0_pay1 (F := Ideal) (ix2 r d) = 0 := by
  pointwise [k0_pay1]

theorem pay2_at (y : Vec Ideal S1024x1024 .f32) (x0 : Vec Ideal S1024x1024 .f32) (x1 : Vec Ideal S1024x1024 .bf16) (r : Fin 1024) (d : Fin 1024) :
    k0_pay2 (F := Ideal) y x0 x1 (ix2 r d) = y (ix2 r d) + ∑ k : Fin 1024, ((x0 (ix2 r k) : EReal) * x1 (ix2 d k) : EReal) := by
  pointwise [k0_pay2]

/-! ## The blocks -/

variable (m : (ℓ : Loc nD τ sig) → Buf (Elt Ideal) ℓ) (c : Dev nD)

theorem e0 : ∀ t : Fin cfg0.N, win0_0.index t 0 = t.val / 1 ∧ win0_0.index t 1 = 0 := by decide +kernel
theorem e1 : ∀ t : Fin cfg0.N, win0_1.index t 0 = 0 ∧ win0_1.index t 1 = 0 := by decide +kernel
theorem e2 : ∀ t : Fin cfg0.N, win0_2.index t 0 = t.val / 1 ∧ win0_2.index t 1 = 0 := by decide +kernel

/-- The row and the column of the product that an entry of a point's block is, and a position along the summed axis. -/
def gr (t : Fin cfg0.N) (r : Fin 1024) : Fin 2048 := ⟨t.val / 1 * 1024 + r.val, by have : t.val < 2 := t.isLt; omega⟩
def gc (t : Fin cfg0.N) (d : Fin 1024) : Fin 1024 := ⟨0 * 1024 + d.val, by have : t.val < 2 := t.isLt; omega⟩
def gk (t : Fin cfg0.N) (k : Fin 1024) : Fin 1024 := ⟨0 * 1024 + k.val, by have : t.val < 2 := t.isLt; omega⟩

theorem blk0_at (t : Fin cfg0.N) (r : Fin 1024) (k : Fin 1024) : iblk m c 0 t (ix2 r k) = V m c main_arg0 (ix2 (gr t r) (gk t k)) := by
  refine congrArg (V m c main_arg0) (ix2_ext ?_ ?_)
  · show win0_0.index t 0 * 1024 + 1 * r.val = t.val / 1 * 1024 + r.val
    rw [(e0 t).1]; omega
  · show win0_0.index t 1 * 1024 + 1 * k.val = 0 * 1024 + k.val
    rw [(e0 t).2]; omega

theorem blk1_at (t : Fin cfg0.N) (k : Fin 1024) (d : Fin 1024) : iblk m c 1 t (ix2 d k) = V m c main_arg1 (ix2 (gc t d) (gk t k)) := by
  refine congrArg (V m c main_arg1) (ix2_ext ?_ ?_)
  · show win0_1.index t 0 * 1024 + 1 * d.val = 0 * 1024 + d.val
    rw [(e1 t).1]; omega
  · show win0_1.index t 1 * 1024 + 1 * k.val = 0 * 1024 + k.val
    rw [(e1 t).2]; omega

/-- What one grid point adds. -/
theorem add_at (t : Fin cfg0.N) (y : Vec Ideal S1024x1024 .f32) (r : Fin 1024) (d : Fin 1024) : k0_pay2 (F := Ideal) y (iblk m c 0 t) (iblk m c 1 t) (ix2 r d)
    = y (ix2 r d) + ∑ k ∈ Finset.range 1024, term (rowNT (V m c main_arg0) (V m c main_arg1) (gr t r) (gc t d)) (0 * 1024 + k) :=
  (pay2_at _ _ _ r d).trans (congrArg (y (ix2 r d) + ·) (sum_part fun k => ⟨(gk t k).isLt, congrArg₂ (· * ·) (blk0_at m c t r k) (blk1_at m c t k d)⟩))

theorem last_at (t : Fin cfg0.N) (r : Fin 1024) (d : Fin 1024) : outsAt0 m c t (ix2 r d) = mulNT (V m c main_arg0) (V m c main_arg1) (gr t r) (gc t d) := by
  unfold outsAt0
  rw [out_A]
  rw [add_at, pay1_at, zero_add, Nat.zero_mul]
  simp only [Nat.zero_add]
  exact sum_term _

theorem final : (dats m 0 c).arrAt 2 cfg0.N = entries (mulNT (V m c main_arg0) (V m c main_arg1)) := by
  refine (dats m 0 c).arrAt_eq_of_covers 2 _ (by decide +kernel) fun t hf y => ?_
  blk_simp
  rw [after0_2]
  revert y
  intro (y : S1024x1024.Idx)
  idx_vars y
  rw [last_at m c t y0 y1]
  refine congrArg₂ (mulNT (V m c main_arg0) (V m c main_arg1)) (Fin.ext ?_) (Fin.ext ?_)
  · show t.val / 1 * 1024 + y0.val = win0_2.index t 0 * 1024 + 1 * y0.val
    rw [(e2 t).1]; omega
  · show 0 * 1024 + y1.val = win0_2.index t 1 * 1024 + 1 * y1.val
    rw [(e2 t).2]; omega

theorem agree : algebraic_Kernel7Ideal_Reference7Ideal (hKernel7Ideal := Cert.Kernel7Ideal.Gen.facts) (hReference7Ideal := Cert.Reference7Ideal.Gen.facts) := by
  intro m g m' g' _ hagree
  refine ⟨fun c => entries (mulNT (m (c.tc.loc main_arg0)) (m (c.tc.loc main_arg1))), ?_, ?_⟩
  · refine (θ_run _ _ _).mono (fun r h c => ⟨(h c).1.trans ((final m c).trans ?_), (h c).2⟩) (Value.run_blocks (F := Ideal) m g)
    rw [V_main_arg0, V_main_arg1]
  · refine (θ_run _ _ _).mono (fun r h c => ⟨(h c).1.trans ?_, (h c).2⟩) (Cert.Reference7Ideal.Value.run (F := Ideal) m' g')
    rw [(hagree c).1, (hagree c).2]
    funext i
    idx_vars i
    show _ = mulNT (m (c.tc.loc main_arg0)) (m (c.tc.loc main_arg1)) i0 i1
    unfold mulNT rowNT
    pointwise

end Cert.Proof.SquareRows

end
-- ==== Proof.SquareWeights.lean ====
/-
  A square projection's gradient in its weights.
-/
module

public import proofs.«01_k».proof.Defs
public import proofs.«01_k».proof.Proof.Gen.Kernel8Ideal.Value
public import proofs.«01_k».proof.Proof.Gen.Reference8Ideal.Run
public import proofs.«01_k».proof.Proof.Tiles
public import Idealize.ShloMosaic.Lib.Pipeline.ValueKit

@[expose] public section

noncomputable section

namespace Cert.Proof.SquareWeights

open Idealize.ShloMosaic Idealize.SL.Sem Cert.Kernel8Ideal Cert.Kernel8Ideal.Gen
open Idealize.ShloMosaic.TcCoe
open Idealize.ShloMosaic.Pipeline (Dat Cfg Window)

section Cases

variable (c : Dev nD) (i : grid0.Coords)
  (arg3 : Memref sig .tc .vmem S1024x1024 .bf16) (harg3 : arg3.IsWhole)
  (arg4 : Memref sig .tc .vmem S1024x1024 .f32) (harg4 : arg4.IsWhole)
  (arg5 : Memref sig .tc .vmem S1024x1024 .f32) (harg5 : arg5.IsWhole)
  (arg6 : Memref sig .tc .vmem S1024x1024 .f32) (harg6 : arg6.IsWhole)
  (x0 : Vec Ideal S1024x1024 .bf16) (x1 : Vec Ideal S1024x1024 .f32) (y : Vec Ideal S1024x1024 .f32)

theorem scratch_A (hc0 : cond0_0 i) (hc1 : ¬cond0_1 i) :
    sout0_A_0 c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  try sl_unfold_words
  rw [View.canon_cons_unit_zero (S := S1024x1024) off2, View.readCov_unit_zero (S := S1024x1024) _ off2]
  simp only [View.readAt_eq_ld, harg3.read_unread, harg4.read_unread, harg6.read_unread,
    View.ld_unit_zero (S := S1024x1024) off2, shapeCast_self]

theorem scratch_B (hc0 : ¬cond0_0 i) (hc1 : cond0_1 i) :
    sout0_B_0 c i arg3 harg3 arg4 harg4 arg5 harg5 arg6 harg6 hc0 hc1 x0 x1 y = k0_pay2 y x0 x1 := by
  unfold sout0_B_0
  rw [View.read_writes_eq_canon _ _ _ (scover0_B_0 c i arg3 harg3 arg4 harg4 arg5 harg5 arg6 harg6 hc0 hc1 x0 x1 y)]
  unfold kernelRun0_B
  dsimp only
  try sl_unfold_words
  rw [View.canon_unit_zero off2]
  simp only [View.readAt_eq_ld, harg3.read_unread, harg4.read_unread, harg6.read_unread,
    View.ld_unit_zero (S := S1024x1024) off2, shapeCast_self]

theorem out_B (hc0 : ¬cond0_0 i) (hc1 : cond0_1 i) :
    out0_B_2 c i arg3 harg3 arg4 harg4 arg5 harg5 arg6 harg6 hc0 hc1 x0 x1 y = k0_pay2 y x0 x1 := by
  unfold out0_B_2
  rw [View.read_writes_eq_canon _ _ _ (cover0_B_2 c i arg3 harg3 arg4 harg4 arg5 harg5 arg6 harg6 hc0 hc1 x0 x1 y)]
  unfold kernelRun0_B
  dsimp only
  try sl_unfold_words
  rw [View.canon_unit_zero off2, View.readCov_unit_zero (S := S1024x1024) _ off2]
  simp only [View.readAt_eq_ld, harg3.read_unread, harg4.read_unread, harg6.read_unread,
    View.ld_unit_zero (S := S1024x1024) off2, shapeCast_self]

end Cases

/-! ## The body's values at an index -/

theorem pay1_at (r : Fin 1024) (d : Fin 1024) : k0_pay1 (F := Ideal) (ix2 r d) = 0 := by
  pointwise [k0_pay1]

theorem pay2_at (y : Vec Ideal S1024x1024 .f32) (x0 : Vec Ideal S1024x1024 .bf16) (x1 : Vec Ideal S1024x1024 .f32) (r : Fin 1024) (d : Fin 1024) :
    k0_pay2 (F := Ideal) y x0 x1 (ix2 r d) = y (ix2 r d) + ∑ k : Fin 1024, ((x0 (ix2 k r) : EReal) * x1 (ix2 k d) : EReal) := by
  pointwise [k0_pay2]

/-! ## The blocks -/

variable (m : (ℓ : Loc nD τ sig) → Buf (Elt Ideal) ℓ) (c : Dev nD)

theorem e0 : ∀ t : Fin cfg0.N, win0_0.index t 0 = t.val % 2 ∧ win0_0.index t 1 = t.val / 2 := by decide +kernel
theorem e1 : ∀ t : Fin cfg0.N, win0_1.index t 0 = t.val % 2 ∧ win0_1.index t 1 = 0 := by decide +kernel
theorem e2 : ∀ t : Fin cfg0.N, win0_2.index t 0 = t.val / 2 ∧ win0_2.index t 1 = 0 := by decide +kernel

/-- The row and the column of the product that an entry of a point's block is, and a position along the summed axis. -/
def gr (t : Fin cfg0.N) (r : Fin 1024) : Fin 1024 := ⟨t.val / 2 * 1024 + r.val, by have : t.val < 2 := t.isLt; omega⟩
def gc (t : Fin cfg0.N) (d : Fin 1024) : Fin 1024 := ⟨0 * 1024 + d.val, by have : t.val < 2 := t.isLt; omega⟩
def gk (t : Fin cfg0.N) (k : Fin 1024) : Fin 2048 := ⟨t.val % 2 * 1024 + k.val, by have : t.val < 2 := t.isLt; omega⟩

theorem blk0_at (t : Fin cfg0.N) (r : Fin 1024) (k : Fin 1024) : iblk m c 0 t (ix2 k r) = V m c main_arg0 (ix2 (gk t k) (gr t r)) := by
  refine congrArg (V m c main_arg0) (ix2_ext ?_ ?_)
  · show win0_0.index t 0 * 1024 + 1 * k.val = t.val % 2 * 1024 + k.val
    rw [(e0 t).1]; omega
  · show win0_0.index t 1 * 1024 + 1 * r.val = t.val / 2 * 1024 + r.val
    rw [(e0 t).2]; omega

theorem blk1_at (t : Fin cfg0.N) (k : Fin 1024) (d : Fin 1024) : iblk m c 1 t (ix2 k d) = V m c main_arg1 (ix2 (gk t k) (gc t d)) := by
  refine congrArg (V m c main_arg1) (ix2_ext ?_ ?_)
  · show win0_1.index t 0 * 1024 + 1 * k.val = t.val % 2 * 1024 + k.val
    rw [(e1 t).1]; omega
  · show win0_1.index t 1 * 1024 + 1 * d.val = 0 * 1024 + d.val
    rw [(e1 t).2]; omega

/-- What one grid point adds. -/
theorem add_at (t : Fin cfg0.N) (y : Vec Ideal S1024x1024 .f32) (r : Fin 1024) (d : Fin 1024) : k0_pay2 (F := Ideal) y (iblk m c 0 t) (iblk m c 1 t) (ix2 r d)
    = y (ix2 r d) + ∑ k ∈ Finset.range 1024, term (rowTN (V m c main_arg0) (V m c main_arg1) (gr t r) (gc t d)) (t.val % 2 * 1024 + k) :=
  (pay2_at _ _ _ r d).trans (congrArg (y (ix2 r d) + ·) (sum_part fun k => ⟨(gk t k).isLt, congrArg₂ (· * ·) (blk0_at m c t r k) (blk1_at m c t k d)⟩))

/-- The accumulator after a grid point: the summands up to the end of its block. -/
theorem acc_at (t : Fin cfg0.N) (r : Fin 1024) (d : Fin 1024) :
    (outsAt0 m c t.val t.isLt).2 (ix2 r d) = ∑ k ∈ Finset.range ((t.val % 2 + 1) * 1024), term (rowTN (V m c main_arg0) (V m c main_arg1) (gr t r) (gc t d)) k := by
  refine sum_tiles 2 1024 (fun t : Fin cfg0.N => (outsAt0 m c t.val t.isLt).2 (ix2 r d)) (fun t => rowTN (V m c main_arg0) (V m c main_arg1) (gr t r) (gc t d))
    (fun t h => ?_) (fun t h => ?_) (fun t h => congrArg₂ (rowTN (V m c main_arg0) (V m c main_arg1)) (Fin.ext ?_) (Fin.ext ?_)) t
  · rw [outsAt0_A m c t h (by omega)]
    dsimp only
    rw [scratch_A, add_at, pay1_at]
  · rw [outsAt0_B m c t h (by omega)]
    dsimp only
    rw [scratch_B, add_at]
  · show (t.val - 1) / 2 * 1024 + r.val = t.val / 2 * 1024 + r.val
    omega
  · show 0 * 1024 + d.val = 0 * 1024 + d.val
    omega

theorem last_at (t : Fin cfg0.N) (h : t.val % 2 = 1) (r : Fin 1024) (d : Fin 1024) :
    (outsAt0 m c t.val t.isLt).1 (ix2 r d) = mulTN (V m c main_arg0) (V m c main_arg1) (gr t r) (gc t d) := by
  have h0 : ¬t.val % 2 = 0 := by omega
  have e := acc_at m c t r d
  rw [outsAt0_B m c t h0 h] at e ⊢
  dsimp only at e ⊢
  rw [scratch_B] at e
  rw [out_B]
  rw [e, h]
  exact sum_term _

theorem final : (dats m 0 c).arrAt 2 cfg0.N = entries (mulTN (V m c main_arg0) (V m c main_arg1)) := by
  refine (dats m 0 c).arrAt_eq_of_covers 2 _ (by decide +kernel) fun t hf y => ?_
  blk_simp
  rw [after0_2]
  revert y
  intro (y : S1024x1024.Idx)
  idx_vars y
  rw [last_at m c t ((flush0_2 t).mp hf) y0 y1]
  refine congrArg₂ (mulTN (V m c main_arg0) (V m c main_arg1)) (Fin.ext ?_) (Fin.ext ?_)
  · show t.val / 2 * 1024 + y0.val = win0_2.index t 0 * 1024 + 1 * y0.val
    rw [(e2 t).1]; omega
  · show 0 * 1024 + y1.val = win0_2.index t 1 * 1024 + 1 * y1.val
    rw [(e2 t).2]; omega

theorem agree : algebraic_Kernel8Ideal_Reference8Ideal (hKernel8Ideal := Cert.Kernel8Ideal.Gen.facts) (hReference8Ideal := Cert.Reference8Ideal.Gen.facts) := by
  intro m g m' g' _ hagree
  refine ⟨fun c => entries (mulTN (m (c.tc.loc main_arg0)) (m (c.tc.loc main_arg1))), ?_, ?_⟩
  · refine (θ_run _ _ _).mono (fun r h c => ⟨(h c).1.trans ((final m c).trans ?_), (h c).2⟩) (Value.run_blocks (F := Ideal) m g)
    rw [V_main_arg0, V_main_arg1]
  · refine (θ_run _ _ _).mono (fun r h c => ⟨(h c).1.trans ?_, (h c).2⟩) (Cert.Reference8Ideal.Value.run (F := Ideal) m' g')
    rw [(hagree c).1, (hagree c).2]
    funext i
    idx_vars i
    show _ = mulTN (m (c.tc.loc main_arg0)) (m (c.tc.loc main_arg1)) i0 i1
    unfold mulTN rowTN
    pointwise

end Cert.Proof.SquareWeights

end
-- ==== Proof.ConvRows.lean ====
/-
  The convolution block's input projection, its gradient in the rows.
-/
module

public import proofs.«01_k».proof.Defs
public import proofs.«01_k».proof.Proof.Gen.Kernel9Ideal.Value
public import proofs.«01_k».proof.Proof.Gen.Reference9Ideal.Run
public import proofs.«01_k».proof.Proof.Tiles
public import Idealize.ShloMosaic.Lib.Pipeline.ValueKit

@[expose] public section

noncomputable section

namespace Cert.Proof.ConvRows

open Idealize.ShloMosaic Idealize.SL.Sem Cert.Kernel9Ideal Cert.Kernel9Ideal.Gen
open Idealize.ShloMosaic.TcCoe
open Idealize.ShloMosaic.Pipeline (Dat Cfg Window)

section Cases

variable (c : Dev nD) (i : grid0.Coords)
  (arg3 : Memref sig .tc .vmem S1024x1024 .f32) (harg3 : arg3.IsWhole)
  (arg4 : Memref sig .tc .vmem S1024x1024 .bf16) (harg4 : arg4.IsWhole)
  (arg5 : Memref sig .tc .vmem S1024x1024 .f32) (harg5 : arg5.IsWhole)
  (arg6 : Memref sig .tc .vmem S1024x1024 .f32) (harg6 : arg6.IsWhole)
  (x0 : Vec Ideal S1024x1024 .f32) (x1 : Vec Ideal S1024x1024 .bf16) (y : Vec Ideal S1024x1024 .f32)

theorem scratch_A (hc0 : cond0_0 i) (hc1 : ¬cond0_1 i) :
    sout0_A_0 c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  try sl_unfold_words
  rw [View.canon_cons_unit_zero (S := S1024x1024) off2, View.readCov_unit_zero (S := S1024x1024) _ off2]
  simp only [View.readAt_eq_ld, harg3.read_unread, harg4.read_unread, harg6.read_unread,
    View.ld_unit_zero (S := S1024x1024) off2, shapeCast_self]

theorem scratch_B (hc0 : ¬cond0_0 i) (hc1 : cond0_1 i) :
    sout0_B_0 c i arg3 harg3 arg4 harg4 arg5 harg5 arg6 harg6 hc0 hc1 x0 x1 y = k0_pay2 y x0 x1 := by
  unfold sout0_B_0
  rw [View.read_writes_eq_canon _ _ _ (scover0_B_0 c i arg3 harg3 arg4 harg4 arg5 harg5 arg6 harg6 hc0 hc1 x0 x1 y)]
  unfold kernelRun0_B
  dsimp only
  try sl_unfold_words
  rw [View.canon_unit_zero off2]
  simp only [View.readAt_eq_ld, harg3.read_unread, harg4.read_unread, harg6.read_unread,
    View.ld_unit_zero (S := S1024x1024) off2, shapeCast_self]

theorem out_B (hc0 : ¬cond0_0 i) (hc1 : cond0_1 i) :
    out0_B_2 c i arg3 harg3 arg4 harg4 arg5 harg5 arg6 harg6 hc0 hc1 x0 x1 y = k0_pay2 y x0 x1 := by
  unfold out0_B_2
  rw [View.read_writes_eq_canon _ _ _ (cover0_B_2 c i arg3 harg3 arg4 harg4 arg5 harg5 arg6 harg6 hc0 hc1 x0 x1 y)]
  unfold kernelRun0_B
  dsimp only
  try sl_unfold_words
  rw [View.canon_unit_zero off2, View.readCov_unit_zero (S := S1024x1024) _ off2]
  simp only [View.readAt_eq_ld, harg3.read_unread, harg4.read_unread, harg6.read_unread,
    View.ld_unit_zero (S := S1024x1024) off2, shapeCast_self]

end Cases

/-! ## The body's values at an index -/

theorem pay1_at (r : Fin 1024) (d : Fin 1024) : k0_pay1 (F := Ideal) (ix2 r d) = 0 := by
  pointwise [k0_pay1]

theorem pay2_at (y : Vec Ideal S1024x1024 .f32) (x0 : Vec Ideal S1024x1024 .f32) (x1 : Vec Ideal S1024x1024 .bf16) (r : Fin 1024) (d : Fin 1024) :
    k0_pay2 (F := Ideal) y x0 x1 (ix2 r d) = y (ix2 r d) + ∑ k : Fin 1024, ((x0 (ix2 r k) : EReal) * x1 (ix2 d k) : EReal) := by
  pointwise [k0_pay2]

/-! ## The blocks -/

variable (m : (ℓ : Loc nD τ sig) → Buf (Elt Ideal) ℓ) (c : Dev nD)

theorem e0 : ∀ t : Fin cfg0.N, win0_0.index t 0 = t.val / 2 ∧ win0_0.index t 1 = t.val % 2 := by decide +kernel
theorem e1 : ∀ t : Fin cfg0.N, win0_1.index t 0 = 0 ∧ win0_1.index t 1 = t.val % 2 := by decide +kernel
theorem e2 : ∀ t : Fin cfg0.N, win0_2.index t 0 = t.val / 2 ∧ win0_2.index t 1 = 0 := by decide +kernel

/-- The row and the column of the product that an entry of a point's block is, and a position along the summed axis. -/
def gr (t : Fin cfg0.N) (r : Fin 1024) : Fin 2048 := ⟨t.val / 2 * 1024 + r.val, by have : t.val < 4 := t.isLt; omega⟩
def gc (t : Fin cfg0.N) (d : Fin 1024) : Fin 1024 := ⟨0 * 1024 + d.val, by have : t.val < 4 := t.isLt; omega⟩
def gk (t : Fin cfg0.N) (k : Fin 1024) : Fin 2048 := ⟨t.val % 2 * 1024 + k.val, by have : t.val < 4 := t.isLt; omega⟩

theorem blk0_at (t : Fin cfg0.N) (r : Fin 1024) (k : Fin 1024) : iblk m c 0 t (ix2 r k) = V m c main_arg0 (ix2 (gr t r) (gk t k)) := by
  refine congrArg (V m c main_arg0) (ix2_ext ?_ ?_)
  · show win0_0.index t 0 * 1024 + 1 * r.val = t.val / 2 * 1024 + r.val
    rw [(e0 t).1]; omega
  · show win0_0.index t 1 * 1024 + 1 * k.val = t.val % 2 * 1024 + k.val
    rw [(e0 t).2]; omega

theorem blk1_at (t : Fin cfg0.N) (k : Fin 1024) (d : Fin 1024) : iblk m c 1 t (ix2 d k) = V m c main_arg1 (ix2 (gc t d) (gk t k)) := by
  refine congrArg (V m c main_arg1) (ix2_ext ?_ ?_)
  · show win0_1.index t 0 * 1024 + 1 * d.val = 0 * 1024 + d.val
    rw [(e1 t).1]; omega
  · show win0_1.index t 1 * 1024 + 1 * k.val = t.val % 2 * 1024 + k.val
    rw [(e1 t).2]; omega

/-- What one grid point adds. -/
theorem add_at (t : Fin cfg0.N) (y : Vec Ideal S1024x1024 .f32) (r : Fin 1024) (d : Fin 1024) : k0_pay2 (F := Ideal) y (iblk m c 0 t) (iblk m c 1 t) (ix2 r d)
    = y (ix2 r d) + ∑ k ∈ Finset.range 1024, term (rowNT (V m c main_arg0) (V m c main_arg1) (gr t r) (gc t d)) (t.val % 2 * 1024 + k) :=
  (pay2_at _ _ _ r d).trans (congrArg (y (ix2 r d) + ·) (sum_part fun k => ⟨(gk t k).isLt, congrArg₂ (· * ·) (blk0_at m c t r k) (blk1_at m c t k d)⟩))

/-- The accumulator after a grid point: the summands up to the end of its block. -/
theorem acc_at (t : Fin cfg0.N) (r : Fin 1024) (d : Fin 1024) :
    (outsAt0 m c t.val t.isLt).2 (ix2 r d) = ∑ k ∈ Finset.range ((t.val % 2 + 1) * 1024), term (rowNT (V m c main_arg0) (V m c main_arg1) (gr t r) (gc t d)) k := by
  refine sum_tiles 2 1024 (fun t : Fin cfg0.N => (outsAt0 m c t.val t.isLt).2 (ix2 r d)) (fun t => rowNT (V m c main_arg0) (V m c main_arg1) (gr t r) (gc t d))
    (fun t h => ?_) (fun t h => ?_) (fun t h => congrArg₂ (rowNT (V m c main_arg0) (V m c main_arg1)) (Fin.ext ?_) (Fin.ext ?_)) t
  · rw [outsAt0_A m c t h (by omega)]
    dsimp only
    rw [scratch_A, add_at, pay1_at]
  · rw [outsAt0_B m c t h (by omega)]
    dsimp only
    rw [scratch_B, add_at]
  · show (t.val - 1) / 2 * 1024 + r.val = t.val / 2 * 1024 + r.val
    omega
  · show 0 * 1024 + d.val = 0 * 1024 + d.val
    omega

theorem last_at (t : Fin cfg0.N) (h : t.val % 2 = 1) (r : Fin 1024) (d : Fin 1024) :
    (outsAt0 m c t.val t.isLt).1 (ix2 r d) = mulNT (V m c main_arg0) (V m c main_arg1) (gr t r) (gc t d) := by
  have h0 : ¬t.val % 2 = 0 := by omega
  have e := acc_at m c t r d
  rw [outsAt0_B m c t h0 h] at e ⊢
  dsimp only at e ⊢
  rw [scratch_B] at e
  rw [out_B]
  rw [e, h]
  exact sum_term _

theorem final : (dats m 0 c).arrAt 2 cfg0.N = entries (mulNT (V m c main_arg0) (V m c main_arg1)) := by
  refine (dats m 0 c).arrAt_eq_of_covers 2 _ (by decide +kernel) fun t hf y => ?_
  blk_simp
  rw [after0_2]
  revert y
  intro (y : S1024x1024.Idx)
  idx_vars y
  rw [last_at m c t ((flush0_2 t).mp hf) y0 y1]
  refine congrArg₂ (mulNT (V m c main_arg0) (V m c main_arg1)) (Fin.ext ?_) (Fin.ext ?_)
  · show t.val / 2 * 1024 + y0.val = win0_2.index t 0 * 1024 + 1 * y0.val
    rw [(e2 t).1]; omega
  · show 0 * 1024 + y1.val = win0_2.index t 1 * 1024 + 1 * y1.val
    rw [(e2 t).2]; omega

theorem agree : algebraic_Kernel9Ideal_Reference9Ideal (hKernel9Ideal := Cert.Kernel9Ideal.Gen.facts) (hReference9Ideal := Cert.Reference9Ideal.Gen.facts) := by
  intro m g m' g' _ hagree
  refine ⟨fun c => entries (mulNT (m (c.tc.loc main_arg0)) (m (c.tc.loc main_arg1))), ?_, ?_⟩
  · refine (θ_run _ _ _).mono (fun r h c => ⟨(h c).1.trans ((final m c).trans ?_), (h c).2⟩) (Value.run_blocks (F := Ideal) m g)
    rw [V_main_arg0, V_main_arg1]
  · refine (θ_run _ _ _).mono (fun r h c => ⟨(h c).1.trans ?_, (h c).2⟩) (Cert.Reference9Ideal.Value.run (F := Ideal) m' g')
    rw [(hagree c).1, (hagree c).2]
    funext i
    idx_vars i
    show _ = mulNT (m (c.tc.loc main_arg0)) (m (c.tc.loc main_arg1)) i0 i1
    unfold mulNT rowNT
    pointwise

end Cert.Proof.ConvRows

end
-- ==== Proof.ConvWeights.lean ====
/-
  The convolution block's input projection, its gradient in the weights.
-/
module

public import proofs.«01_k».proof.Defs
public import proofs.«01_k».proof.Proof.Gen.Kernel10Ideal.Value
public import proofs.«01_k».proof.Proof.Gen.Reference10Ideal.Run
public import proofs.«01_k».proof.Proof.Tiles
public import Idealize.ShloMosaic.Lib.Pipeline.ValueKit

@[expose] public section

noncomputable section

namespace Cert.Proof.ConvWeights

open Idealize.ShloMosaic Idealize.SL.Sem Cert.Kernel10Ideal Cert.Kernel10Ideal.Gen
open Idealize.ShloMosaic.TcCoe
open Idealize.ShloMosaic.Pipeline (Dat Cfg Window)

section Cases

variable (c : Dev nD) (i : grid0.Coords)
  (arg3 : Memref sig .tc .vmem S1024x1024 .bf16) (harg3 : arg3.IsWhole)
  (arg4 : Memref sig .tc .vmem S1024x1024 .f32) (harg4 : arg4.IsWhole)
  (arg5 : Memref sig .tc .vmem S1024x1024 .f32) (harg5 : arg5.IsWhole)
  (arg6 : Memref sig .tc .vmem S1024x1024 .f32) (harg6 : arg6.IsWhole)
  (x0 : Vec Ideal S1024x1024 .bf16) (x1 : Vec Ideal S1024x1024 .f32) (y : Vec Ideal S1024x1024 .f32)

theorem scratch_A (hc0 : cond0_0 i) (hc1 : ¬cond0_1 i) :
    sout0_A_0 c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  try sl_unfold_words
  rw [View.canon_cons_unit_zero (S := S1024x1024) off2, View.readCov_unit_zero (S := S1024x1024) _ off2]
  simp only [View.readAt_eq_ld, harg3.read_unread, harg4.read_unread, harg6.read_unread,
    View.ld_unit_zero (S := S1024x1024) off2, shapeCast_self]

theorem scratch_B (hc0 : ¬cond0_0 i) (hc1 : cond0_1 i) :
    sout0_B_0 c i arg3 harg3 arg4 harg4 arg5 harg5 arg6 harg6 hc0 hc1 x0 x1 y = k0_pay2 y x0 x1 := by
  unfold sout0_B_0
  rw [View.read_writes_eq_canon _ _ _ (scover0_B_0 c i arg3 harg3 arg4 harg4 arg5 harg5 arg6 harg6 hc0 hc1 x0 x1 y)]
  unfold kernelRun0_B
  dsimp only
  try sl_unfold_words
  rw [View.canon_unit_zero off2]
  simp only [View.readAt_eq_ld, harg3.read_unread, harg4.read_unread, harg6.read_unread,
    View.ld_unit_zero (S := S1024x1024) off2, shapeCast_self]

theorem out_B (hc0 : ¬cond0_0 i) (hc1 : cond0_1 i) :
    out0_B_2 c i arg3 harg3 arg4 harg4 arg5 harg5 arg6 harg6 hc0 hc1 x0 x1 y = k0_pay2 y x0 x1 := by
  unfold out0_B_2
  rw [View.read_writes_eq_canon _ _ _ (cover0_B_2 c i arg3 harg3 arg4 harg4 arg5 harg5 arg6 harg6 hc0 hc1 x0 x1 y)]
  unfold kernelRun0_B
  dsimp only
  try sl_unfold_words
  rw [View.canon_unit_zero off2, View.readCov_unit_zero (S := S1024x1024) _ off2]
  simp only [View.readAt_eq_ld, harg3.read_unread, harg4.read_unread, harg6.read_unread,
    View.ld_unit_zero (S := S1024x1024) off2, shapeCast_self]

end Cases

/-! ## The body's values at an index -/

theorem pay1_at (r : Fin 1024) (d : Fin 1024) : k0_pay1 (F := Ideal) (ix2 r d) = 0 := by
  pointwise [k0_pay1]

theorem pay2_at (y : Vec Ideal S1024x1024 .f32) (x0 : Vec Ideal S1024x1024 .bf16) (x1 : Vec Ideal S1024x1024 .f32) (r : Fin 1024) (d : Fin 1024) :
    k0_pay2 (F := Ideal) y x0 x1 (ix2 r d) = y (ix2 r d) + ∑ k : Fin 1024, ((x0 (ix2 k r) : EReal) * x1 (ix2 k d) : EReal) := by
  pointwise [k0_pay2]

/-! ## The blocks -/

variable (m : (ℓ : Loc nD τ sig) → Buf (Elt Ideal) ℓ) (c : Dev nD)

theorem e0 : ∀ t : Fin cfg0.N, win0_0.index t 0 = t.val % 2 ∧ win0_0.index t 1 = t.val / 4 := by decide +kernel
theorem e1 : ∀ t : Fin cfg0.N, win0_1.index t 0 = t.val % 2 ∧ win0_1.index t 1 = t.val / 2 % 2 := by decide +kernel
theorem e2 : ∀ t : Fin cfg0.N, win0_2.index t 0 = t.val / 4 ∧ win0_2.index t 1 = t.val / 2 % 2 := by decide +kernel

/-- The row and the column of the product that an entry of a point's block is, and a position along the summed axis. -/
def gr (t : Fin cfg0.N) (r : Fin 1024) : Fin 1024 := ⟨t.val / 4 * 1024 + r.val, by have : t.val < 4 := t.isLt; omega⟩
def gc (t : Fin cfg0.N) (d : Fin 1024) : Fin 2048 := ⟨t.val / 2 % 2 * 1024 + d.val, by have : t.val < 4 := t.isLt; omega⟩
def gk (t : Fin cfg0.N) (k : Fin 1024) : Fin 2048 := ⟨t.val % 2 * 1024 + k.val, by have : t.val < 4 := t.isLt; omega⟩

theorem blk0_at (t : Fin cfg0.N) (r : Fin 1024) (k : Fin 1024) : iblk m c 0 t (ix2 k r) = V m c main_arg0 (ix2 (gk t k) (gr t r)) := by
  refine congrArg (V m c main_arg0) (ix2_ext ?_ ?_)
  · show win0_0.index t 0 * 1024 + 1 * k.val = t.val % 2 * 1024 + k.val
    rw [(e0 t).1]; omega
  · show win0_0.index t 1 * 1024 + 1 * r.val = t.val / 4 * 1024 + r.val
    rw [(e0 t).2]; omega

theorem blk1_at (t : Fin cfg0.N) (k : Fin 1024) (d : Fin 1024) : iblk m c 1 t (ix2 k d) = V m c main_arg1 (ix2 (gk t k) (gc t d)) := by
  refine congrArg (V m c main_arg1) (ix2_ext ?_ ?_)
  · show win0_1.index t 0 * 1024 + 1 * k.val = t.val % 2 * 1024 + k.val
    rw [(e1 t).1]; omega
  · show win0_1.index t 1 * 1024 + 1 * d.val = t.val / 2 % 2 * 1024 + d.val
    rw [(e1 t).2]; omega

/-- What one grid point adds. -/
theorem add_at (t : Fin cfg0.N) (y : Vec Ideal S1024x1024 .f32) (r : Fin 1024) (d : Fin 1024) : k0_pay2 (F := Ideal) y (iblk m c 0 t) (iblk m c 1 t) (ix2 r d)
    = y (ix2 r d) + ∑ k ∈ Finset.range 1024, term (rowTN (V m c main_arg0) (V m c main_arg1) (gr t r) (gc t d)) (t.val % 2 * 1024 + k) :=
  (pay2_at _ _ _ r d).trans (congrArg (y (ix2 r d) + ·) (sum_part fun k => ⟨(gk t k).isLt, congrArg₂ (· * ·) (blk0_at m c t r k) (blk1_at m c t k d)⟩))

/-- The accumulator after a grid point: the summands up to the end of its block. -/
theorem acc_at (t : Fin cfg0.N) (r : Fin 1024) (d : Fin 1024) :
    (outsAt0 m c t.val t.isLt).2 (ix2 r d) = ∑ k ∈ Finset.range ((t.val % 2 + 1) * 1024), term (rowTN (V m c main_arg0) (V m c main_arg1) (gr t r) (gc t d)) k := by
  refine sum_tiles 2 1024 (fun t : Fin cfg0.N => (outsAt0 m c t.val t.isLt).2 (ix2 r d)) (fun t => rowTN (V m c main_arg0) (V m c main_arg1) (gr t r) (gc t d))
    (fun t h => ?_) (fun t h => ?_) (fun t h => congrArg₂ (rowTN (V m c main_arg0) (V m c main_arg1)) (Fin.ext ?_) (Fin.ext ?_)) t
  · rw [outsAt0_A m c t h (by omega)]
    dsimp only
    rw [scratch_A, add_at, pay1_at]
  · rw [outsAt0_B m c t h (by omega)]
    dsimp only
    rw [scratch_B, add_at]
  · show (t.val - 1) / 4 * 1024 + r.val = t.val / 4 * 1024 + r.val
    omega
  · show (t.val - 1) / 2 % 2 * 1024 + d.val = t.val / 2 % 2 * 1024 + d.val
    omega

theorem last_at (t : Fin cfg0.N) (h : t.val % 2 = 1) (r : Fin 1024) (d : Fin 1024) :
    (outsAt0 m c t.val t.isLt).1 (ix2 r d) = mulTN (V m c main_arg0) (V m c main_arg1) (gr t r) (gc t d) := by
  have h0 : ¬t.val % 2 = 0 := by omega
  have e := acc_at m c t r d
  rw [outsAt0_B m c t h0 h] at e ⊢
  dsimp only at e ⊢
  rw [scratch_B] at e
  rw [out_B]
  rw [e, h]
  exact sum_term _

theorem final : (dats m 0 c).arrAt 2 cfg0.N = entries (mulTN (V m c main_arg0) (V m c main_arg1)) := by
  refine (dats m 0 c).arrAt_eq_of_covers 2 _ (by decide +kernel) fun t hf y => ?_
  blk_simp
  rw [after0_2]
  revert y
  intro (y : S1024x1024.Idx)
  idx_vars y
  rw [last_at m c t ((flush0_2 t).mp hf) y0 y1]
  refine congrArg₂ (mulTN (V m c main_arg0) (V m c main_arg1)) (Fin.ext ?_) (Fin.ext ?_)
  · show t.val / 4 * 1024 + y0.val = win0_2.index t 0 * 1024 + 1 * y0.val
    rw [(e2 t).1]; omega
  · show t.val / 2 % 2 * 1024 + y1.val = win0_2.index t 1 * 1024 + 1 * y1.val
    rw [(e2 t).2]; omega

theorem agree : algebraic_Kernel10Ideal_Reference10Ideal (hKernel10Ideal := Cert.Kernel10Ideal.Gen.facts) (hReference10Ideal := Cert.Reference10Ideal.Gen.facts) := by
  intro m g m' g' _ hagree
  refine ⟨fun c => entries (mulTN (m (c.tc.loc main_arg0)) (m (c.tc.loc main_arg1))), ?_, ?_⟩
  · refine (θ_run _ _ _).mono (fun r h c => ⟨(h c).1.trans ((final m c).trans ?_), (h c).2⟩) (Value.run_blocks (F := Ideal) m g)
    rw [V_main_arg0, V_main_arg1]
  · refine (θ_run _ _ _).mono (fun r h c => ⟨(h c).1.trans ?_, (h c).2⟩) (Cert.Reference10Ideal.Value.run (F := Ideal) m' g')
    rw [(hagree c).1, (hagree c).2]
    funext i
    idx_vars i
    show _ = mulTN (m (c.tc.loc main_arg0)) (m (c.tc.loc main_arg1)) i0 i1
    unfold mulTN rowTN
    pointwise

end Cert.Proof.ConvWeights

end
-- ==== Proof.MemRows.lean ====
/-
  The memory's key/value projection, its gradient in the memory rows, added to what the later layers left.
-/
module

public import proofs.«01_k».proof.Defs
public import proofs.«01_k».proof.Proof.Gen.Kernel11Ideal.Value
public import proofs.«01_k».proof.Proof.Gen.Reference11Ideal.Run
public import proofs.«01_k».proof.Proof.Tiles
public import Idealize.ShloMosaic.Lib.Pipeline.ValueKit

@[expose] public section

noncomputable section

namespace Cert.Proof.MemRows

open Idealize.ShloMosaic Idealize.SL.Sem Cert.Kernel11Ideal Cert.Kernel11Ideal.Gen
open Idealize.ShloMosaic.TcCoe
open Idealize.ShloMosaic.Pipeline (Dat Cfg Window)

section Cases

variable (c : Dev nD) (i : grid0.Coords)
  (arg3 : Memref sig .tc .vmem S256x1024 .f32) (harg3 : arg3.IsWhole)
  (arg4 : Memref sig .tc .vmem S1024x1024 .bf16) (harg4 : arg4.IsWhole)
  (arg5 : Memref sig .tc .vmem S256x1024 .f32) (harg5 : arg5.IsWhole)
  (arg6 : Memref sig .tc .vmem S256x1024 .f32) (harg6 : arg6.IsWhole)
  (arg7 : Memref sig .tc .vmem S256x1024 .f32) (harg7 : arg7.IsWhole)
  (x0 : Vec Ideal S256x1024 .f32) (x1 : Vec Ideal S1024x1024 .bf16) (x2 : Vec Ideal S256x1024 .f32) (y : Vec Ideal S256x1024 .f32)

theorem scratch_A (hc0 : cond0_0 i) (hc1 : ¬cond0_1 i) :
    sout0_A_0 c i arg3 harg3 arg4 harg4 arg5 harg5 arg6 harg6 arg7 harg7 hc0 hc1 x0 x1 x2 = k0_pay2 (k0_pay1 (F := Ideal)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  try sl_unfold_words
  rw [View.canon_cons_unit_zero (S := S256x1024) off2, View.readCov_unit_zero (S := S256x1024) _ off2]
  simp only [View.readAt_eq_ld, harg3.read_unread, harg4.read_unread, harg5.read_unread, harg7.read_unread,
    View.ld_unit_zero (S := S256x1024) off2, View.ld_unit_zero (S := S1024x1024) off2, shapeCast_self]

theorem scratch_B (hc0 : ¬cond0_0 i) (hc1 : cond0_1 i) :
    sout0_B_0 c i arg3 harg3 arg4 harg4 arg5 harg5 arg6 harg6 arg7 harg7 hc0 hc1 x0 x1 x2 y = k0_pay2 y x0 x1 := by
  unfold sout0_B_0
  rw [View.read_writes_eq_canon _ _ _ (scover0_B_0 c i arg3 harg3 arg4 harg4 arg5 harg5 arg6 harg6 arg7 harg7 hc0 hc1 x0 x1 x2 y)]
  unfold kernelRun0_B
  dsimp only
  try sl_unfold_words
  rw [View.canon_unit_zero off2]
  simp only [View.readAt_eq_ld, harg3.read_unread, harg4.read_unread, harg5.read_unread, harg7.read_unread,
    View.ld_unit_zero (S := S256x1024) off2, View.ld_unit_zero (S := S1024x1024) off2, shapeCast_self]

theorem out_B (hc0 : ¬cond0_0 i) (hc1 : cond0_1 i) :
    out0_B_3 c i arg3 harg3 arg4 harg4 arg5 harg5 arg6 harg6 arg7 harg7 hc0 hc1 x0 x1 x2 y = k0_pay3 (k0_pay2 y x0 x1) x2 := by
  unfold out0_B_3
  rw [View.read_writes_eq_canon _ _ _ (cover0_B_3 c i arg3 harg3 arg4 harg4 arg5 harg5 arg6 harg6 arg7 harg7 hc0 hc1 x0 x1 x2 y)]
  unfold kernelRun0_B
  dsimp only
  try sl_unfold_words
  rw [View.canon_unit_zero off2, View.readCov_unit_zero (S := S256x1024) _ off2]
  simp only [View.readAt_eq_ld, harg3.read_unread, harg4.read_unread, harg5.read_unread, harg7.read_unread,
    View.ld_unit_zero (S := S256x1024) off2, View.ld_unit_zero (S := S1024x1024) off2, shapeCast_self]

end Cases

/-! ## The body's values at an index -/

theorem pay1_at (r : Fin 256) (d : Fin 1024) : k0_pay1 (F := Ideal) (ix2 r d) = 0 := by
  pointwise [k0_pay1]

theorem pay2_at (y : Vec Ideal S256x1024 .f32) (x0 : Vec Ideal S256x1024 .f32) (x1 : Vec Ideal S1024x1024 .bf16) (r : Fin 256) (d : Fin 1024) :
    k0_pay2 (F := Ideal) y x0 x1 (ix2 r d) = y (ix2 r d) + ∑ k : Fin 1024, ((x0 (ix2 r k) : EReal) * x1 (ix2 d k) : EReal) := by
  pointwise [k0_pay2]

theorem pay3_at (y : Vec Ideal S256x1024 .f32) (x2 : Vec Ideal S256x1024 .f32) (r : Fin 256) (d : Fin 1024) :
    k0_pay3 (F := Ideal) y x2 (ix2 r d) = (y (ix2 r d) + x2 (ix2 r d) : EReal) := by
  pointwise [k0_pay3]

/-! ## The blocks -/

variable (m : (ℓ : Loc nD τ sig) → Buf (Elt Ideal) ℓ) (c : Dev nD)

theorem e0 : ∀ t : Fin cfg0.N, win0_0.index t 0 = t.val / 2 ∧ win0_0.index t 1 = t.val % 2 := by decide +kernel
theorem e1 : ∀ t : Fin cfg0.N, win0_1.index t 0 = 0 ∧ win0_1.index t 1 = t.val % 2 := by decide +kernel
theorem e2 : ∀ t : Fin cfg0.N, win0_2.index t 0 = t.val / 2 ∧ win0_2.index t 1 = 0 := by decide +kernel
theorem e3 : ∀ t : Fin cfg0.N, win0_3.index t 0 = t.val / 2 ∧ win0_3.index t 1 = 0 := by decide +kernel

/-- The row and the column of the product that an entry of a point's block is, and a position along the summed axis. -/
def gr (t : Fin cfg0.N) (r : Fin 256) : Fin 256 := ⟨t.val / 2 * 256 + r.val, by have : t.val < 2 := t.isLt; omega⟩
def gc (t : Fin cfg0.N) (d : Fin 1024) : Fin 1024 := ⟨0 * 1024 + d.val, by have : t.val < 2 := t.isLt; omega⟩
def gk (t : Fin cfg0.N) (k : Fin 1024) : Fin 2048 := ⟨t.val % 2 * 1024 + k.val, by have : t.val < 2 := t.isLt; omega⟩

theorem blk0_at (t : Fin cfg0.N) (r : Fin 256) (k : Fin 1024) : iblk m c 0 t (ix2 r k) = V m c main_arg0 (ix2 (gr t r) (gk t k)) := by
  refine congrArg (V m c main_arg0) (ix2_ext ?_ ?_)
  · show win0_0.index t 0 * 256 + 1 * r.val = t.val / 2 * 256 + r.val
    rw [(e0 t).1]; omega
  · show win0_0.index t 1 * 1024 + 1 * k.val = t.val % 2 * 1024 + k.val
    rw [(e0 t).2]; omega

theorem blk1_at (t : Fin cfg0.N) (k : Fin 1024) (d : Fin 1024) : iblk m c 1 t (ix2 d k) = V m c main_arg1 (ix2 (gc t d) (gk t k)) := by
  refine congrArg (V m c main_arg1) (ix2_ext ?_ ?_)
  · show win0_1.index t 0 * 1024 + 1 * d.val = 0 * 1024 + d.val
    rw [(e1 t).1]; omega
  · show win0_1.index t 1 * 1024 + 1 * k.val = t.val % 2 * 1024 + k.val
    rw [(e1 t).2]; omega

theorem blk2_at (t : Fin cfg0.N) (r : Fin 256) (d : Fin 1024) : iblk m c 2 t (ix2 r d) = V m c main_arg2 (ix2 (gr t r) (gc t d)) := by
  refine congrArg (V m c main_arg2) (ix2_ext ?_ ?_)
  · show win0_2.index t 0 * 256 + 1 * r.val = t.val / 2 * 256 + r.val
    rw [(e2 t).1]; omega
  · show win0_2.index t 1 * 1024 + 1 * d.val = 0 * 1024 + d.val
    rw [(e2 t).2]; omega

/-- What one grid point adds. -/
theorem add_at (t : Fin cfg0.N) (y : Vec Ideal S256x1024 .f32) (r : Fin 256) (d : Fin 1024) : k0_pay2 (F := Ideal) y (iblk m c 0 t) (iblk m c 1 t) (ix2 r d)
    = y (ix2 r d) + ∑ k ∈ Finset.range 1024, term (rowNT (V m c main_arg0) (V m c main_arg1) (gr t r) (gc t d)) (t.val % 2 * 1024 + k) :=
  (pay2_at _ _ _ r d).trans (congrArg (y (ix2 r d) + ·) (sum_part fun k => ⟨(gk t k).isLt, congrArg₂ (· * ·) (blk0_at m c t r k) (blk1_at m c t k d)⟩))

/-- The accumulator after a grid point: the summands up to the end of its block. -/
theorem acc_at (t : Fin cfg0.N) (r : Fin 256) (d : Fin 1024) :
    (outsAt0 m c t.val t.isLt).2 (ix2 r d) = ∑ k ∈ Finset.range ((t.val % 2 + 1) * 1024), term (rowNT (V m c main_arg0) (V m c main_arg1) (gr t r) (gc t d)) k := by
  refine sum_tiles 2 1024 (fun t : Fin cfg0.N => (outsAt0 m c t.val t.isLt).2 (ix2 r d)) (fun t => rowNT (V m c main_arg0) (V m c main_arg1) (gr t r) (gc t d))
    (fun t h => ?_) (fun t h => ?_) (fun t h => congrArg₂ (rowNT (V m c main_arg0) (V m c main_arg1)) (Fin.ext ?_) (Fin.ext ?_)) t
  · rw [outsAt0_A m c t h (by omega)]
    dsimp only
    rw [scratch_A, add_at, pay1_at]
  · rw [outsAt0_B m c t h (by omega)]
    dsimp only
    rw [scratch_B, add_at]
  · show (t.val - 1) / 2 * 256 + r.val = t.val / 2 * 256 + r.val
    omega
  · show 0 * 1024 + d.val = 0 * 1024 + d.val
    omega

/-- An entry of the result. -/
def res (xa : Mat 256 2048) (xb : Mat 1024 2048) (x2 : Mat 256 1024) (i : Fin 256) (j : Fin 1024) : EReal := mulNT xa xb i j + x2 (ix2 i j)

theorem last_at (t : Fin cfg0.N) (h : t.val % 2 = 1) (r : Fin 256) (d : Fin 1024) :
    (outsAt0 m c t.val t.isLt).1 (ix2 r d) = res (V m c main_arg0) (V m c main_arg1) (V m c main_arg2) (gr t r) (gc t d) := by
  have h0 : ¬t.val % 2 = 0 := by omega
  have e := acc_at m c t r d
  rw [outsAt0_B m c t h0 h] at e ⊢
  dsimp only at e ⊢
  rw [scratch_B] at e
  rw [out_B, pay3_at]
  refine congrArg₂ (· + ·) ?_ (blk2_at m c t r d)
  rw [e, h]
  exact sum_term _

theorem final : (dats m 0 c).arrAt 3 cfg0.N = entries (res (V m c main_arg0) (V m c main_arg1) (V m c main_arg2)) := by
  refine (dats m 0 c).arrAt_eq_of_covers 3 _ (by decide +kernel) fun t hf y => ?_
  blk_simp
  rw [after0_3]
  revert y
  intro (y : S256x1024.Idx)
  idx_vars y
  rw [last_at m c t ((flush0_3 t).mp hf) y0 y1]
  refine congrArg₂ (res (V m c main_arg0) (V m c main_arg1) (V m c main_arg2)) (Fin.ext ?_) (Fin.ext ?_)
  · show t.val / 2 * 256 + y0.val = win0_3.index t 0 * 256 + 1 * y0.val
    rw [(e3 t).1]; omega
  · show 0 * 1024 + y1.val = win0_3.index t 1 * 1024 + 1 * y1.val
    rw [(e3 t).2]; omega

theorem agree : algebraic_Kernel11Ideal_Reference11Ideal (hKernel11Ideal := Cert.Kernel11Ideal.Gen.facts) (hReference11Ideal := Cert.Reference11Ideal.Gen.facts) := by
  intro m g m' g' _ hagree
  refine ⟨fun c => entries (res (m (c.tc.loc main_arg0)) (m (c.tc.loc main_arg1)) (m (c.tc.loc main_arg2))), ?_, ?_⟩
  · refine (θ_run _ _ _).mono (fun r h c => ⟨(h c).1.trans ((final m c).trans ?_), (h c).2⟩) (Value.run_blocks (F := Ideal) m g)
    rw [V_main_arg0, V_main_arg1, V_main_arg2]
  · refine (θ_run _ _ _).mono (fun r h c => ⟨(h c).1.trans ?_, (h c).2⟩) (Cert.Reference11Ideal.Value.run (F := Ideal) m' g')
    rw [(hagree c).1, (hagree c).2.1, (hagree c).2.2]
    funext i
    idx_vars i
    show _ = res (m (c.tc.loc main_arg0)) (m (c.tc.loc main_arg1)) (m (c.tc.loc main_arg2)) i0 i1
    unfold res mulNT rowNT
    pointwise
    exact add_comm _ _

end Cert.Proof.MemRows

end
-- ==== Proof.MemWeights.lean ====
/-
  The memory's key/value projection, its gradient in the weights.
-/
module

public import proofs.«01_k».proof.Defs
public import proofs.«01_k».proof.Proof.Gen.Kernel12Ideal.Value
public import proofs.«01_k».proof.Proof.Gen.Reference12Ideal.Run
public import proofs.«01_k».proof.Proof.Tiles
public import Idealize.ShloMosaic.Lib.Pipeline.ValueKit

@[expose] public section

noncomputable section

namespace Cert.Proof.MemWeights

open Idealize.ShloMosaic Idealize.SL.Sem Cert.Kernel12Ideal Cert.Kernel12Ideal.Gen
open Idealize.ShloMosaic.TcCoe
open Idealize.ShloMosaic.Pipeline (Dat Cfg Window)

section Cases

variable (c : Dev nD) (i : grid0.Coords)
  (arg3 : Memref sig .tc .vmem S256x1024 .bf16) (harg3 : arg3.IsWhole)
  (arg4 : Memref sig .tc .vmem S256x1024 .f32) (harg4 : arg4.IsWhole)
  (arg5 : Memref sig .tc .vmem S1024x1024 .f32) (harg5 : arg5.IsWhole)
  (arg6 : Memref sig .tc .vmem S1024x1024 .f32) (harg6 : arg6.IsWhole)
  (x0 : Vec Ideal S256x1024 .bf16) (x1 : Vec Ideal S256x1024 .f32) (y : Vec Ideal S1024x1024 .f32)

theorem out_A (hc0 : cond0_0 i) (hc1 : cond0_1 i) :
    out0_A_2 c i arg3 harg3 arg4 harg4 arg5 harg5 arg6 harg6 hc0 hc1 x0 x1 = k0_pay2 (k0_pay1 (F := Ideal)) x0 x1 := by
  unfold out0_A_2
  rw [View.read_writes_eq_canon _ _ _ (cover0_A_2 c i arg3 harg3 arg4 harg4 arg5 harg5 arg6 harg6 hc0 hc1 x0 x1)]
  unfold kernelRun0_A
  dsimp only
  try sl_unfold_words
  rw [View.canon_unit_zero off2, View.readCov_cons_unit_lit' (S := S1024x1024) _ _ _ _ _ (by decide) (by decide), View.readCov_unit_zero (S := S1024x1024) _ off2]
  simp only [View.readAt_eq_ld, harg3.read_unread, harg4.read_unread, harg6.read_unread,
    View.ld_unit_zero (S := S256x1024) off2, View.ld_unit_zero (S := S1024x1024) off2, shapeCast_self]

end Cases

/-! ## The body's values at an index -/

theorem pay1_at (r : Fin 1024) (d : Fin 1024) : k0_pay1 (F := Ideal) (ix2 r d) = 0 := by
  pointwise [k0_pay1]

theorem pay2_at (y : Vec Ideal S1024x1024 .f32) (x0 : Vec Ideal S256x1024 .bf16) (x1 : Vec Ideal S256x1024 .f32) (r : Fin 1024) (d : Fin 1024) :
    k0_pay2 (F := Ideal) y x0 x1 (ix2 r d) = y (ix2 r d) + ∑ k : Fin 256, ((x0 (ix2 k r) : EReal) * x1 (ix2 k d) : EReal) := by
  pointwise [k0_pay2]

/-! ## The blocks -/

variable (m : (ℓ : Loc nD τ sig) → Buf (Elt Ideal) ℓ) (c : Dev nD)

theorem e0 : ∀ t : Fin cfg0.N, win0_0.index t 0 = 0 ∧ win0_0.index t 1 = t.val / 2 := by decide +kernel
theorem e1 : ∀ t : Fin cfg0.N, win0_1.index t 0 = 0 ∧ win0_1.index t 1 = t.val / 1 % 2 := by decide +kernel
theorem e2 : ∀ t : Fin cfg0.N, win0_2.index t 0 = t.val / 2 ∧ win0_2.index t 1 = t.val / 1 % 2 := by decide +kernel

/-- The row and the column of the product that an entry of a point's block is, and a position along the summed axis. -/
def gr (t : Fin cfg0.N) (r : Fin 1024) : Fin 1024 := ⟨t.val / 2 * 1024 + r.val, by have : t.val < 2 := t.isLt; omega⟩
def gc (t : Fin cfg0.N) (d : Fin 1024) : Fin 2048 := ⟨t.val / 1 % 2 * 1024 + d.val, by have : t.val < 2 := t.isLt; omega⟩
def gk (t : Fin cfg0.N) (k : Fin 256) : Fin 256 := ⟨0 * 256 + k.val, by have : t.val < 2 := t.isLt; omega⟩

theorem blk0_at (t : Fin cfg0.N) (r : Fin 1024) (k : Fin 256) : iblk m c 0 t (ix2 k r) = V m c main_arg0 (ix2 (gk t k) (gr t r)) := by
  refine congrArg (V m c main_arg0) (ix2_ext ?_ ?_)
  · show win0_0.index t 0 * 256 + 1 * k.val = 0 * 256 + k.val
    rw [(e0 t).1]; omega
  · show win0_0.index t 1 * 1024 + 1 * r.val = t.val / 2 * 1024 + r.val
    rw [(e0 t).2]; omega

theorem blk1_at (t : Fin cfg0.N) (k : Fin 256) (d : Fin 1024) : iblk m c 1 t (ix2 k d) = V m c main_arg1 (ix2 (gk t k) (gc t d)) := by
  refine congrArg (V m c main_arg1) (ix2_ext ?_ ?_)
  · show win0_1.index t 0 * 256 + 1 * k.val = 0 * 256 + k.val
    rw [(e1 t).1]; omega
  · show win0_1.index t 1 * 1024 + 1 * d.val = t.val / 1 % 2 * 1024 + d.val
    rw [(e1 t).2]; omega

/-- What one grid point adds. -/
theorem add_at (t : Fin cfg0.N) (y : Vec Ideal S1024x1024 .f32) (r : Fin 1024) (d : Fin 1024) : k0_pay2 (F := Ideal) y (iblk m c 0 t) (iblk m c 1 t) (ix2 r d)
    = y (ix2 r d) + ∑ k ∈ Finset.range 256, term (rowTN (V m c main_arg0) (V m c main_arg1) (gr t r) (gc t d)) (0 * 256 + k) :=
  (pay2_at _ _ _ r d).trans (congrArg (y (ix2 r d) + ·) (sum_part fun k => ⟨(gk t k).isLt, congrArg₂ (· * ·) (blk0_at m c t r k) (blk1_at m c t k d)⟩))

theorem last_at (t : Fin cfg0.N) (r : Fin 1024) (d : Fin 1024) : outsAt0 m c t (ix2 r d) = mulTN (V m c main_arg0) (V m c main_arg1) (gr t r) (gc t d) := by
  unfold outsAt0
  rw [out_A]
  rw [add_at, pay1_at, zero_add, Nat.zero_mul]
  simp only [Nat.zero_add]
  exact sum_term _

theorem final : (dats m 0 c).arrAt 2 cfg0.N = entries (mulTN (V m c main_arg0) (V m c main_arg1)) := by
  refine (dats m 0 c).arrAt_eq_of_covers 2 _ (by decide +kernel) fun t hf y => ?_
  blk_simp
  rw [after0_2]
  revert y
  intro (y : S1024x1024.Idx)
  idx_vars y
  rw [last_at m c t y0 y1]
  refine congrArg₂ (mulTN (V m c main_arg0) (V m c main_arg1)) (Fin.ext ?_) (Fin.ext ?_)
  · show t.val / 2 * 1024 + y0.val = win0_2.index t 0 * 1024 + 1 * y0.val
    rw [(e2 t).1]; omega
  · show t.val / 1 % 2 * 1024 + y1.val = win0_2.index t 1 * 1024 + 1 * y1.val
    rw [(e2 t).2]; omega

theorem agree : algebraic_Kernel12Ideal_Reference12Ideal (hKernel12Ideal := Cert.Kernel12Ideal.Gen.facts) (hReference12Ideal := Cert.Reference12Ideal.Gen.facts) := by
  intro m g m' g' _ hagree
  refine ⟨fun c => entries (mulTN (m (c.tc.loc main_arg0)) (m (c.tc.loc main_arg1))), ?_, ?_⟩
  · refine (θ_run _ _ _).mono (fun r h c => ⟨(h c).1.trans ((final m c).trans ?_), (h c).2⟩) (Value.run_blocks (F := Ideal) m g)
    rw [V_main_arg0, V_main_arg1]
  · refine (θ_run _ _ _).mono (fun r h c => ⟨(h c).1.trans ?_, (h c).2⟩) (Cert.Reference12Ideal.Value.run (F := Ideal) m' g')
    rw [(hagree c).1, (hagree c).2]
    funext i
    idx_vars i
    show _ = mulTN (m (c.tc.loc main_arg0)) (m (c.tc.loc main_arg1)) i0 i1
    unfold mulTN rowTN
    pointwise

end Cert.Proof.MemWeights

end
-- ==== Proof.Square.lean ====
/-
  A square projection.
-/
module

public import proofs.«01_k».proof.Defs
public import proofs.«01_k».proof.Proof.Gen.Kernel13Ideal.Value
public import proofs.«01_k».proof.Proof.Gen.Reference13Ideal.Run
public import proofs.«01_k».proof.Proof.Tiles
public import Idealize.ShloMosaic.Lib.Pipeline.ValueKit

@[expose] public section

noncomputable section

namespace Cert.Proof.Square

open Idealize.ShloMosaic Idealize.SL.Sem Cert.Kernel13Ideal Cert.Kernel13Ideal.Gen
open Idealize.ShloMosaic.TcCoe
open Idealize.ShloMosaic.Pipeline (Dat Cfg Window)

section Cases

variable (c : Dev nD) (i : grid0.Coords)
  (arg3 : Memref sig .tc .vmem S1024x1024 .bf16) (harg3 : arg3.IsWhole)
  (arg4 : Memref sig .tc .vmem S1024x1024 .bf16) (harg4 : arg4.IsWhole)
  (arg5 : Memref sig .tc .vmem S1024x1024 .f32) (harg5 : arg5.IsWhole)
  (arg6 : Memref sig .tc .vmem S1024x1024 .f32) (harg6 : arg6.IsWhole)
  (x0 : Vec Ideal S1024x1024 .bf16) (x1 : Vec Ideal S1024x1024 .bf16) (y : Vec Ideal S1024x1024 .f32)

theorem out_A (hc0 : cond0_0 i) (hc1 : cond0_1 i) :
    out0_A_2 c i arg3 harg3 arg4 harg4 arg5 harg5 arg6 harg6 hc0 hc1 x0 x1 = k0_pay2 (k0_pay1 (F := Ideal)) x0 x1 := by
  unfold out0_A_2
  rw [View.read_writes_eq_canon _ _ _ (cover0_A_2 c i arg3 harg3 arg4 harg4 arg5 harg5 arg6 harg6 hc0 hc1 x0 x1)]
  unfold kernelRun0_A
  dsimp only
  try sl_unfold_words
  rw [View.canon_unit_zero off2, View.readCov_cons_unit_lit' (S := S1024x1024) _ _ _ _ _ (by decide) (by decide), View.readCov_unit_zero (S := S1024x1024) _ off2]
  simp only [View.readAt_eq_ld, harg3.read_unread, harg4.read_unread, harg6.read_unread,
    View.ld_unit_zero (S := S1024x1024) off2, shapeCast_self]

end Cases

/-! ## The body's values at an index -/

theorem pay1_at (r : Fin 1024) (d : Fin 1024) : k0_pay1 (F := Ideal) (ix2 r d) = 0 := by
  pointwise [k0_pay1]

theorem pay2_at (y : Vec Ideal S1024x1024 .f32) (x0 : Vec Ideal S1024x1024 .bf16) (x1 : Vec Ideal S1024x1024 .bf16) (r : Fin 1024) (d : Fin 1024) :
    k0_pay2 (F := Ideal) y x0 x1 (ix2 r d) = y (ix2 r d) + ∑ k : Fin 1024, ((x0 (ix2 r k) : EReal) * x1 (ix2 k d) : EReal) := by
  pointwise [k0_pay2]

/-! ## The blocks -/

variable (m : (ℓ : Loc nD τ sig) → Buf (Elt Ideal) ℓ) (c : Dev nD)

theorem e0 : ∀ t : Fin cfg0.N, win0_0.index t 0 = t.val / 1 ∧ win0_0.index t 1 = 0 := by decide +kernel
theorem e1 : ∀ t : Fin cfg0.N, win0_1.index t 0 = 0 ∧ win0_1.index t 1 = 0 := by decide +kernel
theorem e2 : ∀ t : Fin cfg0.N, win0_2.index t 0 = t.val / 1 ∧ win0_2.index t 1 = 0 := by decide +kernel

/-- The row and the column of the product that an entry of a point's block is, and a position along the summed axis. -/
def gr (t : Fin cfg0.N) (r : Fin 1024) : Fin 2048 := ⟨t.val / 1 * 1024 + r.val, by have : t.val < 2 := t.isLt; omega⟩
def gc (t : Fin cfg0.N) (d : Fin 1024) : Fin 1024 := ⟨0 * 1024 + d.val, by have : t.val < 2 := t.isLt; omega⟩
def gk (t : Fin cfg0.N) (k : Fin 1024) : Fin 1024 := ⟨0 * 1024 + k.val, by have : t.val < 2 := t.isLt; omega⟩

theorem blk0_at (t : Fin cfg0.N) (r : Fin 1024) (k : Fin 1024) : iblk m c 0 t (ix2 r k) = V m c main_arg0 (ix2 (gr t r) (gk t k)) := by
  refine congrArg (V m c main_arg0) (ix2_ext ?_ ?_)
  · show win0_0.index t 0 * 1024 + 1 * r.val = t.val / 1 * 1024 + r.val
    rw [(e0 t).1]; omega
  · show win0_0.index t 1 * 1024 + 1 * k.val = 0 * 1024 + k.val
    rw [(e0 t).2]; omega

theorem blk1_at (t : Fin cfg0.N) (k : Fin 1024) (d : Fin 1024) : iblk m c 1 t (ix2 k d) = V m c main_arg1 (ix2 (gk t k) (gc t d)) := by
  refine congrArg (V m c main_arg1) (ix2_ext ?_ ?_)
  · show win0_1.index t 0 * 1024 + 1 * k.val = 0 * 1024 + k.val
    rw [(e1 t).1]; omega
  · show win0_1.index t 1 * 1024 + 1 * d.val = 0 * 1024 + d.val
    rw [(e1 t).2]; omega

/-- What one grid point adds. -/
theorem add_at (t : Fin cfg0.N) (y : Vec Ideal S1024x1024 .f32) (r : Fin 1024) (d : Fin 1024) : k0_pay2 (F := Ideal) y (iblk m c 0 t) (iblk m c 1 t) (ix2 r d)
    = y (ix2 r d) + ∑ k ∈ Finset.range 1024, term (rowNN (V m c main_arg0) (V m c main_arg1) (gr t r) (gc t d)) (0 * 1024 + k) :=
  (pay2_at _ _ _ r d).trans (congrArg (y (ix2 r d) + ·) (sum_part fun k => ⟨(gk t k).isLt, congrArg₂ (· * ·) (blk0_at m c t r k) (blk1_at m c t k d)⟩))

theorem last_at (t : Fin cfg0.N) (r : Fin 1024) (d : Fin 1024) : outsAt0 m c t (ix2 r d) = mulNN (V m c main_arg0) (V m c main_arg1) (gr t r) (gc t d) := by
  unfold outsAt0
  rw [out_A]
  rw [add_at, pay1_at, zero_add, Nat.zero_mul]
  simp only [Nat.zero_add]
  exact sum_term _

theorem final : (dats m 0 c).arrAt 2 cfg0.N = entries (mulNN (V m c main_arg0) (V m c main_arg1)) := by
  refine (dats m 0 c).arrAt_eq_of_covers 2 _ (by decide +kernel) fun t hf y => ?_
  blk_simp
  rw [after0_2]
  revert y
  intro (y : S1024x1024.Idx)
  idx_vars y
  rw [last_at m c t y0 y1]
  refine congrArg₂ (mulNN (V m c main_arg0) (V m c main_arg1)) (Fin.ext ?_) (Fin.ext ?_)
  · show t.val / 1 * 1024 + y0.val = win0_2.index t 0 * 1024 + 1 * y0.val
    rw [(e2 t).1]; omega
  · show 0 * 1024 + y1.val = win0_2.index t 1 * 1024 + 1 * y1.val
    rw [(e2 t).2]; omega

theorem agree : algebraic_Kernel13Ideal_Reference13Ideal (hKernel13Ideal := Cert.Kernel13Ideal.Gen.facts) (hReference13Ideal := Cert.Reference13Ideal.Gen.facts) := by
  intro m g m' g' _ hagree
  refine ⟨fun c => entries (mulNN (m (c.tc.loc main_arg0)) (m (c.tc.loc main_arg1))), ?_, ?_⟩
  · refine (θ_run _ _ _).mono (fun r h c => ⟨(h c).1.trans ((final m c).trans ?_), (h c).2⟩) (Value.run_blocks (F := Ideal) m g)
    rw [V_main_arg0, V_main_arg1]
  · refine (θ_run _ _ _).mono (fun r h c => ⟨(h c).1.trans ?_, (h c).2⟩) (Cert.Reference13Ideal.Value.run (F := Ideal) m' g')
    rw [(hagree c).1, (hagree c).2]
    funext i
    idx_vars i
    show _ = mulNN (m (c.tc.loc main_arg0)) (m (c.tc.loc main_arg1)) i0 i1
    unfold mulNN rowNN
    pointwise

end Cert.Proof.Square

end
-- ==== Proof.SquareRes.lean ====
/-
  A square projection added to the residual stream.
-/
module

public import proofs.«01_k».proof.Defs
public import proofs.«01_k».proof.Proof.Gen.Kernel14Ideal.Value
public import proofs.«01_k».proof.Proof.Gen.Reference14Ideal.Run
public import proofs.«01_k».proof.Proof.Tiles
public import Idealize.ShloMosaic.Lib.Pipeline.ValueKit

@[expose] public section

noncomputable section

namespace Cert.Proof.SquareRes

open Idealize.ShloMosaic Idealize.SL.Sem Cert.Kernel14Ideal Cert.Kernel14Ideal.Gen
open Idealize.ShloMosaic.TcCoe
open Idealize.ShloMosaic.Pipeline (Dat Cfg Window)

section Cases

variable (c : Dev nD) (i : grid0.Coords)
  (arg3 : Memref sig .tc .vmem S1024x1024 .bf16) (harg3 : arg3.IsWhole)
  (arg4 : Memref sig .tc .vmem S1024x1024 .bf16) (harg4 : arg4.IsWhole)
  (arg5 : Memref sig .tc .vmem S1024x1024 .f32) (harg5 : arg5.IsWhole)
  (arg6 : Memref sig .tc .vmem S1024x1024 .f32) (harg6 : arg6.IsWhole)
  (arg7 : Memref sig .tc .vmem S1024x1024 .f32) (harg7 : arg7.IsWhole)
  (x0 : Vec Ideal S1024x1024 .bf16) (x1 : Vec Ideal S1024x1024 .bf16) (x2 : Vec Ideal S1024x1024 .f32) (y : Vec Ideal S1024x1024 .f32)

theorem out_A (hc0 : cond0_0 i) (hc1 : cond0_1 i) :
    out0_A_3 c i arg3 harg3 arg4 harg4 arg5 harg5 arg6 harg6 arg7 harg7 hc0 hc1 x0 x1 x2 = k0_pay3 (k0_pay2 (k0_pay1 (F := Ideal)) x0 x1) x2 := by
  unfold out0_A_3
  rw [View.read_writes_eq_canon _ _ _ (cover0_A_3 c i arg3 harg3 arg4 harg4 arg5 harg5 arg6 harg6 arg7 harg7 hc0 hc1 x0 x1 x2)]
  unfold kernelRun0_A
  dsimp only
  try sl_unfold_words
  rw [View.canon_unit_zero off2, View.readCov_cons_unit_lit' (S := S1024x1024) _ _ _ _ _ (by decide) (by decide), View.readCov_unit_zero (S := S1024x1024) _ off2]
  simp only [View.readAt_eq_ld, harg3.read_unread, harg4.read_unread, harg5.read_unread, harg7.read_unread,
    View.ld_unit_zero (S := S1024x1024) off2, shapeCast_self]

end Cases

/-! ## The body's values at an index -/

theorem pay1_at (r : Fin 1024) (d : Fin 1024) : k0_pay1 (F := Ideal) (ix2 r d) = 0 := by
  pointwise [k0_pay1]

theorem pay2_at (y : Vec Ideal S1024x1024 .f32) (x0 : Vec Ideal S1024x1024 .bf16) (x1 : Vec Ideal S1024x1024 .bf16) (r : Fin 1024) (d : Fin 1024) :
    k0_pay2 (F := Ideal) y x0 x1 (ix2 r d) = y (ix2 r d) + ∑ k : Fin 1024, ((x0 (ix2 r k) : EReal) * x1 (ix2 k d) : EReal) := by
  pointwise [k0_pay2]

theorem pay3_at (y : Vec Ideal S1024x1024 .f32) (x2 : Vec Ideal S1024x1024 .f32) (r : Fin 1024) (d : Fin 1024) :
    k0_pay3 (F := Ideal) y x2 (ix2 r d) = (y (ix2 r d) + x2 (ix2 r d) : EReal) := by
  pointwise [k0_pay3]

/-! ## The blocks -/

variable (m : (ℓ : Loc nD τ sig) → Buf (Elt Ideal) ℓ) (c : Dev nD)

theorem e0 : ∀ t : Fin cfg0.N, win0_0.index t 0 = t.val / 1 ∧ win0_0.index t 1 = 0 := by decide +kernel
theorem e1 : ∀ t : Fin cfg0.N, win0_1.index t 0 = 0 ∧ win0_1.index t 1 = 0 := by decide +kernel
theorem e2 : ∀ t : Fin cfg0.N, win0_2.index t 0 = t.val / 1 ∧ win0_2.index t 1 = 0 := by decide +kernel
theorem e3 : ∀ t : Fin cfg0.N, win0_3.index t 0 = t.val / 1 ∧ win0_3.index t 1 = 0 := by decide +kernel

/-- The row and the column of the product that an entry of a point's block is, and a position along the summed axis. -/
def gr (t : Fin cfg0.N) (r : Fin 1024) : Fin 2048 := ⟨t.val / 1 * 1024 + r.val, by have : t.val < 2 := t.isLt; omega⟩
def gc (t : Fin cfg0.N) (d : Fin 1024) : Fin 1024 := ⟨0 * 1024 + d.val, by have : t.val < 2 := t.isLt; omega⟩
def gk (t : Fin cfg0.N) (k : Fin 1024) : Fin 1024 := ⟨0 * 1024 + k.val, by have : t.val < 2 := t.isLt; omega⟩

theorem blk0_at (t : Fin cfg0.N) (r : Fin 1024) (k : Fin 1024) : iblk m c 0 t (ix2 r k) = V m c main_arg0 (ix2 (gr t r) (gk t k)) := by
  refine congrArg (V m c main_arg0) (ix2_ext ?_ ?_)
  · show win0_0.index t 0 * 1024 + 1 * r.val = t.val / 1 * 1024 + r.val
    rw [(e0 t).1]; omega
  · show win0_0.index t 1 * 1024 + 1 * k.val = 0 * 1024 + k.val
    rw [(e0 t).2]; omega

theorem blk1_at (t : Fin cfg0.N) (k : Fin 1024) (d : Fin 1024) : iblk m c 1 t (ix2 k d) = V m c main_arg1 (ix2 (gk t k) (gc t d)) := by
  refine congrArg (V m c main_arg1) (ix2_ext ?_ ?_)
  · show win0_1.index t 0 * 1024 + 1 * k.val = 0 * 1024 + k.val
    rw [(e1 t).1]; omega
  · show win0_1.index t 1 * 1024 + 1 * d.val = 0 * 1024 + d.val
    rw [(e1 t).2]; omega

theorem blk2_at (t : Fin cfg0.N) (r : Fin 1024) (d : Fin 1024) : iblk m c 2 t (ix2 r d) = V m c main_arg2 (ix2 (gr t r) (gc t d)) := by
  refine congrArg (V m c main_arg2) (ix2_ext ?_ ?_)
  · show win0_2.index t 0 * 1024 + 1 * r.val = t.val / 1 * 1024 + r.val
    rw [(e2 t).1]; omega
  · show win0_2.index t 1 * 1024 + 1 * d.val = 0 * 1024 + d.val
    rw [(e2 t).2]; omega

/-- What one grid point adds. -/
theorem add_at (t : Fin cfg0.N) (y : Vec Ideal S1024x1024 .f32) (r : Fin 1024) (d : Fin 1024) : k0_pay2 (F := Ideal) y (iblk m c 0 t) (iblk m c 1 t) (ix2 r d)
    = y (ix2 r d) + ∑ k ∈ Finset.range 1024, term (rowNN (V m c main_arg0) (V m c main_arg1) (gr t r) (gc t d)) (0 * 1024 + k) :=
  (pay2_at _ _ _ r d).trans (congrArg (y (ix2 r d) + ·) (sum_part fun k => ⟨(gk t k).isLt, congrArg₂ (· * ·) (blk0_at m c t r k) (blk1_at m c t k d)⟩))

/-- An entry of the result. -/
def res (xa : Mat 2048 1024) (xb : Mat 1024 1024) (x2 : Mat 2048 1024) (i : Fin 2048) (j : Fin 1024) : EReal := mulNN xa xb i j + x2 (ix2 i j)

theorem last_at (t : Fin cfg0.N) (r : Fin 1024) (d : Fin 1024) : outsAt0 m c t (ix2 r d) = res (V m c main_arg0) (V m c main_arg1) (V m c main_arg2) (gr t r) (gc t d) := by
  unfold outsAt0
  rw [out_A, pay3_at]
  refine congrArg₂ (· + ·) ?_ (blk2_at m c t r d)
  rw [add_at, pay1_at, zero_add, Nat.zero_mul]
  simp only [Nat.zero_add]
  exact sum_term _

theorem final : (dats m 0 c).arrAt 3 cfg0.N = entries (res (V m c main_arg0) (V m c main_arg1) (V m c main_arg2)) := by
  refine (dats m 0 c).arrAt_eq_of_covers 3 _ (by decide +kernel) fun t hf y => ?_
  blk_simp
  rw [after0_3]
  revert y
  intro (y : S1024x1024.Idx)
  idx_vars y
  rw [last_at m c t y0 y1]
  refine congrArg₂ (res (V m c main_arg0) (V m c main_arg1) (V m c main_arg2)) (Fin.ext ?_) (Fin.ext ?_)
  · show t.val / 1 * 1024 + y0.val = win0_3.index t 0 * 1024 + 1 * y0.val
    rw [(e3 t).1]; omega
  · show 0 * 1024 + y1.val = win0_3.index t 1 * 1024 + 1 * y1.val
    rw [(e3 t).2]; omega

theorem agree : algebraic_Kernel14Ideal_Reference14Ideal (hKernel14Ideal := Cert.Kernel14Ideal.Gen.facts) (hReference14Ideal := Cert.Reference14Ideal.Gen.facts) := by
  intro m g m' g' _ hagree
  refine ⟨fun c => entries (res (m (c.tc.loc main_arg0)) (m (c.tc.loc main_arg1)) (m (c.tc.loc main_arg2))), ?_, ?_⟩
  · refine (θ_run _ _ _).mono (fun r h c => ⟨(h c).1.trans ((final m c).trans ?_), (h c).2⟩) (Value.run_blocks (F := Ideal) m g)
    rw [V_main_arg0, V_main_arg1, V_main_arg2]
  · refine (θ_run _ _ _).mono (fun r h c => ⟨(h c).1.trans ?_, (h c).2⟩) (Cert.Reference14Ideal.Value.run (F := Ideal) m' g')
    rw [(hagree c).1, (hagree c).2.1, (hagree c).2.2]
    funext i
    idx_vars i
    show _ = res (m (c.tc.loc main_arg0)) (m (c.tc.loc main_arg1)) (m (c.tc.loc main_arg2)) i0 i1
    unfold res mulNN rowNN
    pointwise
    exact add_comm _ _

end Cert.Proof.SquareRes

end
-- ==== Proof.SquareBf.lean ====
/-
  The memory attention's query projection.
-/
module

public import proofs.«01_k».proof.Defs
public import proofs.«01_k».proof.Proof.Gen.Kernel15Ideal.Value
public import proofs.«01_k».proof.Proof.Gen.Reference15Ideal.Run
public import proofs.«01_k».proof.Proof.Tiles
public import Idealize.ShloMosaic.Lib.Pipeline.ValueKit

@[expose] public section

noncomputable section

namespace Cert.Proof.SquareBf

open Idealize.ShloMosaic Idealize.SL.Sem Cert.Kernel15Ideal Cert.Kernel15Ideal.Gen
open Idealize.ShloMosaic.TcCoe
open Idealize.ShloMosaic.Pipeline (Dat Cfg Window)

section Cases

variable (c : Dev nD) (i : grid0.Coords)
  (arg3 : Memref sig .tc .vmem S1024x1024 .bf16) (harg3 : arg3.IsWhole)
  (arg4 : Memref sig .tc .vmem S1024x1024 .bf16) (harg4 : arg4.IsWhole)
  (arg5 : Memref sig .tc .vmem S1024x1024 .bf16) (harg5 : arg5.IsWhole)
  (arg6 : Memref sig .tc .vmem S1024x1024 .f32) (harg6 : arg6.IsWhole)
  (x0 : Vec Ideal S1024x1024 .bf16) (x1 : Vec Ideal S1024x1024 .bf16) (y : Vec Ideal S1024x1024 .f32)

theorem out_A (hc0 : cond0_0 i) (hc1 : cond0_1 i) :
    out0_A_2 c i arg3 harg3 arg4 harg4 arg5 harg5 arg6 harg6 hc0 hc1 x0 x1 = k0_pay3 (k0_pay2 (k0_pay1 (F := Ideal)) x0 x1) := by
  unfold out0_A_2
  rw [View.read_writes_eq_canon _ _ _ (cover0_A_2 c i arg3 harg3 arg4 harg4 arg5 harg5 arg6 harg6 hc0 hc1 x0 x1)]
  unfold kernelRun0_A
  dsimp only
  try sl_unfold_words
  rw [View.canon_unit_zero off2, View.readCov_cons_unit_lit' (S := S1024x1024) _ _ _ _ _ (by decide) (by decide), View.readCov_unit_zero (S := S1024x1024) _ off2]
  simp only [View.readAt_eq_ld, harg3.read_unread, harg4.read_unread, harg6.read_unread,
    View.ld_unit_zero (S := S1024x1024) off2, shapeCast_self]

end Cases

/-! ## The body's values at an index -/

theorem pay1_at (r : Fin 1024) (d : Fin 1024) : k0_pay1 (F := Ideal) (ix2 r d) = 0 := by
  pointwise [k0_pay1]

theorem pay2_at (y : Vec Ideal S1024x1024 .f32) (x0 : Vec Ideal S1024x1024 .bf16) (x1 : Vec Ideal S1024x1024 .bf16) (r : Fin 1024) (d : Fin 1024) :
    k0_pay2 (F := Ideal) y x0 x1 (ix2 r d) = y (ix2 r d) + ∑ k : Fin 1024, ((x0 (ix2 r k) : EReal) * x1 (ix2 k d) : EReal) := by
  pointwise [k0_pay2]

theorem pay3_at (y : Vec Ideal S1024x1024 .f32) (r : Fin 1024) (d : Fin 1024) :
    k0_pay3 (F := Ideal) y (ix2 r d) = (y (ix2 r d) : EReal) := by
  pointwise [k0_pay3]

/-! ## The blocks -/

variable (m : (ℓ : Loc nD τ sig) → Buf (Elt Ideal) ℓ) (c : Dev nD)

theorem e0 : ∀ t : Fin cfg0.N, win0_0.index t 0 = t.val / 1 ∧ win0_0.index t 1 = 0 := by decide +kernel
theorem e1 : ∀ t : Fin cfg0.N, win0_1.index t 0 = 0 ∧ win0_1.index t 1 = 0 := by decide +kernel
theorem e2 : ∀ t : Fin cfg0.N, win0_2.index t 0 = t.val / 1 ∧ win0_2.index t 1 = 0 := by decide +kernel

/-- The row and the column of the product that an entry of a point's block is, and a position along the summed axis. -/
def gr (t : Fin cfg0.N) (r : Fin 1024) : Fin 2048 := ⟨t.val / 1 * 1024 + r.val, by have : t.val < 2 := t.isLt; omega⟩
def gc (t : Fin cfg0.N) (d : Fin 1024) : Fin 1024 := ⟨0 * 1024 + d.val, by have : t.val < 2 := t.isLt; omega⟩
def gk (t : Fin cfg0.N) (k : Fin 1024) : Fin 1024 := ⟨0 * 1024 + k.val, by have : t.val < 2 := t.isLt; omega⟩

theorem blk0_at (t : Fin cfg0.N) (r : Fin 1024) (k : Fin 1024) : iblk m c 0 t (ix2 r k) = V m c main_arg0 (ix2 (gr t r) (gk t k)) := by
  refine congrArg (V m c main_arg0) (ix2_ext ?_ ?_)
  · show win0_0.index t 0 * 1024 + 1 * r.val = t.val / 1 * 1024 + r.val
    rw [(e0 t).1]; omega
  · show win0_0.index t 1 * 1024 + 1 * k.val = 0 * 1024 + k.val
    rw [(e0 t).2]; omega

theorem blk1_at (t : Fin cfg0.N) (k : Fin 1024) (d : Fin 1024) : iblk m c 1 t (ix2 k d) = V m c main_arg1 (ix2 (gk t k) (gc t d)) := by
  refine congrArg (V m c main_arg1) (ix2_ext ?_ ?_)
  · show win0_1.index t 0 * 1024 + 1 * k.val = 0 * 1024 + k.val
    rw [(e1 t).1]; omega
  · show win0_1.index t 1 * 1024 + 1 * d.val = 0 * 1024 + d.val
    rw [(e1 t).2]; omega

/-- What one grid point adds. -/
theorem add_at (t : Fin cfg0.N) (y : Vec Ideal S1024x1024 .f32) (r : Fin 1024) (d : Fin 1024) : k0_pay2 (F := Ideal) y (iblk m c 0 t) (iblk m c 1 t) (ix2 r d)
    = y (ix2 r d) + ∑ k ∈ Finset.range 1024, term (rowNN (V m c main_arg0) (V m c main_arg1) (gr t r) (gc t d)) (0 * 1024 + k) :=
  (pay2_at _ _ _ r d).trans (congrArg (y (ix2 r d) + ·) (sum_part fun k => ⟨(gk t k).isLt, congrArg₂ (· * ·) (blk0_at m c t r k) (blk1_at m c t k d)⟩))

theorem last_at (t : Fin cfg0.N) (r : Fin 1024) (d : Fin 1024) : outsAt0 m c t (ix2 r d) = mulNN (V m c main_arg0) (V m c main_arg1) (gr t r) (gc t d) := by
  unfold outsAt0
  rw [out_A, pay3_at]
  rw [add_at, pay1_at, zero_add, Nat.zero_mul]
  simp only [Nat.zero_add]
  exact sum_term _

theorem final : (dats m 0 c).arrAt 2 cfg0.N = entries (mulNN (V m c main_arg0) (V m c main_arg1)) := by
  refine (dats m 0 c).arrAt_eq_of_covers 2 _ (by decide +kernel) fun t hf y => ?_
  blk_simp
  rw [after0_2]
  revert y
  intro (y : S1024x1024.Idx)
  idx_vars y
  rw [last_at m c t y0 y1]
  refine congrArg₂ (mulNN (V m c main_arg0) (V m c main_arg1)) (Fin.ext ?_) (Fin.ext ?_)
  · show t.val / 1 * 1024 + y0.val = win0_2.index t 0 * 1024 + 1 * y0.val
    rw [(e2 t).1]; omega
  · show 0 * 1024 + y1.val = win0_2.index t 1 * 1024 + 1 * y1.val
    rw [(e2 t).2]; omega

theorem agree : algebraic_Kernel15Ideal_Reference15Ideal (hKernel15Ideal := Cert.Kernel15Ideal.Gen.facts) (hReference15Ideal := Cert.Reference15Ideal.Gen.facts) := by
  intro m g m' g' _ hagree
  refine ⟨fun c => entries (mulNN (m (c.tc.loc main_arg0)) (m (c.tc.loc main_arg1))), ?_, ?_⟩
  · refine (θ_run _ _ _).mono (fun r h c => ⟨(h c).1.trans ((final m c).trans ?_), (h c).2⟩) (Value.run_blocks (F := Ideal) m g)
    rw [V_main_arg0, V_main_arg1]
  · refine (θ_run _ _ _).mono (fun r h c => ⟨(h c).1.trans ?_, (h c).2⟩) (Cert.Reference15Ideal.Value.run (F := Ideal) m' g')
    rw [(hagree c).1, (hagree c).2]
    funext i
    idx_vars i
    show _ = mulNN (m (c.tc.loc main_arg0)) (m (c.tc.loc main_arg1)) i0 i1
    unfold mulNN rowNN
    pointwise

end Cert.Proof.SquareBf

end
-- ==== Proof.ConvIn.lean ====
/-
  The convolution block's input projection with its bias.
-/
module

public import proofs.«01_k».proof.Defs
public import proofs.«01_k».proof.Proof.Gen.Kernel16Ideal.Value
public import proofs.«01_k».proof.Proof.Gen.Reference16Ideal.Run
public import proofs.«01_k».proof.Proof.Tiles
public import Idealize.ShloMosaic.Lib.Pipeline.ValueKit

@[expose] public section

noncomputable section

namespace Cert.Proof.ConvIn

open Idealize.ShloMosaic Idealize.SL.Sem Cert.Kernel16Ideal Cert.Kernel16Ideal.Gen
open Idealize.ShloMosaic.TcCoe
open Idealize.ShloMosaic.Pipeline (Dat Cfg Window)

section Cases

variable (c : Dev nD) (i : grid0.Coords)
  (arg3 : Memref sig .tc .vmem S1024x1024 .bf16) (harg3 : arg3.IsWhole)
  (arg4 : Memref sig .tc .vmem S1024x1024 .bf16) (harg4 : arg4.IsWhole)
  (arg5 : Memref sig .tc .vmem S1x1024 .f32) (harg5 : arg5.IsWhole)
  (arg6 : Memref sig .tc .vmem S1024x1024 .f32) (harg6 : arg6.IsWhole)
  (arg7 : Memref sig .tc .vmem S1024x1024 .f32) (harg7 : arg7.IsWhole)
  (x0 : Vec Ideal S1024x1024 .bf16) (x1 : Vec Ideal S1024x1024 .bf16) (x2 : Vec Ideal S1x1024 .f32) (y : Vec Ideal S1024x1024 .f32)

theorem out_A (hc0 : cond0_0 i) (hc1 : cond0_1 i) :
    out0_A_3 c i arg3 harg3 arg4 harg4 arg5 harg5 arg6 harg6 arg7 harg7 hc0 hc1 x0 x1 x2 = k0_pay3 (k0_pay2 (k0_pay1 (F := Ideal)) x0 x1) x2 := by
  unfold out0_A_3
  rw [View.read_writes_eq_canon _ _ _ (cover0_A_3 c i arg3 harg3 arg4 harg4 arg5 harg5 arg6 harg6 arg7 harg7 hc0 hc1 x0 x1 x2)]
  unfold kernelRun0_A
  dsimp only
  try sl_unfold_words
  rw [View.canon_unit_zero off2, View.readCov_cons_unit_lit' (S := S1024x1024) _ _ _ _ _ (by decide) (by decide), View.readCov_unit_zero (S := S1024x1024) _ off2]
  simp only [View.readAt_eq_ld, harg3.read_unread, harg4.read_unread, harg5.read_unread, harg7.read_unread,
    View.ld_unit_zero (S := S1024x1024) off2, View.ld_unit_zero (S := S1x1024) off2, shapeCast_self]

end Cases

/-! ## The body's values at an index -/

theorem pay1_at (r : Fin 1024) (d : Fin 1024) : k0_pay1 (F := Ideal) (ix2 r d) = 0 := by
  pointwise [k0_pay1]

theorem pay2_at (y : Vec Ideal S1024x1024 .f32) (x0 : Vec Ideal S1024x1024 .bf16) (x1 : Vec Ideal S1024x1024 .bf16) (r : Fin 1024) (d : Fin 1024) :
    k0_pay2 (F := Ideal) y x0 x1 (ix2 r d) = y (ix2 r d) + ∑ k : Fin 1024, ((x0 (ix2 r k) : EReal) * x1 (ix2 k d) : EReal) := by
  pointwise [k0_pay2]

theorem pay3_at (y : Vec Ideal S1024x1024 .f32) (x2 : Vec Ideal S1x1024 .f32) (r : Fin 1024) (d : Fin 1024) :
    k0_pay3 (F := Ideal) y x2 (ix2 r d) = (y (ix2 r d) + x2 (ix2 0 d) : EReal) := by
  pointwise [k0_pay3]

/-! ## The blocks -/

variable (m : (ℓ : Loc nD τ sig) → Buf (Elt Ideal) ℓ) (c : Dev nD)

theorem e0 : ∀ t : Fin cfg0.N, win0_0.index t 0 = t.val / 2 ∧ win0_0.index t 1 = 0 := by decide +kernel
theorem e1 : ∀ t : Fin cfg0.N, win0_1.index t 0 = 0 ∧ win0_1.index t 1 = t.val / 1 % 2 := by decide +kernel
theorem e2 : ∀ t : Fin cfg0.N, win0_2.index t 0 = 0 ∧ win0_2.index t 1 = t.val / 1 % 2 := by decide +kernel
theorem e3 : ∀ t : Fin cfg0.N, win0_3.index t 0 = t.val / 2 ∧ win0_3.index t 1 = t.val / 1 % 2 := by decide +kernel

/-- The row and the column of the product that an entry of a point's block is, and a position along the summed axis. -/
def gr (t : Fin cfg0.N) (r : Fin 1024) : Fin 2048 := ⟨t.val / 2 * 1024 + r.val, by have : t.val < 4 := t.isLt; omega⟩
def gc (t : Fin cfg0.N) (d : Fin 1024) : Fin 2048 := ⟨t.val / 1 % 2 * 1024 + d.val, by have : t.val < 4 := t.isLt; omega⟩
def gk (t : Fin cfg0.N) (k : Fin 1024) : Fin 1024 := ⟨0 * 1024 + k.val, by have : t.val < 4 := t.isLt; omega⟩

theorem blk0_at (t : Fin cfg0.N) (r : Fin 1024) (k : Fin 1024) : iblk m c 0 t (ix2 r k) = V m c main_arg0 (ix2 (gr t r) (gk t k)) := by
  refine congrArg (V m c main_arg0) (ix2_ext ?_ ?_)
  · show win0_0.index t 0 * 1024 + 1 * r.val = t.val / 2 * 1024 + r.val
    rw [(e0 t).1]; omega
  · show win0_0.index t 1 * 1024 + 1 * k.val = 0 * 1024 + k.val
    rw [(e0 t).2]; omega

theorem blk1_at (t : Fin cfg0.N) (k : Fin 1024) (d : Fin 1024) : iblk m c 1 t (ix2 k d) = V m c main_arg1 (ix2 (gk t k) (gc t d)) := by
  refine congrArg (V m c main_arg1) (ix2_ext ?_ ?_)
  · show win0_1.index t 0 * 1024 + 1 * k.val = 0 * 1024 + k.val
    rw [(e1 t).1]; omega
  · show win0_1.index t 1 * 1024 + 1 * d.val = t.val / 1 % 2 * 1024 + d.val
    rw [(e1 t).2]; omega

theorem blk2_at (t : Fin cfg0.N) (d : Fin 1024) : iblk m c 2 t (ix2 0 d) = V m c main_arg2 (ix2 0 (gc t d)) := by
  refine congrArg (V m c main_arg2) (ix2_ext ?_ ?_)
  · show win0_2.index t 0 * 1 + 1 * 0 = 0
    rw [(e2 t).1]
  · show win0_2.index t 1 * 1024 + 1 * d.val = t.val / 1 % 2 * 1024 + d.val
    rw [(e2 t).2]; omega

/-- What one grid point adds. -/
theorem add_at (t : Fin cfg0.N) (y : Vec Ideal S1024x1024 .f32) (r : Fin 1024) (d : Fin 1024) : k0_pay2 (F := Ideal) y (iblk m c 0 t) (iblk m c 1 t) (ix2 r d)
    = y (ix2 r d) + ∑ k ∈ Finset.range 1024, term (rowNN (V m c main_arg0) (V m c main_arg1) (gr t r) (gc t d)) (0 * 1024 + k) :=
  (pay2_at _ _ _ r d).trans (congrArg (y (ix2 r d) + ·) (sum_part fun k => ⟨(gk t k).isLt, congrArg₂ (· * ·) (blk0_at m c t r k) (blk1_at m c t k d)⟩))

/-- An entry of the result. -/
def res (xa : Mat 2048 1024) (xb : Mat 1024 2048) (x2 : Mat 1 2048) (i : Fin 2048) (j : Fin 2048) : EReal := mulNN xa xb i j + x2 (ix2 0 j)

theorem last_at (t : Fin cfg0.N) (r : Fin 1024) (d : Fin 1024) : outsAt0 m c t (ix2 r d) = res (V m c main_arg0) (V m c main_arg1) (V m c main_arg2) (gr t r) (gc t d) := by
  unfold outsAt0
  rw [out_A, pay3_at]
  refine congrArg₂ (· + ·) ?_ (blk2_at m c t d)
  rw [add_at, pay1_at, zero_add, Nat.zero_mul]
  simp only [Nat.zero_add]
  exact sum_term _

theorem final : (dats m 0 c).arrAt 3 cfg0.N = entries (res (V m c main_arg0) (V m c main_arg1) (V m c main_arg2)) := by
  refine (dats m 0 c).arrAt_eq_of_covers 3 _ (by decide +kernel) fun t hf y => ?_
  blk_simp
  rw [after0_3]
  revert y
  intro (y : S1024x1024.Idx)
  idx_vars y
  rw [last_at m c t y0 y1]
  refine congrArg₂ (res (V m c main_arg0) (V m c main_arg1) (V m c main_arg2)) (Fin.ext ?_) (Fin.ext ?_)
  · show t.val / 2 * 1024 + y0.val = win0_3.index t 0 * 1024 + 1 * y0.val
    rw [(e3 t).1]; omega
  · show t.val / 1 % 2 * 1024 + y1.val = win0_3.index t 1 * 1024 + 1 * y1.val
    rw [(e3 t).2]; omega

theorem agree : algebraic_Kernel16Ideal_Reference16Ideal (hKernel16Ideal := Cert.Kernel16Ideal.Gen.facts) (hReference16Ideal := Cert.Reference16Ideal.Gen.facts) := by
  intro m g m' g' _ hagree
  refine ⟨fun c => entries (res (m (c.tc.loc main_arg0)) (m (c.tc.loc main_arg1)) (m (c.tc.loc main_arg2))), ?_, ?_⟩
  · refine (θ_run _ _ _).mono (fun r h c => ⟨(h c).1.trans ((final m c).trans ?_), (h c).2⟩) (Value.run_blocks (F := Ideal) m g)
    rw [V_main_arg0, V_main_arg1, V_main_arg2]
  · refine (θ_run _ _ _).mono (fun r h c => ⟨(h c).1.trans ?_, (h c).2⟩) (Cert.Reference16Ideal.Value.run (F := Ideal) m' g')
    rw [(hagree c).1, (hagree c).2.1, (hagree c).2.2]
    funext i
    idx_vars i
    show _ = res (m (c.tc.loc main_arg0)) (m (c.tc.loc main_arg1)) (m (c.tc.loc main_arg2)) i0 i1
    unfold res mulNN rowNN
    pointwise

end Cert.Proof.ConvIn

end
-- ==== Proof.ConvOut.lean ====
/-
  The convolution block's output projection with its bias, added to the residual stream.
-/
module

public import proofs.«01_k».proof.Defs
public import proofs.«01_k».proof.Proof.Gen.Kernel17Ideal.Value
public import proofs.«01_k».proof.Proof.Gen.Reference17Ideal.Run
public import proofs.«01_k».proof.Proof.Tiles
public import Idealize.ShloMosaic.Lib.Pipeline.ValueKit

@[expose] public section

noncomputable section

namespace Cert.Proof.ConvOut

open Idealize.ShloMosaic Idealize.SL.Sem Cert.Kernel17Ideal Cert.Kernel17Ideal.Gen
open Idealize.ShloMosaic.TcCoe
open Idealize.ShloMosaic.Pipeline (Dat Cfg Window)

section Cases

variable (c : Dev nD) (i : grid0.Coords)
  (arg3 : Memref sig .tc .vmem S1024x1024 .bf16) (harg3 : arg3.IsWhole)
  (arg4 : Memref sig .tc .vmem S1024x1024 .bf16) (harg4 : arg4.IsWhole)
  (arg5 : Memref sig .tc .vmem S1x1024 .f32) (harg5 : arg5.IsWhole)
  (arg6 : Memref sig .tc .vmem S1024x1024 .f32) (harg6 : arg6.IsWhole)
  (arg7 : Memref sig .tc .vmem S1024x1024 .f32) (harg7 : arg7.IsWhole)
  (arg8 : Memref sig .tc .vmem S1024x1024 .f32) (harg8 : arg8.IsWhole)
  (x0 : Vec Ideal S1024x1024 .bf16) (x1 : Vec Ideal S1024x1024 .bf16) (x2 : Vec Ideal S1x1024 .f32) (x3 : Vec Ideal S1024x1024 .f32) (y : Vec Ideal S1024x1024 .f32)

theorem out_A (hc0 : cond0_0 i) (hc1 : cond0_1 i) :
    out0_A_4 c i arg3 harg3 arg4 harg4 arg5 harg5 arg6 harg6 arg7 harg7 arg8 harg8 hc0 hc1 x0 x1 x2 x3 = k0_pay3 (k0_pay2 (k0_pay1 (F := Ideal)) x0 x1) x2 x3 := by
  unfold out0_A_4
  rw [View.read_writes_eq_canon _ _ _ (cover0_A_4 c i arg3 harg3 arg4 harg4 arg5 harg5 arg6 harg6 arg7 harg7 arg8 harg8 hc0 hc1 x0 x1 x2 x3)]
  unfold kernelRun0_A
  dsimp only
  try sl_unfold_words
  rw [View.canon_unit_zero off2, View.readCov_cons_unit_lit' (S := S1024x1024) _ _ _ _ _ (by decide) (by decide), View.readCov_unit_zero (S := S1024x1024) _ off2]
  simp only [View.readAt_eq_ld, harg3.read_unread, harg4.read_unread, harg5.read_unread, harg6.read_unread, harg8.read_unread,
    View.ld_unit_zero (S := S1024x1024) off2, View.ld_unit_zero (S := S1x1024) off2, shapeCast_self]

end Cases

/-! ## The body's values at an index -/

theorem pay1_at (r : Fin 1024) (d : Fin 1024) : k0_pay1 (F := Ideal) (ix2 r d) = 0 := by
  pointwise [k0_pay1]

theorem pay2_at (y : Vec Ideal S1024x1024 .f32) (x0 : Vec Ideal S1024x1024 .bf16) (x1 : Vec Ideal S1024x1024 .bf16) (r : Fin 1024) (d : Fin 1024) :
    k0_pay2 (F := Ideal) y x0 x1 (ix2 r d) = y (ix2 r d) + ∑ k : Fin 1024, ((x0 (ix2 r k) : EReal) * x1 (ix2 k d) : EReal) := by
  pointwise [k0_pay2]

theorem pay3_at (y : Vec Ideal S1024x1024 .f32) (x2 : Vec Ideal S1x1024 .f32) (x3 : Vec Ideal S1024x1024 .f32) (r : Fin 1024) (d : Fin 1024) :
    k0_pay3 (F := Ideal) y x2 x3 (ix2 r d) = (y (ix2 r d) + x2 (ix2 0 d) + x3 (ix2 r d) : EReal) := by
  pointwise [k0_pay3]

/-! ## The blocks -/

variable (m : (ℓ : Loc nD τ sig) → Buf (Elt Ideal) ℓ) (c : Dev nD)

theorem e0 : ∀ t : Fin cfg0.N, win0_0.index t 0 = t.val / 1 ∧ win0_0.index t 1 = 0 := by decide +kernel
theorem e1 : ∀ t : Fin cfg0.N, win0_1.index t 0 = 0 ∧ win0_1.index t 1 = 0 := by decide +kernel
theorem e2 : ∀ t : Fin cfg0.N, win0_2.index t 0 = 0 ∧ win0_2.index t 1 = 0 := by decide +kernel
theorem e3 : ∀ t : Fin cfg0.N, win0_3.index t 0 = t.val / 1 ∧ win0_3.index t 1 = 0 := by decide +kernel
theorem e4 : ∀ t : Fin cfg0.N, win0_4.index t 0 = t.val / 1 ∧ win0_4.index t 1 = 0 := by decide +kernel

/-- The row and the column of the product that an entry of a point's block is, and a position along the summed axis. -/
def gr (t : Fin cfg0.N) (r : Fin 1024) : Fin 2048 := ⟨t.val / 1 * 1024 + r.val, by have : t.val < 2 := t.isLt; omega⟩
def gc (t : Fin cfg0.N) (d : Fin 1024) : Fin 1024 := ⟨0 * 1024 + d.val, by have : t.val < 2 := t.isLt; omega⟩
def gk (t : Fin cfg0.N) (k : Fin 1024) : Fin 1024 := ⟨0 * 1024 + k.val, by have : t.val < 2 := t.isLt; omega⟩

theorem blk0_at (t : Fin cfg0.N) (r : Fin 1024) (k : Fin 1024) : iblk m c 0 t (ix2 r k) = V m c main_arg0 (ix2 (gr t r) (gk t k)) := by
  refine congrArg (V m c main_arg0) (ix2_ext ?_ ?_)
  · show win0_0.index t 0 * 1024 + 1 * r.val = t.val / 1 * 1024 + r.val
    rw [(e0 t).1]; omega
  · show win0_0.index t 1 * 1024 + 1 * k.val = 0 * 1024 + k.val
    rw [(e0 t).2]; omega

theorem blk1_at (t : Fin cfg0.N) (k : Fin 1024) (d : Fin 1024) : iblk m c 1 t (ix2 k d) = V m c main_arg1 (ix2 (gk t k) (gc t d)) := by
  refine congrArg (V m c main_arg1) (ix2_ext ?_ ?_)
  · show win0_1.index t 0 * 1024 + 1 * k.val = 0 * 1024 + k.val
    rw [(e1 t).1]; omega
  · show win0_1.index t 1 * 1024 + 1 * d.val = 0 * 1024 + d.val
    rw [(e1 t).2]; omega

theorem blk2_at (t : Fin cfg0.N) (d : Fin 1024) : iblk m c 2 t (ix2 0 d) = V m c main_arg2 (ix2 0 (gc t d)) := by
  refine congrArg (V m c main_arg2) (ix2_ext ?_ ?_)
  · show win0_2.index t 0 * 1 + 1 * 0 = 0
    rw [(e2 t).1]
  · show win0_2.index t 1 * 1024 + 1 * d.val = 0 * 1024 + d.val
    rw [(e2 t).2]; omega

theorem blk3_at (t : Fin cfg0.N) (r : Fin 1024) (d : Fin 1024) : iblk m c 3 t (ix2 r d) = V m c main_arg3 (ix2 (gr t r) (gc t d)) := by
  refine congrArg (V m c main_arg3) (ix2_ext ?_ ?_)
  · show win0_3.index t 0 * 1024 + 1 * r.val = t.val / 1 * 1024 + r.val
    rw [(e3 t).1]; omega
  · show win0_3.index t 1 * 1024 + 1 * d.val = 0 * 1024 + d.val
    rw [(e3 t).2]; omega

/-- What one grid point adds. -/
theorem add_at (t : Fin cfg0.N) (y : Vec Ideal S1024x1024 .f32) (r : Fin 1024) (d : Fin 1024) : k0_pay2 (F := Ideal) y (iblk m c 0 t) (iblk m c 1 t) (ix2 r d)
    = y (ix2 r d) + ∑ k ∈ Finset.range 1024, term (rowNN (V m c main_arg0) (V m c main_arg1) (gr t r) (gc t d)) (0 * 1024 + k) :=
  (pay2_at _ _ _ r d).trans (congrArg (y (ix2 r d) + ·) (sum_part fun k => ⟨(gk t k).isLt, congrArg₂ (· * ·) (blk0_at m c t r k) (blk1_at m c t k d)⟩))

/-- An entry of the result. -/
def res (xa : Mat 2048 1024) (xb : Mat 1024 1024) (x2 : Mat 1 1024) (x3 : Mat 2048 1024) (i : Fin 2048) (j : Fin 1024) : EReal := mulNN xa xb i j + x2 (ix2 0 j) + x3 (ix2 i j)

theorem last_at (t : Fin cfg0.N) (r : Fin 1024) (d : Fin 1024) : outsAt0 m c t (ix2 r d) = res (V m c main_arg0) (V m c main_arg1) (V m c main_arg2) (V m c main_arg3) (gr t r) (gc t d) := by
  unfold outsAt0
  rw [out_A, pay3_at]
  refine congrArg₂ (· + ·) (congrArg₂ (· + ·) ?_ (blk2_at m c t d)) (blk3_at m c t r d)
  rw [add_at, pay1_at, zero_add, Nat.zero_mul]
  simp only [Nat.zero_add]
  exact sum_term _

theorem final : (dats m 0 c).arrAt 4 cfg0.N = entries (res (V m c main_arg0) (V m c main_arg1) (V m c main_arg2) (V m c main_arg3)) := by
  refine (dats m 0 c).arrAt_eq_of_covers 4 _ (by decide +kernel) fun t hf y => ?_
  blk_simp
  rw [after0_4]
  revert y
  intro (y : S1024x1024.Idx)
  idx_vars y
  rw [last_at m c t y0 y1]
  refine congrArg₂ (res (V m c main_arg0) (V m c main_arg1) (V m c main_arg2) (V m c main_arg3)) (Fin.ext ?_) (Fin.ext ?_)
  · show t.val / 1 * 1024 + y0.val = win0_4.index t 0 * 1024 + 1 * y0.val
    rw [(e4 t).1]; omega
  · show 0 * 1024 + y1.val = win0_4.index t 1 * 1024 + 1 * y1.val
    rw [(e4 t).2]; omega

theorem agree : algebraic_Kernel17Ideal_Reference17Ideal (hKernel17Ideal := Cert.Kernel17Ideal.Gen.facts) (hReference17Ideal := Cert.Reference17Ideal.Gen.facts) := by
  intro m g m' g' _ hagree
  refine ⟨fun c => entries (res (m (c.tc.loc main_arg0)) (m (c.tc.loc main_arg1)) (m (c.tc.loc main_arg2)) (m (c.tc.loc main_arg3))), ?_, ?_⟩
  · refine (θ_run _ _ _).mono (fun r h c => ⟨(h c).1.trans ((final m c).trans ?_), (h c).2⟩) (Value.run_blocks (F := Ideal) m g)
    rw [V_main_arg0, V_main_arg1, V_main_arg2, V_main_arg3]
  · refine (θ_run _ _ _).mono (fun r h c => ⟨(h c).1.trans ?_, (h c).2⟩) (Cert.Reference17Ideal.Value.run (F := Ideal) m' g')
    rw [(hagree c).1, (hagree c).2.1, (hagree c).2.2.1, (hagree c).2.2.2]
    funext i
    idx_vars i
    show _ = res (m (c.tc.loc main_arg0)) (m (c.tc.loc main_arg1)) (m (c.tc.loc main_arg2)) (m (c.tc.loc main_arg3)) i0 i1
    unfold res mulNN rowNN
    pointwise
    exact add_comm _ _

end Cert.Proof.ConvOut

end
-- ==== Proof.MemKv.lean ====
/-
  The memory's key/value projection.
-/
module

public import proofs.«01_k».proof.Defs
public import proofs.«01_k».proof.Proof.Gen.Kernel18Ideal.Value
public import proofs.«01_k».proof.Proof.Gen.Reference18Ideal.Run
public import proofs.«01_k».proof.Proof.Tiles
public import Idealize.ShloMosaic.Lib.Pipeline.ValueKit

@[expose] public section

noncomputable section

namespace Cert.Proof.MemKv

open Idealize.ShloMosaic Idealize.SL.Sem Cert.Kernel18Ideal Cert.Kernel18Ideal.Gen
open Idealize.ShloMosaic.TcCoe
open Idealize.ShloMosaic.Pipeline (Dat Cfg Window)

section Cases

variable (c : Dev nD) (i : grid0.Coords)
  (arg3 : Memref sig .tc .vmem S256x1024 .bf16) (harg3 : arg3.IsWhole)
  (arg4 : Memref sig .tc .vmem S1024x1024 .bf16) (harg4 : arg4.IsWhole)
  (arg5 : Memref sig .tc .vmem S256x1024 .bf16) (harg5 : arg5.IsWhole)
  (arg6 : Memref sig .tc .vmem S256x1024 .f32) (harg6 : arg6.IsWhole)
  (x0 : Vec Ideal S256x1024 .bf16) (x1 : Vec Ideal S1024x1024 .bf16) (y : Vec Ideal S256x1024 .f32)

theorem out_A (hc0 : cond0_0 i) (hc1 : cond0_1 i) :
    out0_A_2 c i arg3 harg3 arg4 harg4 arg5 harg5 arg6 harg6 hc0 hc1 x0 x1 = k0_pay3 (k0_pay2 (k0_pay1 (F := Ideal)) x0 x1) := by
  unfold out0_A_2
  rw [View.read_writes_eq_canon _ _ _ (cover0_A_2 c i arg3 harg3 arg4 harg4 arg5 harg5 arg6 harg6 hc0 hc1 x0 x1)]
  unfold kernelRun0_A
  dsimp only
  try sl_unfold_words
  rw [View.canon_unit_zero off2, View.readCov_cons_unit_lit' (S := S256x1024) _ _ _ _ _ (by decide) (by decide), View.readCov_unit_zero (S := S256x1024) _ off2]
  simp only [View.readAt_eq_ld, harg3.read_unread, harg4.read_unread, harg6.read_unread,
    View.ld_unit_zero (S := S256x1024) off2, View.ld_unit_zero (S := S1024x1024) off2, shapeCast_self]

end Cases

/-! ## The body's values at an index -/

theorem pay1_at (r : Fin 256) (d : Fin 1024) : k0_pay1 (F := Ideal) (ix2 r d) = 0 := by
  pointwise [k0_pay1]

theorem pay2_at (y : Vec Ideal S256x1024 .f32) (x0 : Vec Ideal S256x1024 .bf16) (x1 : Vec Ideal S1024x1024 .bf16) (r : Fin 256) (d : Fin 1024) :
    k0_pay2 (F := Ideal) y x0 x1 (ix2 r d) = y (ix2 r d) + ∑ k : Fin 1024, ((x0 (ix2 r k) : EReal) * x1 (ix2 k d) : EReal) := by
  pointwise [k0_pay2]

theorem pay3_at (y : Vec Ideal S256x1024 .f32) (r : Fin 256) (d : Fin 1024) :
    k0_pay3 (F := Ideal) y (ix2 r d) = (y (ix2 r d) : EReal) := by
  pointwise [k0_pay3]

/-! ## The blocks -/

variable (m : (ℓ : Loc nD τ sig) → Buf (Elt Ideal) ℓ) (c : Dev nD)

theorem e0 : ∀ t : Fin cfg0.N, win0_0.index t 0 = t.val / 2 ∧ win0_0.index t 1 = 0 := by decide +kernel
theorem e1 : ∀ t : Fin cfg0.N, win0_1.index t 0 = 0 ∧ win0_1.index t 1 = t.val / 1 % 2 := by decide +kernel
theorem e2 : ∀ t : Fin cfg0.N, win0_2.index t 0 = t.val / 2 ∧ win0_2.index t 1 = t.val / 1 % 2 := by decide +kernel

/-- The row and the column of the product that an entry of a point's block is, and a position along the summed axis. -/
def gr (t : Fin cfg0.N) (r : Fin 256) : Fin 256 := ⟨t.val / 2 * 256 + r.val, by have : t.val < 2 := t.isLt; omega⟩
def gc (t : Fin cfg0.N) (d : Fin 1024) : Fin 2048 := ⟨t.val / 1 % 2 * 1024 + d.val, by have : t.val < 2 := t.isLt; omega⟩
def gk (t : Fin cfg0.N) (k : Fin 1024) : Fin 1024 := ⟨0 * 1024 + k.val, by have : t.val < 2 := t.isLt; omega⟩

theorem blk0_at (t : Fin cfg0.N) (r : Fin 256) (k : Fin 1024) : iblk m c 0 t (ix2 r k) = V m c main_arg0 (ix2 (gr t r) (gk t k)) := by
  refine congrArg (V m c main_arg0) (ix2_ext ?_ ?_)
  · show win0_0.index t 0 * 256 + 1 * r.val = t.val / 2 * 256 + r.val
    rw [(e0 t).1]; omega
  · show win0_0.index t 1 * 1024 + 1 * k.val = 0 * 1024 + k.val
    rw [(e0 t).2]; omega

theorem blk1_at (t : Fin cfg0.N) (k : Fin 1024) (d : Fin 1024) : iblk m c 1 t (ix2 k d) = V m c main_arg1 (ix2 (gk t k) (gc t d)) := by
  refine congrArg (V m c main_arg1) (ix2_ext ?_ ?_)
  · show win0_1.index t 0 * 1024 + 1 * k.val = 0 * 1024 + k.val
    rw [(e1 t).1]; omega
  · show win0_1.index t 1 * 1024 + 1 * d.val = t.val / 1 % 2 * 1024 + d.val
    rw [(e1 t).2]; omega

/-- What one grid point adds. -/
theorem add_at (t : Fin cfg0.N) (y : Vec Ideal S256x1024 .f32) (r : Fin 256) (d : Fin 1024) : k0_pay2 (F := Ideal) y (iblk m c 0 t) (iblk m c 1 t) (ix2 r d)
    = y (ix2 r d) + ∑ k ∈ Finset.range 1024, term (rowNN (V m c main_arg0) (V m c main_arg1) (gr t r) (gc t d)) (0 * 1024 + k) :=
  (pay2_at _ _ _ r d).trans (congrArg (y (ix2 r d) + ·) (sum_part fun k => ⟨(gk t k).isLt, congrArg₂ (· * ·) (blk0_at m c t r k) (blk1_at m c t k d)⟩))

theorem last_at (t : Fin cfg0.N) (r : Fin 256) (d : Fin 1024) : outsAt0 m c t (ix2 r d) = mulNN (V m c main_arg0) (V m c main_arg1) (gr t r) (gc t d) := by
  unfold outsAt0
  rw [out_A, pay3_at]
  rw [add_at, pay1_at, zero_add, Nat.zero_mul]
  simp only [Nat.zero_add]
  exact sum_term _

theorem final : (dats m 0 c).arrAt 2 cfg0.N = entries (mulNN (V m c main_arg0) (V m c main_arg1)) := by
  refine (dats m 0 c).arrAt_eq_of_covers 2 _ (by decide +kernel) fun t hf y => ?_
  blk_simp
  rw [after0_2]
  revert y
  intro (y : S256x1024.Idx)
  idx_vars y
  rw [last_at m c t y0 y1]
  refine congrArg₂ (mulNN (V m c main_arg0) (V m c main_arg1)) (Fin.ext ?_) (Fin.ext ?_)
  · show t.val / 2 * 256 + y0.val = win0_2.index t 0 * 256 + 1 * y0.val
    rw [(e2 t).1]; omega
  · show t.val / 1 % 2 * 1024 + y1.val = win0_2.index t 1 * 1024 + 1 * y1.val
    rw [(e2 t).2]; omega

theorem agree : algebraic_Kernel18Ideal_Reference18Ideal (hKernel18Ideal := Cert.Kernel18Ideal.Gen.facts) (hReference18Ideal := Cert.Reference18Ideal.Gen.facts) := by
  intro m g m' g' _ hagree
  refine ⟨fun c => entries (mulNN (m (c.tc.loc main_arg0)) (m (c.tc.loc main_arg1))), ?_, ?_⟩
  · refine (θ_run _ _ _).mono (fun r h c => ⟨(h c).1.trans ((final m c).trans ?_), (h c).2⟩) (Value.run_blocks (F := Ideal) m g)
    rw [V_main_arg0, V_main_arg1]
  · refine (θ_run _ _ _).mono (fun r h c => ⟨(h c).1.trans ?_, (h c).2⟩) (Cert.Reference18Ideal.Value.run (F := Ideal) m' g')
    rw [(hagree c).1, (hagree c).2]
    funext i
    idx_vars i
    show _ = mulNN (m (c.tc.loc main_arg0)) (m (c.tc.loc main_arg1)) i0 i1
    unfold mulNN rowNN
    pointwise

end Cert.Proof.MemKv

end
-- ==== Proof.FfnIn.lean ====
/-
  The gated MLP's input projection: the product the call leaves.
-/
module

public import proofs.«01_k».proof.Proof.Gen.Kernel19Ideal.Read
public import proofs.«01_k».proof.Proof.Tiles
public import Idealize.ShloMosaic.Lib.Pipeline.ValueKit

@[expose] public section

noncomputable section

namespace Cert.Proof.FfnIn

open Idealize.ShloMosaic Idealize.SL.Sem Cert.Kernel19Ideal Cert.Kernel19Ideal.Gen
open Idealize.ShloMosaic.TcCoe
open Idealize.ShloMosaic.Pipeline (Dat Cfg Window)

section Cases

variable (c : Dev nD) (i : grid0.Coords)
  (arg3 : Memref sig .tc .vmem S1024x1024 .bf16) (harg3 : arg3.IsWhole)
  (arg4 : Memref sig .tc .vmem S1x1024x768 .bf16) (harg4 : arg4.IsWhole)
  (arg5 : Memref sig .tc .vmem S1024x768 .f32) (harg5 : arg5.IsWhole)
  (arg6 : Memref sig .tc .vmem S1024x768 .f32) (harg6 : arg6.IsWhole)
  (x0 : Vec Ideal S1024x1024 .bf16) (x1 : Vec Ideal S1x1024x768 .bf16) (y : Vec Ideal S1024x768 .f32)

theorem out_A (hc0 : cond0_0 i) (hc1 : cond0_1 i) :
    out0_A_2 c i arg3 harg3 arg4 harg4 arg5 harg5 arg6 harg6 hc0 hc1 x0 x1 = k0_pay2 (k0_pay1 (F := Ideal)) x0 x1 := by
  unfold out0_A_2
  rw [View.read_writes_eq_canon _ _ _ (cover0_A_2 c i arg3 harg3 arg4 harg4 arg5 harg5 arg6 harg6 hc0 hc1 x0 x1)]
  unfold kernelRun0_A
  dsimp only
  try sl_unfold_words
  rw [View.canon_unit_zero off2, View.readCov_cons_unit_lit' (S := S1024x768) _ _ _ _ _ (by decide) (by decide), View.readCov_unit_zero (S := S1024x768) _ off2]
  simp only [View.readAt_eq_ld, harg3.read_unread, harg4.read_unread, harg6.read_unread,
    View.ld_unit_zero (S := S1024x1024) off2, View.ld_unit_zero (S := S1x1024x768) off3, View.ld_unit_zero (S := S1024x768) off2, shapeCast_self]

end Cases

/-! ## The body's values at an index -/

theorem pay1_at (r : Fin 1024) (d : Fin 768) : k0_pay1 (F := Ideal) (ix2 r d) = 0 := by
  pointwise [k0_pay1]

theorem pay2_at (y : Vec Ideal S1024x768 .f32) (x0 : Vec Ideal S1024x1024 .bf16) (x1 : Vec Ideal S1x1024x768 .bf16) (r : Fin 1024) (d : Fin 768) :
    k0_pay2 (F := Ideal) y x0 x1 (ix2 r d) = y (ix2 r d) + ∑ k : Fin 1024, ((x0 (ix2 r k) : EReal) * x1 (ix3 0 k d) : EReal) := by
  pointwise [k0_pay2]

/-! ## The blocks -/

variable (m : (ℓ : Loc nD τ sig) → Buf (Elt Ideal) ℓ) (c : Dev nD)

/-- The two operands as the call finds them. -/
abbrev L : (⟨2, ![2048, 1024]⟩ : Shape).Idx → EReal := V m c main_arg1
abbrev R : (⟨3, ![8, 4096, 768]⟩ : Shape).Idx → EReal := V m c main_v2

theorem e0 : ∀ t : Fin cfg0.N, win0_0.index t 0 = t.val / 8 ∧ win0_0.index t 1 = 0 := by decide +kernel
theorem e1 : ∀ t : Fin cfg0.N, win0_1.index t 0 = t.val / 1 % 8 ∧ win0_1.index t 1 = 3 ∧ win0_1.index t 2 = 0 := by decide +kernel
theorem e2 : ∀ t : Fin cfg0.N, win0_2.index t 0 = t.val / 8 ∧ win0_2.index t 1 = t.val / 1 % 8 := by decide +kernel

/-- The row and the column of the product that an entry of a point's block is. -/
def gr (t : Fin cfg0.N) (r : Fin 1024) : Fin 2048 := ⟨t.val / 8 * 1024 + r.val, by have : t.val < 16 := t.isLt; omega⟩
def gc (t : Fin cfg0.N) (d : Fin 768) : Fin 6144 := ⟨t.val / 1 % 8 * 768 + d.val, by have : t.val < 16 := t.isLt; omega⟩

/-- A product's summand, by its number. -/
def lft (a : Fin 2048) (k : Fin 1024) : EReal := L m c (ix2 a k)
def rgt (k : Fin 1024) (b : Fin 6144) : EReal := R m c (ix3 ⟨b.val / 768, by omega⟩ ⟨3072 + k.val, by omega⟩ ⟨b.val % 768, by omega⟩)

/-- The position `k` of a point's block along the summed axis. -/
def gk (t : Fin cfg0.N) (k : Fin 1024) : Fin 1024 := ⟨0 * 1024 + k.val, by have : t.val < 16 := t.isLt; omega⟩

theorem blk0_at (t : Fin cfg0.N) (r : Fin 1024) (k : Fin 1024) : iblk m c 0 t (ix2 r k) = lft m c (gr t r) (gk t k) := by
  show V m c main_arg1 (((cfg0.win 0).blk t).view.emb (ix2 r k)) = V m c main_arg1 _
  refine congrArg (V m c main_arg1) (funext fun a => Fin.ext ?_)
  fin_cases a
  · show win0_0.index t 0 * 1024 + 1 * r.val = t.val / 8 * 1024 + r.val
    rw [(e0 t).1]; omega
  · show win0_0.index t 1 * 1024 + 1 * k.val = 0 * 1024 + k.val
    rw [(e0 t).2]; omega

theorem blk1_at (t : Fin cfg0.N) (k : Fin 1024) (d : Fin 768) : iblk m c 1 t (ix3 0 k d) = rgt m c (gk t k) (gc t d) := by
  show V m c main_v2 (((cfg0.win 1).blk t).view.emb (ix3 0 k d)) = V m c main_v2 _
  refine congrArg (V m c main_v2) (funext fun a => Fin.ext ?_)
  fin_cases a
  · show win0_1.index t 0 * 1 + 1 * 0 = (t.val / 1 % 8 * 768 + d.val) / 768
    rw [(e1 t).1]; omega
  · show win0_1.index t 1 * 1024 + 1 * k.val = 3072 + (0 * 1024 + k.val)
    rw [(e1 t).2.1]; omega
  · show win0_1.index t 2 * 768 + 1 * d.val = (t.val / 1 % 8 * 768 + d.val) % 768
    rw [(e1 t).2.2]; omega

/-- The summand of an entry of the product, by its position along the summed axis. -/
def term (a : Fin 2048) (b : Fin 6144) (n : ℕ) : EReal :=
  if hn : n < 1024 then lft m c a ⟨n, hn⟩ * rgt m c ⟨n, hn⟩ b else 0

/-- What one grid point adds. -/
theorem add_at (t : Fin cfg0.N) (y : Vec Ideal S1024x768 .f32) (r : Fin 1024) (d : Fin 768) :
    k0_pay2 (F := Ideal) y (iblk m c 0 t) (iblk m c 1 t) (ix2 r d)
      = y (ix2 r d) + ∑ k ∈ Finset.range 1024, term m c (gr t r) (gc t d) (0 * 1024 + k) := by
  rw [pay2_at, Finset.sum_range]
  refine congrArg (y (ix2 r d) + ·) (Finset.sum_congr rfl fun k _ => ?_)
  rw [term, dif_pos (show 0 * 1024 + k.val < 1024 from (gk t k).isLt)]
  exact congrArg₂ (· * ·) (blk0_at m c t r k) (blk1_at m c t k d)

/-- The product. -/
def prod (a : Fin 2048) (b : Fin 6144) : EReal := ∑ k, lft m c a k * rgt m c k b

theorem last_at (t : Fin cfg0.N) (r : Fin 1024) (d : Fin 768) :
    outsAt0 m c t (ix2 r d) = prod m c (gr t r) (gc t d) := by
  unfold outsAt0
  rw [out_A]
  rw [add_at, pay1_at, zero_add, Finset.sum_range]
  refine Finset.sum_congr rfl fun k _ => ?_
  rw [show 0 * 1024 + k.val = k.val by omega, term, dif_pos k.isLt]

theorem final : (dats m 0 c).arrAt 2 cfg0.N = fun i : (⟨2, ![2048, 6144]⟩ : Shape).Idx => prod m c (i 0) (i 1) := by
  refine (dats m 0 c).arrAt_eq_of_covers 2 _ (by decide +kernel) fun t hf y => ?_
  blk_simp
  rw [after0_2]
  revert y
  intro (y : S1024x768.Idx)
  idx_vars y
  rw [last_at m c t y0 y1]
  refine congrArg₂ (prod m c) (Fin.ext ?_) (Fin.ext ?_)
  · show t.val / 8 * 1024 + y0.val = win0_2.index t 0 * 1024 + 1 * y0.val
    rw [(e2 t).1]; omega
  · show t.val / 1 % 8 * 768 + y1.val = win0_2.index t 1 * 768 + 1 * y1.val
    rw [(e2 t).2]; omega

end Cert.Proof.FfnIn

end
-- ==== Proof.FfnInClaim.lean ====
/-
  The gated MLP's input projection: the call's result is the reference's product.
-/
module

public import proofs.«01_k».proof.Defs
public import proofs.«01_k».proof.Proof.FfnIn
public import proofs.«01_k».proof.Proof.Gen.Reference19Ideal.Read

@[expose] public section

noncomputable section

namespace Cert.Proof.FfnIn

open Idealize.ShloMosaic Idealize.SL.Sem Cert.Kernel19Ideal Cert.Kernel19Ideal.Gen Idealize.ShloMosaic.StableHlo
open Idealize.ShloMosaic.TcCoe

variable (m : (ℓ : Loc nD τ sig) → Buf (Elt Ideal) ℓ) (c : Dev nD)

/-- The product. -/
def spec (w : (⟨3, ![4, 1024, 5632]⟩ : Shape).Idx → EReal) (h : (⟨2, ![2048, 1024]⟩ : Shape).Idx → EReal) : S2048x5632.Idx → EReal :=
  fun i => ∑ k : Fin 1024, h (ix2 (i 0) k) * w (ix3 3 k (i 1))

/-! ## The padded operand -/

theorem V_w (a : Fin 8) (b : Fin 1024) (k : Fin 768) (h : k.val < 704) :
    V m c main_v2 (ix3 a ⟨3072 + b.val, by omega⟩ k) = m (c.tc.loc main_arg0) (ix3 3 b ⟨a.val * 704 + k.val, by omega⟩) := by
  show after (List.flatten [hostOps0, hostOps0_1]) (fun rf => m ⟨c, rf⟩) (Proc.devRef .tc main_v2) (ix3 a ⟨3072 + b.val, by omega⟩ k) = _
  simp only [hostOps0, hostOps0_1, List.flatten_cons, List.flatten_nil, List.append_nil, List.cons_append, List.nil_append]
  after_results
  simp only [TRef.toBuf, TRef.ofBuf, cast_eq]
  pointwise
  rw [dif_pos (by omega)]
  refine congrArg (m (c.tc.loc main_arg0)) (congrArg₂ (fun p q => ix3 p q _) (Fin.ext ?_) (Fin.ext ?_))
  · show (3072 + b.val) / 1024 = 3
    omega
  · show (3072 + b.val) % 1024 = b.val
    omega

/-! ## The two results -/

theorem kernel_value : shapeCast S2048x5632 (extractStridedSlice S2048x8x704 ![0, 0, 0] (shapeCast S2048x8x768 (Value.reg_main_v3 m c) shapeCasts_S2048x6144_S2048x8x768) slices_S2048x8x768_S2048x8x704_0_0_0) shapeCasts_S2048x8x704_S2048x5632 = spec (m (c.tc.loc main_arg0)) (m (c.tc.loc main_arg1)) := by
  funext i
  idx_vars i
  have tail : ∀ r0 : S2048x6144.Idx → EReal, shapeCast S2048x5632 (extractStridedSlice S2048x8x704 ![0, 0, 0] (shapeCast S2048x8x768 r0 shapeCasts_S2048x6144_S2048x8x768) slices_S2048x8x768_S2048x8x704_0_0_0) shapeCasts_S2048x8x704_S2048x5632 (ix2 i0 i1) = r0 (ix2 i0 ⟨i1.val / 704 * 768 + i1.val % 704, by omega⟩) := by
    intro r0
    pointwise
  rw [tail, Value.reg_main_v3, final]
  show prod m c _ _ = spec _ _ _
  unfold prod spec
  refine Finset.sum_congr rfl fun k _ => ?_
  refine congrArg₂ (· * ·) ?_ ?_
  · show V m c main_arg1 (ix2 i0 k) = _
    rw [V_main_arg1]
    rfl
  · refine (V_w m c _ k _ (by show (i1.val / 704 * 768 + i1.val % 704) % 768 < 704; omega)).trans ?_
    exact congrArg (m (c.tc.loc main_arg0)) (congrArg (ix3 3 k) (Fin.ext (by show (i1.val / 704 * 768 + i1.val % 704) / 768 * 704 + (i1.val / 704 * 768 + i1.val % 704) % 768 = i1.val; omega)))

theorem reference_value (x0 x1) (i) : Cert.Reference19Ideal.Read.val_main_v4 (F := Ideal) x0 x1 i = spec x0 x1 i := by
  rw [Cert.Reference19Ideal.Read.val_main_v4_apply]
  refine Finset.sum_congr rfl fun k _ => ?_
  refine congrArg₂ (· * ·) ?_ ?_
  · rw [Cert.Reference19Ideal.Read.val_main_v0_apply]
    exact congrArg x1 (funext fun a => by fin_cases a <;> rfl)
  · rw [Cert.Reference19Ideal.Read.val_main_v3_apply, Cert.Reference19Ideal.Read.val_main_v2_apply, Cert.Reference19Ideal.Read.val_main_v1_apply]
    idx_vars i
    refine congrArg x0 (funext fun a => Fin.ext ?_)
    fin_cases a
    · rfl
    · show (k.val * 5632 + i1.val) / 5632 % 1024 = k.val
      omega
    · show (k.val * 5632 + i1.val) % 5632 = i1.val
      omega

theorem agree : algebraic_Kernel19Ideal_Reference19Ideal (hKernel19Ideal := Cert.Kernel19Ideal.Gen.facts) (hReference19Ideal := Cert.Reference19Ideal.Gen.facts) := by
  intro m g m' g' _ hagree
  refine ⟨fun c => spec (m (c.tc.loc main_arg0)) (m (c.tc.loc main_arg1)), ?_, ?_⟩
  · exact (θ_run _ _ _).mono (fun r h c => ⟨(h c).1.trans (kernel_value m c), (h c).2⟩) (Value.run (F := Ideal) m g)
  · refine (θ_run _ _ _).mono (fun r h c => ⟨(h c).1.trans ?_, (h c).2.1, (h c).2.2⟩) (Cert.Reference19Ideal.Value.run (F := Ideal) m' g')
    rw [(hagree c).1, (hagree c).2]
    exact funext fun i => reference_value _ _ i

end Cert.Proof.FfnIn

end
-- ==== Proof.FfnOut.lean ====
/-
  The gated MLP's output projection: what the call leaves.
-/
module

public import proofs.«01_k».proof.Proof.Gen.Kernel20Ideal.Value
public import proofs.«01_k».proof.Proof.Tiles
public import Idealize.ShloMosaic.Lib.Pipeline.ValueKit

@[expose] public section

noncomputable section

namespace Cert.Proof.FfnOut

open Idealize.ShloMosaic Idealize.SL.Sem Cert.Kernel20Ideal Cert.Kernel20Ideal.Gen
open Idealize.ShloMosaic.TcCoe
open Idealize.ShloMosaic.Pipeline (Dat Cfg Window)

section Cases

variable (c : Dev nD) (i : grid0.Coords)
  (arg3 : Memref sig .tc .vmem S1024x1024 .bf16) (harg3 : arg3.IsWhole)
  (arg4 : Memref sig .tc .vmem S1024x1024 .bf16) (harg4 : arg4.IsWhole)
  (arg5 : Memref sig .tc .vmem S1024x1024 .f32) (harg5 : arg5.IsWhole)
  (arg6 : Memref sig .tc .vmem S1024x1024 .f32) (harg6 : arg6.IsWhole)
  (arg7 : Memref sig .tc .vmem S1024x1024 .f32) (harg7 : arg7.IsWhole)
  (x0 : Vec Ideal S1024x1024 .bf16) (x1 : Vec Ideal S1024x1024 .bf16) (x2 : Vec Ideal S1024x1024 .f32) (y : Vec Ideal S1024x1024 .f32)

theorem scratch_A (hc0 : cond0_0 i) (hc1 : ¬cond0_1 i) :
    sout0_A_0 c i arg3 harg3 arg4 harg4 arg5 harg5 arg6 harg6 arg7 harg7 hc0 hc1 x0 x1 x2 = k0_pay2 (k0_pay1 (F := Ideal)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  try sl_unfold_words
  rw [View.canon_cons_unit_zero (S := S1024x1024) off2, View.readCov_unit_zero (S := S1024x1024) _ off2]
  simp only [View.readAt_eq_ld, harg3.read_unread, harg4.read_unread, harg5.read_unread, harg7.read_unread,
    View.ld_unit_zero (S := S1024x1024) off2, shapeCast_self]

theorem scratch_B (hc0 : ¬cond0_0 i) (hc1 : ¬cond0_1 i) :
    sout0_B_0 c i arg3 harg3 arg4 harg4 arg5 harg5 arg6 harg6 arg7 harg7 hc0 hc1 x0 x1 x2 y = k0_pay2 y x0 x1 := by
  unfold sout0_B_0
  rw [View.read_writes_eq_canon _ _ _ (scover0_B_0 c i arg3 harg3 arg4 harg4 arg5 harg5 arg6 harg6 arg7 harg7 hc0 hc1 x0 x1 x2 y)]
  unfold kernelRun0_B
  dsimp only
  try sl_unfold_words
  rw [View.canon_unit_zero off2]
  simp only [View.readAt_eq_ld, harg3.read_unread, harg4.read_unread, harg5.read_unread, harg7.read_unread,
    View.ld_unit_zero (S := S1024x1024) off2, shapeCast_self]

theorem scratch_C (hc0 : ¬cond0_0 i) (hc1 : cond0_1 i) :
    sout0_C_0 c i arg3 harg3 arg4 harg4 arg5 harg5 arg6 harg6 arg7 harg7 hc0 hc1 x0 x1 x2 y = k0_pay2 y x0 x1 := by
  unfold sout0_C_0
  rw [View.read_writes_eq_canon _ _ _ (scover0_C_0 c i arg3 harg3 arg4 harg4 arg5 harg5 arg6 harg6 arg7 harg7 hc0 hc1 x0 x1 x2 y)]
  unfold kernelRun0_C
  dsimp only
  try sl_unfold_words
  rw [View.canon_unit_zero off2]
  simp only [View.readAt_eq_ld, harg3.read_unread, harg4.read_unread, harg5.read_unread, harg7.read_unread,
    View.ld_unit_zero (S := S1024x1024) off2, shapeCast_self]

theorem out_C (hc0 : ¬cond0_0 i) (hc1 : cond0_1 i) :
    out0_C_3 c i arg3 harg3 arg4 harg4 arg5 harg5 arg6 harg6 arg7 harg7 hc0 hc1 x0 x1 x2 y = k0_pay3 (k0_pay2 y x0 x1) x2 := by
  unfold out0_C_3
  rw [View.read_writes_eq_canon _ _ _ (cover0_C_3 c i arg3 harg3 arg4 harg4 arg5 harg5 arg6 harg6 arg7 harg7 hc0 hc1 x0 x1 x2 y)]
  unfold kernelRun0_C
  dsimp only
  try sl_unfold_words
  rw [View.canon_unit_zero off2, View.readCov_unit_zero (S := S1024x1024) _ off2]
  simp only [View.readAt_eq_ld, harg3.read_unread, harg4.read_unread, harg5.read_unread, harg7.read_unread,
    View.ld_unit_zero (S := S1024x1024) off2, shapeCast_self]

end Cases

/-! ## The body's values at an index -/

theorem pay1_at (r : Fin 1024) (d : Fin 1024) : k0_pay1 (F := Ideal) (ix2 r d) = 0 := by
  pointwise [k0_pay1]

theorem pay2_at (y : Vec Ideal S1024x1024 .f32) (x0 : Vec Ideal S1024x1024 .bf16) (x1 : Vec Ideal S1024x1024 .bf16) (r : Fin 1024) (d : Fin 1024) :
    k0_pay2 (F := Ideal) y x0 x1 (ix2 r d) = y (ix2 r d) + ∑ k : Fin 1024, ((x0 (ix2 r k) : EReal) * x1 (ix2 k d) : EReal) := by
  pointwise [k0_pay2]

theorem pay3_at (y : Vec Ideal S1024x1024 .f32) (x2 : Vec Ideal S1024x1024 .f32) (r : Fin 1024) (d : Fin 1024) :
    k0_pay3 (F := Ideal) y x2 (ix2 r d) = (y (ix2 r d) + x2 (ix2 r d) : EReal) := by
  pointwise [k0_pay3]

/-! ## The blocks -/

variable (m : (ℓ : Loc nD τ sig) → Buf (Elt Ideal) ℓ) (c : Dev nD)

/-- The two operands as the call finds them. -/
abbrev L : (⟨2, ![2048, 3072]⟩ : Shape).Idx → EReal := V m c main_v2
abbrev R : (⟨2, ![3072, 1024]⟩ : Shape).Idx → EReal := V m c main_v5

theorem e0 : ∀ t : Fin cfg0.N, win0_0.index t 0 = t.val / 3 ∧ win0_0.index t 1 = t.val % 3 := by decide +kernel
theorem e1 : ∀ t : Fin cfg0.N, win0_1.index t 0 = t.val % 3 ∧ win0_1.index t 1 = 0 := by decide +kernel
theorem e2 : ∀ t : Fin cfg0.N, win0_2.index t 0 = t.val / 3 ∧ win0_2.index t 1 = 0 := by decide +kernel
theorem e3 : ∀ t : Fin cfg0.N, win0_3.index t 0 = t.val / 3 ∧ win0_3.index t 1 = 0 := by decide +kernel

/-- The row and the column of the product that an entry of a point's block is. -/
def gr (t : Fin cfg0.N) (r : Fin 1024) : Fin 2048 := ⟨t.val / 3 * 1024 + r.val, by have : t.val < 6 := t.isLt; omega⟩
def gc (t : Fin cfg0.N) (d : Fin 1024) : Fin 1024 := ⟨0 * 1024 + d.val, by have : t.val < 6 := t.isLt; omega⟩

/-- A product's summand, by its number. -/
def lft (a : Fin 2048) (k : Fin 3072) : EReal := L m c (ix2 a k)
def rgt (k : Fin 3072) (b : Fin 1024) : EReal := R m c (ix2 k b)

/-- The position `k` of a point's block along the summed axis. -/
def gk (t : Fin cfg0.N) (k : Fin 1024) : Fin 3072 := ⟨t.val % 3 * 1024 + k.val, by have : t.val < 6 := t.isLt; omega⟩

theorem blk0_at (t : Fin cfg0.N) (r : Fin 1024) (k : Fin 1024) : iblk m c 0 t (ix2 r k) = lft m c (gr t r) (gk t k) := by
  show V m c main_v2 (((cfg0.win 0).blk t).view.emb (ix2 r k)) = V m c main_v2 _
  refine congrArg (V m c main_v2) (funext fun a => Fin.ext ?_)
  fin_cases a
  · show win0_0.index t 0 * 1024 + 1 * r.val = t.val / 3 * 1024 + r.val
    rw [(e0 t).1]; omega
  · show win0_0.index t 1 * 1024 + 1 * k.val = t.val % 3 * 1024 + k.val
    rw [(e0 t).2]; omega

theorem blk1_at (t : Fin cfg0.N) (k : Fin 1024) (d : Fin 1024) : iblk m c 1 t (ix2 k d) = rgt m c (gk t k) (gc t d) := by
  show V m c main_v5 (((cfg0.win 1).blk t).view.emb (ix2 k d)) = V m c main_v5 _
  refine congrArg (V m c main_v5) (funext fun a => Fin.ext ?_)
  fin_cases a
  · show win0_1.index t 0 * 1024 + 1 * k.val = t.val % 3 * 1024 + k.val
    rw [(e1 t).1]; omega
  · show win0_1.index t 1 * 1024 + 1 * d.val = 0 * 1024 + d.val
    rw [(e1 t).2]; omega

theorem blk2_at (t : Fin cfg0.N) (r : Fin 1024) (d : Fin 1024) : iblk m c 2 t (ix2 r d) = V m c main_arg2 (ix2 (gr t r) (gc t d)) := by
  show V m c main_arg2 (((cfg0.win 2).blk t).view.emb (ix2 r d)) = V m c main_arg2 _
  refine congrArg (V m c main_arg2) (funext fun a => Fin.ext ?_)
  fin_cases a
  · show win0_2.index t 0 * 1024 + 1 * r.val = t.val / 3 * 1024 + r.val
    rw [(e2 t).1]; omega
  · show win0_2.index t 1 * 1024 + 1 * d.val = 0 * 1024 + d.val
    rw [(e2 t).2]; omega

/-- The summand of an entry of the product, by its position along the summed axis. -/
def term (a : Fin 2048) (b : Fin 1024) (n : ℕ) : EReal :=
  if hn : n < 3072 then lft m c a ⟨n, hn⟩ * rgt m c ⟨n, hn⟩ b else 0

/-- What one grid point adds. -/
theorem add_at (t : Fin cfg0.N) (y : Vec Ideal S1024x1024 .f32) (r : Fin 1024) (d : Fin 1024) :
    k0_pay2 (F := Ideal) y (iblk m c 0 t) (iblk m c 1 t) (ix2 r d)
      = y (ix2 r d) + ∑ k ∈ Finset.range 1024, term m c (gr t r) (gc t d) (t.val % 3 * 1024 + k) := by
  rw [pay2_at, Finset.sum_range]
  refine congrArg (y (ix2 r d) + ·) (Finset.sum_congr rfl fun k _ => ?_)
  rw [term, dif_pos (show t.val % 3 * 1024 + k.val < 3072 from (gk t k).isLt)]
  exact congrArg₂ (· * ·) (blk0_at m c t r k) (blk1_at m c t k d)

/-- The accumulator after a grid point: the summands up to the end of its block. -/
theorem acc_at (n : ℕ) : ∀ t : Fin cfg0.N, t.val = n → ∀ (r : Fin 1024) (d : Fin 1024),
    (outsAt0 m c t.val t.isLt).2 (ix2 r d) = ∑ i ∈ Finset.range ((t.val % 3 + 1) * 1024), term m c (gr t r) (gc t d) i := by
  induction n with
  | zero =>
    intro t ht r d
    have h0 : t.val % 3 = 0 := by omega
    rw [outsAt0_A m c t h0 (by omega)]
    dsimp only
    rw [scratch_A, add_at, pay1_at, sum_tile, h0]
    simp
  | succ n ih =>
    intro t ht r d
    by_cases h0 : t.val % 3 = 0
    · rw [outsAt0_A m c t h0 (by omega)]
      dsimp only
      rw [scratch_A, add_at, pay1_at, sum_tile, h0]
      simp
    · have hp : t.val - 1 < cfg0.N := Nat.lt_of_le_of_lt (Nat.sub_le _ _) t.isLt
      have hI := ih ⟨t.val - 1, hp⟩ (by show t.val - 1 = n; omega) r d
      have hr : gr ⟨t.val - 1, hp⟩ r = gr t r := Fin.ext (by show (t.val - 1) / 3 * 1024 + r.val = t.val / 3 * 1024 + r.val; omega)
      have hd : gc ⟨t.val - 1, hp⟩ d = gc t d := Fin.ext (by show 0 * 1024 + d.val = 0 * 1024 + d.val; omega)
      have hm : (t.val - 1) % 3 + 1 = t.val % 3 := by omega
      dsimp only at hI
      rw [hr, hd, hm] at hI
      by_cases h1 : t.val % 3 = 2
      · rw [outsAt0_C m c t h0 h1]
        dsimp only
        rw [scratch_C, add_at, sum_tile, hI]
      · rw [outsAt0_B m c t h0 h1]
        dsimp only
        rw [scratch_B, add_at, sum_tile, hI]

/-- The product. -/
def prod (a : Fin 2048) (b : Fin 1024) : EReal := ∑ k, lft m c a k * rgt m c k b

/-- The result. -/
def fin (a : Fin 2048) (b : Fin 1024) : EReal := prod m c a b + (V m c main_arg2 : (⟨2, ![2048, 1024]⟩ : Shape).Idx → EReal) (ix2 a b)

theorem last_at (t : Fin cfg0.N) (h : t.val % 3 = 2) (r : Fin 1024) (d : Fin 1024) :
    (outsAt0 m c t.val t.isLt).1 (ix2 r d) = fin m c (gr t r) (gc t d) := by
  have h0 : ¬t.val % 3 = 0 := by omega
  have e := acc_at m c t.val t rfl r d
  rw [outsAt0_C m c t h0 h] at e ⊢
  dsimp only at e ⊢
  rw [scratch_C] at e
  rw [out_C, pay3_at]
  unfold fin
  refine congrArg₂ (· + ·) ?_ (blk2_at m c t r d)
  rw [e, h, show (2 + 1) * 1024 = 3072 from rfl, Finset.sum_range]
  refine Finset.sum_congr rfl fun k _ => ?_
  rw [term, dif_pos k.isLt]

theorem final : (dats m 0 c).arrAt 3 cfg0.N = fun i : (⟨2, ![2048, 1024]⟩ : Shape).Idx => fin m c (i 0) (i 1) := by
  refine (dats m 0 c).arrAt_eq_of_covers 3 _ (by decide +kernel) fun t hf y => ?_
  have hl : t.val % 3 = 2 := (flush0_3 t).mp hf
  blk_simp
  rw [after0_3]
  revert y
  intro (y : S1024x1024.Idx)
  idx_vars y
  rw [last_at m c t hl y0 y1]
  refine congrArg₂ (fin m c) (Fin.ext ?_) (Fin.ext ?_)
  · show t.val / 3 * 1024 + y0.val = win0_3.index t 0 * 1024 + 1 * y0.val
    rw [(e3 t).1]; omega
  · show 0 * 1024 + y1.val = win0_3.index t 1 * 1024 + 1 * y1.val
    rw [(e3 t).2]; omega

end Cert.Proof.FfnOut

end
-- ==== Proof.FfnOutClaim.lean ====
/-
  The gated MLP's output projection: the call's result is the reference's product on the residual stream.
-/
module

public import proofs.«01_k».proof.Defs
public import proofs.«01_k».proof.Proof.FfnOut
public import proofs.«01_k».proof.Proof.Gen.Reference20Ideal.Read

@[expose] public section

noncomputable section

namespace Cert.Proof.FfnOut

open Idealize.ShloMosaic Idealize.SL.Sem Cert.Kernel20Ideal Cert.Kernel20Ideal.Gen Idealize.ShloMosaic.StableHlo
open Idealize.ShloMosaic.TcCoe

variable (m : (ℓ : Loc nD τ sig) → Buf (Elt Ideal) ℓ) (c : Dev nD)

/-- The result. -/
def spec (u : (⟨2, ![2048, 2816]⟩ : Shape).Idx → EReal) (w : (⟨2, ![2816, 1024]⟩ : Shape).Idx → EReal) (x : (⟨2, ![2048, 1024]⟩ : Shape).Idx → EReal) : S2048x1024.Idx → EReal :=
  fun i => x (ix2 (i 0) (i 1)) + ∑ k : Fin 2816, u (ix2 (i 0) k) * w (ix2 k (i 1))

/-! ## The padded operands -/

theorem zero16 : (FloatOps.sitofp FTy.bf16 0#32 : Ideal .bf16) = (0 : EReal) := by
  show (((0#32 : BitVec 32).toInt : ℝ) : EReal) = 0
  simp

theorem V_u (a : Fin 2048) (b : Fin 3072) (h : b.val % 768 < 704) :
    V m c main_v2 (ix2 a b) = m (c.tc.loc main_arg0) (ix2 a ⟨b.val / 768 * 704 + b.val % 768, by omega⟩) := by
  show after (List.flatten [hostOps0, hostOps0_1, hostOps0_2, hostOps0_3, hostOps0_4]) (fun rf => m ⟨c, rf⟩) (Proc.devRef .tc main_v2) (ix2 a b) = _
  simp only [hostOps0, hostOps0_1, hostOps0_2, hostOps0_3, hostOps0_4, List.flatten_cons, List.flatten_nil, List.append_nil, List.cons_append, List.nil_append]
  after_results
  simp only [TRef.toBuf, TRef.ofBuf, cast_eq]
  pointwise
  rw [dif_pos (by omega)]

theorem V_u_pad (a : Fin 2048) (b : Fin 3072) (h : ¬b.val % 768 < 704) : V m c main_v2 (ix2 a b) = (0 : EReal) := by
  show after (List.flatten [hostOps0, hostOps0_1, hostOps0_2, hostOps0_3, hostOps0_4]) (fun rf => m ⟨c, rf⟩) (Proc.devRef .tc main_v2) (ix2 a b) = _
  simp only [hostOps0, hostOps0_1, hostOps0_2, hostOps0_3, hostOps0_4, List.flatten_cons, List.flatten_nil, List.append_nil, List.cons_append, List.nil_append]
  after_results
  simp only [TRef.toBuf, TRef.ofBuf, cast_eq]
  pointwise
  rw [dif_neg (by omega)]
  exact zero16

theorem V_w (a : Fin 3072) (b : Fin 1024) (h : a.val % 768 < 704) :
    V m c main_v5 (ix2 a b) = m (c.tc.loc main_arg1) (ix2 ⟨a.val / 768 * 704 + a.val % 768, by omega⟩ b) := by
  show after (List.flatten [hostOps0, hostOps0_1, hostOps0_2, hostOps0_3, hostOps0_4]) (fun rf => m ⟨c, rf⟩) (Proc.devRef .tc main_v5) (ix2 a b) = _
  simp only [hostOps0, hostOps0_1, hostOps0_2, hostOps0_3, hostOps0_4, List.flatten_cons, List.flatten_nil, List.append_nil, List.cons_append, List.nil_append]
  after_results
  simp only [TRef.toBuf, TRef.ofBuf, cast_eq]
  pointwise
  rw [dif_pos (by omega)]

/-! ## The two results -/

theorem kernel_value : (dats m 0 c).arrAt 3 cfg0.N = spec (m (c.tc.loc main_arg0)) (m (c.tc.loc main_arg1)) (m (c.tc.loc main_arg2)) := by
  rw [final]
  funext i
  idx_vars i
  show fin m c i0 i1 = spec _ _ _ _
  unfold fin spec
  refine (add_comm _ _).trans (congrArg₂ (· + ·) ?_ ?_)
  · rw [V_main_arg2]
    rfl
  · unfold prod
    rw [sum_unpad 4 3072 2816 rfl rfl]
    · refine Finset.sum_congr rfl fun k _ => congrArg₂ (· * ·) ?_ ?_
      · refine (V_u m c i0 _ (by show (k.val / 704 * 768 + k.val % 704) % 768 < 704; omega)).trans ?_
        exact congrArg (m (c.tc.loc main_arg0)) (congrArg₂ ix2 rfl (Fin.ext (by show (k.val / 704 * 768 + k.val % 704) / 768 * 704 + (k.val / 704 * 768 + k.val % 704) % 768 = k.val; omega)))
      · refine (V_w m c _ i1 (by show (k.val / 704 * 768 + k.val % 704) % 768 < 704; omega)).trans ?_
        exact congrArg (m (c.tc.loc main_arg1)) (congrArg₂ ix2 (Fin.ext (by show (k.val / 704 * 768 + k.val % 704) / 768 * 704 + (k.val / 704 * 768 + k.val % 704) % 768 = k.val; omega)) rfl)
    · intro k hk
      have e : lft m c i0 k = 0 := V_u_pad m c i0 k hk
      rw [e, zero_mul]

theorem reference_value (x0 x1 x2) (i) : Cert.Reference20Ideal.Read.val_main_v3 (F := Ideal) x0 x1 x2 i = spec x0 x1 x2 i := by
  rw [Cert.Reference20Ideal.Read.val_main_v3_apply, Cert.Reference20Ideal.Read.val_main_v2_apply]
  refine congrArg₂ (· + ·) (congrArg x2 (funext fun a => by fin_cases a <;> rfl)) (Finset.sum_congr rfl fun k _ => congrArg₂ (· * ·) ?_ ?_)
  · rw [Cert.Reference20Ideal.Read.val_main_v0_apply]
    exact congrArg x0 (funext fun a => by fin_cases a <;> rfl)
  · rw [Cert.Reference20Ideal.Read.val_main_v1_apply]
    exact congrArg x1 (funext fun a => by fin_cases a <;> rfl)

theorem agree : algebraic_Kernel20Ideal_Reference20Ideal (hKernel20Ideal := Cert.Kernel20Ideal.Gen.facts) (hReference20Ideal := Cert.Reference20Ideal.Gen.facts) := by
  intro m g m' g' _ hagree
  refine ⟨fun c => spec (m (c.tc.loc main_arg0)) (m (c.tc.loc main_arg1)) (m (c.tc.loc main_arg2)), ?_, ?_⟩
  · exact (θ_run _ _ _).mono (fun r h c => ⟨(h c).1.trans (kernel_value m c), (h c).2⟩) (Value.run_blocks (F := Ideal) m g)
  · refine (θ_run _ _ _).mono (fun r h c => ⟨(h c).1.trans ?_, (h c).2⟩) (Cert.Reference20Ideal.Value.run (F := Ideal) m' g')
    rw [(hagree c).1, (hagree c).2.1, (hagree c).2.2]
    exact funext fun i => reference_value _ _ _ i

end Cert.Proof.FfnOut

end
-- ==== Proof.LowTanh.lean ====
/-
  The decay's first low-rank product.
-/
module

public import proofs.«01_k».proof.Defs
public import proofs.«01_k».proof.Proof.Gen.Kernel21Ideal.Value
public import proofs.«01_k».proof.Proof.Gen.Reference21Ideal.Run
public import proofs.«01_k».proof.Proof.Tiles
public import Idealize.ShloMosaic.Lib.Pipeline.ValueKit

@[expose] public section

noncomputable section

namespace Cert.Proof.LowTanh

open Idealize.ShloMosaic Idealize.SL.Sem Cert.Kernel21Ideal Cert.Kernel21Ideal.Gen
open Idealize.ShloMosaic.TcCoe
open Idealize.ShloMosaic.Pipeline (Dat Cfg Window)

section Cases

variable (c : Dev nD) (i : grid0.Coords)
  (arg3 : Memref sig .tc .vmem S1024x1024 .bf16) (harg3 : arg3.IsWhole)
  (arg4 : Memref sig .tc .vmem S1024x64 .bf16) (harg4 : arg4.IsWhole)
  (arg5 : Memref sig .tc .vmem S1024x64 .f32) (harg5 : arg5.IsWhole)
  (arg6 : Memref sig .tc .vmem S1024x64 .f32) (harg6 : arg6.IsWhole)
  (x0 : Vec Ideal S1024x1024 .bf16) (x1 : Vec Ideal S1024x64 .bf16) (y : Vec Ideal S1024x64 .f32)

theorem out_A (hc0 : cond0_0 i) (hc1 : cond0_1 i) :
    out0_A_2 c i arg3 harg3 arg4 harg4 arg5 harg5 arg6 harg6 hc0 hc1 x0 x1 = k0_pay3 (k0_pay2 (k0_pay1 (F := Ideal)) x0 x1) := by
  unfold out0_A_2
  rw [View.read_writes_eq_canon _ _ _ (cover0_A_2 c i arg3 harg3 arg4 harg4 arg5 harg5 arg6 harg6 hc0 hc1 x0 x1)]
  unfold kernelRun0_A
  dsimp only
  try sl_unfold_words
  rw [View.canon_unit_zero off2, View.readCov_cons_unit_lit' (S := S1024x64) _ _ _ _ _ (by decide) (by decide), View.readCov_unit_zero (S := S1024x64) _ off2]
  simp only [View.readAt_eq_ld, harg3.read_unread, harg4.read_unread, harg6.read_unread,
    View.ld_unit_zero (S := S1024x1024) off2, View.ld_unit_zero (S := S1024x64) off2, shapeCast_self]

end Cases

/-! ## The body's values at an index -/

theorem pay1_at (r : Fin 1024) (d : Fin 64) : k0_pay1 (F := Ideal) (ix2 r d) = 0 := by
  pointwise [k0_pay1]

theorem pay2_at (y : Vec Ideal S1024x64 .f32) (x0 : Vec Ideal S1024x1024 .bf16) (x1 : Vec Ideal S1024x64 .bf16) (r : Fin 1024) (d : Fin 64) :
    k0_pay2 (F := Ideal) y x0 x1 (ix2 r d) = y (ix2 r d) + ∑ k : Fin 1024, ((x0 (ix2 r k) : EReal) * x1 (ix2 k d) : EReal) := by
  pointwise [k0_pay2]

/-- What the call applies to an entry of the product. -/
def act (x : EReal) : EReal := Ideal.tanh x

theorem pay3_at (y : Vec Ideal S1024x64 .f32) (r : Fin 1024) (d : Fin 64) :
    k0_pay3 (F := Ideal) y (ix2 r d) = act (y (ix2 r d)) := by
  pointwise [k0_pay3, act]

/-! ## The blocks -/

variable (m : (ℓ : Loc nD τ sig) → Buf (Elt Ideal) ℓ) (c : Dev nD)

theorem e0 : ∀ t : Fin cfg0.N, win0_0.index t 0 = t.val / 1 ∧ win0_0.index t 1 = 0 := by decide +kernel
theorem e1 : ∀ t : Fin cfg0.N, win0_1.index t 0 = 0 ∧ win0_1.index t 1 = 0 := by decide +kernel
theorem e2 : ∀ t : Fin cfg0.N, win0_2.index t 0 = t.val / 1 ∧ win0_2.index t 1 = 0 := by decide +kernel

/-- The row and the column of the product that an entry of a point's block is, and a position along the summed axis. -/
def gr (t : Fin cfg0.N) (r : Fin 1024) : Fin 2048 := ⟨t.val / 1 * 1024 + r.val, by have : t.val < 2 := t.isLt; omega⟩
def gc (t : Fin cfg0.N) (d : Fin 64) : Fin 64 := ⟨0 * 64 + d.val, by have : t.val < 2 := t.isLt; omega⟩
def gk (t : Fin cfg0.N) (k : Fin 1024) : Fin 1024 := ⟨0 * 1024 + k.val, by have : t.val < 2 := t.isLt; omega⟩

theorem blk0_at (t : Fin cfg0.N) (r : Fin 1024) (k : Fin 1024) : iblk m c 0 t (ix2 r k) = V m c main_arg0 (ix2 (gr t r) (gk t k)) := by
  refine congrArg (V m c main_arg0) (ix2_ext ?_ ?_)
  · show win0_0.index t 0 * 1024 + 1 * r.val = t.val / 1 * 1024 + r.val
    rw [(e0 t).1]; omega
  · show win0_0.index t 1 * 1024 + 1 * k.val = 0 * 1024 + k.val
    rw [(e0 t).2]; omega

theorem blk1_at (t : Fin cfg0.N) (k : Fin 1024) (d : Fin 64) : iblk m c 1 t (ix2 k d) = V m c main_arg1 (ix2 (gk t k) (gc t d)) := by
  refine congrArg (V m c main_arg1) (ix2_ext ?_ ?_)
  · show win0_1.index t 0 * 1024 + 1 * k.val = 0 * 1024 + k.val
    rw [(e1 t).1]; omega
  · show win0_1.index t 1 * 64 + 1 * d.val = 0 * 64 + d.val
    rw [(e1 t).2]; omega

/-- What one grid point adds. -/
theorem add_at (t : Fin cfg0.N) (y : Vec Ideal S1024x64 .f32) (r : Fin 1024) (d : Fin 64) : k0_pay2 (F := Ideal) y (iblk m c 0 t) (iblk m c 1 t) (ix2 r d)
    = y (ix2 r d) + ∑ k ∈ Finset.range 1024, term (rowNN (V m c main_arg0) (V m c main_arg1) (gr t r) (gc t d)) (0 * 1024 + k) :=
  (pay2_at _ _ _ r d).trans (congrArg (y (ix2 r d) + ·) (sum_part fun k => ⟨(gk t k).isLt, congrArg₂ (· * ·) (blk0_at m c t r k) (blk1_at m c t k d)⟩))

/-- An entry of the result. -/
def res (xa : Mat 2048 1024) (xb : Mat 1024 64) (i : Fin 2048) (j : Fin 64) : EReal := act (mulNN xa xb i j)

theorem last_at (t : Fin cfg0.N) (r : Fin 1024) (d : Fin 64) : outsAt0 m c t (ix2 r d) = res (V m c main_arg0) (V m c main_arg1) (gr t r) (gc t d) := by
  unfold outsAt0
  rw [out_A, pay3_at]
  refine congrArg act ?_
  rw [add_at, pay1_at, zero_add, Nat.zero_mul]
  simp only [Nat.zero_add]
  exact sum_term _

theorem final : (dats m 0 c).arrAt 2 cfg0.N = entries (res (V m c main_arg0) (V m c main_arg1)) := by
  refine (dats m 0 c).arrAt_eq_of_covers 2 _ (by decide +kernel) fun t hf y => ?_
  blk_simp
  rw [after0_2]
  revert y
  intro (y : S1024x64.Idx)
  idx_vars y
  rw [last_at m c t y0 y1]
  refine congrArg₂ (res (V m c main_arg0) (V m c main_arg1)) (Fin.ext ?_) (Fin.ext ?_)
  · show t.val / 1 * 1024 + y0.val = win0_2.index t 0 * 1024 + 1 * y0.val
    rw [(e2 t).1]; omega
  · show 0 * 64 + y1.val = win0_2.index t 1 * 64 + 1 * y1.val
    rw [(e2 t).2]; omega

theorem agree : algebraic_Kernel21Ideal_Reference21Ideal (hKernel21Ideal := Cert.Kernel21Ideal.Gen.facts) (hReference21Ideal := Cert.Reference21Ideal.Gen.facts) := by
  intro m g m' g' _ hagree
  refine ⟨fun c => entries (res (m (c.tc.loc main_arg0)) (m (c.tc.loc main_arg1))), ?_, ?_⟩
  · refine (θ_run _ _ _).mono (fun r h c => ⟨(h c).1.trans ((final m c).trans ?_), (h c).2⟩) (Value.run_blocks (F := Ideal) m g)
    rw [V_main_arg0, V_main_arg1]
  · refine (θ_run _ _ _).mono (fun r h c => ⟨(h c).1.trans ?_, (h c).2⟩) (Cert.Reference21Ideal.Value.run (F := Ideal) m' g')
    rw [(hagree c).1, (hagree c).2]
    funext i
    idx_vars i
    show _ = res (m (c.tc.loc main_arg0)) (m (c.tc.loc main_arg1)) i0 i1
    unfold res mulNN rowNN
    pointwise
    pointwise [act]

end Cert.Proof.LowTanh

end
-- ==== Proof.LowIn64.lean ====
/-
  The first low-rank product of the in-context learning rate.
-/
module

public import proofs.«01_k».proof.Defs
public import proofs.«01_k».proof.Proof.Gen.Kernel22Ideal.Value
public import proofs.«01_k».proof.Proof.Gen.Reference22Ideal.Run
public import proofs.«01_k».proof.Proof.Tiles
public import Idealize.ShloMosaic.Lib.Pipeline.ValueKit

@[expose] public section

noncomputable section

namespace Cert.Proof.LowIn64

open Idealize.ShloMosaic Idealize.SL.Sem Cert.Kernel22Ideal Cert.Kernel22Ideal.Gen
open Idealize.ShloMosaic.TcCoe
open Idealize.ShloMosaic.Pipeline (Dat Cfg Window)

section Cases

variable (c : Dev nD) (i : grid0.Coords)
  (arg3 : Memref sig .tc .vmem S1024x1024 .bf16) (harg3 : arg3.IsWhole)
  (arg4 : Memref sig .tc .vmem S1024x64 .bf16) (harg4 : arg4.IsWhole)
  (arg5 : Memref sig .tc .vmem S1024x64 .bf16) (harg5 : arg5.IsWhole)
  (arg6 : Memref sig .tc .vmem S1024x64 .f32) (harg6 : arg6.IsWhole)
  (x0 : Vec Ideal S1024x1024 .bf16) (x1 : Vec Ideal S1024x64 .bf16) (y : Vec Ideal S1024x64 .f32)

theorem out_A (hc0 : cond0_0 i) (hc1 : cond0_1 i) :
    out0_A_2 c i arg3 harg3 arg4 harg4 arg5 harg5 arg6 harg6 hc0 hc1 x0 x1 = k0_pay3 (k0_pay2 (k0_pay1 (F := Ideal)) x0 x1) := by
  unfold out0_A_2
  rw [View.read_writes_eq_canon _ _ _ (cover0_A_2 c i arg3 harg3 arg4 harg4 arg5 harg5 arg6 harg6 hc0 hc1 x0 x1)]
  unfold kernelRun0_A
  dsimp only
  try sl_unfold_words
  rw [View.canon_unit_zero off2, View.readCov_cons_unit_lit' (S := S1024x64) _ _ _ _ _ (by decide) (by decide), View.readCov_unit_zero (S := S1024x64) _ off2]
  simp only [View.readAt_eq_ld, harg3.read_unread, harg4.read_unread, harg6.read_unread,
    View.ld_unit_zero (S := S1024x1024) off2, View.ld_unit_zero (S := S1024x64) off2, shapeCast_self]

end Cases

/-! ## The body's values at an index -/

theorem pay1_at (r : Fin 1024) (d : Fin 64) : k0_pay1 (F := Ideal) (ix2 r d) = 0 := by
  pointwise [k0_pay1]

theorem pay2_at (y : Vec Ideal S1024x64 .f32) (x0 : Vec Ideal S1024x1024 .bf16) (x1 : Vec Ideal S1024x64 .bf16) (r : Fin 1024) (d : Fin 64) :
    k0_pay2 (F := Ideal) y x0 x1 (ix2 r d) = y (ix2 r d) + ∑ k : Fin 1024, ((x0 (ix2 r k) : EReal) * x1 (ix2 k d) : EReal) := by
  pointwise [k0_pay2]

theorem pay3_at (y : Vec Ideal S1024x64 .f32) (r : Fin 1024) (d : Fin 64) :
    k0_pay3 (F := Ideal) y (ix2 r d) = (y (ix2 r d) : EReal) := by
  pointwise [k0_pay3]

/-! ## The blocks -/

variable (m : (ℓ : Loc nD τ sig) → Buf (Elt Ideal) ℓ) (c : Dev nD)

theorem e0 : ∀ t : Fin cfg0.N, win0_0.index t 0 = t.val / 1 ∧ win0_0.index t 1 = 0 := by decide +kernel
theorem e1 : ∀ t : Fin cfg0.N, win0_1.index t 0 = 0 ∧ win0_1.index t 1 = 0 := by decide +kernel
theorem e2 : ∀ t : Fin cfg0.N, win0_2.index t 0 = t.val / 1 ∧ win0_2.index t 1 = 0 := by decide +kernel

/-- The row and the column of the product that an entry of a point's block is, and a position along the summed axis. -/
def gr (t : Fin cfg0.N) (r : Fin 1024) : Fin 2048 := ⟨t.val / 1 * 1024 + r.val, by have : t.val < 2 := t.isLt; omega⟩
def gc (t : Fin cfg0.N) (d : Fin 64) : Fin 64 := ⟨0 * 64 + d.val, by have : t.val < 2 := t.isLt; omega⟩
def gk (t : Fin cfg0.N) (k : Fin 1024) : Fin 1024 := ⟨0 * 1024 + k.val, by have : t.val < 2 := t.isLt; omega⟩

theorem blk0_at (t : Fin cfg0.N) (r : Fin 1024) (k : Fin 1024) : iblk m c 0 t (ix2 r k) = V m c main_arg0 (ix2 (gr t r) (gk t k)) := by
  refine congrArg (V m c main_arg0) (ix2_ext ?_ ?_)
  · show win0_0.index t 0 * 1024 + 1 * r.val = t.val / 1 * 1024 + r.val
    rw [(e0 t).1]; omega
  · show win0_0.index t 1 * 1024 + 1 * k.val = 0 * 1024 + k.val
    rw [(e0 t).2]; omega

theorem blk1_at (t : Fin cfg0.N) (k : Fin 1024) (d : Fin 64) : iblk m c 1 t (ix2 k d) = V m c main_arg1 (ix2 (gk t k) (gc t d)) := by
  refine congrArg (V m c main_arg1) (ix2_ext ?_ ?_)
  · show win0_1.index t 0 * 1024 + 1 * k.val = 0 * 1024 + k.val
    rw [(e1 t).1]; omega
  · show win0_1.index t 1 * 64 + 1 * d.val = 0 * 64 + d.val
    rw [(e1 t).2]; omega

/-- What one grid point adds. -/
theorem add_at (t : Fin cfg0.N) (y : Vec Ideal S1024x64 .f32) (r : Fin 1024) (d : Fin 64) : k0_pay2 (F := Ideal) y (iblk m c 0 t) (iblk m c 1 t) (ix2 r d)
    = y (ix2 r d) + ∑ k ∈ Finset.range 1024, term (rowNN (V m c main_arg0) (V m c main_arg1) (gr t r) (gc t d)) (0 * 1024 + k) :=
  (pay2_at _ _ _ r d).trans (congrArg (y (ix2 r d) + ·) (sum_part fun k => ⟨(gk t k).isLt, congrArg₂ (· * ·) (blk0_at m c t r k) (blk1_at m c t k d)⟩))

theorem last_at (t : Fin cfg0.N) (r : Fin 1024) (d : Fin 64) : outsAt0 m c t (ix2 r d) = mulNN (V m c main_arg0) (V m c main_arg1) (gr t r) (gc t d) := by
  unfold outsAt0
  rw [out_A, pay3_at]
  rw [add_at, pay1_at, zero_add, Nat.zero_mul]
  simp only [Nat.zero_add]
  exact sum_term _

theorem final : (dats m 0 c).arrAt 2 cfg0.N = entries (mulNN (V m c main_arg0) (V m c main_arg1)) := by
  refine (dats m 0 c).arrAt_eq_of_covers 2 _ (by decide +kernel) fun t hf y => ?_
  blk_simp
  rw [after0_2]
  revert y
  intro (y : S1024x64.Idx)
  idx_vars y
  rw [last_at m c t y0 y1]
  refine congrArg₂ (mulNN (V m c main_arg0) (V m c main_arg1)) (Fin.ext ?_) (Fin.ext ?_)
  · show t.val / 1 * 1024 + y0.val = win0_2.index t 0 * 1024 + 1 * y0.val
    rw [(e2 t).1]; omega
  · show 0 * 64 + y1.val = win0_2.index t 1 * 64 + 1 * y1.val
    rw [(e2 t).2]; omega

theorem agree : algebraic_Kernel22Ideal_Reference22Ideal (hKernel22Ideal := Cert.Kernel22Ideal.Gen.facts) (hReference22Ideal := Cert.Reference22Ideal.Gen.facts) := by
  intro m g m' g' _ hagree
  refine ⟨fun c => entries (mulNN (m (c.tc.loc main_arg0)) (m (c.tc.loc main_arg1))), ?_, ?_⟩
  · refine (θ_run _ _ _).mono (fun r h c => ⟨(h c).1.trans ((final m c).trans ?_), (h c).2⟩) (Value.run_blocks (F := Ideal) m g)
    rw [V_main_arg0, V_main_arg1]
  · refine (θ_run _ _ _).mono (fun r h c => ⟨(h c).1.trans ?_, (h c).2⟩) (Cert.Reference22Ideal.Value.run (F := Ideal) m' g')
    rw [(hagree c).1, (hagree c).2]
    funext i
    idx_vars i
    show _ = mulNN (m (c.tc.loc main_arg0)) (m (c.tc.loc main_arg1)) i0 i1
    unfold mulNN rowNN
    pointwise

end Cert.Proof.LowIn64

end
-- ==== Proof.LowSig.lean ====
/-
  The gate's first low-rank product.
-/
module

public import proofs.«01_k».proof.Defs
public import proofs.«01_k».proof.Proof.Gen.Kernel23Ideal.Value
public import proofs.«01_k».proof.Proof.Gen.Reference23Ideal.Run
public import proofs.«01_k».proof.Proof.Tiles
public import Idealize.ShloMosaic.Lib.Pipeline.ValueKit

@[expose] public section

noncomputable section

namespace Cert.Proof.LowSig

open Idealize.ShloMosaic Idealize.SL.Sem Cert.Kernel23Ideal Cert.Kernel23Ideal.Gen
open Idealize.ShloMosaic.TcCoe
open Idealize.ShloMosaic.Pipeline (Dat Cfg Window)

section Cases

variable (c : Dev nD) (i : grid0.Coords)
  (arg3 : Memref sig .tc .vmem S1024x1024 .bf16) (harg3 : arg3.IsWhole)
  (arg4 : Memref sig .tc .vmem S1024x160 .bf16) (harg4 : arg4.IsWhole)
  (arg5 : Memref sig .tc .vmem S1024x160 .f32) (harg5 : arg5.IsWhole)
  (arg6 : Memref sig .tc .vmem S1024x160 .f32) (harg6 : arg6.IsWhole)
  (x0 : Vec Ideal S1024x1024 .bf16) (x1 : Vec Ideal S1024x160 .bf16) (y : Vec Ideal S1024x160 .f32)

theorem out_A (hc0 : cond0_0 i) (hc1 : cond0_1 i) :
    out0_A_2 c i arg3 harg3 arg4 harg4 arg5 harg5 arg6 harg6 hc0 hc1 x0 x1 = k0_pay3 (k0_pay2 (k0_pay1 (F := Ideal)) x0 x1) := by
  unfold out0_A_2
  rw [View.read_writes_eq_canon _ _ _ (cover0_A_2 c i arg3 harg3 arg4 harg4 arg5 harg5 arg6 harg6 hc0 hc1 x0 x1)]
  unfold kernelRun0_A
  dsimp only
  try sl_unfold_words
  rw [View.canon_unit_zero off2, View.readCov_cons_unit_lit' (S := S1024x160) _ _ _ _ _ (by decide) (by decide), View.readCov_unit_zero (S := S1024x160) _ off2]
  simp only [View.readAt_eq_ld, harg3.read_unread, harg4.read_unread, harg6.read_unread,
    View.ld_unit_zero (S := S1024x1024) off2, View.ld_unit_zero (S := S1024x160) off2, shapeCast_self]

end Cases

/-! ## The body's values at an index -/

theorem pay1_at (r : Fin 1024) (d : Fin 160) : k0_pay1 (F := Ideal) (ix2 r d) = 0 := by
  pointwise [k0_pay1]

theorem pay2_at (y : Vec Ideal S1024x160 .f32) (x0 : Vec Ideal S1024x1024 .bf16) (x1 : Vec Ideal S1024x160 .bf16) (r : Fin 1024) (d : Fin 160) :
    k0_pay2 (F := Ideal) y x0 x1 (ix2 r d) = y (ix2 r d) + ∑ k : Fin 1024, ((x0 (ix2 r k) : EReal) * x1 (ix2 k d) : EReal) := by
  pointwise [k0_pay2]

/-- What the call applies to an entry of the product. -/
def act (x : EReal) : EReal := Ideal.div 1 (1 + Ideal.exp (0 - x))

theorem pay3_at (y : Vec Ideal S1024x160 .f32) (r : Fin 1024) (d : Fin 160) :
    k0_pay3 (F := Ideal) y (ix2 r d) = act (y (ix2 r d)) := by
  pointwise [k0_pay3, act]

/-! ## The blocks -/

variable (m : (ℓ : Loc nD τ sig) → Buf (Elt Ideal) ℓ) (c : Dev nD)

theorem e0 : ∀ t : Fin cfg0.N, win0_0.index t 0 = t.val / 1 ∧ win0_0.index t 1 = 0 := by decide +kernel
theorem e1 : ∀ t : Fin cfg0.N, win0_1.index t 0 = 0 ∧ win0_1.index t 1 = 0 := by decide +kernel
theorem e2 : ∀ t : Fin cfg0.N, win0_2.index t 0 = t.val / 1 ∧ win0_2.index t 1 = 0 := by decide +kernel

/-- The row and the column of the product that an entry of a point's block is, and a position along the summed axis. -/
def gr (t : Fin cfg0.N) (r : Fin 1024) : Fin 2048 := ⟨t.val / 1 * 1024 + r.val, by have : t.val < 2 := t.isLt; omega⟩
def gc (t : Fin cfg0.N) (d : Fin 160) : Fin 160 := ⟨0 * 160 + d.val, by have : t.val < 2 := t.isLt; omega⟩
def gk (t : Fin cfg0.N) (k : Fin 1024) : Fin 1024 := ⟨0 * 1024 + k.val, by have : t.val < 2 := t.isLt; omega⟩

theorem blk0_at (t : Fin cfg0.N) (r : Fin 1024) (k : Fin 1024) : iblk m c 0 t (ix2 r k) = V m c main_arg0 (ix2 (gr t r) (gk t k)) := by
  refine congrArg (V m c main_arg0) (ix2_ext ?_ ?_)
  · show win0_0.index t 0 * 1024 + 1 * r.val = t.val / 1 * 1024 + r.val
    rw [(e0 t).1]; omega
  · show win0_0.index t 1 * 1024 + 1 * k.val = 0 * 1024 + k.val
    rw [(e0 t).2]; omega

theorem blk1_at (t : Fin cfg0.N) (k : Fin 1024) (d : Fin 160) : iblk m c 1 t (ix2 k d) = V m c main_arg1 (ix2 (gk t k) (gc t d)) := by
  refine congrArg (V m c main_arg1) (ix2_ext ?_ ?_)
  · show win0_1.index t 0 * 1024 + 1 * k.val = 0 * 1024 + k.val
    rw [(e1 t).1]; omega
  · show win0_1.index t 1 * 160 + 1 * d.val = 0 * 160 + d.val
    rw [(e1 t).2]; omega

/-- What one grid point adds. -/
theorem add_at (t : Fin cfg0.N) (y : Vec Ideal S1024x160 .f32) (r : Fin 1024) (d : Fin 160) : k0_pay2 (F := Ideal) y (iblk m c 0 t) (iblk m c 1 t) (ix2 r d)
    = y (ix2 r d) + ∑ k ∈ Finset.range 1024, term (rowNN (V m c main_arg0) (V m c main_arg1) (gr t r) (gc t d)) (0 * 1024 + k) :=
  (pay2_at _ _ _ r d).trans (congrArg (y (ix2 r d) + ·) (sum_part fun k => ⟨(gk t k).isLt, congrArg₂ (· * ·) (blk0_at m c t r k) (blk1_at m c t k d)⟩))

/-- An entry of the result. -/
def res (xa : Mat 2048 1024) (xb : Mat 1024 160) (i : Fin 2048) (j : Fin 160) : EReal := act (mulNN xa xb i j)

theorem last_at (t : Fin cfg0.N) (r : Fin 1024) (d : Fin 160) : outsAt0 m c t (ix2 r d) = res (V m c main_arg0) (V m c main_arg1) (gr t r) (gc t d) := by
  unfold outsAt0
  rw [out_A, pay3_at]
  refine congrArg act ?_
  rw [add_at, pay1_at, zero_add, Nat.zero_mul]
  simp only [Nat.zero_add]
  exact sum_term _

theorem final : (dats m 0 c).arrAt 2 cfg0.N = entries (res (V m c main_arg0) (V m c main_arg1)) := by
  refine (dats m 0 c).arrAt_eq_of_covers 2 _ (by decide +kernel) fun t hf y => ?_
  blk_simp
  rw [after0_2]
  revert y
  intro (y : S1024x160.Idx)
  idx_vars y
  rw [last_at m c t y0 y1]
  refine congrArg₂ (res (V m c main_arg0) (V m c main_arg1)) (Fin.ext ?_) (Fin.ext ?_)
  · show t.val / 1 * 1024 + y0.val = win0_2.index t 0 * 1024 + 1 * y0.val
    rw [(e2 t).1]; omega
  · show 0 * 160 + y1.val = win0_2.index t 1 * 160 + 1 * y1.val
    rw [(e2 t).2]; omega

theorem agree : algebraic_Kernel23Ideal_Reference23Ideal (hKernel23Ideal := Cert.Kernel23Ideal.Gen.facts) (hReference23Ideal := Cert.Reference23Ideal.Gen.facts) := by
  intro m g m' g' _ hagree
  refine ⟨fun c => entries (res (m (c.tc.loc main_arg0)) (m (c.tc.loc main_arg1))), ?_, ?_⟩
  · refine (θ_run _ _ _).mono (fun r h c => ⟨(h c).1.trans ((final m c).trans ?_), (h c).2⟩) (Value.run_blocks (F := Ideal) m g)
    rw [V_main_arg0, V_main_arg1]
  · refine (θ_run _ _ _).mono (fun r h c => ⟨(h c).1.trans ?_, (h c).2⟩) (Cert.Reference23Ideal.Value.run (F := Ideal) m' g')
    rw [(hagree c).1, (hagree c).2]
    funext i
    idx_vars i
    show _ = res (m (c.tc.loc main_arg0)) (m (c.tc.loc main_arg1)) i0 i1
    unfold res mulNN rowNN
    pointwise
    simp only [act, zero_sub]

end Cert.Proof.LowSig

end
-- ==== Proof.LowIn32.lean ====
/-
  The first low-rank product of the value residual.
-/
module

public import proofs.«01_k».proof.Defs
public import proofs.«01_k».proof.Proof.Gen.Kernel24Ideal.Value
public import proofs.«01_k».proof.Proof.Gen.Reference24Ideal.Run
public import proofs.«01_k».proof.Proof.Tiles
public import Idealize.ShloMosaic.Lib.Pipeline.ValueKit

@[expose] public section

noncomputable section

namespace Cert.Proof.LowIn32

open Idealize.ShloMosaic Idealize.SL.Sem Cert.Kernel24Ideal Cert.Kernel24Ideal.Gen
open Idealize.ShloMosaic.TcCoe
open Idealize.ShloMosaic.Pipeline (Dat Cfg Window)

section Cases

variable (c : Dev nD) (i : grid0.Coords)
  (arg3 : Memref sig .tc .vmem S1024x1024 .bf16) (harg3 : arg3.IsWhole)
  (arg4 : Memref sig .tc .vmem S1024x32 .bf16) (harg4 : arg4.IsWhole)
  (arg5 : Memref sig .tc .vmem S1024x32 .bf16) (harg5 : arg5.IsWhole)
  (arg6 : Memref sig .tc .vmem S1024x32 .f32) (harg6 : arg6.IsWhole)
  (x0 : Vec Ideal S1024x1024 .bf16) (x1 : Vec Ideal S1024x32 .bf16) (y : Vec Ideal S1024x32 .f32)

theorem out_A (hc0 : cond0_0 i) (hc1 : cond0_1 i) :
    out0_A_2 c i arg3 harg3 arg4 harg4 arg5 harg5 arg6 harg6 hc0 hc1 x0 x1 = k0_pay3 (k0_pay2 (k0_pay1 (F := Ideal)) x0 x1) := by
  unfold out0_A_2
  rw [View.read_writes_eq_canon _ _ _ (cover0_A_2 c i arg3 harg3 arg4 harg4 arg5 harg5 arg6 harg6 hc0 hc1 x0 x1)]
  unfold kernelRun0_A
  dsimp only
  try sl_unfold_words
  rw [View.canon_unit_zero off2, View.readCov_cons_unit_lit' (S := S1024x32) _ _ _ _ _ (by decide) (by decide), View.readCov_unit_zero (S := S1024x32) _ off2]
  simp only [View.readAt_eq_ld, harg3.read_unread, harg4.read_unread, harg6.read_unread,
    View.ld_unit_zero (S := S1024x1024) off2, View.ld_unit_zero (S := S1024x32) off2, shapeCast_self]

end Cases

/-! ## The body's values at an index -/

theorem pay1_at (r : Fin 1024) (d : Fin 32) : k0_pay1 (F := Ideal) (ix2 r d) = 0 := by
  pointwise [k0_pay1]

theorem pay2_at (y : Vec Ideal S1024x32 .f32) (x0 : Vec Ideal S1024x1024 .bf16) (x1 : Vec Ideal S1024x32 .bf16) (r : Fin 1024) (d : Fin 32) :
    k0_pay2 (F := Ideal) y x0 x1 (ix2 r d) = y (ix2 r d) + ∑ k : Fin 1024, ((x0 (ix2 r k) : EReal) * x1 (ix2 k d) : EReal) := by
  pointwise [k0_pay2]

theorem pay3_at (y : Vec Ideal S1024x32 .f32) (r : Fin 1024) (d : Fin 32) :
    k0_pay3 (F := Ideal) y (ix2 r d) = (y (ix2 r d) : EReal) := by
  pointwise [k0_pay3]

/-! ## The blocks -/

variable (m : (ℓ : Loc nD τ sig) → Buf (Elt Ideal) ℓ) (c : Dev nD)

theorem e0 : ∀ t : Fin cfg0.N, win0_0.index t 0 = t.val / 1 ∧ win0_0.index t 1 = 0 := by decide +kernel
theorem e1 : ∀ t : Fin cfg0.N, win0_1.index t 0 = 0 ∧ win0_1.index t 1 = 0 := by decide +kernel
theorem e2 : ∀ t : Fin cfg0.N, win0_2.index t 0 = t.val / 1 ∧ win0_2.index t 1 = 0 := by decide +kernel

/-- The row and the column of the product that an entry of a point's block is, and a position along the summed axis. -/
def gr (t : Fin cfg0.N) (r : Fin 1024) : Fin 2048 := ⟨t.val / 1 * 1024 + r.val, by have : t.val < 2 := t.isLt; omega⟩
def gc (t : Fin cfg0.N) (d : Fin 32) : Fin 32 := ⟨0 * 32 + d.val, by have : t.val < 2 := t.isLt; omega⟩
def gk (t : Fin cfg0.N) (k : Fin 1024) : Fin 1024 := ⟨0 * 1024 + k.val, by have : t.val < 2 := t.isLt; omega⟩

theorem blk0_at (t : Fin cfg0.N) (r : Fin 1024) (k : Fin 1024) : iblk m c 0 t (ix2 r k) = V m c main_arg0 (ix2 (gr t r) (gk t k)) := by
  refine congrArg (V m c main_arg0) (ix2_ext ?_ ?_)
  · show win0_0.index t 0 * 1024 + 1 * r.val = t.val / 1 * 1024 + r.val
    rw [(e0 t).1]; omega
  · show win0_0.index t 1 * 1024 + 1 * k.val = 0 * 1024 + k.val
    rw [(e0 t).2]; omega

theorem blk1_at (t : Fin cfg0.N) (k : Fin 1024) (d : Fin 32) : iblk m c 1 t (ix2 k d) = V m c main_arg1 (ix2 (gk t k) (gc t d)) := by
  refine congrArg (V m c main_arg1) (ix2_ext ?_ ?_)
  · show win0_1.index t 0 * 1024 + 1 * k.val = 0 * 1024 + k.val
    rw [(e1 t).1]; omega
  · show win0_1.index t 1 * 32 + 1 * d.val = 0 * 32 + d.val
    rw [(e1 t).2]; omega

/-- What one grid point adds. -/
theorem add_at (t : Fin cfg0.N) (y : Vec Ideal S1024x32 .f32) (r : Fin 1024) (d : Fin 32) : k0_pay2 (F := Ideal) y (iblk m c 0 t) (iblk m c 1 t) (ix2 r d)
    = y (ix2 r d) + ∑ k ∈ Finset.range 1024, term (rowNN (V m c main_arg0) (V m c main_arg1) (gr t r) (gc t d)) (0 * 1024 + k) :=
  (pay2_at _ _ _ r d).trans (congrArg (y (ix2 r d) + ·) (sum_part fun k => ⟨(gk t k).isLt, congrArg₂ (· * ·) (blk0_at m c t r k) (blk1_at m c t k d)⟩))

theorem last_at (t : Fin cfg0.N) (r : Fin 1024) (d : Fin 32) : outsAt0 m c t (ix2 r d) = mulNN (V m c main_arg0) (V m c main_arg1) (gr t r) (gc t d) := by
  unfold outsAt0
  rw [out_A, pay3_at]
  rw [add_at, pay1_at, zero_add, Nat.zero_mul]
  simp only [Nat.zero_add]
  exact sum_term _

theorem final : (dats m 0 c).arrAt 2 cfg0.N = entries (mulNN (V m c main_arg0) (V m c main_arg1)) := by
  refine (dats m 0 c).arrAt_eq_of_covers 2 _ (by decide +kernel) fun t hf y => ?_
  blk_simp
  rw [after0_2]
  revert y
  intro (y : S1024x32.Idx)
  idx_vars y
  rw [last_at m c t y0 y1]
  refine congrArg₂ (mulNN (V m c main_arg0) (V m c main_arg1)) (Fin.ext ?_) (Fin.ext ?_)
  · show t.val / 1 * 1024 + y0.val = win0_2.index t 0 * 1024 + 1 * y0.val
    rw [(e2 t).1]; omega
  · show 0 * 32 + y1.val = win0_2.index t 1 * 32 + 1 * y1.val
    rw [(e2 t).2]; omega

theorem agree : algebraic_Kernel24Ideal_Reference24Ideal (hKernel24Ideal := Cert.Kernel24Ideal.Gen.facts) (hReference24Ideal := Cert.Reference24Ideal.Gen.facts) := by
  intro m g m' g' _ hagree
  refine ⟨fun c => entries (mulNN (m (c.tc.loc main_arg0)) (m (c.tc.loc main_arg1))), ?_, ?_⟩
  · refine (θ_run _ _ _).mono (fun r h c => ⟨(h c).1.trans ((final m c).trans ?_), (h c).2⟩) (Value.run_blocks (F := Ideal) m g)
    rw [V_main_arg0, V_main_arg1]
  · refine (θ_run _ _ _).mono (fun r h c => ⟨(h c).1.trans ?_, (h c).2⟩) (Cert.Reference24Ideal.Value.run (F := Ideal) m' g')
    rw [(hagree c).1, (hagree c).2]
    funext i
    idx_vars i
    show _ = mulNN (m (c.tc.loc main_arg0)) (m (c.tc.loc main_arg1)) i0 i1
    unfold mulNN rowNN
    pointwise

end Cert.Proof.LowIn32

end
-- ==== Proof.LowOut64.lean ====
/-
  The decay's second low-rank product.
-/
module

public import proofs.«01_k».proof.Defs
public import proofs.«01_k».proof.Proof.Gen.Kernel25Ideal.Value
public import proofs.«01_k».proof.Proof.Gen.Reference25Ideal.Run
public import proofs.«01_k».proof.Proof.Tiles
public import Idealize.ShloMosaic.Lib.Pipeline.ValueKit

@[expose] public section

noncomputable section

namespace Cert.Proof.LowOut64

open Idealize.ShloMosaic Idealize.SL.Sem Cert.Kernel25Ideal Cert.Kernel25Ideal.Gen
open Idealize.ShloMosaic.TcCoe
open Idealize.ShloMosaic.Pipeline (Dat Cfg Window)

section Cases

variable (c : Dev nD) (i : grid0.Coords)
  (arg3 : Memref sig .tc .vmem S1024x64 .f32) (harg3 : arg3.IsWhole)
  (arg4 : Memref sig .tc .vmem S64x1024 .bf16) (harg4 : arg4.IsWhole)
  (arg5 : Memref sig .tc .vmem S1024x1024 .f32) (harg5 : arg5.IsWhole)
  (arg6 : Memref sig .tc .vmem S1024x1024 .f32) (harg6 : arg6.IsWhole)
  (x0 : Vec Ideal S1024x64 .f32) (x1 : Vec Ideal S64x1024 .bf16) (y : Vec Ideal S1024x1024 .f32)

theorem out_A (hc0 : cond0_0 i) (hc1 : cond0_1 i) :
    out0_A_2 c i arg3 harg3 arg4 harg4 arg5 harg5 arg6 harg6 hc0 hc1 x0 x1 = k0_pay2 (k0_pay1 (F := Ideal)) x0 x1 := by
  unfold out0_A_2
  rw [View.read_writes_eq_canon _ _ _ (cover0_A_2 c i arg3 harg3 arg4 harg4 arg5 harg5 arg6 harg6 hc0 hc1 x0 x1)]
  unfold kernelRun0_A
  dsimp only
  try sl_unfold_words
  rw [View.canon_unit_zero off2, View.readCov_cons_unit_lit' (S := S1024x1024) _ _ _ _ _ (by decide) (by decide), View.readCov_unit_zero (S := S1024x1024) _ off2]
  simp only [View.readAt_eq_ld, harg3.read_unread, harg4.read_unread, harg6.read_unread,
    View.ld_unit_zero (S := S1024x64) off2, View.ld_unit_zero (S := S64x1024) off2, View.ld_unit_zero (S := S1024x1024) off2, shapeCast_self]

end Cases

/-! ## The body's values at an index -/

theorem pay1_at (r : Fin 1024) (d : Fin 1024) : k0_pay1 (F := Ideal) (ix2 r d) = 0 := by
  pointwise [k0_pay1]

theorem pay2_at (y : Vec Ideal S1024x1024 .f32) (x0 : Vec Ideal S1024x64 .f32) (x1 : Vec Ideal S64x1024 .bf16) (r : Fin 1024) (d : Fin 1024) :
    k0_pay2 (F := Ideal) y x0 x1 (ix2 r d) = y (ix2 r d) + ∑ k : Fin 64, ((x0 (ix2 r k) : EReal) * x1 (ix2 k d) : EReal) := by
  pointwise [k0_pay2]

/-! ## The blocks -/

variable (m : (ℓ : Loc nD τ sig) → Buf (Elt Ideal) ℓ) (c : Dev nD)

theorem e0 : ∀ t : Fin cfg0.N, win0_0.index t 0 = t.val / 1 ∧ win0_0.index t 1 = 0 := by decide +kernel
theorem e1 : ∀ t : Fin cfg0.N, win0_1.index t 0 = 0 ∧ win0_1.index t 1 = 0 := by decide +kernel
theorem e2 : ∀ t : Fin cfg0.N, win0_2.index t 0 = t.val / 1 ∧ win0_2.index t 1 = 0 := by decide +kernel

/-- The row and the column of the product that an entry of a point's block is, and a position along the summed axis. -/
def gr (t : Fin cfg0.N) (r : Fin 1024) : Fin 2048 := ⟨t.val / 1 * 1024 + r.val, by have : t.val < 2 := t.isLt; omega⟩
def gc (t : Fin cfg0.N) (d : Fin 1024) : Fin 1024 := ⟨0 * 1024 + d.val, by have : t.val < 2 := t.isLt; omega⟩
def gk (t : Fin cfg0.N) (k : Fin 64) : Fin 64 := ⟨0 * 64 + k.val, by have : t.val < 2 := t.isLt; omega⟩

theorem blk0_at (t : Fin cfg0.N) (r : Fin 1024) (k : Fin 64) : iblk m c 0 t (ix2 r k) = V m c main_arg0 (ix2 (gr t r) (gk t k)) := by
  refine congrArg (V m c main_arg0) (ix2_ext ?_ ?_)
  · show win0_0.index t 0 * 1024 + 1 * r.val = t.val / 1 * 1024 + r.val
    rw [(e0 t).1]; omega
  · show win0_0.index t 1 * 64 + 1 * k.val = 0 * 64 + k.val
    rw [(e0 t).2]; omega

theorem blk1_at (t : Fin cfg0.N) (k : Fin 64) (d : Fin 1024) : iblk m c 1 t (ix2 k d) = V m c main_arg1 (ix2 (gk t k) (gc t d)) := by
  refine congrArg (V m c main_arg1) (ix2_ext ?_ ?_)
  · show win0_1.index t 0 * 64 + 1 * k.val = 0 * 64 + k.val
    rw [(e1 t).1]; omega
  · show win0_1.index t 1 * 1024 + 1 * d.val = 0 * 1024 + d.val
    rw [(e1 t).2]; omega

/-- What one grid point adds. -/
theorem add_at (t : Fin cfg0.N) (y : Vec Ideal S1024x1024 .f32) (r : Fin 1024) (d : Fin 1024) : k0_pay2 (F := Ideal) y (iblk m c 0 t) (iblk m c 1 t) (ix2 r d)
    = y (ix2 r d) + ∑ k ∈ Finset.range 64, term (rowNN (V m c main_arg0) (V m c main_arg1) (gr t r) (gc t d)) (0 * 64 + k) :=
  (pay2_at _ _ _ r d).trans (congrArg (y (ix2 r d) + ·) (sum_part fun k => ⟨(gk t k).isLt, congrArg₂ (· * ·) (blk0_at m c t r k) (blk1_at m c t k d)⟩))

theorem last_at (t : Fin cfg0.N) (r : Fin 1024) (d : Fin 1024) : outsAt0 m c t (ix2 r d) = mulNN (V m c main_arg0) (V m c main_arg1) (gr t r) (gc t d) := by
  unfold outsAt0
  rw [out_A]
  rw [add_at, pay1_at, zero_add, Nat.zero_mul]
  simp only [Nat.zero_add]
  exact sum_term _

theorem final : (dats m 0 c).arrAt 2 cfg0.N = entries (mulNN (V m c main_arg0) (V m c main_arg1)) := by
  refine (dats m 0 c).arrAt_eq_of_covers 2 _ (by decide +kernel) fun t hf y => ?_
  blk_simp
  rw [after0_2]
  revert y
  intro (y : S1024x1024.Idx)
  idx_vars y
  rw [last_at m c t y0 y1]
  refine congrArg₂ (mulNN (V m c main_arg0) (V m c main_arg1)) (Fin.ext ?_) (Fin.ext ?_)
  · show t.val / 1 * 1024 + y0.val = win0_2.index t 0 * 1024 + 1 * y0.val
    rw [(e2 t).1]; omega
  · show 0 * 1024 + y1.val = win0_2.index t 1 * 1024 + 1 * y1.val
    rw [(e2 t).2]; omega

theorem agree : algebraic_Kernel25Ideal_Reference25Ideal (hKernel25Ideal := Cert.Kernel25Ideal.Gen.facts) (hReference25Ideal := Cert.Reference25Ideal.Gen.facts) := by
  intro m g m' g' _ hagree
  refine ⟨fun c => entries (mulNN (m (c.tc.loc main_arg0)) (m (c.tc.loc main_arg1))), ?_, ?_⟩
  · refine (θ_run _ _ _).mono (fun r h c => ⟨(h c).1.trans ((final m c).trans ?_), (h c).2⟩) (Value.run_blocks (F := Ideal) m g)
    rw [V_main_arg0, V_main_arg1]
  · refine (θ_run _ _ _).mono (fun r h c => ⟨(h c).1.trans ?_, (h c).2⟩) (Cert.Reference25Ideal.Value.run (F := Ideal) m' g')
    rw [(hagree c).1, (hagree c).2]
    funext i
    idx_vars i
    show _ = mulNN (m (c.tc.loc main_arg0)) (m (c.tc.loc main_arg1)) i0 i1
    unfold mulNN rowNN
    pointwise

end Cert.Proof.LowOut64

end
-- ==== Proof.LowOutBf64.lean ====
/-
  The second low-rank product of the in-context learning rate.
-/
module

public import proofs.«01_k».proof.Defs
public import proofs.«01_k».proof.Proof.Gen.Kernel26Ideal.Value
public import proofs.«01_k».proof.Proof.Gen.Reference26Ideal.Run
public import proofs.«01_k».proof.Proof.Tiles
public import Idealize.ShloMosaic.Lib.Pipeline.ValueKit

@[expose] public section

noncomputable section

namespace Cert.Proof.LowOutBf64

open Idealize.ShloMosaic Idealize.SL.Sem Cert.Kernel26Ideal Cert.Kernel26Ideal.Gen
open Idealize.ShloMosaic.TcCoe
open Idealize.ShloMosaic.Pipeline (Dat Cfg Window)

section Cases

variable (c : Dev nD) (i : grid0.Coords)
  (arg3 : Memref sig .tc .vmem S1024x64 .bf16) (harg3 : arg3.IsWhole)
  (arg4 : Memref sig .tc .vmem S64x1024 .bf16) (harg4 : arg4.IsWhole)
  (arg5 : Memref sig .tc .vmem S1024x1024 .f32) (harg5 : arg5.IsWhole)
  (arg6 : Memref sig .tc .vmem S1024x1024 .f32) (harg6 : arg6.IsWhole)
  (x0 : Vec Ideal S1024x64 .bf16) (x1 : Vec Ideal S64x1024 .bf16) (y : Vec Ideal S1024x1024 .f32)

theorem out_A (hc0 : cond0_0 i) (hc1 : cond0_1 i) :
    out0_A_2 c i arg3 harg3 arg4 harg4 arg5 harg5 arg6 harg6 hc0 hc1 x0 x1 = k0_pay2 (k0_pay1 (F := Ideal)) x0 x1 := by
  unfold out0_A_2
  rw [View.read_writes_eq_canon _ _ _ (cover0_A_2 c i arg3 harg3 arg4 harg4 arg5 harg5 arg6 harg6 hc0 hc1 x0 x1)]
  unfold kernelRun0_A
  dsimp only
  try sl_unfold_words
  rw [View.canon_unit_zero off2, View.readCov_cons_unit_lit' (S := S1024x1024) _ _ _ _ _ (by decide) (by decide), View.readCov_unit_zero (S := S1024x1024) _ off2]
  simp only [View.readAt_eq_ld, harg3.read_unread, harg4.read_unread, harg6.read_unread,
    View.ld_unit_zero (S := S1024x64) off2, View.ld_unit_zero (S := S64x1024) off2, View.ld_unit_zero (S := S1024x1024) off2, shapeCast_self]

end Cases

/-! ## The body's values at an index -/

theorem pay1_at (r : Fin 1024) (d : Fin 1024) : k0_pay1 (F := Ideal) (ix2 r d) = 0 := by
  pointwise [k0_pay1]

theorem pay2_at (y : Vec Ideal S1024x1024 .f32) (x0 : Vec Ideal S1024x64 .bf16) (x1 : Vec Ideal S64x1024 .bf16) (r : Fin 1024) (d : Fin 1024) :
    k0_pay2 (F := Ideal) y x0 x1 (ix2 r d) = y (ix2 r d) + ∑ k : Fin 64, ((x0 (ix2 r k) : EReal) * x1 (ix2 k d) : EReal) := by
  pointwise [k0_pay2]

/-! ## The blocks -/

variable (m : (ℓ : Loc nD τ sig) → Buf (Elt Ideal) ℓ) (c : Dev nD)

theorem e0 : ∀ t : Fin cfg0.N, win0_0.index t 0 = t.val / 1 ∧ win0_0.index t 1 = 0 := by decide +kernel
theorem e1 : ∀ t : Fin cfg0.N, win0_1.index t 0 = 0 ∧ win0_1.index t 1 = 0 := by decide +kernel
theorem e2 : ∀ t : Fin cfg0.N, win0_2.index t 0 = t.val / 1 ∧ win0_2.index t 1 = 0 := by decide +kernel

/-- The row and the column of the product that an entry of a point's block is, and a position along the summed axis. -/
def gr (t : Fin cfg0.N) (r : Fin 1024) : Fin 2048 := ⟨t.val / 1 * 1024 + r.val, by have : t.val < 2 := t.isLt; omega⟩
def gc (t : Fin cfg0.N) (d : Fin 1024) : Fin 1024 := ⟨0 * 1024 + d.val, by have : t.val < 2 := t.isLt; omega⟩
def gk (t : Fin cfg0.N) (k : Fin 64) : Fin 64 := ⟨0 * 64 + k.val, by have : t.val < 2 := t.isLt; omega⟩

theorem blk0_at (t : Fin cfg0.N) (r : Fin 1024) (k : Fin 64) : iblk m c 0 t (ix2 r k) = V m c main_arg0 (ix2 (gr t r) (gk t k)) := by
  refine congrArg (V m c main_arg0) (ix2_ext ?_ ?_)
  · show win0_0.index t 0 * 1024 + 1 * r.val = t.val / 1 * 1024 + r.val
    rw [(e0 t).1]; omega
  · show win0_0.index t 1 * 64 + 1 * k.val = 0 * 64 + k.val
    rw [(e0 t).2]; omega

theorem blk1_at (t : Fin cfg0.N) (k : Fin 64) (d : Fin 1024) : iblk m c 1 t (ix2 k d) = V m c main_arg1 (ix2 (gk t k) (gc t d)) := by
  refine congrArg (V m c main_arg1) (ix2_ext ?_ ?_)
  · show win0_1.index t 0 * 64 + 1 * k.val = 0 * 64 + k.val
    rw [(e1 t).1]; omega
  · show win0_1.index t 1 * 1024 + 1 * d.val = 0 * 1024 + d.val
    rw [(e1 t).2]; omega

/-- What one grid point adds. -/
theorem add_at (t : Fin cfg0.N) (y : Vec Ideal S1024x1024 .f32) (r : Fin 1024) (d : Fin 1024) : k0_pay2 (F := Ideal) y (iblk m c 0 t) (iblk m c 1 t) (ix2 r d)
    = y (ix2 r d) + ∑ k ∈ Finset.range 64, term (rowNN (V m c main_arg0) (V m c main_arg1) (gr t r) (gc t d)) (0 * 64 + k) :=
  (pay2_at _ _ _ r d).trans (congrArg (y (ix2 r d) + ·) (sum_part fun k => ⟨(gk t k).isLt, congrArg₂ (· * ·) (blk0_at m c t r k) (blk1_at m c t k d)⟩))

theorem last_at (t : Fin cfg0.N) (r : Fin 1024) (d : Fin 1024) : outsAt0 m c t (ix2 r d) = mulNN (V m c main_arg0) (V m c main_arg1) (gr t r) (gc t d) := by
  unfold outsAt0
  rw [out_A]
  rw [add_at, pay1_at, zero_add, Nat.zero_mul]
  simp only [Nat.zero_add]
  exact sum_term _

theorem final : (dats m 0 c).arrAt 2 cfg0.N = entries (mulNN (V m c main_arg0) (V m c main_arg1)) := by
  refine (dats m 0 c).arrAt_eq_of_covers 2 _ (by decide +kernel) fun t hf y => ?_
  blk_simp
  rw [after0_2]
  revert y
  intro (y : S1024x1024.Idx)
  idx_vars y
  rw [last_at m c t y0 y1]
  refine congrArg₂ (mulNN (V m c main_arg0) (V m c main_arg1)) (Fin.ext ?_) (Fin.ext ?_)
  · show t.val / 1 * 1024 + y0.val = win0_2.index t 0 * 1024 + 1 * y0.val
    rw [(e2 t).1]; omega
  · show 0 * 1024 + y1.val = win0_2.index t 1 * 1024 + 1 * y1.val
    rw [(e2 t).2]; omega

theorem agree : algebraic_Kernel26Ideal_Reference26Ideal (hKernel26Ideal := Cert.Kernel26Ideal.Gen.facts) (hReference26Ideal := Cert.Reference26Ideal.Gen.facts) := by
  intro m g m' g' _ hagree
  refine ⟨fun c => entries (mulNN (m (c.tc.loc main_arg0)) (m (c.tc.loc main_arg1))), ?_, ?_⟩
  · refine (θ_run _ _ _).mono (fun r h c => ⟨(h c).1.trans ((final m c).trans ?_), (h c).2⟩) (Value.run_blocks (F := Ideal) m g)
    rw [V_main_arg0, V_main_arg1]
  · refine (θ_run _ _ _).mono (fun r h c => ⟨(h c).1.trans ?_, (h c).2⟩) (Cert.Reference26Ideal.Value.run (F := Ideal) m' g')
    rw [(hagree c).1, (hagree c).2]
    funext i
    idx_vars i
    show _ = mulNN (m (c.tc.loc main_arg0)) (m (c.tc.loc main_arg1)) i0 i1
    unfold mulNN rowNN
    pointwise

end Cert.Proof.LowOutBf64

end
-- ==== Proof.LowOut160.lean ====
/-
  The gate's second low-rank product.
-/
module

public import proofs.«01_k».proof.Defs
public import proofs.«01_k».proof.Proof.Gen.Kernel27Ideal.Value
public import proofs.«01_k».proof.Proof.Gen.Reference27Ideal.Run
public import proofs.«01_k».proof.Proof.Tiles
public import Idealize.ShloMosaic.Lib.Pipeline.ValueKit

@[expose] public section

noncomputable section

namespace Cert.Proof.LowOut160

open Idealize.ShloMosaic Idealize.SL.Sem Cert.Kernel27Ideal Cert.Kernel27Ideal.Gen
open Idealize.ShloMosaic.TcCoe
open Idealize.ShloMosaic.Pipeline (Dat Cfg Window)

section Cases

variable (c : Dev nD) (i : grid0.Coords)
  (arg3 : Memref sig .tc .vmem S1024x160 .f32) (harg3 : arg3.IsWhole)
  (arg4 : Memref sig .tc .vmem S160x1024 .bf16) (harg4 : arg4.IsWhole)
  (arg5 : Memref sig .tc .vmem S1024x1024 .f32) (harg5 : arg5.IsWhole)
  (arg6 : Memref sig .tc .vmem S1024x1024 .f32) (harg6 : arg6.IsWhole)
  (x0 : Vec Ideal S1024x160 .f32) (x1 : Vec Ideal S160x1024 .bf16) (y : Vec Ideal S1024x1024 .f32)

theorem out_A (hc0 : cond0_0 i) (hc1 : cond0_1 i) :
    out0_A_2 c i arg3 harg3 arg4 harg4 arg5 harg5 arg6 harg6 hc0 hc1 x0 x1 = k0_pay2 (k0_pay1 (F := Ideal)) x0 x1 := by
  unfold out0_A_2
  rw [View.read_writes_eq_canon _ _ _ (cover0_A_2 c i arg3 harg3 arg4 harg4 arg5 harg5 arg6 harg6 hc0 hc1 x0 x1)]
  unfold kernelRun0_A
  dsimp only
  try sl_unfold_words
  rw [View.canon_unit_zero off2, View.readCov_cons_unit_lit' (S := S1024x1024) _ _ _ _ _ (by decide) (by decide), View.readCov_unit_zero (S := S1024x1024) _ off2]
  simp only [View.readAt_eq_ld, harg3.read_unread, harg4.read_unread, harg6.read_unread,
    View.ld_unit_zero (S := S1024x160) off2, View.ld_unit_zero (S := S160x1024) off2, View.ld_unit_zero (S := S1024x1024) off2, shapeCast_self]

end Cases

/-! ## The body's values at an index -/

theorem pay1_at (r : Fin 1024) (d : Fin 1024) : k0_pay1 (F := Ideal) (ix2 r d) = 0 := by
  pointwise [k0_pay1]

theorem pay2_at (y : Vec Ideal S1024x1024 .f32) (x0 : Vec Ideal S1024x160 .f32) (x1 : Vec Ideal S160x1024 .bf16) (r : Fin 1024) (d : Fin 1024) :
    k0_pay2 (F := Ideal) y x0 x1 (ix2 r d) = y (ix2 r d) + ∑ k : Fin 160, ((x0 (ix2 r k) : EReal) * x1 (ix2 k d) : EReal) := by
  pointwise [k0_pay2]

/-! ## The blocks -/

variable (m : (ℓ : Loc nD τ sig) → Buf (Elt Ideal) ℓ) (c : Dev nD)

theorem e0 : ∀ t : Fin cfg0.N, win0_0.index t 0 = t.val / 1 ∧ win0_0.index t 1 = 0 := by decide +kernel
theorem e1 : ∀ t : Fin cfg0.N, win0_1.index t 0 = 0 ∧ win0_1.index t 1 = 0 := by decide +kernel
theorem e2 : ∀ t : Fin cfg0.N, win0_2.index t 0 = t.val / 1 ∧ win0_2.index t 1 = 0 := by decide +kernel

/-- The row and the column of the product that an entry of a point's block is, and a position along the summed axis. -/
def gr (t : Fin cfg0.N) (r : Fin 1024) : Fin 2048 := ⟨t.val / 1 * 1024 + r.val, by have : t.val < 2 := t.isLt; omega⟩
def gc (t : Fin cfg0.N) (d : Fin 1024) : Fin 1024 := ⟨0 * 1024 + d.val, by have : t.val < 2 := t.isLt; omega⟩
def gk (t : Fin cfg0.N) (k : Fin 160) : Fin 160 := ⟨0 * 160 + k.val, by have : t.val < 2 := t.isLt; omega⟩

theorem blk0_at (t : Fin cfg0.N) (r : Fin 1024) (k : Fin 160) : iblk m c 0 t (ix2 r k) = V m c main_arg0 (ix2 (gr t r) (gk t k)) := by
  refine congrArg (V m c main_arg0) (ix2_ext ?_ ?_)
  · show win0_0.index t 0 * 1024 + 1 * r.val = t.val / 1 * 1024 + r.val
    rw [(e0 t).1]; omega
  · show win0_0.index t 1 * 160 + 1 * k.val = 0 * 160 + k.val
    rw [(e0 t).2]; omega

theorem blk1_at (t : Fin cfg0.N) (k : Fin 160) (d : Fin 1024) : iblk m c 1 t (ix2 k d) = V m c main_arg1 (ix2 (gk t k) (gc t d)) := by
  refine congrArg (V m c main_arg1) (ix2_ext ?_ ?_)
  · show win0_1.index t 0 * 160 + 1 * k.val = 0 * 160 + k.val
    rw [(e1 t).1]; omega
  · show win0_1.index t 1 * 1024 + 1 * d.val = 0 * 1024 + d.val
    rw [(e1 t).2]; omega

/-- What one grid point adds. -/
theorem add_at (t : Fin cfg0.N) (y : Vec Ideal S1024x1024 .f32) (r : Fin 1024) (d : Fin 1024) : k0_pay2 (F := Ideal) y (iblk m c 0 t) (iblk m c 1 t) (ix2 r d)
    = y (ix2 r d) + ∑ k ∈ Finset.range 160, term (rowNN (V m c main_arg0) (V m c main_arg1) (gr t r) (gc t d)) (0 * 160 + k) :=
  (pay2_at _ _ _ r d).trans (congrArg (y (ix2 r d) + ·) (sum_part fun k => ⟨(gk t k).isLt, congrArg₂ (· * ·) (blk0_at m c t r k) (blk1_at m c t k d)⟩))

theorem last_at (t : Fin cfg0.N) (r : Fin 1024) (d : Fin 1024) : outsAt0 m c t (ix2 r d) = mulNN (V m c main_arg0) (V m c main_arg1) (gr t r) (gc t d) := by
  unfold outsAt0
  rw [out_A]
  rw [add_at, pay1_at, zero_add, Nat.zero_mul]
  simp only [Nat.zero_add]
  exact sum_term _

theorem final : (dats m 0 c).arrAt 2 cfg0.N = entries (mulNN (V m c main_arg0) (V m c main_arg1)) := by
  refine (dats m 0 c).arrAt_eq_of_covers 2 _ (by decide +kernel) fun t hf y => ?_
  blk_simp
  rw [after0_2]
  revert y
  intro (y : S1024x1024.Idx)
  idx_vars y
  rw [last_at m c t y0 y1]
  refine congrArg₂ (mulNN (V m c main_arg0) (V m c main_arg1)) (Fin.ext ?_) (Fin.ext ?_)
  · show t.val / 1 * 1024 + y0.val = win0_2.index t 0 * 1024 + 1 * y0.val
    rw [(e2 t).1]; omega
  · show 0 * 1024 + y1.val = win0_2.index t 1 * 1024 + 1 * y1.val
    rw [(e2 t).2]; omega

theorem agree : algebraic_Kernel27Ideal_Reference27Ideal (hKernel27Ideal := Cert.Kernel27Ideal.Gen.facts) (hReference27Ideal := Cert.Reference27Ideal.Gen.facts) := by
  intro m g m' g' _ hagree
  refine ⟨fun c => entries (mulNN (m (c.tc.loc main_arg0)) (m (c.tc.loc main_arg1))), ?_, ?_⟩
  · refine (θ_run _ _ _).mono (fun r h c => ⟨(h c).1.trans ((final m c).trans ?_), (h c).2⟩) (Value.run_blocks (F := Ideal) m g)
    rw [V_main_arg0, V_main_arg1]
  · refine (θ_run _ _ _).mono (fun r h c => ⟨(h c).1.trans ?_, (h c).2⟩) (Cert.Reference27Ideal.Value.run (F := Ideal) m' g')
    rw [(hagree c).1, (hagree c).2]
    funext i
    idx_vars i
    show _ = mulNN (m (c.tc.loc main_arg0)) (m (c.tc.loc main_arg1)) i0 i1
    unfold mulNN rowNN
    pointwise

end Cert.Proof.LowOut160

end
-- ==== Proof.LowOutBf32.lean ====
/-
  The second low-rank product of the value residual.
-/
module

public import proofs.«01_k».proof.Defs
public import proofs.«01_k».proof.Proof.Gen.Kernel28Ideal.Value
public import proofs.«01_k».proof.Proof.Gen.Reference28Ideal.Run
public import proofs.«01_k».proof.Proof.Tiles
public import Idealize.ShloMosaic.Lib.Pipeline.ValueKit

@[expose] public section

noncomputable section

namespace Cert.Proof.LowOutBf32

open Idealize.ShloMosaic Idealize.SL.Sem Cert.Kernel28Ideal Cert.Kernel28Ideal.Gen
open Idealize.ShloMosaic.TcCoe
open Idealize.ShloMosaic.Pipeline (Dat Cfg Window)

section Cases

variable (c : Dev nD) (i : grid0.Coords)
  (arg3 : Memref sig .tc .vmem S1024x32 .bf16) (harg3 : arg3.IsWhole)
  (arg4 : Memref sig .tc .vmem S32x1024 .bf16) (harg4 : arg4.IsWhole)
  (arg5 : Memref sig .tc .vmem S1024x1024 .f32) (harg5 : arg5.IsWhole)
  (arg6 : Memref sig .tc .vmem S1024x1024 .f32) (harg6 : arg6.IsWhole)
  (x0 : Vec Ideal S1024x32 .bf16) (x1 : Vec Ideal S32x1024 .bf16) (y : Vec Ideal S1024x1024 .f32)

theorem out_A (hc0 : cond0_0 i) (hc1 : cond0_1 i) :
    out0_A_2 c i arg3 harg3 arg4 harg4 arg5 harg5 arg6 harg6 hc0 hc1 x0 x1 = k0_pay2 (k0_pay1 (F := Ideal)) x0 x1 := by
  unfold out0_A_2
  rw [View.read_writes_eq_canon _ _ _ (cover0_A_2 c i arg3 harg3 arg4 harg4 arg5 harg5 arg6 harg6 hc0 hc1 x0 x1)]
  unfold kernelRun0_A
  dsimp only
  try sl_unfold_words
  rw [View.canon_unit_zero off2, View.readCov_cons_unit_lit' (S := S1024x1024) _ _ _ _ _ (by decide) (by decide), View.readCov_unit_zero (S := S1024x1024) _ off2]
  simp only [View.readAt_eq_ld, harg3.read_unread, harg4.read_unread, harg6.read_unread,
    View.ld_unit_zero (S := S1024x32) off2, View.ld_unit_zero (S := S32x1024) off2, View.ld_unit_zero (S := S1024x1024) off2, shapeCast_self]

end Cases

/-! ## The body's values at an index -/

theorem pay1_at (r : Fin 1024) (d : Fin 1024) : k0_pay1 (F := Ideal) (ix2 r d) = 0 := by
  pointwise [k0_pay1]

theorem pay2_at (y : Vec Ideal S1024x1024 .f32) (x0 : Vec Ideal S1024x32 .bf16) (x1 : Vec Ideal S32x1024 .bf16) (r : Fin 1024) (d : Fin 1024) :
    k0_pay2 (F := Ideal) y x0 x1 (ix2 r d) = y (ix2 r d) + ∑ k : Fin 32, ((x0 (ix2 r k) : EReal) * x1 (ix2 k d) : EReal) := by
  pointwise [k0_pay2]

/-! ## The blocks -/

variable (m : (ℓ : Loc nD τ sig) → Buf (Elt Ideal) ℓ) (c : Dev nD)

theorem e0 : ∀ t : Fin cfg0.N, win0_0.index t 0 = t.val / 1 ∧ win0_0.index t 1 = 0 := by decide +kernel
theorem e1 : ∀ t : Fin cfg0.N, win0_1.index t 0 = 0 ∧ win0_1.index t 1 = 0 := by decide +kernel
theorem e2 : ∀ t : Fin cfg0.N, win0_2.index t 0 = t.val / 1 ∧ win0_2.index t 1 = 0 := by decide +kernel

/-- The row and the column of the product that an entry of a point's block is, and a position along the summed axis. -/
def gr (t : Fin cfg0.N) (r : Fin 1024) : Fin 2048 := ⟨t.val / 1 * 1024 + r.val, by have : t.val < 2 := t.isLt; omega⟩
def gc (t : Fin cfg0.N) (d : Fin 1024) : Fin 1024 := ⟨0 * 1024 + d.val, by have : t.val < 2 := t.isLt; omega⟩
def gk (t : Fin cfg0.N) (k : Fin 32) : Fin 32 := ⟨0 * 32 + k.val, by have : t.val < 2 := t.isLt; omega⟩

theorem blk0_at (t : Fin cfg0.N) (r : Fin 1024) (k : Fin 32) : iblk m c 0 t (ix2 r k) = V m c main_arg0 (ix2 (gr t r) (gk t k)) := by
  refine congrArg (V m c main_arg0) (ix2_ext ?_ ?_)
  · show win0_0.index t 0 * 1024 + 1 * r.val = t.val / 1 * 1024 + r.val
    rw [(e0 t).1]; omega
  · show win0_0.index t 1 * 32 + 1 * k.val = 0 * 32 + k.val
    rw [(e0 t).2]; omega

theorem blk1_at (t : Fin cfg0.N) (k : Fin 32) (d : Fin 1024) : iblk m c 1 t (ix2 k d) = V m c main_arg1 (ix2 (gk t k) (gc t d)) := by
  refine congrArg (V m c main_arg1) (ix2_ext ?_ ?_)
  · show win0_1.index t 0 * 32 + 1 * k.val = 0 * 32 + k.val
    rw [(e1 t).1]; omega
  · show win0_1.index t 1 * 1024 + 1 * d.val = 0 * 1024 + d.val
    rw [(e1 t).2]; omega

/-- What one grid point adds. -/
theorem add_at (t : Fin cfg0.N) (y : Vec Ideal S1024x1024 .f32) (r : Fin 1024) (d : Fin 1024) : k0_pay2 (F := Ideal) y (iblk m c 0 t) (iblk m c 1 t) (ix2 r d)
    = y (ix2 r d) + ∑ k ∈ Finset.range 32, term (rowNN (V m c main_arg0) (V m c main_arg1) (gr t r) (gc t d)) (0 * 32 + k) :=
  (pay2_at _ _ _ r d).trans (congrArg (y (ix2 r d) + ·) (sum_part fun k => ⟨(gk t k).isLt, congrArg₂ (· * ·) (blk0_at m c t r k) (blk1_at m c t k d)⟩))

theorem last_at (t : Fin cfg0.N) (r : Fin 1024) (d : Fin 1024) : outsAt0 m c t (ix2 r d) = mulNN (V m c main_arg0) (V m c main_arg1) (gr t r) (gc t d) := by
  unfold outsAt0
  rw [out_A]
  rw [add_at, pay1_at, zero_add, Nat.zero_mul]
  simp only [Nat.zero_add]
  exact sum_term _

theorem final : (dats m 0 c).arrAt 2 cfg0.N = entries (mulNN (V m c main_arg0) (V m c main_arg1)) := by
  refine (dats m 0 c).arrAt_eq_of_covers 2 _ (by decide +kernel) fun t hf y => ?_
  blk_simp
  rw [after0_2]
  revert y
  intro (y : S1024x1024.Idx)
  idx_vars y
  rw [last_at m c t y0 y1]
  refine congrArg₂ (mulNN (V m c main_arg0) (V m c main_arg1)) (Fin.ext ?_) (Fin.ext ?_)
  · show t.val / 1 * 1024 + y0.val = win0_2.index t 0 * 1024 + 1 * y0.val
    rw [(e2 t).1]; omega
  · show 0 * 1024 + y1.val = win0_2.index t 1 * 1024 + 1 * y1.val
    rw [(e2 t).2]; omega

theorem agree : algebraic_Kernel28Ideal_Reference28Ideal (hKernel28Ideal := Cert.Kernel28Ideal.Gen.facts) (hReference28Ideal := Cert.Reference28Ideal.Gen.facts) := by
  intro m g m' g' _ hagree
  refine ⟨fun c => entries (mulNN (m (c.tc.loc main_arg0)) (m (c.tc.loc main_arg1))), ?_, ?_⟩
  · refine (θ_run _ _ _).mono (fun r h c => ⟨(h c).1.trans ((final m c).trans ?_), (h c).2⟩) (Value.run_blocks (F := Ideal) m g)
    rw [V_main_arg0, V_main_arg1]
  · refine (θ_run _ _ _).mono (fun r h c => ⟨(h c).1.trans ?_, (h c).2⟩) (Cert.Reference28Ideal.Value.run (F := Ideal) m' g')
    rw [(hagree c).1, (hagree c).2]
    funext i
    idx_vars i
    show _ = mulNN (m (c.tc.loc main_arg0)) (m (c.tc.loc main_arg1)) i0 i1
    unfold mulNN rowNN
    pointwise

end Cert.Proof.LowOutBf32

end
-- ==== Proof.LowOutRows64.lean ====
/-
  A second low-rank product of rank 64, its gradient in the rows.
-/
module

public import proofs.«01_k».proof.Defs
public import proofs.«01_k».proof.Proof.Gen.Kernel29Ideal.Value
public import proofs.«01_k».proof.Proof.Gen.Reference29Ideal.Run
public import proofs.«01_k».proof.Proof.Tiles
public import Idealize.ShloMosaic.Lib.Pipeline.ValueKit

@[expose] public section

noncomputable section

namespace Cert.Proof.LowOutRows64

open Idealize.ShloMosaic Idealize.SL.Sem Cert.Kernel29Ideal Cert.Kernel29Ideal.Gen
open Idealize.ShloMosaic.TcCoe
open Idealize.ShloMosaic.Pipeline (Dat Cfg Window)

section Cases

variable (c : Dev nD) (i : grid0.Coords)
  (arg3 : Memref sig .tc .vmem S1024x1024 .f32) (harg3 : arg3.IsWhole)
  (arg4 : Memref sig .tc .vmem S64x1024 .bf16) (harg4 : arg4.IsWhole)
  (arg5 : Memref sig .tc .vmem S1024x64 .f32) (harg5 : arg5.IsWhole)
  (arg6 : Memref sig .tc .vmem S1024x64 .f32) (harg6 : arg6.IsWhole)
  (x0 : Vec Ideal S1024x1024 .f32) (x1 : Vec Ideal S64x1024 .bf16) (y : Vec Ideal S1024x64 .f32)

theorem out_A (hc0 : cond0_0 i) (hc1 : cond0_1 i) :
    out0_A_2 c i arg3 harg3 arg4 harg4 arg5 harg5 arg6 harg6 hc0 hc1 x0 x1 = k0_pay2 (k0_pay1 (F := Ideal)) x0 x1 := by
  unfold out0_A_2
  rw [View.read_writes_eq_canon _ _ _ (cover0_A_2 c i arg3 harg3 arg4 harg4 arg5 harg5 arg6 harg6 hc0 hc1 x0 x1)]
  unfold kernelRun0_A
  dsimp only
  try sl_unfold_words
  rw [View.canon_unit_zero off2, View.readCov_cons_unit_lit' (S := S1024x64) _ _ _ _ _ (by decide) (by decide), View.readCov_unit_zero (S := S1024x64) _ off2]
  simp only [View.readAt_eq_ld, harg3.read_unread, harg4.read_unread, harg6.read_unread,
    View.ld_unit_zero (S := S1024x1024) off2, View.ld_unit_zero (S := S64x1024) off2, View.ld_unit_zero (S := S1024x64) off2, shapeCast_self]

end Cases

/-! ## The body's values at an index -/

theorem pay1_at (r : Fin 1024) (d : Fin 64) : k0_pay1 (F := Ideal) (ix2 r d) = 0 := by
  pointwise [k0_pay1]

theorem pay2_at (y : Vec Ideal S1024x64 .f32) (x0 : Vec Ideal S1024x1024 .f32) (x1 : Vec Ideal S64x1024 .bf16) (r : Fin 1024) (d : Fin 64) :
    k0_pay2 (F := Ideal) y x0 x1 (ix2 r d) = y (ix2 r d) + ∑ k : Fin 1024, ((x0 (ix2 r k) : EReal) * x1 (ix2 d k) : EReal) := by
  pointwise [k0_pay2]

/-! ## The blocks -/

variable (m : (ℓ : Loc nD τ sig) → Buf (Elt Ideal) ℓ) (c : Dev nD)

theorem e0 : ∀ t : Fin cfg0.N, win0_0.index t 0 = t.val / 1 ∧ win0_0.index t 1 = 0 := by decide +kernel
theorem e1 : ∀ t : Fin cfg0.N, win0_1.index t 0 = 0 ∧ win0_1.index t 1 = 0 := by decide +kernel
theorem e2 : ∀ t : Fin cfg0.N, win0_2.index t 0 = t.val / 1 ∧ win0_2.index t 1 = 0 := by decide +kernel

/-- The row and the column of the product that an entry of a point's block is, and a position along the summed axis. -/
def gr (t : Fin cfg0.N) (r : Fin 1024) : Fin 2048 := ⟨t.val / 1 * 1024 + r.val, by have : t.val < 2 := t.isLt; omega⟩
def gc (t : Fin cfg0.N) (d : Fin 64) : Fin 64 := ⟨0 * 64 + d.val, by have : t.val < 2 := t.isLt; omega⟩
def gk (t : Fin cfg0.N) (k : Fin 1024) : Fin 1024 := ⟨0 * 1024 + k.val, by have : t.val < 2 := t.isLt; omega⟩

theorem blk0_at (t : Fin cfg0.N) (r : Fin 1024) (k : Fin 1024) : iblk m c 0 t (ix2 r k) = V m c main_arg0 (ix2 (gr t r) (gk t k)) := by
  refine congrArg (V m c main_arg0) (ix2_ext ?_ ?_)
  · show win0_0.index t 0 * 1024 + 1 * r.val = t.val / 1 * 1024 + r.val
    rw [(e0 t).1]; omega
  · show win0_0.index t 1 * 1024 + 1 * k.val = 0 * 1024 + k.val
    rw [(e0 t).2]; omega

theorem blk1_at (t : Fin cfg0.N) (k : Fin 1024) (d : Fin 64) : iblk m c 1 t (ix2 d k) = V m c main_arg1 (ix2 (gc t d) (gk t k)) := by
  refine congrArg (V m c main_arg1) (ix2_ext ?_ ?_)
  · show win0_1.index t 0 * 64 + 1 * d.val = 0 * 64 + d.val
    rw [(e1 t).1]; omega
  · show win0_1.index t 1 * 1024 + 1 * k.val = 0 * 1024 + k.val
    rw [(e1 t).2]; omega

/-- What one grid point adds. -/
theorem add_at (t : Fin cfg0.N) (y : Vec Ideal S1024x64 .f32) (r : Fin 1024) (d : Fin 64) : k0_pay2 (F := Ideal) y (iblk m c 0 t) (iblk m c 1 t) (ix2 r d)
    = y (ix2 r d) + ∑ k ∈ Finset.range 1024, term (rowNT (V m c main_arg0) (V m c main_arg1) (gr t r) (gc t d)) (0 * 1024 + k) :=
  (pay2_at _ _ _ r d).trans (congrArg (y (ix2 r d) + ·) (sum_part fun k => ⟨(gk t k).isLt, congrArg₂ (· * ·) (blk0_at m c t r k) (blk1_at m c t k d)⟩))

theorem last_at (t : Fin cfg0.N) (r : Fin 1024) (d : Fin 64) : outsAt0 m c t (ix2 r d) = mulNT (V m c main_arg0) (V m c main_arg1) (gr t r) (gc t d) := by
  unfold outsAt0
  rw [out_A]
  rw [add_at, pay1_at, zero_add, Nat.zero_mul]
  simp only [Nat.zero_add]
  exact sum_term _

theorem final : (dats m 0 c).arrAt 2 cfg0.N = entries (mulNT (V m c main_arg0) (V m c main_arg1)) := by
  refine (dats m 0 c).arrAt_eq_of_covers 2 _ (by decide +kernel) fun t hf y => ?_
  blk_simp
  rw [after0_2]
  revert y
  intro (y : S1024x64.Idx)
  idx_vars y
  rw [last_at m c t y0 y1]
  refine congrArg₂ (mulNT (V m c main_arg0) (V m c main_arg1)) (Fin.ext ?_) (Fin.ext ?_)
  · show t.val / 1 * 1024 + y0.val = win0_2.index t 0 * 1024 + 1 * y0.val
    rw [(e2 t).1]; omega
  · show 0 * 64 + y1.val = win0_2.index t 1 * 64 + 1 * y1.val
    rw [(e2 t).2]; omega

theorem agree : algebraic_Kernel29Ideal_Reference29Ideal (hKernel29Ideal := Cert.Kernel29Ideal.Gen.facts) (hReference29Ideal := Cert.Reference29Ideal.Gen.facts) := by
  intro m g m' g' _ hagree
  refine ⟨fun c => entries (mulNT (m (c.tc.loc main_arg0)) (m (c.tc.loc main_arg1))), ?_, ?_⟩
  · refine (θ_run _ _ _).mono (fun r h c => ⟨(h c).1.trans ((final m c).trans ?_), (h c).2⟩) (Value.run_blocks (F := Ideal) m g)
    rw [V_main_arg0, V_main_arg1]
  · refine (θ_run _ _ _).mono (fun r h c => ⟨(h c).1.trans ?_, (h c).2⟩) (Cert.Reference29Ideal.Value.run (F := Ideal) m' g')
    rw [(hagree c).1, (hagree c).2]
    funext i
    idx_vars i
    show _ = mulNT (m (c.tc.loc main_arg0)) (m (c.tc.loc main_arg1)) i0 i1
    unfold mulNT rowNT
    pointwise

end Cert.Proof.LowOutRows64

end
-- ==== Proof.LowOutRows160.lean ====
/-
  A second low-rank product of rank 160, its gradient in the rows.
-/
module

public import proofs.«01_k».proof.Defs
public import proofs.«01_k».proof.Proof.Gen.Kernel30Ideal.Value
public import proofs.«01_k».proof.Proof.Gen.Reference30Ideal.Run
public import proofs.«01_k».proof.Proof.Tiles
public import Idealize.ShloMosaic.Lib.Pipeline.ValueKit

@[expose] public section

noncomputable section

namespace Cert.Proof.LowOutRows160

open Idealize.ShloMosaic Idealize.SL.Sem Cert.Kernel30Ideal Cert.Kernel30Ideal.Gen
open Idealize.ShloMosaic.TcCoe
open Idealize.ShloMosaic.Pipeline (Dat Cfg Window)

section Cases

variable (c : Dev nD) (i : grid0.Coords)
  (arg3 : Memref sig .tc .vmem S1024x1024 .f32) (harg3 : arg3.IsWhole)
  (arg4 : Memref sig .tc .vmem S160x1024 .bf16) (harg4 : arg4.IsWhole)
  (arg5 : Memref sig .tc .vmem S1024x160 .f32) (harg5 : arg5.IsWhole)
  (arg6 : Memref sig .tc .vmem S1024x160 .f32) (harg6 : arg6.IsWhole)
  (x0 : Vec Ideal S1024x1024 .f32) (x1 : Vec Ideal S160x1024 .bf16) (y : Vec Ideal S1024x160 .f32)

theorem out_A (hc0 : cond0_0 i) (hc1 : cond0_1 i) :
    out0_A_2 c i arg3 harg3 arg4 harg4 arg5 harg5 arg6 harg6 hc0 hc1 x0 x1 = k0_pay2 (k0_pay1 (F := Ideal)) x0 x1 := by
  unfold out0_A_2
  rw [View.read_writes_eq_canon _ _ _ (cover0_A_2 c i arg3 harg3 arg4 harg4 arg5 harg5 arg6 harg6 hc0 hc1 x0 x1)]
  unfold kernelRun0_A
  dsimp only
  try sl_unfold_words
  rw [View.canon_unit_zero off2, View.readCov_cons_unit_lit' (S := S1024x160) _ _ _ _ _ (by decide) (by decide), View.readCov_unit_zero (S := S1024x160) _ off2]
  simp only [View.readAt_eq_ld, harg3.read_unread, harg4.read_unread, harg6.read_unread,
    View.ld_unit_zero (S := S1024x1024) off2, View.ld_unit_zero (S := S160x1024) off2, View.ld_unit_zero (S := S1024x160) off2, shapeCast_self]

end Cases

/-! ## The body's values at an index -/

theorem pay1_at (r : Fin 1024) (d : Fin 160) : k0_pay1 (F := Ideal) (ix2 r d) = 0 := by
  pointwise [k0_pay1]

theorem pay2_at (y : Vec Ideal S1024x160 .f32) (x0 : Vec Ideal S1024x1024 .f32) (x1 : Vec Ideal S160x1024 .bf16) (r : Fin 1024) (d : Fin 160) :
    k0_pay2 (F := Ideal) y x0 x1 (ix2 r d) = y (ix2 r d) + ∑ k : Fin 1024, ((x0 (ix2 r k) : EReal) * x1 (ix2 d k) : EReal) := by
  pointwise [k0_pay2]

/-! ## The blocks -/

variable (m : (ℓ : Loc nD τ sig) → Buf (Elt Ideal) ℓ) (c : Dev nD)

theorem e0 : ∀ t : Fin cfg0.N, win0_0.index t 0 = t.val / 1 ∧ win0_0.index t 1 = 0 := by decide +kernel
theorem e1 : ∀ t : Fin cfg0.N, win0_1.index t 0 = 0 ∧ win0_1.index t 1 = 0 := by decide +kernel
theorem e2 : ∀ t : Fin cfg0.N, win0_2.index t 0 = t.val / 1 ∧ win0_2.index t 1 = 0 := by decide +kernel

/-- The row and the column of the product that an entry of a point's block is, and a position along the summed axis. -/
def gr (t : Fin cfg0.N) (r : Fin 1024) : Fin 2048 := ⟨t.val / 1 * 1024 + r.val, by have : t.val < 2 := t.isLt; omega⟩
def gc (t : Fin cfg0.N) (d : Fin 160) : Fin 160 := ⟨0 * 160 + d.val, by have : t.val < 2 := t.isLt; omega⟩
def gk (t : Fin cfg0.N) (k : Fin 1024) : Fin 1024 := ⟨0 * 1024 + k.val, by have : t.val < 2 := t.isLt; omega⟩

theorem blk0_at (t : Fin cfg0.N) (r : Fin 1024) (k : Fin 1024) : iblk m c 0 t (ix2 r k) = V m c main_arg0 (ix2 (gr t r) (gk t k)) := by
  refine congrArg (V m c main_arg0) (ix2_ext ?_ ?_)
  · show win0_0.index t 0 * 1024 + 1 * r.val = t.val / 1 * 1024 + r.val
    rw [(e0 t).1]; omega
  · show win0_0.index t 1 * 1024 + 1 * k.val = 0 * 1024 + k.val
    rw [(e0 t).2]; omega

theorem blk1_at (t : Fin cfg0.N) (k : Fin 1024) (d : Fin 160) : iblk m c 1 t (ix2 d k) = V m c main_arg1 (ix2 (gc t d) (gk t k)) := by
  refine congrArg (V m c main_arg1) (ix2_ext ?_ ?_)
  · show win0_1.index t 0 * 160 + 1 * d.val = 0 * 160 + d.val
    rw [(e1 t).1]; omega
  · show win0_1.index t 1 * 1024 + 1 * k.val = 0 * 1024 + k.val
    rw [(e1 t).2]; omega

/-- What one grid point adds. -/
theorem add_at (t : Fin cfg0.N) (y : Vec Ideal S1024x160 .f32) (r : Fin 1024) (d : Fin 160) : k0_pay2 (F := Ideal) y (iblk m c 0 t) (iblk m c 1 t) (ix2 r d)
    = y (ix2 r d) + ∑ k ∈ Finset.range 1024, term (rowNT (V m c main_arg0) (V m c main_arg1) (gr t r) (gc t d)) (0 * 1024 + k) :=
  (pay2_at _ _ _ r d).trans (congrArg (y (ix2 r d) + ·) (sum_part fun k => ⟨(gk t k).isLt, congrArg₂ (· * ·) (blk0_at m c t r k) (blk1_at m c t k d)⟩))

theorem last_at (t : Fin cfg0.N) (r : Fin 1024) (d : Fin 160) : outsAt0 m c t (ix2 r d) = mulNT (V m c main_arg0) (V m c main_arg1) (gr t r) (gc t d) := by
  unfold outsAt0
  rw [out_A]
  rw [add_at, pay1_at, zero_add, Nat.zero_mul]
  simp only [Nat.zero_add]
  exact sum_term _

theorem final : (dats m 0 c).arrAt 2 cfg0.N = entries (mulNT (V m c main_arg0) (V m c main_arg1)) := by
  refine (dats m 0 c).arrAt_eq_of_covers 2 _ (by decide +kernel) fun t hf y => ?_
  blk_simp
  rw [after0_2]
  revert y
  intro (y : S1024x160.Idx)
  idx_vars y
  rw [last_at m c t y0 y1]
  refine congrArg₂ (mulNT (V m c main_arg0) (V m c main_arg1)) (Fin.ext ?_) (Fin.ext ?_)
  · show t.val / 1 * 1024 + y0.val = win0_2.index t 0 * 1024 + 1 * y0.val
    rw [(e2 t).1]; omega
  · show 0 * 160 + y1.val = win0_2.index t 1 * 160 + 1 * y1.val
    rw [(e2 t).2]; omega

theorem agree : algebraic_Kernel30Ideal_Reference30Ideal (hKernel30Ideal := Cert.Kernel30Ideal.Gen.facts) (hReference30Ideal := Cert.Reference30Ideal.Gen.facts) := by
  intro m g m' g' _ hagree
  refine ⟨fun c => entries (mulNT (m (c.tc.loc main_arg0)) (m (c.tc.loc main_arg1))), ?_, ?_⟩
  · refine (θ_run _ _ _).mono (fun r h c => ⟨(h c).1.trans ((final m c).trans ?_), (h c).2⟩) (Value.run_blocks (F := Ideal) m g)
    rw [V_main_arg0, V_main_arg1]
  · refine (θ_run _ _ _).mono (fun r h c => ⟨(h c).1.trans ?_, (h c).2⟩) (Cert.Reference30Ideal.Value.run (F := Ideal) m' g')
    rw [(hagree c).1, (hagree c).2]
    funext i
    idx_vars i
    show _ = mulNT (m (c.tc.loc main_arg0)) (m (c.tc.loc main_arg1)) i0 i1
    unfold mulNT rowNT
    pointwise

end Cert.Proof.LowOutRows160

end
-- ==== Proof.LowOutRows32.lean ====
/-
  A second low-rank product of rank 32, its gradient in the rows.
-/
module

public import proofs.«01_k».proof.Defs
public import proofs.«01_k».proof.Proof.Gen.Kernel31Ideal.Value
public import proofs.«01_k».proof.Proof.Gen.Reference31Ideal.Run
public import proofs.«01_k».proof.Proof.Tiles
public import Idealize.ShloMosaic.Lib.Pipeline.ValueKit

@[expose] public section

noncomputable section

namespace Cert.Proof.LowOutRows32

open Idealize.ShloMosaic Idealize.SL.Sem Cert.Kernel31Ideal Cert.Kernel31Ideal.Gen
open Idealize.ShloMosaic.TcCoe
open Idealize.ShloMosaic.Pipeline (Dat Cfg Window)

section Cases

variable (c : Dev nD) (i : grid0.Coords)
  (arg3 : Memref sig .tc .vmem S1024x1024 .f32) (harg3 : arg3.IsWhole)
  (arg4 : Memref sig .tc .vmem S32x1024 .bf16) (harg4 : arg4.IsWhole)
  (arg5 : Memref sig .tc .vmem S1024x32 .f32) (harg5 : arg5.IsWhole)
  (arg6 : Memref sig .tc .vmem S1024x32 .f32) (harg6 : arg6.IsWhole)
  (x0 : Vec Ideal S1024x1024 .f32) (x1 : Vec Ideal S32x1024 .bf16) (y : Vec Ideal S1024x32 .f32)

theorem out_A (hc0 : cond0_0 i) (hc1 : cond0_1 i) :
    out0_A_2 c i arg3 harg3 arg4 harg4 arg5 harg5 arg6 harg6 hc0 hc1 x0 x1 = k0_pay2 (k0_pay1 (F := Ideal)) x0 x1 := by
  unfold out0_A_2
  rw [View.read_writes_eq_canon _ _ _ (cover0_A_2 c i arg3 harg3 arg4 harg4 arg5 harg5 arg6 harg6 hc0 hc1 x0 x1)]
  unfold kernelRun0_A
  dsimp only
  try sl_unfold_words
  rw [View.canon_unit_zero off2, View.readCov_cons_unit_lit' (S := S1024x32) _ _ _ _ _ (by decide) (by decide), View.readCov_unit_zero (S := S1024x32) _ off2]
  simp only [View.readAt_eq_ld, harg3.read_unread, harg4.read_unread, harg6.read_unread,
    View.ld_unit_zero (S := S1024x1024) off2, View.ld_unit_zero (S := S32x1024) off2, View.ld_unit_zero (S := S1024x32) off2, shapeCast_self]

end Cases

/-! ## The body's values at an index -/

theorem pay1_at (r : Fin 1024) (d : Fin 32) : k0_pay1 (F := Ideal) (ix2 r d) = 0 := by
  pointwise [k0_pay1]

theorem pay2_at (y : Vec Ideal S1024x32 .f32) (x0 : Vec Ideal S1024x1024 .f32) (x1 : Vec Ideal S32x1024 .bf16) (r : Fin 1024) (d : Fin 32) :
    k0_pay2 (F := Ideal) y x0 x1 (ix2 r d) = y (ix2 r d) + ∑ k : Fin 1024, ((x0 (ix2 r k) : EReal) * x1 (ix2 d k) : EReal) := by
  pointwise [k0_pay2]

/-! ## The blocks -/

variable (m : (ℓ : Loc nD τ sig) → Buf (Elt Ideal) ℓ) (c : Dev nD)

theorem e0 : ∀ t : Fin cfg0.N, win0_0.index t 0 = t.val / 1 ∧ win0_0.index t 1 = 0 := by decide +kernel
theorem e1 : ∀ t : Fin cfg0.N, win0_1.index t 0 = 0 ∧ win0_1.index t 1 = 0 := by decide +kernel
theorem e2 : ∀ t : Fin cfg0.N, win0_2.index t 0 = t.val / 1 ∧ win0_2.index t 1 = 0 := by decide +kernel

/-- The row and the column of the product that an entry of a point's block is, and a position along the summed axis. -/
def gr (t : Fin cfg0.N) (r : Fin 1024) : Fin 2048 := ⟨t.val / 1 * 1024 + r.val, by have : t.val < 2 := t.isLt; omega⟩
def gc (t : Fin cfg0.N) (d : Fin 32) : Fin 32 := ⟨0 * 32 + d.val, by have : t.val < 2 := t.isLt; omega⟩
def gk (t : Fin cfg0.N) (k : Fin 1024) : Fin 1024 := ⟨0 * 1024 + k.val, by have : t.val < 2 := t.isLt; omega⟩

theorem blk0_at (t : Fin cfg0.N) (r : Fin 1024) (k : Fin 1024) : iblk m c 0 t (ix2 r k) = V m c main_arg0 (ix2 (gr t r) (gk t k)) := by
  refine congrArg (V m c main_arg0) (ix2_ext ?_ ?_)
  · show win0_0.index t 0 * 1024 + 1 * r.val = t.val / 1 * 1024 + r.val
    rw [(e0 t).1]; omega
  · show win0_0.index t 1 * 1024 + 1 * k.val = 0 * 1024 + k.val
    rw [(e0 t).2]; omega

theorem blk1_at (t : Fin cfg0.N) (k : Fin 1024) (d : Fin 32) : iblk m c 1 t (ix2 d k) = V m c main_arg1 (ix2 (gc t d) (gk t k)) := by
  refine congrArg (V m c main_arg1) (ix2_ext ?_ ?_)
  · show win0_1.index t 0 * 32 + 1 * d.val = 0 * 32 + d.val
    rw [(e1 t).1]; omega
  · show win0_1.index t 1 * 1024 + 1 * k.val = 0 * 1024 + k.val
    rw [(e1 t).2]; omega

/-- What one grid point adds. -/
theorem add_at (t : Fin cfg0.N) (y : Vec Ideal S1024x32 .f32) (r : Fin 1024) (d : Fin 32) : k0_pay2 (F := Ideal) y (iblk m c 0 t) (iblk m c 1 t) (ix2 r d)
    = y (ix2 r d) + ∑ k ∈ Finset.range 1024, term (rowNT (V m c main_arg0) (V m c main_arg1) (gr t r) (gc t d)) (0 * 1024 + k) :=
  (pay2_at _ _ _ r d).trans (congrArg (y (ix2 r d) + ·) (sum_part fun k => ⟨(gk t k).isLt, congrArg₂ (· * ·) (blk0_at m c t r k) (blk1_at m c t k d)⟩))

theorem last_at (t : Fin cfg0.N) (r : Fin 1024) (d : Fin 32) : outsAt0 m c t (ix2 r d) = mulNT (V m c main_arg0) (V m c main_arg1) (gr t r) (gc t d) := by
  unfold outsAt0
  rw [out_A]
  rw [add_at, pay1_at, zero_add, Nat.zero_mul]
  simp only [Nat.zero_add]
  exact sum_term _

theorem final : (dats m 0 c).arrAt 2 cfg0.N = entries (mulNT (V m c main_arg0) (V m c main_arg1)) := by
  refine (dats m 0 c).arrAt_eq_of_covers 2 _ (by decide +kernel) fun t hf y => ?_
  blk_simp
  rw [after0_2]
  revert y
  intro (y : S1024x32.Idx)
  idx_vars y
  rw [last_at m c t y0 y1]
  refine congrArg₂ (mulNT (V m c main_arg0) (V m c main_arg1)) (Fin.ext ?_) (Fin.ext ?_)
  · show t.val / 1 * 1024 + y0.val = win0_2.index t 0 * 1024 + 1 * y0.val
    rw [(e2 t).1]; omega
  · show 0 * 32 + y1.val = win0_2.index t 1 * 32 + 1 * y1.val
    rw [(e2 t).2]; omega

theorem agree : algebraic_Kernel31Ideal_Reference31Ideal (hKernel31Ideal := Cert.Kernel31Ideal.Gen.facts) (hReference31Ideal := Cert.Reference31Ideal.Gen.facts) := by
  intro m g m' g' _ hagree
  refine ⟨fun c => entries (mulNT (m (c.tc.loc main_arg0)) (m (c.tc.loc main_arg1))), ?_, ?_⟩
  · refine (θ_run _ _ _).mono (fun r h c => ⟨(h c).1.trans ((final m c).trans ?_), (h c).2⟩) (Value.run_blocks (F := Ideal) m g)
    rw [V_main_arg0, V_main_arg1]
  · refine (θ_run _ _ _).mono (fun r h c => ⟨(h c).1.trans ?_, (h c).2⟩) (Cert.Reference31Ideal.Value.run (F := Ideal) m' g')
    rw [(hagree c).1, (hagree c).2]
    funext i
    idx_vars i
    show _ = mulNT (m (c.tc.loc main_arg0)) (m (c.tc.loc main_arg1)) i0 i1
    unfold mulNT rowNT
    pointwise

end Cert.Proof.LowOutRows32

end
-- ==== Proof.LowInRows64.lean ====
/-
  A first low-rank product of rank 64, its gradient in the rows.
-/
module

public import proofs.«01_k».proof.Defs
public import proofs.«01_k».proof.Proof.Gen.Kernel32Ideal.Value
public import proofs.«01_k».proof.Proof.Gen.Reference32Ideal.Run
public import proofs.«01_k».proof.Proof.Tiles
public import Idealize.ShloMosaic.Lib.Pipeline.ValueKit

@[expose] public section

noncomputable section

namespace Cert.Proof.LowInRows64

open Idealize.ShloMosaic Idealize.SL.Sem Cert.Kernel32Ideal Cert.Kernel32Ideal.Gen
open Idealize.ShloMosaic.TcCoe
open Idealize.ShloMosaic.Pipeline (Dat Cfg Window)

section Cases

variable (c : Dev nD) (i : grid0.Coords)
  (arg3 : Memref sig .tc .vmem S1024x64 .f32) (harg3 : arg3.IsWhole)
  (arg4 : Memref sig .tc .vmem S1024x64 .bf16) (harg4 : arg4.IsWhole)
  (arg5 : Memref sig .tc .vmem S1024x1024 .f32) (harg5 : arg5.IsWhole)
  (arg6 : Memref sig .tc .vmem S1024x1024 .f32) (harg6 : arg6.IsWhole)
  (x0 : Vec Ideal S1024x64 .f32) (x1 : Vec Ideal S1024x64 .bf16) (y : Vec Ideal S1024x1024 .f32)

theorem out_A (hc0 : cond0_0 i) (hc1 : cond0_1 i) :
    out0_A_2 c i arg3 harg3 arg4 harg4 arg5 harg5 arg6 harg6 hc0 hc1 x0 x1 = k0_pay2 (k0_pay1 (F := Ideal)) x0 x1 := by
  unfold out0_A_2
  rw [View.read_writes_eq_canon _ _ _ (cover0_A_2 c i arg3 harg3 arg4 harg4 arg5 harg5 arg6 harg6 hc0 hc1 x0 x1)]
  unfold kernelRun0_A
  dsimp only
  try sl_unfold_words
  rw [View.canon_unit_zero off2, View.readCov_cons_unit_lit' (S := S1024x1024) _ _ _ _ _ (by decide) (by decide), View.readCov_unit_zero (S := S1024x1024) _ off2]
  simp only [View.readAt_eq_ld, harg3.read_unread, harg4.read_unread, harg6.read_unread,
    View.ld_unit_zero (S := S1024x64) off2, View.ld_unit_zero (S := S1024x1024) off2, shapeCast_self]

end Cases

/-! ## The body's values at an index -/

theorem pay1_at (r : Fin 1024) (d : Fin 1024) : k0_pay1 (F := Ideal) (ix2 r d) = 0 := by
  pointwise [k0_pay1]

theorem pay2_at (y : Vec Ideal S1024x1024 .f32) (x0 : Vec Ideal S1024x64 .f32) (x1 : Vec Ideal S1024x64 .bf16) (r : Fin 1024) (d : Fin 1024) :
    k0_pay2 (F := Ideal) y x0 x1 (ix2 r d) = y (ix2 r d) + ∑ k : Fin 64, ((x0 (ix2 r k) : EReal) * x1 (ix2 d k) : EReal) := by
  pointwise [k0_pay2]

/-! ## The blocks -/

variable (m : (ℓ : Loc nD τ sig) → Buf (Elt Ideal) ℓ) (c : Dev nD)

theorem e0 : ∀ t : Fin cfg0.N, win0_0.index t 0 = t.val / 1 ∧ win0_0.index t 1 = 0 := by decide +kernel
theorem e1 : ∀ t : Fin cfg0.N, win0_1.index t 0 = 0 ∧ win0_1.index t 1 = 0 := by decide +kernel
theorem e2 : ∀ t : Fin cfg0.N, win0_2.index t 0 = t.val / 1 ∧ win0_2.index t 1 = 0 := by decide +kernel

/-- The row and the column of the product that an entry of a point's block is, and a position along the summed axis. -/
def gr (t : Fin cfg0.N) (r : Fin 1024) : Fin 2048 := ⟨t.val / 1 * 1024 + r.val, by have : t.val < 2 := t.isLt; omega⟩
def gc (t : Fin cfg0.N) (d : Fin 1024) : Fin 1024 := ⟨0 * 1024 + d.val, by have : t.val < 2 := t.isLt; omega⟩
def gk (t : Fin cfg0.N) (k : Fin 64) : Fin 64 := ⟨0 * 64 + k.val, by have : t.val < 2 := t.isLt; omega⟩

theorem blk0_at (t : Fin cfg0.N) (r : Fin 1024) (k : Fin 64) : iblk m c 0 t (ix2 r k) = V m c main_arg0 (ix2 (gr t r) (gk t k)) := by
  refine congrArg (V m c main_arg0) (ix2_ext ?_ ?_)
  · show win0_0.index t 0 * 1024 + 1 * r.val = t.val / 1 * 1024 + r.val
    rw [(e0 t).1]; omega
  · show win0_0.index t 1 * 64 + 1 * k.val = 0 * 64 + k.val
    rw [(e0 t).2]; omega

theorem blk1_at (t : Fin cfg0.N) (k : Fin 64) (d : Fin 1024) : iblk m c 1 t (ix2 d k) = V m c main_arg1 (ix2 (gc t d) (gk t k)) := by
  refine congrArg (V m c main_arg1) (ix2_ext ?_ ?_)
  · show win0_1.index t 0 * 1024 + 1 * d.val = 0 * 1024 + d.val
    rw [(e1 t).1]; omega
  · show win0_1.index t 1 * 64 + 1 * k.val = 0 * 64 + k.val
    rw [(e1 t).2]; omega

/-- What one grid point adds. -/
theorem add_at (t : Fin cfg0.N) (y : Vec Ideal S1024x1024 .f32) (r : Fin 1024) (d : Fin 1024) : k0_pay2 (F := Ideal) y (iblk m c 0 t) (iblk m c 1 t) (ix2 r d)
    = y (ix2 r d) + ∑ k ∈ Finset.range 64, term (rowNT (V m c main_arg0) (V m c main_arg1) (gr t r) (gc t d)) (0 * 64 + k) :=
  (pay2_at _ _ _ r d).trans (congrArg (y (ix2 r d) + ·) (sum_part fun k => ⟨(gk t k).isLt, congrArg₂ (· * ·) (blk0_at m c t r k) (blk1_at m c t k d)⟩))

theorem last_at (t : Fin cfg0.N) (r : Fin 1024) (d : Fin 1024) : outsAt0 m c t (ix2 r d) = mulNT (V m c main_arg0) (V m c main_arg1) (gr t r) (gc t d) := by
  unfold outsAt0
  rw [out_A]
  rw [add_at, pay1_at, zero_add, Nat.zero_mul]
  simp only [Nat.zero_add]
  exact sum_term _

theorem final : (dats m 0 c).arrAt 2 cfg0.N = entries (mulNT (V m c main_arg0) (V m c main_arg1)) := by
  refine (dats m 0 c).arrAt_eq_of_covers 2 _ (by decide +kernel) fun t hf y => ?_
  blk_simp
  rw [after0_2]
  revert y
  intro (y : S1024x1024.Idx)
  idx_vars y
  rw [last_at m c t y0 y1]
  refine congrArg₂ (mulNT (V m c main_arg0) (V m c main_arg1)) (Fin.ext ?_) (Fin.ext ?_)
  · show t.val / 1 * 1024 + y0.val = win0_2.index t 0 * 1024 + 1 * y0.val
    rw [(e2 t).1]; omega
  · show 0 * 1024 + y1.val = win0_2.index t 1 * 1024 + 1 * y1.val
    rw [(e2 t).2]; omega

theorem agree : algebraic_Kernel32Ideal_Reference32Ideal (hKernel32Ideal := Cert.Kernel32Ideal.Gen.facts) (hReference32Ideal := Cert.Reference32Ideal.Gen.facts) := by
  intro m g m' g' _ hagree
  refine ⟨fun c => entries (mulNT (m (c.tc.loc main_arg0)) (m (c.tc.loc main_arg1))), ?_, ?_⟩
  · refine (θ_run _ _ _).mono (fun r h c => ⟨(h c).1.trans ((final m c).trans ?_), (h c).2⟩) (Value.run_blocks (F := Ideal) m g)
    rw [V_main_arg0, V_main_arg1]
  · refine (θ_run _ _ _).mono (fun r h c => ⟨(h c).1.trans ?_, (h c).2⟩) (Cert.Reference32Ideal.Value.run (F := Ideal) m' g')
    rw [(hagree c).1, (hagree c).2]
    funext i
    idx_vars i
    show _ = mulNT (m (c.tc.loc main_arg0)) (m (c.tc.loc main_arg1)) i0 i1
    unfold mulNT rowNT
    pointwise

end Cert.Proof.LowInRows64

end
-- ==== Proof.LowInRows160.lean ====
/-
  A first low-rank product of rank 160, its gradient in the rows.
-/
module

public import proofs.«01_k».proof.Defs
public import proofs.«01_k».proof.Proof.Gen.Kernel33Ideal.Value
public import proofs.«01_k».proof.Proof.Gen.Reference33Ideal.Run
public import proofs.«01_k».proof.Proof.Tiles
public import Idealize.ShloMosaic.Lib.Pipeline.ValueKit

@[expose] public section

noncomputable section

namespace Cert.Proof.LowInRows160

open Idealize.ShloMosaic Idealize.SL.Sem Cert.Kernel33Ideal Cert.Kernel33Ideal.Gen
open Idealize.ShloMosaic.TcCoe
open Idealize.ShloMosaic.Pipeline (Dat Cfg Window)

section Cases

variable (c : Dev nD) (i : grid0.Coords)
  (arg3 : Memref sig .tc .vmem S1024x160 .f32) (harg3 : arg3.IsWhole)
  (arg4 : Memref sig .tc .vmem S1024x160 .bf16) (harg4 : arg4.IsWhole)
  (arg5 : Memref sig .tc .vmem S1024x1024 .f32) (harg5 : arg5.IsWhole)
  (arg6 : Memref sig .tc .vmem S1024x1024 .f32) (harg6 : arg6.IsWhole)
  (x0 : Vec Ideal S1024x160 .f32) (x1 : Vec Ideal S1024x160 .bf16) (y : Vec Ideal S1024x1024 .f32)

theorem out_A (hc0 : cond0_0 i) (hc1 : cond0_1 i) :
    out0_A_2 c i arg3 harg3 arg4 harg4 arg5 harg5 arg6 harg6 hc0 hc1 x0 x1 = k0_pay2 (k0_pay1 (F := Ideal)) x0 x1 := by
  unfold out0_A_2
  rw [View.read_writes_eq_canon _ _ _ (cover0_A_2 c i arg3 harg3 arg4 harg4 arg5 harg5 arg6 harg6 hc0 hc1 x0 x1)]
  unfold kernelRun0_A
  dsimp only
  try sl_unfold_words
  rw [View.canon_unit_zero off2, View.readCov_cons_unit_lit' (S := S1024x1024) _ _ _ _ _ (by decide) (by decide), View.readCov_unit_zero (S := S1024x1024) _ off2]
  simp only [View.readAt_eq_ld, harg3.read_unread, harg4.read_unread, harg6.read_unread,
    View.ld_unit_zero (S := S1024x160) off2, View.ld_unit_zero (S := S1024x1024) off2, shapeCast_self]

end Cases

/-! ## The body's values at an index -/

theorem pay1_at (r : Fin 1024) (d : Fin 1024) : k0_pay1 (F := Ideal) (ix2 r d) = 0 := by
  pointwise [k0_pay1]

theorem pay2_at (y : Vec Ideal S1024x1024 .f32) (x0 : Vec Ideal S1024x160 .f32) (x1 : Vec Ideal S1024x160 .bf16) (r : Fin 1024) (d : Fin 1024) :
    k0_pay2 (F := Ideal) y x0 x1 (ix2 r d) = y (ix2 r d) + ∑ k : Fin 160, ((x0 (ix2 r k) : EReal) * x1 (ix2 d k) : EReal) := by
  pointwise [k0_pay2]

/-! ## The blocks -/

variable (m : (ℓ : Loc nD τ sig) → Buf (Elt Ideal) ℓ) (c : Dev nD)

theorem e0 : ∀ t : Fin cfg0.N, win0_0.index t 0 = t.val / 1 ∧ win0_0.index t 1 = 0 := by decide +kernel
theorem e1 : ∀ t : Fin cfg0.N, win0_1.index t 0 = 0 ∧ win0_1.index t 1 = 0 := by decide +kernel
theorem e2 : ∀ t : Fin cfg0.N, win0_2.index t 0 = t.val / 1 ∧ win0_2.index t 1 = 0 := by decide +kernel

/-- The row and the column of the product that an entry of a point's block is, and a position along the summed axis. -/
def gr (t : Fin cfg0.N) (r : Fin 1024) : Fin 2048 := ⟨t.val / 1 * 1024 + r.val, by have : t.val < 2 := t.isLt; omega⟩
def gc (t : Fin cfg0.N) (d : Fin 1024) : Fin 1024 := ⟨0 * 1024 + d.val, by have : t.val < 2 := t.isLt; omega⟩
def gk (t : Fin cfg0.N) (k : Fin 160) : Fin 160 := ⟨0 * 160 + k.val, by have : t.val < 2 := t.isLt; omega⟩

theorem blk0_at (t : Fin cfg0.N) (r : Fin 1024) (k : Fin 160) : iblk m c 0 t (ix2 r k) = V m c main_arg0 (ix2 (gr t r) (gk t k)) := by
  refine congrArg (V m c main_arg0) (ix2_ext ?_ ?_)
  · show win0_0.index t 0 * 1024 + 1 * r.val = t.val / 1 * 1024 + r.val
    rw [(e0 t).1]; omega
  · show win0_0.index t 1 * 160 + 1 * k.val = 0 * 160 + k.val
    rw [(e0 t).2]; omega

theorem blk1_at (t : Fin cfg0.N) (k : Fin 160) (d : Fin 1024) : iblk m c 1 t (ix2 d k) = V m c main_arg1 (ix2 (gc t d) (gk t k)) := by
  refine congrArg (V m c main_arg1) (ix2_ext ?_ ?_)
  · show win0_1.index t 0 * 1024 + 1 * d.val = 0 * 1024 + d.val
    rw [(e1 t).1]; omega
  · show win0_1.index t 1 * 160 + 1 * k.val = 0 * 160 + k.val
    rw [(e1 t).2]; omega

/-- What one grid point adds. -/
theorem add_at (t : Fin cfg0.N) (y : Vec Ideal S1024x1024 .f32) (r : Fin 1024) (d : Fin 1024) : k0_pay2 (F := Ideal) y (iblk m c 0 t) (iblk m c 1 t) (ix2 r d)
    = y (ix2 r d) + ∑ k ∈ Finset.range 160, term (rowNT (V m c main_arg0) (V m c main_arg1) (gr t r) (gc t d)) (0 * 160 + k) :=
  (pay2_at _ _ _ r d).trans (congrArg (y (ix2 r d) + ·) (sum_part fun k => ⟨(gk t k).isLt, congrArg₂ (· * ·) (blk0_at m c t r k) (blk1_at m c t k d)⟩))

theorem last_at (t : Fin cfg0.N) (r : Fin 1024) (d : Fin 1024) : outsAt0 m c t (ix2 r d) = mulNT (V m c main_arg0) (V m c main_arg1) (gr t r) (gc t d) := by
  unfold outsAt0
  rw [out_A]
  rw [add_at, pay1_at, zero_add, Nat.zero_mul]
  simp only [Nat.zero_add]
  exact sum_term _

theorem final : (dats m 0 c).arrAt 2 cfg0.N = entries (mulNT (V m c main_arg0) (V m c main_arg1)) := by
  refine (dats m 0 c).arrAt_eq_of_covers 2 _ (by decide +kernel) fun t hf y => ?_
  blk_simp
  rw [after0_2]
  revert y
  intro (y : S1024x1024.Idx)
  idx_vars y
  rw [last_at m c t y0 y1]
  refine congrArg₂ (mulNT (V m c main_arg0) (V m c main_arg1)) (Fin.ext ?_) (Fin.ext ?_)
  · show t.val / 1 * 1024 + y0.val = win0_2.index t 0 * 1024 + 1 * y0.val
    rw [(e2 t).1]; omega
  · show 0 * 1024 + y1.val = win0_2.index t 1 * 1024 + 1 * y1.val
    rw [(e2 t).2]; omega

theorem agree : algebraic_Kernel33Ideal_Reference33Ideal (hKernel33Ideal := Cert.Kernel33Ideal.Gen.facts) (hReference33Ideal := Cert.Reference33Ideal.Gen.facts) := by
  intro m g m' g' _ hagree
  refine ⟨fun c => entries (mulNT (m (c.tc.loc main_arg0)) (m (c.tc.loc main_arg1))), ?_, ?_⟩
  · refine (θ_run _ _ _).mono (fun r h c => ⟨(h c).1.trans ((final m c).trans ?_), (h c).2⟩) (Value.run_blocks (F := Ideal) m g)
    rw [V_main_arg0, V_main_arg1]
  · refine (θ_run _ _ _).mono (fun r h c => ⟨(h c).1.trans ?_, (h c).2⟩) (Cert.Reference33Ideal.Value.run (F := Ideal) m' g')
    rw [(hagree c).1, (hagree c).2]
    funext i
    idx_vars i
    show _ = mulNT (m (c.tc.loc main_arg0)) (m (c.tc.loc main_arg1)) i0 i1
    unfold mulNT rowNT
    pointwise

end Cert.Proof.LowInRows160

end
-- ==== Proof.LowInRows32.lean ====
/-
  The value residual's first low-rank product, its gradient in the rows, added to the value projection's.
-/
module

public import proofs.«01_k».proof.Defs
public import proofs.«01_k».proof.Proof.Gen.Kernel34Ideal.Value
public import proofs.«01_k».proof.Proof.Gen.Reference34Ideal.Run
public import proofs.«01_k».proof.Proof.Tiles
public import Idealize.ShloMosaic.Lib.Pipeline.ValueKit

@[expose] public section

noncomputable section

namespace Cert.Proof.LowInRows32

open Idealize.ShloMosaic Idealize.SL.Sem Cert.Kernel34Ideal Cert.Kernel34Ideal.Gen
open Idealize.ShloMosaic.TcCoe
open Idealize.ShloMosaic.Pipeline (Dat Cfg Window)

section Cases

variable (c : Dev nD) (i : grid0.Coords)
  (arg3 : Memref sig .tc .vmem S1024x32 .f32) (harg3 : arg3.IsWhole)
  (arg4 : Memref sig .tc .vmem S1024x32 .bf16) (harg4 : arg4.IsWhole)
  (arg5 : Memref sig .tc .vmem S1024x1024 .f32) (harg5 : arg5.IsWhole)
  (arg6 : Memref sig .tc .vmem S1024x1024 .f32) (harg6 : arg6.IsWhole)
  (arg7 : Memref sig .tc .vmem S1024x1024 .f32) (harg7 : arg7.IsWhole)
  (x0 : Vec Ideal S1024x32 .f32) (x1 : Vec Ideal S1024x32 .bf16) (x2 : Vec Ideal S1024x1024 .f32) (y : Vec Ideal S1024x1024 .f32)

theorem out_A (hc0 : cond0_0 i) (hc1 : cond0_1 i) :
    out0_A_3 c i arg3 harg3 arg4 harg4 arg5 harg5 arg6 harg6 arg7 harg7 hc0 hc1 x0 x1 x2 = k0_pay3 (k0_pay2 (k0_pay1 (F := Ideal)) x0 x1) x2 := by
  unfold out0_A_3
  rw [View.read_writes_eq_canon _ _ _ (cover0_A_3 c i arg3 harg3 arg4 harg4 arg5 harg5 arg6 harg6 arg7 harg7 hc0 hc1 x0 x1 x2)]
  unfold kernelRun0_A
  dsimp only
  try sl_unfold_words
  rw [View.canon_unit_zero off2, View.readCov_cons_unit_lit' (S := S1024x1024) _ _ _ _ _ (by decide) (by decide), View.readCov_unit_zero (S := S1024x1024) _ off2]
  simp only [View.readAt_eq_ld, harg3.read_unread, harg4.read_unread, harg5.read_unread, harg7.read_unread,
    View.ld_unit_zero (S := S1024x32) off2, View.ld_unit_zero (S := S1024x1024) off2, shapeCast_self]

end Cases

/-! ## The body's values at an index -/

theorem pay1_at (r : Fin 1024) (d : Fin 1024) : k0_pay1 (F := Ideal) (ix2 r d) = 0 := by
  pointwise [k0_pay1]

theorem pay2_at (y : Vec Ideal S1024x1024 .f32) (x0 : Vec Ideal S1024x32 .f32) (x1 : Vec Ideal S1024x32 .bf16) (r : Fin 1024) (d : Fin 1024) :
    k0_pay2 (F := Ideal) y x0 x1 (ix2 r d) = y (ix2 r d) + ∑ k : Fin 32, ((x0 (ix2 r k) : EReal) * x1 (ix2 d k) : EReal) := by
  pointwise [k0_pay2]

theorem pay3_at (y : Vec Ideal S1024x1024 .f32) (x2 : Vec Ideal S1024x1024 .f32) (r : Fin 1024) (d : Fin 1024) :
    k0_pay3 (F := Ideal) y x2 (ix2 r d) = (y (ix2 r d) + x2 (ix2 r d) : EReal) := by
  pointwise [k0_pay3]

/-! ## The blocks -/

variable (m : (ℓ : Loc nD τ sig) → Buf (Elt Ideal) ℓ) (c : Dev nD)

theorem e0 : ∀ t : Fin cfg0.N, win0_0.index t 0 = t.val / 1 ∧ win0_0.index t 1 = 0 := by decide +kernel
theorem e1 : ∀ t : Fin cfg0.N, win0_1.index t 0 = 0 ∧ win0_1.index t 1 = 0 := by decide +kernel
theorem e2 : ∀ t : Fin cfg0.N, win0_2.index t 0 = t.val / 1 ∧ win0_2.index t 1 = 0 := by decide +kernel
theorem e3 : ∀ t : Fin cfg0.N, win0_3.index t 0 = t.val / 1 ∧ win0_3.index t 1 = 0 := by decide +kernel

/-- The row and the column of the product that an entry of a point's block is, and a position along the summed axis. -/
def gr (t : Fin cfg0.N) (r : Fin 1024) : Fin 2048 := ⟨t.val / 1 * 1024 + r.val, by have : t.val < 2 := t.isLt; omega⟩
def gc (t : Fin cfg0.N) (d : Fin 1024) : Fin 1024 := ⟨0 * 1024 + d.val, by have : t.val < 2 := t.isLt; omega⟩
def gk (t : Fin cfg0.N) (k : Fin 32) : Fin 32 := ⟨0 * 32 + k.val, by have : t.val < 2 := t.isLt; omega⟩

theorem blk0_at (t : Fin cfg0.N) (r : Fin 1024) (k : Fin 32) : iblk m c 0 t (ix2 r k) = V m c main_arg0 (ix2 (gr t r) (gk t k)) := by
  refine congrArg (V m c main_arg0) (ix2_ext ?_ ?_)
  · show win0_0.index t 0 * 1024 + 1 * r.val = t.val / 1 * 1024 + r.val
    rw [(e0 t).1]; omega
  · show win0_0.index t 1 * 32 + 1 * k.val = 0 * 32 + k.val
    rw [(e0 t).2]; omega

theorem blk1_at (t : Fin cfg0.N) (k : Fin 32) (d : Fin 1024) : iblk m c 1 t (ix2 d k) = V m c main_arg1 (ix2 (gc t d) (gk t k)) := by
  refine congrArg (V m c main_arg1) (ix2_ext ?_ ?_)
  · show win0_1.index t 0 * 1024 + 1 * d.val = 0 * 1024 + d.val
    rw [(e1 t).1]; omega
  · show win0_1.index t 1 * 32 + 1 * k.val = 0 * 32 + k.val
    rw [(e1 t).2]; omega

theorem blk2_at (t : Fin cfg0.N) (r : Fin 1024) (d : Fin 1024) : iblk m c 2 t (ix2 r d) = V m c main_arg2 (ix2 (gr t r) (gc t d)) := by
  refine congrArg (V m c main_arg2) (ix2_ext ?_ ?_)
  · show win0_2.index t 0 * 1024 + 1 * r.val = t.val / 1 * 1024 + r.val
    rw [(e2 t).1]; omega
  · show win0_2.index t 1 * 1024 + 1 * d.val = 0 * 1024 + d.val
    rw [(e2 t).2]; omega

/-- What one grid point adds. -/
theorem add_at (t : Fin cfg0.N) (y : Vec Ideal S1024x1024 .f32) (r : Fin 1024) (d : Fin 1024) : k0_pay2 (F := Ideal) y (iblk m c 0 t) (iblk m c 1 t) (ix2 r d)
    = y (ix2 r d) + ∑ k ∈ Finset.range 32, term (rowNT (V m c main_arg0) (V m c main_arg1) (gr t r) (gc t d)) (0 * 32 + k) :=
  (pay2_at _ _ _ r d).trans (congrArg (y (ix2 r d) + ·) (sum_part fun k => ⟨(gk t k).isLt, congrArg₂ (· * ·) (blk0_at m c t r k) (blk1_at m c t k d)⟩))

/-- An entry of the result. -/
def res (xa : Mat 2048 32) (xb : Mat 1024 32) (x2 : Mat 2048 1024) (i : Fin 2048) (j : Fin 1024) : EReal := mulNT xa xb i j + x2 (ix2 i j)

theorem last_at (t : Fin cfg0.N) (r : Fin 1024) (d : Fin 1024) : outsAt0 m c t (ix2 r d) = res (V m c main_arg0) (V m c main_arg1) (V m c main_arg2) (gr t r) (gc t d) := by
  unfold outsAt0
  rw [out_A, pay3_at]
  refine congrArg₂ (· + ·) ?_ (blk2_at m c t r d)
  rw [add_at, pay1_at, zero_add, Nat.zero_mul]
  simp only [Nat.zero_add]
  exact sum_term _

theorem final : (dats m 0 c).arrAt 3 cfg0.N = entries (res (V m c main_arg0) (V m c main_arg1) (V m c main_arg2)) := by
  refine (dats m 0 c).arrAt_eq_of_covers 3 _ (by decide +kernel) fun t hf y => ?_
  blk_simp
  rw [after0_3]
  revert y
  intro (y : S1024x1024.Idx)
  idx_vars y
  rw [last_at m c t y0 y1]
  refine congrArg₂ (res (V m c main_arg0) (V m c main_arg1) (V m c main_arg2)) (Fin.ext ?_) (Fin.ext ?_)
  · show t.val / 1 * 1024 + y0.val = win0_3.index t 0 * 1024 + 1 * y0.val
    rw [(e3 t).1]; omega
  · show 0 * 1024 + y1.val = win0_3.index t 1 * 1024 + 1 * y1.val
    rw [(e3 t).2]; omega

theorem agree : algebraic_Kernel34Ideal_Reference34Ideal (hKernel34Ideal := Cert.Kernel34Ideal.Gen.facts) (hReference34Ideal := Cert.Reference34Ideal.Gen.facts) := by
  intro m g m' g' _ hagree
  refine ⟨fun c => entries (res (m (c.tc.loc main_arg0)) (m (c.tc.loc main_arg1)) (m (c.tc.loc main_arg2))), ?_, ?_⟩
  · refine (θ_run _ _ _).mono (fun r h c => ⟨(h c).1.trans ((final m c).trans ?_), (h c).2⟩) (Value.run_blocks (F := Ideal) m g)
    rw [V_main_arg0, V_main_arg1, V_main_arg2]
  · refine (θ_run _ _ _).mono (fun r h c => ⟨(h c).1.trans ?_, (h c).2⟩) (Cert.Reference34Ideal.Value.run (F := Ideal) m' g')
    rw [(hagree c).1, (hagree c).2.1, (hagree c).2.2]
    funext i
    idx_vars i
    show _ = res (m (c.tc.loc main_arg0)) (m (c.tc.loc main_arg1)) (m (c.tc.loc main_arg2)) i0 i1
    unfold res mulNT rowNT
    pointwise
    exact add_comm _ _

end Cert.Proof.LowInRows32

end
-- ==== Proof.LowOutWeights64.lean ====
/-
  A second low-rank product of rank 64, its gradient in the weights.
-/
module

public import proofs.«01_k».proof.Defs
public import proofs.«01_k».proof.Proof.Gen.Kernel35Ideal.Value
public import proofs.«01_k».proof.Proof.Gen.Reference35Ideal.Run
public import proofs.«01_k».proof.Proof.Tiles
public import Idealize.ShloMosaic.Lib.Pipeline.ValueKit

@[expose] public section

noncomputable section

namespace Cert.Proof.LowOutWeights64

open Idealize.ShloMosaic Idealize.SL.Sem Cert.Kernel35Ideal Cert.Kernel35Ideal.Gen
open Idealize.ShloMosaic.TcCoe
open Idealize.ShloMosaic.Pipeline (Dat Cfg Window)

section Cases

variable (c : Dev nD) (i : grid0.Coords)
  (arg3 : Memref sig .tc .vmem S1024x64 .f32) (harg3 : arg3.IsWhole)
  (arg4 : Memref sig .tc .vmem S1024x1024 .f32) (harg4 : arg4.IsWhole)
  (arg5 : Memref sig .tc .vmem S64x1024 .f32) (harg5 : arg5.IsWhole)
  (arg6 : Memref sig .tc .vmem S64x1024 .f32) (harg6 : arg6.IsWhole)
  (x0 : Vec Ideal S1024x64 .f32) (x1 : Vec Ideal S1024x1024 .f32) (y : Vec Ideal S64x1024 .f32)

theorem scratch_A (hc0 : cond0_0 i) (hc1 : ¬cond0_1 i) :
    sout0_A_0 c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  try sl_unfold_words
  rw [View.canon_cons_unit_zero (S := S64x1024) off2, View.readCov_unit_zero (S := S64x1024) _ off2]
  simp only [View.readAt_eq_ld, harg3.read_unread, harg4.read_unread, harg6.read_unread,
    View.ld_unit_zero (S := S1024x64) off2, View.ld_unit_zero (S := S1024x1024) off2, View.ld_unit_zero (S := S64x1024) off2, shapeCast_self]

theorem scratch_B (hc0 : ¬cond0_0 i) (hc1 : cond0_1 i) :
    sout0_B_0 c i arg3 harg3 arg4 harg4 arg5 harg5 arg6 harg6 hc0 hc1 x0 x1 y = k0_pay2 y x0 x1 := by
  unfold sout0_B_0
  rw [View.read_writes_eq_canon _ _ _ (scover0_B_0 c i arg3 harg3 arg4 harg4 arg5 harg5 arg6 harg6 hc0 hc1 x0 x1 y)]
  unfold kernelRun0_B
  dsimp only
  try sl_unfold_words
  rw [View.canon_unit_zero off2]
  simp only [View.readAt_eq_ld, harg3.read_unread, harg4.read_unread, harg6.read_unread,
    View.ld_unit_zero (S := S1024x64) off2, View.ld_unit_zero (S := S1024x1024) off2, View.ld_unit_zero (S := S64x1024) off2, shapeCast_self]

theorem out_B (hc0 : ¬cond0_0 i) (hc1 : cond0_1 i) :
    out0_B_2 c i arg3 harg3 arg4 harg4 arg5 harg5 arg6 harg6 hc0 hc1 x0 x1 y = k0_pay2 y x0 x1 := by
  unfold out0_B_2
  rw [View.read_writes_eq_canon _ _ _ (cover0_B_2 c i arg3 harg3 arg4 harg4 arg5 harg5 arg6 harg6 hc0 hc1 x0 x1 y)]
  unfold kernelRun0_B
  dsimp only
  try sl_unfold_words
  rw [View.canon_unit_zero off2, View.readCov_unit_zero (S := S64x1024) _ off2]
  simp only [View.readAt_eq_ld, harg3.read_unread, harg4.read_unread, harg6.read_unread,
    View.ld_unit_zero (S := S1024x64) off2, View.ld_unit_zero (S := S1024x1024) off2, View.ld_unit_zero (S := S64x1024) off2, shapeCast_self]

end Cases

/-! ## The body's values at an index -/

theorem pay1_at (r : Fin 64) (d : Fin 1024) : k0_pay1 (F := Ideal) (ix2 r d) = 0 := by
  pointwise [k0_pay1]

theorem pay2_at (y : Vec Ideal S64x1024 .f32) (x0 : Vec Ideal S1024x64 .f32) (x1 : Vec Ideal S1024x1024 .f32) (r : Fin 64) (d : Fin 1024) :
    k0_pay2 (F := Ideal) y x0 x1 (ix2 r d) = y (ix2 r d) + ∑ k : Fin 1024, ((x0 (ix2 k r) : EReal) * x1 (ix2 k d) : EReal) := by
  pointwise [k0_pay2]

/-! ## The blocks -/

variable (m : (ℓ : Loc nD τ sig) → Buf (Elt Ideal) ℓ) (c : Dev nD)

theorem e0 : ∀ t : Fin cfg0.N, win0_0.index t 0 = t.val % 2 ∧ win0_0.index t 1 = t.val / 2 := by decide +kernel
theorem e1 : ∀ t : Fin cfg0.N, win0_1.index t 0 = t.val % 2 ∧ win0_1.index t 1 = 0 := by decide +kernel
theorem e2 : ∀ t : Fin cfg0.N, win0_2.index t 0 = t.val / 2 ∧ win0_2.index t 1 = 0 := by decide +kernel

/-- The row and the column of the product that an entry of a point's block is, and a position along the summed axis. -/
def gr (t : Fin cfg0.N) (r : Fin 64) : Fin 64 := ⟨t.val / 2 * 64 + r.val, by have : t.val < 2 := t.isLt; omega⟩
def gc (t : Fin cfg0.N) (d : Fin 1024) : Fin 1024 := ⟨0 * 1024 + d.val, by have : t.val < 2 := t.isLt; omega⟩
def gk (t : Fin cfg0.N) (k : Fin 1024) : Fin 2048 := ⟨t.val % 2 * 1024 + k.val, by have : t.val < 2 := t.isLt; omega⟩

theorem blk0_at (t : Fin cfg0.N) (r : Fin 64) (k : Fin 1024) : iblk m c 0 t (ix2 k r) = V m c main_arg0 (ix2 (gk t k) (gr t r)) := by
  refine congrArg (V m c main_arg0) (ix2_ext ?_ ?_)
  · show win0_0.index t 0 * 1024 + 1 * k.val = t.val % 2 * 1024 + k.val
    rw [(e0 t).1]; omega
  · show win0_0.index t 1 * 64 + 1 * r.val = t.val / 2 * 64 + r.val
    rw [(e0 t).2]; omega

theorem blk1_at (t : Fin cfg0.N) (k : Fin 1024) (d : Fin 1024) : iblk m c 1 t (ix2 k d) = V m c main_arg1 (ix2 (gk t k) (gc t d)) := by
  refine congrArg (V m c main_arg1) (ix2_ext ?_ ?_)
  · show win0_1.index t 0 * 1024 + 1 * k.val = t.val % 2 * 1024 + k.val
    rw [(e1 t).1]; omega
  · show win0_1.index t 1 * 1024 + 1 * d.val = 0 * 1024 + d.val
    rw [(e1 t).2]; omega

/-- What one grid point adds. -/
theorem add_at (t : Fin cfg0.N) (y : Vec Ideal S64x1024 .f32) (r : Fin 64) (d : Fin 1024) : k0_pay2 (F := Ideal) y (iblk m c 0 t) (iblk m c 1 t) (ix2 r d)
    = y (ix2 r d) + ∑ k ∈ Finset.range 1024, term (rowTN (V m c main_arg0) (V m c main_arg1) (gr t r) (gc t d)) (t.val % 2 * 1024 + k) :=
  (pay2_at _ _ _ r d).trans (congrArg (y (ix2 r d) + ·) (sum_part fun k => ⟨(gk t k).isLt, congrArg₂ (· * ·) (blk0_at m c t r k) (blk1_at m c t k d)⟩))

/-- The accumulator after a grid point: the summands up to the end of its block. -/
theorem acc_at (t : Fin cfg0.N) (r : Fin 64) (d : Fin 1024) :
    (outsAt0 m c t.val t.isLt).2 (ix2 r d) = ∑ k ∈ Finset.range ((t.val % 2 + 1) * 1024), term (rowTN (V m c main_arg0) (V m c main_arg1) (gr t r) (gc t d)) k := by
  refine sum_tiles 2 1024 (fun t : Fin cfg0.N => (outsAt0 m c t.val t.isLt).2 (ix2 r d)) (fun t => rowTN (V m c main_arg0) (V m c main_arg1) (gr t r) (gc t d))
    (fun t h => ?_) (fun t h => ?_) (fun t h => congrArg₂ (rowTN (V m c main_arg0) (V m c main_arg1)) (Fin.ext ?_) (Fin.ext ?_)) t
  · rw [outsAt0_A m c t h (by omega)]
    dsimp only
    rw [scratch_A, add_at, pay1_at]
  · rw [outsAt0_B m c t h (by omega)]
    dsimp only
    rw [scratch_B, add_at]
  · show (t.val - 1) / 2 * 64 + r.val = t.val / 2 * 64 + r.val
    omega
  · show 0 * 1024 + d.val = 0 * 1024 + d.val
    omega

theorem last_at (t : Fin cfg0.N) (h : t.val % 2 = 1) (r : Fin 64) (d : Fin 1024) :
    (outsAt0 m c t.val t.isLt).1 (ix2 r d) = mulTN (V m c main_arg0) (V m c main_arg1) (gr t r) (gc t d) := by
  have h0 : ¬t.val % 2 = 0 := by omega
  have e := acc_at m c t r d
  rw [outsAt0_B m c t h0 h] at e ⊢
  dsimp only at e ⊢
  rw [scratch_B] at e
  rw [out_B]
  rw [e, h]
  exact sum_term _

theorem final : (dats m 0 c).arrAt 2 cfg0.N = entries (mulTN (V m c main_arg0) (V m c main_arg1)) := by
  refine (dats m 0 c).arrAt_eq_of_covers 2 _ (by decide +kernel) fun t hf y => ?_
  blk_simp
  rw [after0_2]
  revert y
  intro (y : S64x1024.Idx)
  idx_vars y
  rw [last_at m c t ((flush0_2 t).mp hf) y0 y1]
  refine congrArg₂ (mulTN (V m c main_arg0) (V m c main_arg1)) (Fin.ext ?_) (Fin.ext ?_)
  · show t.val / 2 * 64 + y0.val = win0_2.index t 0 * 64 + 1 * y0.val
    rw [(e2 t).1]; omega
  · show 0 * 1024 + y1.val = win0_2.index t 1 * 1024 + 1 * y1.val
    rw [(e2 t).2]; omega

theorem agree : algebraic_Kernel35Ideal_Reference35Ideal (hKernel35Ideal := Cert.Kernel35Ideal.Gen.facts) (hReference35Ideal := Cert.Reference35Ideal.Gen.facts) := by
  intro m g m' g' _ hagree
  refine ⟨fun c => entries (mulTN (m (c.tc.loc main_arg0)) (m (c.tc.loc main_arg1))), ?_, ?_⟩
  · refine (θ_run _ _ _).mono (fun r h c => ⟨(h c).1.trans ((final m c).trans ?_), (h c).2⟩) (Value.run_blocks (F := Ideal) m g)
    rw [V_main_arg0, V_main_arg1]
  · refine (θ_run _ _ _).mono (fun r h c => ⟨(h c).1.trans ?_, (h c).2⟩) (Cert.Reference35Ideal.Value.run (F := Ideal) m' g')
    rw [(hagree c).1, (hagree c).2]
    funext i
    idx_vars i
    show _ = mulTN (m (c.tc.loc main_arg0)) (m (c.tc.loc main_arg1)) i0 i1
    unfold mulTN rowTN
    pointwise

end Cert.Proof.LowOutWeights64

end
-- ==== Proof.LowOutWeightsBf64.lean ====
/-
  A second low-rank product of rank 64, its gradient in the weights.
-/
module

public import proofs.«01_k».proof.Defs
public import proofs.«01_k».proof.Proof.Gen.Kernel36Ideal.Value
public import proofs.«01_k».proof.Proof.Gen.Reference36Ideal.Run
public import proofs.«01_k».proof.Proof.Tiles
public import Idealize.ShloMosaic.Lib.Pipeline.ValueKit

@[expose] public section

noncomputable section

namespace Cert.Proof.LowOutWeightsBf64

open Idealize.ShloMosaic Idealize.SL.Sem Cert.Kernel36Ideal Cert.Kernel36Ideal.Gen
open Idealize.ShloMosaic.TcCoe
open Idealize.ShloMosaic.Pipeline (Dat Cfg Window)

section Cases

variable (c : Dev nD) (i : grid0.Coords)
  (arg3 : Memref sig .tc .vmem S1024x64 .bf16) (harg3 : arg3.IsWhole)
  (arg4 : Memref sig .tc .vmem S1024x1024 .f32) (harg4 : arg4.IsWhole)
  (arg5 : Memref sig .tc .vmem S64x1024 .f32) (harg5 : arg5.IsWhole)
  (arg6 : Memref sig .tc .vmem S64x1024 .f32) (harg6 : arg6.IsWhole)
  (x0 : Vec Ideal S1024x64 .bf16) (x1 : Vec Ideal S1024x1024 .f32) (y : Vec Ideal S64x1024 .f32)

theorem scratch_A (hc0 : cond0_0 i) (hc1 : ¬cond0_1 i) :
    sout0_A_0 c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  try sl_unfold_words
  rw [View.canon_cons_unit_zero (S := S64x1024) off2, View.readCov_unit_zero (S := S64x1024) _ off2]
  simp only [View.readAt_eq_ld, harg3.read_unread, harg4.read_unread, harg6.read_unread,
    View.ld_unit_zero (S := S1024x64) off2, View.ld_unit_zero (S := S1024x1024) off2, View.ld_unit_zero (S := S64x1024) off2, shapeCast_self]

theorem scratch_B (hc0 : ¬cond0_0 i) (hc1 : cond0_1 i) :
    sout0_B_0 c i arg3 harg3 arg4 harg4 arg5 harg5 arg6 harg6 hc0 hc1 x0 x1 y = k0_pay2 y x0 x1 := by
  unfold sout0_B_0
  rw [View.read_writes_eq_canon _ _ _ (scover0_B_0 c i arg3 harg3 arg4 harg4 arg5 harg5 arg6 harg6 hc0 hc1 x0 x1 y)]
  unfold kernelRun0_B
  dsimp only
  try sl_unfold_words
  rw [View.canon_unit_zero off2]
  simp only [View.readAt_eq_ld, harg3.read_unread, harg4.read_unread, harg6.read_unread,
    View.ld_unit_zero (S := S1024x64) off2, View.ld_unit_zero (S := S1024x1024) off2, View.ld_unit_zero (S := S64x1024) off2, shapeCast_self]

theorem out_B (hc0 : ¬cond0_0 i) (hc1 : cond0_1 i) :
    out0_B_2 c i arg3 harg3 arg4 harg4 arg5 harg5 arg6 harg6 hc0 hc1 x0 x1 y = k0_pay2 y x0 x1 := by
  unfold out0_B_2
  rw [View.read_writes_eq_canon _ _ _ (cover0_B_2 c i arg3 harg3 arg4 harg4 arg5 harg5 arg6 harg6 hc0 hc1 x0 x1 y)]
  unfold kernelRun0_B
  dsimp only
  try sl_unfold_words
  rw [View.canon_unit_zero off2, View.readCov_unit_zero (S := S64x1024) _ off2]
  simp only [View.readAt_eq_ld, harg3.read_unread, harg4.read_unread, harg6.read_unread,
    View.ld_unit_zero (S := S1024x64) off2, View.ld_unit_zero (S := S1024x1024) off2, View.ld_unit_zero (S := S64x1024) off2, shapeCast_self]

end Cases

/-! ## The body's values at an index -/

theorem pay1_at (r : Fin 64) (d : Fin 1024) : k0_pay1 (F := Ideal) (ix2 r d) = 0 := by
  pointwise [k0_pay1]

theorem pay2_at (y : Vec Ideal S64x1024 .f32) (x0 : Vec Ideal S1024x64 .bf16) (x1 : Vec Ideal S1024x1024 .f32) (r : Fin 64) (d : Fin 1024) :
    k0_pay2 (F := Ideal) y x0 x1 (ix2 r d) = y (ix2 r d) + ∑ k : Fin 1024, ((x0 (ix2 k r) : EReal) * x1 (ix2 k d) : EReal) := by
  pointwise [k0_pay2]

/-! ## The blocks -/

variable (m : (ℓ : Loc nD τ sig) → Buf (Elt Ideal) ℓ) (c : Dev nD)

theorem e0 : ∀ t : Fin cfg0.N, win0_0.index t 0 = t.val % 2 ∧ win0_0.index t 1 = t.val / 2 := by decide +kernel
theorem e1 : ∀ t : Fin cfg0.N, win0_1.index t 0 = t.val % 2 ∧ win0_1.index t 1 = 0 := by decide +kernel
theorem e2 : ∀ t : Fin cfg0.N, win0_2.index t 0 = t.val / 2 ∧ win0_2.index t 1 = 0 := by decide +kernel

/-- The row and the column of the product that an entry of a point's block is, and a position along the summed axis. -/
def gr (t : Fin cfg0.N) (r : Fin 64) : Fin 64 := ⟨t.val / 2 * 64 + r.val, by have : t.val < 2 := t.isLt; omega⟩
def gc (t : Fin cfg0.N) (d : Fin 1024) : Fin 1024 := ⟨0 * 1024 + d.val, by have : t.val < 2 := t.isLt; omega⟩
def gk (t : Fin cfg0.N) (k : Fin 1024) : Fin 2048 := ⟨t.val % 2 * 1024 + k.val, by have : t.val < 2 := t.isLt; omega⟩

theorem blk0_at (t : Fin cfg0.N) (r : Fin 64) (k : Fin 1024) : iblk m c 0 t (ix2 k r) = V m c main_arg0 (ix2 (gk t k) (gr t r)) := by
  refine congrArg (V m c main_arg0) (ix2_ext ?_ ?_)
  · show win0_0.index t 0 * 1024 + 1 * k.val = t.val % 2 * 1024 + k.val
    rw [(e0 t).1]; omega
  · show win0_0.index t 1 * 64 + 1 * r.val = t.val / 2 * 64 + r.val
    rw [(e0 t).2]; omega

theorem blk1_at (t : Fin cfg0.N) (k : Fin 1024) (d : Fin 1024) : iblk m c 1 t (ix2 k d) = V m c main_arg1 (ix2 (gk t k) (gc t d)) := by
  refine congrArg (V m c main_arg1) (ix2_ext ?_ ?_)
  · show win0_1.index t 0 * 1024 + 1 * k.val = t.val % 2 * 1024 + k.val
    rw [(e1 t).1]; omega
  · show win0_1.index t 1 * 1024 + 1 * d.val = 0 * 1024 + d.val
    rw [(e1 t).2]; omega

/-- What one grid point adds. -/
theorem add_at (t : Fin cfg0.N) (y : Vec Ideal S64x1024 .f32) (r : Fin 64) (d : Fin 1024) : k0_pay2 (F := Ideal) y (iblk m c 0 t) (iblk m c 1 t) (ix2 r d)
    = y (ix2 r d) + ∑ k ∈ Finset.range 1024, term (rowTN (V m c main_arg0) (V m c main_arg1) (gr t r) (gc t d)) (t.val % 2 * 1024 + k) :=
  (pay2_at _ _ _ r d).trans (congrArg (y (ix2 r d) + ·) (sum_part fun k => ⟨(gk t k).isLt, congrArg₂ (· * ·) (blk0_at m c t r k) (blk1_at m c t k d)⟩))

/-- The accumulator after a grid point: the summands up to the end of its block. -/
theorem acc_at (t : Fin cfg0.N) (r : Fin 64) (d : Fin 1024) :
    (outsAt0 m c t.val t.isLt).2 (ix2 r d) = ∑ k ∈ Finset.range ((t.val % 2 + 1) * 1024), term (rowTN (V m c main_arg0) (V m c main_arg1) (gr t r) (gc t d)) k := by
  refine sum_tiles 2 1024 (fun t : Fin cfg0.N => (outsAt0 m c t.val t.isLt).2 (ix2 r d)) (fun t => rowTN (V m c main_arg0) (V m c main_arg1) (gr t r) (gc t d))
    (fun t h => ?_) (fun t h => ?_) (fun t h => congrArg₂ (rowTN (V m c main_arg0) (V m c main_arg1)) (Fin.ext ?_) (Fin.ext ?_)) t
  · rw [outsAt0_A m c t h (by omega)]
    dsimp only
    rw [scratch_A, add_at, pay1_at]
  · rw [outsAt0_B m c t h (by omega)]
    dsimp only
    rw [scratch_B, add_at]
  · show (t.val - 1) / 2 * 64 + r.val = t.val / 2 * 64 + r.val
    omega
  · show 0 * 1024 + d.val = 0 * 1024 + d.val
    omega

theorem last_at (t : Fin cfg0.N) (h : t.val % 2 = 1) (r : Fin 64) (d : Fin 1024) :
    (outsAt0 m c t.val t.isLt).1 (ix2 r d) = mulTN (V m c main_arg0) (V m c main_arg1) (gr t r) (gc t d) := by
  have h0 : ¬t.val % 2 = 0 := by omega
  have e := acc_at m c t r d
  rw [outsAt0_B m c t h0 h] at e ⊢
  dsimp only at e ⊢
  rw [scratch_B] at e
  rw [out_B]
  rw [e, h]
  exact sum_term _

theorem final : (dats m 0 c).arrAt 2 cfg0.N = entries (mulTN (V m c main_arg0) (V m c main_arg1)) := by
  refine (dats m 0 c).arrAt_eq_of_covers 2 _ (by decide +kernel) fun t hf y => ?_
  blk_simp
  rw [after0_2]
  revert y
  intro (y : S64x1024.Idx)
  idx_vars y
  rw [last_at m c t ((flush0_2 t).mp hf) y0 y1]
  refine congrArg₂ (mulTN (V m c main_arg0) (V m c main_arg1)) (Fin.ext ?_) (Fin.ext ?_)
  · show t.val / 2 * 64 + y0.val = win0_2.index t 0 * 64 + 1 * y0.val
    rw [(e2 t).1]; omega
  · show 0 * 1024 + y1.val = win0_2.index t 1 * 1024 + 1 * y1.val
    rw [(e2 t).2]; omega

theorem agree : algebraic_Kernel36Ideal_Reference36Ideal (hKernel36Ideal := Cert.Kernel36Ideal.Gen.facts) (hReference36Ideal := Cert.Reference36Ideal.Gen.facts) := by
  intro m g m' g' _ hagree
  refine ⟨fun c => entries (mulTN (m (c.tc.loc main_arg0)) (m (c.tc.loc main_arg1))), ?_, ?_⟩
  · refine (θ_run _ _ _).mono (fun r h c => ⟨(h c).1.trans ((final m c).trans ?_), (h c).2⟩) (Value.run_blocks (F := Ideal) m g)
    rw [V_main_arg0, V_main_arg1]
  · refine (θ_run _ _ _).mono (fun r h c => ⟨(h c).1.trans ?_, (h c).2⟩) (Cert.Reference36Ideal.Value.run (F := Ideal) m' g')
    rw [(hagree c).1, (hagree c).2]
    funext i
    idx_vars i
    show _ = mulTN (m (c.tc.loc main_arg0)) (m (c.tc.loc main_arg1)) i0 i1
    unfold mulTN rowTN
    pointwise

end Cert.Proof.LowOutWeightsBf64

end
-- ==== Proof.LowOutWeights160.lean ====
/-
  A second low-rank product of rank 160, its gradient in the weights.
-/
module

public import proofs.«01_k».proof.Defs
public import proofs.«01_k».proof.Proof.Gen.Kernel37Ideal.Value
public import proofs.«01_k».proof.Proof.Gen.Reference37Ideal.Run
public import proofs.«01_k».proof.Proof.Tiles
public import Idealize.ShloMosaic.Lib.Pipeline.ValueKit

@[expose] public section

noncomputable section

namespace Cert.Proof.LowOutWeights160

open Idealize.ShloMosaic Idealize.SL.Sem Cert.Kernel37Ideal Cert.Kernel37Ideal.Gen
open Idealize.ShloMosaic.TcCoe
open Idealize.ShloMosaic.Pipeline (Dat Cfg Window)

section Cases

variable (c : Dev nD) (i : grid0.Coords)
  (arg3 : Memref sig .tc .vmem S1024x160 .f32) (harg3 : arg3.IsWhole)
  (arg4 : Memref sig .tc .vmem S1024x1024 .f32) (harg4 : arg4.IsWhole)
  (arg5 : Memref sig .tc .vmem S160x1024 .f32) (harg5 : arg5.IsWhole)
  (arg6 : Memref sig .tc .vmem S160x1024 .f32) (harg6 : arg6.IsWhole)
  (x0 : Vec Ideal S1024x160 .f32) (x1 : Vec Ideal S1024x1024 .f32) (y : Vec Ideal S160x1024 .f32)

theorem scratch_A (hc0 : cond0_0 i) (hc1 : ¬cond0_1 i) :
    sout0_A_0 c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  try sl_unfold_words
  rw [View.canon_cons_unit_zero (S := S160x1024) off2, View.readCov_unit_zero (S := S160x1024) _ off2]
  simp only [View.readAt_eq_ld, harg3.read_unread, harg4.read_unread, harg6.read_unread,
    View.ld_unit_zero (S := S1024x160) off2, View.ld_unit_zero (S := S1024x1024) off2, View.ld_unit_zero (S := S160x1024) off2, shapeCast_self]

theorem scratch_B (hc0 : ¬cond0_0 i) (hc1 : cond0_1 i) :
    sout0_B_0 c i arg3 harg3 arg4 harg4 arg5 harg5 arg6 harg6 hc0 hc1 x0 x1 y = k0_pay2 y x0 x1 := by
  unfold sout0_B_0
  rw [View.read_writes_eq_canon _ _ _ (scover0_B_0 c i arg3 harg3 arg4 harg4 arg5 harg5 arg6 harg6 hc0 hc1 x0 x1 y)]
  unfold kernelRun0_B
  dsimp only
  try sl_unfold_words
  rw [View.canon_unit_zero off2]
  simp only [View.readAt_eq_ld, harg3.read_unread, harg4.read_unread, harg6.read_unread,
    View.ld_unit_zero (S := S1024x160) off2, View.ld_unit_zero (S := S1024x1024) off2, View.ld_unit_zero (S := S160x1024) off2, shapeCast_self]

theorem out_B (hc0 : ¬cond0_0 i) (hc1 : cond0_1 i) :
    out0_B_2 c i arg3 harg3 arg4 harg4 arg5 harg5 arg6 harg6 hc0 hc1 x0 x1 y = k0_pay2 y x0 x1 := by
  unfold out0_B_2
  rw [View.read_writes_eq_canon _ _ _ (cover0_B_2 c i arg3 harg3 arg4 harg4 arg5 harg5 arg6 harg6 hc0 hc1 x0 x1 y)]
  unfold kernelRun0_B
  dsimp only
  try sl_unfold_words
  rw [View.canon_unit_zero off2, View.readCov_unit_zero (S := S160x1024) _ off2]
  simp only [View.readAt_eq_ld, harg3.read_unread, harg4.read_unread, harg6.read_unread,
    View.ld_unit_zero (S := S1024x160) off2, View.ld_unit_zero (S := S1024x1024) off2, View.ld_unit_zero (S := S160x1024) off2, shapeCast_self]

end Cases

/-! ## The body's values at an index -/

theorem pay1_at (r : Fin 160) (d : Fin 1024) : k0_pay1 (F := Ideal) (ix2 r d) = 0 := by
  pointwise [k0_pay1]

theorem pay2_at (y : Vec Ideal S160x1024 .f32) (x0 : Vec Ideal S1024x160 .f32) (x1 : Vec Ideal S1024x1024 .f32) (r : Fin 160) (d : Fin 1024) :
    k0_pay2 (F := Ideal) y x0 x1 (ix2 r d) = y (ix2 r d) + ∑ k : Fin 1024, ((x0 (ix2 k r) : EReal) * x1 (ix2 k d) : EReal) := by
  pointwise [k0_pay2]

/-! ## The blocks -/

variable (m : (ℓ : Loc nD τ sig) → Buf (Elt Ideal) ℓ) (c : Dev nD)

theorem e0 : ∀ t : Fin cfg0.N, win0_0.index t 0 = t.val % 2 ∧ win0_0.index t 1 = t.val / 2 := by decide +kernel
theorem e1 : ∀ t : Fin cfg0.N, win0_1.index t 0 = t.val % 2 ∧ win0_1.index t 1 = 0 := by decide +kernel
theorem e2 : ∀ t : Fin cfg0.N, win0_2.index t 0 = t.val / 2 ∧ win0_2.index t 1 = 0 := by decide +kernel

/-- The row and the column of the product that an entry of a point's block is, and a position along the summed axis. -/
def gr (t : Fin cfg0.N) (r : Fin 160) : Fin 160 := ⟨t.val / 2 * 160 + r.val, by have : t.val < 2 := t.isLt; omega⟩
def gc (t : Fin cfg0.N) (d : Fin 1024) : Fin 1024 := ⟨0 * 1024 + d.val, by have : t.val < 2 := t.isLt; omega⟩
def gk (t : Fin cfg0.N) (k : Fin 1024) : Fin 2048 := ⟨t.val % 2 * 1024 + k.val, by have : t.val < 2 := t.isLt; omega⟩

theorem blk0_at (t : Fin cfg0.N) (r : Fin 160) (k : Fin 1024) : iblk m c 0 t (ix2 k r) = V m c main_arg0 (ix2 (gk t k) (gr t r)) := by
  refine congrArg (V m c main_arg0) (ix2_ext ?_ ?_)
  · show win0_0.index t 0 * 1024 + 1 * k.val = t.val % 2 * 1024 + k.val
    rw [(e0 t).1]; omega
  · show win0_0.index t 1 * 160 + 1 * r.val = t.val / 2 * 160 + r.val
    rw [(e0 t).2]; omega

theorem blk1_at (t : Fin cfg0.N) (k : Fin 1024) (d : Fin 1024) : iblk m c 1 t (ix2 k d) = V m c main_arg1 (ix2 (gk t k) (gc t d)) := by
  refine congrArg (V m c main_arg1) (ix2_ext ?_ ?_)
  · show win0_1.index t 0 * 1024 + 1 * k.val = t.val % 2 * 1024 + k.val
    rw [(e1 t).1]; omega
  · show win0_1.index t 1 * 1024 + 1 * d.val = 0 * 1024 + d.val
    rw [(e1 t).2]; omega

/-- What one grid point adds. -/
theorem add_at (t : Fin cfg0.N) (y : Vec Ideal S160x1024 .f32) (r : Fin 160) (d : Fin 1024) : k0_pay2 (F := Ideal) y (iblk m c 0 t) (iblk m c 1 t) (ix2 r d)
    = y (ix2 r d) + ∑ k ∈ Finset.range 1024, term (rowTN (V m c main_arg0) (V m c main_arg1) (gr t r) (gc t d)) (t.val % 2 * 1024 + k) :=
  (pay2_at _ _ _ r d).trans (congrArg (y (ix2 r d) + ·) (sum_part fun k => ⟨(gk t k).isLt, congrArg₂ (· * ·) (blk0_at m c t r k) (blk1_at m c t k d)⟩))

/-- The accumulator after a grid point: the summands up to the end of its block. -/
theorem acc_at (t : Fin cfg0.N) (r : Fin 160) (d : Fin 1024) :
    (outsAt0 m c t.val t.isLt).2 (ix2 r d) = ∑ k ∈ Finset.range ((t.val % 2 + 1) * 1024), term (rowTN (V m c main_arg0) (V m c main_arg1) (gr t r) (gc t d)) k := by
  refine sum_tiles 2 1024 (fun t : Fin cfg0.N => (outsAt0 m c t.val t.isLt).2 (ix2 r d)) (fun t => rowTN (V m c main_arg0) (V m c main_arg1) (gr t r) (gc t d))
    (fun t h => ?_) (fun t h => ?_) (fun t h => congrArg₂ (rowTN (V m c main_arg0) (V m c main_arg1)) (Fin.ext ?_) (Fin.ext ?_)) t
  · rw [outsAt0_A m c t h (by omega)]
    dsimp only
    rw [scratch_A, add_at, pay1_at]
  · rw [outsAt0_B m c t h (by omega)]
    dsimp only
    rw [scratch_B, add_at]
  · show (t.val - 1) / 2 * 160 + r.val = t.val / 2 * 160 + r.val
    omega
  · show 0 * 1024 + d.val = 0 * 1024 + d.val
    omega

theorem last_at (t : Fin cfg0.N) (h : t.val % 2 = 1) (r : Fin 160) (d : Fin 1024) :
    (outsAt0 m c t.val t.isLt).1 (ix2 r d) = mulTN (V m c main_arg0) (V m c main_arg1) (gr t r) (gc t d) := by
  have h0 : ¬t.val % 2 = 0 := by omega
  have e := acc_at m c t r d
  rw [outsAt0_B m c t h0 h] at e ⊢
  dsimp only at e ⊢
  rw [scratch_B] at e
  rw [out_B]
  rw [e, h]
  exact sum_term _

theorem final : (dats m 0 c).arrAt 2 cfg0.N = entries (mulTN (V m c main_arg0) (V m c main_arg1)) := by
  refine (dats m 0 c).arrAt_eq_of_covers 2 _ (by decide +kernel) fun t hf y => ?_
  blk_simp
  rw [after0_2]
  revert y
  intro (y : S160x1024.Idx)
  idx_vars y
  rw [last_at m c t ((flush0_2 t).mp hf) y0 y1]
  refine congrArg₂ (mulTN (V m c main_arg0) (V m c main_arg1)) (Fin.ext ?_) (Fin.ext ?_)
  · show t.val / 2 * 160 + y0.val = win0_2.index t 0 * 160 + 1 * y0.val
    rw [(e2 t).1]; omega
  · show 0 * 1024 + y1.val = win0_2.index t 1 * 1024 + 1 * y1.val
    rw [(e2 t).2]; omega

theorem agree : algebraic_Kernel37Ideal_Reference37Ideal (hKernel37Ideal := Cert.Kernel37Ideal.Gen.facts) (hReference37Ideal := Cert.Reference37Ideal.Gen.facts) := by
  intro m g m' g' _ hagree
  refine ⟨fun c => entries (mulTN (m (c.tc.loc main_arg0)) (m (c.tc.loc main_arg1))), ?_, ?_⟩
  · refine (θ_run _ _ _).mono (fun r h c => ⟨(h c).1.trans ((final m c).trans ?_), (h c).2⟩) (Value.run_blocks (F := Ideal) m g)
    rw [V_main_arg0, V_main_arg1]
  · refine (θ_run _ _ _).mono (fun r h c => ⟨(h c).1.trans ?_, (h c).2⟩) (Cert.Reference37Ideal.Value.run (F := Ideal) m' g')
    rw [(hagree c).1, (hagree c).2]
    funext i
    idx_vars i
    show _ = mulTN (m (c.tc.loc main_arg0)) (m (c.tc.loc main_arg1)) i0 i1
    unfold mulTN rowTN
    pointwise

end Cert.Proof.LowOutWeights160

end
-- ==== Proof.LowOutWeightsBf32.lean ====
/-
  A second low-rank product of rank 32, its gradient in the weights.
-/
module

public import proofs.«01_k».proof.Defs
public import proofs.«01_k».proof.Proof.Gen.Kernel38Ideal.Value
public import proofs.«01_k».proof.Proof.Gen.Reference38Ideal.Run
public import proofs.«01_k».proof.Proof.Tiles
public import Idealize.ShloMosaic.Lib.Pipeline.ValueKit

@[expose] public section

noncomputable section

namespace Cert.Proof.LowOutWeightsBf32

open Idealize.ShloMosaic Idealize.SL.Sem Cert.Kernel38Ideal Cert.Kernel38Ideal.Gen
open Idealize.ShloMosaic.TcCoe
open Idealize.ShloMosaic.Pipeline (Dat Cfg Window)

section Cases

variable (c : Dev nD) (i : grid0.Coords)
  (arg3 : Memref sig .tc .vmem S1024x32 .bf16) (harg3 : arg3.IsWhole)
  (arg4 : Memref sig .tc .vmem S1024x1024 .f32) (harg4 : arg4.IsWhole)
  (arg5 : Memref sig .tc .vmem S32x1024 .f32) (harg5 : arg5.IsWhole)
  (arg6 : Memref sig .tc .vmem S32x1024 .f32) (harg6 : arg6.IsWhole)
  (x0 : Vec Ideal S1024x32 .bf16) (x1 : Vec Ideal S1024x1024 .f32) (y : Vec Ideal S32x1024 .f32)

theorem scratch_A (hc0 : cond0_0 i) (hc1 : ¬cond0_1 i) :
    sout0_A_0 c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  try sl_unfold_words
  rw [View.canon_cons_unit_zero (S := S32x1024) off2, View.readCov_unit_zero (S := S32x1024) _ off2]
  simp only [View.readAt_eq_ld, harg3.read_unread, harg4.read_unread, harg6.read_unread,
    View.ld_unit_zero (S := S1024x32) off2, View.ld_unit_zero (S := S1024x1024) off2, View.ld_unit_zero (S := S32x1024) off2, shapeCast_self]

theorem scratch_B (hc0 : ¬cond0_0 i) (hc1 : cond0_1 i) :
    sout0_B_0 c i arg3 harg3 arg4 harg4 arg5 harg5 arg6 harg6 hc0 hc1 x0 x1 y = k0_pay2 y x0 x1 := by
  unfold sout0_B_0
  rw [View.read_writes_eq_canon _ _ _ (scover0_B_0 c i arg3 harg3 arg4 harg4 arg5 harg5 arg6 harg6 hc0 hc1 x0 x1 y)]
  unfold kernelRun0_B
  dsimp only
  try sl_unfold_words
  rw [View.canon_unit_zero off2]
  simp only [View.readAt_eq_ld, harg3.read_unread, harg4.read_unread, harg6.read_unread,
    View.ld_unit_zero (S := S1024x32) off2, View.ld_unit_zero (S := S1024x1024) off2, View.ld_unit_zero (S := S32x1024) off2, shapeCast_self]

theorem out_B (hc0 : ¬cond0_0 i) (hc1 : cond0_1 i) :
    out0_B_2 c i arg3 harg3 arg4 harg4 arg5 harg5 arg6 harg6 hc0 hc1 x0 x1 y = k0_pay2 y x0 x1 := by
  unfold out0_B_2
  rw [View.read_writes_eq_canon _ _ _ (cover0_B_2 c i arg3 harg3 arg4 harg4 arg5 harg5 arg6 harg6 hc0 hc1 x0 x1 y)]
  unfold kernelRun0_B
  dsimp only
  try sl_unfold_words
  rw [View.canon_unit_zero off2, View.readCov_unit_zero (S := S32x1024) _ off2]
  simp only [View.readAt_eq_ld, harg3.read_unread, harg4.read_unread, harg6.read_unread,
    View.ld_unit_zero (S := S1024x32) off2, View.ld_unit_zero (S := S1024x1024) off2, View.ld_unit_zero (S := S32x1024) off2, shapeCast_self]

end Cases

/-! ## The body's values at an index -/

theorem pay1_at (r : Fin 32) (d : Fin 1024) : k0_pay1 (F := Ideal) (ix2 r d) = 0 := by
  pointwise [k0_pay1]

theorem pay2_at (y : Vec Ideal S32x1024 .f32) (x0 : Vec Ideal S1024x32 .bf16) (x1 : Vec Ideal S1024x1024 .f32) (r : Fin 32) (d : Fin 1024) :
    k0_pay2 (F := Ideal) y x0 x1 (ix2 r d) = y (ix2 r d) + ∑ k : Fin 1024, ((x0 (ix2 k r) : EReal) * x1 (ix2 k d) : EReal) := by
  pointwise [k0_pay2]

/-! ## The blocks -/

variable (m : (ℓ : Loc nD τ sig) → Buf (Elt Ideal) ℓ) (c : Dev nD)

theorem e0 : ∀ t : Fin cfg0.N, win0_0.index t 0 = t.val % 2 ∧ win0_0.index t 1 = t.val / 2 := by decide +kernel
theorem e1 : ∀ t : Fin cfg0.N, win0_1.index t 0 = t.val % 2 ∧ win0_1.index t 1 = 0 := by decide +kernel
theorem e2 : ∀ t : Fin cfg0.N, win0_2.index t 0 = t.val / 2 ∧ win0_2.index t 1 = 0 := by decide +kernel

/-- The row and the column of the product that an entry of a point's block is, and a position along the summed axis. -/
def gr (t : Fin cfg0.N) (r : Fin 32) : Fin 32 := ⟨t.val / 2 * 32 + r.val, by have : t.val < 2 := t.isLt; omega⟩
def gc (t : Fin cfg0.N) (d : Fin 1024) : Fin 1024 := ⟨0 * 1024 + d.val, by have : t.val < 2 := t.isLt; omega⟩
def gk (t : Fin cfg0.N) (k : Fin 1024) : Fin 2048 := ⟨t.val % 2 * 1024 + k.val, by have : t.val < 2 := t.isLt; omega⟩

theorem blk0_at (t : Fin cfg0.N) (r : Fin 32) (k : Fin 1024) : iblk m c 0 t (ix2 k r) = V m c main_arg0 (ix2 (gk t k) (gr t r)) := by
  refine congrArg (V m c main_arg0) (ix2_ext ?_ ?_)
  · show win0_0.index t 0 * 1024 + 1 * k.val = t.val % 2 * 1024 + k.val
    rw [(e0 t).1]; omega
  · show win0_0.index t 1 * 32 + 1 * r.val = t.val / 2 * 32 + r.val
    rw [(e0 t).2]; omega

theorem blk1_at (t : Fin cfg0.N) (k : Fin 1024) (d : Fin 1024) : iblk m c 1 t (ix2 k d) = V m c main_arg1 (ix2 (gk t k) (gc t d)) := by
  refine congrArg (V m c main_arg1) (ix2_ext ?_ ?_)
  · show win0_1.index t 0 * 1024 + 1 * k.val = t.val % 2 * 1024 + k.val
    rw [(e1 t).1]; omega
  · show win0_1.index t 1 * 1024 + 1 * d.val = 0 * 1024 + d.val
    rw [(e1 t).2]; omega

/-- What one grid point adds. -/
theorem add_at (t : Fin cfg0.N) (y : Vec Ideal S32x1024 .f32) (r : Fin 32) (d : Fin 1024) : k0_pay2 (F := Ideal) y (iblk m c 0 t) (iblk m c 1 t) (ix2 r d)
    = y (ix2 r d) + ∑ k ∈ Finset.range 1024, term (rowTN (V m c main_arg0) (V m c main_arg1) (gr t r) (gc t d)) (t.val % 2 * 1024 + k) :=
  (pay2_at _ _ _ r d).trans (congrArg (y (ix2 r d) + ·) (sum_part fun k => ⟨(gk t k).isLt, congrArg₂ (· * ·) (blk0_at m c t r k) (blk1_at m c t k d)⟩))

/-- The accumulator after a grid point: the summands up to the end of its block. -/
theorem acc_at (t : Fin cfg0.N) (r : Fin 32) (d : Fin 1024) :
    (outsAt0 m c t.val t.isLt).2 (ix2 r d) = ∑ k ∈ Finset.range ((t.val % 2 + 1) * 1024), term (rowTN (V m c main_arg0) (V m c main_arg1) (gr t r) (gc t d)) k := by
  refine sum_tiles 2 1024 (fun t : Fin cfg0.N => (outsAt0 m c t.val t.isLt).2 (ix2 r d)) (fun t => rowTN (V m c main_arg0) (V m c main_arg1) (gr t r) (gc t d))
    (fun t h => ?_) (fun t h => ?_) (fun t h => congrArg₂ (rowTN (V m c main_arg0) (V m c main_arg1)) (Fin.ext ?_) (Fin.ext ?_)) t
  · rw [outsAt0_A m c t h (by omega)]
    dsimp only
    rw [scratch_A, add_at, pay1_at]
  · rw [outsAt0_B m c t h (by omega)]
    dsimp only
    rw [scratch_B, add_at]
  · show (t.val - 1) / 2 * 32 + r.val = t.val / 2 * 32 + r.val
    omega
  · show 0 * 1024 + d.val = 0 * 1024 + d.val
    omega

theorem last_at (t : Fin cfg0.N) (h : t.val % 2 = 1) (r : Fin 32) (d : Fin 1024) :
    (outsAt0 m c t.val t.isLt).1 (ix2 r d) = mulTN (V m c main_arg0) (V m c main_arg1) (gr t r) (gc t d) := by
  have h0 : ¬t.val % 2 = 0 := by omega
  have e := acc_at m c t r d
  rw [outsAt0_B m c t h0 h] at e ⊢
  dsimp only at e ⊢
  rw [scratch_B] at e
  rw [out_B]
  rw [e, h]
  exact sum_term _

theorem final : (dats m 0 c).arrAt 2 cfg0.N = entries (mulTN (V m c main_arg0) (V m c main_arg1)) := by
  refine (dats m 0 c).arrAt_eq_of_covers 2 _ (by decide +kernel) fun t hf y => ?_
  blk_simp
  rw [after0_2]
  revert y
  intro (y : S32x1024.Idx)
  idx_vars y
  rw [last_at m c t ((flush0_2 t).mp hf) y0 y1]
  refine congrArg₂ (mulTN (V m c main_arg0) (V m c main_arg1)) (Fin.ext ?_) (Fin.ext ?_)
  · show t.val / 2 * 32 + y0.val = win0_2.index t 0 * 32 + 1 * y0.val
    rw [(e2 t).1]; omega
  · show 0 * 1024 + y1.val = win0_2.index t 1 * 1024 + 1 * y1.val
    rw [(e2 t).2]; omega

theorem agree : algebraic_Kernel38Ideal_Reference38Ideal (hKernel38Ideal := Cert.Kernel38Ideal.Gen.facts) (hReference38Ideal := Cert.Reference38Ideal.Gen.facts) := by
  intro m g m' g' _ hagree
  refine ⟨fun c => entries (mulTN (m (c.tc.loc main_arg0)) (m (c.tc.loc main_arg1))), ?_, ?_⟩
  · refine (θ_run _ _ _).mono (fun r h c => ⟨(h c).1.trans ((final m c).trans ?_), (h c).2⟩) (Value.run_blocks (F := Ideal) m g)
    rw [V_main_arg0, V_main_arg1]
  · refine (θ_run _ _ _).mono (fun r h c => ⟨(h c).1.trans ?_, (h c).2⟩) (Cert.Reference38Ideal.Value.run (F := Ideal) m' g')
    rw [(hagree c).1, (hagree c).2]
    funext i
    idx_vars i
    show _ = mulTN (m (c.tc.loc main_arg0)) (m (c.tc.loc main_arg1)) i0 i1
    unfold mulTN rowTN
    pointwise

end Cert.Proof.LowOutWeightsBf32

end
-- ==== Proof.LowInWeights64.lean ====
/-
  A first low-rank product of rank 64, its gradient in the weights.
-/
module

public import proofs.«01_k».proof.Defs
public import proofs.«01_k».proof.Proof.Gen.Kernel39Ideal.Value
public import proofs.«01_k».proof.Proof.Gen.Reference39Ideal.Run
public import proofs.«01_k».proof.Proof.Tiles
public import Idealize.ShloMosaic.Lib.Pipeline.ValueKit

@[expose] public section

noncomputable section

namespace Cert.Proof.LowInWeights64

open Idealize.ShloMosaic Idealize.SL.Sem Cert.Kernel39Ideal Cert.Kernel39Ideal.Gen
open Idealize.ShloMosaic.TcCoe
open Idealize.ShloMosaic.Pipeline (Dat Cfg Window)

section Cases

variable (c : Dev nD) (i : grid0.Coords)
  (arg3 : Memref sig .tc .vmem S1024x1024 .bf16) (harg3 : arg3.IsWhole)
  (arg4 : Memref sig .tc .vmem S1024x64 .f32) (harg4 : arg4.IsWhole)
  (arg5 : Memref sig .tc .vmem S1024x64 .f32) (harg5 : arg5.IsWhole)
  (arg6 : Memref sig .tc .vmem S1024x64 .f32) (harg6 : arg6.IsWhole)
  (x0 : Vec Ideal S1024x1024 .bf16) (x1 : Vec Ideal S1024x64 .f32) (y : Vec Ideal S1024x64 .f32)

theorem scratch_A (hc0 : cond0_0 i) (hc1 : ¬cond0_1 i) :
    sout0_A_0 c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  try sl_unfold_words
  rw [View.canon_cons_unit_zero (S := S1024x64) off2, View.readCov_unit_zero (S := S1024x64) _ off2]
  simp only [View.readAt_eq_ld, harg3.read_unread, harg4.read_unread, harg6.read_unread,
    View.ld_unit_zero (S := S1024x1024) off2, View.ld_unit_zero (S := S1024x64) off2, shapeCast_self]

theorem scratch_B (hc0 : ¬cond0_0 i) (hc1 : cond0_1 i) :
    sout0_B_0 c i arg3 harg3 arg4 harg4 arg5 harg5 arg6 harg6 hc0 hc1 x0 x1 y = k0_pay2 y x0 x1 := by
  unfold sout0_B_0
  rw [View.read_writes_eq_canon _ _ _ (scover0_B_0 c i arg3 harg3 arg4 harg4 arg5 harg5 arg6 harg6 hc0 hc1 x0 x1 y)]
  unfold kernelRun0_B
  dsimp only
  try sl_unfold_words
  rw [View.canon_unit_zero off2]
  simp only [View.readAt_eq_ld, harg3.read_unread, harg4.read_unread, harg6.read_unread,
    View.ld_unit_zero (S := S1024x1024) off2, View.ld_unit_zero (S := S1024x64) off2, shapeCast_self]

theorem out_B (hc0 : ¬cond0_0 i) (hc1 : cond0_1 i) :
    out0_B_2 c i arg3 harg3 arg4 harg4 arg5 harg5 arg6 harg6 hc0 hc1 x0 x1 y = k0_pay2 y x0 x1 := by
  unfold out0_B_2
  rw [View.read_writes_eq_canon _ _ _ (cover0_B_2 c i arg3 harg3 arg4 harg4 arg5 harg5 arg6 harg6 hc0 hc1 x0 x1 y)]
  unfold kernelRun0_B
  dsimp only
  try sl_unfold_words
  rw [View.canon_unit_zero off2, View.readCov_unit_zero (S := S1024x64) _ off2]
  simp only [View.readAt_eq_ld, harg3.read_unread, harg4.read_unread, harg6.read_unread,
    View.ld_unit_zero (S := S1024x1024) off2, View.ld_unit_zero (S := S1024x64) off2, shapeCast_self]

end Cases

/-! ## The body's values at an index -/

theorem pay1_at (r : Fin 1024) (d : Fin 64) : k0_pay1 (F := Ideal) (ix2 r d) = 0 := by
  pointwise [k0_pay1]

theorem pay2_at (y : Vec Ideal S1024x64 .f32) (x0 : Vec Ideal S1024x1024 .bf16) (x1 : Vec Ideal S1024x64 .f32) (r : Fin 1024) (d : Fin 64) :
    k0_pay2 (F := Ideal) y x0 x1 (ix2 r d) = y (ix2 r d) + ∑ k : Fin 1024, ((x0 (ix2 k r) : EReal) * x1 (ix2 k d) : EReal) := by
  pointwise [k0_pay2]

/-! ## The blocks -/

variable (m : (ℓ : Loc nD τ sig) → Buf (Elt Ideal) ℓ) (c : Dev nD)

theorem e0 : ∀ t : Fin cfg0.N, win0_0.index t 0 = t.val % 2 ∧ win0_0.index t 1 = t.val / 2 := by decide +kernel
theorem e1 : ∀ t : Fin cfg0.N, win0_1.index t 0 = t.val % 2 ∧ win0_1.index t 1 = 0 := by decide +kernel
theorem e2 : ∀ t : Fin cfg0.N, win0_2.index t 0 = t.val / 2 ∧ win0_2.index t 1 = 0 := by decide +kernel

/-- The row and the column of the product that an entry of a point's block is, and a position along the summed axis. -/
def gr (t : Fin cfg0.N) (r : Fin 1024) : Fin 1024 := ⟨t.val / 2 * 1024 + r.val, by have : t.val < 2 := t.isLt; omega⟩
def gc (t : Fin cfg0.N) (d : Fin 64) : Fin 64 := ⟨0 * 64 + d.val, by have : t.val < 2 := t.isLt; omega⟩
def gk (t : Fin cfg0.N) (k : Fin 1024) : Fin 2048 := ⟨t.val % 2 * 1024 + k.val, by have : t.val < 2 := t.isLt; omega⟩

theorem blk0_at (t : Fin cfg0.N) (r : Fin 1024) (k : Fin 1024) : iblk m c 0 t (ix2 k r) = V m c main_arg0 (ix2 (gk t k) (gr t r)) := by
  refine congrArg (V m c main_arg0) (ix2_ext ?_ ?_)
  · show win0_0.index t 0 * 1024 + 1 * k.val = t.val % 2 * 1024 + k.val
    rw [(e0 t).1]; omega
  · show win0_0.index t 1 * 1024 + 1 * r.val = t.val / 2 * 1024 + r.val
    rw [(e0 t).2]; omega

theorem blk1_at (t : Fin cfg0.N) (k : Fin 1024) (d : Fin 64) : iblk m c 1 t (ix2 k d) = V m c main_arg1 (ix2 (gk t k) (gc t d)) := by
  refine congrArg (V m c main_arg1) (ix2_ext ?_ ?_)
  · show win0_1.index t 0 * 1024 + 1 * k.val = t.val % 2 * 1024 + k.val
    rw [(e1 t).1]; omega
  · show win0_1.index t 1 * 64 + 1 * d.val = 0 * 64 + d.val
    rw [(e1 t).2]; omega

/-- What one grid point adds. -/
theorem add_at (t : Fin cfg0.N) (y : Vec Ideal S1024x64 .f32) (r : Fin 1024) (d : Fin 64) : k0_pay2 (F := Ideal) y (iblk m c 0 t) (iblk m c 1 t) (ix2 r d)
    = y (ix2 r d) + ∑ k ∈ Finset.range 1024, term (rowTN (V m c main_arg0) (V m c main_arg1) (gr t r) (gc t d)) (t.val % 2 * 1024 + k) :=
  (pay2_at _ _ _ r d).trans (congrArg (y (ix2 r d) + ·) (sum_part fun k => ⟨(gk t k).isLt, congrArg₂ (· * ·) (blk0_at m c t r k) (blk1_at m c t k d)⟩))

/-- The accumulator after a grid point: the summands up to the end of its block. -/
theorem acc_at (t : Fin cfg0.N) (r : Fin 1024) (d : Fin 64) :
    (outsAt0 m c t.val t.isLt).2 (ix2 r d) = ∑ k ∈ Finset.range ((t.val % 2 + 1) * 1024), term (rowTN (V m c main_arg0) (V m c main_arg1) (gr t r) (gc t d)) k := by
  refine sum_tiles 2 1024 (fun t : Fin cfg0.N => (outsAt0 m c t.val t.isLt).2 (ix2 r d)) (fun t => rowTN (V m c main_arg0) (V m c main_arg1) (gr t r) (gc t d))
    (fun t h => ?_) (fun t h => ?_) (fun t h => congrArg₂ (rowTN (V m c main_arg0) (V m c main_arg1)) (Fin.ext ?_) (Fin.ext ?_)) t
  · rw [outsAt0_A m c t h (by omega)]
    dsimp only
    rw [scratch_A, add_at, pay1_at]
  · rw [outsAt0_B m c t h (by omega)]
    dsimp only
    rw [scratch_B, add_at]
  · show (t.val - 1) / 2 * 1024 + r.val = t.val / 2 * 1024 + r.val
    omega
  · show 0 * 64 + d.val = 0 * 64 + d.val
    omega

theorem last_at (t : Fin cfg0.N) (h : t.val % 2 = 1) (r : Fin 1024) (d : Fin 64) :
    (outsAt0 m c t.val t.isLt).1 (ix2 r d) = mulTN (V m c main_arg0) (V m c main_arg1) (gr t r) (gc t d) := by
  have h0 : ¬t.val % 2 = 0 := by omega
  have e := acc_at m c t r d
  rw [outsAt0_B m c t h0 h] at e ⊢
  dsimp only at e ⊢
  rw [scratch_B] at e
  rw [out_B]
  rw [e, h]
  exact sum_term _

theorem final : (dats m 0 c).arrAt 2 cfg0.N = entries (mulTN (V m c main_arg0) (V m c main_arg1)) := by
  refine (dats m 0 c).arrAt_eq_of_covers 2 _ (by decide +kernel) fun t hf y => ?_
  blk_simp
  rw [after0_2]
  revert y
  intro (y : S1024x64.Idx)
  idx_vars y
  rw [last_at m c t ((flush0_2 t).mp hf) y0 y1]
  refine congrArg₂ (mulTN (V m c main_arg0) (V m c main_arg1)) (Fin.ext ?_) (Fin.ext ?_)
  · show t.val / 2 * 1024 + y0.val = win0_2.index t 0 * 1024 + 1 * y0.val
    rw [(e2 t).1]; omega
  · show 0 * 64 + y1.val = win0_2.index t 1 * 64 + 1 * y1.val
    rw [(e2 t).2]; omega

theorem agree : algebraic_Kernel39Ideal_Reference39Ideal (hKernel39Ideal := Cert.Kernel39Ideal.Gen.facts) (hReference39Ideal := Cert.Reference39Ideal.Gen.facts) := by
  intro m g m' g' _ hagree
  refine ⟨fun c => entries (mulTN (m (c.tc.loc main_arg0)) (m (c.tc.loc main_arg1))), ?_, ?_⟩
  · refine (θ_run _ _ _).mono (fun r h c => ⟨(h c).1.trans ((final m c).trans ?_), (h c).2⟩) (Value.run_blocks (F := Ideal) m g)
    rw [V_main_arg0, V_main_arg1]
  · refine (θ_run _ _ _).mono (fun r h c => ⟨(h c).1.trans ?_, (h c).2⟩) (Cert.Reference39Ideal.Value.run (F := Ideal) m' g')
    rw [(hagree c).1, (hagree c).2]
    funext i
    idx_vars i
    show _ = mulTN (m (c.tc.loc main_arg0)) (m (c.tc.loc main_arg1)) i0 i1
    unfold mulTN rowTN
    pointwise

end Cert.Proof.LowInWeights64

end
-- ==== Proof.LowInWeights160.lean ====
/-
  A first low-rank product of rank 160, its gradient in the weights.
-/
module

public import proofs.«01_k».proof.Defs
public import proofs.«01_k».proof.Proof.Gen.Kernel40Ideal.Value
public import proofs.«01_k».proof.Proof.Gen.Reference40Ideal.Run
public import proofs.«01_k».proof.Proof.Tiles
public import Idealize.ShloMosaic.Lib.Pipeline.ValueKit

@[expose] public section

noncomputable section

namespace Cert.Proof.LowInWeights160

open Idealize.ShloMosaic Idealize.SL.Sem Cert.Kernel40Ideal Cert.Kernel40Ideal.Gen
open Idealize.ShloMosaic.TcCoe
open Idealize.ShloMosaic.Pipeline (Dat Cfg Window)

section Cases

variable (c : Dev nD) (i : grid0.Coords)
  (arg3 : Memref sig .tc .vmem S1024x1024 .bf16) (harg3 : arg3.IsWhole)
  (arg4 : Memref sig .tc .vmem S1024x160 .f32) (harg4 : arg4.IsWhole)
  (arg5 : Memref sig .tc .vmem S1024x160 .f32) (harg5 : arg5.IsWhole)
  (arg6 : Memref sig .tc .vmem S1024x160 .f32) (harg6 : arg6.IsWhole)
  (x0 : Vec Ideal S1024x1024 .bf16) (x1 : Vec Ideal S1024x160 .f32) (y : Vec Ideal S1024x160 .f32)

theorem scratch_A (hc0 : cond0_0 i) (hc1 : ¬cond0_1 i) :
    sout0_A_0 c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  try sl_unfold_words
  rw [View.canon_cons_unit_zero (S := S1024x160) off2, View.readCov_unit_zero (S := S1024x160) _ off2]
  simp only [View.readAt_eq_ld, harg3.read_unread, harg4.read_unread, harg6.read_unread,
    View.ld_unit_zero (S := S1024x1024) off2, View.ld_unit_zero (S := S1024x160) off2, shapeCast_self]

theorem scratch_B (hc0 : ¬cond0_0 i) (hc1 : cond0_1 i) :
    sout0_B_0 c i arg3 harg3 arg4 harg4 arg5 harg5 arg6 harg6 hc0 hc1 x0 x1 y = k0_pay2 y x0 x1 := by
  unfold sout0_B_0
  rw [View.read_writes_eq_canon _ _ _ (scover0_B_0 c i arg3 harg3 arg4 harg4 arg5 harg5 arg6 harg6 hc0 hc1 x0 x1 y)]
  unfold kernelRun0_B
  dsimp only
  try sl_unfold_words
  rw [View.canon_unit_zero off2]
  simp only [View.readAt_eq_ld, harg3.read_unread, harg4.read_unread, harg6.read_unread,
    View.ld_unit_zero (S := S1024x1024) off2, View.ld_unit_zero (S := S1024x160) off2, shapeCast_self]

theorem out_B (hc0 : ¬cond0_0 i) (hc1 : cond0_1 i) :
    out0_B_2 c i arg3 harg3 arg4 harg4 arg5 harg5 arg6 harg6 hc0 hc1 x0 x1 y = k0_pay2 y x0 x1 := by
  unfold out0_B_2
  rw [View.read_writes_eq_canon _ _ _ (cover0_B_2 c i arg3 harg3 arg4 harg4 arg5 harg5 arg6 harg6 hc0 hc1 x0 x1 y)]
  unfold kernelRun0_B
  dsimp only
  try sl_unfold_words
  rw [View.canon_unit_zero off2, View.readCov_unit_zero (S := S1024x160) _ off2]
  simp only [View.readAt_eq_ld, harg3.read_unread, harg4.read_unread, harg6.read_unread,
    View.ld_unit_zero (S := S1024x1024) off2, View.ld_unit_zero (S := S1024x160) off2, shapeCast_self]

end Cases

/-! ## The body's values at an index -/

theorem pay1_at (r : Fin 1024) (d : Fin 160) : k0_pay1 (F := Ideal) (ix2 r d) = 0 := by
  pointwise [k0_pay1]

theorem pay2_at (y : Vec Ideal S1024x160 .f32) (x0 : Vec Ideal S1024x1024 .bf16) (x1 : Vec Ideal S1024x160 .f32) (r : Fin 1024) (d : Fin 160) :
    k0_pay2 (F := Ideal) y x0 x1 (ix2 r d) = y (ix2 r d) + ∑ k : Fin 1024, ((x0 (ix2 k r) : EReal) * x1 (ix2 k d) : EReal) := by
  pointwise [k0_pay2]

/-! ## The blocks -/

variable (m : (ℓ : Loc nD τ sig) → Buf (Elt Ideal) ℓ) (c : Dev nD)

theorem e0 : ∀ t : Fin cfg0.N, win0_0.index t 0 = t.val % 2 ∧ win0_0.index t 1 = t.val / 2 := by decide +kernel
theorem e1 : ∀ t : Fin cfg0.N, win0_1.index t 0 = t.val % 2 ∧ win0_1.index t 1 = 0 := by decide +kernel
theorem e2 : ∀ t : Fin cfg0.N, win0_2.index t 0 = t.val / 2 ∧ win0_2.index t 1 = 0 := by decide +kernel

/-- The row and the column of the product that an entry of a point's block is, and a position along the summed axis. -/
def gr (t : Fin cfg0.N) (r : Fin 1024) : Fin 1024 := ⟨t.val / 2 * 1024 + r.val, by have : t.val < 2 := t.isLt; omega⟩
def gc (t : Fin cfg0.N) (d : Fin 160) : Fin 160 := ⟨0 * 160 + d.val, by have : t.val < 2 := t.isLt; omega⟩
def gk (t : Fin cfg0.N) (k : Fin 1024) : Fin 2048 := ⟨t.val % 2 * 1024 + k.val, by have : t.val < 2 := t.isLt; omega⟩

theorem blk0_at (t : Fin cfg0.N) (r : Fin 1024) (k : Fin 1024) : iblk m c 0 t (ix2 k r) = V m c main_arg0 (ix2 (gk t k) (gr t r)) := by
  refine congrArg (V m c main_arg0) (ix2_ext ?_ ?_)
  · show win0_0.index t 0 * 1024 + 1 * k.val = t.val % 2 * 1024 + k.val
    rw [(e0 t).1]; omega
  · show win0_0.index t 1 * 1024 + 1 * r.val = t.val / 2 * 1024 + r.val
    rw [(e0 t).2]; omega

theorem blk1_at (t : Fin cfg0.N) (k : Fin 1024) (d : Fin 160) : iblk m c 1 t (ix2 k d) = V m c main_arg1 (ix2 (gk t k) (gc t d)) := by
  refine congrArg (V m c main_arg1) (ix2_ext ?_ ?_)
  · show win0_1.index t 0 * 1024 + 1 * k.val = t.val % 2 * 1024 + k.val
    rw [(e1 t).1]; omega
  · show win0_1.index t 1 * 160 + 1 * d.val = 0 * 160 + d.val
    rw [(e1 t).2]; omega

/-- What one grid point adds. -/
theorem add_at (t : Fin cfg0.N) (y : Vec Ideal S1024x160 .f32) (r : Fin 1024) (d : Fin 160) : k0_pay2 (F := Ideal) y (iblk m c 0 t) (iblk m c 1 t) (ix2 r d)
    = y (ix2 r d) + ∑ k ∈ Finset.range 1024, term (rowTN (V m c main_arg0) (V m c main_arg1) (gr t r) (gc t d)) (t.val % 2 * 1024 + k) :=
  (pay2_at _ _ _ r d).trans (congrArg (y (ix2 r d) + ·) (sum_part fun k => ⟨(gk t k).isLt, congrArg₂ (· * ·) (blk0_at m c t r k) (blk1_at m c t k d)⟩))

/-- The accumulator after a grid point: the summands up to the end of its block. -/
theorem acc_at (t : Fin cfg0.N) (r : Fin 1024) (d : Fin 160) :
    (outsAt0 m c t.val t.isLt).2 (ix2 r d) = ∑ k ∈ Finset.range ((t.val % 2 + 1) * 1024), term (rowTN (V m c main_arg0) (V m c main_arg1) (gr t r) (gc t d)) k := by
  refine sum_tiles 2 1024 (fun t : Fin cfg0.N => (outsAt0 m c t.val t.isLt).2 (ix2 r d)) (fun t => rowTN (V m c main_arg0) (V m c main_arg1) (gr t r) (gc t d))
    (fun t h => ?_) (fun t h => ?_) (fun t h => congrArg₂ (rowTN (V m c main_arg0) (V m c main_arg1)) (Fin.ext ?_) (Fin.ext ?_)) t
  · rw [outsAt0_A m c t h (by omega)]
    dsimp only
    rw [scratch_A, add_at, pay1_at]
  · rw [outsAt0_B m c t h (by omega)]
    dsimp only
    rw [scratch_B, add_at]
  · show (t.val - 1) / 2 * 1024 + r.val = t.val / 2 * 1024 + r.val
    omega
  · show 0 * 160 + d.val = 0 * 160 + d.val
    omega

theorem last_at (t : Fin cfg0.N) (h : t.val % 2 = 1) (r : Fin 1024) (d : Fin 160) :
    (outsAt0 m c t.val t.isLt).1 (ix2 r d) = mulTN (V m c main_arg0) (V m c main_arg1) (gr t r) (gc t d) := by
  have h0 : ¬t.val % 2 = 0 := by omega
  have e := acc_at m c t r d
  rw [outsAt0_B m c t h0 h] at e ⊢
  dsimp only at e ⊢
  rw [scratch_B] at e
  rw [out_B]
  rw [e, h]
  exact sum_term _

theorem final : (dats m 0 c).arrAt 2 cfg0.N = entries (mulTN (V m c main_arg0) (V m c main_arg1)) := by
  refine (dats m 0 c).arrAt_eq_of_covers 2 _ (by decide +kernel) fun t hf y => ?_
  blk_simp
  rw [after0_2]
  revert y
  intro (y : S1024x160.Idx)
  idx_vars y
  rw [last_at m c t ((flush0_2 t).mp hf) y0 y1]
  refine congrArg₂ (mulTN (V m c main_arg0) (V m c main_arg1)) (Fin.ext ?_) (Fin.ext ?_)
  · show t.val / 2 * 1024 + y0.val = win0_2.index t 0 * 1024 + 1 * y0.val
    rw [(e2 t).1]; omega
  · show 0 * 160 + y1.val = win0_2.index t 1 * 160 + 1 * y1.val
    rw [(e2 t).2]; omega

theorem agree : algebraic_Kernel40Ideal_Reference40Ideal (hKernel40Ideal := Cert.Kernel40Ideal.Gen.facts) (hReference40Ideal := Cert.Reference40Ideal.Gen.facts) := by
  intro m g m' g' _ hagree
  refine ⟨fun c => entries (mulTN (m (c.tc.loc main_arg0)) (m (c.tc.loc main_arg1))), ?_, ?_⟩
  · refine (θ_run _ _ _).mono (fun r h c => ⟨(h c).1.trans ((final m c).trans ?_), (h c).2⟩) (Value.run_blocks (F := Ideal) m g)
    rw [V_main_arg0, V_main_arg1]
  · refine (θ_run _ _ _).mono (fun r h c => ⟨(h c).1.trans ?_, (h c).2⟩) (Cert.Reference40Ideal.Value.run (F := Ideal) m' g')
    rw [(hagree c).1, (hagree c).2]
    funext i
    idx_vars i
    show _ = mulTN (m (c.tc.loc main_arg0)) (m (c.tc.loc main_arg1)) i0 i1
    unfold mulTN rowTN
    pointwise

end Cert.Proof.LowInWeights160

end
-- ==== Proof.LowInWeights32.lean ====
/-
  A first low-rank product of rank 32, its gradient in the weights.
-/
module

public import proofs.«01_k».proof.Defs
public import proofs.«01_k».proof.Proof.Gen.Kernel41Ideal.Value
public import proofs.«01_k».proof.Proof.Gen.Reference41Ideal.Run
public import proofs.«01_k».proof.Proof.Tiles
public import Idealize.ShloMosaic.Lib.Pipeline.ValueKit

@[expose] public section

noncomputable section

namespace Cert.Proof.LowInWeights32

open Idealize.ShloMosaic Idealize.SL.Sem Cert.Kernel41Ideal Cert.Kernel41Ideal.Gen
open Idealize.ShloMosaic.TcCoe
open Idealize.ShloMosaic.Pipeline (Dat Cfg Window)

section Cases

variable (c : Dev nD) (i : grid0.Coords)
  (arg3 : Memref sig .tc .vmem S1024x1024 .bf16) (harg3 : arg3.IsWhole)
  (arg4 : Memref sig .tc .vmem S1024x32 .f32) (harg4 : arg4.IsWhole)
  (arg5 : Memref sig .tc .vmem S1024x32 .f32) (harg5 : arg5.IsWhole)
  (arg6 : Memref sig .tc .vmem S1024x32 .f32) (harg6 : arg6.IsWhole)
  (x0 : Vec Ideal S1024x1024 .bf16) (x1 : Vec Ideal S1024x32 .f32) (y : Vec Ideal S1024x32 .f32)

theorem scratch_A (hc0 : cond0_0 i) (hc1 : ¬cond0_1 i) :
    sout0_A_0 c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  try sl_unfold_words
  rw [View.canon_cons_unit_zero (S := S1024x32) off2, View.readCov_unit_zero (S := S1024x32) _ off2]
  simp only [View.readAt_eq_ld, harg3.read_unread, harg4.read_unread, harg6.read_unread,
    View.ld_unit_zero (S := S1024x1024) off2, View.ld_unit_zero (S := S1024x32) off2, shapeCast_self]

theorem scratch_B (hc0 : ¬cond0_0 i) (hc1 : cond0_1 i) :
    sout0_B_0 c i arg3 harg3 arg4 harg4 arg5 harg5 arg6 harg6 hc0 hc1 x0 x1 y = k0_pay2 y x0 x1 := by
  unfold sout0_B_0
  rw [View.read_writes_eq_canon _ _ _ (scover0_B_0 c i arg3 harg3 arg4 harg4 arg5 harg5 arg6 harg6 hc0 hc1 x0 x1 y)]
  unfold kernelRun0_B
  dsimp only
  try sl_unfold_words
  rw [View.canon_unit_zero off2]
  simp only [View.readAt_eq_ld, harg3.read_unread, harg4.read_unread, harg6.read_unread,
    View.ld_unit_zero (S := S1024x1024) off2, View.ld_unit_zero (S := S1024x32) off2, shapeCast_self]

theorem out_B (hc0 : ¬cond0_0 i) (hc1 : cond0_1 i) :
    out0_B_2 c i arg3 harg3 arg4 harg4 arg5 harg5 arg6 harg6 hc0 hc1 x0 x1 y = k0_pay2 y x0 x1 := by
  unfold out0_B_2
  rw [View.read_writes_eq_canon _ _ _ (cover0_B_2 c i arg3 harg3 arg4 harg4 arg5 harg5 arg6 harg6 hc0 hc1 x0 x1 y)]
  unfold kernelRun0_B
  dsimp only
  try sl_unfold_words
  rw [View.canon_unit_zero off2, View.readCov_unit_zero (S := S1024x32) _ off2]
  simp only [View.readAt_eq_ld, harg3.read_unread, harg4.read_unread, harg6.read_unread,
    View.ld_unit_zero (S := S1024x1024) off2, View.ld_unit_zero (S := S1024x32) off2, shapeCast_self]

end Cases

/-! ## The body's values at an index -/

theorem pay1_at (r : Fin 1024) (d : Fin 32) : k0_pay1 (F := Ideal) (ix2 r d) = 0 := by
  pointwise [k0_pay1]

theorem pay2_at (y : Vec Ideal S1024x32 .f32) (x0 : Vec Ideal S1024x1024 .bf16) (x1 : Vec Ideal S1024x32 .f32) (r : Fin 1024) (d : Fin 32) :
    k0_pay2 (F := Ideal) y x0 x1 (ix2 r d) = y (ix2 r d) + ∑ k : Fin 1024, ((x0 (ix2 k r) : EReal) * x1 (ix2 k d) : EReal) := by
  pointwise [k0_pay2]

/-! ## The blocks -/

variable (m : (ℓ : Loc nD τ sig) → Buf (Elt Ideal) ℓ) (c : Dev nD)

theorem e0 : ∀ t : Fin cfg0.N, win0_0.index t 0 = t.val % 2 ∧ win0_0.index t 1 = t.val / 2 := by decide +kernel
theorem e1 : ∀ t : Fin cfg0.N, win0_1.index t 0 = t.val % 2 ∧ win0_1.index t 1 = 0 := by decide +kernel
theorem e2 : ∀ t : Fin cfg0.N, win0_2.index t 0 = t.val / 2 ∧ win0_2.index t 1 = 0 := by decide +kernel

/-- The row and the column of the product that an entry of a point's block is, and a position along the summed axis. -/
def gr (t : Fin cfg0.N) (r : Fin 1024) : Fin 1024 := ⟨t.val / 2 * 1024 + r.val, by have : t.val < 2 := t.isLt; omega⟩
def gc (t : Fin cfg0.N) (d : Fin 32) : Fin 32 := ⟨0 * 32 + d.val, by have : t.val < 2 := t.isLt; omega⟩
def gk (t : Fin cfg0.N) (k : Fin 1024) : Fin 2048 := ⟨t.val % 2 * 1024 + k.val, by have : t.val < 2 := t.isLt; omega⟩

theorem blk0_at (t : Fin cfg0.N) (r : Fin 1024) (k : Fin 1024) : iblk m c 0 t (ix2 k r) = V m c main_arg0 (ix2 (gk t k) (gr t r)) := by
  refine congrArg (V m c main_arg0) (ix2_ext ?_ ?_)
  · show win0_0.index t 0 * 1024 + 1 * k.val = t.val % 2 * 1024 + k.val
    rw [(e0 t).1]; omega
  · show win0_0.index t 1 * 1024 + 1 * r.val = t.val / 2 * 1024 + r.val
    rw [(e0 t).2]; omega

theorem blk1_at (t : Fin cfg0.N) (k : Fin 1024) (d : Fin 32) : iblk m c 1 t (ix2 k d) = V m c main_arg1 (ix2 (gk t k) (gc t d)) := by
  refine congrArg (V m c main_arg1) (ix2_ext ?_ ?_)
  · show win0_1.index t 0 * 1024 + 1 * k.val = t.val % 2 * 1024 + k.val
    rw [(e1 t).1]; omega
  · show win0_1.index t 1 * 32 + 1 * d.val = 0 * 32 + d.val
    rw [(e1 t).2]; omega

/-- What one grid point adds. -/
theorem add_at (t : Fin cfg0.N) (y : Vec Ideal S1024x32 .f32) (r : Fin 1024) (d : Fin 32) : k0_pay2 (F := Ideal) y (iblk m c 0 t) (iblk m c 1 t) (ix2 r d)
    = y (ix2 r d) + ∑ k ∈ Finset.range 1024, term (rowTN (V m c main_arg0) (V m c main_arg1) (gr t r) (gc t d)) (t.val % 2 * 1024 + k) :=
  (pay2_at _ _ _ r d).trans (congrArg (y (ix2 r d) + ·) (sum_part fun k => ⟨(gk t k).isLt, congrArg₂ (· * ·) (blk0_at m c t r k) (blk1_at m c t k d)⟩))

/-- The accumulator after a grid point: the summands up to the end of its block. -/
theorem acc_at (t : Fin cfg0.N) (r : Fin 1024) (d : Fin 32) :
    (outsAt0 m c t.val t.isLt).2 (ix2 r d) = ∑ k ∈ Finset.range ((t.val % 2 + 1) * 1024), term (rowTN (V m c main_arg0) (V m c main_arg1) (gr t r) (gc t d)) k := by
  refine sum_tiles 2 1024 (fun t : Fin cfg0.N => (outsAt0 m c t.val t.isLt).2 (ix2 r d)) (fun t => rowTN (V m c main_arg0) (V m c main_arg1) (gr t r) (gc t d))
    (fun t h => ?_) (fun t h => ?_) (fun t h => congrArg₂ (rowTN (V m c main_arg0) (V m c main_arg1)) (Fin.ext ?_) (Fin.ext ?_)) t
  · rw [outsAt0_A m c t h (by omega)]
    dsimp only
    rw [scratch_A, add_at, pay1_at]
  · rw [outsAt0_B m c t h (by omega)]
    dsimp only
    rw [scratch_B, add_at]
  · show (t.val - 1) / 2 * 1024 + r.val = t.val / 2 * 1024 + r.val
    omega
  · show 0 * 32 + d.val = 0 * 32 + d.val
    omega

theorem last_at (t : Fin cfg0.N) (h : t.val % 2 = 1) (r : Fin 1024) (d : Fin 32) :
    (outsAt0 m c t.val t.isLt).1 (ix2 r d) = mulTN (V m c main_arg0) (V m c main_arg1) (gr t r) (gc t d) := by
  have h0 : ¬t.val % 2 = 0 := by omega
  have e := acc_at m c t r d
  rw [outsAt0_B m c t h0 h] at e ⊢
  dsimp only at e ⊢
  rw [scratch_B] at e
  rw [out_B]
  rw [e, h]
  exact sum_term _

theorem final : (dats m 0 c).arrAt 2 cfg0.N = entries (mulTN (V m c main_arg0) (V m c main_arg1)) := by
  refine (dats m 0 c).arrAt_eq_of_covers 2 _ (by decide +kernel) fun t hf y => ?_
  blk_simp
  rw [after0_2]
  revert y
  intro (y : S1024x32.Idx)
  idx_vars y
  rw [last_at m c t ((flush0_2 t).mp hf) y0 y1]
  refine congrArg₂ (mulTN (V m c main_arg0) (V m c main_arg1)) (Fin.ext ?_) (Fin.ext ?_)
  · show t.val / 2 * 1024 + y0.val = win0_2.index t 0 * 1024 + 1 * y0.val
    rw [(e2 t).1]; omega
  · show 0 * 32 + y1.val = win0_2.index t 1 * 32 + 1 * y1.val
    rw [(e2 t).2]; omega

theorem agree : algebraic_Kernel41Ideal_Reference41Ideal (hKernel41Ideal := Cert.Kernel41Ideal.Gen.facts) (hReference41Ideal := Cert.Reference41Ideal.Gen.facts) := by
  intro m g m' g' _ hagree
  refine ⟨fun c => entries (mulTN (m (c.tc.loc main_arg0)) (m (c.tc.loc main_arg1))), ?_, ?_⟩
  · refine (θ_run _ _ _).mono (fun r h c => ⟨(h c).1.trans ((final m c).trans ?_), (h c).2⟩) (Value.run_blocks (F := Ideal) m g)
    rw [V_main_arg0, V_main_arg1]
  · refine (θ_run _ _ _).mono (fun r h c => ⟨(h c).1.trans ?_, (h c).2⟩) (Cert.Reference41Ideal.Value.run (F := Ideal) m' g')
    rw [(hagree c).1, (hagree c).2]
    funext i
    idx_vars i
    show _ = mulTN (m (c.tc.loc main_arg0)) (m (c.tc.loc main_arg1)) i0 i1
    unfold mulTN rowTN
    pointwise

end Cert.Proof.LowInWeights32

end
-- ==== Proof.AttnFwd.lean ====
/-
  The memory attention's forward call: every head's softmax of the scaled scores times the head's values, as the reference
  has it.
-/
module

public import proofs.«01_k».proof.Defs
public import proofs.«01_k».proof.Proof.AttnMath
public import proofs.«01_k».proof.Proof.Tiles
public import proofs.«01_k».proof.Proof.Gen.Kernel42Ideal.Value
public import proofs.«01_k».proof.Proof.Gen.Reference42Ideal.Run
public import proofs.«01_k».proof.Proof.Gen.Reference42Ideal.Read
public import Idealize.ShloMosaic.Lib.Pipeline.ValueKit
public import Idealize.ShloMosaic.Lib.Pointwise

@[expose] public section

noncomputable section

namespace Cert.Proof.AttnFwd

open Idealize.ShloMosaic Idealize.SL.Sem Cert.Kernel42Ideal Cert.Kernel42Ideal.Gen
open Idealize.ShloMosaic.TcCoe
open Idealize.ShloMosaic.Pipeline (Dat Cfg Window)
open Cert.Proof.Attn (score top ex prob scale row keys vals col kcol vcol chd cln col_chd chd_col cln_col ofBits_ninf)

/-- The attention's output: the probabilities of a head's tokens over the memory rows, times that head's values. -/
def spec (q : (⟨2, ![2048, 1024]⟩ : Shape).Idx → EReal) (kv : (⟨2, ![256, 2048]⟩ : Shape).Idx → EReal) : S2048x1024.Idx → EReal :=
  fun i => ∑ k, prob (score scale (row q (chd (i 1)) (i 0)) (keys kv (chd (i 1)))) k * vals kv (chd (i 1)) k (cln (i 1))

/-! ## The body at one grid point -/

theorem pay_at (x0 : Vec Ideal S512x256 .bf16) (x1 x2 : Vec Ideal S256x256 .bf16) (r : Fin 512) (d : Fin 256) :
    k0_pay1 (F := Ideal) x0 x1 x2 (ix2 r d)
      = ∑ k, prob (score scale (fun e => x0 (ix2 r e)) fun j e => x1 (ix2 j e)) k * x2 (ix2 k d) := by
  pointwise [k0_pay1, prob, ex, top, score]
  rw [ofBits_ninf]

theorem out_eq (x0 : Vec Ideal S512x256 .bf16) (x1 x2 : Vec Ideal S256x256 .bf16) :
    out0_3 x0 x1 x2 = k0_pay1 (F := Ideal) x0 x1 x2 := by
  unfold out0_3
  rw [View.canon_unit_zero (S := S512x256) off2, View.ld_unit_zero (S := S512x256) off2, View.ld_unit_zero (S := S256x256) off2,
    View.ld_unit_zero (S := S256x256) off2]

/-! ## The blocks -/

variable (m : (ℓ : Loc nD τ sig) → Buf (Elt Ideal) ℓ) (c : Dev nD)

/-- The queries and the memory rows as launched. -/
abbrev A0 : (⟨2, ![2048, 1024]⟩ : Shape).Idx → EReal := m ((c : Thread nD τ).loc main_arg0)
abbrev A1 : (⟨2, ![256, 2048]⟩ : Shape).Idx → EReal := m ((c : Thread nD τ).loc main_arg1)

/-- The head of a grid point, and the token of row `r` of its tile. -/
def hd (t : Fin cfg0.N) : Fin 4 := ⟨t.val / 4, by have : t.val < 16 := t.isLt; omega⟩
def tok (t : Fin cfg0.N) (r : Fin 512) : Fin 2048 := ⟨t.val % 4 * 512 + r.val, by omega⟩

theorem e0 : ∀ t : Fin cfg0.N, win0_0.index t 0 = t.val % 4 ∧ win0_0.index t 1 = t.val / 4 := by decide +kernel
theorem e1 : ∀ t : Fin cfg0.N, win0_1.index t 0 = 0 ∧ win0_1.index t 1 = t.val / 4 := by decide +kernel
theorem e2 : ∀ t : Fin cfg0.N, win0_2.index t 0 = 0 ∧ win0_2.index t 1 = 4 + t.val / 4 := by decide +kernel
theorem e3 : ∀ t : Fin cfg0.N, win0_3.index t 0 = t.val % 4 ∧ win0_3.index t 1 = t.val / 4 := by decide +kernel

theorem queries_at (t : Fin cfg0.N) (r : Fin 512) (d : Fin 256) : iblk m c 0 t (ix2 r d) = row (A0 m c) (hd t) (tok t r) d := by
  show V m c main_arg0 (((cfg0.win 0).blk t).view.emb (ix2 r d)) = _
  rw [V_main_arg0]
  refine congrArg (m ((c : Thread nD τ).loc main_arg0)) (funext fun a => Fin.ext ?_)
  fin_cases a
  · show win0_0.index t 0 * 512 + 1 * r.val = t.val % 4 * 512 + r.val
    rw [(e0 t).1, one_mul]
  · show win0_0.index t 1 * 256 + 1 * d.val = t.val / 4 * 256 + d.val
    rw [(e0 t).2, one_mul]

theorem keys_at (t : Fin cfg0.N) (k d : Fin 256) : iblk m c 1 t (ix2 k d) = keys (A1 m c) (hd t) k d := by
  show V m c main_arg1 (((cfg0.win 1).blk t).view.emb (ix2 k d)) = _
  rw [V_main_arg1]
  refine congrArg (m ((c : Thread nD τ).loc main_arg1)) (funext fun a => Fin.ext ?_)
  fin_cases a
  · show win0_1.index t 0 * 256 + 1 * k.val = k.val
    rw [(e1 t).1]; omega
  · show win0_1.index t 1 * 256 + 1 * d.val = t.val / 4 * 256 + d.val
    rw [(e1 t).2, one_mul]

theorem vals_at (t : Fin cfg0.N) (k d : Fin 256) : iblk m c 2 t (ix2 k d) = vals (A1 m c) (hd t) k d := by
  show V m c main_arg1 (((cfg0.win 2).blk t).view.emb (ix2 k d)) = _
  rw [V_main_arg1]
  refine congrArg (m ((c : Thread nD τ).loc main_arg1)) (funext fun a => Fin.ext ?_)
  fin_cases a
  · show win0_2.index t 0 * 256 + 1 * k.val = k.val
    rw [(e2 t).1]; omega
  · show win0_2.index t 1 * 256 + 1 * d.val = 1024 + (t.val / 4 * 256 + d.val)
    rw [(e2 t).2]; omega

theorem out_at (t : Fin cfg0.N) (r : Fin 512) (d : Fin 256) :
    out0_3 (F := Ideal) (iblk m c 0 t) (iblk m c 1 t) (iblk m c 2 t) (ix2 r d)
      = spec (A0 m c) (A1 m c) (ix2 (tok t r) (col (hd t) d)) := by
  rw [out_eq, pay_at]
  show _ = ∑ k, prob (score scale (row (A0 m c) (chd (col (hd t) d)) (tok t r)) (keys (A1 m c) (chd (col (hd t) d)))) k
    * vals (A1 m c) (chd (col (hd t) d)) k (cln (col (hd t) d))
  rw [chd_col, cln_col]
  refine Finset.sum_congr rfl fun k _ => congrArg₂ (· * ·) ?_ (vals_at m c t k d)
  exact congrArg (fun s => prob s k) (congrArg₂ (score scale) (funext fun e => queries_at m c t r e)
    (funext fun j => funext fun e => keys_at m c t j e))

/-- The array after the run. -/
theorem kernel_value : (dats m 0 c).arrAt 3 cfg0.N = spec (A0 m c) (A1 m c) := by
  refine (dats m 0 c).arrAt_eq_of_covers 3 _ (by decide +kernel) fun t hf y => ?_
  blk_simp
  rw [after0_3]
  revert y
  intro (y : S512x256.Idx)
  idx_vars y
  refine (out_at m c t y0 y1).trans (congrArg (spec (A0 m c) (A1 m c)) (funext fun a => Fin.ext ?_))
  fin_cases a
  · show t.val % 4 * 512 + y0.val = win0_3.index t 0 * 512 + 1 * y0.val
    rw [(e3 t).1]; omega
  · show t.val / 4 * 256 + y1.val = win0_3.index t 1 * 256 + 1 * y1.val
    rw [(e3 t).2]; omega

/-! ## The reference at an index -/

section Reference

open Cert.Reference42Ideal.Read

variable (x0 : (⟨Cert.Reference42Ideal.S2048x1024, .bf16⟩ : BufTy).Contents (Elt Ideal)) (x1 : (⟨Cert.Reference42Ideal.S256x2048, .bf16⟩ : BufTy).Contents (Elt Ideal))

theorem v4_at (a : Fin 1) (t : Fin 2048) (h : Fin 4) (d : Fin 256) :
    val_main_v4 (F := Ideal) x0 (ix4 a t h d) = row x0 h t d := by
  pointwise [val_main_v4, val_main_v0, row, col]

theorem v5_at (a : Fin 1) (t : Fin 256) (h : Fin 4) (d : Fin 256) :
    val_main_v5 (F := Ideal) x1 (ix4 a t h d) = keys x1 h t d := by
  pointwise [val_main_v5, val_main_v2, val_main_v1, keys, kcol]

theorem v6_at (a : Fin 1) (t : Fin 256) (h : Fin 4) (d : Fin 256) :
    val_main_v6 (F := Ideal) x1 (ix4 a t h d) = vals x1 h t d := by
  pointwise [val_main_v6, val_main_v3, val_main_v1, vals, vcol]

theorem v9_at (a : Fin 1) (t : Fin 2048) (h : Fin 4) (k : Fin 256) :
    val_main_v9 (F := Ideal) x0 x1 (ix4 a h t k) = score scale (row x0 h t) (keys x1 h) k := by
  pointwise [val_main_v9, val_main_v7, val_main_v8, val_main_cst, v4_at, v5_at, score]

theorem v12_at (a : Fin 1) (t : Fin 2048) (h : Fin 4) :
    val_main_v12 (F := Ideal) x0 x1 (ix3 a h t) = top (score scale (row x0 h t) (keys x1 h)) := by
  have e : val_main_v10 (F := Ideal) x0 x1 (ix3 a h t)
      = Finset.univ.fold max (Ideal.ofBits .f32 0xFF800000#32) (score scale (row x0 h t) (keys x1 h)) := by
    pointwise [val_main_v10, val_main_cst_0, v9_at]
  rw [val_main_v12_apply, e, val_main_v11_apply, val_main_cst_1_apply, Ideal.maximumf_def, Ideal.ofBits_def, ofBits_ninf,
    max_eq_right bot_le]
  rfl

theorem v16_at (a : Fin 1) (t : Fin 2048) (h : Fin 4) (k : Fin 256) :
    val_main_v16 (F := Ideal) x0 x1 (ix4 a h t k) = ex (score scale (row x0 h t) (keys x1 h)) k := by
  pointwise [val_main_v16, val_main_v15, val_main_v14, val_main_v13, v9_at, v12_at, ex]

theorem v20_at (a : Fin 1) (t : Fin 2048) (h : Fin 4) (k : Fin 256) :
    val_main_v20 (F := Ideal) x0 x1 (ix4 a h t k) = prob (score scale (row x0 h t) (keys x1 h)) k := by
  pointwise [val_main_v20, val_main_v19, val_main_v18, val_main_v17, val_main_cst_2, v16_at, prob]

theorem v24_at (t : Fin 2048) (h : Fin 4) (d : Fin 256) :
    val_main_v24 (F := Ideal) x0 x1 (ix2 t (col h d))
      = ∑ k, vals x1 h k d * prob (score scale (row x0 h t) (keys x1 h)) k := by
  pointwise [val_main_v24, val_main_v23, val_main_v22, val_main_v21, v20_at, v6_at, col]

theorem reference_value (i : Cert.Reference42Ideal.S2048x1024.Idx) : val_main_v24 (F := Ideal) x0 x1 i = spec x0 x1 i := by
  idx_vars i
  unfold spec
  show _ = ∑ k, prob (score scale (row x0 (chd i1) i0) (keys x1 (chd i1))) k * vals x1 (chd i1) k (cln i1)
  refine ((congrArg (val_main_v24 (F := Ideal) x0 x1) (congrArg (ix2 i0) (col_chd i1).symm)).trans (v24_at x0 x1 i0 (chd i1) (cln i1))).trans ?_
  exact Finset.sum_congr rfl fun k _ => mul_comm _ _

end Reference

theorem agree : algebraic_Kernel42Ideal_Reference42Ideal (hKernel42Ideal := Cert.Kernel42Ideal.Gen.facts) (hReference42Ideal := Cert.Reference42Ideal.Gen.facts) := by
  intro m g m' g' _ hagree
  refine ⟨fun c => spec (m (c.tc.loc main_arg0)) (m (c.tc.loc main_arg1)), ?_, ?_⟩
  · exact (θ_run _ _ _).mono (fun r h c => ⟨(h c).1.trans (kernel_value m c), (h c).2⟩) (Value.run_blocks (F := Ideal) m g)
  · refine (θ_run _ _ _).mono (fun r h c => ⟨(h c).1.trans ?_, (h c).2⟩) (Cert.Reference42Ideal.Value.run (F := Ideal) m' g')
    rw [(hagree c).1, (hagree c).2]
    exact funext fun i => reference_value _ _ i

end Cert.Proof.AttnFwd

end
-- ==== Proof.NormMath.lean ====
/-
  The norm of one row and its gradient, and sums over all the rows of an array.
-/
module

public import Idealize.ShloMosaic.Lib.Pointwise

@[expose] public section

noncomputable section

namespace Cert.Proof.Norm

open Idealize.ShloMosaic

/-- A row's mean square, with the norm's small constant added. -/
def ms (x : Fin 1024 → EReal) : EReal :=
  Ideal.div (∑ e, x e * x e) (Ideal.ofBits .f32 0x44800000#32) + Ideal.ofBits .f32 0x358637BD#32

/-- The factor the norm scales a row by. -/
def rs (x : Fin 1024 → EReal) : EReal := Ideal.rsqrt (ms x)

/-- The gradient of the norm in its row, for the gain `g` and the cotangent `d`. -/
def dxRow (x g d : Fin 1024 → EReal) (j : Fin 1024) : EReal :=
  d j * g j * rs x
    + x j * Ideal.div ((∑ e, x e * (d e * g e)) * (Ideal.ofBits .f32 0xBF000000#32 * Ideal.div (rs x) (ms x))) (Ideal.ofBits .f32 0x44800000#32)
    + Ideal.div ((∑ e, x e * (d e * g e)) * (Ideal.ofBits .f32 0xBF000000#32 * Ideal.div (rs x) (ms x))) (Ideal.ofBits .f32 0x44800000#32) * x j

/-- All the rows, tile by tile. -/
theorem sum_rows (b : ℕ) (f : ℕ → EReal) {N : ℕ} (g : Fin N → EReal) (h : ∀ t : Fin N, f t.val = g t) (k : ℕ) (hk : k * b = N) :
    ∑ i ∈ Finset.range (k * b), f i = ∑ t, g t := by
  rw [hk, Finset.sum_range]
  exact Finset.sum_congr rfl fun t _ => h t

end Cert.Proof.Norm

end
-- ==== Proof.NormBwd.lean ====
/-
  The norm's backward call: the gradient in the rows, a row at a time, and the gradient in the gain, summed over the eight
  tiles of rows.
-/
module

public import proofs.«01_k».proof.Defs
public import proofs.«01_k».proof.Proof.Tiles
public import proofs.«01_k».proof.Proof.NormMath
public import proofs.«01_k».proof.Proof.Gen.Kernel43Ideal.Value
public import proofs.«01_k».proof.Proof.Gen.Reference43Ideal.Run
public import proofs.«01_k».proof.Proof.Gen.Reference43Ideal.Read
public import Idealize.ShloMosaic.Lib.Pipeline.ValueKit
public import Idealize.ShloMosaic.Lib.Pointwise

@[expose] public section

noncomputable section

namespace Cert.Proof.NormBwd

open Idealize.ShloMosaic Idealize.SL.Sem Cert.Kernel43Ideal Cert.Kernel43Ideal.Gen
open Idealize.ShloMosaic.TcCoe
open Idealize.ShloMosaic.Pipeline (Dat Cfg Window)
open Cert.Proof.Norm (ms rs dxRow sum_rows)
/-! ## The body at one grid point -/

theorem pay1_at (j : Fin 1024) : k0_pay1 (F := Ideal) (ix2 0 j) = 0 := by
  pointwise [k0_pay1]

theorem pay2_at (x y : Vec Ideal S1x1024 .f32) (j : Fin 1024) : k0_pay2 (F := Ideal) x y (ix2 0 j) = y (ix2 0 j) + x (ix2 0 j) := by
  pointwise [k0_pay2]

theorem pay5_at (x dh : Vec Ideal S256x1024 .f32) (j : Fin 1024) :
    k0_pay5 (F := Ideal) x dh (ix2 0 j) = ∑ r, x (ix2 r j) * rs (fun e => x (ix2 r e)) * dh (ix2 r j) := by
  pointwise [k0_pay5, k0_pay4, k0_pay3, rs, ms]

theorem pay6_at (x : Vec Ideal S256x1024 .f32) (g : Vec Ideal S1x1024 .f32) (dh a : Vec Ideal S256x1024 .f32) (r : Fin 256) (j : Fin 1024) :
    k0_pay6 (F := Ideal) x g dh a (ix2 r j)
      = dxRow (fun e => x (ix2 r e)) (fun e => g (ix2 0 e)) (fun e => dh (ix2 r e)) j + a (ix2 r j) := by
  pointwise [k0_pay6, k0_pay4, k0_pay3, dxRow, rs, ms]
  simp only [Fin.sum_univ_one]

section Cases

variable (c : Dev nD) (i : grid0.Coords)
  (arg1 : Memref sig .tc .vmem S256x1024 .f32) (harg1 : arg1.IsWhole)
  (arg2 : Memref sig .tc .vmem S1x1024 .f32) (harg2 : arg2.IsWhole)
  (arg3 : Memref sig .tc .vmem S256x1024 .f32) (harg3 : arg3.IsWhole)
  (arg4 : Memref sig .tc .vmem S256x1024 .f32) (harg4 : arg4.IsWhole)
  (arg5 : Memref sig .tc .vmem S256x1024 .f32) (harg5 : arg5.IsWhole)
  (arg6 : Memref sig .tc .vmem S1x1024 .f32) (harg6 : arg6.IsWhole)
  (x0 : Vec Ideal S256x1024 .f32)
  (x1 : Vec Ideal S1x1024 .f32)
  (x2 : Vec Ideal S256x1024 .f32)
  (x3 : Vec Ideal S256x1024 .f32)
  (y5 : Vec Ideal S1x1024 .f32)

theorem out_A_4 (hc0 : cond0_0 i) :
    out0_A_4 c i arg1 harg1 arg2 harg2 arg3 harg3 arg4 harg4 arg5 harg5 arg6 harg6 hc0 x0 x1 x2 x3
      = k0_pay6 x0 x1 x2 x3 := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  try sl_unfold_words
  rw [View.canon_unit_zero off2]
  simp only [View.readAt_eq_ld, harg1.read_unread, harg2.read_unread, harg3.read_unread, harg4.read_unread, harg5.read_unread, harg6.read_unread,
    View.ld_unit_zero (S := S1x1024) off2, View.ld_unit_zero (S := S256x1024) off2, shapeCast_self]

theorem out_A_5 (hc0 : cond0_0 i) :
    out0_A_5 c i arg1 harg1 arg2 harg2 arg3 harg3 arg4 harg4 arg5 harg5 arg6 harg6 hc0 x0 x1 x2 x3
      = k0_pay2 (k0_pay5 x0 x2) (k0_pay1 (F := Ideal)) := by
  unfold out0_A_5
  rw [View.read_writes_eq_canon _ _ _ (cover0_A_5 c i arg1 harg1 arg2 harg2 arg3 harg3 arg4 harg4 arg5 harg5 arg6 harg6 hc0 x0 x1 x2 x3)]
  unfold kernelRun0_A
  dsimp only
  try sl_unfold_words
  rw [View.canon_cons_unit_zero (S := S1x1024) off2, View.readCov_unit_zero (S := S1x1024) _ off2]
  simp only [View.readAt_eq_ld, harg1.read_unread, harg2.read_unread, harg3.read_unread, harg4.read_unread, harg5.read_unread, harg6.read_unread,
    View.ld_unit_zero (S := S1x1024) off2, View.ld_unit_zero (S := S256x1024) off2, shapeCast_self]

theorem out_B_4 (hc0 : ¬cond0_0 i) :
    out0_B_4 c i arg1 harg1 arg2 harg2 arg3 harg3 arg4 harg4 arg5 harg5 arg6 harg6 hc0 x0 x1 x2 x3 y5
      = k0_pay6 x0 x1 x2 x3 := by
  unfold out0_B_4
  rw [View.read_writes_eq_canon _ _ _ (cover0_B_4 c i arg1 harg1 arg2 harg2 arg3 harg3 arg4 harg4 arg5 harg5 arg6 harg6 hc0 x0 x1 x2 x3 y5)]
  unfold kernelRun0_B
  dsimp only
  try sl_unfold_words
  rw [View.canon_unit_zero off2]
  simp only [View.readAt_eq_ld, harg1.read_unread, harg2.read_unread, harg3.read_unread, harg4.read_unread, harg5.read_unread, harg6.read_unread,
    View.ld_unit_zero (S := S1x1024) off2, View.ld_unit_zero (S := S256x1024) off2, shapeCast_self]

theorem out_B_5 (hc0 : ¬cond0_0 i) :
    out0_B_5 c i arg1 harg1 arg2 harg2 arg3 harg3 arg4 harg4 arg5 harg5 arg6 harg6 hc0 x0 x1 x2 x3 y5
      = k0_pay2 (k0_pay5 x0 x2) y5 := by
  unfold out0_B_5
  rw [View.read_writes_eq_canon _ _ _ (cover0_B_5 c i arg1 harg1 arg2 harg2 arg3 harg3 arg4 harg4 arg5 harg5 arg6 harg6 hc0 x0 x1 x2 x3 y5)]
  unfold kernelRun0_B
  dsimp only
  try sl_unfold_words
  rw [View.canon_unit_zero off2]
  simp only [View.readAt_eq_ld, harg1.read_unread, harg2.read_unread, harg3.read_unread, harg4.read_unread, harg5.read_unread, harg6.read_unread,
    View.ld_unit_zero (S := S1x1024) off2, View.ld_unit_zero (S := S256x1024) off2, shapeCast_self]

end Cases

/-! ## The blocks -/

variable (m : (ℓ : Loc nD τ sig) → Buf (Elt Ideal) ℓ) (c : Dev nD)

/-- The arguments as launched. -/
abbrev A0 : (⟨2, ![2048, 1024]⟩ : Shape).Idx → EReal := m ((c : Thread nD τ).loc main_arg0)
abbrev A1 : (⟨2, ![1, 1024]⟩ : Shape).Idx → EReal := m ((c : Thread nD τ).loc main_arg1)
abbrev A2 : (⟨2, ![2048, 1024]⟩ : Shape).Idx → EReal := m ((c : Thread nD τ).loc main_arg2)
abbrev A3 : (⟨2, ![2048, 1024]⟩ : Shape).Idx → EReal := m ((c : Thread nD τ).loc main_arg3)

theorem e0 : ∀ t : Fin cfg0.N, win0_0.index t 0 = t.val ∧ win0_0.index t 1 = 0 := by decide +kernel
theorem e1 : ∀ t : Fin cfg0.N, win0_1.index t 0 = 0 ∧ win0_1.index t 1 = 0 := by decide +kernel
theorem e2 : ∀ t : Fin cfg0.N, win0_2.index t 0 = t.val ∧ win0_2.index t 1 = 0 := by decide +kernel
theorem e3 : ∀ t : Fin cfg0.N, win0_3.index t 0 = t.val ∧ win0_3.index t 1 = 0 := by decide +kernel
theorem e4 : ∀ t : Fin cfg0.N, win0_4.index t 0 = t.val ∧ win0_4.index t 1 = 0 := by decide +kernel
theorem e5 : ∀ t : Fin cfg0.N, win0_5.index t 0 = 0 ∧ win0_5.index t 1 = 0 := by decide +kernel

/-- The token of row `r` of a grid point's tile. -/
def tok (t : Fin cfg0.N) (r : Fin 256) : Fin 2048 := ⟨t.val * 256 + r.val, by have : t.val < 8 := t.isLt; omega⟩

theorem blk0_at (t : Fin cfg0.N) (r : Fin 256) (d : Fin 1024) : iblk m c 0 t (ix2 r d) = A0 m c (ix2 (tok t r) d) := by
  show V m c main_arg0 (((cfg0.win 0).blk t).view.emb (ix2 r d)) = _
  rw [V_main_arg0]
  refine congrArg (m ((c : Thread nD τ).loc main_arg0)) (funext fun a => Fin.ext ?_)
  fin_cases a
  · show win0_0.index t 0 * 256 + 1 * r.val = t.val * 256 + r.val
    rw [(e0 t).1]; omega
  · show win0_0.index t 1 * 1024 + 1 * d.val = d.val
    rw [(e0 t).2]; omega

theorem blk2_at (t : Fin cfg0.N) (r : Fin 256) (d : Fin 1024) : iblk m c 2 t (ix2 r d) = A2 m c (ix2 (tok t r) d) := by
  show V m c main_arg2 (((cfg0.win 2).blk t).view.emb (ix2 r d)) = _
  rw [V_main_arg2]
  refine congrArg (m ((c : Thread nD τ).loc main_arg2)) (funext fun a => Fin.ext ?_)
  fin_cases a
  · show win0_2.index t 0 * 256 + 1 * r.val = t.val * 256 + r.val
    rw [(e2 t).1]; omega
  · show win0_2.index t 1 * 1024 + 1 * d.val = d.val
    rw [(e2 t).2]; omega

theorem blk3_at (t : Fin cfg0.N) (r : Fin 256) (d : Fin 1024) : iblk m c 3 t (ix2 r d) = A3 m c (ix2 (tok t r) d) := by
  show V m c main_arg3 (((cfg0.win 3).blk t).view.emb (ix2 r d)) = _
  rw [V_main_arg3]
  refine congrArg (m ((c : Thread nD τ).loc main_arg3)) (funext fun a => Fin.ext ?_)
  fin_cases a
  · show win0_3.index t 0 * 256 + 1 * r.val = t.val * 256 + r.val
    rw [(e3 t).1]; omega
  · show win0_3.index t 1 * 1024 + 1 * d.val = d.val
    rw [(e3 t).2]; omega

theorem blk1_at (t : Fin cfg0.N) (r : Fin 1) (d : Fin 1024) : iblk m c 1 t (ix2 r d) = A1 m c (ix2 0 d) := by
  show V m c main_arg1 (((cfg0.win 1).blk t).view.emb (ix2 r d)) = _
  rw [V_main_arg1]
  refine congrArg (m ((c : Thread nD τ).loc main_arg1)) (funext fun a => Fin.ext ?_)
  fin_cases a
  · show win0_1.index t 0 * 1 + 1 * r.val = 0
    rw [(e1 t).1]; omega
  · show win0_1.index t 1 * 1024 + 1 * d.val = d.val
    rw [(e1 t).2]; omega

/-- The gradient in the rows, with the residual stream's added. -/
def dx (x : S2048x1024.Idx → EReal) (g : S1x1024.Idx → EReal) (dh a : S2048x1024.Idx → EReal) : S2048x1024.Idx → EReal := fun i =>
  dxRow (fun e => x (ix2 (i 0) e)) (fun e => g (ix2 0 e)) (fun e => dh (ix2 (i 0) e)) (i 1) + a (ix2 (i 0) (i 1))

/-- A row's contribution to the gradient in the gain. -/
def dgTerm (x dh : S2048x1024.Idx → EReal) (j : Fin 1024) (t : Fin 2048) : EReal :=
  x (ix2 t j) * rs (fun e => x (ix2 t e)) * dh (ix2 t j)

/-- The gradient in the gain. -/
def dg (x dh : S2048x1024.Idx → EReal) : S1x1024.Idx → EReal := fun i => ∑ t, dgTerm x dh (i 1) t

/-- A row's contribution, by the row's number. -/
def term (j : Fin 1024) (n : ℕ) : EReal := if hn : n < 2048 then dgTerm (A0 m c) (A2 m c) j ⟨n, hn⟩ else 0

theorem add5 (t : Fin cfg0.N) (y : Vec Ideal S1x1024 .f32) (j : Fin 1024) :
    k0_pay2 (F := Ideal) (k0_pay5 (iblk m c 0 t) (iblk m c 2 t)) y (ix2 0 j)
      = y (ix2 0 j) + ∑ r ∈ Finset.range 256, term m c j (t.val * 256 + r) := by
  rw [pay2_at, pay5_at, Finset.sum_range]
  refine congrArg (y (ix2 0 j) + ·) (Finset.sum_congr rfl fun r _ => ?_)
  have hr : t.val * 256 + r.val < 2048 := (tok t r).isLt
  rw [term, dif_pos hr]
  simp only [blk0_at, blk2_at]
  rfl

theorem acc_at (n : ℕ) : ∀ t : Fin cfg0.N, t.val = n → ∀ j : Fin 1024,
    (outsAt0 m c t.val t.isLt).2 (ix2 0 j) = ∑ i ∈ Finset.range ((t.val + 1) * 256), term m c j i := by
  induction n with
  | zero =>
    intro t ht j
    rw [outsAt0_A m c t (by omega)]
    dsimp only
    rw [out_A_5, add5, pay1_at, sum_tile, ht]
    simp
  | succ n ih =>
    intro t ht j
    have ht8 : t.val < 8 := t.isLt
    have hp : t.val - 1 < cfg0.N := Nat.lt_of_le_of_lt (Nat.sub_le _ _) t.isLt
    have hI := ih ⟨t.val - 1, hp⟩ (by show t.val - 1 = n; omega) j
    have hm : t.val - 1 + 1 = t.val := by omega
    dsimp only at hI
    rw [hm] at hI
    rw [outsAt0_B m c t (by omega)]
    dsimp only
    rw [out_B_5, add5, sum_tile, hI]

theorem dx_at (t : Fin cfg0.N) (r : Fin 256) (j : Fin 1024) :
    (outsAt0 m c t.val t.isLt).1 (ix2 r j) = dx (A0 m c) (A1 m c) (A2 m c) (A3 m c) (ix2 (tok t r) j) := by
  have e : (outsAt0 m c t.val t.isLt).1 = k0_pay6 (F := Ideal) (iblk m c 0 t) (iblk m c 1 t) (iblk m c 2 t) (iblk m c 3 t) := by
    by_cases h0 : t.val % 8 = 0
    · rw [outsAt0_A m c t h0]
      dsimp only
      rw [out_A_4]
    · rw [outsAt0_B m c t h0]
      dsimp only
      rw [out_B_4]
  rw [e, pay6_at]
  simp only [blk0_at, blk1_at, blk2_at, blk3_at]
  rfl

/-! ## The arrays after the run -/

theorem final_dx : (dats m 0 c).arrAt 4 cfg0.N = dx (A0 m c) (A1 m c) (A2 m c) (A3 m c) := by
  refine (dats m 0 c).arrAt_eq_of_covers 4 _ (by decide +kernel) fun t hf y => ?_
  blk_simp
  rw [after0_4]
  revert y
  intro (y : S256x1024.Idx)
  idx_vars y
  refine (dx_at m c t y0 y1).trans (congrArg (dx (A0 m c) (A1 m c) (A2 m c) (A3 m c)) (funext fun a => Fin.ext ?_))
  fin_cases a
  · show t.val * 256 + y0.val = win0_4.index t 0 * 256 + 1 * y0.val
    rw [(e4 t).1]; omega
  · show y1.val = win0_4.index t 1 * 1024 + 1 * y1.val
    rw [(e4 t).2]; omega

theorem final_dg : (dats m 0 c).arrAt 5 cfg0.N = dg (A0 m c) (A2 m c) := by
  refine (dats m 0 c).arrAt_eq_of_covers 5 _ (by decide +kernel) fun t hf y => ?_
  have h7 : t.val = 7 := by have := (flush0_5 t).mp hf; have : t.val < 8 := t.isLt; omega
  blk_simp
  rw [after0_5]
  revert y
  intro (y : S1x1024.Idx)
  idx_vars y
  obtain rfl : y0 = 0 := Subsingleton.elim _ _
  rw [acc_at m c t.val t rfl y1]
  have h1 : ((cfg0.win 5).blk t).view.emb (ix2 0 y1) 1 = y1 := Fin.ext (by
    show win0_5.index t 1 * 1024 + 1 * y1.val = y1.val
    rw [(e5 t).2]; omega)
  refine (sum_rows 256 _ (dgTerm (A0 m c) (A2 m c) y1) (fun s => ?_) _ (by omega)).trans ?_
  · rw [term, dif_pos s.isLt]
  · show _ = ∑ s, dgTerm (A0 m c) (A2 m c) (((cfg0.win 5).blk t).view.emb (ix2 0 y1) 1) s
    rw [h1]

/-! ## The reference -/

section Reference

open Cert.Reference43Ideal.Read

variable (x0 : (⟨Cert.Reference43Ideal.S2048x1024, .f32⟩ : BufTy).Contents (Elt Ideal)) (x1 : (⟨Cert.Reference43Ideal.S1x1024, .f32⟩ : BufTy).Contents (Elt Ideal))
  (x2 x3 : (⟨Cert.Reference43Ideal.S2048x1024, .f32⟩ : BufTy).Contents (Elt Ideal))

theorem v6_at (t : Fin 2048) : val_main_v6 (F := Ideal) x0 (ix2 t 0) = ms fun e => x0 (ix2 t e) := by
  pointwise [val_main_v6, val_main_v5, val_main_v4, val_main_v3, val_main_v2, val_main_v1, val_main_v0, val_main_cst, val_main_cst_0, val_main_cst_1, ms]

theorem v7_at (t : Fin 2048) : val_main_v7 (F := Ideal) x0 (ix2 t 0) = rs fun e => x0 (ix2 t e) := by
  pointwise [val_main_v7, rs]
  rw [v6_at]

theorem v34_at (i : S2048x1024.Idx) : val_main_v34 (F := Ideal) x0 x1 x2 x3 i = dx x0 x1 x2 x3 i := by
  idx_vars i
  pointwise [val_main_v34, val_main_v33, val_main_v32, val_main_v31, val_main_v30, val_main_v29, val_main_v28, val_main_v27, val_main_v26, val_main_v25,
    val_main_v24, val_main_v23, val_main_v22, val_main_v21, val_main_v20, val_main_v19, val_main_v18, val_main_v10, val_main_v9, val_main_v8, val_main_cst_2,
    val_main_cst_4, val_main_cst_5, val_main_cst_6, dx, dxRow]
  simp only [v6_at, v7_at, Fin.sum_univ_one]

theorem v17_at (i : S1x1024.Idx) : val_main_v17 (F := Ideal) x0 x2 i = dg x0 x2 i := by
  idx_vars i
  pointwise [val_main_v17, val_main_v16, val_main_v15, val_main_v12, val_main_v11, val_main_cst_3, dg, dgTerm]
  simp only [v7_at]

end Reference

theorem agree : algebraic_Kernel43Ideal_Reference43Ideal (hKernel43Ideal := Cert.Kernel43Ideal.Gen.facts)
    (hReference43Ideal := Cert.Reference43Ideal.Gen.facts) := by
  intro m g m' g' _ ha
  refine ⟨fun c => dx (A0 m c) (A1 m c) (A2 m c) (A3 m c), fun c => dg (A0 m c) (A2 m c),
    (θ_run _ _ _).mono (fun r h c => ⟨(h c).1.trans (final_dx m c), (h c).2.1.trans (final_dg m c), (h c).2.2⟩) (Cert.Kernel43Ideal.Value.run_blocks m g),
    (θ_run _ _ _).mono (fun r h c => ?_) (Cert.Reference43Ideal.Value.run m' g')⟩
  obtain ⟨e0, e1, e2, e3⟩ := ha c
  refine ⟨(h c).1.trans ?_, (h c).2.1.trans ?_, (h c).2.2⟩
  · rw [Cert.Reference43Ideal.Read.val_main_v34_eq, e0, e1, e2, e3]
    exact funext fun i => v34_at _ _ _ _ i
  · rw [e0, e2]
    exact (Cert.Reference43Ideal.Read.val_main_v17_eq _ _).trans (funext fun i => v17_at _ _ i)

end Cert.Proof.NormBwd

end
-- ==== Proof.NormFwd.lean ====
/-
  The norm's forward call, rounded to bfloat16: each row scaled by its factor and by the gain.
-/
module

public import proofs.«01_k».proof.Defs
public import proofs.«01_k».proof.Proof.Tiles
public import proofs.«01_k».proof.Proof.NormMath
public import proofs.«01_k».proof.Proof.Gen.Kernel44Ideal.Value
public import proofs.«01_k».proof.Proof.Gen.Reference44Ideal.Run
public import proofs.«01_k».proof.Proof.Gen.Reference44Ideal.Read
public import Idealize.ShloMosaic.Lib.Pipeline.ValueKit
public import Idealize.ShloMosaic.Lib.Pointwise

@[expose] public section

noncomputable section

namespace Cert.Proof.NormFwd

open Idealize.ShloMosaic Idealize.SL.Sem Cert.Kernel44Ideal Cert.Kernel44Ideal.Gen
open Idealize.ShloMosaic.TcCoe
open Idealize.ShloMosaic.Pipeline (Dat Cfg Window)
open Cert.Proof.Norm (ms rs)
/-- The norm. -/
def spec (x : S2048x1024.Idx → EReal) (g : S1x1024.Idx → EReal) : S2048x1024.Idx → EReal := fun i =>
  x (ix2 (i 0) (i 1)) * rs (fun e => x (ix2 (i 0) e)) * g (ix2 0 (i 1))

theorem pay_at (x : Vec Ideal S512x1024 .f32) (g : Vec Ideal S1x1024 .f32) (r : Fin 512) (j : Fin 1024) :
    k0_pay1 (F := Ideal) x g (ix2 r j) = x (ix2 r j) * rs (fun e => x (ix2 r e)) * g (ix2 0 j) := by
  pointwise [k0_pay1, rs, ms]

theorem out_eq (x : Vec Ideal S512x1024 .f32) (g : Vec Ideal S1x1024 .f32) : out0_2 x g = k0_pay1 (F := Ideal) x g := by
  unfold out0_2
  rw [View.canon_unit_zero (S := S512x1024) off2, View.ld_unit_zero (S := S512x1024) off2, View.ld_unit_zero (S := S1x1024) off2]

/-! ## The blocks -/

variable (m : (ℓ : Loc nD τ sig) → Buf (Elt Ideal) ℓ) (c : Dev nD)

/-- The arguments as launched. -/
abbrev A0 : (⟨2, ![2048, 1024]⟩ : Shape).Idx → EReal := m ((c : Thread nD τ).loc main_arg0)
abbrev A1 : (⟨2, ![1, 1024]⟩ : Shape).Idx → EReal := m ((c : Thread nD τ).loc main_arg1)

theorem e0 : ∀ t : Fin cfg0.N, win0_0.index t 0 = t.val ∧ win0_0.index t 1 = 0 := by decide +kernel
theorem e1 : ∀ t : Fin cfg0.N, win0_1.index t 0 = 0 ∧ win0_1.index t 1 = 0 := by decide +kernel
theorem e2 : ∀ t : Fin cfg0.N, win0_2.index t 0 = t.val ∧ win0_2.index t 1 = 0 := by decide +kernel

/-- The token of row `r` of a grid point's tile. -/
def tok (t : Fin cfg0.N) (r : Fin 512) : Fin 2048 := ⟨t.val * 512 + r.val, by have : t.val < 4 := t.isLt; omega⟩

theorem blk0_at (t : Fin cfg0.N) (r : Fin 512) (d : Fin 1024) : iblk m c 0 t (ix2 r d) = A0 m c (ix2 (tok t r) d) := by
  show V m c main_arg0 (((cfg0.win 0).blk t).view.emb (ix2 r d)) = _
  rw [V_main_arg0]
  refine congrArg (m ((c : Thread nD τ).loc main_arg0)) (funext fun a => Fin.ext ?_)
  fin_cases a
  · show win0_0.index t 0 * 512 + 1 * r.val = t.val * 512 + r.val
    rw [(e0 t).1]; omega
  · show win0_0.index t 1 * 1024 + 1 * d.val = d.val
    rw [(e0 t).2]; omega

theorem blk1_at (t : Fin cfg0.N) (r : Fin 1) (d : Fin 1024) : iblk m c 1 t (ix2 r d) = A1 m c (ix2 0 d) := by
  show V m c main_arg1 (((cfg0.win 1).blk t).view.emb (ix2 r d)) = _
  rw [V_main_arg1]
  refine congrArg (m ((c : Thread nD τ).loc main_arg1)) (funext fun a => Fin.ext ?_)
  fin_cases a
  · show win0_1.index t 0 * 1 + 1 * r.val = 0
    rw [(e1 t).1]; omega
  · show win0_1.index t 1 * 1024 + 1 * d.val = d.val
    rw [(e1 t).2]; omega

theorem out_at (t : Fin cfg0.N) (r : Fin 512) (j : Fin 1024) :
    out0_2 (F := Ideal) (iblk m c 0 t) (iblk m c 1 t) (ix2 r j) = spec (A0 m c) (A1 m c) (ix2 (tok t r) j) := by
  rw [out_eq, pay_at]
  simp only [blk0_at, blk1_at]
  rfl

/-- The array after the run. -/
theorem kernel_value : (dats m 0 c).arrAt 2 cfg0.N = spec (A0 m c) (A1 m c) := by
  refine (dats m 0 c).arrAt_eq_of_covers 2 _ (by decide +kernel) fun t hf y => ?_
  blk_simp
  rw [after0_2]
  revert y
  intro (y : S512x1024.Idx)
  idx_vars y
  refine (out_at m c t y0 y1).trans (congrArg (spec (A0 m c) (A1 m c)) (funext fun a => Fin.ext ?_))
  fin_cases a
  · show t.val * 512 + y0.val = win0_2.index t 0 * 512 + 1 * y0.val
    rw [(e2 t).1]; omega
  · show y1.val = win0_2.index t 1 * 1024 + 1 * y1.val
    rw [(e2 t).2]; omega

/-! ## The reference -/

section Reference

open Cert.Reference44Ideal.Read

variable (x0 : (⟨Cert.Reference44Ideal.S2048x1024, .f32⟩ : BufTy).Contents (Elt Ideal)) (x1 : (⟨Cert.Reference44Ideal.S1x1024, .f32⟩ : BufTy).Contents (Elt Ideal))

theorem v7_at (t : Fin 2048) : val_main_v7 (F := Ideal) x0 (ix2 t 0) = rs fun e => x0 (ix2 t e) := by
  pointwise [val_main_v7, val_main_v6, val_main_v5, val_main_v4, val_main_v3, val_main_v2, val_main_v1, val_main_v0, val_main_cst, val_main_cst_0,
    val_main_cst_1, rs, ms]

theorem reference_value (i : S2048x1024.Idx) : val_main_v12 (F := Ideal) x0 x1 i = spec x0 x1 i := by
  idx_vars i
  pointwise [val_main_v12, val_main_v11, val_main_v10, val_main_v9, val_main_v8, spec]
  rw [v7_at]

end Reference

theorem agree : algebraic_Kernel44Ideal_Reference44Ideal (hKernel44Ideal := Cert.Kernel44Ideal.Gen.facts)
    (hReference44Ideal := Cert.Reference44Ideal.Gen.facts) := by
  intro m g m' g' _ ha
  refine ⟨fun c => spec (A0 m c) (A1 m c),
    (θ_run _ _ _).mono (fun r h c => ⟨(h c).1.trans (kernel_value m c), (h c).2⟩) (Cert.Kernel44Ideal.Value.run_blocks m g),
    (θ_run _ _ _).mono (fun r h c => ?_) (Cert.Reference44Ideal.Value.run m' g')⟩
  refine ⟨(h c).1.trans ?_, (h c).2⟩
  rw [(ha c).1, (ha c).2]
  exact (Cert.Reference44Ideal.Read.val_main_v12_eq _ _).trans (funext fun i => reference_value _ _ i)

end Cert.Proof.NormFwd

end
-- ==== Proof.NormFwd32.lean ====
/-
  The norm's forward call: each row scaled by its factor and by the gain.
-/
module

public import proofs.«01_k».proof.Defs
public import proofs.«01_k».proof.Proof.Tiles
public import proofs.«01_k».proof.Proof.NormMath
public import proofs.«01_k».proof.Proof.Gen.Kernel45Ideal.Value
public import proofs.«01_k».proof.Proof.Gen.Reference45Ideal.Run
public import proofs.«01_k».proof.Proof.Gen.Reference45Ideal.Read
public import Idealize.ShloMosaic.Lib.Pipeline.ValueKit
public import Idealize.ShloMosaic.Lib.Pointwise

@[expose] public section

noncomputable section

namespace Cert.Proof.NormFwd32

open Idealize.ShloMosaic Idealize.SL.Sem Cert.Kernel45Ideal Cert.Kernel45Ideal.Gen
open Idealize.ShloMosaic.TcCoe
open Idealize.ShloMosaic.Pipeline (Dat Cfg Window)
open Cert.Proof.Norm (ms rs)
/-- The norm. -/
def spec (x : S2048x1024.Idx → EReal) (g : S1x1024.Idx → EReal) : S2048x1024.Idx → EReal := fun i =>
  x (ix2 (i 0) (i 1)) * rs (fun e => x (ix2 (i 0) e)) * g (ix2 0 (i 1))

theorem pay_at (x : Vec Ideal S512x1024 .f32) (g : Vec Ideal S1x1024 .f32) (r : Fin 512) (j : Fin 1024) :
    k0_pay1 (F := Ideal) x g (ix2 r j) = x (ix2 r j) * rs (fun e => x (ix2 r e)) * g (ix2 0 j) := by
  pointwise [k0_pay1, rs, ms]

theorem out_eq (x : Vec Ideal S512x1024 .f32) (g : Vec Ideal S1x1024 .f32) : out0_2 x g = k0_pay1 (F := Ideal) x g := by
  unfold out0_2
  rw [View.canon_unit_zero (S := S512x1024) off2, View.ld_unit_zero (S := S512x1024) off2, View.ld_unit_zero (S := S1x1024) off2]

/-! ## The blocks -/

variable (m : (ℓ : Loc nD τ sig) → Buf (Elt Ideal) ℓ) (c : Dev nD)

/-- The arguments as launched. -/
abbrev A0 : (⟨2, ![2048, 1024]⟩ : Shape).Idx → EReal := m ((c : Thread nD τ).loc main_arg0)
abbrev A1 : (⟨2, ![1, 1024]⟩ : Shape).Idx → EReal := m ((c : Thread nD τ).loc main_arg1)

theorem e0 : ∀ t : Fin cfg0.N, win0_0.index t 0 = t.val ∧ win0_0.index t 1 = 0 := by decide +kernel
theorem e1 : ∀ t : Fin cfg0.N, win0_1.index t 0 = 0 ∧ win0_1.index t 1 = 0 := by decide +kernel
theorem e2 : ∀ t : Fin cfg0.N, win0_2.index t 0 = t.val ∧ win0_2.index t 1 = 0 := by decide +kernel

/-- The token of row `r` of a grid point's tile. -/
def tok (t : Fin cfg0.N) (r : Fin 512) : Fin 2048 := ⟨t.val * 512 + r.val, by have : t.val < 4 := t.isLt; omega⟩

theorem blk0_at (t : Fin cfg0.N) (r : Fin 512) (d : Fin 1024) : iblk m c 0 t (ix2 r d) = A0 m c (ix2 (tok t r) d) := by
  show V m c main_arg0 (((cfg0.win 0).blk t).view.emb (ix2 r d)) = _
  rw [V_main_arg0]
  refine congrArg (m ((c : Thread nD τ).loc main_arg0)) (funext fun a => Fin.ext ?_)
  fin_cases a
  · show win0_0.index t 0 * 512 + 1 * r.val = t.val * 512 + r.val
    rw [(e0 t).1]; omega
  · show win0_0.index t 1 * 1024 + 1 * d.val = d.val
    rw [(e0 t).2]; omega

theorem blk1_at (t : Fin cfg0.N) (r : Fin 1) (d : Fin 1024) : iblk m c 1 t (ix2 r d) = A1 m c (ix2 0 d) := by
  show V m c main_arg1 (((cfg0.win 1).blk t).view.emb (ix2 r d)) = _
  rw [V_main_arg1]
  refine congrArg (m ((c : Thread nD τ).loc main_arg1)) (funext fun a => Fin.ext ?_)
  fin_cases a
  · show win0_1.index t 0 * 1 + 1 * r.val = 0
    rw [(e1 t).1]; omega
  · show win0_1.index t 1 * 1024 + 1 * d.val = d.val
    rw [(e1 t).2]; omega

theorem out_at (t : Fin cfg0.N) (r : Fin 512) (j : Fin 1024) :
    out0_2 (F := Ideal) (iblk m c 0 t) (iblk m c 1 t) (ix2 r j) = spec (A0 m c) (A1 m c) (ix2 (tok t r) j) := by
  rw [out_eq, pay_at]
  simp only [blk0_at, blk1_at]
  rfl

/-- The array after the run. -/
theorem kernel_value : (dats m 0 c).arrAt 2 cfg0.N = spec (A0 m c) (A1 m c) := by
  refine (dats m 0 c).arrAt_eq_of_covers 2 _ (by decide +kernel) fun t hf y => ?_
  blk_simp
  rw [after0_2]
  revert y
  intro (y : S512x1024.Idx)
  idx_vars y
  refine (out_at m c t y0 y1).trans (congrArg (spec (A0 m c) (A1 m c)) (funext fun a => Fin.ext ?_))
  fin_cases a
  · show t.val * 512 + y0.val = win0_2.index t 0 * 512 + 1 * y0.val
    rw [(e2 t).1]; omega
  · show y1.val = win0_2.index t 1 * 1024 + 1 * y1.val
    rw [(e2 t).2]; omega

/-! ## The reference -/

section Reference

open Cert.Reference45Ideal.Read

variable (x0 : (⟨Cert.Reference45Ideal.S2048x1024, .f32⟩ : BufTy).Contents (Elt Ideal)) (x1 : (⟨Cert.Reference45Ideal.S1x1024, .f32⟩ : BufTy).Contents (Elt Ideal))

theorem v7_at (t : Fin 2048) : val_main_v7 (F := Ideal) x0 (ix2 t 0) = rs fun e => x0 (ix2 t e) := by
  pointwise [val_main_v7, val_main_v6, val_main_v5, val_main_v4, val_main_v3, val_main_v2, val_main_v1, val_main_v0, val_main_cst, val_main_cst_0,
    val_main_cst_1, rs, ms]

theorem reference_value (i : S2048x1024.Idx) : val_main_v11 (F := Ideal) x0 x1 i = spec x0 x1 i := by
  idx_vars i
  pointwise [val_main_v11, val_main_v10, val_main_v9, val_main_v8, spec]
  rw [v7_at]

end Reference

theorem agree : algebraic_Kernel45Ideal_Reference45Ideal (hKernel45Ideal := Cert.Kernel45Ideal.Gen.facts)
    (hReference45Ideal := Cert.Reference45Ideal.Gen.facts) := by
  intro m g m' g' _ ha
  refine ⟨fun c => spec (A0 m c) (A1 m c),
    (θ_run _ _ _).mono (fun r h c => ⟨(h c).1.trans (kernel_value m c), (h c).2⟩) (Cert.Kernel45Ideal.Value.run_blocks m g),
    (θ_run _ _ _).mono (fun r h c => ?_) (Cert.Reference45Ideal.Value.run m' g')⟩
  refine ⟨(h c).1.trans ?_, (h c).2⟩
  rw [(ha c).1, (ha c).2]
  exact (Cert.Reference45Ideal.Read.val_main_v11_eq _ _).trans (funext fun i => reference_value _ _ i)

end Cert.Proof.NormFwd32

end
-- ==== Proof.LossHead.lean ====
/-
  The final norm, the loss and their gradients: the gradient in the rows, a row at a time; the gradient in the gain and the loss
  itself, summed over the eight tiles of rows.
-/
module

public import proofs.«01_k».proof.Defs
public import proofs.«01_k».proof.Proof.Tiles
public import proofs.«01_k».proof.Proof.NormMath
public import proofs.«01_k».proof.Proof.Gen.Kernel46Ideal.Value
public import proofs.«01_k».proof.Proof.Gen.Reference46Ideal.Run
public import proofs.«01_k».proof.Proof.Gen.Reference46Ideal.Read
public import Idealize.ShloMosaic.Lib.Pipeline.ValueKit
public import Idealize.ShloMosaic.Lib.Pointwise

@[expose] public section

noncomputable section

namespace Cert.Proof.LossHead

open Idealize.ShloMosaic Idealize.SL.Sem Cert.Kernel46Ideal Cert.Kernel46Ideal.Gen
open Idealize.ShloMosaic.TcCoe
open Idealize.ShloMosaic.Pipeline (Dat Cfg Window)
open Cert.Proof.Norm (ms rs dxRow sum_rows)
/-! ## One row -/

abbrev half : EReal := Ideal.ofBits .f32 0x3F000000#32
abbrev width : EReal := Ideal.ofBits .f32 0x44800000#32

theorem half_eq : half = ((1 / 2 : ℝ) : EReal) := by
  have : half = (((8388608 : ℝ) * (2 ^ 24 : ℝ)⁻¹ : ℝ) : EReal) := by simp [half, Ideal.ofBits, Ideal.ieee]
  rw [this]
  norm_num

theorem two_eq : Ideal.ofBits .f32 0x40000000#32 = ((2 : ℝ) : EReal) := by
  have : Ideal.ofBits .f32 0x40000000#32 = (((8388608 : ℝ) * (2 ^ 22 : ℝ)⁻¹ : ℝ) : EReal) := by simp [Ideal.ofBits, Ideal.ieee]
  rw [this]
  norm_num

theorem width_eq : width = ((1024 : ℝ) : EReal) := by
  have : width = (((8388608 : ℝ) * (2 ^ 13 : ℝ)⁻¹ : ℝ) : EReal) := by simp [width, Ideal.ofBits, Ideal.ieee]
  rw [this]
  norm_num

/-- How much a unit of a row's squared error adds to the loss. -/
def share : EReal := Ideal.div (half * Ideal.ofBits .f32 0x3F800000#32) width

theorem share_eq : share = ((1 / 2048 : ℝ) : EReal) := by
  rw [share, Ideal.ofBits_one_f32, mul_one, half_eq, width_eq]
  have h0 : ((1024 : ℝ) : EReal) ≠ 0 := by norm_num
  rw [Ideal.div, if_neg h0, ← EReal.coe_inv, ← EReal.coe_mul]
  norm_num

/-- The normed row less its target. -/
def err (x tg g : Fin 1024 → EReal) (j : Fin 1024) : EReal := x j * rs x * g j - tg j

/-- The gradient of the loss in the normed row. -/
def derr (x tg g : Fin 1024 → EReal) (j : Fin 1024) : EReal := share * (Ideal.ofBits .f32 0x40000000#32 * err x tg g j)

theorem derr_eq (x tg g : Fin 1024 → EReal) (j : Fin 1024) : err x tg g j * share + share * err x tg g j = derr x tg g j := by
  have h2 : Ideal.ofBits .f32 0x40000000#32 * err x tg g j = err x tg g j + err x tg g j := by
    rw [two_eq, show ((2 : ℝ) : EReal) = 1 + 1 by rw [← EReal.coe_one, ← EReal.coe_add]; norm_num, EReal.right_distrib_of_nonneg (by norm_num) (by norm_num), one_mul]
  rw [derr, h2, share_eq, EReal.left_distrib_of_nonneg_of_ne_top (by norm_num) (EReal.coe_ne_top _), mul_comm (err x tg g j)]

/-- A row's mean squared error. -/
def mse (x tg g : Fin 1024 → EReal) : EReal := Ideal.div (∑ j, err x tg g j * err x tg g j) width

theorem half_sum (a b : EReal) : half * a + half * b = half * (a + b) := by
  rw [half_eq, EReal.left_distrib_of_nonneg_of_ne_top (by norm_num) (EReal.coe_ne_top _)]

/-! ## The body at one grid point -/

theorem pay2_at (j : Fin 1024) : k0_pay2 (F := Ideal) (ix2 0 j) = 0 := by
  pointwise [k0_pay2]

theorem pay3_at (a : Fin 8) (b : Fin 128) : k0_pay3 (F := Ideal) (ix2 a b) = 0 := by
  pointwise [k0_pay3]

theorem pay4_at (x y : Vec Ideal S1x1024 .f32) (j : Fin 1024) : k0_pay4 (F := Ideal) x y (ix2 0 j) = y (ix2 0 j) + x (ix2 0 j) := by
  pointwise [k0_pay4]

theorem pay5_at (x : EReal) (y : Vec Ideal S8x128 .f32) (a : Fin 8) (b : Fin 128) : k0_pay5 (F := Ideal) x y (ix2 a b) = y (ix2 a b) + x := by
  pointwise [k0_pay5]

section Body

variable (tg x : Vec Ideal S256x1024 .f32) (g : Vec Ideal S1x1024 .f32)

theorem pay7_at (r : Fin 256) : k0_pay7 (F := Ideal) x (ix2 r 0) = rs fun e => x (ix2 r e) := by
  pointwise [k0_pay7, k0_pay6, rs, ms]

theorem pay10_at (r : Fin 256) (j : Fin 1024) :
    k0_pay10 (F := Ideal) tg x g (ix2 r j) = err (fun e => x (ix2 r e)) (fun e => tg (ix2 r e)) (fun e => g (ix2 0 e)) j := by
  pointwise [k0_pay10, k0_pay9, err]
  rw [pay7_at]

theorem pay12_at (r : Fin 256) (j : Fin 1024) :
    k0_pay12 (F := Ideal) tg x g (ix2 r j) = derr (fun e => x (ix2 r e)) (fun e => tg (ix2 r e)) (fun e => g (ix2 0 e)) j := by
  rw [← derr_eq]
  pointwise [k0_pay12, share, half, width]
  rw [pay10_at]

theorem pay13_at (j : Fin 1024) :
    k0_pay13 (F := Ideal) tg x g (ix2 0 j)
      = ∑ r, x (ix2 r j) * rs (fun e => x (ix2 r e)) * derr (fun e => x (ix2 r e)) (fun e => tg (ix2 r e)) (fun e => g (ix2 0 e)) j := by
  pointwise [k0_pay13, k0_pay9]
  simp only [pay7_at, pay12_at]

theorem pay11_eq : k0_pay11 (F := Ideal) tg x g
    = half * ∑ r, mse (fun e => x (ix2 r e)) (fun e => tg (ix2 r e)) (fun e => g (ix2 0 e)) := by
  pointwise [k0_pay11, mse, half, width]
  simp only [pay10_at]

theorem pay1_at (r : Fin 256) (j : Fin 1024) :
    k0_pay1 (F := Ideal) x (k0_pay7 x) (k0_pay8 x) (k0_pay12 tg x g) (k0_pay14 g) (ix2 r j)
      = dxRow (fun e => x (ix2 r e)) (fun e => g (ix2 0 e))
        (derr (fun e => x (ix2 r e)) (fun e => tg (ix2 r e)) (fun e => g (ix2 0 e))) j := by
  pointwise [k0_pay1, k0_pay14, k0_pay8, dxRow]
  simp only [pay7_at, pay12_at, Fin.sum_univ_one]
  pointwise [k0_pay6, ms]

end Body

section Cases

variable (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S1x1024 .f32) (harg3 : arg3.IsWhole)
  (arg4 : Memref sig .tc .vmem S256x1024 .f32) (harg4 : arg4.IsWhole)
  (arg5 : Memref sig .tc .vmem S1x1024 .f32) (harg5 : arg5.IsWhole)
  (arg6 : Memref sig .tc .vmem S8x128 .f32) (harg6 : arg6.IsWhole)
  (x0 : Vec Ideal S256x1024 .f32)
  (x1 : Vec Ideal S256x1024 .f32)
  (x2 : Vec Ideal S1x1024 .f32)
  (y4 : Vec Ideal S1x1024 .f32)
  (y5 : Vec Ideal S8x128 .f32)

theorem out_A_3 (hc0 : cond0_0 i) :
    out0_A_3 c i arg1 harg1 arg2 harg2 arg3 harg3 arg4 harg4 arg5 harg5 arg6 harg6 hc0 x0 x1 x2
      = k0_pay1 x0 (k0_pay7 x0) (k0_pay8 x0) (k0_pay12 x1 x0 x2) (k0_pay14 x2) := by
  unfold out0_A_3
  rw [View.read_writes_eq_canon _ _ _ (cover0_A_3 c i arg1 harg1 arg2 harg2 arg3 harg3 arg4 harg4 arg5 harg5 arg6 harg6 hc0 x0 x1 x2)]
  unfold kernelRun0_A
  dsimp only
  try sl_unfold_words
  rw [View.canon_unit_zero off2]
  simp only [View.readAt_eq_ld, harg1.read_unread, harg2.read_unread, harg3.read_unread, harg4.read_unread, harg5.read_unread, harg6.read_unread,
    View.ld_unit_zero (S := S1x1024) off2, View.ld_unit_zero (S := S256x1024) off2, View.ld_unit_zero (S := S8x128) off2, shapeCast_self]

theorem out_A_4 (hc0 : cond0_0 i) :
    out0_A_4 c i arg1 harg1 arg2 harg2 arg3 harg3 arg4 harg4 arg5 harg5 arg6 harg6 hc0 x0 x1 x2
      = k0_pay4 (k0_pay13 x1 x0 x2) (k0_pay2 (F := Ideal)) := by
  unfold out0_A_4
  rw [View.read_writes_eq_canon _ _ _ (cover0_A_4 c i arg1 harg1 arg2 harg2 arg3 harg3 arg4 harg4 arg5 harg5 arg6 harg6 hc0 x0 x1 x2)]
  unfold kernelRun0_A
  dsimp only
  try sl_unfold_words
  rw [View.canon_cons_unit_zero (S := S1x1024) off2, View.readCov_unit_zero (S := S1x1024) _ off2]
  simp only [View.readAt_eq_ld, harg1.read_unread, harg2.read_unread, harg3.read_unread, harg4.read_unread, harg5.read_unread, harg6.read_unread,
    View.ld_unit_zero (S := S1x1024) off2, View.ld_unit_zero (S := S256x1024) off2, View.ld_unit_zero (S := S8x128) off2, shapeCast_self]

theorem out_A_5 (hc0 : cond0_0 i) :
    out0_A_5 c i arg1 harg1 arg2 harg2 arg3 harg3 arg4 harg4 arg5 harg5 arg6 harg6 hc0 x0 x1 x2
      = k0_pay5 (k0_pay11 x1 x0 x2) (k0_pay3 (F := Ideal)) := by
  unfold out0_A_5
  rw [View.read_writes_eq_canon _ _ _ (cover0_A_5 c i arg1 harg1 arg2 harg2 arg3 harg3 arg4 harg4 arg5 harg5 arg6 harg6 hc0 x0 x1 x2)]
  unfold kernelRun0_A
  dsimp only
  try sl_unfold_words
  rw [View.canon_cons_unit_zero (S := S8x128) off2, View.readCov_unit_zero (S := S8x128) _ off2]
  simp only [View.readAt_eq_ld, harg1.read_unread, harg2.read_unread, harg3.read_unread, harg4.read_unread, harg5.read_unread, harg6.read_unread,
    View.ld_unit_zero (S := S1x1024) off2, View.ld_unit_zero (S := S256x1024) off2, View.ld_unit_zero (S := S8x128) off2, shapeCast_self]

theorem out_B_3 (hc0 : ¬cond0_0 i) :
    out0_B_3 c i arg1 harg1 arg2 harg2 arg3 harg3 arg4 harg4 arg5 harg5 arg6 harg6 hc0 x0 x1 x2 y4 y5
      = k0_pay1 x0 (k0_pay7 x0) (k0_pay8 x0) (k0_pay12 x1 x0 x2) (k0_pay14 x2) := by
  unfold out0_B_3
  rw [View.read_writes_eq_canon _ _ _ (cover0_B_3 c i arg1 harg1 arg2 harg2 arg3 harg3 arg4 harg4 arg5 harg5 arg6 harg6 hc0 x0 x1 x2 y4 y5)]
  unfold kernelRun0_B
  dsimp only
  try sl_unfold_words
  rw [View.canon_unit_zero off2]
  simp only [View.readAt_eq_ld, harg1.read_unread, harg2.read_unread, harg3.read_unread, harg4.read_unread, harg5.read_unread, harg6.read_unread,
    View.ld_unit_zero (S := S1x1024) off2, View.ld_unit_zero (S := S256x1024) off2, View.ld_unit_zero (S := S8x128) off2, shapeCast_self]

theorem out_B_4 (hc0 : ¬cond0_0 i) :
    out0_B_4 c i arg1 harg1 arg2 harg2 arg3 harg3 arg4 harg4 arg5 harg5 arg6 harg6 hc0 x0 x1 x2 y4 y5
      = k0_pay4 (k0_pay13 x1 x0 x2) y4 := by
  unfold out0_B_4
  rw [View.read_writes_eq_canon _ _ _ (cover0_B_4 c i arg1 harg1 arg2 harg2 arg3 harg3 arg4 harg4 arg5 harg5 arg6 harg6 hc0 x0 x1 x2 y4 y5)]
  unfold kernelRun0_B
  dsimp only
  try sl_unfold_words
  rw [View.canon_unit_zero off2]
  simp only [View.readAt_eq_ld, harg1.read_unread, harg2.read_unread, harg3.read_unread, harg4.read_unread, harg5.read_unread, harg6.read_unread,
    View.ld_unit_zero (S := S1x1024) off2, View.ld_unit_zero (S := S256x1024) off2, View.ld_unit_zero (S := S8x128) off2, shapeCast_self]

theorem out_B_5 (hc0 : ¬cond0_0 i) :
    out0_B_5 c i arg1 harg1 arg2 harg2 arg3 harg3 arg4 harg4 arg5 harg5 arg6 harg6 hc0 x0 x1 x2 y4 y5
      = k0_pay5 (k0_pay11 x1 x0 x2) y5 := by
  unfold out0_B_5
  rw [View.read_writes_eq_canon _ _ _ (cover0_B_5 c i arg1 harg1 arg2 harg2 arg3 harg3 arg4 harg4 arg5 harg5 arg6 harg6 hc0 x0 x1 x2 y4 y5)]
  unfold kernelRun0_B
  dsimp only
  try sl_unfold_words
  rw [View.canon_unit_zero off2]
  simp only [View.readAt_eq_ld, harg1.read_unread, harg2.read_unread, harg3.read_unread, harg4.read_unread, harg5.read_unread, harg6.read_unread,
    View.ld_unit_zero (S := S1x1024) off2, View.ld_unit_zero (S := S256x1024) off2, View.ld_unit_zero (S := S8x128) off2, shapeCast_self]

end Cases

/-! ## The blocks -/

variable (m : (ℓ : Loc nD τ sig) → Buf (Elt Ideal) ℓ) (c : Dev nD)

/-- The arguments as launched. -/
abbrev A0 : (⟨2, ![2048, 1024]⟩ : Shape).Idx → EReal := m ((c : Thread nD τ).loc main_arg0)
abbrev A1 : (⟨2, ![2048, 1024]⟩ : Shape).Idx → EReal := m ((c : Thread nD τ).loc main_arg1)
abbrev A2 : (⟨2, ![1, 1024]⟩ : Shape).Idx → EReal := m ((c : Thread nD τ).loc main_arg2)

theorem e0 : ∀ t : Fin cfg0.N, win0_0.index t 0 = t.val ∧ win0_0.index t 1 = 0 := by decide +kernel
theorem e1 : ∀ t : Fin cfg0.N, win0_1.index t 0 = t.val ∧ win0_1.index t 1 = 0 := by decide +kernel
theorem e2 : ∀ t : Fin cfg0.N, win0_2.index t 0 = 0 ∧ win0_2.index t 1 = 0 := by decide +kernel
theorem e3 : ∀ t : Fin cfg0.N, win0_3.index t 0 = t.val ∧ win0_3.index t 1 = 0 := by decide +kernel
theorem e4 : ∀ t : Fin cfg0.N, win0_4.index t 0 = 0 ∧ win0_4.index t 1 = 0 := by decide +kernel
theorem e5 : ∀ t : Fin cfg0.N, win0_5.index t 0 = 0 ∧ win0_5.index t 1 = 0 := by decide +kernel

/-- The token of row `r` of a grid point's tile. -/
def tok (t : Fin cfg0.N) (r : Fin 256) : Fin 2048 := ⟨t.val * 256 + r.val, by have : t.val < 8 := t.isLt; omega⟩

theorem blk0_at (t : Fin cfg0.N) (r : Fin 256) (d : Fin 1024) : iblk m c 0 t (ix2 r d) = A0 m c (ix2 (tok t r) d) := by
  show V m c main_arg0 (((cfg0.win 0).blk t).view.emb (ix2 r d)) = _
  rw [V_main_arg0]
  refine congrArg (m ((c : Thread nD τ).loc main_arg0)) (funext fun a => Fin.ext ?_)
  fin_cases a
  · show win0_0.index t 0 * 256 + 1 * r.val = t.val * 256 + r.val
    rw [(e0 t).1]; omega
  · show win0_0.index t 1 * 1024 + 1 * d.val = d.val
    rw [(e0 t).2]; omega

theorem blk1_at (t : Fin cfg0.N) (r : Fin 256) (d : Fin 1024) : iblk m c 1 t (ix2 r d) = A1 m c (ix2 (tok t r) d) := by
  show V m c main_arg1 (((cfg0.win 1).blk t).view.emb (ix2 r d)) = _
  rw [V_main_arg1]
  refine congrArg (m ((c : Thread nD τ).loc main_arg1)) (funext fun a => Fin.ext ?_)
  fin_cases a
  · show win0_1.index t 0 * 256 + 1 * r.val = t.val * 256 + r.val
    rw [(e1 t).1]; omega
  · show win0_1.index t 1 * 1024 + 1 * d.val = d.val
    rw [(e1 t).2]; omega

theorem blk2_at (t : Fin cfg0.N) (r : Fin 1) (d : Fin 1024) : iblk m c 2 t (ix2 r d) = A2 m c (ix2 0 d) := by
  show V m c main_arg2 (((cfg0.win 2).blk t).view.emb (ix2 r d)) = _
  rw [V_main_arg2]
  refine congrArg (m ((c : Thread nD τ).loc main_arg2)) (funext fun a => Fin.ext ?_)
  fin_cases a
  · show win0_2.index t 0 * 1 + 1 * r.val = 0
    rw [(e2 t).1]; omega
  · show win0_2.index t 1 * 1024 + 1 * d.val = d.val
    rw [(e2 t).2]; omega

/-- The gradient in the rows. -/
def dx (x tg : S2048x1024.Idx → EReal) (g : S1x1024.Idx → EReal) : S2048x1024.Idx → EReal := fun i =>
  dxRow (fun e => x (ix2 (i 0) e)) (fun e => g (ix2 0 e)) (derr (fun e => x (ix2 (i 0) e)) (fun e => tg (ix2 (i 0) e)) (fun e => g (ix2 0 e))) (i 1)

/-- A row's contribution to the gradient in the gain. -/
def dgTerm (x tg : S2048x1024.Idx → EReal) (g : S1x1024.Idx → EReal) (j : Fin 1024) (t : Fin 2048) : EReal :=
  x (ix2 t j) * rs (fun e => x (ix2 t e)) * derr (fun e => x (ix2 t e)) (fun e => tg (ix2 t e)) (fun e => g (ix2 0 e)) j

/-- The gradient in the gain. -/
def dg (x tg : S2048x1024.Idx → EReal) (g : S1x1024.Idx → EReal) : S1x1024.Idx → EReal := fun i => ∑ t, dgTerm x tg g (i 1) t

/-- A row's mean squared error. -/
def mseAt (x tg : S2048x1024.Idx → EReal) (g : S1x1024.Idx → EReal) (t : Fin 2048) : EReal := mse (fun e => x (ix2 t e)) (fun e => tg (ix2 t e)) (fun e => g (ix2 0 e))

/-- The loss, in every entry of its block. -/
def loss (x tg : S2048x1024.Idx → EReal) (g : S1x1024.Idx → EReal) : S8x128.Idx → EReal := fun _ => half * ∑ t, mseAt x tg g t

/-- A row's contributions, by the row's number. -/
def term (j : Fin 1024) (n : ℕ) : EReal := if hn : n < 2048 then dgTerm (A0 m c) (A1 m c) (A2 m c) j ⟨n, hn⟩ else 0
def lterm (n : ℕ) : EReal := if hn : n < 2048 then mseAt (A0 m c) (A1 m c) (A2 m c) ⟨n, hn⟩ else 0

theorem add4 (t : Fin cfg0.N) (y : Vec Ideal S1x1024 .f32) (j : Fin 1024) :
    k0_pay4 (F := Ideal) (k0_pay13 (iblk m c 1 t) (iblk m c 0 t) (iblk m c 2 t)) y (ix2 0 j)
      = y (ix2 0 j) + ∑ r ∈ Finset.range 256, term m c j (t.val * 256 + r) := by
  rw [pay4_at, pay13_at, Finset.sum_range]
  refine congrArg (y (ix2 0 j) + ·) (Finset.sum_congr rfl fun r _ => ?_)
  have hr : t.val * 256 + r.val < 2048 := (tok t r).isLt
  rw [term, dif_pos hr]
  simp only [blk0_at, blk1_at, blk2_at]
  rfl

theorem add5 (t : Fin cfg0.N) (y : Vec Ideal S8x128 .f32) (a : Fin 8) (b : Fin 128) :
    k0_pay5 (F := Ideal) (k0_pay11 (iblk m c 1 t) (iblk m c 0 t) (iblk m c 2 t)) y (ix2 a b)
      = y (ix2 a b) + half * ∑ r ∈ Finset.range 256, lterm m c (t.val * 256 + r) := by
  rw [pay11_eq, pay5_at, Finset.sum_range]
  refine congrArg (fun s => y (ix2 a b) + half * s) (Finset.sum_congr rfl fun r _ => ?_)
  have hr : t.val * 256 + r.val < 2048 := (tok t r).isLt
  rw [lterm, dif_pos hr]
  simp only [blk0_at, blk1_at, blk2_at]
  rfl

theorem acc_at (n : ℕ) : ∀ t : Fin cfg0.N, t.val = n → ∀ (j : Fin 1024) (a : Fin 8) (b : Fin 128),
    (outsAt0 m c t.val t.isLt).2.1 (ix2 0 j) = ∑ i ∈ Finset.range ((t.val + 1) * 256), term m c j i
    ∧ (outsAt0 m c t.val t.isLt).2.2 (ix2 a b) = half * ∑ i ∈ Finset.range ((t.val + 1) * 256), lterm m c i := by
  induction n with
  | zero =>
    intro t ht j a b
    rw [outsAt0_A m c t (by omega)]
    dsimp only
    rw [out_A_4, out_A_5, add4, add5, pay2_at, pay3_at, sum_tile, sum_tile, ht]
    simp
  | succ n ih =>
    intro t ht j a b
    have ht8 : t.val < 8 := t.isLt
    have hp : t.val - 1 < cfg0.N := Nat.lt_of_le_of_lt (Nat.sub_le _ _) t.isLt
    have hI := ih ⟨t.val - 1, hp⟩ (by show t.val - 1 = n; omega) j a b
    have hm : t.val - 1 + 1 = t.val := by omega
    dsimp only at hI
    rw [hm] at hI
    rw [outsAt0_B m c t (by omega)]
    dsimp only
    rw [out_B_4, out_B_5, add4, add5, sum_tile, sum_tile, hI.1, hI.2, half_sum]
    exact ⟨rfl, rfl⟩

theorem dx_at (t : Fin cfg0.N) (r : Fin 256) (j : Fin 1024) :
    (outsAt0 m c t.val t.isLt).1 (ix2 r j) = dx (A0 m c) (A1 m c) (A2 m c) (ix2 (tok t r) j) := by
  have e : (outsAt0 m c t.val t.isLt).1 = k0_pay1 (F := Ideal) (iblk m c 0 t) (k0_pay7 (iblk m c 0 t)) (k0_pay8 (iblk m c 0 t))
      (k0_pay12 (iblk m c 1 t) (iblk m c 0 t) (iblk m c 2 t)) (k0_pay14 (iblk m c 2 t)) := by
    by_cases h0 : t.val % 8 = 0
    · rw [outsAt0_A m c t h0]
      dsimp only
      rw [out_A_3]
    · rw [outsAt0_B m c t h0]
      dsimp only
      rw [out_B_3]
  rw [e, pay1_at]
  simp only [blk0_at, blk1_at, blk2_at]
  rfl

/-! ## The arrays after the run -/

theorem final_dx : (dats m 0 c).arrAt 3 cfg0.N = dx (A0 m c) (A1 m c) (A2 m c) := by
  refine (dats m 0 c).arrAt_eq_of_covers 3 _ (by decide +kernel) fun t hf y => ?_
  blk_simp
  rw [after0_3]
  revert y
  intro (y : S256x1024.Idx)
  idx_vars y
  refine (dx_at m c t y0 y1).trans (congrArg (dx (A0 m c) (A1 m c) (A2 m c)) (funext fun a => Fin.ext ?_))
  fin_cases a
  · show t.val * 256 + y0.val = win0_3.index t 0 * 256 + 1 * y0.val
    rw [(e3 t).1]; omega
  · show y1.val = win0_3.index t 1 * 1024 + 1 * y1.val
    rw [(e3 t).2]; omega

theorem final_dg : (dats m 0 c).arrAt 4 cfg0.N = dg (A0 m c) (A1 m c) (A2 m c) := by
  refine (dats m 0 c).arrAt_eq_of_covers 4 _ (by decide +kernel) fun t hf y => ?_
  have h7 : t.val = 7 := by have := (flush0_4 t).mp hf; have : t.val < 8 := t.isLt; omega
  blk_simp
  rw [after0_4]
  revert y
  intro (y : S1x1024.Idx)
  idx_vars y
  obtain rfl : y0 = 0 := Subsingleton.elim _ _
  rw [(acc_at m c t.val t rfl y1 0 0).1]
  have h1 : ((cfg0.win 4).blk t).view.emb (ix2 0 y1) 1 = y1 := Fin.ext (by
    show win0_4.index t 1 * 1024 + 1 * y1.val = y1.val
    rw [(e4 t).2]; omega)
  refine (sum_rows 256 _ (dgTerm (A0 m c) (A1 m c) (A2 m c) y1) (fun s => ?_) _ (by omega)).trans ?_
  · rw [term, dif_pos s.isLt]
  · show _ = ∑ s, dgTerm (A0 m c) (A1 m c) (A2 m c) (((cfg0.win 4).blk t).view.emb (ix2 0 y1) 1) s
    rw [h1]

theorem final_loss : (dats m 0 c).arrAt 5 cfg0.N = loss (A0 m c) (A1 m c) (A2 m c) := by
  refine (dats m 0 c).arrAt_eq_of_covers 5 _ (by decide +kernel) fun t hf y => ?_
  have h7 : t.val = 7 := by have := (flush0_5 t).mp hf; have : t.val < 8 := t.isLt; omega
  blk_simp
  rw [after0_5]
  revert y
  intro (y : S8x128.Idx)
  idx_vars y
  rw [(acc_at m c t.val t rfl 0 y0 y1).2]
  refine congrArg (half * ·) (sum_rows 256 _ (mseAt (A0 m c) (A1 m c) (A2 m c)) (fun s => ?_) _ (by omega))
  rw [lterm, dif_pos s.isLt]

/-! ## The reference -/

section Reference

open Cert.Reference46Ideal.Read

variable (x0 x1 : (⟨Cert.Reference46Ideal.S2048x1024, .f32⟩ : BufTy).Contents (Elt Ideal)) (x2 : (⟨Cert.Reference46Ideal.S1x1024, .f32⟩ : BufTy).Contents (Elt Ideal))

theorem v6_at (t : Fin 2048) : val_main_v6 (F := Ideal) x0 (ix2 t 0) = ms fun e => x0 (ix2 t e) := by
  pointwise [val_main_v6, val_main_v5, val_main_v4, val_main_v3, val_main_v2, val_main_v1, val_main_v0, val_main_cst, val_main_cst_0, val_main_cst_1, ms]

theorem v7_at (t : Fin 2048) : val_main_v7 (F := Ideal) x0 (ix2 t 0) = rs fun e => x0 (ix2 t e) := by
  pointwise [val_main_v7, rs]
  rw [v6_at]

theorem v15_at (t : Fin 2048) (j : Fin 1024) :
    val_main_v15 (F := Ideal) x0 x1 x2 (ix2 t j) = err (fun e => x0 (ix2 t e)) (fun e => x1 (ix2 t e)) (fun e => x2 (ix2 0 e)) j := by
  pointwise [val_main_v15, val_main_v14, val_main_v13, val_main_v12, val_main_v11, err]
  rw [v7_at]

theorem v29_at (t : Fin 2048) (j : Fin 1024) :
    val_main_v29 (F := Ideal) x0 x1 x2 (ix2 t j) = derr (fun e => x0 (ix2 t e)) (fun e => x1 (ix2 t e)) (fun e => x2 (ix2 0 e)) j := by
  pointwise [val_main_v29, val_main_v28, val_main_v27, val_main_v26, val_main_v25, val_main_v24, val_main_v18, val_main_v17, val_main_cst_3, val_main_cst_8,
    val_main_cst_9, val_main_cst_10, derr, share, half, width]
  rw [v15_at]

theorem v48_at (i : S2048x1024.Idx) : val_main_v48 (F := Ideal) x0 x1 x2 i = dx x0 x1 x2 i := by
  idx_vars i
  pointwise [val_main_v48, val_main_v47, val_main_v46, val_main_v45, val_main_v44, val_main_v43, val_main_v42, val_main_v41, val_main_v40, val_main_v39,
    val_main_v38, val_main_v37, val_main_v36, val_main_v35, val_main_v34, val_main_v33, val_main_v10, val_main_v9, val_main_v8, val_main_cst_2,
    val_main_cst_12, val_main_cst_13, val_main_cst_14, dx, dxRow]
  simp only [v6_at, v7_at, v29_at, Fin.sum_univ_one]

theorem v32_at (i : S1x1024.Idx) : val_main_v32 (F := Ideal) x0 x1 x2 i = dg x0 x1 x2 i := by
  idx_vars i
  pointwise [val_main_v32, val_main_v31, val_main_v30, val_main_v12, val_main_v11, val_main_cst_11, dg, dgTerm]
  simp only [v7_at, v29_at]

theorem v49_at (i : S8x128.Idx) : val_main_v49 (F := Ideal) x0 x1 x2 i = loss x0 x1 x2 i := by
  idx_vars i
  pointwise [val_main_v49, val_main_v23, val_main_v22, val_main_v21, val_main_v20, val_main_v19, val_main_v16, val_main_cst_4, val_main_cst_5, val_main_cst_6,
    val_main_cst_7, loss, mseAt, mse, half, width]
  simp only [v15_at]

end Reference

theorem agree : algebraic_Kernel46Ideal_Reference46Ideal (hKernel46Ideal := Cert.Kernel46Ideal.Gen.facts)
    (hReference46Ideal := Cert.Reference46Ideal.Gen.facts) := by
  intro m g m' g' _ ha
  refine ⟨fun c => dx (A0 m c) (A1 m c) (A2 m c), fun c => dg (A0 m c) (A1 m c) (A2 m c), fun c => loss (A0 m c) (A1 m c) (A2 m c),
    (θ_run _ _ _).mono (fun r h c => ⟨(h c).1.trans (final_dx m c), (h c).2.1.trans (final_dg m c), (h c).2.2.1.trans (final_loss m c), (h c).2.2.2⟩)
      (Cert.Kernel46Ideal.Value.run_blocks m g),
    (θ_run _ _ _).mono (fun r h c => ?_) (Cert.Reference46Ideal.Value.run m' g')⟩
  obtain ⟨e0, e1, e2⟩ := ha c
  refine ⟨(h c).1.trans ?_, (h c).2.1.trans ?_, (h c).2.2.1.trans ?_, (h c).2.2.2⟩
  · rw [Cert.Reference46Ideal.Read.val_main_v48_eq, e0, e1, e2]
    exact funext fun i => v48_at _ _ _ i
  · rw [e0, e1, e2]
    exact (Cert.Reference46Ideal.Read.val_main_v32_eq _ _ _).trans (funext fun i => v32_at _ _ _ i)
  · rw [e0, e1, e2]
    exact (Cert.Reference46Ideal.Read.val_main_v49_eq _ _ _).trans (funext fun i => v49_at _ _ _ i)

end Cert.Proof.LossHead

end
-- ==== Proof.Shift.lean ====
/-
  A column moved down its rows, as a kernel rotates it and masks what came round, and the logistic function.
-/
module

public import Idealize.ShloMosaic.Lib.Pointwise
public import Idealize.ShloMosaic.Lib.WordCmp

@[expose] public section

noncomputable section

namespace Cert.Proof.Shift

open Idealize.ShloMosaic

/-- The entry `k` rows above row `r`, and zero where there is none. -/
def sh (k : ℕ) (x : Fin 2048 → EReal) (r : Fin 2048) : EReal := if h : r.val < k then 0 else x ⟨r.val - k, by omega⟩

/-- The kernel's spelling: the rotated entry, masked where the row's number is below the distance. -/
theorem sel_sh (k : ℕ) (hk : k < 2048) (x : Fin 2048 → EReal) (r : Fin 2048) (h : (r.val + 2048 - k) % 2048 < 2048) :
    Scalar.select (IntOp.cmpi .sge (BitVec.ofNat 32 r.val) (BitVec.ofNat 32 k)) (x ⟨(r.val + 2048 - k) % 2048, h⟩) 0 = sh k x r := by
  have hr := r.isLt
  rw [WordCmp.cmpi_sge_ofNat (by norm_num; omega) (by norm_num; omega), sh]
  by_cases hc : r.val < k
  · rw [dif_pos hc, decide_eq_false (by omega)]
    rfl
  · rw [dif_neg hc, decide_eq_true (by omega)]
    show x _ = x _
    exact congrArg x (Fin.ext (by show (r.val + 2048 - k) % 2048 = r.val - k; omega))

/-- The padded spelling: `p` rows of zeros above the column, read `o` rows down from row `r`. -/
theorem sh_pad (p o k : ℕ) (hk : o + k = p) (x : Fin 2048 → EReal) (r : Fin 2048) (h : ¬ o + r.val < p → o + r.val - p < 2048) :
    (if h' : o + r.val < p then 0 else x ⟨o + r.val - p, h h'⟩) = sh k x r := by
  rw [sh]
  by_cases hc : r.val < k
  · rw [dif_pos hc, dif_pos (by omega)]
  · rw [dif_neg hc, dif_neg (by omega)]
    exact congrArg x (Fin.ext (by show o + r.val - p = r.val - k; omega))

/-- The entry in the row below row `r`, and zero where there is none. -/
def up (x : Fin 2048 → EReal) (r : Fin 2048) : EReal := if h : 1 + r.val < 2048 then x ⟨1 + r.val, h⟩ else 0

/-- The kernel's spelling: the column rotated by all its rows but one, masked in its last row. -/
theorem sel_up (x : Fin 2048 → EReal) (r : Fin 2048) (h : (r.val + 2048 - 2047) % 2048 < 2048) :
    Scalar.select (IntOp.cmpi .slt (BitVec.ofNat 32 r.val) (BitVec.ofNat 32 2047)) (x ⟨(r.val + 2048 - 2047) % 2048, h⟩) 0 = up x r := by
  have hr := r.isLt
  rw [WordCmp.cmpi_slt_ofNat (by norm_num; omega) (by norm_num), up]
  by_cases hc : 1 + r.val < 2048
  · rw [dif_pos hc, decide_eq_true (by omega)]
    show x _ = x _
    exact congrArg x (Fin.ext (by show (r.val + 2048 - 2047) % 2048 = 1 + r.val; omega))
  · rw [dif_neg hc, decide_eq_false (by omega)]
    rfl

/-- The logistic function. -/
def logi (x : EReal) : EReal := Ideal.div 1 (1 + Ideal.exp (-x))

end Cert.Proof.Shift

end
-- ==== Proof.GateFwd.lean ====
/-
  The feed-forward's gate: three taps down each column of the two halves, and the one half through its logistic gate onto the other.
-/
module

public import proofs.«01_k».proof.Defs
public import proofs.«01_k».proof.Proof.Tiles
public import proofs.«01_k».proof.Proof.Shift
public import proofs.«01_k».proof.Proof.Gen.Kernel47Ideal.Value
public import proofs.«01_k».proof.Proof.Gen.Reference47Ideal.Run
public import proofs.«01_k».proof.Proof.Gen.Reference47Ideal.Read
public import Idealize.ShloMosaic.Lib.Pipeline.ValueKit
public import Idealize.ShloMosaic.Lib.Pointwise

@[expose] public section

noncomputable section

namespace Cert.Proof.GateFwd

open Idealize.ShloMosaic Idealize.SL.Sem Cert.Kernel47Ideal Cert.Kernel47Ideal.Gen
open Idealize.ShloMosaic.TcCoe
open Idealize.ShloMosaic.Pipeline (Dat Cfg Window)
open Cert.Proof.Shift (sh sel_sh sh_pad logi)
/-- Three taps down a column. -/
def conv (w : Fin 3 → EReal) (x : Fin 2048 → EReal) (r : Fin 2048) : EReal := w 0 * sh 2 x r + w 1 * sh 1 x r + w 2 * x r

/-- The gate on one pair of entries. -/
def gate (a b : EReal) : EReal := a * logi a * b

/-- The two halves' columns. -/
def lo (j : Fin 3072) : Fin 6144 := ⟨j.val, by omega⟩
def hi (j : Fin 3072) : Fin 6144 := ⟨3072 + j.val, by omega⟩

/-- The gated rows. -/
def spec (u : S2048x6144.Idx → EReal) (w : S3x6144.Idx → EReal) : S2048x3072.Idx → EReal := fun i =>
  gate (conv (fun k => w (ix2 k (lo (i 1)))) (fun e => u (ix2 e (lo (i 1)))) (i 0))
    (conv (fun k => w (ix2 k (hi (i 1)))) (fun e => u (ix2 e (hi (i 1)))) (i 0))

/-! ## The body at one grid point -/

section Body

variable (a b : Vec Ideal S2048x128 .f32) (v w : Vec Ideal S3x128 .f32) (r : Fin 2048) (j : Fin 128)

theorem pay2_at : k0_pay2 (F := Ideal) a v (ix2 r j) = conv (fun k => v (ix2 k j)) (fun e => a (ix2 e j)) r := by
  rw [conv, ← sel_sh 1 (by norm_num) (fun e => a (ix2 e j)) r (Nat.mod_lt _ (by norm_num)),
    ← sel_sh 2 (by norm_num) (fun e => a (ix2 e j)) r (Nat.mod_lt _ (by norm_num))]
  pointwise [k0_pay2]

theorem pay1_at : k0_pay1 (F := Ideal) b w (k0_pay2 a v) (k0_pay3 b w) (k0_pay4 w) k0_pay5 1#32 (ix2 r j)
    = gate (conv (fun k => v (ix2 k j)) (fun e => a (ix2 e j)) r) (conv (fun k => w (ix2 k j)) (fun e => b (ix2 e j)) r) := by
  rw [gate, conv.eq_1 (fun k => w (ix2 k j)), ← sel_sh 1 (by norm_num) (fun e => b (ix2 e j)) r (Nat.mod_lt _ (by norm_num)),
    ← sel_sh 2 (by norm_num) (fun e => b (ix2 e j)) r (Nat.mod_lt _ (by norm_num))]
  pointwise [k0_pay1, k0_pay3, k0_pay4, k0_pay5, logi]
  rw [pay2_at, zero_sub]

theorem out_eq : out0_4 a b v w = k0_pay1 (F := Ideal) b w (k0_pay2 a v) (k0_pay3 b w) (k0_pay4 w) k0_pay5 1#32 := by
  unfold out0_4
  rw [View.canon_unit_zero (S := S2048x128) off2]
  simp only [View.ld_unit_zero (S := S2048x128) off2, View.ld_unit_zero (S := S3x128) off2]

end Body

/-! ## The blocks -/

variable (m : (ℓ : Loc nD τ sig) → Buf (Elt Ideal) ℓ) (c : Dev nD)

/-- The arguments as launched. -/
abbrev A0 : (⟨2, ![2048, 6144]⟩ : Shape).Idx → EReal := m ((c : Thread nD τ).loc main_arg0)
abbrev A1 : (⟨2, ![3, 6144]⟩ : Shape).Idx → EReal := m ((c : Thread nD τ).loc main_arg1)

theorem e0 : ∀ t : Fin cfg0.N, win0_0.index t 0 = 0 ∧ win0_0.index t 1 = t.val := by decide +kernel
theorem e1 : ∀ t : Fin cfg0.N, win0_1.index t 0 = 0 ∧ win0_1.index t 1 = t.val + 24 := by decide +kernel
theorem e2 : ∀ t : Fin cfg0.N, win0_2.index t 0 = 0 ∧ win0_2.index t 1 = t.val := by decide +kernel
theorem e3 : ∀ t : Fin cfg0.N, win0_3.index t 0 = 0 ∧ win0_3.index t 1 = t.val + 24 := by decide +kernel
theorem e4 : ∀ t : Fin cfg0.N, win0_4.index t 0 = 0 ∧ win0_4.index t 1 = t.val := by decide +kernel

/-- The column of lane `d` of a grid point's block. -/
def cl (t : Fin cfg0.N) (d : Fin 128) : Fin 3072 := ⟨t.val * 128 + d.val, by have : t.val < 24 := t.isLt; omega⟩

theorem blk0_at (t : Fin cfg0.N) (r : Fin 2048) (d : Fin 128) : iblk m c 0 t (ix2 r d) = A0 m c (ix2 r (lo (cl t d))) := by
  show V m c main_arg0 (((cfg0.win 0).blk t).view.emb (ix2 r d)) = _
  rw [V_main_arg0]
  refine congrArg (m ((c : Thread nD τ).loc main_arg0)) (funext fun a => Fin.ext ?_)
  fin_cases a
  · show win0_0.index t 0 * 2048 + 1 * r.val = r.val
    rw [(e0 t).1]; omega
  · show win0_0.index t 1 * 128 + 1 * d.val = t.val * 128 + d.val
    rw [(e0 t).2]; omega

theorem blk1_at (t : Fin cfg0.N) (r : Fin 2048) (d : Fin 128) : iblk m c 1 t (ix2 r d) = A0 m c (ix2 r (hi (cl t d))) := by
  show V m c main_arg0 (((cfg0.win 1).blk t).view.emb (ix2 r d)) = _
  rw [V_main_arg0]
  refine congrArg (m ((c : Thread nD τ).loc main_arg0)) (funext fun a => Fin.ext ?_)
  fin_cases a
  · show win0_1.index t 0 * 2048 + 1 * r.val = r.val
    rw [(e1 t).1]; omega
  · show win0_1.index t 1 * 128 + 1 * d.val = 3072 + (t.val * 128 + d.val)
    rw [(e1 t).2]; omega

theorem blk2_at (t : Fin cfg0.N) (r : Fin 3) (d : Fin 128) : iblk m c 2 t (ix2 r d) = A1 m c (ix2 r (lo (cl t d))) := by
  show V m c main_arg1 (((cfg0.win 2).blk t).view.emb (ix2 r d)) = _
  rw [V_main_arg1]
  refine congrArg (m ((c : Thread nD τ).loc main_arg1)) (funext fun a => Fin.ext ?_)
  fin_cases a
  · show win0_2.index t 0 * 3 + 1 * r.val = r.val
    rw [(e2 t).1]; omega
  · show win0_2.index t 1 * 128 + 1 * d.val = t.val * 128 + d.val
    rw [(e2 t).2]; omega

theorem blk3_at (t : Fin cfg0.N) (r : Fin 3) (d : Fin 128) : iblk m c 3 t (ix2 r d) = A1 m c (ix2 r (hi (cl t d))) := by
  show V m c main_arg1 (((cfg0.win 3).blk t).view.emb (ix2 r d)) = _
  rw [V_main_arg1]
  refine congrArg (m ((c : Thread nD τ).loc main_arg1)) (funext fun a => Fin.ext ?_)
  fin_cases a
  · show win0_3.index t 0 * 3 + 1 * r.val = r.val
    rw [(e3 t).1]; omega
  · show win0_3.index t 1 * 128 + 1 * d.val = 3072 + (t.val * 128 + d.val)
    rw [(e3 t).2]; omega

/-- The array after the run. -/
theorem kernel_value : (dats m 0 c).arrAt 4 cfg0.N = spec (A0 m c) (A1 m c) := by
  refine (dats m 0 c).arrAt_eq_of_covers 4 _ (by decide +kernel) fun t hf y => ?_
  blk_simp
  rw [after0_4, out_eq]
  revert y
  intro (y : S2048x128.Idx)
  idx_vars y
  rw [pay1_at]
  simp only [blk0_at, blk1_at, blk2_at, blk3_at]
  refine congrArg (spec (A0 m c) (A1 m c)) (a₁ := ix2 y0 (cl t y1)) (funext fun a => Fin.ext ?_)
  fin_cases a
  · show y0.val = win0_4.index t 0 * 2048 + 1 * y0.val
    rw [(e4 t).1]; omega
  · show t.val * 128 + y1.val = win0_4.index t 1 * 128 + 1 * y1.val
    rw [(e4 t).2]; omega

/-! ## The reference -/

section Reference

open Cert.Reference47Ideal.Read

variable (x0 : (⟨Cert.Reference47Ideal.S2048x6144, .f32⟩ : BufTy).Contents (Elt Ideal)) (x1 : (⟨Cert.Reference47Ideal.S3x6144, .f32⟩ : BufTy).Contents (Elt Ideal))

theorem v2_at (r : Fin 2048) (j : Fin 6144) : val_main_v2 (F := Ideal) x0 (ix2 r j) = sh 2 (fun e => x0 (ix2 e j)) r := by
  pointwise [val_main_v2, val_main_v1, val_main_v0, val_main_cst, sh]

theorem v10_at (r : Fin 2048) (j : Fin 6144) : val_main_v10 (F := Ideal) x0 (ix2 r j) = sh 1 (fun e => x0 (ix2 e j)) r := by
  pointwise [val_main_v10, val_main_v1, val_main_v0, val_main_cst]
  exact sh_pad 2 1 1 rfl (fun e => x0 (ix2 e j)) r fun _ => by omega

theorem v17_at (r : Fin 2048) (j : Fin 6144) : val_main_v17 (F := Ideal) x0 (ix2 r j) = x0 (ix2 r j) := by
  pointwise [val_main_v17, val_main_v1, val_main_v0, val_main_cst]

theorem v23_at (r : Fin 2048) (j : Fin 6144) :
    val_main_v23 (F := Ideal) x0 x1 (ix2 r j) = conv (fun k => x1 (ix2 k j)) (fun e => x0 (ix2 e j)) r := by
  pointwise [val_main_v23, val_main_v22, val_main_v21, val_main_v20, val_main_v19, val_main_v18, val_main_v16, val_main_v15, val_main_v14, val_main_v13,
    val_main_v12, val_main_v11, val_main_v9, val_main_v8, val_main_v7, val_main_v6, val_main_v5, val_main_v4, val_main_v3, val_main_cst_0, conv]
  simp only [v2_at, v10_at, v17_at, zero_add, mul_comm]

theorem reference_value (i : S2048x3072.Idx) : val_main_v28 (F := Ideal) x0 x1 i = spec x0 x1 i := by
  idx_vars i
  pointwise [val_main_v28, val_main_v27, val_main_v26, val_main_v25, val_main_v24, val_main_call0_v5, val_main_call0_v4, val_main_call0_v3, val_main_call0_v2,
    val_main_call0_v1, val_main_call0_v0, val_main_call0_cst, val_main_call0_cst_0, spec, gate, logi, lo, hi]
  simp only [v23_at]

end Reference

theorem agree : algebraic_Kernel47Ideal_Reference47Ideal (hKernel47Ideal := Cert.Kernel47Ideal.Gen.facts)
    (hReference47Ideal := Cert.Reference47Ideal.Gen.facts) := by
  intro m g m' g' _ ha
  refine ⟨fun c => spec (A0 m c) (A1 m c),
    (θ_run _ _ _).mono (fun r h c => ⟨(h c).1.trans (kernel_value m c), (h c).2⟩) (Cert.Kernel47Ideal.Value.run_blocks m g),
    (θ_run _ _ _).mono (fun r h c => ?_) (Cert.Reference47Ideal.Value.run m' g')⟩
  refine ⟨(h c).1.trans ?_, (h c).2⟩
  rw [Cert.Reference47Ideal.Read.val_main_v28_eq, (ha c).1, (ha c).2]
  exact funext fun i => reference_value _ _ i

end Cert.Proof.GateFwd

end
-- ==== Proof.MixFwd.lean ====
/-
  The token shift and the six mixed rows, a column at a time.
-/
module

public import proofs.«01_k».proof.Defs
public import proofs.«01_k».proof.Proof.Tiles
public import proofs.«01_k».proof.Proof.Shift
public import proofs.«01_k».proof.Proof.Gen.Kernel49Ideal.Value
public import proofs.«01_k».proof.Proof.Gen.Reference49Ideal.Run
public import proofs.«01_k».proof.Proof.Gen.Reference49Ideal.Read
public import Idealize.ShloMosaic.Lib.Pipeline.ValueKit
public import Idealize.ShloMosaic.Lib.Pointwise

@[expose] public section

noncomputable section

namespace Cert.Proof.MixFwd

open Idealize.ShloMosaic Idealize.SL.Sem Cert.Kernel49Ideal Cert.Kernel49Ideal.Gen
open Idealize.ShloMosaic.TcCoe
open Idealize.ShloMosaic.Pipeline (Dat Cfg Window)
open Cert.Proof.Shift (sh sel_sh)
/-- One mixed column: each row moved toward the row above by the factor `f`. -/
def mix (x : Fin 2048 → EReal) (f : EReal) (r : Fin 2048) : EReal := x r + (sh 1 x r - x r) * f

/-- The `i`-th mixed rows. -/
def spec (i : Fin 6) (x : S2048x1024.Idx → EReal) (f : S6x1024.Idx → EReal) : S2048x1024.Idx → EReal := fun j =>
  mix (fun e => x (ix2 e (j 1))) (f (ix2 i (j 1))) (j 0)

/-! ## The body at one grid point -/

section Body

variable (x : Vec Ideal S2048x128 .f32) (f : Vec Ideal S6x128 .f32) (r : Fin 2048) (j : Fin 128)

theorem pay3_at : k0_pay3 (F := Ideal) x (ix2 r j) = sh 1 (fun e => x (ix2 e j)) r - x (ix2 r j) := by
  rw [← sel_sh 1 (by norm_num) (fun e => x (ix2 e j)) r (Nat.mod_lt _ (by norm_num))]
  pointwise [k0_pay3]

theorem mix0_at : k0_pay6 (F := Ideal) x f (ix2 r j) = mix (fun e => x (ix2 e j)) (f (ix2 0 j)) r := by
  pointwise [k0_pay6, mix]
  rw [pay3_at]

theorem mix1_at : k0_pay7 (F := Ideal) x f (ix2 r j) = mix (fun e => x (ix2 e j)) (f (ix2 1 j)) r := by
  pointwise [k0_pay7, mix]
  rw [pay3_at]

theorem mix2_at : k0_pay8 (F := Ideal) x f (ix2 r j) = mix (fun e => x (ix2 e j)) (f (ix2 2 j)) r := by
  pointwise [k0_pay8, mix]
  rw [pay3_at]

theorem mix3_at : k0_pay9 (F := Ideal) x f (ix2 r j) = mix (fun e => x (ix2 e j)) (f (ix2 3 j)) r := by
  pointwise [k0_pay9, mix]
  rw [pay3_at]

theorem mix4_at : k0_pay1 (F := Ideal) (k0_pay4 x f) (ix2 r j) = mix (fun e => x (ix2 e j)) (f (ix2 4 j)) r := by
  pointwise [k0_pay1, k0_pay4, mix]
  rw [pay3_at]

theorem mix5_at : k0_pay2 (F := Ideal) (k0_pay5 x f) (ix2 r j) = mix (fun e => x (ix2 e j)) (f (ix2 5 j)) r := by
  pointwise [k0_pay2, k0_pay5, mix]
  rw [pay3_at]

theorem out0_eq : out0_2 x f = k0_pay6 (F := Ideal) x f := by
  unfold out0_2
  rw [View.canon_unit_zero (S := S2048x128) off2]
  simp only [View.ld_unit_zero (S := S2048x128) off2, View.ld_unit_zero (S := S6x128) off2]

theorem out1_eq : out0_3 x f = k0_pay7 (F := Ideal) x f := by
  unfold out0_3
  rw [View.canon_unit_zero (S := S2048x128) off2]
  simp only [View.ld_unit_zero (S := S2048x128) off2, View.ld_unit_zero (S := S6x128) off2]

theorem out2_eq : out0_4 x f = k0_pay8 (F := Ideal) x f := by
  unfold out0_4
  rw [View.canon_unit_zero (S := S2048x128) off2]
  simp only [View.ld_unit_zero (S := S2048x128) off2, View.ld_unit_zero (S := S6x128) off2]

theorem out3_eq : out0_5 x f = k0_pay9 (F := Ideal) x f := by
  unfold out0_5
  rw [View.canon_unit_zero (S := S2048x128) off2]
  simp only [View.ld_unit_zero (S := S2048x128) off2, View.ld_unit_zero (S := S6x128) off2]

theorem out4_eq : out0_6 x f = k0_pay1 (F := Ideal) (k0_pay4 x f) := by
  unfold out0_6
  rw [View.canon_unit_zero (S := S2048x128) off2]
  simp only [View.ld_unit_zero (S := S2048x128) off2, View.ld_unit_zero (S := S6x128) off2]

theorem out5_eq : out0_7 x f = k0_pay2 (F := Ideal) (k0_pay5 x f) := by
  unfold out0_7
  rw [View.canon_unit_zero (S := S2048x128) off2]
  simp only [View.ld_unit_zero (S := S2048x128) off2, View.ld_unit_zero (S := S6x128) off2]

end Body

/-! ## The blocks -/

variable (m : (ℓ : Loc nD τ sig) → Buf (Elt Ideal) ℓ) (c : Dev nD)

/-- The arguments as launched. -/
abbrev A0 : (⟨2, ![2048, 1024]⟩ : Shape).Idx → EReal := m ((c : Thread nD τ).loc main_arg0)
abbrev A1 : (⟨2, ![6, 1024]⟩ : Shape).Idx → EReal := m ((c : Thread nD τ).loc main_arg1)

theorem e0 : ∀ t : Fin cfg0.N, win0_0.index t 0 = 0 ∧ win0_0.index t 1 = t.val := by decide +kernel
theorem e1 : ∀ t : Fin cfg0.N, win0_1.index t 0 = 0 ∧ win0_1.index t 1 = t.val := by decide +kernel
theorem e2 : ∀ t : Fin cfg0.N, win0_2.index t 0 = 0 ∧ win0_2.index t 1 = t.val := by decide +kernel
theorem e3 : ∀ t : Fin cfg0.N, win0_3.index t 0 = 0 ∧ win0_3.index t 1 = t.val := by decide +kernel
theorem e4 : ∀ t : Fin cfg0.N, win0_4.index t 0 = 0 ∧ win0_4.index t 1 = t.val := by decide +kernel
theorem e5 : ∀ t : Fin cfg0.N, win0_5.index t 0 = 0 ∧ win0_5.index t 1 = t.val := by decide +kernel
theorem e6 : ∀ t : Fin cfg0.N, win0_6.index t 0 = 0 ∧ win0_6.index t 1 = t.val := by decide +kernel
theorem e7 : ∀ t : Fin cfg0.N, win0_7.index t 0 = 0 ∧ win0_7.index t 1 = t.val := by decide +kernel

/-- The column of lane `d` of a grid point's block. -/
def cl (t : Fin cfg0.N) (d : Fin 128) : Fin 1024 := ⟨t.val * 128 + d.val, by have : t.val < 8 := t.isLt; omega⟩

theorem blk0_at (t : Fin cfg0.N) (r : Fin 2048) (d : Fin 128) : iblk m c 0 t (ix2 r d) = A0 m c (ix2 r (cl t d)) := by
  show V m c main_arg0 (((cfg0.win 0).blk t).view.emb (ix2 r d)) = _
  rw [V_main_arg0]
  refine congrArg (m ((c : Thread nD τ).loc main_arg0)) (funext fun a => Fin.ext ?_)
  fin_cases a
  · show win0_0.index t 0 * 2048 + 1 * r.val = r.val
    rw [(e0 t).1]; omega
  · show win0_0.index t 1 * 128 + 1 * d.val = t.val * 128 + d.val
    rw [(e0 t).2]; omega

theorem blk1_at (t : Fin cfg0.N) (r : Fin 6) (d : Fin 128) : iblk m c 1 t (ix2 r d) = A1 m c (ix2 r (cl t d)) := by
  show V m c main_arg1 (((cfg0.win 1).blk t).view.emb (ix2 r d)) = _
  rw [V_main_arg1]
  refine congrArg (m ((c : Thread nD τ).loc main_arg1)) (funext fun a => Fin.ext ?_)
  fin_cases a
  · show win0_1.index t 0 * 6 + 1 * r.val = r.val
    rw [(e1 t).1]; omega
  · show win0_1.index t 1 * 128 + 1 * d.val = t.val * 128 + d.val
    rw [(e1 t).2]; omega

theorem final0 : (dats m 0 c).arrAt 2 cfg0.N = spec 0 (A0 m c) (A1 m c) := by
  refine (dats m 0 c).arrAt_eq_of_covers 2 _ (by decide +kernel) fun t hf y => ?_
  blk_simp
  rw [after0_2, out0_eq]
  revert y
  intro (y : S2048x128.Idx)
  idx_vars y
  rw [mix0_at]
  simp only [blk0_at, blk1_at]
  refine congrArg (spec 0 (A0 m c) (A1 m c)) (a₁ := ix2 y0 (cl t y1)) (funext fun a => Fin.ext ?_)
  fin_cases a
  · show y0.val = win0_2.index t 0 * 2048 + 1 * y0.val
    rw [(e2 t).1]; omega
  · show t.val * 128 + y1.val = win0_2.index t 1 * 128 + 1 * y1.val
    rw [(e2 t).2]; omega

theorem final1 : (dats m 0 c).arrAt 3 cfg0.N = spec 1 (A0 m c) (A1 m c) := by
  refine (dats m 0 c).arrAt_eq_of_covers 3 _ (by decide +kernel) fun t hf y => ?_
  blk_simp
  rw [after0_3, out1_eq]
  revert y
  intro (y : S2048x128.Idx)
  idx_vars y
  rw [mix1_at]
  simp only [blk0_at, blk1_at]
  refine congrArg (spec 1 (A0 m c) (A1 m c)) (a₁ := ix2 y0 (cl t y1)) (funext fun a => Fin.ext ?_)
  fin_cases a
  · show y0.val = win0_3.index t 0 * 2048 + 1 * y0.val
    rw [(e3 t).1]; omega
  · show t.val * 128 + y1.val = win0_3.index t 1 * 128 + 1 * y1.val
    rw [(e3 t).2]; omega

theorem final2 : (dats m 0 c).arrAt 4 cfg0.N = spec 2 (A0 m c) (A1 m c) := by
  refine (dats m 0 c).arrAt_eq_of_covers 4 _ (by decide +kernel) fun t hf y => ?_
  blk_simp
  rw [after0_4, out2_eq]
  revert y
  intro (y : S2048x128.Idx)
  idx_vars y
  rw [mix2_at]
  simp only [blk0_at, blk1_at]
  refine congrArg (spec 2 (A0 m c) (A1 m c)) (a₁ := ix2 y0 (cl t y1)) (funext fun a => Fin.ext ?_)
  fin_cases a
  · show y0.val = win0_4.index t 0 * 2048 + 1 * y0.val
    rw [(e4 t).1]; omega
  · show t.val * 128 + y1.val = win0_4.index t 1 * 128 + 1 * y1.val
    rw [(e4 t).2]; omega

theorem final3 : (dats m 0 c).arrAt 5 cfg0.N = spec 3 (A0 m c) (A1 m c) := by
  refine (dats m 0 c).arrAt_eq_of_covers 5 _ (by decide +kernel) fun t hf y => ?_
  blk_simp
  rw [after0_5, out3_eq]
  revert y
  intro (y : S2048x128.Idx)
  idx_vars y
  rw [mix3_at]
  simp only [blk0_at, blk1_at]
  refine congrArg (spec 3 (A0 m c) (A1 m c)) (a₁ := ix2 y0 (cl t y1)) (funext fun a => Fin.ext ?_)
  fin_cases a
  · show y0.val = win0_5.index t 0 * 2048 + 1 * y0.val
    rw [(e5 t).1]; omega
  · show t.val * 128 + y1.val = win0_5.index t 1 * 128 + 1 * y1.val
    rw [(e5 t).2]; omega

theorem final4 : (dats m 0 c).arrAt 6 cfg0.N = spec 4 (A0 m c) (A1 m c) := by
  refine (dats m 0 c).arrAt_eq_of_covers 6 _ (by decide +kernel) fun t hf y => ?_
  blk_simp
  rw [after0_6, out4_eq]
  revert y
  intro (y : S2048x128.Idx)
  idx_vars y
  rw [mix4_at]
  simp only [blk0_at, blk1_at]
  refine congrArg (spec 4 (A0 m c) (A1 m c)) (a₁ := ix2 y0 (cl t y1)) (funext fun a => Fin.ext ?_)
  fin_cases a
  · show y0.val = win0_6.index t 0 * 2048 + 1 * y0.val
    rw [(e6 t).1]; omega
  · show t.val * 128 + y1.val = win0_6.index t 1 * 128 + 1 * y1.val
    rw [(e6 t).2]; omega

theorem final5 : (dats m 0 c).arrAt 7 cfg0.N = spec 5 (A0 m c) (A1 m c) := by
  refine (dats m 0 c).arrAt_eq_of_covers 7 _ (by decide +kernel) fun t hf y => ?_
  blk_simp
  rw [after0_7, out5_eq]
  revert y
  intro (y : S2048x128.Idx)
  idx_vars y
  rw [mix5_at]
  simp only [blk0_at, blk1_at]
  refine congrArg (spec 5 (A0 m c) (A1 m c)) (a₁ := ix2 y0 (cl t y1)) (funext fun a => Fin.ext ?_)
  fin_cases a
  · show y0.val = win0_7.index t 0 * 2048 + 1 * y0.val
    rw [(e7 t).1]; omega
  · show t.val * 128 + y1.val = win0_7.index t 1 * 128 + 1 * y1.val
    rw [(e7 t).2]; omega

/-! ## The reference -/

section Reference

open Cert.Reference49Ideal.Read

variable (x0 : (⟨Cert.Reference49Ideal.S2048x1024, .f32⟩ : BufTy).Contents (Elt Ideal)) (x1 : (⟨Cert.Reference49Ideal.S6x1024, .f32⟩ : BufTy).Contents (Elt Ideal))

theorem v3_at (r : Fin 2048) (j : Fin 1024) :
    val_main_v3 (F := Ideal) x0 (ix2 r j) = sh 1 (fun e => x0 (ix2 e j)) r - x0 (ix2 r j) := by
  pointwise [val_main_v3, val_main_v2, val_main_v1, val_main_v0, val_main_cst, sh]

theorem v40_at (i : S2048x1024.Idx) : val_main_v40 (F := Ideal) x0 x1 i = spec 0 x0 x1 i := by
  idx_vars i
  pointwise [val_main_v40, val_main_v9, val_main_v8, val_main_v7, val_main_v6, val_main_v5, val_main_v4, spec, mix]
  rw [v3_at]

theorem v41_at (i : S2048x1024.Idx) : val_main_v41 (F := Ideal) x0 x1 i = spec 1 x0 x1 i := by
  idx_vars i
  pointwise [val_main_v41, val_main_v15, val_main_v14, val_main_v13, val_main_v12, val_main_v11, val_main_v10, spec, mix]
  rw [v3_at]

theorem v42_at (i : S2048x1024.Idx) : val_main_v42 (F := Ideal) x0 x1 i = spec 2 x0 x1 i := by
  idx_vars i
  pointwise [val_main_v42, val_main_v21, val_main_v20, val_main_v19, val_main_v18, val_main_v17, val_main_v16, spec, mix]
  rw [v3_at]

theorem v43_at (i : S2048x1024.Idx) : val_main_v43 (F := Ideal) x0 x1 i = spec 3 x0 x1 i := by
  idx_vars i
  pointwise [val_main_v43, val_main_v27, val_main_v26, val_main_v25, val_main_v24, val_main_v23, val_main_v22, spec, mix]
  rw [v3_at]

theorem v44_at (i : S2048x1024.Idx) : val_main_v44 (F := Ideal) x0 x1 i = spec 4 x0 x1 i := by
  idx_vars i
  pointwise [val_main_v44, val_main_v33, val_main_v32, val_main_v31, val_main_v30, val_main_v29, val_main_v28, spec, mix]
  rw [v3_at]

theorem v45_at (i : S2048x1024.Idx) : val_main_v45 (F := Ideal) x0 x1 i = spec 5 x0 x1 i := by
  idx_vars i
  pointwise [val_main_v45, val_main_v39, val_main_v38, val_main_v37, val_main_v36, val_main_v35, val_main_v34, spec, mix]
  rw [v3_at]

end Reference

theorem agree : algebraic_Kernel49Ideal_Reference49Ideal (hKernel49Ideal := Cert.Kernel49Ideal.Gen.facts)
    (hReference49Ideal := Cert.Reference49Ideal.Gen.facts) := by
  intro m g m' g' _ ha
  refine ⟨fun c => spec 0 (A0 m c) (A1 m c), fun c => spec 1 (A0 m c) (A1 m c), fun c => spec 2 (A0 m c) (A1 m c), fun c => spec 3 (A0 m c) (A1 m c), fun c => spec 4 (A0 m c) (A1 m c), fun c => spec 5 (A0 m c) (A1 m c),
    (θ_run _ _ _).mono (fun r h c => ⟨(h c).1.trans (final0 m c), (h c).2.1.trans (final1 m c), (h c).2.2.1.trans (final2 m c), (h c).2.2.2.1.trans (final3 m c), (h c).2.2.2.2.1.trans (final4 m c), (h c).2.2.2.2.2.1.trans (final5 m c), (h c).2.2.2.2.2.2⟩)
      (Cert.Kernel49Ideal.Value.run_blocks m g),
    (θ_run _ _ _).mono (fun r h c => ?_) (Cert.Reference49Ideal.Value.run m' g')⟩
  obtain ⟨e0, e1⟩ := ha c
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
  · rw [e0, e1]
    exact (Cert.Reference49Ideal.Read.val_main_v40_eq _ _).trans (funext fun i => v40_at _ _ i)
  · rw [e0, e1]
    exact (Cert.Reference49Ideal.Read.val_main_v41_eq _ _).trans (funext fun i => v41_at _ _ i)
  · rw [e0, e1]
    exact (Cert.Reference49Ideal.Read.val_main_v42_eq _ _).trans (funext fun i => v42_at _ _ i)
  · rw [e0, e1]
    exact (Cert.Reference49Ideal.Read.val_main_v43_eq _ _).trans (funext fun i => v43_at _ _ i)
  · rw [e0, e1]
    exact (Cert.Reference49Ideal.Read.val_main_v44_eq _ _).trans (funext fun i => v44_at _ _ i)
  · rw [e0, e1]
    exact (Cert.Reference49Ideal.Read.val_main_v45_eq _ _).trans (funext fun i => v45_at _ _ i)

end Cert.Proof.MixFwd

end
-- ==== Proof.MixBwd.lean ====
/-
  The gradients of the token shift's six mixed rows: in the rows, each entry moved back up to the row it came from, and in the six
  factors, a column at a time.
-/
module

public import proofs.«01_k».proof.Defs
public import proofs.«01_k».proof.Proof.Tiles
public import proofs.«01_k».proof.Proof.Shift
public import Idealize.ShloMosaic.Lib.KernelVsHost
public import proofs.«01_k».proof.Proof.Gen.Kernel50Ideal.Value
public import proofs.«01_k».proof.Proof.Gen.Reference50Ideal.Run
public import proofs.«01_k».proof.Proof.Gen.Reference50Ideal.Read
public import Idealize.ShloMosaic.Lib.Pipeline.ValueKit
public import Idealize.ShloMosaic.Lib.Pointwise

@[expose] public section

noncomputable section

namespace Cert.Proof.MixBwd

open Idealize.ShloMosaic Idealize.SL.Sem Cert.Kernel50Ideal Cert.Kernel50Ideal.Gen
open Idealize.ShloMosaic.TcCoe
open Idealize.ShloMosaic.Pipeline (Dat Cfg Window)
open Cert.Proof.Shift (sh sel_sh up sel_up)
/-- The sum of six entries, and their sum weighted by the six factors. -/
def tot (d : Fin 6 → EReal) : EReal := d 0 + d 1 + d 2 + d 3 + d 4 + d 5
def wtot (f d : Fin 6 → EReal) : EReal := d 0 * f 0 + d 1 * f 1 + d 2 * f 2 + d 3 * f 3 + d 4 * f 4 + d 5 * f 5

/-- The gradient in the rows, down one column. -/
def dcol (f : Fin 6 → EReal) (d : Fin 2048 → Fin 6 → EReal) (r : Fin 2048) : EReal :=
  tot (d r) - wtot f (d r) + up (fun e => wtot f (d e)) r

/-- The gradient in one factor. -/
def dfac (x d : Fin 2048 → EReal) : EReal := ∑ r, d r * (sh 1 x r - x r)

/-- The six factors' gradients over two rows of zeros. -/
def rows (x : Fin 2048 → EReal) (d : Fin 2048 → Fin 6 → EReal) (i : Fin 8) : EReal :=
  if h : i.val < 6 then dfac x fun e => d e ⟨i.val, h⟩ else 0

/-! ## The body at one grid point -/

section Body

variable (x d0 d1 d2 d3 d4 d5 : Vec Ideal S2048x128 .f32) (f : Vec Ideal S6x128 .f32) (r : Fin 2048) (j : Fin 128)

/-- The six cotangents of a column. -/
abbrev six (e : Fin 2048) : Fin 6 → EReal := ![d0 (ix2 e j), d1 (ix2 e j), d2 (ix2 e j), d3 (ix2 e j), d4 (ix2 e j), d5 (ix2 e j)]

theorem pay2_at : k0_pay2 (F := Ideal) x (ix2 r j) = sh 1 (fun e => x (ix2 e j)) r - x (ix2 r j) := by
  rw [← sel_sh 1 (by norm_num) (fun e => x (ix2 e j)) r (Nat.mod_lt _ (by norm_num))]
  pointwise [k0_pay2]

theorem pay3_at : k0_pay3 (F := Ideal) x d0 (ix2 0 j) = dfac (fun e => x (ix2 e j)) fun e => d0 (ix2 e j) := by
  pointwise [k0_pay3, dfac]
  simp only [pay2_at]

theorem pay4_at : k0_pay4 (F := Ideal) x d1 (ix2 0 j) = dfac (fun e => x (ix2 e j)) fun e => d1 (ix2 e j) := by
  pointwise [k0_pay4, dfac]
  simp only [pay2_at]

theorem pay7_at : k0_pay7 (F := Ideal) x d2 (ix2 0 j) = dfac (fun e => x (ix2 e j)) fun e => d2 (ix2 e j) := by
  pointwise [k0_pay7, dfac]
  simp only [pay2_at]

theorem pay8_at : k0_pay8 (F := Ideal) d3 (k0_pay2 x) (ix2 0 j) = dfac (fun e => x (ix2 e j)) fun e => d3 (ix2 e j) := by
  pointwise [k0_pay8, dfac]
  simp only [pay2_at]

theorem pay9_at : k0_pay9 (F := Ideal) d4 (k0_pay2 x) (ix2 0 j) = dfac (fun e => x (ix2 e j)) fun e => d4 (ix2 e j) := by
  pointwise [k0_pay9, dfac]
  simp only [pay2_at]

theorem pay10_at : k0_pay10 (F := Ideal) d5 (k0_pay2 x) (ix2 0 j) = dfac (fun e => x (ix2 e j)) fun e => d5 (ix2 e j) := by
  pointwise [k0_pay10, dfac]
  simp only [pay2_at]

/-- A block's columns moved up a row, and the two sums of a block's entries. -/
def lift (y : Vec Ideal S2048x128 .f32) : Vec Ideal S2048x128 .f32 :=
  select (cmpi .slt (iota .tc S2048x128 32 [0] iota_S2048x128_d0_w32) (broadcast S2048x128 2047#32))
    (dynamicRotate 0 2047#32 none y rotates_S2048x128_d0) (broadcast S2048x128 (Scalar.ofBits (F := Ideal) .f32 0x00000000#32))
def wsum : Vec Ideal S2048x128 .f32 := fun i => wtot (fun k => f (ix2 k (i 1))) (six d0 d1 d2 d3 d4 d5 (i 1) (i 0))

theorem lift_at (y : Vec Ideal S2048x128 .f32) : lift y (ix2 r j) = up (fun e => y (ix2 e j)) r := by
  have hrot : dynamicRotate 0 2047#32 none y rotates_S2048x128_d0 (ix2 r j)
      = y (ix2 ⟨(r.val + 2048 - 2047) % 2048, Nat.mod_lt _ (by norm_num)⟩ j) := by
    rw [Pointwise.dynamicRotate_apply]
    refine congrArg y (funext fun b => ?_)
    fin_cases b <;> rfl
  rw [← sel_up (fun e => y (ix2 e j)) r (Nat.mod_lt _ (by norm_num))]
  unfold lift
  have hz : Scalar.ofBits (F := Ideal) .f32 0x00000000#32 = (0 : EReal) := by pointwise []
  have hi : iota .tc S2048x128 32 [0] iota_S2048x128_d0_w32 (ix2 r j) = BitVec.ofNat 32 r.val := by pointwise []
  rw [hz]
  show Scalar.select (IntOp.cmpi .slt (iota .tc S2048x128 32 [0] iota_S2048x128_d0_w32 (ix2 r j)) 2047#32)
    (dynamicRotate 0 2047#32 none y rotates_S2048x128_d0 (ix2 r j)) (0 : EReal) = _
  rw [hi, hrot]

theorem wsum_eq : addf (addf (addf (k0_pay6 f d0 d1 d2)
      (mulf d3 (broadcastTo S2048x128 (extractStridedSlice S1x128 ![3, 0] f slices_S6x128_o3_0_S1x128) broadcasts_S1x128_S2048x128)))
      (mulf d4 (broadcastTo S2048x128 (extractStridedSlice S1x128 ![4, 0] f slices_S6x128_o4_0_S1x128) broadcasts_S1x128_S2048x128)))
      (mulf d5 (broadcastTo S2048x128 (extractStridedSlice S1x128 ![5, 0] f slices_S6x128_o5_0_S1x128) broadcasts_S1x128_S2048x128))
    = wsum d0 d1 d2 d3 d4 d5 f := by
  funext i
  idx_vars i
  pointwise [k0_pay6, wsum, wtot, six]

theorem pay11_at : k0_pay11 (F := Ideal) f d3 d4 d5 (k0_pay5 d0 d1 d2) (k0_pay6 f d0 d1 d2) (ix2 r j)
    = dcol (fun k => f (ix2 k j)) (six d0 d1 d2 d3 d4 d5 j) r := by
  unfold k0_pay11
  simp only [wsum_eq]
  show addf (addf (addf (k0_pay5 d0 d1 d2) d3) d4) d5 (ix2 r j) - wsum d0 d1 d2 d3 d4 d5 f (ix2 r j) + lift (wsum d0 d1 d2 d3 d4 d5 f) (ix2 r j) = _
  rw [lift_at]
  pointwise [k0_pay5, dcol, tot, wsum, six]

theorem pay1_at (i : Fin 8) : k0_pay1 (F := Ideal) (k0_pay8 d3 (k0_pay2 x)) (k0_pay9 d4 (k0_pay2 x)) (k0_pay10 d5 (k0_pay2 x))
      (iota .tc S8x128 32 [0] iota_S8x128_d0_w32) (k0_pay12 (k0_pay3 x d0) (k0_pay4 x d1) (k0_pay7 x d2)) 3#32 (ix2 i j)
    = rows (fun e => x (ix2 e j)) (six d0 d1 d2 d3 d4 d5 j) i := by
  pointwise [k0_pay1, k0_pay12]
  simp only [pay3_at, pay4_at, pay7_at, pay8_at, pay9_at, pay10_at]
  fin_cases i <;> rfl

theorem out8_eq : out0_8 x f d0 d1 d2 d3 d4 d5 = k0_pay11 (F := Ideal) f d3 d4 d5 (k0_pay5 d0 d1 d2) (k0_pay6 f d0 d1 d2) := by
  unfold out0_8
  rw [View.canon_unit_zero (S := S2048x128) off2]
  simp only [View.ld_unit_zero (S := S2048x128) off2, View.ld_unit_zero (S := S6x128) off2]

theorem out9_eq : out0_9 x f d0 d1 d2 d3 d4 d5 = k0_pay1 (F := Ideal) (k0_pay8 d3 (k0_pay2 x)) (k0_pay9 d4 (k0_pay2 x)) (k0_pay10 d5 (k0_pay2 x))
      (iota .tc S8x128 32 [0] iota_S8x128_d0_w32) (k0_pay12 (k0_pay3 x d0) (k0_pay4 x d1) (k0_pay7 x d2)) 3#32 := by
  unfold_out out0_9
  rw [View.canon_unit_zero (S := S8x128) off2]
  simp only [View.ld_unit_zero (S := S2048x128) off2, View.ld_unit_zero (S := S6x128) off2]

end Body

/-! ## The blocks -/

variable (m : (ℓ : Loc nD τ sig) → Buf (Elt Ideal) ℓ) (c : Dev nD)

/-- The arguments as launched. -/
abbrev A0 : (⟨2, ![2048, 1024]⟩ : Shape).Idx → EReal := m ((c : Thread nD τ).loc main_arg0)
abbrev A1 : (⟨2, ![6, 1024]⟩ : Shape).Idx → EReal := m ((c : Thread nD τ).loc main_arg1)
abbrev A2 : (⟨2, ![2048, 1024]⟩ : Shape).Idx → EReal := m ((c : Thread nD τ).loc main_arg2)
abbrev A3 : (⟨2, ![2048, 1024]⟩ : Shape).Idx → EReal := m ((c : Thread nD τ).loc main_arg3)
abbrev A4 : (⟨2, ![2048, 1024]⟩ : Shape).Idx → EReal := m ((c : Thread nD τ).loc main_arg4)
abbrev A5 : (⟨2, ![2048, 1024]⟩ : Shape).Idx → EReal := m ((c : Thread nD τ).loc main_arg5)
abbrev A6 : (⟨2, ![2048, 1024]⟩ : Shape).Idx → EReal := m ((c : Thread nD τ).loc main_arg6)
abbrev A7 : (⟨2, ![2048, 1024]⟩ : Shape).Idx → EReal := m ((c : Thread nD τ).loc main_arg7)

theorem e0 : ∀ t : Fin cfg0.N, win0_0.index t 0 = 0 ∧ win0_0.index t 1 = t.val := by decide +kernel
theorem e1 : ∀ t : Fin cfg0.N, win0_1.index t 0 = 0 ∧ win0_1.index t 1 = t.val := by decide +kernel
theorem e2 : ∀ t : Fin cfg0.N, win0_2.index t 0 = 0 ∧ win0_2.index t 1 = t.val := by decide +kernel
theorem e3 : ∀ t : Fin cfg0.N, win0_3.index t 0 = 0 ∧ win0_3.index t 1 = t.val := by decide +kernel
theorem e4 : ∀ t : Fin cfg0.N, win0_4.index t 0 = 0 ∧ win0_4.index t 1 = t.val := by decide +kernel
theorem e5 : ∀ t : Fin cfg0.N, win0_5.index t 0 = 0 ∧ win0_5.index t 1 = t.val := by decide +kernel
theorem e6 : ∀ t : Fin cfg0.N, win0_6.index t 0 = 0 ∧ win0_6.index t 1 = t.val := by decide +kernel
theorem e7 : ∀ t : Fin cfg0.N, win0_7.index t 0 = 0 ∧ win0_7.index t 1 = t.val := by decide +kernel
theorem e8 : ∀ t : Fin cfg0.N, win0_8.index t 0 = 0 ∧ win0_8.index t 1 = t.val := by decide +kernel
theorem e9 : ∀ t : Fin cfg0.N, win0_9.index t 0 = 0 ∧ win0_9.index t 1 = t.val := by decide +kernel

/-- The column of lane `d` of a grid point's block. -/
def cl (t : Fin cfg0.N) (d : Fin 128) : Fin 1024 := ⟨t.val * 128 + d.val, by have : t.val < 8 := t.isLt; omega⟩

theorem blk0_at (t : Fin cfg0.N) (r : Fin 2048) (d : Fin 128) : iblk m c 0 t (ix2 r d) = A0 m c (ix2 r (cl t d)) := by
  show V m c main_arg0 (((cfg0.win 0).blk t).view.emb (ix2 r d)) = _
  rw [V_main_arg0]
  refine congrArg (m ((c : Thread nD τ).loc main_arg0)) (funext fun a => Fin.ext ?_)
  fin_cases a
  · show win0_0.index t 0 * 2048 + 1 * r.val = r.val
    rw [(e0 t).1]; omega
  · show win0_0.index t 1 * 128 + 1 * d.val = t.val * 128 + d.val
    rw [(e0 t).2]; omega

theorem blk1_at (t : Fin cfg0.N) (r : Fin 6) (d : Fin 128) : iblk m c 1 t (ix2 r d) = A1 m c (ix2 r (cl t d)) := by
  show V m c main_arg1 (((cfg0.win 1).blk t).view.emb (ix2 r d)) = _
  rw [V_main_arg1]
  refine congrArg (m ((c : Thread nD τ).loc main_arg1)) (funext fun a => Fin.ext ?_)
  fin_cases a
  · show win0_1.index t 0 * 6 + 1 * r.val = r.val
    rw [(e1 t).1]; omega
  · show win0_1.index t 1 * 128 + 1 * d.val = t.val * 128 + d.val
    rw [(e1 t).2]; omega

theorem blk2_at (t : Fin cfg0.N) (r : Fin 2048) (d : Fin 128) : iblk m c 2 t (ix2 r d) = A2 m c (ix2 r (cl t d)) := by
  show V m c main_arg2 (((cfg0.win 2).blk t).view.emb (ix2 r d)) = _
  rw [V_main_arg2]
  refine congrArg (m ((c : Thread nD τ).loc main_arg2)) (funext fun a => Fin.ext ?_)
  fin_cases a
  · show win0_2.index t 0 * 2048 + 1 * r.val = r.val
    rw [(e2 t).1]; omega
  · show win0_2.index t 1 * 128 + 1 * d.val = t.val * 128 + d.val
    rw [(e2 t).2]; omega

theorem blk3_at (t : Fin cfg0.N) (r : Fin 2048) (d : Fin 128) : iblk m c 3 t (ix2 r d) = A3 m c (ix2 r (cl t d)) := by
  show V m c main_arg3 (((cfg0.win 3).blk t).view.emb (ix2 r d)) = _
  rw [V_main_arg3]
  refine congrArg (m ((c : Thread nD τ).loc main_arg3)) (funext fun a => Fin.ext ?_)
  fin_cases a
  · show win0_3.index t 0 * 2048 + 1 * r.val = r.val
    rw [(e3 t).1]; omega
  · show win0_3.index t 1 * 128 + 1 * d.val = t.val * 128 + d.val
    rw [(e3 t).2]; omega

theorem blk4_at (t : Fin cfg0.N) (r : Fin 2048) (d : Fin 128) : iblk m c 4 t (ix2 r d) = A4 m c (ix2 r (cl t d)) := by
  show V m c main_arg4 (((cfg0.win 4).blk t).view.emb (ix2 r d)) = _
  rw [V_main_arg4]
  refine congrArg (m ((c : Thread nD τ).loc main_arg4)) (funext fun a => Fin.ext ?_)
  fin_cases a
  · show win0_4.index t 0 * 2048 + 1 * r.val = r.val
    rw [(e4 t).1]; omega
  · show win0_4.index t 1 * 128 + 1 * d.val = t.val * 128 + d.val
    rw [(e4 t).2]; omega

theorem blk5_at (t : Fin cfg0.N) (r : Fin 2048) (d : Fin 128) : iblk m c 5 t (ix2 r d) = A5 m c (ix2 r (cl t d)) := by
  show V m c main_arg5 (((cfg0.win 5).blk t).view.emb (ix2 r d)) = _
  rw [V_main_arg5]
  refine congrArg (m ((c : Thread nD τ).loc main_arg5)) (funext fun a => Fin.ext ?_)
  fin_cases a
  · show win0_5.index t 0 * 2048 + 1 * r.val = r.val
    rw [(e5 t).1]; omega
  · show win0_5.index t 1 * 128 + 1 * d.val = t.val * 128 + d.val
    rw [(e5 t).2]; omega

theorem blk6_at (t : Fin cfg0.N) (r : Fin 2048) (d : Fin 128) : iblk m c 6 t (ix2 r d) = A6 m c (ix2 r (cl t d)) := by
  show V m c main_arg6 (((cfg0.win 6).blk t).view.emb (ix2 r d)) = _
  rw [V_main_arg6]
  refine congrArg (m ((c : Thread nD τ).loc main_arg6)) (funext fun a => Fin.ext ?_)
  fin_cases a
  · show win0_6.index t 0 * 2048 + 1 * r.val = r.val
    rw [(e6 t).1]; omega
  · show win0_6.index t 1 * 128 + 1 * d.val = t.val * 128 + d.val
    rw [(e6 t).2]; omega

theorem blk7_at (t : Fin cfg0.N) (r : Fin 2048) (d : Fin 128) : iblk m c 7 t (ix2 r d) = A7 m c (ix2 r (cl t d)) := by
  show V m c main_arg7 (((cfg0.win 7).blk t).view.emb (ix2 r d)) = _
  rw [V_main_arg7]
  refine congrArg (m ((c : Thread nD τ).loc main_arg7)) (funext fun a => Fin.ext ?_)
  fin_cases a
  · show win0_7.index t 0 * 2048 + 1 * r.val = r.val
    rw [(e7 t).1]; omega
  · show win0_7.index t 1 * 128 + 1 * d.val = t.val * 128 + d.val
    rw [(e7 t).2]; omega

/-- A column of the six cotangents. -/
def cts (d0 d1 d2 d3 d4 d5 : S2048x1024.Idx → EReal) (j : Fin 1024) (e : Fin 2048) : Fin 6 → EReal := ![d0 (ix2 e j), d1 (ix2 e j), d2 (ix2 e j), d3 (ix2 e j), d4 (ix2 e j), d5 (ix2 e j)]

/-- The gradient in the rows, and in the six factors. -/
def dx (_x : S2048x1024.Idx → EReal) (f : S6x1024.Idx → EReal) (d0 d1 d2 d3 d4 d5 : S2048x1024.Idx → EReal) : S2048x1024.Idx → EReal := fun i =>
  dcol (fun k => f (ix2 k (i 1))) (cts d0 d1 d2 d3 d4 d5 (i 1)) (i 0)
def df (x : S2048x1024.Idx → EReal) (_f : S6x1024.Idx → EReal) (d0 d1 d2 d3 d4 d5 : S2048x1024.Idx → EReal) : S8x1024.Idx → EReal := fun i =>
  rows (fun e => x (ix2 e (i 1))) (cts d0 d1 d2 d3 d4 d5 (i 1)) (i 0)

theorem six_blk (t : Fin cfg0.N) (j : Fin 128) :
    six (iblk m c 2 t) (iblk m c 3 t) (iblk m c 4 t) (iblk m c 5 t) (iblk m c 6 t) (iblk m c 7 t) j
      = cts (A2 m c) (A3 m c) (A4 m c) (A5 m c) (A6 m c) (A7 m c) (cl t j) := by
  funext e
  show ![iblk m c 2 t (ix2 e j), iblk m c 3 t (ix2 e j), iblk m c 4 t (ix2 e j), iblk m c 5 t (ix2 e j), iblk m c 6 t (ix2 e j), iblk m c 7 t (ix2 e j)] = _
  rw [blk2_at, blk3_at, blk4_at, blk5_at, blk6_at, blk7_at]
  rfl

theorem final_dx : (dats m 0 c).arrAt 8 cfg0.N = dx (A0 m c) (A1 m c) (A2 m c) (A3 m c) (A4 m c) (A5 m c) (A6 m c) (A7 m c) := by
  refine (dats m 0 c).arrAt_eq_of_covers 8 _ (by decide +kernel) fun t hf y => ?_
  blk_simp
  rw [after0_8, out8_eq]
  revert y
  intro (y : S2048x128.Idx)
  idx_vars y
  rw [pay11_at]
  rw [six_blk]
  simp only [blk0_at, blk1_at]
  refine congrArg (dx (A0 m c) (A1 m c) (A2 m c) (A3 m c) (A4 m c) (A5 m c) (A6 m c) (A7 m c)) (a₁ := ix2 y0 (cl t y1)) (funext fun a => Fin.ext ?_)
  fin_cases a
  · show y0.val = win0_8.index t 0 * 2048 + 1 * y0.val
    rw [(e8 t).1]; omega
  · show t.val * 128 + y1.val = win0_8.index t 1 * 128 + 1 * y1.val
    rw [(e8 t).2]; omega

theorem final_df : (dats m 0 c).arrAt 9 cfg0.N = df (A0 m c) (A1 m c) (A2 m c) (A3 m c) (A4 m c) (A5 m c) (A6 m c) (A7 m c) := by
  refine (dats m 0 c).arrAt_eq_of_covers 9 _ (by decide +kernel) fun t hf y => ?_
  blk_simp
  rw [after0_9, out9_eq]
  revert y
  intro (y : S8x128.Idx)
  idx_vars y
  rw [pay1_at]
  rw [six_blk]
  simp only [blk0_at, blk1_at]
  refine congrArg (df (A0 m c) (A1 m c) (A2 m c) (A3 m c) (A4 m c) (A5 m c) (A6 m c) (A7 m c)) (a₁ := ix2 y0 (cl t y1)) (funext fun a => Fin.ext ?_)
  fin_cases a
  · show y0.val = win0_9.index t 0 * 8 + 1 * y0.val
    rw [(e9 t).1]; omega
  · show t.val * 128 + y1.val = win0_9.index t 1 * 128 + 1 * y1.val
    rw [(e9 t).2]; omega

/-! ## The reference -/

section Reference

open Cert.Reference50Ideal.Read

variable (x0 x2 x3 x4 x5 x6 x7 : (⟨Cert.Reference50Ideal.S2048x1024, .f32⟩ : BufTy).Contents (Elt Ideal)) (x1 : (⟨Cert.Reference50Ideal.S6x1024, .f32⟩ : BufTy).Contents (Elt Ideal))

theorem v4_at (r : Fin 2048) (j : Fin 1024) :
    val_main_v4 (F := Ideal) x0 (ix2 r j) = sh 1 (fun e => x0 (ix2 e j)) r - x0 (ix2 r j) := by
  pointwise [val_main_v4, val_main_v3, val_main_v1, val_main_v0, val_main_cst, sh]

theorem v99_at (r : Fin 2048) (j : Fin 1024) : val_main_v99 (F := Ideal) x2 x3 x4 x5 x6 x7 (ix2 r j) = tot (cts x2 x3 x4 x5 x6 x7 j r) := by
  pointwise [val_main_v99, val_main_v87, val_main_v75, val_main_v63, val_main_v51, tot, cts]
  ac_rfl

theorem v105_at (r : Fin 2048) (j : Fin 1024) :
    val_main_v105 (F := Ideal) x1 x2 x3 x4 x5 x6 x7 (ix2 r j) = wtot (fun k => x1 (ix2 k j)) (cts x2 x3 x4 x5 x6 x7 j r) := by
  pointwise [val_main_v105, val_main_v104, val_main_v103, val_main_v98, val_main_v93, val_main_v92, val_main_v91, val_main_v86, val_main_v81, val_main_v80, val_main_v79, val_main_v74, val_main_v69, val_main_v68, val_main_v67, val_main_v62, val_main_v57, val_main_v56, val_main_v55, val_main_v50, val_main_v46, val_main_v45, val_main_v41, val_main_v37, val_main_v36, val_main_v35, val_main_v31, val_main_v30, val_main_v29, val_main_v25, val_main_v24, val_main_v23, val_main_v19, val_main_v18, val_main_v17, val_main_v13, val_main_v12, val_main_v11, val_main_v7, val_main_v6, val_main_v5, wtot, cts]
  ac_rfl

theorem v115_at (i : S2048x1024.Idx) : val_main_v115 (F := Ideal) x1 x2 x3 x4 x5 x6 x7 i = dx x0 x1 x2 x3 x4 x5 x6 x7 i := by
  idx_vars i
  pointwise [val_main_v115, val_main_v114, val_main_v112, val_main_v111, val_main_v110, val_main_cst_19, dx, dcol, up]
  simp only [v99_at, v105_at]
  rw [sub_eq_add_neg]

theorem v48_at (j : Fin 1024) : val_main_v48 (F := Ideal) x0 x7 (ix2 0 j) = dfac (fun e => x0 (ix2 e j)) fun e => x7 (ix2 e j) := by
  pointwise [val_main_v48, val_main_v47, val_main_v44, val_main_v43, val_main_v42, val_main_v41, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, dfac]
  simp only [v4_at, Fin.sum_univ_one, mul_comm]

theorem v59_at (j : Fin 1024) : val_main_v59 (F := Ideal) x0 x6 (ix2 0 j) = dfac (fun e => x0 (ix2 e j)) fun e => x6 (ix2 e j) := by
  pointwise [val_main_v59, val_main_v58, val_main_v54, val_main_v53, val_main_v52, val_main_v50, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, dfac]
  simp only [v4_at, Fin.sum_univ_one, mul_comm]

theorem v71_at (j : Fin 1024) : val_main_v71 (F := Ideal) x0 x5 (ix2 0 j) = dfac (fun e => x0 (ix2 e j)) fun e => x5 (ix2 e j) := by
  pointwise [val_main_v71, val_main_v70, val_main_v66, val_main_v65, val_main_v64, val_main_v62, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, dfac]
  simp only [v4_at, Fin.sum_univ_one, mul_comm]

theorem v83_at (j : Fin 1024) : val_main_v83 (F := Ideal) x0 x4 (ix2 0 j) = dfac (fun e => x0 (ix2 e j)) fun e => x4 (ix2 e j) := by
  pointwise [val_main_v83, val_main_v82, val_main_v78, val_main_v77, val_main_v76, val_main_v74, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, dfac]
  simp only [v4_at, Fin.sum_univ_one, mul_comm]

theorem v95_at (j : Fin 1024) : val_main_v95 (F := Ideal) x0 x3 (ix2 0 j) = dfac (fun e => x0 (ix2 e j)) fun e => x3 (ix2 e j) := by
  pointwise [val_main_v95, val_main_v94, val_main_v90, val_main_v89, val_main_v88, val_main_v86, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, dfac]
  simp only [v4_at, Fin.sum_univ_one, mul_comm]

theorem v107_at (j : Fin 1024) : val_main_v107 (F := Ideal) x0 x2 (ix2 0 j) = dfac (fun e => x0 (ix2 e j)) fun e => x2 (ix2 e j) := by
  pointwise [val_main_v107, val_main_v106, val_main_v102, val_main_v101, val_main_v100, val_main_v98, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, dfac]
  simp only [v4_at, Fin.sum_univ_one, mul_comm]

theorem pad_row (l hi : ℕ) (x : (⟨Cert.Reference50Ideal.S1x1024, .f32⟩ : BufTy).Contents (Elt Ideal)) (v : (⟨Cert.Reference50Ideal.S_, .f32⟩ : BufTy).Contents (Elt Ideal))
    (h : Cert.Reference50Ideal.S1x1024.Pads (![l, 0] : Fin 2 → ℕ) ![hi, 0] ![0, 0] Cert.Reference50Ideal.S6x1024) (hu : 0 < Cert.Reference50Ideal.S_.numel)
    (k : Fin 6) (j : Fin 1024) :
    pad Cert.Reference50Ideal.S6x1024 ![l, 0] ![hi, 0] ![0, 0] x v h hu (ix2 k j) = if k.val = l then x (ix2 0 j) else v (Shape.Idx.first hu) := by
  by_cases hk : k.val = l
  · rw [if_pos hk]
    refine pad_apply_of_inside _ _ _ x v h hu (ix2 k j) (ix2 0 j) fun a => ?_
    fin_cases a
    · show k.val = l + 0 * (0 + 1)
      omega
    · show j.val = 0 + j.val * (0 + 1)
      omega
  · rw [if_neg hk]
    refine pad_apply_of_not_inside _ _ _ x v h hu (ix2 k j) 0 fun ha => hk ?_
    have h1 : l ≤ k.val := ha.1
    have h2 : (k.val - l) / (0 + 1) < 1 := ha.2.2
    rw [Nat.div_one] at h2
    omega

theorem zero : FloatOps.ofBits (F := Ideal) .f32 0x00000000#32 = (0 : EReal) := by pointwise []

theorem v109_at (k : Fin 6) (j : Fin 1024) : val_main_v109 (F := Ideal) x0 x2 x3 x4 x5 x6 x7 (ix2 k j) = dfac (fun e => x0 (ix2 e j)) fun e => cts x2 x3 x4 x5 x6 x7 j e k := by
  have p0 : val_main_v49 (F := Ideal) x0 x7 (ix2 k j) = if k.val = 5 then val_main_v48 (F := Ideal) x0 x7 (ix2 0 j) else 0 :=
    (pad_row 5 0 _ _ _ _ k j).trans (congrArg (fun e => if k.val = 5 then val_main_v48 (F := Ideal) x0 x7 (ix2 0 j) else e) zero)
  have p1 : val_main_v60 (F := Ideal) x0 x6 (ix2 k j) = if k.val = 4 then val_main_v59 (F := Ideal) x0 x6 (ix2 0 j) else 0 :=
    (pad_row 4 1 _ _ _ _ k j).trans (congrArg (fun e => if k.val = 4 then val_main_v59 (F := Ideal) x0 x6 (ix2 0 j) else e) zero)
  have p2 : val_main_v72 (F := Ideal) x0 x5 (ix2 k j) = if k.val = 3 then val_main_v71 (F := Ideal) x0 x5 (ix2 0 j) else 0 :=
    (pad_row 3 2 _ _ _ _ k j).trans (congrArg (fun e => if k.val = 3 then val_main_v71 (F := Ideal) x0 x5 (ix2 0 j) else e) zero)
  have p3 : val_main_v84 (F := Ideal) x0 x4 (ix2 k j) = if k.val = 2 then val_main_v83 (F := Ideal) x0 x4 (ix2 0 j) else 0 :=
    (pad_row 2 3 _ _ _ _ k j).trans (congrArg (fun e => if k.val = 2 then val_main_v83 (F := Ideal) x0 x4 (ix2 0 j) else e) zero)
  have p4 : val_main_v96 (F := Ideal) x0 x3 (ix2 k j) = if k.val = 1 then val_main_v95 (F := Ideal) x0 x3 (ix2 0 j) else 0 :=
    (pad_row 1 4 _ _ _ _ k j).trans (congrArg (fun e => if k.val = 1 then val_main_v95 (F := Ideal) x0 x3 (ix2 0 j) else e) zero)
  have p5 : val_main_v108 (F := Ideal) x0 x2 (ix2 k j) = if k.val = 0 then val_main_v107 (F := Ideal) x0 x2 (ix2 0 j) else 0 :=
    (pad_row 0 5 _ _ _ _ k j).trans (congrArg (fun e => if k.val = 0 then val_main_v107 (F := Ideal) x0 x2 (ix2 0 j) else e) zero)
  show val_main_v49 (F := Ideal) x0 x7 (ix2 k j) + val_main_v60 (F := Ideal) x0 x6 (ix2 k j) + val_main_v72 (F := Ideal) x0 x5 (ix2 k j)
      + val_main_v84 (F := Ideal) x0 x4 (ix2 k j) + val_main_v96 (F := Ideal) x0 x3 (ix2 k j) + val_main_v108 (F := Ideal) x0 x2 (ix2 k j) = _
  rw [p0, p1, p2, p3, p4, p5, v48_at, v59_at, v71_at, v83_at, v95_at, v107_at]
  fin_cases k <;> simp [cts]

theorem v117_at (i : S8x1024.Idx) : val_main_v117 (F := Ideal) x0 x2 x3 x4 x5 x6 x7 i = df x0 x1 x2 x3 x4 x5 x6 x7 i := by
  idx_vars i
  pointwise [val_main_v117, val_main_v116, val_main_cst_20]
  simp only [v109_at]
  rfl

end Reference

theorem agree : algebraic_Kernel50Ideal_Reference50Ideal (hKernel50Ideal := Cert.Kernel50Ideal.Gen.facts)
    (hReference50Ideal := Cert.Reference50Ideal.Gen.facts) := by
  intro m g m' g' _ ha
  refine ⟨fun c => dx (A0 m c) (A1 m c) (A2 m c) (A3 m c) (A4 m c) (A5 m c) (A6 m c) (A7 m c), fun c => df (A0 m c) (A1 m c) (A2 m c) (A3 m c) (A4 m c) (A5 m c) (A6 m c) (A7 m c),
    (θ_run _ _ _).mono (fun r h c => ⟨(h c).1.trans (final_dx m c), (h c).2.1.trans (final_df m c), (h c).2.2⟩)
      (Cert.Kernel50Ideal.Value.run_blocks m g),
    (θ_run _ _ _).mono (fun r h c => ?_) (Cert.Reference50Ideal.Value.run m' g')⟩
  have h0 : m' (c.tc.loc Cert.Reference50Ideal.main_arg0) = A0 m c := (ha c).1
  have h1 : m' (c.tc.loc Cert.Reference50Ideal.main_arg1) = A1 m c := (ha c).2.1
  have h2 : m' (c.tc.loc Cert.Reference50Ideal.main_arg2) = A2 m c := (ha c).2.2.1
  have h3 : m' (c.tc.loc Cert.Reference50Ideal.main_arg3) = A3 m c := (ha c).2.2.2.1
  have h4 : m' (c.tc.loc Cert.Reference50Ideal.main_arg4) = A4 m c := (ha c).2.2.2.2.1
  have h5 : m' (c.tc.loc Cert.Reference50Ideal.main_arg5) = A5 m c := (ha c).2.2.2.2.2.1
  have h6 : m' (c.tc.loc Cert.Reference50Ideal.main_arg6) = A6 m c := (ha c).2.2.2.2.2.2.1
  have h7 : m' (c.tc.loc Cert.Reference50Ideal.main_arg7) = A7 m c := (ha c).2.2.2.2.2.2.2
  refine ⟨(h c).1.trans ?_, (h c).2.1.trans ?_, (h c).2.2⟩
  · rw [Cert.Reference50Ideal.Read.val_main_v115_eq, h1, h2, h3, h4, h5, h6, h7]
    exact funext fun i => v115_at (A0 m c) _ _ _ _ _ _ _ i
  · rw [Cert.Reference50Ideal.Read.val_main_v117_eq, h0, h2, h3, h4, h5, h6, h7]
    exact funext fun i => v117_at _ _ _ _ _ _ _ (A1 m c) i

end Cert.Proof.MixBwd

end
-- ==== Proof.GluFwd.lean ====
/-
  The convolution block's gated linear unit and its thirty-one taps, a column at a time.
-/
module

public import proofs.«01_k».proof.Defs
public import proofs.«01_k».proof.Proof.Tiles
public import proofs.«01_k».proof.Proof.Shift
public import Idealize.ShloMosaic.Lib.KernelVsHost
public import proofs.«01_k».proof.Proof.Gen.Kernel51Ideal.Value
public import proofs.«01_k».proof.Proof.Gen.Reference51Ideal.Run
public import proofs.«01_k».proof.Proof.Gen.Reference51Ideal.Read
public import Idealize.ShloMosaic.Lib.Pipeline.ValueKit
public import Idealize.ShloMosaic.Lib.Pointwise

@[expose] public section

noncomputable section

namespace Cert.Proof.GluFwd

open Idealize.ShloMosaic Idealize.SL.Sem Cert.Kernel51Ideal Cert.Kernel51Ideal.Gen
open Idealize.ShloMosaic.TcCoe
open Idealize.ShloMosaic.Pipeline (Dat Cfg Window)
open Cert.Proof.Shift (sh sel_sh sh_pad logi)
/-- Thirty-one taps down a column. -/
def conv (w : Fin 31 → EReal) (x : Fin 2048 → EReal) (r : Fin 2048) : EReal := ∑ k : Fin 31, w k * sh (30 - k.val) x r

theorem sh_zero (x : Fin 2048 → EReal) (r : Fin 2048) : sh 0 x r = x r := by
  rw [sh, dif_neg (by omega)]
  rfl

/-- The gated column. -/
def glu (a b : EReal) : EReal := a * logi b

/-- The two halves' columns. -/
def lo (j : Fin 1024) : Fin 2048 := ⟨j.val, by omega⟩
def hi (j : Fin 1024) : Fin 2048 := ⟨1024 + j.val, by omega⟩

/-- The convolved rows. -/
def spec (u : S2048x2048.Idx → EReal) (w : S31x1024.Idx → EReal) (b : S1x1024.Idx → EReal) : S2048x1024.Idx → EReal := fun i =>
  conv (fun k => w (ix2 k (i 1))) (fun e => glu (u (ix2 e (lo (i 1)))) (u (ix2 e (hi (i 1))))) (i 0) + b (ix2 0 (i 1))

/-! ## The body at one grid point -/

section Body

variable (p q y : FVec Ideal S2048x128 .f32) (w : FVec Ideal S31x128 .f32) (b : FVec Ideal S1x128 .f32) (r : Fin 2048) (j : Fin 128)

theorem pay1_at : k0_pay1 (F := Ideal) p q (ix2 r j) = glu (p (ix2 r j)) (q (ix2 r j)) := by
  pointwise [k0_pay1, glu, logi]
  rw [zero_sub]

/-- A block's columns moved down `n` rows. -/
def dnv (n : ℕ) (y : FVec Ideal S2048x128 .f32) : FVec Ideal S2048x128 .f32 :=
  select (cmpi .sge (iota .tc S2048x128 32 [0] iota_S2048x128_d0_w32) (broadcast S2048x128 (BitVec.ofNat 32 n)))
    (dynamicRotate 0 (BitVec.ofNat 32 n) none y rotates_S2048x128_d0) (broadcast S2048x128 (Scalar.ofBits (F := Ideal) .f32 0x00000000#32))

theorem zero : Scalar.ofBits (F := Ideal) .f32 0x00000000#32 = (0 : EReal) := by pointwise []
theorem row_at : iota .tc S2048x128 32 [0] iota_S2048x128_d0_w32 (ix2 r j) = BitVec.ofNat 32 r.val := by pointwise []

theorem rot_at (n : ℕ) (hn : n < 2048) : dynamicRotate 0 (BitVec.ofNat 32 n) none y rotates_S2048x128_d0 (ix2 r j)
    = y (ix2 ⟨(r.val + 2048 - n) % 2048, Nat.mod_lt _ (by norm_num)⟩ j) := by
  refine dynamicRotate_apply 0 _ y _ (ix2 r j) (ix2 ⟨(r.val + 2048 - n) % 2048, Nat.mod_lt _ (by norm_num)⟩ j) fun b => ?_
  fin_cases b
  · show (r.val + 2048 - n) % 2048 = if (0 : Fin 2) = 0 then (r.val + 2048 - (BitVec.ofNat 32 n).toNat % 2048) % 2048 else r.val
    rw [if_pos rfl, BitVec.toNat_ofNat, Nat.mod_eq_of_lt (show n < 2 ^ 32 by omega), Nat.mod_eq_of_lt hn]
  · rfl

theorem dnv_at (n : ℕ) (h1 : n < 2048) : dnv n y (ix2 r j) = sh n (fun e => y (ix2 e j)) r := by
  rw [← sel_sh n h1 (fun e => y (ix2 e j)) r (Nat.mod_lt _ (by norm_num))]
  unfold dnv
  rw [zero]
  show Scalar.select (IntOp.cmpi .sge (iota .tc S2048x128 32 [0] iota_S2048x128_d0_w32 (ix2 r j)) (BitVec.ofNat 32 n))
    (dynamicRotate 0 (BitVec.ofNat 32 n) none y rotates_S2048x128_d0 (ix2 r j)) (0 : EReal) = _
  rw [row_at, rot_at y r j n h1]

/-- One tap over a block. -/
def tap (w : FVec Ideal S31x128 .f32) (k : ℕ) (h : S31x128.Slices ![k, 0] S1x128) (y : FVec Ideal S2048x128 .f32) : FVec Ideal S2048x128 .f32 :=
  mulf (broadcastTo S2048x128 (extractStridedSlice S1x128 ![k, 0] w h) broadcasts_S1x128_S2048x128) y

theorem tap_at (k : Fin 31) (h : S31x128.Slices ![k.val, 0] S1x128) : tap w k.val h y (ix2 r j) = w (ix2 k j) * y (ix2 r j) := by
  pointwise [tap]

theorem tap_dn (k : Fin 31) (h : S31x128.Slices ![k.val, 0] S1x128) (hk : k.val < 30) :
    tap w k.val h (dnv (30 - k.val) y) (ix2 r j) = w (ix2 k j) * sh (30 - k.val) (fun e => y (ix2 e j)) r := by
  rw [tap_at, dnv_at y r j _ (by omega)]

theorem tap_last (h : S31x128.Slices ![30, 0] S1x128) : tap w 30 h y (ix2 r j) = w (ix2 30 j) * sh 0 (fun e => y (ix2 e j)) r :=
  (tap_at y w r j 30 h).trans (congrArg (w (ix2 30 j) * ·) (sh_zero (fun e => y (ix2 e j)) r).symm)

/-- The taps over a block. -/
def convv : FVec Ideal S2048x128 .f32 := addf (addf (addf (addf (addf (addf (addf (addf (addf (addf (addf (addf (addf (addf (addf (addf (addf (addf (addf (addf (addf (addf (addf (addf (addf (addf (addf (addf (addf (addf (tap w 0 slices_S31x128_o0_0_S1x128 (dnv 30 y))
    (tap w 1 slices_S31x128_o1_0_S1x128 (dnv 29 y)))
    (tap w 2 slices_S31x128_o2_0_S1x128 (dnv 28 y)))
    (tap w 3 slices_S31x128_o3_0_S1x128 (dnv 27 y)))
    (tap w 4 slices_S31x128_o4_0_S1x128 (dnv 26 y)))
    (tap w 5 slices_S31x128_o5_0_S1x128 (dnv 25 y)))
    (tap w 6 slices_S31x128_o6_0_S1x128 (dnv 24 y)))
    (tap w 7 slices_S31x128_o7_0_S1x128 (dnv 23 y)))
    (tap w 8 slices_S31x128_o8_0_S1x128 (dnv 22 y)))
    (tap w 9 slices_S31x128_o9_0_S1x128 (dnv 21 y)))
    (tap w 10 slices_S31x128_o10_0_S1x128 (dnv 20 y)))
    (tap w 11 slices_S31x128_o11_0_S1x128 (dnv 19 y)))
    (tap w 12 slices_S31x128_o12_0_S1x128 (dnv 18 y)))
    (tap w 13 slices_S31x128_o13_0_S1x128 (dnv 17 y)))
    (tap w 14 slices_S31x128_o14_0_S1x128 (dnv 16 y)))
    (tap w 15 slices_S31x128_o15_0_S1x128 (dnv 15 y)))
    (tap w 16 slices_S31x128_o16_0_S1x128 (dnv 14 y)))
    (tap w 17 slices_S31x128_o17_0_S1x128 (dnv 13 y)))
    (tap w 18 slices_S31x128_o18_0_S1x128 (dnv 12 y)))
    (tap w 19 slices_S31x128_o19_0_S1x128 (dnv 11 y)))
    (tap w 20 slices_S31x128_o20_0_S1x128 (dnv 10 y)))
    (tap w 21 slices_S31x128_o21_0_S1x128 (dnv 9 y)))
    (tap w 22 slices_S31x128_o22_0_S1x128 (dnv 8 y)))
    (tap w 23 slices_S31x128_o23_0_S1x128 (dnv 7 y)))
    (tap w 24 slices_S31x128_o24_0_S1x128 (dnv 6 y)))
    (tap w 25 slices_S31x128_o25_0_S1x128 (dnv 5 y)))
    (tap w 26 slices_S31x128_o26_0_S1x128 (dnv 4 y)))
    (tap w 27 slices_S31x128_o27_0_S1x128 (dnv 3 y)))
    (tap w 28 slices_S31x128_o28_0_S1x128 (dnv 2 y)))
    (tap w 29 slices_S31x128_o29_0_S1x128 (dnv 1 y)))
    (tap w 30 slices_S31x128_o30_0_S1x128 y)

theorem convv_at : convv y w (ix2 r j) = conv (fun k => w (ix2 k j)) (fun e => y (ix2 e j)) r := by
  rw [conv]
  simp only [Fin.sum_univ_castSucc, Finset.univ_eq_empty, Finset.sum_empty, zero_add]
  exact congrArg₂ (· + ·) (congrArg₂ (· + ·) (congrArg₂ (· + ·) (congrArg₂ (· + ·) (congrArg₂ (· + ·) (congrArg₂ (· + ·) (congrArg₂ (· + ·) (congrArg₂ (· + ·)
    (congrArg₂ (· + ·) (congrArg₂ (· + ·) (congrArg₂ (· + ·) (congrArg₂ (· + ·) (congrArg₂ (· + ·) (congrArg₂ (· + ·) (congrArg₂ (· + ·) (congrArg₂ (· +
    ·) (congrArg₂ (· + ·) (congrArg₂ (· + ·) (congrArg₂ (· + ·) (congrArg₂ (· + ·) (congrArg₂ (· + ·) (congrArg₂ (· + ·) (congrArg₂ (· + ·) (congrArg₂ (·
    + ·) (congrArg₂ (· + ·) (congrArg₂ (· + ·) (congrArg₂ (· + ·) (congrArg₂ (· + ·) (congrArg₂ (· + ·) (congrArg₂ (· + ·) (tap_dn y w r j 0 _ (by
    decide)) (tap_dn y w r j 1 _ (by decide))) (tap_dn y w r j 2 _ (by decide))) (tap_dn y w r j 3 _ (by decide))) (tap_dn y w r j 4 _ (by decide)))
    (tap_dn y w r j 5 _ (by decide))) (tap_dn y w r j 6 _ (by decide))) (tap_dn y w r j 7 _ (by decide))) (tap_dn y w r j 8 _ (by decide))) (tap_dn y w r
    j 9 _ (by decide))) (tap_dn y w r j 10 _ (by decide))) (tap_dn y w r j 11 _ (by decide))) (tap_dn y w r j 12 _ (by decide))) (tap_dn y w r j 13 _ (by
    decide))) (tap_dn y w r j 14 _ (by decide))) (tap_dn y w r j 15 _ (by decide))) (tap_dn y w r j 16 _ (by decide))) (tap_dn y w r j 17 _ (by decide)))
    (tap_dn y w r j 18 _ (by decide))) (tap_dn y w r j 19 _ (by decide))) (tap_dn y w r j 20 _ (by decide))) (tap_dn y w r j 21 _ (by decide))) (tap_dn y
    w r j 22 _ (by decide))) (tap_dn y w r j 23 _ (by decide))) (tap_dn y w r j 24 _ (by decide))) (tap_dn y w r j 25 _ (by decide))) (tap_dn y w r j 26 _
    (by decide))) (tap_dn y w r j 27 _ (by decide))) (tap_dn y w r j 28 _ (by decide))) (tap_dn y w r j 29 _ (by decide))) (tap_last y w r j _)

theorem out_eq : out0_4 (F := Ideal) p q w b = addf (convv (k0_pay1 (F := Ideal) p q) w) (broadcastTo S2048x128 b broadcasts_S1x128_S2048x128) := by
  unfold_out out0_4
  rw [View.canon_unit_zero (S := S2048x128) off2]
  simp only [View.ld_unit_zero (S := S2048x128) off2, View.ld_unit_zero (S := S31x128) off2, View.ld_unit_zero (S := S1x128) off2]
  rfl

theorem out_at : out0_4 (F := Ideal) p q w b (ix2 r j)
    = conv (fun k => w (ix2 k j)) (fun e => glu (p (ix2 e j)) (q (ix2 e j))) r + b (ix2 0 j) := by
  rw [out_eq]
  pointwise []
  rw [convv_at]
  simp only [pay1_at]

end Body

/-! ## The blocks -/

variable (m : (ℓ : Loc nD τ sig) → Buf (Elt Ideal) ℓ) (c : Dev nD)

/-- The arguments as launched. -/
abbrev A0 : (⟨2, ![2048, 2048]⟩ : Shape).Idx → EReal := m ((c : Thread nD τ).loc main_arg0)
abbrev A1 : (⟨2, ![31, 1024]⟩ : Shape).Idx → EReal := m ((c : Thread nD τ).loc main_arg1)
abbrev A2 : (⟨2, ![1, 1024]⟩ : Shape).Idx → EReal := m ((c : Thread nD τ).loc main_arg2)

theorem e0 : ∀ t : Fin cfg0.N, win0_0.index t 0 = 0 ∧ win0_0.index t 1 = t.val := by decide +kernel
theorem e1 : ∀ t : Fin cfg0.N, win0_1.index t 0 = 0 ∧ win0_1.index t 1 = t.val + 8 := by decide +kernel
theorem e2 : ∀ t : Fin cfg0.N, win0_2.index t 0 = 0 ∧ win0_2.index t 1 = t.val := by decide +kernel
theorem e3 : ∀ t : Fin cfg0.N, win0_3.index t 0 = 0 ∧ win0_3.index t 1 = t.val := by decide +kernel
theorem e4 : ∀ t : Fin cfg0.N, win0_4.index t 0 = 0 ∧ win0_4.index t 1 = t.val := by decide +kernel

/-- The column of lane `d` of a grid point's block. -/
def cl (t : Fin cfg0.N) (d : Fin 128) : Fin 1024 := ⟨t.val * 128 + d.val, by have : t.val < 8 := t.isLt; omega⟩

theorem blk0_at (t : Fin cfg0.N) (r : Fin 2048) (d : Fin 128) : iblk m c 0 t (ix2 r d) = A0 m c (ix2 r (lo (cl t d))) := by
  show V m c main_arg0 (((cfg0.win 0).blk t).view.emb (ix2 r d)) = _
  rw [V_main_arg0]
  refine congrArg (m ((c : Thread nD τ).loc main_arg0)) (funext fun a => Fin.ext ?_)
  fin_cases a
  · show win0_0.index t 0 * 2048 + 1 * r.val = r.val
    rw [(e0 t).1]; omega
  · show win0_0.index t 1 * 128 + 1 * d.val = t.val * 128 + d.val
    rw [(e0 t).2]; omega

theorem blk1_at (t : Fin cfg0.N) (r : Fin 2048) (d : Fin 128) : iblk m c 1 t (ix2 r d) = A0 m c (ix2 r (hi (cl t d))) := by
  show V m c main_arg0 (((cfg0.win 1).blk t).view.emb (ix2 r d)) = _
  rw [V_main_arg0]
  refine congrArg (m ((c : Thread nD τ).loc main_arg0)) (funext fun a => Fin.ext ?_)
  fin_cases a
  · show win0_1.index t 0 * 2048 + 1 * r.val = r.val
    rw [(e1 t).1]; omega
  · show win0_1.index t 1 * 128 + 1 * d.val = 1024 + (t.val * 128 + d.val)
    rw [(e1 t).2]; omega

theorem blk2_at (t : Fin cfg0.N) (r : Fin 31) (d : Fin 128) : iblk m c 2 t (ix2 r d) = A1 m c (ix2 r (cl t d)) := by
  show V m c main_arg1 (((cfg0.win 2).blk t).view.emb (ix2 r d)) = _
  rw [V_main_arg1]
  refine congrArg (m ((c : Thread nD τ).loc main_arg1)) (funext fun a => Fin.ext ?_)
  fin_cases a
  · show win0_2.index t 0 * 31 + 1 * r.val = r.val
    rw [(e2 t).1]; omega
  · show win0_2.index t 1 * 128 + 1 * d.val = t.val * 128 + d.val
    rw [(e2 t).2]; omega

theorem blk3_at (t : Fin cfg0.N) (r : Fin 1) (d : Fin 128) : iblk m c 3 t (ix2 r d) = A2 m c (ix2 r (cl t d)) := by
  show V m c main_arg2 (((cfg0.win 3).blk t).view.emb (ix2 r d)) = _
  rw [V_main_arg2]
  refine congrArg (m ((c : Thread nD τ).loc main_arg2)) (funext fun a => Fin.ext ?_)
  fin_cases a
  · show win0_3.index t 0 * 1 + 1 * r.val = r.val
    rw [(e3 t).1]; omega
  · show win0_3.index t 1 * 128 + 1 * d.val = t.val * 128 + d.val
    rw [(e3 t).2]; omega

/-- The array after the run. -/
theorem kernel_value : (dats m 0 c).arrAt 4 cfg0.N = spec (A0 m c) (A1 m c) (A2 m c) := by
  refine (dats m 0 c).arrAt_eq_of_covers 4 _ (by decide +kernel) fun t hf y => ?_
  blk_simp
  rw [after0_4]
  revert y
  intro (y : S2048x128.Idx)
  idx_vars y
  rw [out_at]
  simp only [blk0_at, blk1_at, blk2_at, blk3_at]
  refine congrArg (spec (A0 m c) (A1 m c) (A2 m c)) (a₁ := ix2 y0 (cl t y1)) (funext fun a => Fin.ext ?_)
  fin_cases a
  · show y0.val = win0_4.index t 0 * 2048 + 1 * y0.val
    rw [(e4 t).1]; omega
  · show t.val * 128 + y1.val = win0_4.index t 1 * 128 + 1 * y1.val
    rw [(e4 t).2]; omega

/-! ## The reference -/

section Reference

open Cert.Reference51Ideal.Read

variable (x0 : (⟨Cert.Reference51Ideal.S2048x2048, .f32⟩ : BufTy).Contents (Elt Ideal)) (x1 : (⟨Cert.Reference51Ideal.S31x1024, .f32⟩ : BufTy).Contents (Elt Ideal))
  (x2 : (⟨Cert.Reference51Ideal.S1x1024, .f32⟩ : BufTy).Contents (Elt Ideal)) (r : Fin 2048) (j : Fin 1024)

theorem v8_at : val_main_v8 (F := Ideal) x0 (ix2 r j) = glu (x0 (ix2 r (lo j))) (x0 (ix2 r (hi j))) := by
  pointwise [val_main_v8, val_main_v7, val_main_v6, val_main_v5, val_main_v4, val_main_v3, val_main_v2, val_main_v1, val_main_v0, val_main_cst,
    val_main_cst_0, glu, logi, lo, hi]

theorem slc : ∀ k : Fin 31, Cert.Reference51Ideal.S2078x1024.Slices ![k.val, 0] Cert.Reference51Ideal.S2048x1024 := by decide +kernel
theorem slw : ∀ k : Fin 31, Cert.Reference51Ideal.S31x1024.Slices ![k.val, 0] Cert.Reference51Ideal.S1x1024 := by decide +kernel

/-- One tap over the padded rows. -/
def rtap (k : Fin 31) : FVec Ideal Cert.Reference51Ideal.S2048x1024 .f32 :=
  mulf (F := Ideal) (φ := .f32) (extractStridedSlice Cert.Reference51Ideal.S2048x1024 ![k.val, 0] (val_main_v10 (F := Ideal) x0) (slc k))
    (broadcastInDim Cert.Reference51Ideal.S2048x1024 ![0, 1] Cert.Reference51Ideal.Facts₀.bcast_S1x1024_S2048x1024_0_1 (broadcastInDim Cert.Reference51Ideal.S1x1024 ![1] Cert.Reference51Ideal.Facts₀.bcast_S1024_S1x1024_1
      (shapeCast Cert.Reference51Ideal.S1024 (extractStridedSlice Cert.Reference51Ideal.S1x1024 ![k.val, 0] x1 (slw k)) Cert.Reference51Ideal.Facts₀.shapeCasts_S1x1024_S1024)))

theorem rtap_at (k : Fin 31) : rtap x0 x1 k (ix2 r j) = x1 (ix2 k j) * sh (30 - k.val) (fun e => val_main_v8 (F := Ideal) x0 (ix2 e j)) r := by
  pointwise [rtap, val_main_v10, val_main_v9, val_main_cst_1]
  refine (mul_comm _ _).trans (congrArg (x1 (ix2 k j) * ·) ?_)
  exact sh_pad 30 k.val (30 - k.val) (by omega) (fun e => val_main_v8 (F := Ideal) x0 (ix2 e j)) r fun _ => by omega

theorem sum_taps (z : EReal) (hz : z = 0) (f : Fin 31 → EReal) : z + f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 = ∑ k, f k := by
  rw [hz]
  simp only [Fin.sum_univ_castSucc, Finset.univ_eq_empty, Finset.sum_empty]
  rfl

theorem v228_at : val_main_v228 (F := Ideal) x0 x1 (ix2 r j) = ∑ k, rtap x0 x1 k (ix2 r j) :=
  Eq.trans (by rfl) (sum_taps (val_main_v17 (F := Ideal) (ix2 r j)) (by pointwise [val_main_v17, val_main_cst_2]) fun k => rtap x0 x1 k (ix2 r j))

theorem reference_value (i : S2048x1024.Idx) : val_main_v230 (F := Ideal) x0 x1 x2 i = spec x0 x1 x2 i := by
  idx_vars i
  pointwise [val_main_v230, val_main_v229, spec]
  rw [v228_at, conv]
  simp only [rtap_at, v8_at]

end Reference

theorem agree : algebraic_Kernel51Ideal_Reference51Ideal (hKernel51Ideal := Cert.Kernel51Ideal.Gen.facts)
    (hReference51Ideal := Cert.Reference51Ideal.Gen.facts) := by
  intro m g m' g' _ ha
  refine ⟨fun c => spec (A0 m c) (A1 m c) (A2 m c),
    (θ_run _ _ _).mono (fun r h c => ⟨(h c).1.trans (kernel_value m c), (h c).2⟩) (Cert.Kernel51Ideal.Value.run_blocks m g),
    (θ_run _ _ _).mono (fun r h c => ?_) (Cert.Reference51Ideal.Value.run m' g')⟩
  refine ⟨(h c).1.trans ?_, (h c).2⟩
  rw [Cert.Reference51Ideal.Read.val_main_v230_eq]
  have h0 : StableHlo.launchContents m' c (Proc.tc.devRef Cert.Reference51Ideal.main_arg0) = A0 m c := (ha c).1
  have h1 : StableHlo.launchContents m' c (Proc.tc.devRef Cert.Reference51Ideal.main_arg1) = A1 m c := (ha c).2.1
  have h2 : StableHlo.launchContents m' c (Proc.tc.devRef Cert.Reference51Ideal.main_arg2) = A2 m c := (ha c).2.2
  rw [h0, h1, h2]
  exact funext fun i => reference_value _ _ _ i

end Cert.Proof.GluFwd

end
-- ==== Proof.LayerMath.lean ====
/-
  The layer norm of one row.
-/
module

public import Idealize.ShloMosaic.Lib.Pointwise

@[expose] public section

noncomputable section

namespace Cert.Proof.Layer

open Idealize.ShloMosaic

abbrev width : EReal := Ideal.ofBits .f32 0x44800000#32

/-- A row's mean, the row less its mean, the mean square of that, and the factor the norm scales by. -/
def mean (x : Fin 1024 → EReal) : EReal := Ideal.div (∑ e, x e) width
def cen (x : Fin 1024 → EReal) (j : Fin 1024) : EReal := x j - mean x
def var (x : Fin 1024 → EReal) : EReal := Ideal.div (∑ e, cen x e * cen x e) width
def rsd (x : Fin 1024 → EReal) : EReal := Ideal.rsqrt (var x + Ideal.ofBits .f32 0x3727C5AC#32)

/-- The norm, with gain `g` and offset `b`. -/
def ln (x g b : Fin 1024 → EReal) (j : Fin 1024) : EReal := cen x j * rsd x * g j + b j

end Cert.Proof.Layer

end
-- ==== Proof.SiluFwd.lean ====
/-
  The convolution block's norm and activation: each row centred, scaled, and passed through the gate.
-/
module

public import proofs.«01_k».proof.Defs
public import proofs.«01_k».proof.Proof.Tiles
public import proofs.«01_k».proof.Proof.Shift
public import proofs.«01_k».proof.Proof.LayerMath
public import proofs.«01_k».proof.Proof.Gen.Kernel53Ideal.Value
public import proofs.«01_k».proof.Proof.Gen.Reference53Ideal.Run
public import proofs.«01_k».proof.Proof.Gen.Reference53Ideal.Read
public import Idealize.ShloMosaic.Lib.Pipeline.ValueKit
public import Idealize.ShloMosaic.Lib.Pointwise

@[expose] public section

noncomputable section

namespace Cert.Proof.SiluFwd

open Idealize.ShloMosaic Idealize.SL.Sem Cert.Kernel53Ideal Cert.Kernel53Ideal.Gen
open Idealize.ShloMosaic.TcCoe
open Idealize.ShloMosaic.Pipeline (Dat Cfg Window)
open Cert.Proof.Shift (logi)
open Cert.Proof.Layer (mean cen var rsd ln)
/-- The norm and activation. -/
def spec (x : S2048x1024.Idx → EReal) (g b : S1x1024.Idx → EReal) : S2048x1024.Idx → EReal := fun i =>
  ln (fun e => x (ix2 (i 0) e)) (fun e => g (ix2 0 e)) (fun e => b (ix2 0 e)) (i 1)
    * logi (ln (fun e => x (ix2 (i 0) e)) (fun e => g (ix2 0 e)) (fun e => b (ix2 0 e)) (i 1))

theorem pay_at (x : Vec Ideal S256x1024 .f32) (g b : Vec Ideal S1x1024 .f32) (r : Fin 256) (j : Fin 1024) :
    k0_pay1 (F := Ideal) x g b (ix2 r j) = ln (fun e => x (ix2 r e)) (fun e => g (ix2 0 e)) (fun e => b (ix2 0 e)) j
      * logi (ln (fun e => x (ix2 r e)) (fun e => g (ix2 0 e)) (fun e => b (ix2 0 e)) j) := by
  pointwise [k0_pay1, logi, ln, rsd, var, cen, mean]
  simp only [zero_sub]

theorem out_eq (x : Vec Ideal S256x1024 .f32) (g b : Vec Ideal S1x1024 .f32) : out0_3 x g b = k0_pay1 (F := Ideal) x g b := by
  unfold out0_3
  rw [View.canon_unit_zero (S := S256x1024) off2]
  simp only [View.ld_unit_zero (S := S256x1024) off2, View.ld_unit_zero (S := S1x1024) off2]

/-! ## The blocks -/

variable (m : (ℓ : Loc nD τ sig) → Buf (Elt Ideal) ℓ) (c : Dev nD)

/-- The arguments as launched. -/
abbrev A0 : (⟨2, ![2048, 1024]⟩ : Shape).Idx → EReal := m ((c : Thread nD τ).loc main_arg0)
abbrev A1 : (⟨2, ![1, 1024]⟩ : Shape).Idx → EReal := m ((c : Thread nD τ).loc main_arg1)
abbrev A2 : (⟨2, ![1, 1024]⟩ : Shape).Idx → EReal := m ((c : Thread nD τ).loc main_arg2)

theorem e0 : ∀ t : Fin cfg0.N, win0_0.index t 0 = t.val ∧ win0_0.index t 1 = 0 := by decide +kernel
theorem e1 : ∀ t : Fin cfg0.N, win0_1.index t 0 = 0 ∧ win0_1.index t 1 = 0 := by decide +kernel
theorem e2 : ∀ t : Fin cfg0.N, win0_2.index t 0 = 0 ∧ win0_2.index t 1 = 0 := by decide +kernel
theorem e3 : ∀ t : Fin cfg0.N, win0_3.index t 0 = t.val ∧ win0_3.index t 1 = 0 := by decide +kernel

/-- The token of row `r` of a grid point's tile. -/
def tok (t : Fin cfg0.N) (r : Fin 256) : Fin 2048 := ⟨t.val * 256 + r.val, by have : t.val < 8 := t.isLt; omega⟩

theorem blk0_at (t : Fin cfg0.N) (r : Fin 256) (d : Fin 1024) : iblk m c 0 t (ix2 r d) = A0 m c (ix2 (tok t r) d) := by
  show V m c main_arg0 (((cfg0.win 0).blk t).view.emb (ix2 r d)) = _
  rw [V_main_arg0]
  refine congrArg (m ((c : Thread nD τ).loc main_arg0)) (funext fun a => Fin.ext ?_)
  fin_cases a
  · show win0_0.index t 0 * 256 + 1 * r.val = t.val * 256 + r.val
    rw [(e0 t).1]; omega
  · show win0_0.index t 1 * 1024 + 1 * d.val = d.val
    rw [(e0 t).2]; omega

theorem blk1_at (t : Fin cfg0.N) (r : Fin 1) (d : Fin 1024) : iblk m c 1 t (ix2 r d) = A1 m c (ix2 0 d) := by
  show V m c main_arg1 (((cfg0.win 1).blk t).view.emb (ix2 r d)) = _
  rw [V_main_arg1]
  refine congrArg (m ((c : Thread nD τ).loc main_arg1)) (funext fun a => Fin.ext ?_)
  fin_cases a
  · show win0_1.index t 0 * 1 + 1 * r.val = 0
    rw [(e1 t).1]; omega
  · show win0_1.index t 1 * 1024 + 1 * d.val = d.val
    rw [(e1 t).2]; omega

theorem blk2_at (t : Fin cfg0.N) (r : Fin 1) (d : Fin 1024) : iblk m c 2 t (ix2 r d) = A2 m c (ix2 0 d) := by
  show V m c main_arg2 (((cfg0.win 2).blk t).view.emb (ix2 r d)) = _
  rw [V_main_arg2]
  refine congrArg (m ((c : Thread nD τ).loc main_arg2)) (funext fun a => Fin.ext ?_)
  fin_cases a
  · show win0_2.index t 0 * 1 + 1 * r.val = 0
    rw [(e2 t).1]; omega
  · show win0_2.index t 1 * 1024 + 1 * d.val = d.val
    rw [(e2 t).2]; omega

theorem out_at (t : Fin cfg0.N) (r : Fin 256) (j : Fin 1024) :
    out0_3 (F := Ideal) (iblk m c 0 t) (iblk m c 1 t) (iblk m c 2 t) (ix2 r j) = spec (A0 m c) (A1 m c) (A2 m c) (ix2 (tok t r) j) := by
  rw [out_eq, pay_at]
  simp only [blk0_at, blk1_at, blk2_at]
  rfl

/-- The array after the run. -/
theorem kernel_value : (dats m 0 c).arrAt 3 cfg0.N = spec (A0 m c) (A1 m c) (A2 m c) := by
  refine (dats m 0 c).arrAt_eq_of_covers 3 _ (by decide +kernel) fun t hf y => ?_
  blk_simp
  rw [after0_3]
  revert y
  intro (y : S256x1024.Idx)
  idx_vars y
  refine (out_at m c t y0 y1).trans (congrArg (spec (A0 m c) (A1 m c) (A2 m c)) (funext fun a => Fin.ext ?_))
  fin_cases a
  · show t.val * 256 + y0.val = win0_3.index t 0 * 256 + 1 * y0.val
    rw [(e3 t).1]; omega
  · show y1.val = win0_3.index t 1 * 1024 + 1 * y1.val
    rw [(e3 t).2]; omega

/-! ## The reference -/

section Reference

open Cert.Reference53Ideal.Read

variable (x0 : (⟨Cert.Reference53Ideal.S2048x1024, .f32⟩ : BufTy).Contents (Elt Ideal)) (x1 x2 : (⟨Cert.Reference53Ideal.S1x1024, .f32⟩ : BufTy).Contents (Elt Ideal))

theorem v3_at (t : Fin 2048) : val_main_v3 (F := Ideal) x0 (ix2 t 0) = mean fun e => x0 (ix2 t e) := by
  pointwise [val_main_v3, val_main_v2, val_main_v1, val_main_v0, val_main_cst, val_main_cst_0, mean]

theorem v15_at (t : Fin 2048) : val_main_v15 (F := Ideal) x0 (ix2 t 0) = rsd fun e => x0 (ix2 t e) := by
  pointwise [val_main_v15, val_main_v14, val_main_v13, val_main_v10, val_main_v9, val_main_v8, val_main_v7, val_main_v6, val_main_v5, val_main_v4,
    val_main_cst_1, val_main_cst_2, val_main_cst_3, rsd, var, cen]
  simp only [v3_at]

theorem v21_at (t : Fin 2048) (j : Fin 1024) :
    val_main_v21 (F := Ideal) x0 x1 x2 (ix2 t j) = ln (fun e => x0 (ix2 t e)) (fun e => x1 (ix2 0 e)) (fun e => x2 (ix2 0 e)) j := by
  pointwise [val_main_v21, val_main_v20, val_main_v19, val_main_v18, val_main_v17, val_main_v16, val_main_v12, val_main_v11, ln, cen]
  rw [v3_at, v15_at]

theorem reference_value (i : S2048x1024.Idx) : val_main_v23 (F := Ideal) x0 x1 x2 i = spec x0 x1 x2 i := by
  idx_vars i
  pointwise [val_main_v23, val_main_v22, val_main_call0_v5, val_main_call0_v4, val_main_call0_v3, val_main_call0_v2, val_main_call0_v1, val_main_call0_v0,
    val_main_call0_cst, val_main_call0_cst_0, spec, logi]
  rw [v21_at]

end Reference

theorem agree : algebraic_Kernel53Ideal_Reference53Ideal (hKernel53Ideal := Cert.Kernel53Ideal.Gen.facts)
    (hReference53Ideal := Cert.Reference53Ideal.Gen.facts) := by
  intro m g m' g' _ ha
  refine ⟨fun c => spec (A0 m c) (A1 m c) (A2 m c),
    (θ_run _ _ _).mono (fun r h c => ⟨(h c).1.trans (kernel_value m c), (h c).2⟩) (Cert.Kernel53Ideal.Value.run_blocks m g),
    (θ_run _ _ _).mono (fun r h c => ?_) (Cert.Reference53Ideal.Value.run m' g')⟩
  refine ⟨(h c).1.trans ?_, (h c).2⟩
  rw [(ha c).1, (ha c).2.1, (ha c).2.2]
  exact (Cert.Reference53Ideal.Read.val_main_v23_eq _ _ _).trans (funext fun i => reference_value _ _ _ i)

end Cert.Proof.SiluFwd

end
-- ==== Proof.SiluBwd.lean ====
/-
  The gradient of the convolution block's norm and activation: in the rows, a row at a time; in the gain and the offset,
  summed over the eight tiles of rows.
-/
module

public import proofs.«01_k».proof.Defs
public import proofs.«01_k».proof.Proof.Tiles
public import proofs.«01_k».proof.Proof.NormMath
public import proofs.«01_k».proof.Proof.Shift
public import proofs.«01_k».proof.Proof.LayerMath
public import proofs.«01_k».proof.Proof.Gen.Kernel54Ideal.Value
public import proofs.«01_k».proof.Proof.Gen.Reference54Ideal.Run
public import proofs.«01_k».proof.Proof.Gen.Reference54Ideal.Read
public import Idealize.ShloMosaic.Lib.Pipeline.ValueKit
public import Idealize.ShloMosaic.Lib.Pointwise

@[expose] public section

noncomputable section

namespace Cert.Proof.SiluBwd

open Idealize.ShloMosaic Idealize.SL.Sem Cert.Kernel54Ideal Cert.Kernel54Ideal.Gen
open Idealize.ShloMosaic.TcCoe
open Idealize.ShloMosaic.Pipeline (Dat Cfg Window)
open Cert.Proof.Norm (sum_rows)
open Cert.Proof.Shift (logi)
open Cert.Proof.Layer (width mean cen var rsd ln)
/-! ## One row -/

/-- The logistic function's derivative: the kernel spells it by the exponential, the reference by the function's own value. -/
theorem logi_grad (y : EReal) :
    Ideal.div 1 ((1 + Ideal.exp (-y)) * (1 + Ideal.exp (-y))) * Ideal.exp (-y) = logi y * (1 - logi y) := by
  unfold logi
  induction y using EReal.rec with
  | bot =>
    rw [EReal.neg_bot, Ideal.exp_top, EReal.add_top_of_ne_bot (show (1 : EReal) ≠ ⊥ from EReal.coe_ne_bot 1), EReal.top_mul_top]
    simp [Ideal.div]
  | coe r =>
    have hq : (1 + Real.exp (-r)) ≠ 0 := by positivity
    have hqq : (1 + Real.exp (-r)) * (1 + Real.exp (-r)) ≠ 0 := mul_ne_zero hq hq
    rw [← EReal.coe_neg, Ideal.exp_coe, ← EReal.coe_one, ← EReal.coe_add, ← EReal.coe_mul, Ideal.div, Ideal.div,
      if_neg (by exact_mod_cast hqq), if_neg (by exact_mod_cast hq), ← EReal.coe_inv, ← EReal.coe_inv, ← EReal.coe_mul, ← EReal.coe_mul,
      ← EReal.coe_mul, ← EReal.coe_sub, ← EReal.coe_mul]
    congr 1
    field_simp
    ring
  | top =>
    rw [EReal.neg_top, Ideal.exp_bot, add_zero, mul_zero]
    have h1 : Ideal.div 1 1 = 1 := by simp [Ideal.div]
    rw [h1, one_mul, ← EReal.coe_one, ← EReal.coe_sub]
    simp

/-- The gradient of the activation at `y`, for the cotangent `d`. -/
def dact (y d : EReal) : EReal := d * logi y + y * d * (logi y * (1 - logi y))

theorem dact_eq (y d : EReal) :
    d * logi y + -(-(y * d * Ideal.div 1 ((1 + Ideal.exp (-y)) * (1 + Ideal.exp (-y)))) * Ideal.exp (-y)) = dact y d := by
  rw [dact, ← logi_grad, EReal.neg_mul, neg_neg, mul_assoc (y * d)]

/-- The gradient reaching a row's norm. -/
def dy (x g b d : Fin 1024 → EReal) (j : Fin 1024) : EReal := dact (ln x g b j) (d j)

/-- What the row's variance passes on, for the scaled cotangent `a`. -/
def push (x a : Fin 1024 → EReal) : EReal :=
  Ideal.div ((∑ e, cen x e * a e) * (Ideal.ofBits .f32 0xBF000000#32 * Ideal.div (rsd x) (var x + Ideal.ofBits .f32 0x3727C5AC#32))) width

/-- The gradient of the norm in its row, for the scaled cotangent `a`. -/
def dln (x a : Fin 1024 → EReal) (j : Fin 1024) : EReal :=
  a j * rsd x + push x a * (Ideal.ofBits .f32 0x40000000#32 * cen x j)
    + Ideal.div ((∑ e, -(a e * rsd x)) + ∑ e, -(push x a * (Ideal.ofBits .f32 0x40000000#32 * cen x e))) width

/-! ## The body at one grid point -/

theorem pay2_at (j : Fin 1024) : k0_pay2 (F := Ideal) (ix2 0 j) = 0 := by
  pointwise [k0_pay2]

theorem pay3_at (j : Fin 1024) : k0_pay3 (F := Ideal) (ix2 0 j) = 0 := by
  pointwise [k0_pay3]

theorem pay4_at (x y : Vec Ideal S1x1024 .f32) (j : Fin 1024) : k0_pay4 (F := Ideal) x y (ix2 0 j) = y (ix2 0 j) + x (ix2 0 j) := by
  pointwise [k0_pay4]

theorem pay5_at (x y : Vec Ideal S1x1024 .f32) (j : Fin 1024) : k0_pay5 (F := Ideal) x y (ix2 0 j) = y (ix2 0 j) + x (ix2 0 j) := by
  pointwise [k0_pay5]

section Body

variable (x ct : Vec Ideal S256x1024 .f32) (g b : Vec Ideal S1x1024 .f32)

theorem pay6_at (r : Fin 256) : k0_pay6 (F := Ideal) x (ix2 r 0) = mean fun e => x (ix2 r e) := by
  pointwise [k0_pay6, mean]

theorem pay7_at (r : Fin 256) (j : Fin 1024) : k0_pay7 (F := Ideal) x (ix2 r j) = cen (fun e => x (ix2 r e)) j := by
  pointwise [k0_pay7, cen]
  rw [pay6_at]

theorem pay8_at (r : Fin 256) (j : Fin 1024) :
    k0_pay8 (F := Ideal) x (ix2 r j) = Ideal.ofBits .f32 0x40000000#32 * cen (fun e => x (ix2 r e)) j := by
  pointwise [k0_pay8]
  rw [pay7_at]

theorem pay9_at (r : Fin 256) (j : Fin 1024) : k0_pay9 (F := Ideal) x (ix2 r j) = cen (fun e => x (ix2 r e)) j := by
  pointwise [k0_pay9, cen]
  rw [pay6_at]

theorem pay10_at (r : Fin 256) : k0_pay10 (F := Ideal) x (ix2 r 0) = var (fun e => x (ix2 r e)) + Ideal.ofBits .f32 0x3727C5AC#32 := by
  pointwise [k0_pay10, var]
  simp only [pay7_at]

theorem pay11_at (r : Fin 256) : k0_pay11 (F := Ideal) x (ix2 r 0) = rsd fun e => x (ix2 r e) := by
  pointwise [k0_pay11, rsd]
  rw [pay10_at]

theorem pay12_at (r : Fin 256) : k0_pay12 (F := Ideal) x (ix2 r 0)
    = Ideal.ofBits .f32 0xBF000000#32 * Ideal.div (rsd fun e => x (ix2 r e)) (var (fun e => x (ix2 r e)) + Ideal.ofBits .f32 0x3727C5AC#32) := by
  pointwise [k0_pay12]
  rw [pay11_at, pay10_at]

theorem pay13_at (r : Fin 256) (j : Fin 1024) :
    k0_pay13 (F := Ideal) x (ix2 r j) = cen (fun e => x (ix2 r e)) j * rsd fun e => x (ix2 r e) := by
  pointwise [k0_pay13]
  rw [pay9_at, pay11_at]

theorem pay14_at (r : Fin 256) (j : Fin 1024) :
    k0_pay14 (F := Ideal) x g b (ix2 r j) = ln (fun e => x (ix2 r e)) (fun e => g (ix2 0 e)) (fun e => b (ix2 0 e)) j := by
  pointwise [k0_pay14, ln]
  rw [pay13_at]

/-- The gradient reaching the norm, as the body computes it. -/
abbrev DY : Vec Ideal S256x1024 .f32 :=
  k0_pay20 ct (k0_pay14 x g b) (k0_pay15 x g b) (k0_pay17 x g b) (k0_pay18 x g b) (k0_pay19 (F := Ideal))

theorem dy_at (r : Fin 256) (j : Fin 1024) :
    DY x ct g b (ix2 r j) = dy (fun e => x (ix2 r e)) (fun e => g (ix2 0 e)) (fun e => b (ix2 0 e)) (fun e => ct (ix2 r e)) j := by
  rw [dy, ← dact_eq]
  pointwise [DY, k0_pay20, k0_pay15, k0_pay16, k0_pay17, k0_pay18, k0_pay19, logi]
  simp only [pay14_at, zero_sub, mul_one]

theorem pay21_at (j : Fin 1024) :
    k0_pay21 (F := Ideal) ct (k0_pay14 x g b) (k0_pay15 x g b) (k0_pay17 x g b) (k0_pay18 x g b) k0_pay19 (ix2 0 j)
      = ∑ r, dy (fun e => x (ix2 r e)) (fun e => g (ix2 0 e)) (fun e => b (ix2 0 e)) (fun e => ct (ix2 r e)) j := by
  pointwise [k0_pay21]
  exact Finset.sum_congr rfl fun r _ => dy_at x ct g b r j

theorem pay22_at (j : Fin 1024) :
    k0_pay22 (F := Ideal) ct (k0_pay13 x) (k0_pay14 x g b) (k0_pay15 x g b) (k0_pay17 x g b) (k0_pay18 x g b) k0_pay19 (ix2 0 j)
      = ∑ r, cen (fun e => x (ix2 r e)) j * rsd (fun e => x (ix2 r e))
        * dy (fun e => x (ix2 r e)) (fun e => g (ix2 0 e)) (fun e => b (ix2 0 e)) (fun e => ct (ix2 r e)) j := by
  pointwise [k0_pay22]
  exact Finset.sum_congr rfl fun r _ => congrArg₂ (· * ·) (pay13_at x r j) (dy_at x ct g b r j)

/-- The scaled cotangent of a row. -/
def sc (x g b d : Fin 1024 → EReal) (j : Fin 1024) : EReal := dy x g b d j * g j

theorem pay23_at (r : Fin 256) (j : Fin 1024) :
    k0_pay23 (F := Ideal) g ct (k0_pay14 x g b) (k0_pay15 x g b) (k0_pay17 x g b) (k0_pay18 x g b) k0_pay19 (ix2 r j)
      = sc (fun e => x (ix2 r e)) (fun e => g (ix2 0 e)) (fun e => b (ix2 0 e)) (fun e => ct (ix2 r e)) j := by
  pointwise [k0_pay23]
  exact congrArg (· * g (ix2 0 j)) (dy_at x ct g b r j)

theorem pay24_at (r : Fin 256) (j : Fin 1024) :
    k0_pay24 (F := Ideal) g ct (k0_pay11 x) (k0_pay14 x g b) (k0_pay15 x g b) (k0_pay17 x g b) (k0_pay18 x g b) k0_pay19 (ix2 r j)
      = sc (fun e => x (ix2 r e)) (fun e => g (ix2 0 e)) (fun e => b (ix2 0 e)) (fun e => ct (ix2 r e)) j * rsd fun e => x (ix2 r e) := by
  pointwise [k0_pay24]
  rw [pay23_at, pay11_at]

theorem pay25_at (r : Fin 256) (j : Fin 1024) :
    k0_pay25 (F := Ideal) g ct (k0_pay8 x) (k0_pay9 x) (k0_pay12 x) (k0_pay14 x g b) (k0_pay15 x g b) (k0_pay17 x g b) (k0_pay18 x g b) k0_pay19 (ix2 r j)
      = push (fun e => x (ix2 r e)) (sc (fun e => x (ix2 r e)) (fun e => g (ix2 0 e)) (fun e => b (ix2 0 e)) (fun e => ct (ix2 r e)))
        * (Ideal.ofBits .f32 0x40000000#32 * cen (fun e => x (ix2 r e)) j) := by
  pointwise [k0_pay25, push, width]
  simp only [pay23_at, pay9_at, pay12_at, pay8_at, Fin.sum_univ_one]

theorem pay1_at (r : Fin 256) (j : Fin 1024) :
    k0_pay1 (F := Ideal)
      (k0_pay26 g ct (k0_pay8 x) (k0_pay9 x) (k0_pay11 x) (k0_pay12 x) (k0_pay14 x g b) (k0_pay15 x g b) (k0_pay17 x g b) (k0_pay18 x g b) k0_pay19)
      (k0_pay27 g ct (k0_pay8 x) (k0_pay9 x) (k0_pay11 x) (k0_pay12 x) (k0_pay14 x g b) (k0_pay15 x g b) (k0_pay17 x g b) (k0_pay18 x g b) k0_pay19)
      (ix2 r j)
      = dln (fun e => x (ix2 r e)) (sc (fun e => x (ix2 r e)) (fun e => g (ix2 0 e)) (fun e => b (ix2 0 e)) (fun e => ct (ix2 r e))) j := by
  pointwise [k0_pay1, k0_pay26, k0_pay27, dln, width]
  simp only [pay24_at, pay25_at, Fin.sum_univ_one, zero_sub]

end Body

section Cases

/-- The stored rows, and a tile's sums. -/
abbrev rows (x0 : Vec Ideal S256x1024 .f32) (x1 x2 : Vec Ideal S1x1024 .f32) (x3 : Vec Ideal S256x1024 .f32) : FVec Ideal S256x1024 .f32 :=
  k0_pay1 (k0_pay26 x1 x3 (k0_pay8 x0) (k0_pay9 x0) (k0_pay11 x0) (k0_pay12 x0) (k0_pay14 x0 x1 x2) (k0_pay15 x0 x1 x2) (k0_pay17 x0 x1 x2) (k0_pay18 x0 x1 x2) (k0_pay19 (F := Ideal)))
    (k0_pay27 x1 x3 (k0_pay8 x0) (k0_pay9 x0) (k0_pay11 x0) (k0_pay12 x0) (k0_pay14 x0 x1 x2) (k0_pay15 x0 x1 x2) (k0_pay17 x0 x1 x2) (k0_pay18 x0 x1 x2) (k0_pay19 (F := Ideal)))
abbrev gsum (x0 : Vec Ideal S256x1024 .f32) (x1 x2 : Vec Ideal S1x1024 .f32) (x3 : Vec Ideal S256x1024 .f32) : FVec Ideal S1x1024 .f32 :=
  k0_pay22 x3 (k0_pay13 x0) (k0_pay14 x0 x1 x2) (k0_pay15 x0 x1 x2) (k0_pay17 x0 x1 x2) (k0_pay18 x0 x1 x2) (k0_pay19 (F := Ideal))
abbrev bsum (x0 : Vec Ideal S256x1024 .f32) (x1 x2 : Vec Ideal S1x1024 .f32) (x3 : Vec Ideal S256x1024 .f32) : FVec Ideal S1x1024 .f32 :=
  k0_pay21 x3 (k0_pay14 x0 x1 x2) (k0_pay15 x0 x1 x2) (k0_pay17 x0 x1 x2) (k0_pay18 x0 x1 x2) (k0_pay19 (F := Ideal))

variable (c : Dev nD) (i : grid0.Coords)
  (arg1 : Memref sig .tc .vmem S256x1024 .f32) (harg1 : arg1.IsWhole)
  (arg2 : Memref sig .tc .vmem S1x1024 .f32) (harg2 : arg2.IsWhole)
  (arg3 : Memref sig .tc .vmem S1x1024 .f32) (harg3 : arg3.IsWhole)
  (arg4 : Memref sig .tc .vmem S256x1024 .f32) (harg4 : arg4.IsWhole)
  (arg5 : Memref sig .tc .vmem S256x1024 .f32) (harg5 : arg5.IsWhole)
  (arg6 : Memref sig .tc .vmem S1x1024 .f32) (harg6 : arg6.IsWhole)
  (arg7 : Memref sig .tc .vmem S1x1024 .f32) (harg7 : arg7.IsWhole)
  (x0 : Vec Ideal S256x1024 .f32)
  (x1 : Vec Ideal S1x1024 .f32)
  (x2 : Vec Ideal S1x1024 .f32)
  (x3 : Vec Ideal S256x1024 .f32)
  (y5 : Vec Ideal S1x1024 .f32)
  (y6 : Vec Ideal S1x1024 .f32)

theorem out_A_4 (hc0 : cond0_0 i) :
    out0_A_4 c i arg1 harg1 arg2 harg2 arg3 harg3 arg4 harg4 arg5 harg5 arg6 harg6 arg7 harg7 hc0 x0 x1 x2 x3
      = rows x0 x1 x2 x3 := by
  unfold out0_A_4
  rw [View.read_writes_eq_canon _ _ _ (cover0_A_4 c i arg1 harg1 arg2 harg2 arg3 harg3 arg4 harg4 arg5 harg5 arg6 harg6 arg7 harg7 hc0 x0 x1 x2 x3)]
  unfold kernelRun0_A
  dsimp only
  try sl_unfold_words
  rw [View.canon_unit_zero off2]
  simp only [View.readAt_eq_ld, harg1.read_unread, harg2.read_unread, harg3.read_unread, harg4.read_unread, harg5.read_unread, harg6.read_unread, harg7.read_unread,
    View.ld_unit_zero (S := S1x1024) off2, View.ld_unit_zero (S := S256x1024) off2, shapeCast_self]

theorem out_A_5 (hc0 : cond0_0 i) :
    out0_A_5 c i arg1 harg1 arg2 harg2 arg3 harg3 arg4 harg4 arg5 harg5 arg6 harg6 arg7 harg7 hc0 x0 x1 x2 x3
      = k0_pay4 (gsum x0 x1 x2 x3) (k0_pay2 (F := Ideal)) := by
  unfold out0_A_5
  rw [View.read_writes_eq_canon _ _ _ (cover0_A_5 c i arg1 harg1 arg2 harg2 arg3 harg3 arg4 harg4 arg5 harg5 arg6 harg6 arg7 harg7 hc0 x0 x1 x2 x3)]
  unfold kernelRun0_A
  dsimp only
  try sl_unfold_words
  rw [View.canon_cons_unit_zero (S := S1x1024) off2, View.readCov_unit_zero (S := S1x1024) _ off2]
  simp only [View.readAt_eq_ld, harg1.read_unread, harg2.read_unread, harg3.read_unread, harg4.read_unread, harg5.read_unread, harg6.read_unread, harg7.read_unread,
    View.ld_unit_zero (S := S1x1024) off2, View.ld_unit_zero (S := S256x1024) off2, shapeCast_self]

theorem out_A_6 (hc0 : cond0_0 i) :
    out0_A_6 c i arg1 harg1 arg2 harg2 arg3 harg3 arg4 harg4 arg5 harg5 arg6 harg6 arg7 harg7 hc0 x0 x1 x2 x3
      = k0_pay5 (bsum x0 x1 x2 x3) (k0_pay3 (F := Ideal)) := by
  unfold out0_A_6
  rw [View.read_writes_eq_canon _ _ _ (cover0_A_6 c i arg1 harg1 arg2 harg2 arg3 harg3 arg4 harg4 arg5 harg5 arg6 harg6 arg7 harg7 hc0 x0 x1 x2 x3)]
  unfold kernelRun0_A
  dsimp only
  try sl_unfold_words
  rw [View.canon_cons_unit_zero (S := S1x1024) off2, View.readCov_unit_zero (S := S1x1024) _ off2]
  simp only [View.readAt_eq_ld, harg1.read_unread, harg2.read_unread, harg3.read_unread, harg4.read_unread, harg5.read_unread, harg6.read_unread, harg7.read_unread,
    View.ld_unit_zero (S := S1x1024) off2, View.ld_unit_zero (S := S256x1024) off2, shapeCast_self]

theorem out_B_4 (hc0 : ¬cond0_0 i) :
    out0_B_4 c i arg1 harg1 arg2 harg2 arg3 harg3 arg4 harg4 arg5 harg5 arg6 harg6 arg7 harg7 hc0 x0 x1 x2 x3 y5 y6
      = rows x0 x1 x2 x3 := by
  unfold out0_B_4
  rw [View.read_writes_eq_canon _ _ _ (cover0_B_4 c i arg1 harg1 arg2 harg2 arg3 harg3 arg4 harg4 arg5 harg5 arg6 harg6 arg7 harg7 hc0 x0 x1 x2 x3 y5 y6)]
  unfold kernelRun0_B
  dsimp only
  try sl_unfold_words
  rw [View.canon_unit_zero off2]
  simp only [View.readAt_eq_ld, harg1.read_unread, harg2.read_unread, harg3.read_unread, harg4.read_unread, harg5.read_unread, harg6.read_unread, harg7.read_unread,
    View.ld_unit_zero (S := S1x1024) off2, View.ld_unit_zero (S := S256x1024) off2, shapeCast_self]

theorem out_B_5 (hc0 : ¬cond0_0 i) :
    out0_B_5 c i arg1 harg1 arg2 harg2 arg3 harg3 arg4 harg4 arg5 harg5 arg6 harg6 arg7 harg7 hc0 x0 x1 x2 x3 y5 y6
      = k0_pay4 (gsum x0 x1 x2 x3) y5 := by
  unfold out0_B_5
  rw [View.read_writes_eq_canon _ _ _ (cover0_B_5 c i arg1 harg1 arg2 harg2 arg3 harg3 arg4 harg4 arg5 harg5 arg6 harg6 arg7 harg7 hc0 x0 x1 x2 x3 y5 y6)]
  unfold kernelRun0_B
  dsimp only
  try sl_unfold_words
  rw [View.canon_unit_zero off2]
  simp only [View.readAt_eq_ld, harg1.read_unread, harg2.read_unread, harg3.read_unread, harg4.read_unread, harg5.read_unread, harg6.read_unread, harg7.read_unread,
    View.ld_unit_zero (S := S1x1024) off2, View.ld_unit_zero (S := S256x1024) off2, shapeCast_self]

theorem out_B_6 (hc0 : ¬cond0_0 i) :
    out0_B_6 c i arg1 harg1 arg2 harg2 arg3 harg3 arg4 harg4 arg5 harg5 arg6 harg6 arg7 harg7 hc0 x0 x1 x2 x3 y5 y6
      = k0_pay5 (bsum x0 x1 x2 x3) y6 := by
  unfold out0_B_6
  rw [View.read_writes_eq_canon _ _ _ (cover0_B_6 c i arg1 harg1 arg2 harg2 arg3 harg3 arg4 harg4 arg5 harg5 arg6 harg6 arg7 harg7 hc0 x0 x1 x2 x3 y5 y6)]
  unfold kernelRun0_B
  dsimp only
  try sl_unfold_words
  rw [View.canon_unit_zero off2]
  simp only [View.readAt_eq_ld, harg1.read_unread, harg2.read_unread, harg3.read_unread, harg4.read_unread, harg5.read_unread, harg6.read_unread, harg7.read_unread,
    View.ld_unit_zero (S := S1x1024) off2, View.ld_unit_zero (S := S256x1024) off2, shapeCast_self]

end Cases

/-! ## The blocks -/

variable (m : (ℓ : Loc nD τ sig) → Buf (Elt Ideal) ℓ) (c : Dev nD)

/-- The arguments as launched. -/
abbrev A0 : (⟨2, ![2048, 1024]⟩ : Shape).Idx → EReal := m ((c : Thread nD τ).loc main_arg0)
abbrev A1 : (⟨2, ![1, 1024]⟩ : Shape).Idx → EReal := m ((c : Thread nD τ).loc main_arg1)
abbrev A2 : (⟨2, ![1, 1024]⟩ : Shape).Idx → EReal := m ((c : Thread nD τ).loc main_arg2)
abbrev A3 : (⟨2, ![2048, 1024]⟩ : Shape).Idx → EReal := m ((c : Thread nD τ).loc main_arg3)

theorem e0 : ∀ t : Fin cfg0.N, win0_0.index t 0 = t.val ∧ win0_0.index t 1 = 0 := by decide +kernel
theorem e1 : ∀ t : Fin cfg0.N, win0_1.index t 0 = 0 ∧ win0_1.index t 1 = 0 := by decide +kernel
theorem e2 : ∀ t : Fin cfg0.N, win0_2.index t 0 = 0 ∧ win0_2.index t 1 = 0 := by decide +kernel
theorem e3 : ∀ t : Fin cfg0.N, win0_3.index t 0 = t.val ∧ win0_3.index t 1 = 0 := by decide +kernel
theorem e4 : ∀ t : Fin cfg0.N, win0_4.index t 0 = t.val ∧ win0_4.index t 1 = 0 := by decide +kernel
theorem e5 : ∀ t : Fin cfg0.N, win0_5.index t 0 = 0 ∧ win0_5.index t 1 = 0 := by decide +kernel
theorem e6 : ∀ t : Fin cfg0.N, win0_6.index t 0 = 0 ∧ win0_6.index t 1 = 0 := by decide +kernel

/-- The token of row `r` of a grid point's tile. -/
def tok (t : Fin cfg0.N) (r : Fin 256) : Fin 2048 := ⟨t.val * 256 + r.val, by have : t.val < 8 := t.isLt; omega⟩

theorem blk0_at (t : Fin cfg0.N) (r : Fin 256) (d : Fin 1024) : iblk m c 0 t (ix2 r d) = A0 m c (ix2 (tok t r) d) := by
  show V m c main_arg0 (((cfg0.win 0).blk t).view.emb (ix2 r d)) = _
  rw [V_main_arg0]
  refine congrArg (m ((c : Thread nD τ).loc main_arg0)) (funext fun a => Fin.ext ?_)
  fin_cases a
  · show win0_0.index t 0 * 256 + 1 * r.val = t.val * 256 + r.val
    rw [(e0 t).1]; omega
  · show win0_0.index t 1 * 1024 + 1 * d.val = d.val
    rw [(e0 t).2]; omega

theorem blk1_at (t : Fin cfg0.N) (r : Fin 1) (d : Fin 1024) : iblk m c 1 t (ix2 r d) = A1 m c (ix2 0 d) := by
  show V m c main_arg1 (((cfg0.win 1).blk t).view.emb (ix2 r d)) = _
  rw [V_main_arg1]
  refine congrArg (m ((c : Thread nD τ).loc main_arg1)) (funext fun a => Fin.ext ?_)
  fin_cases a
  · show win0_1.index t 0 * 1 + 1 * r.val = 0
    rw [(e1 t).1]; omega
  · show win0_1.index t 1 * 1024 + 1 * d.val = d.val
    rw [(e1 t).2]; omega

theorem blk2_at (t : Fin cfg0.N) (r : Fin 1) (d : Fin 1024) : iblk m c 2 t (ix2 r d) = A2 m c (ix2 0 d) := by
  show V m c main_arg2 (((cfg0.win 2).blk t).view.emb (ix2 r d)) = _
  rw [V_main_arg2]
  refine congrArg (m ((c : Thread nD τ).loc main_arg2)) (funext fun a => Fin.ext ?_)
  fin_cases a
  · show win0_2.index t 0 * 1 + 1 * r.val = 0
    rw [(e2 t).1]; omega
  · show win0_2.index t 1 * 1024 + 1 * d.val = d.val
    rw [(e2 t).2]; omega

theorem blk3_at (t : Fin cfg0.N) (r : Fin 256) (d : Fin 1024) : iblk m c 3 t (ix2 r d) = A3 m c (ix2 (tok t r) d) := by
  show V m c main_arg3 (((cfg0.win 3).blk t).view.emb (ix2 r d)) = _
  rw [V_main_arg3]
  refine congrArg (m ((c : Thread nD τ).loc main_arg3)) (funext fun a => Fin.ext ?_)
  fin_cases a
  · show win0_3.index t 0 * 256 + 1 * r.val = t.val * 256 + r.val
    rw [(e3 t).1]; omega
  · show win0_3.index t 1 * 1024 + 1 * d.val = d.val
    rw [(e3 t).2]; omega

/-- The gradient in the rows. -/
def dx (x : S2048x1024.Idx → EReal) (g b : S1x1024.Idx → EReal) (d : S2048x1024.Idx → EReal) : S2048x1024.Idx → EReal := fun i =>
  dln (fun e => x (ix2 (i 0) e)) (sc (fun e => x (ix2 (i 0) e)) (fun e => g (ix2 0 e)) (fun e => b (ix2 0 e)) (fun e => d (ix2 (i 0) e))) (i 1)

/-- A row's contributions to the gradients in the gain and in the offset. -/
def dgTerm (x : S2048x1024.Idx → EReal) (g b : S1x1024.Idx → EReal) (d : S2048x1024.Idx → EReal) (j : Fin 1024) (t : Fin 2048) : EReal :=
  cen (fun e => x (ix2 t e)) j * rsd (fun e => x (ix2 t e)) * dy (fun e => x (ix2 t e)) (fun e => g (ix2 0 e)) (fun e => b (ix2 0 e)) (fun e => d (ix2 t e)) j
def dbTerm (x : S2048x1024.Idx → EReal) (g b : S1x1024.Idx → EReal) (d : S2048x1024.Idx → EReal) (j : Fin 1024) (t : Fin 2048) : EReal :=
  dy (fun e => x (ix2 t e)) (fun e => g (ix2 0 e)) (fun e => b (ix2 0 e)) (fun e => d (ix2 t e)) j

/-- The gradients in the gain and in the offset. -/
def dg (x : S2048x1024.Idx → EReal) (g b : S1x1024.Idx → EReal) (d : S2048x1024.Idx → EReal) : S1x1024.Idx → EReal := fun i => ∑ t, dgTerm x g b d (i 1) t
def db (x : S2048x1024.Idx → EReal) (g b : S1x1024.Idx → EReal) (d : S2048x1024.Idx → EReal) : S1x1024.Idx → EReal := fun i => ∑ t, dbTerm x g b d (i 1) t

theorem add4 (t : Fin cfg0.N) (y : Vec Ideal S1x1024 .f32) (j : Fin 1024) :
    k0_pay4 (F := Ideal) (gsum (iblk m c 0 t) (iblk m c 1 t) (iblk m c 2 t) (iblk m c 3 t)) y (ix2 0 j)
      = y (ix2 0 j) + ∑ r ∈ Finset.range 256, term (dgTerm (A0 m c) (A1 m c) (A2 m c) (A3 m c) j) (t.val * 256 + r) := by
  rw [pay4_at, gsum, pay22_at, Finset.sum_range]
  refine congrArg (y (ix2 0 j) + ·) (Finset.sum_congr rfl fun r _ => ?_)
  have hr : t.val * 256 + r.val < 2048 := (tok t r).isLt
  rw [term, dif_pos hr]
  simp only [blk0_at, blk1_at, blk2_at, blk3_at]
  rfl

theorem add5 (t : Fin cfg0.N) (y : Vec Ideal S1x1024 .f32) (j : Fin 1024) :
    k0_pay5 (F := Ideal) (bsum (iblk m c 0 t) (iblk m c 1 t) (iblk m c 2 t) (iblk m c 3 t)) y (ix2 0 j)
      = y (ix2 0 j) + ∑ r ∈ Finset.range 256, term (dbTerm (A0 m c) (A1 m c) (A2 m c) (A3 m c) j) (t.val * 256 + r) := by
  rw [pay5_at, bsum, pay21_at, Finset.sum_range]
  refine congrArg (y (ix2 0 j) + ·) (Finset.sum_congr rfl fun r _ => ?_)
  have hr : t.val * 256 + r.val < 2048 := (tok t r).isLt
  rw [term, dif_pos hr]
  simp only [blk0_at, blk1_at, blk2_at, blk3_at]
  rfl

theorem acc_at (n : ℕ) : ∀ t : Fin cfg0.N, t.val = n → ∀ (j : Fin 1024),
    (outsAt0 m c t.val t.isLt).2.1 (ix2 0 j) = ∑ i ∈ Finset.range ((t.val + 1) * 256), term (dgTerm (A0 m c) (A1 m c) (A2 m c) (A3 m c) j) i
    ∧ (outsAt0 m c t.val t.isLt).2.2 (ix2 0 j) = ∑ i ∈ Finset.range ((t.val + 1) * 256), term (dbTerm (A0 m c) (A1 m c) (A2 m c) (A3 m c) j) i := by
  induction n with
  | zero =>
    intro t ht j
    rw [outsAt0_A m c t (by omega)]
    dsimp only
    rw [out_A_5, out_A_6, add4, add5, pay2_at, pay3_at, sum_tile, sum_tile, ht]
    simp
  | succ n ih =>
    intro t ht j
    have ht8 : t.val < 8 := t.isLt
    have hp : t.val - 1 < cfg0.N := Nat.lt_of_le_of_lt (Nat.sub_le _ _) t.isLt
    have hI := ih ⟨t.val - 1, hp⟩ (by show t.val - 1 = n; omega) j
    have hm : t.val - 1 + 1 = t.val := by omega
    dsimp only at hI
    rw [hm] at hI
    rw [outsAt0_B m c t (by omega)]
    dsimp only
    rw [out_B_5, out_B_6, add4, add5, sum_tile, sum_tile, hI.1, hI.2]
    exact ⟨rfl, rfl⟩

theorem dx_at (t : Fin cfg0.N) (r : Fin 256) (j : Fin 1024) :
    (outsAt0 m c t.val t.isLt).1 (ix2 r j) = dx (A0 m c) (A1 m c) (A2 m c) (A3 m c) (ix2 (tok t r) j) := by
  have e : (outsAt0 m c t.val t.isLt).1 = rows (iblk m c 0 t) (iblk m c 1 t) (iblk m c 2 t) (iblk m c 3 t) := by
    by_cases h0 : t.val % 8 = 0
    · rw [outsAt0_A m c t h0]
      dsimp only
      rw [out_A_4]
    · rw [outsAt0_B m c t h0]
      dsimp only
      rw [out_B_4]
  rw [e, rows, pay1_at]
  simp only [blk0_at, blk1_at, blk2_at, blk3_at]
  rfl

/-! ## The arrays after the run -/

theorem final_dx : (dats m 0 c).arrAt 4 cfg0.N = dx (A0 m c) (A1 m c) (A2 m c) (A3 m c) := by
  refine (dats m 0 c).arrAt_eq_of_covers 4 _ (by decide +kernel) fun t hf y => ?_
  blk_simp
  rw [after0_4]
  revert y
  intro (y : S256x1024.Idx)
  idx_vars y
  refine (dx_at m c t y0 y1).trans (congrArg (dx (A0 m c) (A1 m c) (A2 m c) (A3 m c)) (funext fun a => Fin.ext ?_))
  fin_cases a
  · show t.val * 256 + y0.val = win0_4.index t 0 * 256 + 1 * y0.val
    rw [(e4 t).1]; omega
  · show y1.val = win0_4.index t 1 * 1024 + 1 * y1.val
    rw [(e4 t).2]; omega

theorem final_dg : (dats m 0 c).arrAt 5 cfg0.N = dg (A0 m c) (A1 m c) (A2 m c) (A3 m c) := by
  refine (dats m 0 c).arrAt_eq_of_covers 5 _ (by decide +kernel) fun t hf y => ?_
  have h7 : t.val = 7 := by have := (flush0_5 t).mp hf; have : t.val < 8 := t.isLt; omega
  blk_simp
  rw [after0_5]
  revert y
  intro (y : S1x1024.Idx)
  idx_vars y
  obtain rfl : y0 = 0 := Subsingleton.elim _ _
  rw [(acc_at m c t.val t rfl y1).1]
  have h1 : ((cfg0.win 5).blk t).view.emb (ix2 0 y1) 1 = y1 := Fin.ext (by
    show win0_5.index t 1 * 1024 + 1 * y1.val = y1.val
    rw [(e5 t).2]; omega)
  refine (sum_rows 256 _ (dgTerm (A0 m c) (A1 m c) (A2 m c) (A3 m c) y1) (fun s => ?_) _ (by omega)).trans ?_
  · rw [term, dif_pos s.isLt]
  · show _ = ∑ s, dgTerm (A0 m c) (A1 m c) (A2 m c) (A3 m c) (((cfg0.win 5).blk t).view.emb (ix2 0 y1) 1) s
    rw [h1]

theorem final_db : (dats m 0 c).arrAt 6 cfg0.N = db (A0 m c) (A1 m c) (A2 m c) (A3 m c) := by
  refine (dats m 0 c).arrAt_eq_of_covers 6 _ (by decide +kernel) fun t hf y => ?_
  have h7 : t.val = 7 := by have := (flush0_6 t).mp hf; have : t.val < 8 := t.isLt; omega
  blk_simp
  rw [after0_6]
  revert y
  intro (y : S1x1024.Idx)
  idx_vars y
  obtain rfl : y0 = 0 := Subsingleton.elim _ _
  rw [(acc_at m c t.val t rfl y1).2]
  have h1 : ((cfg0.win 6).blk t).view.emb (ix2 0 y1) 1 = y1 := Fin.ext (by
    show win0_6.index t 1 * 1024 + 1 * y1.val = y1.val
    rw [(e6 t).2]; omega)
  refine (sum_rows 256 _ (dbTerm (A0 m c) (A1 m c) (A2 m c) (A3 m c) y1) (fun s => ?_) _ (by omega)).trans ?_
  · rw [term, dif_pos s.isLt]
  · show _ = ∑ s, dbTerm (A0 m c) (A1 m c) (A2 m c) (A3 m c) (((cfg0.win 6).blk t).view.emb (ix2 0 y1) 1) s
    rw [h1]

/-! ## The reference -/

section Reference

open Cert.Reference54Ideal.Read

variable (x0 x3 : (⟨Cert.Reference54Ideal.S2048x1024, .f32⟩ : BufTy).Contents (Elt Ideal)) (x1 x2 : (⟨Cert.Reference54Ideal.S1x1024, .f32⟩ : BufTy).Contents (Elt Ideal))

theorem v3_at (t : Fin 2048) : val_main_v3 (F := Ideal) x0 (ix2 t 0) = mean fun e => x0 (ix2 t e) := by
  pointwise [val_main_v3, val_main_v2, val_main_v1, val_main_v0, val_main_cst, val_main_cst_0, mean]

theorem v5_at (t : Fin 2048) (j : Fin 1024) : val_main_v5 (F := Ideal) x0 (ix2 t j) = cen (fun e => x0 (ix2 t e)) j := by
  pointwise [val_main_v5, val_main_v4, cen]
  rw [v3_at]

theorem v14_at (t : Fin 2048) (j : Fin 1024) : val_main_v14 (F := Ideal) x0 (ix2 t j) = cen (fun e => x0 (ix2 t e)) j := by
  pointwise [val_main_v14, val_main_v13, cen]
  rw [v3_at]

theorem v16_at (t : Fin 2048) :
    val_main_v16 (F := Ideal) x0 (ix2 t 0) = var (fun e => x0 (ix2 t e)) + Ideal.ofBits .f32 0x3727C5AC#32 := by
  pointwise [val_main_v16, val_main_v15, val_main_v12, val_main_v11, val_main_v10, val_main_v9, val_main_v6, val_main_cst_2, val_main_cst_3, val_main_cst_4,
    var]
  simp only [v5_at]

theorem v17_at (t : Fin 2048) : val_main_v17 (F := Ideal) x0 (ix2 t 0) = rsd fun e => x0 (ix2 t e) := by
  pointwise [val_main_v17, rsd]
  rw [v16_at]

theorem v22_at (t : Fin 2048) (j : Fin 1024) :
    val_main_v22 (F := Ideal) x0 (ix2 t j) = cen (fun e => x0 (ix2 t e)) j * rsd fun e => x0 (ix2 t e) := by
  pointwise [val_main_v22, val_main_v21]
  rw [v14_at, v17_at]

theorem v26_at (t : Fin 2048) (j : Fin 1024) :
    val_main_v26 (F := Ideal) x0 x1 x2 (ix2 t j) = ln (fun e => x0 (ix2 t e)) (fun e => x1 (ix2 0 e)) (fun e => x2 (ix2 0 e)) j := by
  pointwise [val_main_v26, val_main_v25, val_main_v24, val_main_v23, ln]
  rw [v22_at]

theorem v28_at (t : Fin 2048) (j : Fin 1024) : val_main_v28 (F := Ideal) x0 x1 x2 x3 (ix2 t j) = dy (fun e => x0 (ix2 t e)) (fun e => x1 (ix2 0 e)) (fun e => x2 (ix2 0 e)) (fun e => x3 (ix2 t e)) j := by
  pointwise [val_main_v28, val_main_call1_v2, val_main_call1_v1, val_main_call1_v0, val_main_v27_1, val_main_v27_2, val_main_call0_v7, val_main_call0_v6,
    val_main_call0_v4, val_main_call0_v3, val_main_call0_v2, val_main_call0_v1, val_main_call0_v0, val_main_call0_cst, val_main_call0_cst_0,
    val_main_call0_cst_1, dy, dact, logi]
  simp only [v26_at]

theorem v30_at (i : S1x1024.Idx) : val_main_v30 (F := Ideal) x0 x1 x2 x3 i = db x0 x1 x2 x3 i := by
  idx_vars i
  pointwise [val_main_v30, val_main_v29, val_main_cst_6, db, dbTerm]
  simp only [v28_at]

theorem v33_at (i : S1x1024.Idx) : val_main_v33 (F := Ideal) x0 x1 x2 x3 i = dg x0 x1 x2 x3 i := by
  idx_vars i
  pointwise [val_main_v33, val_main_v32, val_main_v31, val_main_cst_7, dg, dgTerm]
  simp only [v22_at, v28_at]

theorem v35_at (t : Fin 2048) (j : Fin 1024) : val_main_v35 (F := Ideal) x0 x1 x2 x3 (ix2 t j) = sc (fun e => x0 (ix2 t e)) (fun e => x1 (ix2 0 e)) (fun e => x2 (ix2 0 e)) (fun e => x3 (ix2 t e)) j := by
  pointwise [val_main_v35, val_main_v34, sc]
  rw [v28_at]

theorem v40_at (t : Fin 2048) (j : Fin 1024) :
    val_main_v40 (F := Ideal) x0 x1 x2 x3 (ix2 t j) = sc (fun e => x0 (ix2 t e)) (fun e => x1 (ix2 0 e)) (fun e => x2 (ix2 0 e)) (fun e => x3 (ix2 t e)) j * rsd fun e => x0 (ix2 t e) := by
  pointwise [val_main_v40, val_main_v39]
  rw [v35_at, v17_at]

theorem v49_at (t : Fin 2048) (j : Fin 1024) : val_main_v49 (F := Ideal) x0 x1 x2 x3 (ix2 t j)
    = push (fun e => x0 (ix2 t e)) (sc (fun e => x0 (ix2 t e)) (fun e => x1 (ix2 0 e)) (fun e => x2 (ix2 0 e)) (fun e => x3 (ix2 t e)))
      * (Ideal.ofBits .f32 0x40000000#32 * cen (fun e => x0 (ix2 t e)) j) := by
  pointwise [val_main_v49, val_main_v48, val_main_v47, val_main_v46, val_main_v45, val_main_v41, val_main_v38, val_main_v37, val_main_v36, val_main_v20,
    val_main_v19, val_main_v18, val_main_v8, val_main_v7, val_main_cst_1, val_main_cst_5, val_main_cst_8, val_main_cst_10, val_main_cst_11, push, width]
  simp only [v35_at, v14_at, v17_at, v16_at, v5_at, Fin.sum_univ_one]

theorem v59_at (i : S2048x1024.Idx) : val_main_v59 (F := Ideal) x0 x1 x2 x3 i = dx x0 x1 x2 x3 i := by
  idx_vars i
  pointwise [val_main_v59, val_main_v58, val_main_v57, val_main_v56, val_main_v55, val_main_v54, val_main_v53, val_main_v52, val_main_v51, val_main_v50,
    val_main_v44, val_main_v43, val_main_v42, val_main_cst_9, val_main_cst_12, val_main_cst_13, val_main_cst_14, dx, dln, width]
  simp only [v40_at, v49_at, Fin.sum_univ_one]

end Reference

theorem agree : algebraic_Kernel54Ideal_Reference54Ideal (hKernel54Ideal := Cert.Kernel54Ideal.Gen.facts)
    (hReference54Ideal := Cert.Reference54Ideal.Gen.facts) := by
  intro m g m' g' _ ha
  refine ⟨fun c => dx (A0 m c) (A1 m c) (A2 m c) (A3 m c), fun c => dg (A0 m c) (A1 m c) (A2 m c) (A3 m c), fun c => db (A0 m c) (A1 m c) (A2 m c) (A3 m c),
    (θ_run _ _ _).mono (fun r h c => ⟨(h c).1.trans (final_dx m c), (h c).2.1.trans (final_dg m c), (h c).2.2.1.trans (final_db m c), (h c).2.2.2⟩)
      (Cert.Kernel54Ideal.Value.run_blocks m g),
    (θ_run _ _ _).mono (fun r h c => ?_) (Cert.Reference54Ideal.Value.run m' g')⟩
  obtain ⟨e0, e1, e2, e3⟩ := ha c
  refine ⟨(h c).1.trans ?_, (h c).2.1.trans ?_, (h c).2.2.1.trans ?_, (h c).2.2.2⟩
  · rw [Cert.Reference54Ideal.Read.val_main_v59_eq, e0, e1, e2, e3]
    exact funext fun i => v59_at _ _ _ _ i
  · rw [Cert.Reference54Ideal.Read.val_main_v33_eq, e0, e1, e2, e3]
    exact funext fun i => v33_at _ _ _ _ i
  · rw [Cert.Reference54Ideal.Read.val_main_v30_eq, e0, e1, e2, e3]
    exact funext fun i => v30_at _ _ _ _ i

end Cert.Proof.SiluBwd

end
-- ==== Proof.BiasBwd.lean ====
/-
  The gradient of a bias: the cotangent's rows, summed over the eight tiles.
-/
module

public import proofs.«01_k».proof.Defs
public import proofs.«01_k».proof.Proof.Tiles
public import proofs.«01_k».proof.Proof.NormMath
public import proofs.«01_k».proof.Proof.Gen.Kernel55Ideal.Value
public import proofs.«01_k».proof.Proof.Gen.Reference55Ideal.Run
public import proofs.«01_k».proof.Proof.Gen.Reference55Ideal.Read
public import Idealize.ShloMosaic.Lib.Pipeline.ValueKit
public import Idealize.ShloMosaic.Lib.Pointwise

@[expose] public section

noncomputable section

namespace Cert.Proof.BiasBwd

open Idealize.ShloMosaic Idealize.SL.Sem Cert.Kernel55Ideal Cert.Kernel55Ideal.Gen
open Idealize.ShloMosaic.TcCoe
open Idealize.ShloMosaic.Pipeline (Dat Cfg Window)
open Cert.Proof.Norm (sum_rows)
/-! ## The body at one grid point -/

theorem pay1_at (j : Fin 1024) : k0_pay1 (F := Ideal) (ix2 0 j) = 0 := by
  pointwise [k0_pay1]

theorem pay2_at (d : Vec Ideal S256x1024 .f32) (y : Vec Ideal S1x1024 .f32) (j : Fin 1024) :
    k0_pay2 (F := Ideal) d y (ix2 0 j) = y (ix2 0 j) + ∑ r, d (ix2 r j) := by
  pointwise [k0_pay2]

section Cases

variable (c : Dev nD) (i : grid0.Coords)
  (arg1 : Memref sig .tc .vmem S256x1024 .f32) (harg1 : arg1.IsWhole)
  (arg2 : Memref sig .tc .vmem S1x1024 .f32) (harg2 : arg2.IsWhole)
  (arg3 : Memref sig .tc .vmem S256x1024 .f32) (harg3 : arg3.IsWhole)
  (arg4 : Memref sig .tc .vmem S1x1024 .f32) (harg4 : arg4.IsWhole)
  (x0 : Vec Ideal S256x1024 .f32)
  (x1 : Vec Ideal S1x1024 .f32)
  (x2 : Vec Ideal S256x1024 .f32)
  (y3 : Vec Ideal S1x1024 .f32)

theorem out_A_3 (hc0 : cond0_0 i) :
    out0_A_3 c i arg1 harg1 arg2 harg2 arg3 harg3 arg4 harg4 hc0 x0 x1 x2
      = k0_pay2 x2 (k0_pay1 (F := Ideal)) := by
  unfold out0_A_3
  rw [View.read_writes_eq_canon _ _ _ (cover0_A_3 c i arg1 harg1 arg2 harg2 arg3 harg3 arg4 harg4 hc0 x0 x1 x2)]
  unfold kernelRun0_A
  dsimp only
  try sl_unfold_words
  rw [View.canon_cons_unit_zero (S := S1x1024) off2, View.readCov_unit_zero (S := S1x1024) _ off2]
  simp only [View.readAt_eq_ld, harg1.read_unread, harg2.read_unread, harg3.read_unread, harg4.read_unread,
    View.ld_unit_zero (S := S1x1024) off2, View.ld_unit_zero (S := S256x1024) off2, shapeCast_self]

theorem out_B_3 (hc0 : ¬cond0_0 i) :
    out0_B_3 c i arg1 harg1 arg2 harg2 arg3 harg3 arg4 harg4 hc0 x0 x1 x2 y3
      = k0_pay2 x2 y3 := by
  unfold out0_B_3
  rw [View.read_writes_eq_canon _ _ _ (cover0_B_3 c i arg1 harg1 arg2 harg2 arg3 harg3 arg4 harg4 hc0 x0 x1 x2 y3)]
  unfold kernelRun0_B
  dsimp only
  try sl_unfold_words
  rw [View.canon_unit_zero off2]
  simp only [View.readAt_eq_ld, harg1.read_unread, harg2.read_unread, harg3.read_unread, harg4.read_unread,
    View.ld_unit_zero (S := S1x1024) off2, View.ld_unit_zero (S := S256x1024) off2, shapeCast_self]

end Cases

/-! ## The blocks -/

variable (m : (ℓ : Loc nD τ sig) → Buf (Elt Ideal) ℓ) (c : Dev nD)

/-- The arguments as launched. -/
abbrev A0 : (⟨2, ![2048, 1024]⟩ : Shape).Idx → EReal := m ((c : Thread nD τ).loc main_arg0)

theorem e2 : ∀ t : Fin cfg0.N, win0_2.index t 0 = t.val ∧ win0_2.index t 1 = 0 := by decide +kernel
theorem e3 : ∀ t : Fin cfg0.N, win0_3.index t 0 = 0 ∧ win0_3.index t 1 = 0 := by decide +kernel

/-- The token of row `r` of a grid point's tile. -/
def tok (t : Fin cfg0.N) (r : Fin 256) : Fin 2048 := ⟨t.val * 256 + r.val, by have : t.val < 8 := t.isLt; omega⟩

theorem blk2_at (t : Fin cfg0.N) (r : Fin 256) (d : Fin 1024) : iblk m c 2 t (ix2 r d) = A0 m c (ix2 (tok t r) d) := by
  show V m c main_arg0 (((cfg0.win 2).blk t).view.emb (ix2 r d)) = _
  rw [V_main_arg0]
  refine congrArg (m ((c : Thread nD τ).loc main_arg0)) (funext fun a => Fin.ext ?_)
  fin_cases a
  · show win0_2.index t 0 * 256 + 1 * r.val = t.val * 256 + r.val
    rw [(e2 t).1]; omega
  · show win0_2.index t 1 * 1024 + 1 * d.val = d.val
    rw [(e2 t).2]; omega

/-- The column sums. -/
def db (d : S2048x1024.Idx → EReal) : S1x1024.Idx → EReal := fun i => ∑ t : Fin 2048, d (ix2 t (i 1))

/-- A row's entry, by the row's number. -/
def term (j : Fin 1024) (n : ℕ) : EReal := if hn : n < 2048 then A0 m c (ix2 ⟨n, hn⟩ j) else 0

theorem add2 (t : Fin cfg0.N) (y : Vec Ideal S1x1024 .f32) (j : Fin 1024) :
    k0_pay2 (F := Ideal) (iblk m c 2 t) y (ix2 0 j) = y (ix2 0 j) + ∑ r ∈ Finset.range 256, term m c j (t.val * 256 + r) := by
  rw [pay2_at, Finset.sum_range]
  refine congrArg (y (ix2 0 j) + ·) (Finset.sum_congr rfl fun r _ => ?_)
  have hr : t.val * 256 + r.val < 2048 := (tok t r).isLt
  rw [term, dif_pos hr]
  simp only [blk2_at]
  rfl

theorem acc_at (n : ℕ) : ∀ t : Fin cfg0.N, t.val = n → ∀ (j : Fin 1024),
    outsAt0 m c t.val t.isLt (ix2 0 j) = ∑ i ∈ Finset.range ((t.val + 1) * 256), term m c j i := by
  induction n with
  | zero =>
    intro t ht j
    rw [outsAt0_A m c t (by omega), out_A_3, add2, pay1_at, sum_tile, ht]
    simp
  | succ n ih =>
    intro t ht j
    have ht8 : t.val < 8 := t.isLt
    have hp : t.val - 1 < cfg0.N := Nat.lt_of_le_of_lt (Nat.sub_le _ _) t.isLt
    have hI := ih ⟨t.val - 1, hp⟩ (by show t.val - 1 = n; omega) j
    have hm : t.val - 1 + 1 = t.val := by omega
    dsimp only at hI
    rw [hm] at hI
    rw [outsAt0_B m c t (by omega), out_B_3, add2, sum_tile, hI]

/-- The array after the run. -/
theorem final_db : (dats m 0 c).arrAt 3 cfg0.N = db (A0 m c) := by
  refine (dats m 0 c).arrAt_eq_of_covers 3 _ (by decide +kernel) fun t hf y => ?_
  have h7 : t.val = 7 := by have := (flush0_3 t).mp hf; have : t.val < 8 := t.isLt; omega
  blk_simp
  rw [after0_3]
  revert y
  intro (y : S1x1024.Idx)
  idx_vars y
  obtain rfl : y0 = 0 := Subsingleton.elim _ _
  rw [acc_at m c t.val t rfl y1]
  have h1 : ((cfg0.win 3).blk t).view.emb (ix2 0 y1) 1 = y1 := Fin.ext (by
    show win0_3.index t 1 * 1024 + 1 * y1.val = y1.val
    rw [(e3 t).2]; omega)
  refine (sum_rows 256 _ (fun s : Fin 2048 => A0 m c (ix2 s y1)) (fun s => ?_) _ (by omega)).trans ?_
  · rw [term, dif_pos s.isLt]
  · show _ = ∑ s : Fin 2048, A0 m c (ix2 s (((cfg0.win 3).blk t).view.emb (ix2 0 y1) 1))
    rw [h1]

/-! ## The reference -/

section Reference

open Cert.Reference55Ideal.Read

variable (x0 : (⟨Cert.Reference55Ideal.S2048x1024, .f32⟩ : BufTy).Contents (Elt Ideal))

theorem v4_at (i : S1x1024.Idx) : val_main_v4 (F := Ideal) x0 i = db x0 i := by
  idx_vars i
  pointwise [val_main_v4, val_main_v3, val_main_cst_0, db]

end Reference

theorem agree : algebraic_Kernel55Ideal_Reference55Ideal (hKernel55Ideal := Cert.Kernel55Ideal.Gen.facts)
    (hReference55Ideal := Cert.Reference55Ideal.Gen.facts) := by
  intro m g m' g' _ ha
  refine ⟨fun c => db (A0 m c),
    (θ_run _ _ _).mono (fun r h c => ⟨(h c).1.trans (final_db m c), (h c).2⟩) (Cert.Kernel55Ideal.Value.run_blocks m g),
    (θ_run _ _ _).mono (fun r h c => ?_) (Cert.Reference55Ideal.Value.run m' g')⟩
  refine ⟨(h c).1.trans ?_, (h c).2⟩
  rw [(ha c).1]
  exact (Cert.Reference55Ideal.Read.val_main_v4_eq _).trans (funext fun i => v4_at _ i)

end Cert.Proof.BiasBwd

end
-- ==== Proof.GateBwd.lean ====
/-
  The gradients of the feed-forward's gate and of its three taps: in the two halves' rows, each entry moved back up to the rows it came
  from, and in the taps, a column at a time. The value half of the rows and of the taps, and the cotangent, are finite.
-/
module

public import proofs.«01_k».proof.Defs
public import proofs.«01_k».proof.Proof.Tiles
public import proofs.«01_k».proof.Proof.Shift
public import proofs.«01_k».proof.Proof.GateFwd
public import proofs.«01_k».proof.Proof.AttnClaim
public import Idealize.ShloMosaic.Lib.KernelVsHost
public import proofs.«01_k».proof.Proof.Gen.Kernel48Ideal.Value
public import proofs.«01_k».proof.Proof.Gen.Reference48Ideal.Run
public import proofs.«01_k».proof.Proof.Gen.Reference48Ideal.Read
public import Idealize.ShloMosaic.Lib.Pipeline.ValueKit
public import Idealize.ShloMosaic.Lib.Pointwise

@[expose] public section

noncomputable section

namespace Cert.Proof.GateBwd

open Idealize.ShloMosaic Idealize.SL.Sem Cert.Kernel48Ideal Cert.Kernel48Ideal.Gen
open Idealize.ShloMosaic.TcCoe
open Idealize.ShloMosaic.Pipeline (Dat Cfg Window)
open Cert.Proof.Shift (sh sel_sh sh_pad up sel_up logi)
open Cert.Proof.GateFwd (conv lo hi)

/-- The entry two rows below row `r`, and zero where there is none. -/
def up2 (x : Fin 2048 → EReal) (r : Fin 2048) : EReal := if h : 2 + r.val < 2048 then x ⟨2 + r.val, h⟩ else 0

/-- The kernel's spelling: the column rotated by all its rows but two, masked in its last two rows. -/
theorem sel_up2 (x : Fin 2048 → EReal) (r : Fin 2048) (h : (r.val + 2048 - 2046) % 2048 < 2048) :
    Scalar.select (IntOp.cmpi .slt (BitVec.ofNat 32 r.val) (BitVec.ofNat 32 2046)) (x ⟨(r.val + 2048 - 2046) % 2048, h⟩) 0 = up2 x r := by
  have hr := r.isLt
  rw [WordCmp.cmpi_slt_ofNat (by norm_num; omega) (by norm_num), up2]
  by_cases hc : 2 + r.val < 2048
  · rw [dif_pos hc, decide_eq_true (by omega)]
    show x _ = x _
    exact congrArg x (Fin.ext (by show (r.val + 2048 - 2046) % 2048 = 2 + r.val; omega))
  · rw [dif_neg hc, decide_eq_false (by omega)]
    rfl

/-- Three taps' transpose, down a column. -/
def adj (w : Fin 3 → EReal) (y : Fin 2048 → EReal) (r : Fin 2048) : EReal := w 0 * up2 y r + w 1 * up y r + w 2 * y r

/-- The taps' gradients, over five rows of zeros. -/
def taps (x y : Fin 2048 → EReal) : Fin 3 → EReal := ![∑ r, y r * sh 2 x r, ∑ r, y r * sh 1 x r, ∑ r, y r * x r]
def rows (t : Fin 3 → EReal) (i : Fin 8) : EReal := if h : i.val < 3 then t ⟨i.val, h⟩ else 0

/-- The gate's gradient at `g`, for the cotangent `z` of the gated entry, and the gated value's. -/
def dg (g z : EReal) : EReal := z * (logi g * (1 + g * (1 - logi g)))
def dv (g d : EReal) : EReal := d * g * logi g

/-- With a finite cotangent it is the sum of the product rule. -/
theorem dg_eq (g : EReal) (z : ℝ) : dg g z = (z : EReal) * logi g + g * z * (logi g * (1 - logi g)) := by
  unfold dg
  induction g using EReal.rec with
  | bot =>
    have h : logi ⊥ = 0 := by
      rw [logi, EReal.neg_bot, Ideal.exp_top, EReal.add_top_of_ne_bot (show (1 : EReal) ≠ ⊥ from EReal.coe_ne_bot 1)]
      simp [Ideal.div]
    simp [h]
  | coe r =>
    have hq : (1 + Real.exp (-r)) ≠ 0 := by positivity
    have h : logi r = (((1 + Real.exp (-r))⁻¹ : ℝ) : EReal) := by
      rw [logi, ← EReal.coe_neg, Ideal.exp_coe, ← EReal.coe_one, ← EReal.coe_add, Ideal.div, if_neg (by exact_mod_cast hq), ← EReal.coe_inv,
        ← EReal.coe_mul, one_mul]
    rw [h]
    norm_cast
    ring
  | top =>
    have h : logi ⊤ = 1 := by
      rw [logi, EReal.neg_top, Ideal.exp_bot, add_zero]
      simp [Ideal.div]
    have h1 : (1 : EReal) - 1 = 0 := by rw [← EReal.coe_one, ← EReal.coe_sub]; simp
    simp [h, h1]

/-- A column's two cotangents. -/
def dgc (wl : Fin 3 → EReal) (ul : Fin 2048 → EReal) (wh : Fin 3 → EReal) (uh d : Fin 2048 → EReal) (e : Fin 2048) : EReal :=
  dg (conv wl ul e) (d e * conv wh uh e)
def dvc (wl : Fin 3 → EReal) (ul d : Fin 2048 → EReal) (e : Fin 2048) : EReal := dv (conv wl ul e) (d e)

/-! ## The body at one grid point -/

section Body

variable (a b d y : Vec Ideal S2048x128 .f32) (v w : Vec Ideal S3x128 .f32) (r : Fin 2048) (j : Fin 128)

/-- A block's columns moved up one row and up two. -/
def lift : Vec Ideal S2048x128 .f32 :=
  select (cmpi .slt (iota .tc S2048x128 32 [0] iota_S2048x128_d0_w32) (broadcast S2048x128 2047#32))
    (dynamicRotate 0 2047#32 none y rotates_S2048x128_d0) (broadcast S2048x128 (Scalar.ofBits (F := Ideal) .f32 0x00000000#32))
def lift2 : Vec Ideal S2048x128 .f32 :=
  select (cmpi .slt (iota .tc S2048x128 32 [0] iota_S2048x128_d0_w32) (broadcast S2048x128 2046#32))
    (dynamicRotate 0 2046#32 none y rotates_S2048x128_d0) (broadcast S2048x128 (Scalar.ofBits (F := Ideal) .f32 0x00000000#32))

theorem zero : Scalar.ofBits (F := Ideal) .f32 0x00000000#32 = (0 : EReal) := by pointwise []
theorem row_at : iota .tc S2048x128 32 [0] iota_S2048x128_d0_w32 (ix2 r j) = BitVec.ofNat 32 r.val := by pointwise []

theorem lift_at : lift y (ix2 r j) = up (fun e => y (ix2 e j)) r := by
  have hrot : dynamicRotate 0 2047#32 none y rotates_S2048x128_d0 (ix2 r j)
      = y (ix2 ⟨(r.val + 2048 - 2047) % 2048, Nat.mod_lt _ (by norm_num)⟩ j) := by
    rw [Pointwise.dynamicRotate_apply]
    refine congrArg y (funext fun b => ?_)
    fin_cases b <;> rfl
  rw [← sel_up (fun e => y (ix2 e j)) r (Nat.mod_lt _ (by norm_num))]
  unfold lift
  rw [zero]
  show Scalar.select (IntOp.cmpi .slt (iota .tc S2048x128 32 [0] iota_S2048x128_d0_w32 (ix2 r j)) 2047#32)
    (dynamicRotate 0 2047#32 none y rotates_S2048x128_d0 (ix2 r j)) (0 : EReal) = _
  rw [row_at, hrot]

theorem lift2_at : lift2 y (ix2 r j) = up2 (fun e => y (ix2 e j)) r := by
  have hrot : dynamicRotate 0 2046#32 none y rotates_S2048x128_d0 (ix2 r j)
      = y (ix2 ⟨(r.val + 2048 - 2046) % 2048, Nat.mod_lt _ (by norm_num)⟩ j) := by
    rw [Pointwise.dynamicRotate_apply]
    refine congrArg y (funext fun b => ?_)
    fin_cases b <;> rfl
  rw [← sel_up2 (fun e => y (ix2 e j)) r (Nat.mod_lt _ (by norm_num))]
  unfold lift2
  rw [zero]
  show Scalar.select (IntOp.cmpi .slt (iota .tc S2048x128 32 [0] iota_S2048x128_d0_w32 (ix2 r j)) 2046#32)
    (dynamicRotate 0 2046#32 none y rotates_S2048x128_d0 (ix2 r j)) (0 : EReal) = _
  rw [row_at, hrot]

theorem pay2_at : k0_pay2 (F := Ideal) a v (ix2 r j) = conv (fun k => v (ix2 k j)) (fun e => a (ix2 e j)) r := by
  rw [conv, ← sel_sh 1 (by norm_num) (fun e => a (ix2 e j)) r (Nat.mod_lt _ (by norm_num)),
    ← sel_sh 2 (by norm_num) (fun e => a (ix2 e j)) r (Nat.mod_lt _ (by norm_num))]
  pointwise [k0_pay2]

/-- The gate's gradient at an entry: the value's taps stand inside it. -/
theorem pay7_eq (g : Vec Ideal S2048x128 .f32) : k0_pay7 (F := Ideal) b w d g (k0_pay3 b w) (k0_pay4 w) (iota .tc S2048x128 32 [0] iota_S2048x128_d0_w32) 1#32
    = mulf (mulf d (k0_pay2 b w)) (mulf (k0_pay5 g) (addf (broadcast S2048x128 (Scalar.ofBits (F := Ideal) .f32 0x3F800000#32))
        (mulf g (subf (broadcast S2048x128 (Scalar.ofBits (F := Ideal) .f32 0x3F800000#32)) (k0_pay5 g))))) := rfl

theorem pay5_at (g : Vec Ideal S2048x128 .f32) : k0_pay5 (F := Ideal) g (ix2 r j) = logi (g (ix2 r j)) := by
  pointwise [k0_pay5, logi]
  rw [zero_sub]

/-- The gate's gradient in a block. -/
def DG : Vec Ideal S2048x128 .f32 := (k0_pay7 b w d (k0_pay2 a v) (k0_pay3 b w) (k0_pay4 w) (iota .tc S2048x128 32 [0] iota_S2048x128_d0_w32) 1#32)

theorem DG_at : DG a b d v w (ix2 r j)
    = dgc (fun k => v (ix2 k j)) (fun e => a (ix2 e j)) (fun k => w (ix2 k j)) (fun e => b (ix2 e j)) (fun e => d (ix2 e j)) r := by
  unfold DG
  rw [pay7_eq]
  pointwise [dgc, dg]
  simp only [pay5_at, pay2_at]

theorem DV_at : k0_pay6 (F := Ideal) d (k0_pay2 a v) (ix2 r j)
    = dvc (fun k => v (ix2 k j)) (fun e => a (ix2 e j)) (fun e => d (ix2 e j)) r := by
  pointwise [k0_pay6, dvc, dv]
  simp only [pay5_at, pay2_at]

theorem pay17_at : k0_pay17 (F := Ideal) w y (ix2 r j) = adj (fun k => w (ix2 k j)) (fun e => y (ix2 e j)) r := by
  have e : k0_pay17 (F := Ideal) w y = addf (addf (mulf (broadcastTo S2048x128 (extractStridedSlice S1x128 ![0, 0] w slices_S3x128_o0_0_S1x128) broadcasts_S1x128_S2048x128) (lift2 y)) (mulf (broadcastTo S2048x128 (extractStridedSlice S1x128 ![1, 0] w slices_S3x128_o1_0_S1x128) broadcasts_S1x128_S2048x128) (lift y))) (mulf (broadcastTo S2048x128 (extractStridedSlice S1x128 ![2, 0] w slices_S3x128_o2_0_S1x128) broadcasts_S1x128_S2048x128) y) := rfl
  rw [e]
  pointwise [adj]
  rw [lift_at, lift2_at]

theorem pay11_at : k0_pay11 (F := Ideal) w y (lift2 y) (k0_pay10 w) (ix2 r j) = adj (fun k => w (ix2 k j)) (fun e => y (ix2 e j)) r := by
  rw [← pay17_at]
  rfl

theorem pay14_at : k0_pay14 (F := Ideal) a y k0_pay13 (ix2 0 j) = ∑ r, y (ix2 r j) * sh 2 (fun e => a (ix2 e j)) r := by
  simp only [← fun r : Fin 2048 => sel_sh 2 (by norm_num) (fun e => a (ix2 e j)) r (Nat.mod_lt _ (by norm_num))]
  pointwise [k0_pay14, k0_pay13]

theorem pay15_at : k0_pay15 (F := Ideal) a y (ix2 0 j) = ∑ r, y (ix2 r j) * sh 1 (fun e => a (ix2 e j)) r := by
  simp only [← fun r : Fin 2048 => sel_sh 1 (by norm_num) (fun e => a (ix2 e j)) r (Nat.mod_lt _ (by norm_num))]
  pointwise [k0_pay15]

theorem pay16_at : k0_pay16 (F := Ideal) a y (ix2 0 j) = ∑ r, y (ix2 r j) * a (ix2 r j) := by
  pointwise [k0_pay16]

theorem pay1_at (p q s : Vec Ideal S1x128 .f32) (i : Fin 8) : k0_pay1 (F := Ideal) p q s (iota .tc S8x128 32 [0] iota_S8x128_d0_w32) (k0_pay18 (F := Ideal)) k0_pay19 (ix2 i j)
    = rows ![p (ix2 0 j), q (ix2 0 j), s (ix2 0 j)] i := by
  pointwise [k0_pay1, k0_pay18, k0_pay19]
  fin_cases i <;> rfl

theorem taps_at (i : Fin 8) : k0_pay1 (F := Ideal) (k0_pay14 a y k0_pay13) (k0_pay15 a y) (k0_pay16 a y) (iota .tc S8x128 32 [0] iota_S8x128_d0_w32) (k0_pay18 (F := Ideal)) k0_pay19 (ix2 i j)
    = rows (taps (fun e => a (ix2 e j)) (fun e => y (ix2 e j))) i := by
  rw [pay1_at, pay14_at, pay15_at, pay16_at]
  rfl

theorem out5_eq : out0_5 a b v w d = k0_pay11 (F := Ideal) v (DG a b d v w) (lift2 (DG a b d v w)) (k0_pay10 v) := by
  unfold_out out0_5
  rw [View.canon_unit_zero (S := S2048x128) off2]
  simp only [View.ld_unit_zero (S := S2048x128) off2, View.ld_unit_zero (S := S3x128) off2]
  rfl

theorem out6_eq : out0_6 a b v w d = k0_pay17 (F := Ideal) w (k0_pay6 d (k0_pay2 a v)) := by
  unfold_out out0_6
  rw [View.canon_unit_zero (S := S2048x128) off2]
  simp only [View.ld_unit_zero (S := S2048x128) off2, View.ld_unit_zero (S := S3x128) off2]

theorem out7_eq : out0_7 a b v w d = k0_pay1 (F := Ideal) (k0_pay14 a (DG a b d v w) k0_pay13) (k0_pay15 a (DG a b d v w)) (k0_pay16 a (DG a b d v w)) (iota .tc S8x128 32 [0] iota_S8x128_d0_w32) (k0_pay18 (F := Ideal)) k0_pay19 := by
  unfold_out out0_7
  rw [View.canon_unit_zero (S := S8x128) off2]
  simp only [View.ld_unit_zero (S := S2048x128) off2, View.ld_unit_zero (S := S3x128) off2]
  rfl

theorem out8_eq : out0_8 a b v w d = k0_pay1 (F := Ideal) (k0_pay14 b (k0_pay6 d (k0_pay2 a v)) k0_pay13) (k0_pay15 b (k0_pay6 d (k0_pay2 a v))) (k0_pay16 b (k0_pay6 d (k0_pay2 a v))) (iota .tc S8x128 32 [0] iota_S8x128_d0_w32) (k0_pay18 (F := Ideal)) k0_pay19 := by
  unfold_out out0_8
  rw [View.canon_unit_zero (S := S8x128) off2]
  simp only [View.ld_unit_zero (S := S2048x128) off2, View.ld_unit_zero (S := S3x128) off2]

end Body

/-! ## The blocks -/

variable (m : (ℓ : Loc nD τ sig) → Buf (Elt Ideal) ℓ) (c : Dev nD)

/-- The arguments as launched. -/
abbrev A0 : (⟨2, ![2048, 6144]⟩ : Shape).Idx → EReal := m ((c : Thread nD τ).loc main_arg0)
abbrev A1 : (⟨2, ![3, 6144]⟩ : Shape).Idx → EReal := m ((c : Thread nD τ).loc main_arg1)
abbrev A2 : (⟨2, ![2048, 3072]⟩ : Shape).Idx → EReal := m ((c : Thread nD τ).loc main_arg2)

theorem e0 : ∀ t : Fin cfg0.N, win0_0.index t 0 = 0 ∧ win0_0.index t 1 = t.val := by decide +kernel
theorem e1 : ∀ t : Fin cfg0.N, win0_1.index t 0 = 0 ∧ win0_1.index t 1 = t.val + 24 := by decide +kernel
theorem e2 : ∀ t : Fin cfg0.N, win0_2.index t 0 = 0 ∧ win0_2.index t 1 = t.val := by decide +kernel
theorem e3 : ∀ t : Fin cfg0.N, win0_3.index t 0 = 0 ∧ win0_3.index t 1 = t.val + 24 := by decide +kernel
theorem e4 : ∀ t : Fin cfg0.N, win0_4.index t 0 = 0 ∧ win0_4.index t 1 = t.val := by decide +kernel
theorem e5 : ∀ t : Fin cfg0.N, win0_5.index t 0 = 0 ∧ win0_5.index t 1 = t.val := by decide +kernel
theorem e6 : ∀ t : Fin cfg0.N, win0_6.index t 0 = 0 ∧ win0_6.index t 1 = t.val := by decide +kernel
theorem e7 : ∀ t : Fin cfg0.N, win0_7.index t 0 = 0 ∧ win0_7.index t 1 = t.val := by decide +kernel
theorem e8 : ∀ t : Fin cfg0.N, win0_8.index t 0 = 0 ∧ win0_8.index t 1 = t.val := by decide +kernel

/-- The column of lane `d` of a grid point's block. -/
def cl (t : Fin cfg0.N) (d : Fin 128) : Fin 3072 := ⟨t.val * 128 + d.val, by have : t.val < 24 := t.isLt; omega⟩

theorem blk0_at (t : Fin cfg0.N) (r : Fin 2048) (d : Fin 128) : iblk m c 0 t (ix2 r d) = A0 m c (ix2 r (lo (cl t d))) := by
  show V m c main_arg0 (((cfg0.win 0).blk t).view.emb (ix2 r d)) = _
  rw [V_main_arg0]
  refine congrArg (m ((c : Thread nD τ).loc main_arg0)) (funext fun a => Fin.ext ?_)
  fin_cases a
  · show win0_0.index t 0 * 2048 + 1 * r.val = r.val
    rw [(e0 t).1]; omega
  · show win0_0.index t 1 * 128 + 1 * d.val = t.val * 128 + d.val
    rw [(e0 t).2]; omega

theorem blk1_at (t : Fin cfg0.N) (r : Fin 2048) (d : Fin 128) : iblk m c 1 t (ix2 r d) = A0 m c (ix2 r (hi (cl t d))) := by
  show V m c main_arg0 (((cfg0.win 1).blk t).view.emb (ix2 r d)) = _
  rw [V_main_arg0]
  refine congrArg (m ((c : Thread nD τ).loc main_arg0)) (funext fun a => Fin.ext ?_)
  fin_cases a
  · show win0_1.index t 0 * 2048 + 1 * r.val = r.val
    rw [(e1 t).1]; omega
  · show win0_1.index t 1 * 128 + 1 * d.val = 3072 + (t.val * 128 + d.val)
    rw [(e1 t).2]; omega

theorem blk2_at (t : Fin cfg0.N) (r : Fin 3) (d : Fin 128) : iblk m c 2 t (ix2 r d) = A1 m c (ix2 r (lo (cl t d))) := by
  show V m c main_arg1 (((cfg0.win 2).blk t).view.emb (ix2 r d)) = _
  rw [V_main_arg1]
  refine congrArg (m ((c : Thread nD τ).loc main_arg1)) (funext fun a => Fin.ext ?_)
  fin_cases a
  · show win0_2.index t 0 * 3 + 1 * r.val = r.val
    rw [(e2 t).1]; omega
  · show win0_2.index t 1 * 128 + 1 * d.val = t.val * 128 + d.val
    rw [(e2 t).2]; omega

theorem blk3_at (t : Fin cfg0.N) (r : Fin 3) (d : Fin 128) : iblk m c 3 t (ix2 r d) = A1 m c (ix2 r (hi (cl t d))) := by
  show V m c main_arg1 (((cfg0.win 3).blk t).view.emb (ix2 r d)) = _
  rw [V_main_arg1]
  refine congrArg (m ((c : Thread nD τ).loc main_arg1)) (funext fun a => Fin.ext ?_)
  fin_cases a
  · show win0_3.index t 0 * 3 + 1 * r.val = r.val
    rw [(e3 t).1]; omega
  · show win0_3.index t 1 * 128 + 1 * d.val = 3072 + (t.val * 128 + d.val)
    rw [(e3 t).2]; omega

theorem blk4_at (t : Fin cfg0.N) (r : Fin 2048) (d : Fin 128) : iblk m c 4 t (ix2 r d) = A2 m c (ix2 r (cl t d)) := by
  show V m c main_arg2 (((cfg0.win 4).blk t).view.emb (ix2 r d)) = _
  rw [V_main_arg2]
  refine congrArg (m ((c : Thread nD τ).loc main_arg2)) (funext fun a => Fin.ext ?_)
  fin_cases a
  · show win0_4.index t 0 * 2048 + 1 * r.val = r.val
    rw [(e4 t).1]; omega
  · show win0_4.index t 1 * 128 + 1 * d.val = t.val * 128 + d.val
    rw [(e4 t).2]; omega

/-- A column of the rows, of the taps and of the cotangent, and the two cotangents of a column. -/
def uc (u : S2048x6144.Idx → EReal) (j : Fin 6144) (e : Fin 2048) : EReal := u (ix2 e j)
def wc (w : S3x6144.Idx → EReal) (j : Fin 6144) (k : Fin 3) : EReal := w (ix2 k j)
def gc (u : S2048x6144.Idx → EReal) (w : S3x6144.Idx → EReal) (d : S2048x3072.Idx → EReal) (j : Fin 3072) : Fin 2048 → EReal :=
  dgc (wc w (lo j)) (uc u (lo j)) (wc w (hi j)) (uc u (hi j)) fun e => d (ix2 e j)
def vc (u : S2048x6144.Idx → EReal) (w : S3x6144.Idx → EReal) (d : S2048x3072.Idx → EReal) (j : Fin 3072) : Fin 2048 → EReal := dvc (wc w (lo j)) (uc u (lo j)) fun e => d (ix2 e j)

/-- The gradients in the two halves' rows and in their taps. -/
def dlo (u : S2048x6144.Idx → EReal) (w : S3x6144.Idx → EReal) (d : S2048x3072.Idx → EReal) : S2048x3072.Idx → EReal := fun i => adj (wc w (lo (i 1))) (gc u w d (i 1)) (i 0)
def dhi (u : S2048x6144.Idx → EReal) (w : S3x6144.Idx → EReal) (d : S2048x3072.Idx → EReal) : S2048x3072.Idx → EReal := fun i => adj (wc w (hi (i 1))) (vc u w d (i 1)) (i 0)
def tlo (u : S2048x6144.Idx → EReal) (w : S3x6144.Idx → EReal) (d : S2048x3072.Idx → EReal) : S8x3072.Idx → EReal := fun i => rows (taps (uc u (lo (i 1))) (gc u w d (i 1))) (i 0)
def thi (u : S2048x6144.Idx → EReal) (w : S3x6144.Idx → EReal) (d : S2048x3072.Idx → EReal) : S8x3072.Idx → EReal := fun i => rows (taps (uc u (hi (i 1))) (vc u w d (i 1))) (i 0)

theorem final_dlo : (dats m 0 c).arrAt 5 cfg0.N = dlo (A0 m c) (A1 m c) (A2 m c) := by
  refine (dats m 0 c).arrAt_eq_of_covers 5 _ (by decide +kernel) fun t hf y => ?_
  blk_simp
  rw [after0_5, out5_eq]
  revert y
  intro (y : S2048x128.Idx)
  idx_vars y
  rw [pay11_at]
  simp only [DG_at, blk0_at, blk1_at, blk2_at, blk3_at, blk4_at]
  refine congrArg (dlo (A0 m c) (A1 m c) (A2 m c)) (a₁ := ix2 y0 (cl t y1)) (funext fun a => Fin.ext ?_)
  fin_cases a
  · show y0.val = win0_5.index t 0 * 2048 + 1 * y0.val
    rw [(e5 t).1]; omega
  · show t.val * 128 + y1.val = win0_5.index t 1 * 128 + 1 * y1.val
    rw [(e5 t).2]; omega

theorem final_dhi : (dats m 0 c).arrAt 6 cfg0.N = dhi (A0 m c) (A1 m c) (A2 m c) := by
  refine (dats m 0 c).arrAt_eq_of_covers 6 _ (by decide +kernel) fun t hf y => ?_
  blk_simp
  rw [after0_6, out6_eq]
  revert y
  intro (y : S2048x128.Idx)
  idx_vars y
  rw [pay17_at]
  simp only [DV_at, blk0_at, blk2_at, blk3_at, blk4_at]
  refine congrArg (dhi (A0 m c) (A1 m c) (A2 m c)) (a₁ := ix2 y0 (cl t y1)) (funext fun a => Fin.ext ?_)
  fin_cases a
  · show y0.val = win0_6.index t 0 * 2048 + 1 * y0.val
    rw [(e6 t).1]; omega
  · show t.val * 128 + y1.val = win0_6.index t 1 * 128 + 1 * y1.val
    rw [(e6 t).2]; omega

theorem final_tlo : (dats m 0 c).arrAt 7 cfg0.N = tlo (A0 m c) (A1 m c) (A2 m c) := by
  refine (dats m 0 c).arrAt_eq_of_covers 7 _ (by decide +kernel) fun t hf y => ?_
  blk_simp
  rw [after0_7, out7_eq]
  revert y
  intro (y : S8x128.Idx)
  idx_vars y
  rw [taps_at]
  simp only [DG_at, blk0_at, blk1_at, blk2_at, blk3_at, blk4_at]
  refine congrArg (tlo (A0 m c) (A1 m c) (A2 m c)) (a₁ := ix2 y0 (cl t y1)) (funext fun a => Fin.ext ?_)
  fin_cases a
  · show y0.val = win0_7.index t 0 * 8 + 1 * y0.val
    rw [(e7 t).1]; omega
  · show t.val * 128 + y1.val = win0_7.index t 1 * 128 + 1 * y1.val
    rw [(e7 t).2]; omega

theorem final_thi : (dats m 0 c).arrAt 8 cfg0.N = thi (A0 m c) (A1 m c) (A2 m c) := by
  refine (dats m 0 c).arrAt_eq_of_covers 8 _ (by decide +kernel) fun t hf y => ?_
  blk_simp
  rw [after0_8, out8_eq]
  revert y
  intro (y : S8x128.Idx)
  idx_vars y
  rw [taps_at]
  simp only [DV_at, blk0_at, blk1_at, blk2_at, blk4_at]
  refine congrArg (thi (A0 m c) (A1 m c) (A2 m c)) (a₁ := ix2 y0 (cl t y1)) (funext fun a => Fin.ext ?_)
  fin_cases a
  · show y0.val = win0_8.index t 0 * 8 + 1 * y0.val
    rw [(e8 t).1]; omega
  · show t.val * 128 + y1.val = win0_8.index t 1 * 128 + 1 * y1.val
    rw [(e8 t).2]; omega

/-! ## The reference -/

section Reference

open Cert.Reference48Ideal.Read

variable (x0 : (⟨Cert.Reference48Ideal.S2048x6144, .f32⟩ : BufTy).Contents (Elt Ideal)) (x1 : (⟨Cert.Reference48Ideal.S3x6144, .f32⟩ : BufTy).Contents (Elt Ideal))
  (x2 : (⟨Cert.Reference48Ideal.S2048x3072, .f32⟩ : BufTy).Contents (Elt Ideal)) (r : Fin 2048) (J : Fin 6144) (j : Fin 3072)

theorem v3_at : val_main_v3 (F := Ideal) x0 (ix2 r J) = sh 2 (uc x0 J) r := by
  pointwise [val_main_v3, val_main_v1, val_main_v0, val_main_cst, sh, uc]

theorem v11_at : val_main_v11 (F := Ideal) x0 (ix2 r J) = sh 1 (uc x0 J) r := by
  pointwise [val_main_v11, val_main_v1, val_main_v0, val_main_cst]
  exact sh_pad 2 1 1 rfl (fun e => x0 (ix2 e J)) r fun _ => by omega

theorem v18_at : val_main_v18 (F := Ideal) x0 (ix2 r J) = uc x0 J r := by
  pointwise [val_main_v18, val_main_v1, val_main_v0, val_main_cst, uc]

theorem v24_at : val_main_v24 (F := Ideal) x0 x1 (ix2 r J) = conv (wc x1 J) (uc x0 J) r := by
  pointwise [val_main_v24, val_main_v23, val_main_v22, val_main_v21, val_main_v20, val_main_v19, val_main_v17, val_main_v16, val_main_v15, val_main_v14, val_main_v13, val_main_v12, val_main_v10, val_main_v9, val_main_v8, val_main_v7, val_main_v6, val_main_v5, val_main_v4, val_main_cst_1, conv, wc]
  simp only [v3_at, v11_at, v18_at, mul_comm]

theorem v29_at : val_main_v29 (F := Ideal) x0 x1 x2 (ix2 r j) = vc x0 x1 x2 j r := by
  pointwise [val_main_v29, val_main_v27_0, val_main_v27_2, val_main_call0_v4, val_main_call0_v3, val_main_call0_v2, val_main_call0_v1, val_main_call0_v0,
    val_main_call0_cst, val_main_call0_cst_0, val_main_v25, vc, dvc, dv, logi]
  simp only [← lo.eq_1, v24_at]
  exact (mul_comm _ _).trans (mul_assoc _ _ _).symm

theorem v31_at (hv : ∃ z : ℝ, x2 (ix2 r j) * conv (wc x1 (hi j)) (uc x0 (hi j)) r = z) :
    val_main_v31 (F := Ideal) x0 x1 x2 (ix2 r j) = gc x0 x1 x2 j r := by
  obtain ⟨z, hz⟩ := hv
  rw [gc, dgc, hz, dg_eq, ← hz]
  pointwise [val_main_v31, val_main_call1_v2, val_main_call1_v1, val_main_call1_v0, val_main_v30, val_main_v27_1, val_main_v27_2, val_main_call0_v7,
    val_main_call0_v6, val_main_call0_v4, val_main_call0_v3, val_main_call0_v2, val_main_call0_v1, val_main_call0_v0,
    val_main_call0_cst, val_main_call0_cst_0, val_main_call0_cst_1, val_main_v25, val_main_v26, logi]
  simp only [← lo.eq_1, ← hi.eq_1, v24_at]

/-- A column's cotangent, in each half. -/
theorem v32_lo : val_main_v32 (F := Ideal) x0 x1 x2 (ix2 r (lo j)) = val_main_v31 (F := Ideal) x0 x1 x2 (ix2 r j) := by
  pointwise [val_main_v32, lo]

theorem v32_hi : val_main_v32 (F := Ideal) x0 x1 x2 (ix2 r (hi j)) = val_main_v29 (F := Ideal) x0 x1 x2 (ix2 r j) := by
  pointwise [val_main_v32, hi]

theorem pad_row (l h : ℕ) (x : (⟨Cert.Reference48Ideal.S1x6144, .f32⟩ : BufTy).Contents (Elt Ideal)) (v : (⟨Cert.Reference48Ideal.S_, .f32⟩ : BufTy).Contents (Elt Ideal))
    (hp : Cert.Reference48Ideal.S1x6144.Pads (![l, 0] : Fin 2 → ℕ) ![h, 0] ![0, 0] Cert.Reference48Ideal.S3x6144) (hu : 0 < Cert.Reference48Ideal.S_.numel) (k : Fin 3) :
    pad Cert.Reference48Ideal.S3x6144 ![l, 0] ![h, 0] ![0, 0] x v hp hu (ix2 k J) = if k.val = l then x (ix2 0 J) else v (Shape.Idx.first hu) := by
  by_cases hk : k.val = l
  · rw [if_pos hk]
    refine pad_apply_of_inside _ _ _ x v hp hu (ix2 k J) (ix2 0 J) fun a => ?_
    fin_cases a
    · show k.val = l + 0 * (0 + 1)
      omega
    · show J.val = 0 + J.val * (0 + 1)
      omega
  · rw [if_neg hk]
    refine pad_apply_of_not_inside _ _ _ x v hp hu (ix2 k J) 0 fun ha => hk ?_
    have h1 : l ≤ k.val := ha.1
    have h2 : (k.val - l) / (0 + 1) < 1 := ha.2.2
    rw [Nat.div_one] at h2
    omega

/-- Rows of zeros above and below the rows, read two rows down. -/
theorem pad_rows (l h o : ℕ) (ho : l + o = 2) (x : (⟨Cert.Reference48Ideal.S2048x6144, .f32⟩ : BufTy).Contents (Elt Ideal)) (v : (⟨Cert.Reference48Ideal.S_, .f32⟩ : BufTy).Contents (Elt Ideal))
    (hp : Cert.Reference48Ideal.S2048x6144.Pads (![l, 0] : Fin 2 → ℕ) ![h, 0] ![0, 0] Cert.Reference48Ideal.S2050x6144) (hu : 0 < Cert.Reference48Ideal.S_.numel) :
    pad Cert.Reference48Ideal.S2050x6144 ![l, 0] ![h, 0] ![0, 0] x v hp hu (ix2 ⟨2 + r.val, by omega⟩ J)
      = if h : o + r.val < 2048 then x (ix2 ⟨o + r.val, h⟩ J) else v (Shape.Idx.first hu) := by
  by_cases hk : o + r.val < 2048
  · rw [dif_pos hk]
    refine pad_apply_of_inside _ _ _ x v hp hu _ (ix2 ⟨o + r.val, hk⟩ J) fun a => ?_
    fin_cases a
    · show 2 + r.val = l + (o + r.val) * (0 + 1)
      omega
    · show J.val = 0 + J.val * (0 + 1)
      omega
  · rw [dif_neg hk]
    refine pad_apply_of_not_inside _ _ _ x v hp hu _ 0 fun ha => hk ?_
    have h2 : (2 + r.val - l) / (0 + 1) < 2048 := ha.2.2
    rw [Nat.div_one] at h2
    omega

theorem word : FloatOps.ofBits (F := Ideal) .f32 0x00000000#32 = (0 : EReal) := by pointwise []

theorem v65_at : val_main_v65 (F := Ideal) x0 x1 x2 (ix2 r J) = adj (wc x1 J) (fun e => val_main_v32 (F := Ideal) x0 x1 x2 (ix2 e J)) r := by
  have m2 (e : Fin 2048) : val_main_v37 (F := Ideal) x0 x1 x2 (ix2 e J) = wc x1 J 2 * val_main_v32 (F := Ideal) x0 x1 x2 (ix2 e J) := by
    pointwise [val_main_v37, val_main_v36, val_main_v21, val_main_v20, val_main_v19, wc]
    exact mul_comm _ _
  have m1 (e : Fin 2048) : val_main_v46 (F := Ideal) x0 x1 x2 (ix2 e J) = wc x1 J 1 * val_main_v32 (F := Ideal) x0 x1 x2 (ix2 e J) := by
    pointwise [val_main_v46, val_main_v45, val_main_v14, val_main_v13, val_main_v12, wc]
    exact mul_comm _ _
  have m0 (e : Fin 2048) : val_main_v57 (F := Ideal) x0 x1 x2 (ix2 e J) = wc x1 J 0 * val_main_v32 (F := Ideal) x0 x1 x2 (ix2 e J) := by
    pointwise [val_main_v57, val_main_v56, val_main_v6, val_main_v5, val_main_v4, wc]
    exact mul_comm _ _
  have p2 : val_main_v41 (F := Ideal) x0 x1 x2 (ix2 ⟨2 + r.val, by omega⟩ J) = wc x1 J 2 * val_main_v32 (F := Ideal) x0 x1 x2 (ix2 r J) := by
    refine (pad_rows r J 2 0 0 rfl _ _ _ _).trans ?_
    rw [dif_pos (by omega), ← m2]
    exact congrArg (fun e => val_main_v37 (F := Ideal) x0 x1 x2 (ix2 e J)) (Fin.ext (by show 0 + r.val = r.val; omega))
  have p1 : val_main_v51 (F := Ideal) x0 x1 x2 (ix2 ⟨2 + r.val, by omega⟩ J) = wc x1 J 1 * up (fun e => val_main_v32 (F := Ideal) x0 x1 x2 (ix2 e J)) r := by
    refine (pad_rows r J 1 1 1 rfl _ _ _ _).trans ?_
    unfold up
    by_cases h : 1 + r.val < 2048
    · rw [dif_pos h, dif_pos h, m1]
    · rw [dif_neg h, dif_neg h, mul_zero]
      exact word
  have p0 : val_main_v62 (F := Ideal) x0 x1 x2 (ix2 ⟨2 + r.val, by omega⟩ J) = wc x1 J 0 * up2 (fun e => val_main_v32 (F := Ideal) x0 x1 x2 (ix2 e J)) r := by
    refine (pad_rows r J 0 2 2 rfl _ _ _ _).trans ?_
    unfold up2
    by_cases h : 2 + r.val < 2048
    · rw [dif_pos h, dif_pos h, m0]
    · rw [dif_neg h, dif_neg h, mul_zero]
      exact word
  have e : val_main_v65 (F := Ideal) x0 x1 x2 (ix2 r J) = val_main_v63 (F := Ideal) x0 x1 x2 (ix2 ⟨2 + r.val, by omega⟩ J) := by
    pointwise [val_main_v65]
  rw [e]
  show val_main_v41 (F := Ideal) x0 x1 x2 (ix2 ⟨2 + r.val, by omega⟩ J) + val_main_v51 (F := Ideal) x0 x1 x2 (ix2 ⟨2 + r.val, by omega⟩ J)
    + val_main_v62 (F := Ideal) x0 x1 x2 (ix2 ⟨2 + r.val, by omega⟩ J) = _
  rw [p2, p1, p0, adj]
  ac_rfl

theorem v61_at (k : Fin 3) : val_main_v61 (F := Ideal) x0 x1 x2 (ix2 k J) = taps (uc x0 J) (fun e => val_main_v32 (F := Ideal) x0 x1 x2 (ix2 e J)) k := by
  have s2 : val_main_v39 (F := Ideal) x0 x1 x2 (ix2 0 J) = ∑ e, val_main_v32 (F := Ideal) x0 x1 x2 (ix2 e J) * uc x0 J e := by
    pointwise [val_main_v39, val_main_v38, val_main_v35, val_main_v34, val_main_v33, val_main_cst_2, val_main_cst_3]
    simp only [v18_at, Fin.sum_univ_one]
    exact Finset.sum_congr rfl fun e _ => mul_comm _ _
  have s1 : val_main_v48 (F := Ideal) x0 x1 x2 (ix2 0 J) = ∑ e, val_main_v32 (F := Ideal) x0 x1 x2 (ix2 e J) * sh 1 (uc x0 J) e := by
    pointwise [val_main_v48, val_main_v47, val_main_v44, val_main_v43, val_main_v42, val_main_cst_6, val_main_cst_7]
    simp only [v11_at, Fin.sum_univ_one]
    exact Finset.sum_congr rfl fun e _ => mul_comm _ _
  have s0 : val_main_v59 (F := Ideal) x0 x1 x2 (ix2 0 J) = ∑ e, val_main_v32 (F := Ideal) x0 x1 x2 (ix2 e J) * sh 2 (uc x0 J) e := by
    pointwise [val_main_v59, val_main_v58, val_main_v55, val_main_v54, val_main_v53, val_main_cst_10, val_main_cst_11]
    simp only [v3_at, Fin.sum_univ_one]
    exact Finset.sum_congr rfl fun e _ => mul_comm _ _
  have p2 : val_main_v40 (F := Ideal) x0 x1 x2 (ix2 k J) = if k.val = 2 then val_main_v39 (F := Ideal) x0 x1 x2 (ix2 0 J) else 0 :=
    (pad_row J 2 0 _ _ _ _ k).trans (congrArg (fun e => if k.val = 2 then val_main_v39 (F := Ideal) x0 x1 x2 (ix2 0 J) else e) word)
  have p1 : val_main_v49 (F := Ideal) x0 x1 x2 (ix2 k J) = if k.val = 1 then val_main_v48 (F := Ideal) x0 x1 x2 (ix2 0 J) else 0 :=
    (pad_row J 1 1 _ _ _ _ k).trans (congrArg (fun e => if k.val = 1 then val_main_v48 (F := Ideal) x0 x1 x2 (ix2 0 J) else e) word)
  have p0 : val_main_v60 (F := Ideal) x0 x1 x2 (ix2 k J) = if k.val = 0 then val_main_v59 (F := Ideal) x0 x1 x2 (ix2 0 J) else 0 :=
    (pad_row J 0 2 _ _ _ _ k).trans (congrArg (fun e => if k.val = 0 then val_main_v59 (F := Ideal) x0 x1 x2 (ix2 0 J) else e) word)
  show val_main_v40 (F := Ideal) x0 x1 x2 (ix2 k J) + val_main_v49 (F := Ideal) x0 x1 x2 (ix2 k J) + val_main_v60 (F := Ideal) x0 x1 x2 (ix2 k J) = _
  rw [p2, p1, p0, s2, s1, s0]
  fin_cases k <;> simp [taps]

theorem v67_at (i : Fin 8) : val_main_v67 (F := Ideal) x0 x1 x2 (ix2 i J)
    = rows (taps (uc x0 J) fun e => val_main_v32 (F := Ideal) x0 x1 x2 (ix2 e J)) i := by
  pointwise [val_main_v67, val_main_v66, val_main_cst_14]
  simp only [v61_at]
  rfl

/-- What the precondition says of the value half. -/
def Fin1 : Prop := (∀ r j, ∃ z : ℝ, x0 (ix2 r (hi j)) = z) ∧ (∀ k j, ∃ z : ℝ, x1 (ix2 k (hi j)) = z) ∧ ∀ r j, ∃ z : ℝ, x2 (ix2 r j) = z

theorem conv_real (w : Fin 3 → EReal) (x : Fin 2048 → EReal) (hw : ∀ k, ∃ z : ℝ, w k = z) (hx : ∀ e, ∃ z : ℝ, x e = z) : ∃ z : ℝ, conv w x r = z := by
  have hs (k : ℕ) : ∃ z : ℝ, sh k x r = z := by
    unfold sh
    split
    · exact ⟨0, EReal.coe_zero.symm⟩
    · exact hx _
  obtain ⟨w0, h0⟩ := hw 0
  obtain ⟨w1, h1⟩ := hw 1
  obtain ⟨w2, h2⟩ := hw 2
  obtain ⟨s2, g2⟩ := hs 2
  obtain ⟨s1, g1⟩ := hs 1
  obtain ⟨s0, g0⟩ := hx r
  refine ⟨w0 * s2 + w1 * s1 + w2 * s0, ?_⟩
  rw [conv, h0, h1, h2, g2, g1, g0]
  norm_cast

theorem cot_lo (hf : Fin1 x0 x1 x2) : (fun e => val_main_v32 (F := Ideal) x0 x1 x2 (ix2 e (lo j))) = gc x0 x1 x2 j := by
  funext e
  rw [v32_lo]
  obtain ⟨z, hz⟩ := conv_real e (wc x1 (hi j)) (uc x0 (hi j)) (fun k => hf.2.1 k j) (fun e => hf.1 e j)
  obtain ⟨d, hd⟩ := hf.2.2 e j
  exact v31_at x0 x1 x2 e j ⟨d * z, by rw [hz, hd, EReal.coe_mul]⟩

theorem cot_hi : (fun e => val_main_v32 (F := Ideal) x0 x1 x2 (ix2 e (hi j))) = vc x0 x1 x2 j := by
  funext e
  rw [v32_hi, v29_at]

theorem v68_at (hf : Fin1 x0 x1 x2) (i : S2048x3072.Idx) : val_main_v68 (F := Ideal) x0 x1 x2 i = dlo x0 x1 x2 i := by
  idx_vars i
  pointwise [val_main_v68]
  simp only [← lo.eq_1, v65_at, cot_lo x0 x1 x2 _ hf]
  rfl

theorem v69_at (i : S2048x3072.Idx) : val_main_v69 (F := Ideal) x0 x1 x2 i = dhi x0 x1 x2 i := by
  idx_vars i
  pointwise [val_main_v69]
  simp only [← hi.eq_1, v65_at, cot_hi]
  rfl

theorem v70_at (hf : Fin1 x0 x1 x2) (i : S8x3072.Idx) : val_main_v70 (F := Ideal) x0 x1 x2 i = tlo x0 x1 x2 i := by
  idx_vars i
  pointwise [val_main_v70]
  simp only [← lo.eq_1, v67_at, cot_lo x0 x1 x2 _ hf]
  rfl

theorem v71_at (i : S8x3072.Idx) : val_main_v71 (F := Ideal) x0 x1 x2 i = thi x0 x1 x2 i := by
  idx_vars i
  pointwise [val_main_v71]
  simp only [← hi.eq_1, v67_at, cot_hi]
  rfl

end Reference

instance preFacts : Cert.Pre_finite_values.Facts where
  slices_S2048x6144_S2048x3072_0_3072 := by decide
  bcast_S_S2048x3072 := by decide
  slices_S3x6144_S3x3072_0_3072 := by decide
  bcast_S_S3x3072 := by decide

open Cert.Proof.Attn (ofBits_pinf real_of_abs_lt lt_of_cmpf)

theorem pre_real (a0 : FVec Ideal ⟨2, ![2048, 6144]⟩ .f32) (a1 : FVec Ideal ⟨2, ![3, 6144]⟩ .f32) (a2 : FVec Ideal ⟨2, ![2048, 3072]⟩ .f32)
    (h : (Cert.Pre_finite_values.fn (F := Ideal) a0 a1 a2).1 = (fun _ => 1#1) ∧ (Cert.Pre_finite_values.fn (F := Ideal) a0 a1 a2).2.1 = (fun _ => 1#1)
      ∧ (Cert.Pre_finite_values.fn (F := Ideal) a0 a1 a2).2.2 = (fun _ => 1#1)) : Fin1 a0 a1 a2 := by
  simp only [Cert.Pre_finite_values.fn] at h
  refine ⟨fun t j => ?_, fun t j => ?_, fun t j => ?_⟩
  · have hi := lt_of_cmpf (congrFun h.1 (ix2 t j))
    pointwise [] at hi
    rw [ofBits_pinf] at hi
    exact real_of_abs_lt hi
  · have hi := lt_of_cmpf (congrFun h.2.1 (ix2 t j))
    pointwise [] at hi
    rw [ofBits_pinf] at hi
    exact real_of_abs_lt hi
  · have hi := lt_of_cmpf (congrFun h.2.2 (ix2 t j))
    pointwise [] at hi
    rw [ofBits_pinf] at hi
    exact real_of_abs_lt hi

theorem agree : algebraic_Kernel48Ideal_Reference48Ideal_pre_finite_values (hKernel48Ideal := Cert.Kernel48Ideal.Gen.facts)
    (hReference48Ideal := Cert.Reference48Ideal.Gen.facts) (hPre_finite_values := preFacts) := by
  intro m g m' g' hp ha
  refine ⟨fun c => dlo (A0 m c) (A1 m c) (A2 m c), fun c => dhi (A0 m c) (A1 m c) (A2 m c), fun c => tlo (A0 m c) (A1 m c) (A2 m c), fun c => thi (A0 m c) (A1 m c) (A2 m c),
    (θ_run _ _ _).mono (fun r h c => ⟨(h c).1.trans (final_dlo m c), (h c).2.1.trans (final_dhi m c), (h c).2.2.1.trans (final_tlo m c),
      (h c).2.2.2.1.trans (final_thi m c), (h c).2.2.2.2⟩)
      (Cert.Kernel48Ideal.Value.run_blocks m g),
    (θ_run _ _ _).mono (fun r h c => ?_) (Cert.Reference48Ideal.Value.run m' g')⟩
  obtain ⟨e0, e1, e2⟩ := ha c
  have hf := pre_real (A0 m c) (A1 m c) (A2 m c) (hp c)
  refine ⟨(h c).1.trans ?_, (h c).2.1.trans ?_, (h c).2.2.1.trans ?_, (h c).2.2.2.1.trans ?_, (h c).2.2.2.2⟩
  · rw [Cert.Reference48Ideal.Read.val_main_v68_eq, e0, e1, e2]
    exact funext fun i => v68_at (A0 m c) (A1 m c) (A2 m c) hf i
  · rw [Cert.Reference48Ideal.Read.val_main_v69_eq, e0, e1, e2]
    exact funext fun i => v69_at (A0 m c) (A1 m c) (A2 m c) i
  · rw [Cert.Reference48Ideal.Read.val_main_v70_eq, e0, e1, e2]
    exact funext fun i => v70_at (A0 m c) (A1 m c) (A2 m c) hf i
  · rw [Cert.Reference48Ideal.Read.val_main_v71_eq, e0, e1, e2]
    exact funext fun i => v71_at (A0 m c) (A1 m c) (A2 m c) i

end Cert.Proof.GateBwd

end
-- ==== Proof.GluBwd.lean ====
/-
  The gradients of the convolution block's gated linear unit and of its thirty-one taps: in the two halves' rows, each entry moved back up
  to the rows it came from, in the taps and in the bias, a column at a time.
-/
module

public import proofs.«01_k».proof.Defs
public import proofs.«01_k».proof.Proof.Tiles
public import proofs.«01_k».proof.Proof.Shift
public import proofs.«01_k».proof.Proof.GluFwd
public import Idealize.ShloMosaic.Lib.KernelVsHost
public import proofs.«01_k».proof.Proof.Gen.Kernel52Ideal.Value
public import proofs.«01_k».proof.Proof.Gen.Reference52Ideal.Run
public import proofs.«01_k».proof.Proof.Gen.Reference52Ideal.Read
public import Idealize.ShloMosaic.Lib.Pipeline.ValueKit
public import Idealize.ShloMosaic.Lib.Pointwise

@[expose] public section

noncomputable section

namespace Cert.Proof.GluBwd

open Idealize.ShloMosaic Idealize.SL.Sem Cert.Kernel52Ideal Cert.Kernel52Ideal.Gen
open Idealize.ShloMosaic.TcCoe
open Idealize.ShloMosaic.Pipeline (Dat Cfg Window)
open Cert.Proof.Shift (sh sel_sh logi)
open Cert.Proof.GluFwd (glu lo hi sh_zero)
/-- The entry `n` rows below row `r`, and zero where there is none. -/
def dnr (n : ℕ) (x : Fin 2048 → EReal) (r : Fin 2048) : EReal := if h : n + r.val < 2048 then x ⟨n + r.val, h⟩ else 0

theorem dnr_zero (x : Fin 2048 → EReal) (r : Fin 2048) : dnr 0 x r = x r := by
  rw [dnr, dif_pos (by omega)]
  exact congrArg x (Fin.ext (Nat.zero_add _))

/-- The kernel's spelling: the column rotated by all its rows but `n`, masked in its last `n` rows. -/
theorem sel_dnr (n : ℕ) (h0 : 0 < n) (h1 : n < 2048) (x : Fin 2048 → EReal) (r : Fin 2048) (h : (r.val + 2048 - (2048 - n)) % 2048 < 2048) :
    Scalar.select (IntOp.cmpi .slt (BitVec.ofNat 32 r.val) (BitVec.ofNat 32 (2048 - n))) (x ⟨(r.val + 2048 - (2048 - n)) % 2048, h⟩) 0 = dnr n x r := by
  have hr := r.isLt
  rw [WordCmp.cmpi_slt_ofNat (by norm_num; omega) (by norm_num; omega), dnr]
  by_cases hc : n + r.val < 2048
  · rw [dif_pos hc, decide_eq_true (by omega)]
    show x _ = x _
    exact congrArg x (Fin.ext (by show (r.val + 2048 - (2048 - n)) % 2048 = n + r.val; omega))
  · rw [dif_neg hc, decide_eq_false (by omega)]
    rfl

/-- Thirty-one taps' transpose, down a column. -/
def adj (w : Fin 31 → EReal) (y : Fin 2048 → EReal) (r : Fin 2048) : EReal := ∑ k : Fin 31, w k * dnr (30 - k.val) y r

/-- The gradients of the taps over a row of zeros. -/
def rows (x y : Fin 2048 → EReal) (i : Fin 32) : EReal := if i.val < 31 then ∑ e, y e * sh (30 - i.val) x e else 0

/-! ## The body at one grid point -/

section Body

variable (a b d g y : FVec Ideal S2048x128 .f32) (w : FVec Ideal S31x128 .f32) (P : Fin 31 → FVec Ideal S1x128 .f32) (r : Fin 2048) (j : Fin 128)

/-- A block's columns moved up `n` rows, and moved down. -/
def upv (n : ℕ) (y : FVec Ideal S2048x128 .f32) : FVec Ideal S2048x128 .f32 :=
  select (cmpi .slt (iota .tc S2048x128 32 [0] iota_S2048x128_d0_w32) (broadcast S2048x128 (BitVec.ofNat 32 (2048 - n))))
    (dynamicRotate 0 (BitVec.ofNat 32 (2048 - n)) none y rotates_S2048x128_d0) (broadcast S2048x128 (Scalar.ofBits (F := Ideal) .f32 0x00000000#32))
def dnv (n : ℕ) (y : FVec Ideal S2048x128 .f32) : FVec Ideal S2048x128 .f32 :=
  select (cmpi .sge (iota .tc S2048x128 32 [0] iota_S2048x128_d0_w32) (broadcast S2048x128 (BitVec.ofNat 32 n)))
    (dynamicRotate 0 (BitVec.ofNat 32 n) none y rotates_S2048x128_d0) (broadcast S2048x128 (Scalar.ofBits (F := Ideal) .f32 0x00000000#32))

theorem zero : Scalar.ofBits (F := Ideal) .f32 0x00000000#32 = (0 : EReal) := by pointwise []
theorem row_at : iota .tc S2048x128 32 [0] iota_S2048x128_d0_w32 (ix2 r j) = BitVec.ofNat 32 r.val := by pointwise []

theorem rot_at (n : ℕ) (hn : n < 2048) : dynamicRotate 0 (BitVec.ofNat 32 n) none y rotates_S2048x128_d0 (ix2 r j)
    = y (ix2 ⟨(r.val + 2048 - n) % 2048, Nat.mod_lt _ (by norm_num)⟩ j) := by
  refine dynamicRotate_apply 0 _ y _ (ix2 r j) (ix2 ⟨(r.val + 2048 - n) % 2048, Nat.mod_lt _ (by norm_num)⟩ j) fun b => ?_
  fin_cases b
  · show (r.val + 2048 - n) % 2048 = if (0 : Fin 2) = 0 then (r.val + 2048 - (BitVec.ofNat 32 n).toNat % 2048) % 2048 else r.val
    rw [if_pos rfl, BitVec.toNat_ofNat, Nat.mod_eq_of_lt (show n < 2 ^ 32 by omega), Nat.mod_eq_of_lt hn]
  · rfl

theorem upv_at (n : ℕ) (h0 : 0 < n) (h1 : n < 2048) : upv n y (ix2 r j) = dnr n (fun e => y (ix2 e j)) r := by
  rw [← sel_dnr n h0 h1 (fun e => y (ix2 e j)) r (Nat.mod_lt _ (by norm_num))]
  unfold upv
  rw [zero]
  show Scalar.select (IntOp.cmpi .slt (iota .tc S2048x128 32 [0] iota_S2048x128_d0_w32 (ix2 r j)) (BitVec.ofNat 32 (2048 - n)))
    (dynamicRotate 0 (BitVec.ofNat 32 (2048 - n)) none y rotates_S2048x128_d0 (ix2 r j)) (0 : EReal) = _
  rw [row_at, rot_at y r j (2048 - n) (by omega)]

theorem dnv_at (n : ℕ) (h1 : n < 2048) : dnv n y (ix2 r j) = sh n (fun e => y (ix2 e j)) r := by
  rw [← sel_sh n h1 (fun e => y (ix2 e j)) r (Nat.mod_lt _ (by norm_num))]
  unfold dnv
  rw [zero]
  show Scalar.select (IntOp.cmpi .sge (iota .tc S2048x128 32 [0] iota_S2048x128_d0_w32 (ix2 r j)) (BitVec.ofNat 32 n))
    (dynamicRotate 0 (BitVec.ofNat 32 n) none y rotates_S2048x128_d0 (ix2 r j)) (0 : EReal) = _
  rw [row_at, rot_at y r j n h1]

/-- One tap over a block, and the sum of a product down its columns. -/
def tap (k : ℕ) (h : S31x128.Slices ![k, 0] S1x128) (y : FVec Ideal S2048x128 .f32) : FVec Ideal S2048x128 .f32 :=
  mulf (broadcastTo S2048x128 (extractStridedSlice S1x128 ![k, 0] w h) broadcasts_S1x128_S2048x128) y
def colv (d y : FVec Ideal S2048x128 .f32) : FVec Ideal S1x128 .f32 :=
  shapeCast S1x128 (multiReduction .add [0] S128 (mulf d y) 0x00000000#32 reduces_S2048x128_S128 (.inl rfl) rfl) shapeCasts_S128_S1x128

theorem tap_at (k : Fin 31) (h : S31x128.Slices ![k.val, 0] S1x128) : tap w k.val h y (ix2 r j) = w (ix2 k j) * y (ix2 r j) := by
  pointwise [tap]

theorem tap_up (k : Fin 31) (h : S31x128.Slices ![k.val, 0] S1x128) (hk : k.val < 30) :
    tap w k.val h (upv (30 - k.val) d) (ix2 r j) = w (ix2 k j) * dnr (30 - k.val) (fun e => d (ix2 e j)) r := by
  rw [tap_at, upv_at d r j _ (by omega) (by omega)]

theorem tap_last (h : S31x128.Slices ![30, 0] S1x128) : tap w 30 h d (ix2 r j) = w (ix2 30 j) * dnr 0 (fun e => d (ix2 e j)) r :=
  (tap_at d w r j 30 h).trans (congrArg (w (ix2 30 j) * ·) (dnr_zero (fun e => d (ix2 e j)) r).symm)

theorem colv_at : colv d y (ix2 0 j) = ∑ e, d (ix2 e j) * y (ix2 e j) := by
  pointwise [colv]

theorem colv_dnv (n : ℕ) (hn : n < 2048) : colv d (dnv n g) (ix2 0 j) = ∑ e, d (ix2 e j) * sh n (fun e => g (ix2 e j)) e := by
  rw [colv_at]
  exact Finset.sum_congr rfl fun e _ => by rw [dnv_at g e j n hn]

theorem colv_zero : colv d g (ix2 0 j) = ∑ e, d (ix2 e j) * sh 0 (fun e => g (ix2 e j)) e := by
  rw [colv_at]
  exact Finset.sum_congr rfl fun e _ => by rw [sh_zero]

/-- The transposed taps over a block. -/
def adjv : FVec Ideal S2048x128 .f32 := addf (addf (addf (addf (addf (addf (addf (addf (addf (addf (addf (addf (addf (addf (addf (addf (addf (addf (addf (addf (addf (addf (addf (addf (addf (addf (addf (addf (addf (addf (tap w 0 slices_S31x128_o0_0_S1x128 (upv 30 d))
    (tap w 1 slices_S31x128_o1_0_S1x128 (upv 29 d)))
    (tap w 2 slices_S31x128_o2_0_S1x128 (upv 28 d)))
    (tap w 3 slices_S31x128_o3_0_S1x128 (upv 27 d)))
    (tap w 4 slices_S31x128_o4_0_S1x128 (upv 26 d)))
    (tap w 5 slices_S31x128_o5_0_S1x128 (upv 25 d)))
    (tap w 6 slices_S31x128_o6_0_S1x128 (upv 24 d)))
    (tap w 7 slices_S31x128_o7_0_S1x128 (upv 23 d)))
    (tap w 8 slices_S31x128_o8_0_S1x128 (upv 22 d)))
    (tap w 9 slices_S31x128_o9_0_S1x128 (upv 21 d)))
    (tap w 10 slices_S31x128_o10_0_S1x128 (upv 20 d)))
    (tap w 11 slices_S31x128_o11_0_S1x128 (upv 19 d)))
    (tap w 12 slices_S31x128_o12_0_S1x128 (upv 18 d)))
    (tap w 13 slices_S31x128_o13_0_S1x128 (upv 17 d)))
    (tap w 14 slices_S31x128_o14_0_S1x128 (upv 16 d)))
    (tap w 15 slices_S31x128_o15_0_S1x128 (upv 15 d)))
    (tap w 16 slices_S31x128_o16_0_S1x128 (upv 14 d)))
    (tap w 17 slices_S31x128_o17_0_S1x128 (upv 13 d)))
    (tap w 18 slices_S31x128_o18_0_S1x128 (upv 12 d)))
    (tap w 19 slices_S31x128_o19_0_S1x128 (upv 11 d)))
    (tap w 20 slices_S31x128_o20_0_S1x128 (upv 10 d)))
    (tap w 21 slices_S31x128_o21_0_S1x128 (upv 9 d)))
    (tap w 22 slices_S31x128_o22_0_S1x128 (upv 8 d)))
    (tap w 23 slices_S31x128_o23_0_S1x128 (upv 7 d)))
    (tap w 24 slices_S31x128_o24_0_S1x128 (upv 6 d)))
    (tap w 25 slices_S31x128_o25_0_S1x128 (upv 5 d)))
    (tap w 26 slices_S31x128_o26_0_S1x128 (upv 4 d)))
    (tap w 27 slices_S31x128_o27_0_S1x128 (upv 3 d)))
    (tap w 28 slices_S31x128_o28_0_S1x128 (upv 2 d)))
    (tap w 29 slices_S31x128_o29_0_S1x128 (upv 1 d)))
    (tap w 30 slices_S31x128_o30_0_S1x128 d)

theorem adjv_at : adjv d w (ix2 r j) = adj (fun k => w (ix2 k j)) (fun e => d (ix2 e j)) r := by
  rw [adj]
  simp only [Fin.sum_univ_castSucc, Finset.univ_eq_empty, Finset.sum_empty, zero_add]
  unfold adjv
  exact congrArg₂ (· + ·) (congrArg₂ (· + ·) (congrArg₂ (· + ·) (congrArg₂ (· + ·) (congrArg₂ (· + ·) (congrArg₂ (· + ·) (congrArg₂ (· + ·) (congrArg₂ (· + ·)
    (congrArg₂ (· + ·) (congrArg₂ (· + ·) (congrArg₂ (· + ·) (congrArg₂ (· + ·) (congrArg₂ (· + ·) (congrArg₂ (· + ·) (congrArg₂ (· + ·) (congrArg₂ (· +
    ·) (congrArg₂ (· + ·) (congrArg₂ (· + ·) (congrArg₂ (· + ·) (congrArg₂ (· + ·) (congrArg₂ (· + ·) (congrArg₂ (· + ·) (congrArg₂ (· + ·) (congrArg₂ (·
    + ·) (congrArg₂ (· + ·) (congrArg₂ (· + ·) (congrArg₂ (· + ·) (congrArg₂ (· + ·) (congrArg₂ (· + ·) (congrArg₂ (· + ·) (tap_up d w r j 0 _ (by
    decide)) (tap_up d w r j 1 _ (by decide))) (tap_up d w r j 2 _ (by decide))) (tap_up d w r j 3 _ (by decide))) (tap_up d w r j 4 _ (by decide)))
    (tap_up d w r j 5 _ (by decide))) (tap_up d w r j 6 _ (by decide))) (tap_up d w r j 7 _ (by decide))) (tap_up d w r j 8 _ (by decide))) (tap_up d w r
    j 9 _ (by decide))) (tap_up d w r j 10 _ (by decide))) (tap_up d w r j 11 _ (by decide))) (tap_up d w r j 12 _ (by decide))) (tap_up d w r j 13 _ (by
    decide))) (tap_up d w r j 14 _ (by decide))) (tap_up d w r j 15 _ (by decide))) (tap_up d w r j 16 _ (by decide))) (tap_up d w r j 17 _ (by decide)))
    (tap_up d w r j 18 _ (by decide))) (tap_up d w r j 19 _ (by decide))) (tap_up d w r j 20 _ (by decide))) (tap_up d w r j 21 _ (by decide))) (tap_up d
    w r j 22 _ (by decide))) (tap_up d w r j 23 _ (by decide))) (tap_up d w r j 24 _ (by decide))) (tap_up d w r j 25 _ (by decide))) (tap_up d w r j 26 _
    (by decide))) (tap_up d w r j 27 _ (by decide))) (tap_up d w r j 28 _ (by decide))) (tap_up d w r j 29 _ (by decide))) (tap_last d w r j _)

theorem adjv_eq : k0_pay64 w d (k0_pay60 w d (k0_pay53 w d (k0_pay50 w d (k0_pay46 w d (k0_pay40 w d (k0_pay36 w d (k0_pay31 w d (k0_pay26 w d (k0_pay21 w d (k0_pay17 w d
      (k0_pay14 w d (k0_pay8 w d (k0_pay4 w d)) (k0_pay10 w) k0_pay11 2021#32))) (k0_pay23 w) (iota .tc S2048x128 32 [0] iota_S2048x128_d0_w32) k0_pay24)
      (k0_pay28 w d))) (k0_pay38 w) (iota .tc S2048x128 32 [0] iota_S2048x128_d0_w32)) (k0_pay42 w) (k0_pay43 d)))) (k0_pay55 w) k0_pay56 (k0_pay57 d)
      (Scalar.ofBits .f32 0x00000000#32)) = adjv d w := rfl

/-- Thirty-one rows over a row of zeros. -/
def stack : FVec Ideal S32x128 .f32 :=
  k0_pay71 (P 24) (P 25) (P 26) (P 27) (P 28) (P 29) (P 30) (iota .tc S32x128 32 [0] iota_S32x128_d0_w32)
    (k0_pay69 (P 14) (P 15) (P 16) (P 17) (P 18) (P 19) (P 20) (P 21) (P 22) (P 23) (iota .tc S32x128 32 [0] iota_S32x128_d0_w32)
      (k0_pay67 (P 4) (P 5) (P 6) (P 7) (P 8) (P 9) (P 10) (P 11) (P 12) (P 13) (iota .tc S32x128 32 [0] iota_S32x128_d0_w32)
        (k0_pay65 (P 0) (P 1) (P 2) (P 3)) k0_pay66) k0_pay68) k0_pay70

theorem stack_at (i : Fin 32) : stack P (ix2 i j) = if h : i.val < 31 then P ⟨i.val, h⟩ (ix2 0 j) else 0 := by
  pointwise [stack, k0_pay71, k0_pay70, k0_pay69, k0_pay68, k0_pay67, k0_pay66, k0_pay65]
  fin_cases i <;> rfl

/-- The taps' gradients as rows of a block. -/
def tapv : Fin 31 → FVec Ideal S1x128 .f32 := ![colv d (dnv 30 g), colv d (dnv 29 g), colv d (dnv 28 g), colv d (dnv 27 g), colv d (dnv 26 g), colv d (dnv 25 g), colv d (dnv 24 g), colv d (dnv 23 g), colv d (dnv 22 g), colv d (dnv 21 g), colv d (dnv 20 g), colv d (dnv 19 g), colv d (dnv 18 g), colv d (dnv 17 g), colv d (dnv 16 g), colv d (dnv 15 g), colv d (dnv 14 g), colv d (dnv 13 g), colv d (dnv 12 g), colv d (dnv 11 g), colv d (dnv 10 g), colv d (dnv 9 g), colv d (dnv 8 g), colv d (dnv 7 g), colv d (dnv 6 g), colv d (dnv 5 g), colv d (dnv 4 g), colv d (dnv 3 g), colv d (dnv 2 g), colv d (dnv 1 g), colv d g]

theorem tapv_at (k : Fin 31) : tapv d g k (ix2 0 j) = ∑ e, d (ix2 e j) * sh (30 - k.val) (fun e => g (ix2 e j)) e := by
  fin_cases k
  all_goals first
    | exact colv_zero d g j
    | exact colv_dnv d g j _ (by norm_num)

theorem pay1_at : k0_pay1 (F := Ideal) b (ix2 r j) = logi (b (ix2 r j)) := by
  pointwise [k0_pay1, logi]
  rw [zero_sub]

theorem pay2_at : k0_pay2 (F := Ideal) a b (ix2 r j) = glu (a (ix2 r j)) (b (ix2 r j)) := by
  pointwise [k0_pay2, glu]
  rw [pay1_at]

theorem out4_eq : out0_4 (F := Ideal) a b w d = mulf (adjv d w) (k0_pay1 (F := Ideal) b) := by
  unfold_out out0_4
  rw [View.canon_unit_zero (S := S2048x128) off2]
  simp only [View.ld_unit_zero (S := S2048x128) off2, View.ld_unit_zero (S := S31x128) off2]
  rw [adjv_eq]
  rfl

theorem out5_eq : out0_5 (F := Ideal) a b w d = mulf (mulf (adjv d w) (k0_pay2 (F := Ideal) a b))
    (subf (broadcast S2048x128 (Scalar.ofBits (F := Ideal) .f32 0x3F800000#32)) (k0_pay1 (F := Ideal) b)) := by
  unfold_out out0_5
  rw [View.canon_unit_zero (S := S2048x128) off2]
  simp only [View.ld_unit_zero (S := S2048x128) off2, View.ld_unit_zero (S := S31x128) off2]
  rw [adjv_eq]
  rfl

theorem out6_eq : out0_6 (F := Ideal) a b w d = stack (tapv d (k0_pay2 (F := Ideal) a b)) := by
  unfold_out out0_6
  rw [View.canon_unit_zero (S := S32x128) off2]
  simp only [View.ld_unit_zero (S := S2048x128) off2]
  rfl

theorem out4_at : out0_4 (F := Ideal) a b w d (ix2 r j) = adj (fun k => w (ix2 k j)) (fun e => d (ix2 e j)) r * logi (b (ix2 r j)) := by
  rw [out4_eq, ← pay1_at b r j, ← adjv_at d w r j]
  rfl

theorem out5_at : out0_5 (F := Ideal) a b w d (ix2 r j)
    = adj (fun k => w (ix2 k j)) (fun e => d (ix2 e j)) r * glu (a (ix2 r j)) (b (ix2 r j)) * (1 - logi (b (ix2 r j))) := by
  rw [out5_eq, ← pay1_at b r j, ← pay2_at a b r j, ← adjv_at d w r j]
  pointwise []

theorem out6_at (i : Fin 32) : out0_6 (F := Ideal) a b w d (ix2 i j) = rows (fun e => glu (a (ix2 e j)) (b (ix2 e j))) (fun e => d (ix2 e j)) i := by
  rw [out6_eq, stack_at, rows]
  split
  · rw [tapv_at]
    simp only [pay2_at]
  · rfl

theorem out7_at : out0_7 (F := Ideal) a b w d (ix2 0 j) = ∑ e, d (ix2 e j) := by
  unfold_out out0_7
  rw [View.canon_unit_zero (S := S1x128) off2]
  simp only [View.ld_unit_zero (S := S2048x128) off2]
  pointwise [k0_pay74]

end Body

/-! ## The blocks -/

variable (m : (ℓ : Loc nD τ sig) → Buf (Elt Ideal) ℓ) (c : Dev nD)

/-- The arguments as launched. -/
abbrev A0 : (⟨2, ![2048, 2048]⟩ : Shape).Idx → EReal := m ((c : Thread nD τ).loc main_arg0)
abbrev A1 : (⟨2, ![31, 1024]⟩ : Shape).Idx → EReal := m ((c : Thread nD τ).loc main_arg1)
abbrev A2 : (⟨2, ![2048, 1024]⟩ : Shape).Idx → EReal := m ((c : Thread nD τ).loc main_arg2)

theorem e0 : ∀ t : Fin cfg0.N, win0_0.index t 0 = 0 ∧ win0_0.index t 1 = t.val := by decide +kernel
theorem e1 : ∀ t : Fin cfg0.N, win0_1.index t 0 = 0 ∧ win0_1.index t 1 = t.val + 8 := by decide +kernel
theorem e2 : ∀ t : Fin cfg0.N, win0_2.index t 0 = 0 ∧ win0_2.index t 1 = t.val := by decide +kernel
theorem e3 : ∀ t : Fin cfg0.N, win0_3.index t 0 = 0 ∧ win0_3.index t 1 = t.val := by decide +kernel
theorem e4 : ∀ t : Fin cfg0.N, win0_4.index t 0 = 0 ∧ win0_4.index t 1 = t.val := by decide +kernel
theorem e5 : ∀ t : Fin cfg0.N, win0_5.index t 0 = 0 ∧ win0_5.index t 1 = t.val := by decide +kernel
theorem e6 : ∀ t : Fin cfg0.N, win0_6.index t 0 = 0 ∧ win0_6.index t 1 = t.val := by decide +kernel
theorem e7 : ∀ t : Fin cfg0.N, win0_7.index t 0 = 0 ∧ win0_7.index t 1 = t.val := by decide +kernel

/-- The column of lane `d` of a grid point's block. -/
def cl (t : Fin cfg0.N) (d : Fin 128) : Fin 1024 := ⟨t.val * 128 + d.val, by have : t.val < 8 := t.isLt; omega⟩

theorem blk0_at (t : Fin cfg0.N) (r : Fin 2048) (d : Fin 128) : iblk m c 0 t (ix2 r d) = A0 m c (ix2 r (lo (cl t d))) := by
  show V m c main_arg0 (((cfg0.win 0).blk t).view.emb (ix2 r d)) = _
  rw [V_main_arg0]
  refine congrArg (m ((c : Thread nD τ).loc main_arg0)) (funext fun a => Fin.ext ?_)
  fin_cases a
  · show win0_0.index t 0 * 2048 + 1 * r.val = r.val
    rw [(e0 t).1]; omega
  · show win0_0.index t 1 * 128 + 1 * d.val = t.val * 128 + d.val
    rw [(e0 t).2]; omega

theorem blk1_at (t : Fin cfg0.N) (r : Fin 2048) (d : Fin 128) : iblk m c 1 t (ix2 r d) = A0 m c (ix2 r (hi (cl t d))) := by
  show V m c main_arg0 (((cfg0.win 1).blk t).view.emb (ix2 r d)) = _
  rw [V_main_arg0]
  refine congrArg (m ((c : Thread nD τ).loc main_arg0)) (funext fun a => Fin.ext ?_)
  fin_cases a
  · show win0_1.index t 0 * 2048 + 1 * r.val = r.val
    rw [(e1 t).1]; omega
  · show win0_1.index t 1 * 128 + 1 * d.val = 1024 + (t.val * 128 + d.val)
    rw [(e1 t).2]; omega

theorem blk2_at (t : Fin cfg0.N) (r : Fin 31) (d : Fin 128) : iblk m c 2 t (ix2 r d) = A1 m c (ix2 r (cl t d)) := by
  show V m c main_arg1 (((cfg0.win 2).blk t).view.emb (ix2 r d)) = _
  rw [V_main_arg1]
  refine congrArg (m ((c : Thread nD τ).loc main_arg1)) (funext fun a => Fin.ext ?_)
  fin_cases a
  · show win0_2.index t 0 * 31 + 1 * r.val = r.val
    rw [(e2 t).1]; omega
  · show win0_2.index t 1 * 128 + 1 * d.val = t.val * 128 + d.val
    rw [(e2 t).2]; omega

theorem blk3_at (t : Fin cfg0.N) (r : Fin 2048) (d : Fin 128) : iblk m c 3 t (ix2 r d) = A2 m c (ix2 r (cl t d)) := by
  show V m c main_arg2 (((cfg0.win 3).blk t).view.emb (ix2 r d)) = _
  rw [V_main_arg2]
  refine congrArg (m ((c : Thread nD τ).loc main_arg2)) (funext fun a => Fin.ext ?_)
  fin_cases a
  · show win0_3.index t 0 * 2048 + 1 * r.val = r.val
    rw [(e3 t).1]; omega
  · show win0_3.index t 1 * 128 + 1 * d.val = t.val * 128 + d.val
    rw [(e3 t).2]; omega

section Spec

variable (u : S2048x2048.Idx → EReal) (w : S31x1024.Idx → EReal) (d : S2048x1024.Idx → EReal)

/-- A gated column, and a column of the transposed taps. -/
def gcol (j : Fin 1024) (e : Fin 2048) : EReal := glu (u (ix2 e (lo j))) (u (ix2 e (hi j)))
def acol (j : Fin 1024) (r : Fin 2048) : EReal := adj (fun k => w (ix2 k j)) (fun e => d (ix2 e j)) r

/-- The gradients in the rows' two halves, in the taps and in the bias. -/
def dlo : S2048x1024.Idx → EReal := fun i => acol w d (i 1) (i 0) * logi (u (ix2 (i 0) (hi (i 1))))
def dhi : S2048x1024.Idx → EReal := fun i => acol w d (i 1) (i 0) * gcol u (i 1) (i 0) * (1 - logi (u (ix2 (i 0) (hi (i 1)))))
def dw : S32x1024.Idx → EReal := fun i => rows (gcol u (i 1)) (fun e => d (ix2 e (i 1))) (i 0)
def db : S1x1024.Idx → EReal := fun i => ∑ e, d (ix2 e (i 1))

end Spec

theorem final_dlo : (dats m 0 c).arrAt 4 cfg0.N = dlo (A0 m c) (A1 m c) (A2 m c) := by
  refine (dats m 0 c).arrAt_eq_of_covers 4 _ (by decide +kernel) fun t hf y => ?_
  blk_simp
  rw [after0_4]
  revert y
  intro (y : S2048x128.Idx)
  idx_vars y
  rw [out4_at]
  simp only [blk1_at, blk2_at, blk3_at]
  refine congrArg (dlo (A0 m c) (A1 m c) (A2 m c)) (a₁ := ix2 y0 (cl t y1)) (funext fun a => Fin.ext ?_)
  fin_cases a
  · show (y0 : Fin 2048).val = win0_4.index t 0 * 2048 + 1 * (y0 : Fin 2048).val
    rw [(e4 t).1]; omega
  · show t.val * 128 + y1.val = win0_4.index t 1 * 128 + 1 * y1.val
    rw [(e4 t).2]; omega

theorem final_dhi : (dats m 0 c).arrAt 5 cfg0.N = dhi (A0 m c) (A1 m c) (A2 m c) := by
  refine (dats m 0 c).arrAt_eq_of_covers 5 _ (by decide +kernel) fun t hf y => ?_
  blk_simp
  rw [after0_5]
  revert y
  intro (y : S2048x128.Idx)
  idx_vars y
  rw [out5_at]
  simp only [blk0_at, blk1_at, blk2_at, blk3_at]
  refine congrArg (dhi (A0 m c) (A1 m c) (A2 m c)) (a₁ := ix2 y0 (cl t y1)) (funext fun a => Fin.ext ?_)
  fin_cases a
  · show (y0 : Fin 2048).val = win0_5.index t 0 * 2048 + 1 * (y0 : Fin 2048).val
    rw [(e5 t).1]; omega
  · show t.val * 128 + y1.val = win0_5.index t 1 * 128 + 1 * y1.val
    rw [(e5 t).2]; omega

theorem final_dw : (dats m 0 c).arrAt 6 cfg0.N = dw (A0 m c) (A2 m c) := by
  refine (dats m 0 c).arrAt_eq_of_covers 6 _ (by decide +kernel) fun t hf y => ?_
  blk_simp
  rw [after0_6]
  revert y
  intro (y : S32x128.Idx)
  idx_vars y
  rw [out6_at]
  simp only [blk0_at, blk1_at, blk3_at]
  refine congrArg (dw (A0 m c) (A2 m c)) (a₁ := ix2 y0 (cl t y1)) (funext fun a => Fin.ext ?_)
  fin_cases a
  · show (y0 : Fin 32).val = win0_6.index t 0 * 32 + 1 * (y0 : Fin 32).val
    rw [(e6 t).1]; omega
  · show t.val * 128 + y1.val = win0_6.index t 1 * 128 + 1 * y1.val
    rw [(e6 t).2]; omega

theorem final_db : (dats m 0 c).arrAt 7 cfg0.N = db (A2 m c) := by
  refine (dats m 0 c).arrAt_eq_of_covers 7 _ (by decide +kernel) fun t hf y => ?_
  blk_simp
  rw [after0_7]
  revert y
  intro (y : S1x128.Idx)
  idx_vars y
  obtain rfl : y0 = 0 := Subsingleton.elim _ _
  rw [out7_at]
  simp only [blk3_at]
  refine congrArg (db (A2 m c)) (a₁ := ix2 0 (cl t y1)) (funext fun a => Fin.ext ?_)
  fin_cases a
  · show (0 : Fin 1).val = win0_7.index t 0 * 1 + 1 * (0 : Fin 1).val
    rw [(e7 t).1]; omega
  · show t.val * 128 + y1.val = win0_7.index t 1 * 128 + 1 * y1.val
    rw [(e7 t).2]; omega

/-! ## The reference -/

section Reference

open Cert.Reference52Ideal.Read

variable (x0 : (⟨Cert.Reference52Ideal.S2048x2048, .f32⟩ : BufTy).Contents (Elt Ideal)) (x1 : (⟨Cert.Reference52Ideal.S31x1024, .f32⟩ : BufTy).Contents (Elt Ideal))
  (x2 : (⟨Cert.Reference52Ideal.S2048x1024, .f32⟩ : BufTy).Contents (Elt Ideal)) (r : Fin 2048) (j : Fin 1024)

theorem v8_at : val_main_v8 (F := Ideal) x0 (ix2 r j) = logi (x0 (ix2 r (hi j))) := by
  pointwise [val_main_v8, val_main_v7, val_main_v6, val_main_v5, val_main_v4, val_main_v3, val_main_v2, val_main_cst_0, val_main_cst_1, logi, hi]

theorem v1_at : val_main_v1 (F := Ideal) x0 (ix2 r j) = x0 (ix2 r (lo j)) := by
  pointwise [val_main_v1, lo]

theorem v12_at : val_main_v12 (F := Ideal) x0 (ix2 r j) = gcol x0 j r := by
  pointwise [val_main_v12, gcol, glu]
  rw [v8_at, v1_at]

/-- A row written into a stack of zero rows, read at a row of the stack. -/
theorem pad_row (l h : ℕ) (x : (⟨Cert.Reference52Ideal.S1x1024, .f32⟩ : BufTy).Contents (Elt Ideal)) (v : (⟨Cert.Reference52Ideal.S_, .f32⟩ : BufTy).Contents (Elt Ideal))
    (hp : Cert.Reference52Ideal.S1x1024.Pads (![l, 0] : Fin 2 → ℕ) ![h, 0] ![0, 0] Cert.Reference52Ideal.S31x1024) (hu : 0 < Cert.Reference52Ideal.S_.numel) (k : Fin 31) :
    pad Cert.Reference52Ideal.S31x1024 ![l, 0] ![h, 0] ![0, 0] x v hp hu (ix2 k j) = if k.val = l then x (ix2 0 j) else v (Shape.Idx.first hu) := by
  by_cases hk : k.val = l
  · rw [if_pos hk]
    refine pad_apply_of_inside _ _ _ x v hp hu (ix2 k j) (ix2 0 j) fun a => ?_
    fin_cases a
    · show k.val = l + 0 * (0 + 1)
      omega
    · show j.val = 0 + j.val * (0 + 1)
      omega
  · rw [if_neg hk]
    refine pad_apply_of_not_inside _ _ _ x v hp hu (ix2 k j) 0 fun ha => hk ?_
    have h1 : l ≤ k.val := ha.1
    have h2 : (k.val - l) / (0 + 1) < 1 := ha.2.2
    rw [Nat.div_one] at h2
    omega

/-- Rows of zeros above and below the rows, read thirty rows down. -/
theorem pad_rows (l h o : ℕ) (ho : l + o = 30) (x : (⟨Cert.Reference52Ideal.S2048x1024, .f32⟩ : BufTy).Contents (Elt Ideal)) (v : (⟨Cert.Reference52Ideal.S_, .f32⟩ : BufTy).Contents (Elt Ideal))
    (hp : Cert.Reference52Ideal.S2048x1024.Pads (![l, 0] : Fin 2 → ℕ) ![h, 0] ![0, 0] Cert.Reference52Ideal.S2078x1024) (hu : 0 < Cert.Reference52Ideal.S_.numel) :
    pad Cert.Reference52Ideal.S2078x1024 ![l, 0] ![h, 0] ![0, 0] x v hp hu (ix2 ⟨30 + r.val, by omega⟩ j)
      = if h : o + r.val < 2048 then x (ix2 ⟨o + r.val, h⟩ j) else v (Shape.Idx.first hu) := by
  by_cases hk : o + r.val < 2048
  · rw [dif_pos hk]
    refine pad_apply_of_inside _ _ _ x v hp hu _ (ix2 ⟨o + r.val, hk⟩ j) fun a => ?_
    fin_cases a
    · show 30 + r.val = l + (o + r.val) * (0 + 1)
      omega
    · show j.val = 0 + j.val * (0 + 1)
      omega
  · rw [dif_neg hk]
    refine pad_apply_of_not_inside _ _ _ x v hp hu _ 0 fun ha => hk ?_
    have h2 : (30 + r.val - l) / (0 + 1) < 2048 := ha.2.2
    rw [Nat.div_one] at h2
    omega

/-- Columns of zeros beside the columns. -/
theorem pad_cols (l h : ℕ) (x : (⟨Cert.Reference52Ideal.S2048x1024, .f32⟩ : BufTy).Contents (Elt Ideal)) (v : (⟨Cert.Reference52Ideal.S_, .f32⟩ : BufTy).Contents (Elt Ideal))
    (hp : Cert.Reference52Ideal.S2048x1024.Pads (![0, l] : Fin 2 → ℕ) ![0, h] ![0, 0] Cert.Reference52Ideal.S2048x2048) (hu : 0 < Cert.Reference52Ideal.S_.numel) (q : Fin 2048) :
    pad Cert.Reference52Ideal.S2048x2048 ![0, l] ![0, h] ![0, 0] x v hp hu (ix2 r q)
      = if h : l ≤ q.val ∧ q.val - l < 1024 then x (ix2 r ⟨q.val - l, h.2⟩) else v (Shape.Idx.first hu) := by
  by_cases hk : l ≤ q.val ∧ q.val - l < 1024
  · rw [dif_pos hk]
    refine pad_apply_of_inside _ _ _ x v hp hu _ (ix2 r ⟨q.val - l, hk.2⟩) fun a => ?_
    fin_cases a
    · show r.val = 0 + r.val * (0 + 1)
      omega
    · show q.val = l + (q.val - l) * (0 + 1)
      omega
  · rw [dif_neg hk]
    refine pad_apply_of_not_inside _ _ _ x v hp hu _ 1 fun ha => hk ?_
    have h1 : l ≤ q.val := ha.1
    have h2 : (q.val - l) / (0 + 1) < 1024 := ha.2.2
    rw [Nat.div_one] at h2
    exact ⟨h1, h2⟩

theorem word : FloatOps.ofBits (F := Ideal) .f32 0x00000000#32 = (0 : EReal) := by pointwise []

theorem slc : ∀ k : Fin 31, Cert.Reference52Ideal.S2078x1024.Slices ![k.val, 0] Cert.Reference52Ideal.S2048x1024 := by decide +kernel
theorem slw : ∀ k : Fin 31, Cert.Reference52Ideal.S31x1024.Slices ![k.val, 0] Cert.Reference52Ideal.S1x1024 := by decide +kernel
theorem padr : ∀ k : Fin 31, Cert.Reference52Ideal.S1x1024.Pads (![k.val, 0] : Fin 2 → ℕ) ![30 - k.val, 0] ![0, 0] Cert.Reference52Ideal.S31x1024 := by decide +kernel
theorem padd : ∀ k : Fin 31, Cert.Reference52Ideal.S2048x1024.Pads (![k.val, 0] : Fin 2 → ℕ) ![30 - k.val, 0] ![0, 0] Cert.Reference52Ideal.S2078x1024 := by decide +kernel

/-- A tap's gradient in its row, and the cotangent under a tap moved back. -/
def prod (k : Fin 31) : FVec Ideal Cert.Reference52Ideal.S2048x1024 .f32 :=
  mulf (F := Ideal) (φ := .f32) (extractStridedSlice Cert.Reference52Ideal.S2048x1024 ![k.val, 0] (val_main_v14 (F := Ideal) x0) (slc k)) (val_main_v236 (F := Ideal) x2)
def tsum (k : Fin 31) : FVec Ideal Cert.Reference52Ideal.S1024 .f32 :=
  Host.reduceAdd (prod x0 x2 k) (val_main_cst_7 (F := Ideal)) Cert.Reference52Ideal.Facts₀.reducesTo_S2048x1024_S1024_d0 Cert.Reference52Ideal.Facts₀.h_S_
def tone (k : Fin 31) : FVec Ideal Cert.Reference52Ideal.S1024 .f32 :=
  Host.reduceAdd (F := Ideal) (φ := .f32) (shapeCast Cert.Reference52Ideal.S1x1024 (tsum x0 x2 k) Cert.Reference52Ideal.Facts₀.shapeCasts_S1024_S1x1024) (val_main_cst_7 (F := Ideal))
    Cert.Reference52Ideal.Facts₀.reducesTo_S1x1024_S1024_d0 Cert.Reference52Ideal.Facts₀.h_S_
def trow (k : Fin 31) : FVec Ideal Cert.Reference52Ideal.S1x1024 .f32 := broadcastInDim Cert.Reference52Ideal.S1x1024 ![1] Cert.Reference52Ideal.Facts₀.bcast_S1024_S1x1024_1 (tone x0 x2 k)
def tmul (k : Fin 31) : FVec Ideal Cert.Reference52Ideal.S2048x1024 .f32 :=
  mulf (F := Ideal) (φ := .f32) (val_main_v236 (F := Ideal) x2) (broadcastInDim Cert.Reference52Ideal.S2048x1024 ![0, 1] Cert.Reference52Ideal.Facts₀.bcast_S1x1024_S2048x1024_0_1
    (broadcastInDim Cert.Reference52Ideal.S1x1024 ![1] Cert.Reference52Ideal.Facts₀.bcast_S1024_S1x1024_1
      (shapeCast Cert.Reference52Ideal.S1024 (extractStridedSlice Cert.Reference52Ideal.S1x1024 ![k.val, 0] x1 (slw k)) Cert.Reference52Ideal.Facts₀.shapeCasts_S1x1024_S1024)))
def prow (k : Fin 31) : (⟨Cert.Reference52Ideal.S31x1024, .f32⟩ : BufTy).Contents (Elt Ideal) :=
  pad Cert.Reference52Ideal.S31x1024 ![k.val, 0] ![30 - k.val, 0] ![0, 0] (trow x0 x2 k) (val_main_cst_7 (F := Ideal)) (padr k) Cert.Reference52Ideal.Facts₀.h_S_
def pmul (k : Fin 31) : (⟨Cert.Reference52Ideal.S2078x1024, .f32⟩ : BufTy).Contents (Elt Ideal) :=
  pad Cert.Reference52Ideal.S2078x1024 ![k.val, 0] ![30 - k.val, 0] ![0, 0] (tmul x1 x2 k) (val_main_cst_7 (F := Ideal)) (padd k) Cert.Reference52Ideal.Facts₀.h_S_

theorem trow_at (k : Fin 31) : trow x0 x2 k (ix2 0 j) = ∑ e, x2 (ix2 e j) * sh (30 - k.val) (gcol x0 j) e := by
  pointwise [trow, tone, tsum, prod, val_main_v236, val_main_v14, val_main_v13, val_main_cst_3, val_main_cst_7]
  simp only [Fin.sum_univ_one, v12_at]
  refine Finset.sum_congr rfl fun e _ => (mul_comm _ _).trans (congrArg (x2 (ix2 e j) * ·) ?_)
  exact Cert.Proof.Shift.sh_pad 30 k.val (30 - k.val) (by omega) (gcol x0 j) e fun _ => by omega

theorem tmul_at (k : Fin 31) : tmul x1 x2 k (ix2 r j) = x1 (ix2 k j) * x2 (ix2 r j) := by
  pointwise [tmul, val_main_v236]
  exact mul_comm _ _

theorem prow_at (k i : Fin 31) : prow x0 x2 k (ix2 i j) = if i = k then ∑ e, x2 (ix2 e j) * sh (30 - k.val) (gcol x0 j) e else 0 := by
  refine (pad_row j k.val (30 - k.val) _ _ _ _ i).trans ?_
  rw [trow_at]
  by_cases h : i = k
  · rw [if_pos h, if_pos (congrArg Fin.val h)]
  · rw [if_neg h, if_neg fun e => h (Fin.ext e)]
    exact word

theorem pmul_at (k : Fin 31) : pmul x1 x2 k (ix2 ⟨30 + r.val, by omega⟩ j) = x1 (ix2 k j) * dnr (30 - k.val) (fun e => x2 (ix2 e j)) r := by
  refine (pad_rows r j k.val (30 - k.val) (30 - k.val) (by omega) _ _ _ _).trans ?_
  unfold dnr
  by_cases h : 30 - k.val + r.val < 2048
  · rw [dif_pos h, dif_pos h, tmul_at]
  · rw [dif_neg h, dif_neg h, mul_zero]
    exact word

theorem sum_rev (f : Fin 31 → EReal) : ∑ k, f k = f 30 + f 29 + f 28 + f 27 + f 26 + f 25 + f 24 + f 23 + f 22 + f 21 + f 20 + f 19 + f 18 + f 17 + f 16 + f 15 + f 14 + f 13 + f 12 + f 11 + f 10 + f 9 + f 8 + f 7 + f 6 + f 5 + f 4 + f 3 + f 2 + f 1 + f 0 := by
  rw [← Equiv.sum_comp Fin.revPerm f]
  simp only [Fin.sum_univ_castSucc, Finset.univ_eq_empty, Finset.sum_empty, zero_add]
  rfl

theorem v575_at (i : Fin 31) : val_main_v575 (F := Ideal) x0 x2 (ix2 i j) = ∑ e, x2 (ix2 e j) * sh (30 - i.val) (gcol x0 j) e := by
  have h : val_main_v575 (F := Ideal) x0 x2 (ix2 i j) = ∑ k, prow x0 x2 k (ix2 i j) := by
    rw [sum_rev]
    rfl
  rw [h]
  simp only [prow_at]
  rw [Finset.sum_ite_eq, if_pos (Finset.mem_univ _)]

theorem v579_at : val_main_v579 (F := Ideal) x1 x2 (ix2 r j) = acol x1 x2 j r := by
  have e : val_main_v579 (F := Ideal) x1 x2 (ix2 r j) = val_main_v577 (F := Ideal) x1 x2 (ix2 ⟨30 + r.val, by omega⟩ j) := by
    pointwise [val_main_v579]
  have h : val_main_v577 (F := Ideal) x1 x2 (ix2 ⟨30 + r.val, by omega⟩ j) = ∑ k, pmul x1 x2 k (ix2 ⟨30 + r.val, by omega⟩ j) := by
    rw [sum_rev]
    rfl
  rw [e, h, acol, adj]
  exact Finset.sum_congr rfl fun k _ => pmul_at x1 x2 r j k

theorem v582_at : val_main_v582 (F := Ideal) x0 x1 x2 (ix2 r j) = dhi x0 x1 x2 (ix2 r j) := by
  pointwise [val_main_v582, val_main_v580, val_main_v11, val_main_v10, val_main_v9, val_main_cst_2, dhi, gcol, glu]
  rw [v579_at, v8_at, v1_at]
  ac_rfl

theorem v581_at : val_main_v581 (F := Ideal) x0 x1 x2 (ix2 r j) = dlo x0 x1 x2 (ix2 r j) := by
  pointwise [val_main_v581, dlo]
  rw [v579_at, v8_at]

theorem v586_at (i : S2048x1024.Idx) : val_main_v586 (F := Ideal) x0 x1 x2 i = dlo x0 x1 x2 i := by
  idx_vars i
  have e : val_main_v586 (F := Ideal) x0 x1 x2 (ix2 i0 i1) = val_main_v585 (F := Ideal) x0 x1 x2 (ix2 i0 (lo i1)) := by
    pointwise [val_main_v586, lo]
  have h0 : val_main_v583 (F := Ideal) x0 x1 x2 (ix2 i0 (lo i1)) = 0 :=
    (pad_cols i0 1024 0 _ _ _ _ _).trans ((dif_neg fun h => by have := h.1; have : 1024 ≤ i1.val := this; omega).trans word)
  have h1 : val_main_v584 (F := Ideal) x0 x1 x2 (ix2 i0 (lo i1)) = val_main_v581 (F := Ideal) x0 x1 x2 (ix2 i0 i1) :=
    (pad_cols i0 0 1024 _ _ _ _ _).trans (dif_pos ⟨Nat.zero_le _, i1.isLt⟩)
  rw [e, ← v581_at, ← h1]
  show val_main_v583 (F := Ideal) x0 x1 x2 (ix2 i0 (lo i1)) + val_main_v584 (F := Ideal) x0 x1 x2 (ix2 i0 (lo i1)) = _
  rw [h0, zero_add]

theorem v587_at (i : S2048x1024.Idx) : val_main_v587 (F := Ideal) x0 x1 x2 i = dhi x0 x1 x2 i := by
  idx_vars i
  have e : val_main_v587 (F := Ideal) x0 x1 x2 (ix2 i0 i1) = val_main_v585 (F := Ideal) x0 x1 x2 (ix2 i0 (hi i1)) := by
    pointwise [val_main_v587, hi]
  have hs : (hi i1).val - 1024 = i1.val := by show 1024 + i1.val - 1024 = i1.val; omega
  have h1 : val_main_v583 (F := Ideal) x0 x1 x2 (ix2 i0 (hi i1)) = val_main_v582 (F := Ideal) x0 x1 x2 (ix2 i0 i1) :=
    (pad_cols i0 1024 0 _ _ _ _ _).trans ((dif_pos ⟨Nat.le_add_right 1024 i1.val, by rw [hs]; exact i1.isLt⟩).trans
      (congrArg (fun q => val_main_v582 (F := Ideal) x0 x1 x2 (ix2 i0 q)) (Fin.ext hs)))
  have h0 : val_main_v584 (F := Ideal) x0 x1 x2 (ix2 i0 (hi i1)) = 0 :=
    (pad_cols i0 0 1024 _ _ _ _ _).trans ((dif_neg fun h => by have := h.2; have : 1024 + i1.val - 0 < 1024 := this; omega).trans word)
  rw [e, ← v582_at, ← h1]
  show val_main_v583 (F := Ideal) x0 x1 x2 (ix2 i0 (hi i1)) + val_main_v584 (F := Ideal) x0 x1 x2 (ix2 i0 (hi i1)) = _
  rw [h0, add_zero]

theorem v589_at (i : S32x1024.Idx) : val_main_v589 (F := Ideal) x0 x2 i = dw x0 x2 i := by
  idx_vars i
  pointwise [val_main_v589, val_main_v588, val_main_cst_133, dw, rows]
  simp only [v575_at]
  rfl

theorem v238_at (i : S1x1024.Idx) : val_main_v238 (F := Ideal) x2 i = db x2 i := by
  idx_vars i
  pointwise [val_main_v238, val_main_v237, val_main_cst_6, db]

end Reference

theorem agree : algebraic_Kernel52Ideal_Reference52Ideal (hKernel52Ideal := Cert.Kernel52Ideal.Gen.facts)
    (hReference52Ideal := Cert.Reference52Ideal.Gen.facts) := by
  intro m g m' g' _ ha
  refine ⟨fun c => dlo (A0 m c) (A1 m c) (A2 m c), fun c => dhi (A0 m c) (A1 m c) (A2 m c), fun c => dw (A0 m c) (A2 m c), fun c => db (A2 m c),
    (θ_run _ _ _).mono (fun r h c => ⟨(h c).1.trans (final_dlo m c), (h c).2.1.trans (final_dhi m c), (h c).2.2.1.trans (final_dw m c),
      (h c).2.2.2.1.trans (final_db m c), (h c).2.2.2.2⟩)
      (Cert.Kernel52Ideal.Value.run_blocks m g),
    (θ_run _ _ _).mono (fun r h c => ?_) (Cert.Reference52Ideal.Value.run m' g')⟩
  obtain ⟨e0, e1, e2⟩ := ha c
  refine ⟨(h c).1.trans ?_, (h c).2.1.trans ?_, (h c).2.2.1.trans ?_, (h c).2.2.2.1.trans ?_, (h c).2.2.2.2⟩
  · refine (Cert.Reference52Ideal.Read.val_main_v586_eq _).trans ?_
    rw [show StableHlo.launchContents m' c (Proc.tc.devRef Cert.Reference52Ideal.main_arg0) = A0 m c from e0,
      show StableHlo.launchContents m' c (Proc.tc.devRef Cert.Reference52Ideal.main_arg1) = A1 m c from e1,
      show StableHlo.launchContents m' c (Proc.tc.devRef Cert.Reference52Ideal.main_arg2) = A2 m c from e2]
    exact funext fun i => v586_at _ _ _ i
  · refine (Cert.Reference52Ideal.Read.val_main_v587_eq _).trans ?_
    rw [show StableHlo.launchContents m' c (Proc.tc.devRef Cert.Reference52Ideal.main_arg0) = A0 m c from e0,
      show StableHlo.launchContents m' c (Proc.tc.devRef Cert.Reference52Ideal.main_arg1) = A1 m c from e1,
      show StableHlo.launchContents m' c (Proc.tc.devRef Cert.Reference52Ideal.main_arg2) = A2 m c from e2]
    exact funext fun i => v587_at _ _ _ i
  · refine (Cert.Reference52Ideal.Read.val_main_v589_eq _).trans ?_
    rw [show StableHlo.launchContents m' c (Proc.tc.devRef Cert.Reference52Ideal.main_arg0) = A0 m c from e0,
      show StableHlo.launchContents m' c (Proc.tc.devRef Cert.Reference52Ideal.main_arg2) = A2 m c from e2]
    exact funext fun i => v589_at _ _ i
  · refine (Cert.Reference52Ideal.Read.val_main_v238_eq _).trans ?_
    rw [show StableHlo.launchContents m' c (Proc.tc.devRef Cert.Reference52Ideal.main_arg2) = A2 m c from e2]
    exact funext fun i => v238_at _ i

end Cert.Proof.GluBwd

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Run
public import proofs.«01_k».proof.Proof.Gen.Kernel2Ideal.Read
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Run
public import proofs.«01_k».proof.Proof.Gen.Kernel3Ideal.Read
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Run
public import proofs.«01_k».proof.Proof.Gen.Kernel6Ideal.Read
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Run
public import proofs.«01_k».proof.Proof.Gen.Kernel19Ideal.Read
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Gen.Reference32Ideal.Read
public import proofs.«01_k».proof.Proof.Gen.Kernel33
public import proofs.«01_k».proof.Proof.Gen.Kernel33.Skeleton
public import proofs.«01_k».proof.Proof.Gen.Kernel33.Launch
public import proofs.«01_k».proof.Proof.Gen.Kernel33.Points
public import proofs.«01_k».proof.Proof.Gen.Kernel33.Frame
public import proofs.«01_k».proof.Proof.Gen.Kernel33Ideal
public import proofs.«01_k».proof.Proof.Gen.Kernel33Ideal.Skeleton
public import proofs.«01_k».proof.Proof.Gen.Kernel33Ideal.Launch
public import proofs.«01_k».proof.Proof.Gen.Kernel33Ideal.Points
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Run
public import proofs.«01_k».proof.Proof.Gen.Reference33Ideal.Read
public import proofs.«01_k».proof.Proof.Gen.Kernel34
public import proofs.«01_k».proof.Proof.Gen.Kernel34.Skeleton
public import proofs.«01_k».proof.Proof.Gen.Kernel34.Launch
public import proofs.«01_k».proof.Proof.Gen.Kernel34.Points
public import proofs.«01_k».proof.Proof.Gen.Kernel34.Frame
public import proofs.«01_k».proof.Proof.Gen.Kernel34Ideal
public import proofs.«01_k».proof.Proof.Gen.Kernel34Ideal.Skeleton
public import proofs.«01_k».proof.Proof.Gen.Kernel34Ideal.Launch
public import proofs.«01_k».proof.Proof.Gen.Kernel34Ideal.Points
public import proofs.«01_k».proof.Proof.Gen.Kernel34Ideal.Frame
public import proofs.«01_k».proof.Proof.Gen.Kernel34Ideal.Value
public import proofs.«01_k».proof.Proof.Gen.Reference34Ideal
public import proofs.«01_k».proof.Proof.Gen.Reference34Ideal.Run
public import proofs.«01_k».proof.Proof.Gen.Reference34Ideal.Read
public import proofs.«01_k».proof.Proof.Gen.Kernel35
public import proofs.«01_k».proof.Proof.Gen.Kernel35.Skeleton
public import proofs.«01_k».proof.Proof.Gen.Kernel35.Launch
public import proofs.«01_k».proof.Proof.Gen.Kernel35.Points
public import proofs.«01_k».proof.Proof.Gen.Kernel35.Frame
public import proofs.«01_k».proof.Proof.Gen.Kernel35Ideal
public import proofs.«01_k».proof.Proof.Gen.Kernel35Ideal.Skeleton
public import proofs.«01_k».proof.Proof.Gen.Kernel35Ideal.Launch
public import proofs.«01_k».proof.Proof.Gen.Kernel35Ideal.Points
public import proofs.«01_k».proof.Proof.Gen.Kernel35Ideal.Frame
public import proofs.«01_k».proof.Proof.Gen.Kernel35Ideal.Value
public import proofs.«01_k».proof.Proof.Gen.Reference35Ideal
public import proofs.«01_k».proof.Proof.Gen.Reference35Ideal.Run
public import proofs.«01_k».proof.Proof.Gen.Reference35Ideal.Read
public import proofs.«01_k».proof.Proof.Gen.Kernel36
public import proofs.«01_k».proof.Proof.Gen.Kernel36.Skeleton
public import proofs.«01_k».proof.Proof.Gen.Kernel36.Launch
public import proofs.«01_k».proof.Proof.Gen.Kernel36.Points
public import proofs.«01_k».proof.Proof.Gen.Kernel36.Frame
public import proofs.«01_k».proof.Proof.Gen.Kernel36Ideal
public import proofs.«01_k».proof.Proof.Gen.Kernel36Ideal.Skeleton
public import proofs.«01_k».proof.Proof.Gen.Kernel36Ideal.Launch
public import proofs.«01_k».proof.Proof.Gen.Kernel36Ideal.Points
public import proofs.«01_k».proof.Proof.Gen.Kernel36Ideal.Frame
public import proofs.«01_k».proof.Proof.Gen.Kernel36Ideal.Value
public import proofs.«01_k».proof.Proof.Gen.Reference36Ideal
public import proofs.«01_k».proof.Proof.Gen.Reference36Ideal.Run
public import proofs.«01_k».proof.Proof.Gen.Reference36Ideal.Read
public import proofs.«01_k».proof.Proof.Gen.Kernel37
public import proofs.«01_k».proof.Proof.Gen.Kernel37.Skeleton
public import proofs.«01_k».proof.Proof.Gen.Kernel37.Launch
public import proofs.«01_k».proof.Proof.Gen.Kernel37.Points
public import proofs.«01_k».proof.Proof.Gen.Kernel37.Frame
public import proofs.«01_k».proof.Proof.Gen.Kernel37Ideal
public import proofs.«01_k».proof.Proof.Gen.Kernel37Ideal.Skeleton
public import proofs.«01_k».proof.Proof.Gen.Kernel37Ideal.Launch
public import proofs.«01_k».proof.Proof.Gen.Kernel37Ideal.Points
public import proofs.«01_k».proof.Proof.Gen.Kernel37Ideal.Frame
public import proofs.«01_k».proof.Proof.Gen.Kernel37Ideal.Value
public import proofs.«01_k».proof.Proof.Gen.Reference37Ideal
public import proofs.«01_k».proof.Proof.Gen.Reference37Ideal.Run
public import proofs.«01_k».proof.Proof.Gen.Reference37Ideal.Read
public import proofs.«01_k».proof.Proof.Gen.Kernel38
public import proofs.«01_k».proof.Proof.Gen.Kernel38.Skeleton
public import proofs.«01_k».proof.Proof.Gen.Kernel38.Launch
public import proofs.«01_k».proof.Proof.Gen.Kernel38.Points
public import proofs.«01_k».proof.Proof.Gen.Kernel38.Frame
public import proofs.«01_k».proof.Proof.Gen.Kernel38Ideal
public import proofs.«01_k».proof.Proof.Gen.Kernel38Ideal.Skeleton
public import proofs.«01_k».proof.Proof.Gen.Kernel38Ideal.Launch
public import proofs.«01_k».proof.Proof.Gen.Kernel38Ideal.Points
public import proofs.«01_k».proof.Proof.Gen.Kernel38Ideal.Frame
public import proofs.«01_k».proof.Proof.Gen.Kernel38Ideal.Value
public import proofs.«01_k».proof.Proof.Gen.Reference38Ideal
public import proofs.«01_k».proof.Proof.Gen.Reference38Ideal.Run
public import proofs.«01_k».proof.Proof.Gen.Reference38Ideal.Read
public import proofs.«01_k».proof.Proof.Gen.Kernel39
public import proofs.«01_k».proof.Proof.Gen.Kernel39.Skeleton
public import proofs.«01_k».proof.Proof.Gen.Kernel39.Launch
public import proofs.«01_k».proof.Proof.Gen.Kernel39.Points
public import proofs.«01_k».proof.Proof.Gen.Kernel39.Frame
public import proofs.«01_k».proof.Proof.Gen.Kernel39Ideal
public import proofs.«01_k».proof.Proof.Gen.Kernel39Ideal.Skeleton
public import proofs.«01_k».proof.Proof.Gen.Kernel39Ideal.Launch
public import proofs.«01_k».proof.Proof.Gen.Kernel39Ideal.Points
public import proofs.«01_k».proof.Proof.Gen.Kernel39Ideal.Frame
public import proofs.«01_k».proof.Proof.Gen.Kernel39Ideal.Value
public import proofs.«01_k».proof.Proof.Gen.Reference39Ideal
public import proofs.«01_k».proof.Proof.Gen.Reference39Ideal.Run
public import proofs.«01_k».proof.Proof.Gen.Reference39Ideal.Read
public import proofs.«01_k».proof.Proof.Gen.Kernel40
public import proofs.«01_k».proof.Proof.Gen.Kernel40.Skeleton
public import proofs.«01_k».proof.Proof.Gen.Kernel40.Launch
public import proofs.«01_k».proof.Proof.Gen.Kernel40.Points
public import proofs.«01_k».proof.Proof.Gen.Kernel40.Frame
public import proofs.«01_k».proof.Proof.Gen.Kernel40Ideal
public import proofs.«01_k».proof.Proof.Gen.Kernel40Ideal.Skeleton
public import proofs.«01_k».proof.Proof.Gen.Kernel40Ideal.Launch
public import proofs.«01_k».proof.Proof.Gen.Kernel40Ideal.Points
public import proofs.«01_k».proof.Proof.Gen.Kernel40Ideal.Frame
public import proofs.«01_k».proof.Proof.Gen.Kernel40Ideal.Value
public import proofs.«01_k».proof.Proof.Gen.Reference40Ideal
public import proofs.«01_k».proof.Proof.Gen.Reference40Ideal.Run
public import proofs.«01_k».proof.Proof.Gen.Reference40Ideal.Read
public import proofs.«01_k».proof.Proof.Gen.Kernel41
public import proofs.«01_k».proof.Proof.Gen.Kernel41.Skeleton
public import proofs.«01_k».proof.Proof.Gen.Kernel41.Launch
public import proofs.«01_k».proof.Proof.Gen.Kernel41.Points
public import proofs.«01_k».proof.Proof.Gen.Kernel41.Frame
public import proofs.«01_k».proof.Proof.Gen.Kernel41Ideal
public import proofs.«01_k».proof.Proof.Gen.Kernel41Ideal.Skeleton
public import proofs.«01_k».proof.Proof.Gen.Kernel41Ideal.Launch
public import proofs.«01_k».proof.Proof.Gen.Kernel41Ideal.Points
public import proofs.«01_k».proof.Proof.Gen.Kernel41Ideal.Frame
public import proofs.«01_k».proof.Proof.Gen.Kernel41Ideal.Value
public import proofs.«01_k».proof.Proof.Gen.Reference41Ideal
public import proofs.«01_k».proof.Proof.Gen.Reference41Ideal.Run
public import proofs.«01_k».proof.Proof.Gen.Reference41Ideal.Read
public import proofs.«01_k».proof.Proof.Gen.Kernel42
public import proofs.«01_k».proof.Proof.Gen.Kernel42.Skeleton
public import proofs.«01_k».proof.Proof.Gen.Kernel42.Launch
public import proofs.«01_k».proof.Proof.Gen.Kernel42.Points
public import proofs.«01_k».proof.Proof.Gen.Kernel42.Frame
public import proofs.«01_k».proof.Proof.Gen.Kernel42Ideal
public import proofs.«01_k».proof.Proof.Gen.Kernel42Ideal.Skeleton
public import proofs.«01_k».proof.Proof.Gen.Kernel42Ideal.Launch
public import proofs.«01_k».proof.Proof.Gen.Kernel42Ideal.Points
public import proofs.«01_k».proof.Proof.Gen.Kernel42Ideal.Frame
public import proofs.«01_k».proof.Proof.Gen.Kernel42Ideal.Value
public import proofs.«01_k».proof.Proof.Gen.Reference42Ideal
public import proofs.«01_k».proof.Proof.Gen.Reference42Ideal.Run
public import proofs.«01_k».proof.Proof.Gen.Reference42Ideal.Read
public import proofs.«01_k».proof.Proof.Gen.Kernel43
public import proofs.«01_k».proof.Proof.Gen.Kernel43.Skeleton
public import proofs.«01_k».proof.Proof.Gen.Kernel43.Launch
public import proofs.«01_k».proof.Proof.Gen.Kernel43.Points
public import proofs.«01_k».proof.Proof.Gen.Kernel43.Frame
public import proofs.«01_k».proof.Proof.Gen.Kernel43Ideal
public import proofs.«01_k».proof.Proof.Gen.Kernel43Ideal.Skeleton
public import proofs.«01_k».proof.Proof.Gen.Kernel43Ideal.Launch
public import proofs.«01_k».proof.Proof.Gen.Kernel43Ideal.Points
public import proofs.«01_k».proof.Proof.Gen.Kernel43Ideal.Frame
public import proofs.«01_k».proof.Proof.Gen.Kernel43Ideal.Value
public import proofs.«01_k».proof.Proof.Gen.Reference43Ideal
public import proofs.«01_k».proof.Proof.Gen.Reference43Ideal.Run
public import proofs.«01_k».proof.Proof.Gen.Reference43Ideal.Read
public import proofs.«01_k».proof.Proof.Gen.Kernel44
public import proofs.«01_k».proof.Proof.Gen.Kernel44.Skeleton
public import proofs.«01_k».proof.Proof.Gen.Kernel44.Launch
public import proofs.«01_k».proof.Proof.Gen.Kernel44.Points
public import proofs.«01_k».proof.Proof.Gen.Kernel44.Frame
public import proofs.«01_k».proof.Proof.Gen.Kernel44Ideal
public import proofs.«01_k».proof.Proof.Gen.Kernel44Ideal.Skeleton
public import proofs.«01_k».proof.Proof.Gen.Kernel44Ideal.Launch
public import proofs.«01_k».proof.Proof.Gen.Kernel44Ideal.Points
public import proofs.«01_k».proof.Proof.Gen.Kernel44Ideal.Frame
public import proofs.«01_k».proof.Proof.Gen.Kernel44Ideal.Value
public import proofs.«01_k».proof.Proof.Gen.Reference44Ideal
public import proofs.«01_k».proof.Proof.Gen.Reference44Ideal.Run
public import proofs.«01_k».proof.Proof.Gen.Reference44Ideal.Read
public import proofs.«01_k».proof.Proof.Gen.Kernel45
public import proofs.«01_k».proof.Proof.Gen.Kernel45.Skeleton
public import proofs.«01_k».proof.Proof.Gen.Kernel45.Launch
public import proofs.«01_k».proof.Proof.Gen.Kernel45.Points
public import proofs.«01_k».proof.Proof.Gen.Kernel45.Frame
public import proofs.«01_k».proof.Proof.Gen.Kernel45Ideal
public import proofs.«01_k».proof.Proof.Gen.Kernel45Ideal.Skeleton
public import proofs.«01_k».proof.Proof.Gen.Kernel45Ideal.Launch
public import proofs.«01_k».proof.Proof.Gen.Kernel45Ideal.Points
public import proofs.«01_k».proof.Proof.Gen.Kernel45Ideal.Frame
public import proofs.«01_k».proof.Proof.Gen.Kernel45Ideal.Value
public import proofs.«01_k».proof.Proof.Gen.Reference45Ideal
public import proofs.«01_k».proof.Proof.Gen.Reference45Ideal.Run
public import proofs.«01_k».proof.Proof.Gen.Reference45Ideal.Read
public import proofs.«01_k».proof.Proof.Gen.Kernel46
public import proofs.«01_k».proof.Proof.Gen.Kernel46.Skeleton
public import proofs.«01_k».proof.Proof.Gen.Kernel46.Launch
public import proofs.«01_k».proof.Proof.Gen.Kernel46.Points
public import proofs.«01_k».proof.Proof.Gen.Kernel46.Frame
public import proofs.«01_k».proof.Proof.Gen.Kernel46Ideal
public import proofs.«01_k».proof.Proof.Gen.Kernel46Ideal.Skeleton
public import proofs.«01_k».proof.Proof.Gen.Kernel46Ideal.Launch
public import proofs.«01_k».proof.Proof.Gen.Kernel46Ideal.Points
public import proofs.«01_k».proof.Proof.Gen.Kernel46Ideal.Frame
public import proofs.«01_k».proof.Proof.Gen.Kernel46Ideal.Value
public import proofs.«01_k».proof.Proof.Gen.Reference46Ideal
public import proofs.«01_k».proof.Proof.Gen.Reference46Ideal.Run
public import proofs.«01_k».proof.Proof.Gen.Reference46Ideal.Read
public import proofs.«01_k».proof.Proof.Gen.Kernel47
public import proofs.«01_k».proof.Proof.Gen.Kernel47.Skeleton
public import proofs.«01_k».proof.Proof.Gen.Kernel47.Launch
public import proofs.«01_k».proof.Proof.Gen.Kernel47.Points
public import proofs.«01_k».proof.Proof.Gen.Kernel47.Frame
public import proofs.«01_k».proof.Proof.Gen.Kernel47Ideal
public import proofs.«01_k».proof.Proof.Gen.Kernel47Ideal.Skeleton
public import proofs.«01_k».proof.Proof.Gen.Kernel47Ideal.Launch
public import proofs.«01_k».proof.Proof.Gen.Kernel47Ideal.Points
public import proofs.«01_k».proof.Proof.Gen.Kernel47Ideal.Frame
public import proofs.«01_k».proof.Proof.Gen.Kernel47Ideal.Value
public import proofs.«01_k».proof.Proof.Gen.Reference47Ideal
public import proofs.«01_k».proof.Proof.Gen.Reference47Ideal.Run
public import proofs.«01_k».proof.Proof.Gen.Reference47Ideal.Read
public import proofs.«01_k».proof.Proof.Gen.Kernel49
public import proofs.«01_k».proof.Proof.Gen.Kernel49.Skeleton
public import proofs.«01_k».proof.Proof.Gen.Kernel49.Launch
public import proofs.«01_k».proof.Proof.Gen.Kernel49.Points
public import proofs.«01_k».proof.Proof.Gen.Kernel49.Frame
public import proofs.«01_k».proof.Proof.Gen.Kernel49Ideal
public import proofs.«01_k».proof.Proof.Gen.Kernel49Ideal.Skeleton
public import proofs.«01_k».proof.Proof.Gen.Kernel49Ideal.Launch
public import proofs.«01_k».proof.Proof.Gen.Kernel49Ideal.Points
public import proofs.«01_k».proof.Proof.Gen.Kernel49Ideal.Frame
public import proofs.«01_k».proof.Proof.Gen.Kernel49Ideal.Value
public import proofs.«01_k».proof.Proof.Gen.Reference49Ideal
public import proofs.«01_k».proof.Proof.Gen.Reference49Ideal.Run
public import proofs.«01_k».proof.Proof.Gen.Reference49Ideal.Read
public import proofs.«01_k».proof.Proof.Gen.Kernel50
public import proofs.«01_k».proof.Proof.Gen.Kernel50.Skeleton
public import proofs.«01_k».proof.Proof.Gen.Kernel50.Launch
public import proofs.«01_k».proof.Proof.Gen.Kernel50.Points
public import proofs.«01_k».proof.Proof.Gen.Kernel50.Frame
public import proofs.«01_k».proof.Proof.Gen.Kernel50Ideal
public import proofs.«01_k».proof.Proof.Gen.Kernel50Ideal.Skeleton
public import proofs.«01_k».proof.Proof.Gen.Kernel50Ideal.Launch
public import proofs.«01_k».proof.Proof.Gen.Kernel50Ideal.Points
public import proofs.«01_k».proof.Proof.Gen.Kernel50Ideal.Frame
public import proofs.«01_k».proof.Proof.Gen.Kernel50Ideal.Value
public import proofs.«01_k».proof.Proof.Gen.Reference50Ideal
public import proofs.«01_k».proof.Proof.Gen.Reference50Ideal.Run
public import proofs.«01_k».proof.Proof.Gen.Reference50Ideal.Read
public import proofs.«01_k».proof.Proof.Gen.Kernel51
public import proofs.«01_k».proof.Proof.Gen.Kernel51.Skeleton
public import proofs.«01_k».proof.Proof.Gen.Kernel51.Launch
public import proofs.«01_k».proof.Proof.Gen.Kernel51.Points
public import proofs.«01_k».proof.Proof.Gen.Kernel51.Frame
public import proofs.«01_k».proof.Proof.Gen.Kernel51Ideal
public import proofs.«01_k».proof.Proof.Gen.Kernel51Ideal.Skeleton
public import proofs.«01_k».proof.Proof.Gen.Kernel51Ideal.Launch
public import proofs.«01_k».proof.Proof.Gen.Kernel51Ideal.Points
public import proofs.«01_k».proof.Proof.Gen.Kernel51Ideal.Frame
public import proofs.«01_k».proof.Proof.Gen.Kernel51Ideal.Value
public import proofs.«01_k».proof.Proof.Gen.Reference51Ideal
public import proofs.«01_k».proof.Proof.Gen.Reference51Ideal.Run
public import proofs.«01_k».proof.Proof.Gen.Reference51Ideal.Read
public import proofs.«01_k».proof.Proof.Gen.Kernel53
public import proofs.«01_k».proof.Proof.Gen.Kernel53.Skeleton
public import proofs.«01_k».proof.Proof.Gen.Kernel53.Launch
public import proofs.«01_k».proof.Proof.Gen.Kernel53.Points
public import proofs.«01_k».proof.Proof.Gen.Kernel53.Frame
public import proofs.«01_k».proof.Proof.Gen.Kernel53Ideal
public import proofs.«01_k».proof.Proof.Gen.Kernel53Ideal.Skeleton
public import proofs.«01_k».proof.Proof.Gen.Kernel53Ideal.Launch
public import proofs.«01_k».proof.Proof.Gen.Kernel53Ideal.Points
public import proofs.«01_k».proof.Proof.Gen.Kernel53Ideal.Frame
public import proofs.«01_k».proof.Proof.Gen.Kernel53Ideal.Value
public import proofs.«01_k».proof.Proof.Gen.Reference53Ideal
public import proofs.«01_k».proof.Proof.Gen.Reference53Ideal.Run
public import proofs.«01_k».proof.Proof.Gen.Reference53Ideal.Read
public import proofs.«01_k».proof.Proof.Gen.Kernel54
public import proofs.«01_k».proof.Proof.Gen.Kernel54.Skeleton
public import proofs.«01_k».proof.Proof.Gen.Kernel54.Launch
public import proofs.«01_k».proof.Proof.Gen.Kernel54.Points
public import proofs.«01_k».proof.Proof.Gen.Kernel54.Frame
public import proofs.«01_k».proof.Proof.Gen.Kernel54Ideal
public import proofs.«01_k».proof.Proof.Gen.Kernel54Ideal.Skeleton
public import proofs.«01_k».proof.Proof.Gen.Kernel54Ideal.Launch
public import proofs.«01_k».proof.Proof.Gen.Kernel54Ideal.Points
public import proofs.«01_k».proof.Proof.Gen.Kernel54Ideal.Frame
public import proofs.«01_k».proof.Proof.Gen.Kernel54Ideal.Value
public import proofs.«01_k».proof.Proof.Gen.Reference54Ideal
public import proofs.«01_k».proof.Proof.Gen.Reference54Ideal.Run
public import proofs.«01_k».proof.Proof.Gen.Reference54Ideal.Read
public import proofs.«01_k».proof.Proof.Gen.Kernel55
public import proofs.«01_k».proof.Proof.Gen.Kernel55.Skeleton
public import proofs.«01_k».proof.Proof.Gen.Kernel55.Launch
public import proofs.«01_k».proof.Proof.Gen.Kernel55.Points
public import proofs.«01_k».proof.Proof.Gen.Kernel55.Frame
public import proofs.«01_k».proof.Proof.Gen.Kernel55Ideal
public import proofs.«01_k».proof.Proof.Gen.Kernel55Ideal.Skeleton
public import proofs.«01_k».proof.Proof.Gen.Kernel55Ideal.Launch
public import proofs.«01_k».proof.Proof.Gen.Kernel55Ideal.Points
public import proofs.«01_k».proof.Proof.Gen.Kernel55Ideal.Frame
public import proofs.«01_k».proof.Proof.Gen.Kernel55Ideal.Value
public import proofs.«01_k».proof.Proof.Gen.Reference55Ideal
public import proofs.«01_k».proof.Proof.Gen.Reference55Ideal.Run
public import proofs.«01_k».proof.Proof.Gen.Reference55Ideal.Read
public import proofs.«01_k».proof.Proof.Gen.Kernel48
public import proofs.«01_k».proof.Proof.Gen.Kernel48.Skeleton
public import proofs.«01_k».proof.Proof.Gen.Kernel48.Launch
public import proofs.«01_k».proof.Proof.Gen.Kernel48.Points
public import proofs.«01_k».proof.Proof.Gen.Kernel48.Frame
public import proofs.«01_k».proof.Proof.Gen.Kernel48Ideal
public import proofs.«01_k».proof.Proof.Gen.Kernel48Ideal.Skeleton
public import proofs.«01_k».proof.Proof.Gen.Kernel48Ideal.Launch
public import proofs.«01_k».proof.Proof.Gen.Kernel48Ideal.Points
public import proofs.«01_k».proof.Proof.Gen.Kernel48Ideal.Frame
public import proofs.«01_k».proof.Proof.Gen.Kernel48Ideal.Value
public import proofs.«01_k».proof.Proof.Gen.Reference48Ideal
public import proofs.«01_k».proof.Proof.Gen.Reference48Ideal.Run
public import proofs.«01_k».proof.Proof.Gen.Reference48Ideal.Read
public import proofs.«01_k».proof.Proof.Gen.Kernel52
public import proofs.«01_k».proof.Proof.Gen.Kernel52.Skeleton
public import proofs.«01_k».proof.Proof.Gen.Kernel52.Launch
public import proofs.«01_k».proof.Proof.Gen.Kernel52.Points
public import proofs.«01_k».proof.Proof.Gen.Kernel52.Frame
public import proofs.«01_k».proof.Proof.Gen.Kernel52Ideal
public import proofs.«01_k».proof.Proof.Gen.Kernel52Ideal.Skeleton
public import proofs.«01_k».proof.Proof.Gen.Kernel52Ideal.Launch
public import proofs.«01_k».proof.Proof.Gen.Kernel52Ideal.Points
public import proofs.«01_k».proof.Proof.Gen.Kernel52Ideal.Frame
public import proofs.«01_k».proof.Proof.Gen.Kernel52Ideal.Value
public import proofs.«01_k».proof.Proof.Gen.Reference52Ideal
public import proofs.«01_k».proof.Proof.Gen.Reference52Ideal.Run
public import proofs.«01_k».proof.Proof.Gen.Reference52Ideal.Read
public import proofs.«01_k».proof.Proof.AttnClaim
public import proofs.«01_k».proof.Proof.OutRowsClaim
public import proofs.«01_k».proof.Proof.OutWeightsClaim
public import proofs.«01_k».proof.Proof.InRowsClaim
public import proofs.«01_k».proof.Proof.InWeightsClaim
public import proofs.«01_k».proof.Proof.SquareRows
public import proofs.«01_k».proof.Proof.SquareWeights
public import proofs.«01_k».proof.Proof.ConvRows
public import proofs.«01_k».proof.Proof.ConvWeights
public import proofs.«01_k».proof.Proof.MemRows
public import proofs.«01_k».proof.Proof.MemWeights
public import proofs.«01_k».proof.Proof.Square
public import proofs.«01_k».proof.Proof.SquareRes
public import proofs.«01_k».proof.Proof.SquareBf
public import proofs.«01_k».proof.Proof.ConvIn
public import proofs.«01_k».proof.Proof.ConvOut
public import proofs.«01_k».proof.Proof.MemKv
public import proofs.«01_k».proof.Proof.FfnInClaim
public import proofs.«01_k».proof.Proof.FfnOutClaim
public import proofs.«01_k».proof.Proof.LowTanh
public import proofs.«01_k».proof.Proof.LowIn64
public import proofs.«01_k».proof.Proof.LowSig
public import proofs.«01_k».proof.Proof.LowIn32
public import proofs.«01_k».proof.Proof.LowOut64
public import proofs.«01_k».proof.Proof.LowOutBf64
public import proofs.«01_k».proof.Proof.LowOut160
public import proofs.«01_k».proof.Proof.LowOutBf32
public import proofs.«01_k».proof.Proof.LowOutRows64
public import proofs.«01_k».proof.Proof.LowOutRows160
public import proofs.«01_k».proof.Proof.LowOutRows32
public import proofs.«01_k».proof.Proof.LowInRows64
public import proofs.«01_k».proof.Proof.LowInRows160
public import proofs.«01_k».proof.Proof.LowInRows32
public import proofs.«01_k».proof.Proof.LowOutWeights64
public import proofs.«01_k».proof.Proof.LowOutWeightsBf64
public import proofs.«01_k».proof.Proof.LowOutWeights160
public import proofs.«01_k».proof.Proof.LowOutWeightsBf32
public import proofs.«01_k».proof.Proof.LowInWeights64
public import proofs.«01_k».proof.Proof.LowInWeights160
public import proofs.«01_k».proof.Proof.LowInWeights32
public import proofs.«01_k».proof.Proof.AttnFwd
public import proofs.«01_k».proof.Proof.NormBwd
public import proofs.«01_k».proof.Proof.NormFwd
public import proofs.«01_k».proof.Proof.NormFwd32
public import proofs.«01_k».proof.Proof.LossHead
public import proofs.«01_k».proof.Proof.GateFwd
public import proofs.«01_k».proof.Proof.MixFwd
public import proofs.«01_k».proof.Proof.MixBwd
public import proofs.«01_k».proof.Proof.GluFwd
public import proofs.«01_k».proof.Proof.SiluFwd
public import proofs.«01_k».proof.Proof.SiluBwd
public import proofs.«01_k».proof.Proof.BiasBwd
public import proofs.«01_k».proof.Proof.GateBwd
public import proofs.«01_k».proof.Proof.GluBwd
public import Idealize.ShloMosaic.Adequacy
public import Idealize.ShloMosaic.Init

@[expose] public section

noncomputable section

namespace Cert.Proof

open Idealize.ShloMosaic Idealize.SL.Sem Cert.Kernel

theorem frame_reference : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem frame_reference2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_reference3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

theorem frame_reference5 : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

theorem frame_reference6 : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

theorem frame_reference7 : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

theorem frame_reference8 : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

theorem frame_reference9 : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

theorem frame_reference10 : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩)
    (Cert.Reference10Ideal.Value.run (F := Ideal) m ρ)

theorem frame_reference11 : Cert.quiescent_Reference11Ideal (hReference11Ideal := Cert.Reference11Ideal.Gen.facts) := fun m ρ _ =>
  (θ_run Cert.Reference11Ideal.defs _ _).mono (fun r h => ⟨fun c => (h c).2, sem_eq_zero_of_no_sems (by decide) r.2⟩)
    (Cert.Reference11Ideal.Value.run (F := Ideal) m ρ)

theorem frame_reference12 : Cert.quiescent_Reference12Ideal (hReference12Ideal := Cert.Reference12Ideal.Gen.facts) := fun m ρ _ =>
  (θ_run Cert.Reference12Ideal.defs _ _).mono (fun r h => ⟨fun c => (h c).2, sem_eq_zero_of_no_sems (by decide) r.2⟩)
    (Cert.Reference12Ideal.Value.run (F := Ideal) m ρ)

theorem frame_reference13 : Cert.quiescent_Reference13Ideal (hReference13Ideal := Cert.Reference13Ideal.Gen.facts) := fun m ρ _ =>
  (θ_run Cert.Reference13Ideal.defs _ _).mono (fun r h => ⟨fun c => (h c).2, sem_eq_zero_of_no_sems (by decide) r.2⟩)
    (Cert.Reference13Ideal.Value.run (F := Ideal) m ρ)

theorem frame_reference14 : Cert.quiescent_Reference14Ideal (hReference14Ideal := Cert.Reference14Ideal.Gen.facts) := fun m ρ _ =>
  (θ_run Cert.Reference14Ideal.defs _ _).mono (fun r h => ⟨fun c => (h c).2, sem_eq_zero_of_no_sems (by decide) r.2⟩)
    (Cert.Reference14Ideal.Value.run (F := Ideal) m ρ)

theorem frame_reference15 : Cert.quiescent_Reference15Ideal (hReference15Ideal := Cert.Reference15Ideal.Gen.facts) := fun m ρ _ =>
  (θ_run Cert.Reference15Ideal.defs _ _).mono (fun r h => ⟨fun c => (h c).2, sem_eq_zero_of_no_sems (by decide) r.2⟩)
    (Cert.Reference15Ideal.Value.run (F := Ideal) m ρ)

theorem frame_reference16 : Cert.quiescent_Reference16Ideal (hReference16Ideal := Cert.Reference16Ideal.Gen.facts) := fun m ρ _ =>
  (θ_run Cert.Reference16Ideal.defs _ _).mono (fun r h => ⟨fun c => (h c).2, sem_eq_zero_of_no_sems (by decide) r.2⟩)
    (Cert.Reference16Ideal.Value.run (F := Ideal) m ρ)

theorem frame_reference17 : Cert.quiescent_Reference17Ideal (hReference17Ideal := Cert.Reference17Ideal.Gen.facts) := fun m ρ _ =>
  (θ_run Cert.Reference17Ideal.defs _ _).mono (fun r h => ⟨fun c => (h c).2, sem_eq_zero_of_no_sems (by decide) r.2⟩)
    (Cert.Reference17Ideal.Value.run (F := Ideal) m ρ)

theorem frame_reference18 : Cert.quiescent_Reference18Ideal (hReference18Ideal := Cert.Reference18Ideal.Gen.facts) := fun m ρ _ =>
  (θ_run Cert.Reference18Ideal.defs _ _).mono (fun r h => ⟨fun c => (h c).2, sem_eq_zero_of_no_sems (by decide) r.2⟩)
    (Cert.Reference18Ideal.Value.run (F := Ideal) m ρ)

theorem frame_reference19 : Cert.quiescent_Reference19Ideal (hReference19Ideal := Cert.Reference19Ideal.Gen.facts) := fun m ρ _ =>
  (θ_run Cert.Reference19Ideal.defs _ _).mono (fun r h => ⟨fun c => (h c).2, sem_eq_zero_of_no_sems (by decide) r.2⟩)
    (Cert.Reference19Ideal.Value.run (F := Ideal) m ρ)

theorem frame_reference20 : Cert.quiescent_Reference20Ideal (hReference20Ideal := Cert.Reference20Ideal.Gen.facts) := fun m ρ _ =>
  (θ_run Cert.Reference20Ideal.defs _ _).mono (fun r h => ⟨fun c => (h c).2, sem_eq_zero_of_no_sems (by decide) r.2⟩)
    (Cert.Reference20Ideal.Value.run (F := Ideal) m ρ)

theorem frame_reference21 : Cert.quiescent_Reference21Ideal (hReference21Ideal := Cert.Reference21Ideal.Gen.facts) := fun m ρ _ =>
  (θ_run Cert.Reference21Ideal.defs _ _).mono (fun r h => ⟨fun c => (h c).2, sem_eq_zero_of_no_sems (by decide) r.2⟩)
    (Cert.Reference21Ideal.Value.run (F := Ideal) m ρ)

theorem frame_reference22 : Cert.quiescent_Reference22Ideal (hReference22Ideal := Cert.Reference22Ideal.Gen.facts) := fun m ρ _ =>
  (θ_run Cert.Reference22Ideal.defs _ _).mono (fun r h => ⟨fun c => (h c).2, sem_eq_zero_of_no_sems (by decide) r.2⟩)
    (Cert.Reference22Ideal.Value.run (F := Ideal) m ρ)

theorem frame_reference23 : Cert.quiescent_Reference23Ideal (hReference23Ideal := Cert.Reference23Ideal.Gen.facts) := fun m ρ _ =>
  (θ_run Cert.Reference23Ideal.defs _ _).mono (fun r h => ⟨fun c => (h c).2, sem_eq_zero_of_no_sems (by decide) r.2⟩)
    (Cert.Reference23Ideal.Value.run (F := Ideal) m ρ)

theorem frame_reference24 : Cert.quiescent_Reference24Ideal (hReference24Ideal := Cert.Reference24Ideal.Gen.facts) := fun m ρ _ =>
  (θ_run Cert.Reference24Ideal.defs _ _).mono (fun r h => ⟨fun c => (h c).2, sem_eq_zero_of_no_sems (by decide) r.2⟩)
    (Cert.Reference24Ideal.Value.run (F := Ideal) m ρ)

theorem frame_reference25 : Cert.quiescent_Reference25Ideal (hReference25Ideal := Cert.Reference25Ideal.Gen.facts) := fun m ρ _ =>
  (θ_run Cert.Reference25Ideal.defs _ _).mono (fun r h => ⟨fun c => (h c).2, sem_eq_zero_of_no_sems (by decide) r.2⟩)
    (Cert.Reference25Ideal.Value.run (F := Ideal) m ρ)

theorem frame_reference26 : Cert.quiescent_Reference26Ideal (hReference26Ideal := Cert.Reference26Ideal.Gen.facts) := fun m ρ _ =>
  (θ_run Cert.Reference26Ideal.defs _ _).mono (fun r h => ⟨fun c => (h c).2, sem_eq_zero_of_no_sems (by decide) r.2⟩)
    (Cert.Reference26Ideal.Value.run (F := Ideal) m ρ)

theorem frame_reference27 : Cert.quiescent_Reference27Ideal (hReference27Ideal := Cert.Reference27Ideal.Gen.facts) := fun m ρ _ =>
  (θ_run Cert.Reference27Ideal.defs _ _).mono (fun r h => ⟨fun c => (h c).2, sem_eq_zero_of_no_sems (by decide) r.2⟩)
    (Cert.Reference27Ideal.Value.run (F := Ideal) m ρ)

theorem frame_reference28 : Cert.quiescent_Reference28Ideal (hReference28Ideal := Cert.Reference28Ideal.Gen.facts) := fun m ρ _ =>
  (θ_run Cert.Reference28Ideal.defs _ _).mono (fun r h => ⟨fun c => (h c).2, sem_eq_zero_of_no_sems (by decide) r.2⟩)
    (Cert.Reference28Ideal.Value.run (F := Ideal) m ρ)

theorem frame_reference29 : Cert.quiescent_Reference29Ideal (hReference29Ideal := Cert.Reference29Ideal.Gen.facts) := fun m ρ _ =>
  (θ_run Cert.Reference29Ideal.defs _ _).mono (fun r h => ⟨fun c => (h c).2, sem_eq_zero_of_no_sems (by decide) r.2⟩)
    (Cert.Reference29Ideal.Value.run (F := Ideal) m ρ)

theorem frame_reference30 : Cert.quiescent_Reference30Ideal (hReference30Ideal := Cert.Reference30Ideal.Gen.facts) := fun m ρ _ =>
  (θ_run Cert.Reference30Ideal.defs _ _).mono (fun r h => ⟨fun c => (h c).2, sem_eq_zero_of_no_sems (by decide) r.2⟩)
    (Cert.Reference30Ideal.Value.run (F := Ideal) m ρ)

theorem frame_reference31 : Cert.quiescent_Reference31Ideal (hReference31Ideal := Cert.Reference31Ideal.Gen.facts) := fun m ρ _ =>
  (θ_run Cert.Reference31Ideal.defs _ _).mono (fun r h => ⟨fun c => (h c).2, sem_eq_zero_of_no_sems (by decide) r.2⟩)
    (Cert.Reference31Ideal.Value.run (F := Ideal) m ρ)

theorem frame_reference32 : Cert.quiescent_Reference32Ideal (hReference32Ideal := Cert.Reference32Ideal.Gen.facts) := fun m ρ _ =>
  (θ_run Cert.Reference32Ideal.defs _ _).mono (fun r h => ⟨fun c => (h c).2, sem_eq_zero_of_no_sems (by decide) r.2⟩)
    (Cert.Reference32Ideal.Value.run (F := Ideal) m ρ)

theorem frame_reference33 : Cert.quiescent_Reference33Ideal (hReference33Ideal := Cert.Reference33Ideal.Gen.facts) := fun m ρ _ =>
  (θ_run Cert.Reference33Ideal.defs _ _).mono (fun r h => ⟨fun c => (h c).2, sem_eq_zero_of_no_sems (by decide) r.2⟩)
    (Cert.Reference33Ideal.Value.run (F := Ideal) m ρ)

theorem frame_reference34 : Cert.quiescent_Reference34Ideal (hReference34Ideal := Cert.Reference34Ideal.Gen.facts) := fun m ρ _ =>
  (θ_run Cert.Reference34Ideal.defs _ _).mono (fun r h => ⟨fun c => (h c).2, sem_eq_zero_of_no_sems (by decide) r.2⟩)
    (Cert.Reference34Ideal.Value.run (F := Ideal) m ρ)

theorem frame_reference35 : Cert.quiescent_Reference35Ideal (hReference35Ideal := Cert.Reference35Ideal.Gen.facts) := fun m ρ _ =>
  (θ_run Cert.Reference35Ideal.defs _ _).mono (fun r h => ⟨fun c => (h c).2, sem_eq_zero_of_no_sems (by decide) r.2⟩)
    (Cert.Reference35Ideal.Value.run (F := Ideal) m ρ)

theorem frame_reference36 : Cert.quiescent_Reference36Ideal (hReference36Ideal := Cert.Reference36Ideal.Gen.facts) := fun m ρ _ =>
  (θ_run Cert.Reference36Ideal.defs _ _).mono (fun r h => ⟨fun c => (h c).2, sem_eq_zero_of_no_sems (by decide) r.2⟩)
    (Cert.Reference36Ideal.Value.run (F := Ideal) m ρ)

theorem frame_reference37 : Cert.quiescent_Reference37Ideal (hReference37Ideal := Cert.Reference37Ideal.Gen.facts) := fun m ρ _ =>
  (θ_run Cert.Reference37Ideal.defs _ _).mono (fun r h => ⟨fun c => (h c).2, sem_eq_zero_of_no_sems (by decide) r.2⟩)
    (Cert.Reference37Ideal.Value.run (F := Ideal) m ρ)

theorem frame_reference38 : Cert.quiescent_Reference38Ideal (hReference38Ideal := Cert.Reference38Ideal.Gen.facts) := fun m ρ _ =>
  (θ_run Cert.Reference38Ideal.defs _ _).mono (fun r h => ⟨fun c => (h c).2, sem_eq_zero_of_no_sems (by decide) r.2⟩)
    (Cert.Reference38Ideal.Value.run (F := Ideal) m ρ)

theorem frame_reference39 : Cert.quiescent_Reference39Ideal (hReference39Ideal := Cert.Reference39Ideal.Gen.facts) := fun m ρ _ =>
  (θ_run Cert.Reference39Ideal.defs _ _).mono (fun r h => ⟨fun c => (h c).2, sem_eq_zero_of_no_sems (by decide) r.2⟩)
    (Cert.Reference39Ideal.Value.run (F := Ideal) m ρ)

theorem frame_reference40 : Cert.quiescent_Reference40Ideal (hReference40Ideal := Cert.Reference40Ideal.Gen.facts) := fun m ρ _ =>
  (θ_run Cert.Reference40Ideal.defs _ _).mono (fun r h => ⟨fun c => (h c).2, sem_eq_zero_of_no_sems (by decide) r.2⟩)
    (Cert.Reference40Ideal.Value.run (F := Ideal) m ρ)

theorem frame_reference41 : Cert.quiescent_Reference41Ideal (hReference41Ideal := Cert.Reference41Ideal.Gen.facts) := fun m ρ _ =>
  (θ_run Cert.Reference41Ideal.defs _ _).mono (fun r h => ⟨fun c => (h c).2, sem_eq_zero_of_no_sems (by decide) r.2⟩)
    (Cert.Reference41Ideal.Value.run (F := Ideal) m ρ)

theorem frame_reference42 : Cert.quiescent_Reference42Ideal (hReference42Ideal := Cert.Reference42Ideal.Gen.facts) := fun m ρ _ =>
  (θ_run Cert.Reference42Ideal.defs _ _).mono (fun r h => ⟨fun c => (h c).2, sem_eq_zero_of_no_sems (by decide) r.2⟩)
    (Cert.Reference42Ideal.Value.run (F := Ideal) m ρ)

theorem frame_reference43 : Cert.quiescent_Reference43Ideal (hReference43Ideal := Cert.Reference43Ideal.Gen.facts) := fun m ρ _ =>
  (θ_run Cert.Reference43Ideal.defs _ _).mono (fun r h => ⟨fun c => (h c).2.2, sem_eq_zero_of_no_sems (by decide) r.2⟩)
    (Cert.Reference43Ideal.Value.run (F := Ideal) m ρ)

theorem frame_reference44 : Cert.quiescent_Reference44Ideal (hReference44Ideal := Cert.Reference44Ideal.Gen.facts) := fun m ρ _ =>
  (θ_run Cert.Reference44Ideal.defs _ _).mono (fun r h => ⟨fun c => (h c).2, sem_eq_zero_of_no_sems (by decide) r.2⟩)
    (Cert.Reference44Ideal.Value.run (F := Ideal) m ρ)

theorem frame_reference45 : Cert.quiescent_Reference45Ideal (hReference45Ideal := Cert.Reference45Ideal.Gen.facts) := fun m ρ _ =>
  (θ_run Cert.Reference45Ideal.defs _ _).mono (fun r h => ⟨fun c => (h c).2, sem_eq_zero_of_no_sems (by decide) r.2⟩)
    (Cert.Reference45Ideal.Value.run (F := Ideal) m ρ)

theorem frame_reference46 : Cert.quiescent_Reference46Ideal (hReference46Ideal := Cert.Reference46Ideal.Gen.facts) := fun m ρ _ =>
  (θ_run Cert.Reference46Ideal.defs _ _).mono (fun r h => ⟨fun c => (h c).2.2.2, sem_eq_zero_of_no_sems (by decide) r.2⟩)
    (Cert.Reference46Ideal.Value.run (F := Ideal) m ρ)

theorem frame_reference47 : Cert.quiescent_Reference47Ideal (hReference47Ideal := Cert.Reference47Ideal.Gen.facts) := fun m ρ _ =>
  (θ_run Cert.Reference47Ideal.defs _ _).mono (fun r h => ⟨fun c => (h c).2, sem_eq_zero_of_no_sems (by decide) r.2⟩)
    (Cert.Reference47Ideal.Value.run (F := Ideal) m ρ)

theorem frame_reference49 : Cert.quiescent_Reference49Ideal (hReference49Ideal := Cert.Reference49Ideal.Gen.facts) := fun m ρ _ =>
  (θ_run Cert.Reference49Ideal.defs _ _).mono (fun r h => ⟨fun c => (h c).2.2.2.2.2.2, sem_eq_zero_of_no_sems (by decide) r.2⟩)
    (Cert.Reference49Ideal.Value.run (F := Ideal) m ρ)

theorem frame_reference50 : Cert.quiescent_Reference50Ideal (hReference50Ideal := Cert.Reference50Ideal.Gen.facts) := fun m ρ _ =>
  (θ_run Cert.Reference50Ideal.defs _ _).mono (fun r h => ⟨fun c => (h c).2.2, sem_eq_zero_of_no_sems (by decide) r.2⟩)
    (Cert.Reference50Ideal.Value.run (F := Ideal) m ρ)

theorem frame_reference51 : Cert.quiescent_Reference51Ideal (hReference51Ideal := Cert.Reference51Ideal.Gen.facts) := fun m ρ _ =>
  (θ_run Cert.Reference51Ideal.defs _ _).mono (fun r h => ⟨fun c => (h c).2, sem_eq_zero_of_no_sems (by decide) r.2⟩)
    (Cert.Reference51Ideal.Value.run (F := Ideal) m ρ)

theorem frame_reference53 : Cert.quiescent_Reference53Ideal (hReference53Ideal := Cert.Reference53Ideal.Gen.facts) := fun m ρ _ =>
  (θ_run Cert.Reference53Ideal.defs _ _).mono (fun r h => ⟨fun c => (h c).2, sem_eq_zero_of_no_sems (by decide) r.2⟩)
    (Cert.Reference53Ideal.Value.run (F := Ideal) m ρ)

theorem frame_reference54 : Cert.quiescent_Reference54Ideal (hReference54Ideal := Cert.Reference54Ideal.Gen.facts) := fun m ρ _ =>
  (θ_run Cert.Reference54Ideal.defs _ _).mono (fun r h => ⟨fun c => (h c).2.2.2, sem_eq_zero_of_no_sems (by decide) r.2⟩)
    (Cert.Reference54Ideal.Value.run (F := Ideal) m ρ)

theorem frame_reference55 : Cert.quiescent_Reference55Ideal (hReference55Ideal := Cert.Reference55Ideal.Gen.facts) := fun m ρ _ =>
  (θ_run Cert.Reference55Ideal.defs _ _).mono (fun r h => ⟨fun c => (h c).2, sem_eq_zero_of_no_sems (by decide) r.2⟩)
    (Cert.Reference55Ideal.Value.run (F := Ideal) m ρ)

theorem frame_reference48 : Cert.quiescent_Reference48Ideal (hReference48Ideal := Cert.Reference48Ideal.Gen.facts) := fun m ρ _ =>
  (θ_run Cert.Reference48Ideal.defs _ _).mono (fun r h => ⟨fun c => (h c).2.2.2.2, sem_eq_zero_of_no_sems (by decide) r.2⟩)
    (Cert.Reference48Ideal.Value.run (F := Ideal) m ρ)

theorem frame_reference52 : Cert.quiescent_Reference52Ideal (hReference52Ideal := Cert.Reference52Ideal.Gen.facts) := fun m ρ _ =>
  (θ_run Cert.Reference52Ideal.defs _ _).mono (fun r h => ⟨fun c => (h c).2.2.2.2, sem_eq_zero_of_no_sems (by decide) r.2⟩)
    (Cert.Reference52Ideal.Value.run (F := Ideal) m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.Kernel33.Gen.facts, Cert.Kernel33Ideal.Gen.facts, Cert.Reference33Ideal.Gen.facts, Cert.Kernel34.Gen.facts, Cert.Kernel34Ideal.Gen.facts, Cert.Reference34Ideal.Gen.facts, Cert.Kernel35.Gen.facts, Cert.Kernel35Ideal.Gen.facts, Cert.Reference35Ideal.Gen.facts, Cert.Kernel36.Gen.facts, Cert.Kernel36Ideal.Gen.facts, Cert.Reference36Ideal.Gen.facts, Cert.Kernel37.Gen.facts, Cert.Kernel37Ideal.Gen.facts, Cert.Reference37Ideal.Gen.facts, Cert.Kernel38.Gen.facts, Cert.Kernel38Ideal.Gen.facts, Cert.Reference38Ideal.Gen.facts, Cert.Kernel39.Gen.facts, Cert.Kernel39Ideal.Gen.facts, Cert.Reference39Ideal.Gen.facts, Cert.Kernel40.Gen.facts, Cert.Kernel40Ideal.Gen.facts, Cert.Reference40Ideal.Gen.facts, Cert.Kernel41.Gen.facts, Cert.Kernel41Ideal.Gen.facts, Cert.Reference41Ideal.Gen.facts, Cert.Kernel42.Gen.facts, Cert.Kernel42Ideal.Gen.facts, Cert.Reference42Ideal.Gen.facts, Cert.Kernel43.Gen.facts, Cert.Kernel43Ideal.Gen.facts, Cert.Reference43Ideal.Gen.facts, Cert.Kernel44.Gen.facts, Cert.Kernel44Ideal.Gen.facts, Cert.Reference44Ideal.Gen.facts, Cert.Kernel45.Gen.facts, Cert.Kernel45Ideal.Gen.facts, Cert.Reference45Ideal.Gen.facts, Cert.Kernel46.Gen.facts, Cert.Kernel46Ideal.Gen.facts, Cert.Reference46Ideal.Gen.facts, Cert.Kernel47.Gen.facts, Cert.Kernel47Ideal.Gen.facts, Cert.Reference47Ideal.Gen.facts, Cert.Kernel49.Gen.facts, Cert.Kernel49Ideal.Gen.facts, Cert.Reference49Ideal.Gen.facts, Cert.Kernel50.Gen.facts, Cert.Kernel50Ideal.Gen.facts, Cert.Reference50Ideal.Gen.facts, Cert.Kernel51.Gen.facts, Cert.Kernel51Ideal.Gen.facts, Cert.Reference51Ideal.Gen.facts, Cert.Kernel53.Gen.facts, Cert.Kernel53Ideal.Gen.facts, Cert.Reference53Ideal.Gen.facts, Cert.Kernel54.Gen.facts, Cert.Kernel54Ideal.Gen.facts, Cert.Reference54Ideal.Gen.facts, Cert.Kernel55.Gen.facts, Cert.Kernel55Ideal.Gen.facts, Cert.Reference55Ideal.Gen.facts, Cert.Kernel48.Gen.facts, Cert.Kernel48Ideal.Gen.facts, Cert.Reference48Ideal.Gen.facts, Cert.Kernel52.Gen.facts, Cert.Kernel52Ideal.Gen.facts, Cert.Reference52Ideal.Gen.facts, Attn.preFacts, GateBwd.preFacts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  fun m ρ _ => Cert.Kernel14.Gen.frame m ρ, fun m ρ _ => Cert.Kernel14Ideal.Gen.frame m ρ, frame_reference14,
  fun m ρ _ => Cert.Kernel15.Gen.frame m ρ, fun m ρ _ => Cert.Kernel15Ideal.Gen.frame m ρ, frame_reference15,
  fun m ρ _ => Cert.Kernel16.Gen.frame m ρ, fun m ρ _ => Cert.Kernel16Ideal.Gen.frame m ρ, frame_reference16,
  fun m ρ _ => Cert.Kernel17.Gen.frame m ρ, fun m ρ _ => Cert.Kernel17Ideal.Gen.frame m ρ, frame_reference17,
  fun m ρ _ => Cert.Kernel18.Gen.frame m ρ, fun m ρ _ => Cert.Kernel18Ideal.Gen.frame m ρ, frame_reference18,
  fun m ρ _ => Cert.Kernel19.Gen.frame m ρ, fun m ρ _ => Cert.Kernel19Ideal.Gen.frame m ρ, frame_reference19,
  fun m ρ _ => Cert.Kernel20.Gen.frame m ρ, fun m ρ _ => Cert.Kernel20Ideal.Gen.frame m ρ, frame_reference20,
  fun m ρ _ => Cert.Kernel21.Gen.frame m ρ, fun m ρ _ => Cert.Kernel21Ideal.Gen.frame m ρ, frame_reference21,
  fun m ρ _ => Cert.Kernel22.Gen.frame m ρ, fun m ρ _ => Cert.Kernel22Ideal.Gen.frame m ρ, frame_reference22,
  fun m ρ _ => Cert.Kernel23.Gen.frame m ρ, fun m ρ _ => Cert.Kernel23Ideal.Gen.frame m ρ, frame_reference23,
  fun m ρ _ => Cert.Kernel24.Gen.frame m ρ, fun m ρ _ => Cert.Kernel24Ideal.Gen.frame m ρ, frame_reference24,
  fun m ρ _ => Cert.Kernel25.Gen.frame m ρ, fun m ρ _ => Cert.Kernel25Ideal.Gen.frame m ρ, frame_reference25,
  fun m ρ _ => Cert.Kernel26.Gen.frame m ρ, fun m ρ _ => Cert.Kernel26Ideal.Gen.frame m ρ, frame_reference26,
  fun m ρ _ => Cert.Kernel27.Gen.frame m ρ, fun m ρ _ => Cert.Kernel27Ideal.Gen.frame m ρ, frame_reference27,
  fun m ρ _ => Cert.Kernel28.Gen.frame m ρ, fun m ρ _ => Cert.Kernel28Ideal.Gen.frame m ρ, frame_reference28,
  fun m ρ _ => Cert.Kernel29.Gen.frame m ρ, fun m ρ _ => Cert.Kernel29Ideal.Gen.frame m ρ, frame_reference29,
  fun m ρ _ => Cert.Kernel30.Gen.frame m ρ, fun m ρ _ => Cert.Kernel30Ideal.Gen.frame m ρ, frame_reference30,
  fun m ρ _ => Cert.Kernel31.Gen.frame m ρ, fun m ρ _ => Cert.Kernel31Ideal.Gen.frame m ρ, frame_reference31,
  fun m ρ _ => Cert.Kernel32.Gen.frame m ρ, fun m ρ _ => Cert.Kernel32Ideal.Gen.frame m ρ, frame_reference32,
  fun m ρ _ => Cert.Kernel33.Gen.frame m ρ, fun m ρ _ => Cert.Kernel33Ideal.Gen.frame m ρ, frame_reference33,
  fun m ρ _ => Cert.Kernel34.Gen.frame m ρ, fun m ρ _ => Cert.Kernel34Ideal.Gen.frame m ρ, frame_reference34,
  fun m ρ _ => Cert.Kernel35.Gen.frame m ρ, fun m ρ _ => Cert.Kernel35Ideal.Gen.frame m ρ, frame_reference35,
  fun m ρ _ => Cert.Kernel36.Gen.frame m ρ, fun m ρ _ => Cert.Kernel36Ideal.Gen.frame m ρ, frame_reference36,
  fun m ρ _ => Cert.Kernel37.Gen.frame m ρ, fun m ρ _ => Cert.Kernel37Ideal.Gen.frame m ρ, frame_reference37,
  fun m ρ _ => Cert.Kernel38.Gen.frame m ρ, fun m ρ _ => Cert.Kernel38Ideal.Gen.frame m ρ, frame_reference38,
  fun m ρ _ => Cert.Kernel39.Gen.frame m ρ, fun m ρ _ => Cert.Kernel39Ideal.Gen.frame m ρ, frame_reference39,
  fun m ρ _ => Cert.Kernel40.Gen.frame m ρ, fun m ρ _ => Cert.Kernel40Ideal.Gen.frame m ρ, frame_reference40,
  fun m ρ _ => Cert.Kernel41.Gen.frame m ρ, fun m ρ _ => Cert.Kernel41Ideal.Gen.frame m ρ, frame_reference41,
  fun m ρ _ => Cert.Kernel42.Gen.frame m ρ, fun m ρ _ => Cert.Kernel42Ideal.Gen.frame m ρ, frame_reference42,
  fun m ρ _ => Cert.Kernel43.Gen.frame m ρ, fun m ρ _ => Cert.Kernel43Ideal.Gen.frame m ρ, frame_reference43,
  fun m ρ _ => Cert.Kernel44.Gen.frame m ρ, fun m ρ _ => Cert.Kernel44Ideal.Gen.frame m ρ, frame_reference44,
  fun m ρ _ => Cert.Kernel45.Gen.frame m ρ, fun m ρ _ => Cert.Kernel45Ideal.Gen.frame m ρ, frame_reference45,
  fun m ρ _ => Cert.Kernel46.Gen.frame m ρ, fun m ρ _ => Cert.Kernel46Ideal.Gen.frame m ρ, frame_reference46,
  fun m ρ _ => Cert.Kernel47.Gen.frame m ρ, fun m ρ _ => Cert.Kernel47Ideal.Gen.frame m ρ, frame_reference47,
  fun m ρ _ => Cert.Kernel49.Gen.frame m ρ, fun m ρ _ => Cert.Kernel49Ideal.Gen.frame m ρ, frame_reference49,
  fun m ρ _ => Cert.Kernel50.Gen.frame m ρ, fun m ρ _ => Cert.Kernel50Ideal.Gen.frame m ρ, frame_reference50,
  fun m ρ _ => Cert.Kernel51.Gen.frame m ρ, fun m ρ _ => Cert.Kernel51Ideal.Gen.frame m ρ, frame_reference51,
  fun m ρ _ => Cert.Kernel53.Gen.frame m ρ, fun m ρ _ => Cert.Kernel53Ideal.Gen.frame m ρ, frame_reference53,
  fun m ρ _ => Cert.Kernel54.Gen.frame m ρ, fun m ρ _ => Cert.Kernel54Ideal.Gen.frame m ρ, frame_reference54,
  fun m ρ _ => Cert.Kernel55.Gen.frame m ρ, fun m ρ _ => Cert.Kernel55Ideal.Gen.frame m ρ, frame_reference55,
  fun m ρ _ => Cert.Kernel48.Gen.frame m ρ, fun m ρ _ => Cert.Kernel48Ideal.Gen.frame m ρ, fun m ρ _ => Cert.Kernel48Ideal.Gen.frame m ρ, frame_reference48, fun m ρ _ => frame_reference48 m ρ trivial,
  fun m ρ _ => Cert.Kernel52.Gen.frame m ρ, fun m ρ _ => Cert.Kernel52Ideal.Gen.frame m ρ, frame_reference52,
  trivial, Attn.agree, trivial, OutRows.agree, trivial, OutWeights.agree, trivial, InRows.agree, trivial, InWeights.agree, trivial, SquareRows.agree, trivial, SquareWeights.agree, trivial, ConvRows.agree, trivial, ConvWeights.agree, trivial, MemRows.agree, trivial, MemWeights.agree, trivial, Square.agree, trivial, SquareRes.agree, trivial, SquareBf.agree, trivial, ConvIn.agree, trivial, ConvOut.agree, trivial, MemKv.agree, trivial, FfnIn.agree, trivial, FfnOut.agree, trivial, LowTanh.agree, trivial, LowIn64.agree, trivial, LowSig.agree, trivial, LowIn32.agree, trivial, LowOut64.agree, trivial, LowOutBf64.agree, trivial, LowOut160.agree, trivial, LowOutBf32.agree, trivial, LowOutRows64.agree, trivial, LowOutRows160.agree, trivial, LowOutRows32.agree, trivial, LowInRows64.agree, trivial, LowInRows160.agree, trivial, LowInRows32.agree, trivial, LowOutWeights64.agree, trivial, LowOutWeightsBf64.agree, trivial, LowOutWeights160.agree, trivial, LowOutWeightsBf32.agree, trivial, LowInWeights64.agree, trivial, LowInWeights160.agree, trivial, LowInWeights32.agree, trivial, AttnFwd.agree, trivial, NormBwd.agree, trivial, NormFwd.agree, trivial, NormFwd32.agree, trivial, LossHead.agree, trivial, GateFwd.agree, trivial, MixFwd.agree, trivial, MixBwd.agree, trivial, GluFwd.agree, trivial, SiluFwd.agree, trivial, SiluBwd.agree, trivial, BiasBwd.agree, trivial, GateBwd.agree, trivial, GluBwd.agree⟩

end Cert.Proof

end
